-- ==== Defs.lean ====
def Pre_Shared (m : (ℓ : Loc Cert.Shared.nD Cert.Shared.τ Cert.Shared.sig) → Buf (Elt Bits) ℓ) : Prop :=
  True

def Pre_SharedIdeal (m : (ℓ : Loc Cert.SharedIdeal.nD Cert.SharedIdeal.τ Cert.SharedIdeal.sig) → Buf (Elt Ideal) ℓ) : Prop :=
  True

def Pre_SharedRefIdeal (m : (ℓ : Loc Cert.SharedRefIdeal.nD Cert.SharedRefIdeal.τ Cert.SharedRefIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontIdeal_tokens_in_range [hPre_tokens_in_range : Cert.Pre_tokens_in_range.Facts] (m : (ℓ : Loc Cert.FrontIdeal.nD Cert.FrontIdeal.τ Cert.FrontIdeal.sig) → Buf (Elt Ideal) ℓ) : Prop :=
  ∀ c : Dev Cert.FrontIdeal.nD,
    (Cert.Pre_tokens_in_range.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5))) = (fun _ => 1#1)

def Pre_FrontRefIdeal (m : (ℓ : Loc Cert.FrontRefIdeal.nD Cert.FrontRefIdeal.τ Cert.FrontRefIdeal.sig) → Buf (Elt Ideal) ℓ) : Prop :=
  True

def Pre_FrontRefIdeal_tokens_in_range [hPre_tokens_in_range : Cert.Pre_tokens_in_range.Facts] (m : (ℓ : Loc Cert.FrontRefIdeal.nD Cert.FrontRefIdeal.τ Cert.FrontRefIdeal.sig) → Buf (Elt Ideal) ℓ) : Prop :=
  ∀ c : Dev Cert.FrontRefIdeal.nD,
    (Cert.Pre_tokens_in_range.fn (F := Ideal) (m ((c.tc : Thread Cert.FrontRefIdeal.nD Cert.FrontRefIdeal.τ).loc Cert.FrontRefIdeal.main_arg0)) (m ((c.tc : Thread Cert.FrontRefIdeal.nD Cert.FrontRefIdeal.τ).loc Cert.FrontRefIdeal.main_arg1)) (m ((c.tc : Thread Cert.FrontRefIdeal.nD Cert.FrontRefIdeal.τ).loc Cert.FrontRefIdeal.main_arg2)) (m ((c.tc : Thread Cert.FrontRefIdeal.nD Cert.FrontRefIdeal.τ).loc Cert.FrontRefIdeal.main_arg3)) (m ((c.tc : Thread Cert.FrontRefIdeal.nD Cert.FrontRefIdeal.τ).loc Cert.FrontRefIdeal.main_arg4)) (m ((c.tc : Thread Cert.FrontRefIdeal.nD Cert.FrontRefIdeal.τ).loc Cert.FrontRefIdeal.main_arg5))) = (fun _ => 1#1)

def Pre_Combine [hPre_rows_in_range : Cert.Pre_rows_in_range.Facts] (m : (ℓ : Loc Cert.Combine.nD Cert.Combine.τ Cert.Combine.sig) → Buf (Elt Bits) ℓ) : Prop :=
  ∀ c : Dev Cert.Combine.nD,
    (Cert.Pre_rows_in_range.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4)) (m ((c.tc : Thread Cert.Combine.nD Cert.Combine.τ).loc Cert.Combine.main_arg5)) (m ((c.tc : Thread Cert.Combine.nD Cert.Combine.τ).loc Cert.Combine.main_arg6))) = (fun _ => 1#1)

def Pre_CombineIdeal [hPre_rows_in_range : Cert.Pre_rows_in_range.Facts] (m : (ℓ : Loc Cert.CombineIdeal.nD Cert.CombineIdeal.τ Cert.CombineIdeal.sig) → Buf (Elt Ideal) ℓ) : Prop :=
  ∀ c : Dev Cert.CombineIdeal.nD,
    (Cert.Pre_rows_in_range.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)) (m ((c.tc : Thread Cert.CombineIdeal.nD Cert.CombineIdeal.τ).loc Cert.CombineIdeal.main_arg5)) (m ((c.tc : Thread Cert.CombineIdeal.nD Cert.CombineIdeal.τ).loc Cert.CombineIdeal.main_arg6))) = (fun _ => 1#1)

def Pre_CombineRefIdeal [hPre_rows_in_range : Cert.Pre_rows_in_range.Facts] (m : (ℓ : Loc Cert.CombineRefIdeal.nD Cert.CombineRefIdeal.τ Cert.CombineRefIdeal.sig) → Buf (Elt Ideal) ℓ) : Prop :=
  ∀ c : Dev Cert.CombineRefIdeal.nD,
    (Cert.Pre_rows_in_range.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1)) (m ((c.tc : Thread Cert.CombineRefIdeal.nD Cert.CombineRefIdeal.τ).loc Cert.CombineRefIdeal.main_arg2)) (m ((c.tc : Thread Cert.CombineRefIdeal.nD Cert.CombineRefIdeal.τ).loc Cert.CombineRefIdeal.main_arg3)) (m ((c.tc : Thread Cert.CombineRefIdeal.nD Cert.CombineRefIdeal.τ).loc Cert.CombineRefIdeal.main_arg4)) (m ((c.tc : Thread Cert.CombineRefIdeal.nD Cert.CombineRefIdeal.τ).loc Cert.CombineRefIdeal.main_arg5)) (m ((c.tc : Thread Cert.CombineRefIdeal.nD Cert.CombineRefIdeal.τ).loc Cert.CombineRefIdeal.main_arg6))) = (fun _ => 1#1)

def Pre_Experts [hPre_groups_fit : Cert.Pre_groups_fit.Facts] (m : (ℓ : Loc Cert.Experts.nD Cert.Experts.τ Cert.Experts.sig) → Buf (Elt Bits) ℓ) : Prop :=
  ∀ c : Dev Cert.Experts.nD,
    (Cert.Pre_groups_fit.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))) = (fun _ => 1#1)

def Pre_ExpertsIdeal [hPre_groups_fit : Cert.Pre_groups_fit.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_groups_fit.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) = (fun _ => 1#1)

def quiescent_Shared [hShared : Cert.Shared.Facts] : Prop :=
  ∀ (m : (ℓ : Loc Cert.Shared.nD Cert.Shared.τ Cert.Shared.sig) → Buf (Elt Bits) ℓ) (g : Dev Cert.Shared.nD → PrngReg), Pre_Shared m →
    θ_run (Cert.Shared.defs (F := Bits)) (onTc (τ := Cert.Shared.τ) (Cert.Shared.main (F := Bits))) ⟨m, fun _ => 0, g⟩ (fun r => (∀ c : Dev Cert.Shared.nD,
      r.2.mem ((c.tc : Thread Cert.Shared.nD Cert.Shared.τ).loc Cert.Shared.main_arg0) = m ((c.tc : Thread Cert.Shared.nD Cert.Shared.τ).loc Cert.Shared.main_arg0)
      ∧ r.2.mem ((c.tc : Thread Cert.Shared.nD Cert.Shared.τ).loc Cert.Shared.main_arg1) = m ((c.tc : Thread Cert.Shared.nD Cert.Shared.τ).loc Cert.Shared.main_arg1)
      ∧ r.2.mem ((c.tc : Thread Cert.Shared.nD Cert.Shared.τ).loc Cert.Shared.main_arg2) = m ((c.tc : Thread Cert.Shared.nD Cert.Shared.τ).loc Cert.Shared.main_arg2)
      ∧ r.2.mem ((c.tc : Thread Cert.Shared.nD Cert.Shared.τ).loc Cert.Shared.main_arg3) = m ((c.tc : Thread Cert.Shared.nD Cert.Shared.τ).loc Cert.Shared.main_arg3))
      ∧ r.2.sem = fun _ => 0)

def quiescent_SharedIdeal [hSharedIdeal : Cert.SharedIdeal.Facts] : Prop :=
  ∀ (m : (ℓ : Loc Cert.SharedIdeal.nD Cert.SharedIdeal.τ Cert.SharedIdeal.sig) → Buf (Elt Ideal) ℓ) (g : Dev Cert.SharedIdeal.nD → PrngReg), Pre_SharedIdeal m →
    θ_run (Cert.SharedIdeal.defs (F := Ideal)) (onTc (τ := Cert.SharedIdeal.τ) (Cert.SharedIdeal.main (F := Ideal))) ⟨m, fun _ => 0, g⟩ (fun r => (∀ c : Dev Cert.SharedIdeal.nD,
      r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
      ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
      ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
      ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3))
      ∧ r.2.sem = fun _ => 0)

def quiescent_SharedRefIdeal [hSharedRefIdeal : Cert.SharedRefIdeal.Facts] : Prop :=
  ∀ (m : (ℓ : Loc Cert.SharedRefIdeal.nD Cert.SharedRefIdeal.τ Cert.SharedRefIdeal.sig) → Buf (Elt Ideal) ℓ) (g : Dev Cert.SharedRefIdeal.nD → PrngReg), Pre_SharedRefIdeal m →
    θ_run (Cert.SharedRefIdeal.defs (F := Ideal)) (onTc (τ := Cert.SharedRefIdeal.τ) (Cert.SharedRefIdeal.main (F := Ideal))) ⟨m, fun _ => 0, g⟩ (fun r => (∀ c : Dev Cert.SharedRefIdeal.nD,
      r.2.mem ((c.tc : Thread Cert.SharedRefIdeal.nD Cert.SharedRefIdeal.τ).loc Cert.SharedRefIdeal.main_arg0) = m ((c.tc : Thread Cert.SharedRefIdeal.nD Cert.SharedRefIdeal.τ).loc Cert.SharedRefIdeal.main_arg0)
      ∧ r.2.mem ((c.tc : Thread Cert.SharedRefIdeal.nD Cert.SharedRefIdeal.τ).loc Cert.SharedRefIdeal.main_arg1) = m ((c.tc : Thread Cert.SharedRefIdeal.nD Cert.SharedRefIdeal.τ).loc Cert.SharedRefIdeal.main_arg1)
      ∧ r.2.mem ((c.tc : Thread Cert.SharedRefIdeal.nD Cert.SharedRefIdeal.τ).loc Cert.SharedRefIdeal.main_arg2) = m ((c.tc : Thread Cert.SharedRefIdeal.nD Cert.SharedRefIdeal.τ).loc Cert.SharedRefIdeal.main_arg2)
      ∧ r.2.mem ((c.tc : Thread Cert.SharedRefIdeal.nD Cert.SharedRefIdeal.τ).loc Cert.SharedRefIdeal.main_arg3) = m ((c.tc : Thread Cert.SharedRefIdeal.nD Cert.SharedRefIdeal.τ).loc Cert.SharedRefIdeal.main_arg3))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5))
      ∧ r.2.sem = fun _ => 0)

def quiescent_FrontIdeal_pre_tokens_in_range [hFrontIdeal : Cert.FrontIdeal.Facts] [hPre_tokens_in_range : Cert.Pre_tokens_in_range.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal_tokens_in_range m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5))
      ∧ r.2.sem = fun _ => 0)

def quiescent_FrontRefIdeal [hFrontRefIdeal : Cert.FrontRefIdeal.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3)
      ∧ r.2.mem ((c.tc : Thread Cert.FrontRefIdeal.nD Cert.FrontRefIdeal.τ).loc Cert.FrontRefIdeal.main_arg4) = m ((c.tc : Thread Cert.FrontRefIdeal.nD Cert.FrontRefIdeal.τ).loc Cert.FrontRefIdeal.main_arg4)
      ∧ r.2.mem ((c.tc : Thread Cert.FrontRefIdeal.nD Cert.FrontRefIdeal.τ).loc Cert.FrontRefIdeal.main_arg5) = m ((c.tc : Thread Cert.FrontRefIdeal.nD Cert.FrontRefIdeal.τ).loc Cert.FrontRefIdeal.main_arg5))
      ∧ r.2.sem = fun _ => 0)

def quiescent_FrontRefIdeal_pre_tokens_in_range [hFrontRefIdeal : Cert.FrontRefIdeal.Facts] [hPre_tokens_in_range : Cert.Pre_tokens_in_range.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal_tokens_in_range m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3)
      ∧ r.2.mem ((c.tc : Thread Cert.FrontRefIdeal.nD Cert.FrontRefIdeal.τ).loc Cert.FrontRefIdeal.main_arg4) = m ((c.tc : Thread Cert.FrontRefIdeal.nD Cert.FrontRefIdeal.τ).loc Cert.FrontRefIdeal.main_arg4)
      ∧ r.2.mem ((c.tc : Thread Cert.FrontRefIdeal.nD Cert.FrontRefIdeal.τ).loc Cert.FrontRefIdeal.main_arg5) = m ((c.tc : Thread Cert.FrontRefIdeal.nD Cert.FrontRefIdeal.τ).loc Cert.FrontRefIdeal.main_arg5))
      ∧ r.2.sem = fun _ => 0)

def quiescent_Combine [hCombine : Cert.Combine.Facts] [hPre_rows_in_range : Cert.Pre_rows_in_range.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6))
      ∧ r.2.sem = fun _ => 0)

def quiescent_CombineIdeal [hCombineIdeal : Cert.CombineIdeal.Facts] [hPre_rows_in_range : Cert.Pre_rows_in_range.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6))
      ∧ r.2.sem = fun _ => 0)

def quiescent_CombineRefIdeal [hCombineRefIdeal : Cert.CombineRefIdeal.Facts] [hPre_rows_in_range : Cert.Pre_rows_in_range.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5)
      ∧ r.2.mem ((c.tc : Thread Cert.CombineRefIdeal.nD Cert.CombineRefIdeal.τ).loc Cert.CombineRefIdeal.main_arg6) = m ((c.tc : Thread Cert.CombineRefIdeal.nD Cert.CombineRefIdeal.τ).loc Cert.CombineRefIdeal.main_arg6))
      ∧ r.2.sem = fun _ => 0)

def quiescent_Experts [hExperts : Cert.Experts.Facts] [hPre_groups_fit : Cert.Pre_groups_fit.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7))
      ∧ r.2.sem = fun _ => 0)

def quiescent_ExpertsIdeal [hExpertsIdeal : Cert.ExpertsIdeal.Facts] [hPre_groups_fit : Cert.Pre_groups_fit.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def preserves_Shared_SharedIdeal : Prop :=
  True

def algebraic_SharedIdeal_SharedRefIdeal [hSharedIdeal : Cert.SharedIdeal.Facts] [hSharedRefIdeal : Cert.SharedRefIdeal.Facts] : Prop :=
  ∀ (m : (ℓ : Loc Cert.SharedIdeal.nD Cert.SharedIdeal.τ Cert.SharedIdeal.sig) → Buf (Elt Ideal) ℓ) (g : Dev Cert.SharedIdeal.nD → PrngReg)
    (m' : (ℓ : Loc Cert.SharedRefIdeal.nD Cert.SharedRefIdeal.τ Cert.SharedRefIdeal.sig) → Buf (Elt Ideal) ℓ) (g' : Dev Cert.SharedRefIdeal.nD → PrngReg), Pre_SharedIdeal m →
    (∀ c : Dev Cert.SharedIdeal.nD,
      m' ((c.tc : Thread Cert.SharedRefIdeal.nD Cert.SharedRefIdeal.τ).loc Cert.SharedRefIdeal.main_arg0) = m ((c.tc : Thread Cert.SharedIdeal.nD Cert.SharedIdeal.τ).loc Cert.SharedIdeal.main_arg0)
      ∧ m' ((c.tc : Thread Cert.SharedRefIdeal.nD Cert.SharedRefIdeal.τ).loc Cert.SharedRefIdeal.main_arg1) = m ((c.tc : Thread Cert.SharedIdeal.nD Cert.SharedIdeal.τ).loc Cert.SharedIdeal.main_arg1)
      ∧ m' ((c.tc : Thread Cert.SharedRefIdeal.nD Cert.SharedRefIdeal.τ).loc Cert.SharedRefIdeal.main_arg2) = m ((c.tc : Thread Cert.SharedIdeal.nD Cert.SharedIdeal.τ).loc Cert.SharedIdeal.main_arg2)
      ∧ m' ((c.tc : Thread Cert.SharedRefIdeal.nD Cert.SharedRefIdeal.τ).loc Cert.SharedRefIdeal.main_arg3) = m ((c.tc : Thread Cert.SharedIdeal.nD Cert.SharedIdeal.τ).loc Cert.SharedIdeal.main_arg3)) →
    ∃ (v0 : (c : Dev Cert.SharedIdeal.nD) → Buf (Elt Ideal) ((c.tc : Thread Cert.SharedIdeal.nD Cert.SharedIdeal.τ).loc Cert.SharedIdeal.main_v0_0)) (v1 : (c : Dev Cert.SharedIdeal.nD) → Buf (Elt Ideal) ((c.tc : Thread Cert.SharedIdeal.nD Cert.SharedIdeal.τ).loc Cert.SharedIdeal.main_v0_1)),
      θ_run (Cert.SharedIdeal.defs (F := Ideal)) (onTc (τ := Cert.SharedIdeal.τ) (Cert.SharedIdeal.main (F := Ideal))) ⟨m, fun _ => 0, g⟩ (fun r => ∀ c : Dev Cert.SharedIdeal.nD,
          r.2.mem ((c.tc : Thread Cert.SharedIdeal.nD Cert.SharedIdeal.τ).loc Cert.SharedIdeal.main_v0_0) = v0 c
          ∧ r.2.mem ((c.tc : Thread Cert.SharedIdeal.nD Cert.SharedIdeal.τ).loc Cert.SharedIdeal.main_v0_1) = v1 c
          ∧ r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
          ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
          ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
          ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3))
      ∧ θ_run (Cert.SharedRefIdeal.defs (F := Ideal)) (onTc (τ := Cert.SharedRefIdeal.τ) (Cert.SharedRefIdeal.main (F := Ideal))) ⟨m', fun _ => 0, g'⟩ (fun r => ∀ c : Dev Cert.SharedRefIdeal.nD,
          r.2.mem ((c.tc : Thread Cert.SharedRefIdeal.nD Cert.SharedRefIdeal.τ).loc Cert.SharedRefIdeal.main_v0_0) = v0 c
          ∧ r.2.mem ((c.tc : Thread Cert.SharedRefIdeal.nD Cert.SharedRefIdeal.τ).loc Cert.SharedRefIdeal.main_v0_1) = v1 c
          ∧ r.2.mem ((c.tc : Thread Cert.SharedRefIdeal.nD Cert.SharedRefIdeal.τ).loc Cert.SharedRefIdeal.main_arg0) = m' ((c.tc : Thread Cert.SharedRefIdeal.nD Cert.SharedRefIdeal.τ).loc Cert.SharedRefIdeal.main_arg0)
          ∧ r.2.mem ((c.tc : Thread Cert.SharedRefIdeal.nD Cert.SharedRefIdeal.τ).loc Cert.SharedRefIdeal.main_arg1) = m' ((c.tc : Thread Cert.SharedRefIdeal.nD Cert.SharedRefIdeal.τ).loc Cert.SharedRefIdeal.main_arg1)
          ∧ r.2.mem ((c.tc : Thread Cert.SharedRefIdeal.nD Cert.SharedRefIdeal.τ).loc Cert.SharedRefIdeal.main_arg2) = m' ((c.tc : Thread Cert.SharedRefIdeal.nD Cert.SharedRefIdeal.τ).loc Cert.SharedRefIdeal.main_arg2)
          ∧ r.2.mem ((c.tc : Thread Cert.SharedRefIdeal.nD Cert.SharedRefIdeal.τ).loc Cert.SharedRefIdeal.main_arg3) = m' ((c.tc : Thread Cert.SharedRefIdeal.nD Cert.SharedRefIdeal.τ).loc Cert.SharedRefIdeal.main_arg3))

def preserves_Front_FrontIdeal : Prop :=
  True

def algebraic_FrontIdeal_FrontRefIdeal_pre_tokens_in_range [hFrontIdeal : Cert.FrontIdeal.Facts] [hFrontRefIdeal : Cert.FrontRefIdeal.Facts] [hPre_tokens_in_range : Cert.Pre_tokens_in_range.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontRefIdeal.nD Cert.FrontRefIdeal.τ Cert.FrontRefIdeal.sig) → Buf (Elt Ideal) ℓ) (g' : Dev Cert.FrontRefIdeal.nD → PrngReg), Pre_FrontIdeal_tokens_in_range m →
    (∀ c : Dev Cert.FrontIdeal.nD,
      m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0)
      ∧ m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1)
      ∧ m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2)
      ∧ m' ((c.tc : Thread Cert.FrontRefIdeal.nD Cert.FrontRefIdeal.τ).loc Cert.FrontRefIdeal.main_arg3) = m ((c.tc : Thread Cert.FrontIdeal.nD Cert.FrontIdeal.τ).loc Cert.FrontIdeal.main_arg3)
      ∧ m' ((c.tc : Thread Cert.FrontRefIdeal.nD Cert.FrontRefIdeal.τ).loc Cert.FrontRefIdeal.main_arg4) = m ((c.tc : Thread Cert.FrontIdeal.nD Cert.FrontIdeal.τ).loc Cert.FrontIdeal.main_arg4)
      ∧ m' ((c.tc : Thread Cert.FrontRefIdeal.nD Cert.FrontRefIdeal.τ).loc Cert.FrontRefIdeal.main_arg5) = m ((c.tc : Thread Cert.FrontIdeal.nD Cert.FrontIdeal.τ).loc Cert.FrontIdeal.main_arg5)) →
    ∃ (v0 : (c : Dev Cert.FrontIdeal.nD) → Buf (Elt Ideal) ((c.tc : Thread Cert.FrontIdeal.nD Cert.FrontIdeal.τ).loc Cert.FrontIdeal.main_v0_0)) (v1 : (c : Dev Cert.FrontIdeal.nD) → Buf (Elt Ideal) ((c.tc : Thread Cert.FrontIdeal.nD Cert.FrontIdeal.τ).loc Cert.FrontIdeal.main_v0_1)) (v2 : (c : Dev Cert.FrontIdeal.nD) → Buf (Elt Ideal) ((c.tc : Thread Cert.FrontIdeal.nD Cert.FrontIdeal.τ).loc Cert.FrontIdeal.main_v0_2)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v0_0) = v0 c
          ∧ r.2.mem ((c.tc : Thread Cert.FrontIdeal.nD Cert.FrontIdeal.τ).loc Cert.FrontIdeal.main_v0_1) = v1 c
          ∧ r.2.mem ((c.tc : Thread Cert.FrontIdeal.nD Cert.FrontIdeal.τ).loc Cert.FrontIdeal.main_v0_2) = v2 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5))
      ∧ θ_run (Cert.FrontRefIdeal.defs (F := Ideal)) (onTc (τ := Cert.FrontRefIdeal.τ) (Cert.FrontRefIdeal.main (F := Ideal))) ⟨m', fun _ => 0, g'⟩ (fun r => ∀ c : Dev Cert.FrontRefIdeal.nD,
          r.2.mem ((c.tc : Thread Cert.FrontRefIdeal.nD Cert.FrontRefIdeal.τ).loc Cert.FrontRefIdeal.main_v0_0) = v0 c
          ∧ r.2.mem ((c.tc : Thread Cert.FrontRefIdeal.nD Cert.FrontRefIdeal.τ).loc Cert.FrontRefIdeal.main_v0_1) = v1 c
          ∧ r.2.mem ((c.tc : Thread Cert.FrontRefIdeal.nD Cert.FrontRefIdeal.τ).loc Cert.FrontRefIdeal.main_v10) = v2 c
          ∧ r.2.mem ((c.tc : Thread Cert.FrontRefIdeal.nD Cert.FrontRefIdeal.τ).loc Cert.FrontRefIdeal.main_arg0) = m' ((c.tc : Thread Cert.FrontRefIdeal.nD Cert.FrontRefIdeal.τ).loc Cert.FrontRefIdeal.main_arg0)
          ∧ r.2.mem ((c.tc : Thread Cert.FrontRefIdeal.nD Cert.FrontRefIdeal.τ).loc Cert.FrontRefIdeal.main_arg1) = m' ((c.tc : Thread Cert.FrontRefIdeal.nD Cert.FrontRefIdeal.τ).loc Cert.FrontRefIdeal.main_arg1)
          ∧ r.2.mem ((c.tc : Thread Cert.FrontRefIdeal.nD Cert.FrontRefIdeal.τ).loc Cert.FrontRefIdeal.main_arg2) = m' ((c.tc : Thread Cert.FrontRefIdeal.nD Cert.FrontRefIdeal.τ).loc Cert.FrontRefIdeal.main_arg2)
          ∧ r.2.mem ((c.tc : Thread Cert.FrontRefIdeal.nD Cert.FrontRefIdeal.τ).loc Cert.FrontRefIdeal.main_arg3) = m' ((c.tc : Thread Cert.FrontRefIdeal.nD Cert.FrontRefIdeal.τ).loc Cert.FrontRefIdeal.main_arg3)
          ∧ r.2.mem ((c.tc : Thread Cert.FrontRefIdeal.nD Cert.FrontRefIdeal.τ).loc Cert.FrontRefIdeal.main_arg4) = m' ((c.tc : Thread Cert.FrontRefIdeal.nD Cert.FrontRefIdeal.τ).loc Cert.FrontRefIdeal.main_arg4)
          ∧ r.2.mem ((c.tc : Thread Cert.FrontRefIdeal.nD Cert.FrontRefIdeal.τ).loc Cert.FrontRefIdeal.main_arg5) = m' ((c.tc : Thread Cert.FrontRefIdeal.nD Cert.FrontRefIdeal.τ).loc Cert.FrontRefIdeal.main_arg5))

def preserves_Combine_CombineIdeal : Prop :=
  True

def algebraic_CombineIdeal_CombineRefIdeal [hCombineIdeal : Cert.CombineIdeal.Facts] [hCombineRefIdeal : Cert.CombineRefIdeal.Facts] [hPre_rows_in_range : Cert.Pre_rows_in_range.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)
      ∧ m' ((c.tc : Thread Cert.CombineRefIdeal.nD Cert.CombineRefIdeal.τ).loc Cert.CombineRefIdeal.main_arg6) = m ((c.tc : Thread Cert.CombineIdeal.nD Cert.CombineIdeal.τ).loc Cert.CombineIdeal.main_arg6)) →
    ∃ (v0 : (c : Dev Cert.CombineIdeal.nD) → Buf (Elt Ideal) ((c.tc : Thread Cert.CombineIdeal.nD Cert.CombineIdeal.τ).loc Cert.CombineIdeal.main_v0_0)) (v1 : (c : Dev Cert.CombineIdeal.nD) → Buf (Elt Ideal) ((c.tc : Thread Cert.CombineIdeal.nD Cert.CombineIdeal.τ).loc Cert.CombineIdeal.main_v0_1)) (v2 : (c : Dev Cert.CombineIdeal.nD) → Buf (Elt Ideal) ((c.tc : Thread Cert.CombineIdeal.nD Cert.CombineIdeal.τ).loc Cert.CombineIdeal.main_v0_2)) (v3 : (c : Dev Cert.CombineIdeal.nD) → Buf (Elt Ideal) ((c.tc : Thread Cert.CombineIdeal.nD Cert.CombineIdeal.τ).loc Cert.CombineIdeal.main_v0_3)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0_0) = v0 c
          ∧ r.2.mem ((c.tc : Thread Cert.CombineIdeal.nD Cert.CombineIdeal.τ).loc Cert.CombineIdeal.main_v0_1) = v1 c
          ∧ r.2.mem ((c.tc : Thread Cert.CombineIdeal.nD Cert.CombineIdeal.τ).loc Cert.CombineIdeal.main_v0_2) = v2 c
          ∧ r.2.mem ((c.tc : Thread Cert.CombineIdeal.nD Cert.CombineIdeal.τ).loc Cert.CombineIdeal.main_v0_3) = v3 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v13_0) = v0 c
          ∧ r.2.mem ((c.tc : Thread Cert.CombineRefIdeal.nD Cert.CombineRefIdeal.τ).loc Cert.CombineRefIdeal.main_v13_1) = v1 c
          ∧ r.2.mem ((c.tc : Thread Cert.CombineRefIdeal.nD Cert.CombineRefIdeal.τ).loc Cert.CombineRefIdeal.main_v13_2) = v2 c
          ∧ r.2.mem ((c.tc : Thread Cert.CombineRefIdeal.nD Cert.CombineRefIdeal.τ).loc Cert.CombineRefIdeal.main_v13_3) = v3 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5)
          ∧ r.2.mem ((c.tc : Thread Cert.CombineRefIdeal.nD Cert.CombineRefIdeal.τ).loc Cert.CombineRefIdeal.main_arg6) = m' ((c.tc : Thread Cert.CombineRefIdeal.nD Cert.CombineRefIdeal.τ).loc Cert.CombineRefIdeal.main_arg6))

def preserves_Experts_ExpertsIdeal : Prop :=
  True

def Claim : Prop :=
  ∃ (hShared : Cert.Shared.Facts) (hSharedIdeal : Cert.SharedIdeal.Facts) (hSharedRefIdeal : Cert.SharedRefIdeal.Facts) (hFront : Cert.Front.Facts) (hFrontIdeal : Cert.FrontIdeal.Facts) (hFrontRefIdeal : Cert.FrontRefIdeal.Facts) (hCombine : Cert.Combine.Facts) (hCombineIdeal : Cert.CombineIdeal.Facts) (hCombineRefIdeal : Cert.CombineRefIdeal.Facts) (hExperts : Cert.Experts.Facts) (hExpertsIdeal : Cert.ExpertsIdeal.Facts) (hPre_tokens_in_range : Cert.Pre_tokens_in_range.Facts) (hPre_rows_in_range : Cert.Pre_rows_in_range.Facts) (hPre_groups_fit : Cert.Pre_groups_fit.Facts),
    quiescent_Shared (hShared := hShared)
    ∧ quiescent_SharedIdeal (hSharedIdeal := hSharedIdeal)
    ∧ quiescent_SharedRefIdeal (hSharedRefIdeal := hSharedRefIdeal)
    ∧ quiescent_Front (hFront := hFront)
    ∧ quiescent_FrontIdeal (hFrontIdeal := hFrontIdeal)
    ∧ quiescent_FrontIdeal_pre_tokens_in_range (hFrontIdeal := hFrontIdeal) (hPre_tokens_in_range := hPre_tokens_in_range)
    ∧ quiescent_FrontRefIdeal (hFrontRefIdeal := hFrontRefIdeal)
    ∧ quiescent_FrontRefIdeal_pre_tokens_in_range (hFrontRefIdeal := hFrontRefIdeal) (hPre_tokens_in_range := hPre_tokens_in_range)
    ∧ quiescent_Combine (hCombine := hCombine) (hPre_rows_in_range := hPre_rows_in_range)
    ∧ quiescent_CombineIdeal (hCombineIdeal := hCombineIdeal) (hPre_rows_in_range := hPre_rows_in_range)
    ∧ quiescent_CombineRefIdeal (hCombineRefIdeal := hCombineRefIdeal) (hPre_rows_in_range := hPre_rows_in_range)
    ∧ quiescent_Experts (hExperts := hExperts) (hPre_groups_fit := hPre_groups_fit)
    ∧ quiescent_ExpertsIdeal (hExpertsIdeal := hExpertsIdeal) (hPre_groups_fit := hPre_groups_fit)
    ∧ preserves_Shared_SharedIdeal
    ∧ algebraic_SharedIdeal_SharedRefIdeal (hSharedIdeal := hSharedIdeal) (hSharedRefIdeal := hSharedRefIdeal)
    ∧ preserves_Front_FrontIdeal
    ∧ algebraic_FrontIdeal_FrontRefIdeal_pre_tokens_in_range (hFrontIdeal := hFrontIdeal) (hFrontRefIdeal := hFrontRefIdeal) (hPre_tokens_in_range := hPre_tokens_in_range)
    ∧ preserves_Combine_CombineIdeal
    ∧ algebraic_CombineIdeal_CombineRefIdeal (hCombineIdeal := hCombineIdeal) (hCombineRefIdeal := hCombineRefIdeal) (hPre_rows_in_range := hPre_rows_in_range)
    ∧ preserves_Experts_ExpertsIdeal
-- ==== Pre_groups_fit.lean ====
abbrev S32 : Shape := ⟨1, ![32]⟩
abbrev S1664x1024 : Shape := ⟨2, ![1664, 1024]⟩
abbrev S32x1024x1344 : Shape := ⟨3, ![32, 1024, 1344]⟩
abbrev S32x64x2688 : Shape := ⟨3, ![32, 64, 2688]⟩
abbrev S32x2688x512 : Shape := ⟨3, ![32, 2688, 512]⟩
abbrev S32x168x1024 : Shape := ⟨3, ![32, 168, 1024]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : IVec S32 32) (main_arg1 : FVec F S1664x1024 .bf16) (main_arg2 : FVec F S32 .f32) (main_arg3 : FVec F S32 .f32) (main_arg4 : IVec S32x1024x1344 8) (main_arg5 : FVec F S32x64x2688 .fp8e4m3) (main_arg6 : IVec S32x2688x512 8) (main_arg7 : FVec F S32x168x1024 .fp8e4m3) : IVec S32 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 1536#32
  let main_v2 : IVec S32 32 := broadcastInDim S32 ![] bcast_S_S32 main_c_0
  let main_v3 : IVec S32 1 := cmpi .sle main_arg0 main_v2
  let main_v4 : IVec S32 1 := andi main_v1 main_v3
  let main_c_1 : IVec S_ 32 := constantI S_ 32 0#32
  let main_v5 : IVec S_ 32 := (fun x v => Host.reduce IntOp.addi x v reducesTo_S32_S_d0 h_S_) main_arg0 main_c_1
  let main_c_2 : IVec S_ 32 := constantI S_ 32 1536#32
  let main_v6 : IVec S_ 1 := cmpi .sle main_v5 main_c_2
  let main_v7 : IVec S32 1 := broadcastInDim S32 ![] bcast_S_S32 main_v6
  let main_v8 : IVec S32 1 := andi main_v4 main_v7
  main_v8
-- ==== Pre_rows_in_range.lean ====
abbrev S1536 : Shape := ⟨1, ![1536]⟩
abbrev S1536x1024 : Shape := ⟨2, ![1536, 1024]⟩
abbrev S1024x4096 : Shape := ⟨2, ![1024, 4096]⟩
abbrev S1x4096 : Shape := ⟨2, ![1, 4096]⟩
abbrev S256x4096 : Shape := ⟨2, ![256, 4096]⟩
abbrev S_ : Shape := ⟨0, ![]⟩

class Facts : Prop where
  bcast_S_S1536 : S_.BroadcastsInDim S1536 (![] : Fin 0 → Fin S1536.rank)

variable [Facts]

def fn {F : FTy → Type} [FloatOps F] (main_arg0 : IVec S1536 32) (main_arg1 : FVec F S1536 .f32) (main_arg2 : FVec F S1536x1024 .f32) (main_arg3 : FVec F S1024x4096 .fp8e4m3) (main_arg4 : FVec F S1x4096 .f32) (main_arg5 : FVec F S256x4096 .bf16) (main_arg6 : FVec F S256x4096 .f32) : IVec S1536 1 :=
  let main_c : IVec S_ 32 := constantI S_ 32 0#32
  let main_v0 : IVec S1536 32 := broadcastInDim S1536 ![] bcast_S_S1536 main_c
  let main_v1 : IVec S1536 1 := cmpi .sge main_arg0 main_v0
  let main_c_0 : IVec S_ 32 := constantI S_ 32 1536#32
  let main_v2 : IVec S1536 32 := broadcastInDim S1536 ![] bcast_S_S1536 main_c_0
  let main_v3 : IVec S1536 1 := cmpi .slt main_arg0 main_v2
  let main_v4 : IVec S1536 1 := andi main_v1 main_v3
  main_v4
-- ==== Pre_tokens_in_range.lean ====
abbrev S1 : Shape := ⟨1, ![1]⟩
abbrev S256x4096 : Shape := ⟨2, ![256, 4096]⟩
abbrev S1x4096 : Shape := ⟨2, ![1, 4096]⟩
abbrev S4096x1024 : Shape := ⟨2, ![4096, 1024]⟩
abbrev S1x1024 : Shape := ⟨2, ![1, 1024]⟩
abbrev S1x1536 : Shape := ⟨2, ![1, 1536]⟩
abbrev S_ : Shape := ⟨0, ![]⟩

class Facts : Prop where
  bcast_S_S1x1536 : S_.BroadcastsInDim S1x1536 (![] : Fin 0 → Fin S1x1536.rank)

variable [Facts]

def fn {F : FTy → Type} [FloatOps F] (main_arg0 : FVec F S1 .f32) (main_arg1 : FVec F S256x4096 .bf16) (main_arg2 : FVec F S1x4096 .f32) (main_arg3 : FVec F S4096x1024 .fp8e4m3) (main_arg4 : FVec F S1x1024 .f32) (main_arg5 : IVec S1x1536 32) : IVec S1x1536 1 :=
  let main_c : IVec S_ 32 := constantI S_ 32 0#32
  let main_v0 : IVec S1x1536 32 := broadcastInDim S1x1536 ![] bcast_S_S1x1536 main_c
  let main_v1 : IVec S1x1536 1 := cmpi .sge main_arg5 main_v0
  let main_c_0 : IVec S_ 32 := constantI S_ 32 256#32
  let main_v2 : IVec S1x1536 32 := broadcastInDim S1x1536 ![] bcast_S_S1x1536 main_c_0
  let main_v3 : IVec S1x1536 1 := cmpi .slt main_arg5 main_v2
  let main_v4 : IVec S1x1536 1 := andi main_v1 main_v3
  main_v4
-- ==== Shared.lean ====
abbrev S4 : Shape := ⟨1, ![4]⟩
abbrev S256x4096 : Shape := ⟨2, ![256, 4096]⟩
abbrev S4096x5376 : Shape := ⟨2, ![4096, 5376]⟩
abbrev S5376x4096 : Shape := ⟨2, ![5376, 4096]⟩
abbrev S256x5376 : Shape := ⟨2, ![256, 5376]⟩
abbrev S4096x768 : Shape := ⟨2, ![4096, 768]⟩
abbrev S768x4096 : Shape := ⟨2, ![768, 4096]⟩
abbrev S256x768 : Shape := ⟨2, ![256, 768]⟩
abbrev S1 : Shape := ⟨1, ![1]⟩

abbrev nBuf : Space → Nat
  | .hbm => 6
  | .vmem => 8
  | .smem => 1
  | _ => 0

abbrev bufTy : (tb : Table) → Fin (tcTables nBuf tb) → BufTy
  | .hbm, ⟨0, _⟩ => ⟨S4, .f32⟩
  | .hbm, ⟨1, _⟩ => ⟨S256x4096, .fp8e4m3⟩
  | .hbm, ⟨2, _⟩ => ⟨S4096x5376, .fp8e4m3⟩
  | .hbm, ⟨3, _⟩ => ⟨S5376x4096, .fp8e4m3⟩
  | .hbm, ⟨4, _⟩ => ⟨S256x5376, .fp8e4m3⟩
  | .hbm, ⟨5, _⟩ => ⟨S256x4096, .f32⟩
  | .local _ .vmem, ⟨0, _⟩ => ⟨S256x4096, .fp8e4m3⟩
  | .local _ .vmem, ⟨1, _⟩ => ⟨S4096x768, .fp8e4m3⟩
  | .local _ .vmem, ⟨2, _⟩ => ⟨S4096x768, .fp8e4m3⟩
  | .local _ .vmem, ⟨3, _⟩ => ⟨S768x4096, .fp8e4m3⟩
  | .local _ .vmem, ⟨4, _⟩ => ⟨S768x4096, .fp8e4m3⟩
  | .local _ .vmem, ⟨5, _⟩ => ⟨S256x768, .fp8e4m3⟩
  | .local _ .vmem, ⟨6, _⟩ => ⟨S256x768, .fp8e4m3⟩
  | .local _ .vmem, ⟨7, _⟩ => ⟨S256x4096, .f32⟩
  | .local _ .smem, ⟨0, _⟩ => ⟨S4, .f32⟩
  | _, _ => ⟨S4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_14 : BitVec 32 := 0#32
  let v27 : BitVec 1 := Scalar.cmpi .ne v26 c0_i32_14
  v27

def k0_cond2 (i : grid0.Coords) : BitVec 1 :=
  let arg0 : BitVec 32 := BitVec.ofNat 32 (i 0).val
  let c0_i32_15 : BitVec 32 := 0#32
  let v28 : BitVec 1 := Scalar.cmpi .sgt arg0 c0_i32_15
  let v29 : BitVec 32 := Scalar.extui v28
  let c0_i32_16 : BitVec 32 := 0#32
  let v30 : BitVec 1 := Scalar.cmpi .ne v29 c0_i32_16
  v30

def k0_cond3 (i : grid0.Coords) : BitVec 1 :=
  let arg0 : BitVec 32 := BitVec.ofNat 32 (i 0).val
  let c6_i32 : BitVec 32 := 6#32
  let v31 : BitVec 1 := Scalar.cmpi .eq arg0 c6_i32
  let v32 : BitVec 32 := Scalar.extui v31
  let c0_i32_17 : BitVec 32 := 0#32
  let v33 : BitVec 1 := Scalar.cmpi .ne v32 c0_i32_17
  v33

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x768 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== SharedRefIdeal.lean ====
abbrev S4 : Shape := ⟨1, ![4]⟩
abbrev S256x4096 : Shape := ⟨2, ![256, 4096]⟩
abbrev S4096x5376 : Shape := ⟨2, ![4096, 5376]⟩
abbrev S5376x4096 : Shape := ⟨2, ![5376, 4096]⟩
abbrev S256x5376 : Shape := ⟨2, ![256, 5376]⟩
abbrev S1 : Shape := ⟨1, ![1]⟩

abbrev nBuf : Space → Nat
  | .hbm => 6
  | .vmem => 5
  | .smem => 1
  | _ => 0

abbrev bufTy : (tb : Table) → Fin (tcTables nBuf tb) → BufTy
  | .hbm, ⟨0, _⟩ => ⟨S4, .f32⟩
  | .hbm, ⟨1, _⟩ => ⟨S256x4096, .fp8e4m3⟩
  | .hbm, ⟨2, _⟩ => ⟨S4096x5376, .fp8e4m3⟩
  | .hbm, ⟨3, _⟩ => ⟨S5376x4096, .fp8e4m3⟩
  | .hbm, ⟨4, _⟩ => ⟨S256x5376, .fp8e4m3⟩
  | .hbm, ⟨5, _⟩ => ⟨S256x4096, .f32⟩
  | .local _ .vmem, ⟨0, _⟩ => ⟨S256x4096, .fp8e4m3⟩
  | .local _ .vmem, ⟨1, _⟩ => ⟨S4096x5376, .fp8e4m3⟩
  | .local _ .vmem, ⟨2, _⟩ => ⟨S5376x4096, .fp8e4m3⟩
  | .local _ .vmem, ⟨3, _⟩ => ⟨S256x5376, .fp8e4m3⟩
  | .local _ .vmem, ⟨4, _⟩ => ⟨S256x4096, .f32⟩
  | .local _ .smem, ⟨0, _⟩ => ⟨S4, .f32⟩
  | _, _ => ⟨S4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x5376 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5376x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x5376 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Front.lean ====
abbrev S1 : Shape := ⟨1, ![1]⟩
abbrev S256x4096 : Shape := ⟨2, ![256, 4096]⟩
abbrev S1x4096 : Shape := ⟨2, ![1, 4096]⟩
abbrev S4096x1024 : Shape := ⟨2, ![4096, 1024]⟩
abbrev S1x1024 : Shape := ⟨2, ![1, 1024]⟩
abbrev S1x1536 : Shape := ⟨2, ![1, 1536]⟩
abbrev S256x1024 : Shape := ⟨2, ![256, 1024]⟩
abbrev S1664x1024 : Shape := ⟨2, ![1664, 1024]⟩
abbrev S256 : Shape := ⟨1, ![256]⟩
abbrev S256x1 : Shape := ⟨2, ![256, 1]⟩
abbrev S256x1536 : Shape := ⟨2, ![256, 1536]⟩
abbrev S1536x256 : Shape := ⟨2, ![1536, 256]⟩
abbrev S1536x1024 : Shape := ⟨2, ![1536, 1024]⟩
abbrev S128x1024 : Shape := ⟨2, ![128, 1024]⟩

abbrev nBuf : Space → Nat
  | .hbm => 9
  | .vmem => 8
  | .smem => 1
  | _ => 0

abbrev bufTy : (tb : Table) → Fin (tcTables nBuf tb) → BufTy
  | .hbm, ⟨0, _⟩ => ⟨S1, .f32⟩
  | .hbm, ⟨1, _⟩ => ⟨S256x4096, .bf16⟩
  | .hbm, ⟨2, _⟩ => ⟨S1x4096, .f32⟩
  | .hbm, ⟨3, _⟩ => ⟨S4096x1024, .fp8e4m3⟩
  | .hbm, ⟨4, _⟩ => ⟨S1x1024, .f32⟩
  | .hbm, ⟨5, _⟩ => ⟨S1x1536, .i32⟩
  | .hbm, ⟨6, _⟩ => ⟨S256x4096, .fp8e4m3⟩
  | .hbm, ⟨7, _⟩ => ⟨S256x1024, .bf16⟩
  | .hbm, ⟨8, _⟩ => ⟨S1664x1024, .bf16⟩
  | .local _ .vmem, ⟨0, _⟩ => ⟨S256x4096, .bf16⟩
  | .local _ .vmem, ⟨1, _⟩ => ⟨S1x4096, .f32⟩
  | .local _ .vmem, ⟨2, _⟩ => ⟨S4096x1024, .fp8e4m3⟩
  | .local _ .vmem, ⟨3, _⟩ => ⟨S1x1024, .f32⟩
  | .local _ .vmem, ⟨4, _⟩ => ⟨S1x1536, .i32⟩
  | .local _ .vmem, ⟨5, _⟩ => ⟨S256x4096, .fp8e4m3⟩
  | .local _ .vmem, ⟨6, _⟩ => ⟨S256x1024, .bf16⟩
  | .local _ .vmem, ⟨7, _⟩ => ⟨S1664x1024, .bf16⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1536 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1664x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== FrontRefIdeal.lean ====
abbrev S1 : Shape := ⟨1, ![1]⟩
abbrev S256x4096 : Shape := ⟨2, ![256, 4096]⟩
abbrev S1x4096 : Shape := ⟨2, ![1, 4096]⟩
abbrev S4096x1024 : Shape := ⟨2, ![4096, 1024]⟩
abbrev S1x1024 : Shape := ⟨2, ![1, 1024]⟩
abbrev S1x1536 : Shape := ⟨2, ![1, 1536]⟩
abbrev S256x1024 : Shape := ⟨2, ![256, 1024]⟩
abbrev S256 : Shape := ⟨1, ![256]⟩
abbrev S256x1 : Shape := ⟨2, ![256, 1]⟩
abbrev S1536 : Shape := ⟨1, ![1536]⟩
abbrev S_ : Shape := ⟨0, ![]⟩
abbrev S1536x1 : Shape := ⟨2, ![1536, 1]⟩
abbrev S1536x1024 : Shape := ⟨2, ![1536, 1024]⟩
abbrev S128x1024 : Shape := ⟨2, ![128, 1024]⟩
abbrev S1664x1024 : Shape := ⟨2, ![1664, 1024]⟩

abbrev nBuf : Space → Nat
  | .hbm => 21
  | .vmem => 6
  | .smem => 1
  | _ => 0

abbrev bufTy : (tb : Table) → Fin (tcTables nBuf tb) → BufTy
  | .hbm, ⟨0, _⟩ => ⟨S1, .f32⟩
  | .hbm, ⟨1, _⟩ => ⟨S256x4096, .bf16⟩
  | .hbm, ⟨2, _⟩ => ⟨S1x4096, .f32⟩
  | .hbm, ⟨3, _⟩ => ⟨S4096x1024, .fp8e4m3⟩
  | .hbm, ⟨4, _⟩ => ⟨S1x1024, .f32⟩
  | .hbm, ⟨5, _⟩ => ⟨S1x1536, .i32⟩
  | .hbm, ⟨6, _⟩ => ⟨S256x4096, .fp8e4m3⟩
  | .hbm, ⟨7, _⟩ => ⟨S256x1024, .bf16⟩
  | .hbm, ⟨8, _⟩ => ⟨S1536, .i32⟩
  | .hbm, ⟨9, _⟩ => ⟨S_, .i32⟩
  | .hbm, ⟨10, _⟩ => ⟨S1536, .i32⟩
  | .hbm, ⟨11, _⟩ => ⟨S1536, .i1⟩
  | .hbm, ⟨12, _⟩ => ⟨S_, .i32⟩
  | .hbm, ⟨13, _⟩ => ⟨S1536, .i32⟩
  | .hbm, ⟨14, _⟩ => ⟨S1536, .i32⟩
  | .hbm, ⟨15, _⟩ => ⟨S1536, .i32⟩
  | .hbm, ⟨16, _⟩ => ⟨S1536x1, .i32⟩
  | .hbm, ⟨17, _⟩ => ⟨S1536x1024, .bf16⟩
  | .hbm, ⟨18, _⟩ => ⟨S_, .bf16⟩
  | .hbm, ⟨19, _⟩ => ⟨S128x1024, .bf16⟩
  | .hbm, ⟨20, _⟩ => ⟨S1664x1024, .bf16⟩
  | .local _ .vmem, ⟨0, _⟩ => ⟨S256x4096, .bf16⟩
  | .local _ .vmem, ⟨1, _⟩ => ⟨S1x4096, .f32⟩
  | .local _ .vmem, ⟨2, _⟩ => ⟨S4096x1024, .fp8e4m3⟩
  | .local _ .vmem, ⟨3, _⟩ => ⟨S1x1024, .f32⟩
  | .local _ .vmem, ⟨4, _⟩ => ⟨S256x4096, .fp8e4m3⟩
  | .local _ .vmem, ⟨5, _⟩ => ⟨S256x1024, .bf16⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Combine.lean ====
abbrev S1536 : Shape := ⟨1, ![1536]⟩
abbrev S1536x1024 : Shape := ⟨2, ![1536, 1024]⟩
abbrev S1024x4096 : Shape := ⟨2, ![1024, 4096]⟩
abbrev S1x4096 : Shape := ⟨2, ![1, 4096]⟩
abbrev S256x4096 : Shape := ⟨2, ![256, 4096]⟩
abbrev S256x1024 : Shape := ⟨2, ![256, 1024]⟩
abbrev S256x1 : Shape := ⟨2, ![256, 1]⟩
abbrev S1 : Shape := ⟨1, ![1]⟩
abbrev S1x1024 : Shape := ⟨2, ![1, 1024]⟩
abbrev S256 : Shape := ⟨1, ![256]⟩

abbrev nBuf : Space → Nat
  | .hbm => 11
  | .vmem => 9
  | .smem => 2
  | _ => 0

abbrev bufTy : (tb : Table) → Fin (tcTables nBuf tb) → BufTy
  | .hbm, ⟨0, _⟩ => ⟨S1536, .i32⟩
  | .hbm, ⟨1, _⟩ => ⟨S1536, .f32⟩
  | .hbm, ⟨2, _⟩ => ⟨S1536x1024, .f32⟩
  | .hbm, ⟨3, _⟩ => ⟨S1024x4096, .fp8e4m3⟩
  | .hbm, ⟨4, _⟩ => ⟨S1x4096, .f32⟩
  | .hbm, ⟨5, _⟩ => ⟨S256x4096, .bf16⟩
  | .hbm, ⟨6, _⟩ => ⟨S256x4096, .f32⟩
  | .hbm, ⟨7, _⟩ => ⟨S256x4096, .bf16⟩
  | .hbm, ⟨8, _⟩ => ⟨S256x1024, .f32⟩
  | .hbm, ⟨9, _⟩ => ⟨S256x1024, .fp8e4m3⟩
  | .hbm, ⟨10, _⟩ => ⟨S256x1, .f32⟩
  | .local _ .vmem, ⟨0, _⟩ => ⟨S1536x1024, .f32⟩
  | .local _ .vmem, ⟨1, _⟩ => ⟨S1024x4096, .fp8e4m3⟩
  | .local _ .vmem, ⟨2, _⟩ => ⟨S1x4096, .f32⟩
  | .local _ .vmem, ⟨3, _⟩ => ⟨S256x4096, .bf16⟩
  | .local _ .vmem, ⟨4, _⟩ => ⟨S256x4096, .f32⟩
  | .local _ .vmem, ⟨5, _⟩ => ⟨S256x4096, .bf16⟩
  | .local _ .vmem, ⟨6, _⟩ => ⟨S256x1024, .f32⟩
  | .local _ .vmem, ⟨7, _⟩ => ⟨S256x1024, .fp8e4m3⟩
  | .local _ .vmem, ⟨8, _⟩ => ⟨S256x1, .f32⟩
  | .local _ .smem, ⟨0, _⟩ => ⟨S1536, .i32⟩
  | .local _ .smem, ⟨1, _⟩ => ⟨S1536, .f32⟩
  | _, _ => ⟨S1536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 1 → Nat :=
  let c6_i32 : BitVec 32 := 6#32
  let c0_i32 : BitVec 32 := 0#32
  let c1_i32 : BitVec 32 := 1#32
  let arg11 : BitVec 32 := Scf.iv c0_i32 c1_i32 k0_t1
  let v37 : BitVec 32 := Scalar.muli c6_i32 arg11
  let v38 : Index := Scalar.indexCast v37
  ![v38.toNat]
def k0_off2 (v42 : BitVec 32) : Fin 2 → Nat :=
  let v43 : Index := Scalar.indexCast v42
  let c0_25 : Index := 0#32
  ![v43.toNat, 0]

def k0_chk1 (v42 : BitVec 32) : Prop :=
  (∀ a, (k0_off2 v42) a + S1x1024.size a ≤ S1536x1024.size a)
theorem k0_off2_inb : ∀ (v42 : BitVec 32) (k0_hw1 : k0_chk1 v42), ∀ a, (k0_off2 v42) a + S1x1024.size a ≤ S1536x1024.size a := fun v42 k0_hw1 => k0_hw1

def k0_off3 (k0_t1 : Fin k0_t1_loop.trips) : Fin 1 → Nat :=
  let c6_i32_26 : BitVec 32 := 6#32
  let c0_i32 : BitVec 32 := 0#32
  let c1_i32 : BitVec 32 := 1#32
  let arg11 : BitVec 32 := Scf.iv c0_i32 c1_i32 k0_t1
  let v47 : BitVec 32 := Scalar.muli c6_i32_26 arg11
  let c1_i32_27 : BitVec 32 := 1#32
  let v48 : BitVec 32 := Scalar.addi v47 c1_i32_27
  let v49 : Index := Scalar.indexCast v48
  ![v49.toNat]
def k0_off4 (v54 : BitVec 32) : Fin 2 → Nat :=
  let v55 : Index := Scalar.indexCast v54
  let c0_30 : Index := 0#32
  ![v55.toNat, 0]

def k0_chk2 (v54 : BitVec 32) : Prop :=
  (∀ a, (k0_off4 v54) a + S1x1024.size a ≤ S1536x1024.size a)
theorem k0_off4_inb : ∀ (v54 : BitVec 32) (k0_hw2 : k0_chk2 v54), ∀ a, (k0_off4 v54) a + S1x1024.size a ≤ S1536x1024.size a := fun v54 k0_hw2 => k0_hw2

def k0_off5 (k0_t1 : Fin k0_t1_loop.trips) : Fin 1 → Nat :=
  let c6_i32_31 : BitVec 32 := 6#32
  let c0_i32 : BitVec 32 := 0#32
  let c1_i32 : BitVec 32 := 1#32
  let arg11 : BitVec 32 := Scf.iv c0_i32 c1_i32 k0_t1
  let v60 : BitVec 32 := Scalar.muli c6_i32_31 arg11
  let c2_i32 : BitVec 32 := 2#32
  let v61 : BitVec 32 := Scalar.addi v60 c2_i32
  let v62 : Index := Scalar.indexCast v61
  ![v62.toNat]
def k0_off6 (v67 : BitVec 32) : Fin 2 → Nat :=
  let v68 : Index := Scalar.indexCast v67
  let c0_34 : Index := 0#32
  ![v68.toNat, 0]

def k0_chk3 (v67 : BitVec 32) : Prop :=
  (∀ a, (k0_off6 v67) a + S1x1024.size a ≤ S1536x1024.size a)
theorem k0_off6_inb : ∀ (v67 : BitVec 32) (k0_hw3 : k0_chk3 v67), ∀ a, (k0_off6 v67) a + S1x1024.size a ≤ S1536x1024.size a := fun v67 k0_hw3 => k0_hw3

def k0_off7 (k0_t1 : Fin k0_t1_loop.trips) : Fin 1 → Nat :=
  let c6_i32_35 : BitVec 32 := 6#32
  let c0_i32 : BitVec 32 := 0#32
  let c1_i32 : BitVec 32 := 1#32
  let arg11 : BitVec 32 := Scf.iv c0_i32 c1_i32 k0_t1
  let v73 : BitVec 32 := Scalar.muli c6_i32_35 arg11
  let c3_i32 : BitVec 32 := 3#32
  let v74 : BitVec 32 := Scalar.addi v73 c3_i32
  let v75 : Index := Scalar.indexCast v74
  ![v75.toNat]
def k0_off8 (v80 : BitVec 32) : Fin 2 → Nat :=
  let v81 : Index := Scalar.indexCast v80
  let c0_38 : Index := 0#32
  ![v81.toNat, 0]

def k0_chk4 (v80 : BitVec 32) : Prop :=
  (∀ a, (k0_off8 v80) a + S1x1024.size a ≤ S1536x1024.size a)
theorem k0_off8_inb : ∀ (v80 : BitVec 32) (k0_hw4 : k0_chk4 v80), ∀ a, (k0_off8 v80) a + S1x1024.size a ≤ S1536x1024.size a := fun v80 k0_hw4 => k0_hw4

def k0_off9 (k0_t1 : Fin k0_t1_loop.trips) : Fin 1 → Nat :=
  let c6_i32_39 : BitVec 32 := 6#32
  let c0_i32 : BitVec 32 := 0#32
  let c1_i32 : BitVec 32 := 1#32
  let arg11 : BitVec 32 := Scf.iv c0_i32 c1_i32 k0_t1
  let v86 : BitVec 32 := Scalar.muli c6_i32_39 arg11
  let c4_i32 : BitVec 32 := 4#32
  let v87 : BitVec 32 := Scalar.addi v86 c4_i32
  let v88 : Index := Scalar.indexCast v87
  ![v88.toNat]
def k0_off10 (v93 : BitVec 32) : Fin 2 → Nat :=
  let v94 : Index := Scalar.indexCast v93
  let c0_42 : Index := 0#32
  ![v94.toNat, 0]

def k0_chk5 (v93 : BitVec 32) : Prop :=
  (∀ a, (k0_off10 v93) a + S1x1024.size a ≤ S1536x1024.size a)
theorem k0_off10_inb : ∀ (v93 : BitVec 32) (k0_hw5 : k0_chk5 v93), ∀ a, (k0_off10 v93) a + S1x1024.size a ≤ S1536x1024.size a := fun v93 k0_hw5 => k0_hw5

def k0_off11 (k0_t1 : Fin k0_t1_loop.trips) : Fin 1 → Nat :=
  let c6_i32_43 : BitVec 32 := 6#32
  let c0_i32 : BitVec 32 := 0#32
  let c1_i32 : BitVec 32 := 1#32
  let arg11 : BitVec 32 := Scf.iv c0_i32 c1_i32 k0_t1
  let v99 : BitVec 32 := Scalar.muli c6_i32_43 arg11
  let c5_i32 : BitVec 32 := 5#32
  let v100 : BitVec 32 := Scalar.addi v99 c5_i32
  let v101 : Index := Scalar.indexCast v100
  ![v101.toNat]
def k0_off12 (v106 : BitVec 32) : Fin 2 → Nat :=
  let v107 : Index := Scalar.indexCast v106
  let c0_46 : Index := 0#32
  ![v107.toNat, 0]

def k0_chk6 (v106 : BitVec 32) : Prop :=
  (∀ a, (k0_off12 v106) a + S1x1024.size a ≤ S1536x1024.size a)
theorem k0_off12_inb : ∀ (v106 : BitVec 32) (k0_hw6 : k0_chk6 v106), ∀ a, (k0_off12 v106) a + S1x1024.size a ≤ S1536x1024.size a := fun v106 k0_hw6 => k0_hw6

def k0_off13 (k0_t1 : Fin k0_t1_loop.trips) : Fin 2 → Nat :=
  let c0_i32 : BitVec 32 := 0#32
  let c1_i32 : BitVec 32 := 1#32
  let arg11 : BitVec 32 := Scf.iv c0_i32 c1_i32 k0_t1
  let v112 : Index := Scalar.indexCast arg11
  let c0_47 : Index := 0#32
  ![v112.toNat, 0]
abbrev stage0_0 : Fin 1 → Memref sig .tc .smem S1536 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x1024 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== CombineRefIdeal.lean ====
abbrev S1536 : Shape := ⟨1, ![1536]⟩
abbrev S1536x1024 : Shape := ⟨2, ![1536, 1024]⟩
abbrev S1024x4096 : Shape := ⟨2, ![1024, 4096]⟩
abbrev S1x4096 : Shape := ⟨2, ![1, 4096]⟩
abbrev S256x4096 : Shape := ⟨2, ![256, 4096]⟩
abbrev S256x6 : Shape := ⟨2, ![256, 6]⟩
abbrev S_ : Shape := ⟨0, ![]⟩
abbrev S256x6x1 : Shape := ⟨3, ![256, 6, 1]⟩
abbrev S256x6x1024 : Shape := ⟨3, ![256, 6, 1024]⟩
abbrev S256x1024 : Shape := ⟨2, ![256, 1024]⟩
abbrev S256x1 : Shape := ⟨2, ![256, 1]⟩
abbrev S256 : Shape := ⟨1, ![256]⟩

abbrev nBuf : Space → Nat
  | .hbm => 27
  | .vmem => 9
  | .smem => 0
  | _ => 0

abbrev bufTy : (tb : Table) → Fin (tcTables nBuf tb) → BufTy
  | .hbm, ⟨0, _⟩ => ⟨S1536, .i32⟩
  | .hbm, ⟨1, _⟩ => ⟨S1536, .f32⟩
  | .hbm, ⟨2, _⟩ => ⟨S1536x1024, .f32⟩
  | .hbm, ⟨3, _⟩ => ⟨S1024x4096, .fp8e4m3⟩
  | .hbm, ⟨4, _⟩ => ⟨S1x4096, .f32⟩
  | .hbm, ⟨5, _⟩ => ⟨S256x4096, .bf16⟩
  | .hbm, ⟨6, _⟩ => ⟨S256x4096, .f32⟩
  | .hbm, ⟨7, _⟩ => ⟨S256x6, .i32⟩
  | .hbm, ⟨8, _⟩ => ⟨S_, .i32⟩
  | .hbm, ⟨9, _⟩ => ⟨S256x6, .i32⟩
  | .hbm, ⟨10, _⟩ => ⟨S256x6, .i1⟩
  | .hbm, ⟨11, _⟩ => ⟨S_, .i32⟩
  | .hbm, ⟨12, _⟩ => ⟨S256x6, .i32⟩
  | .hbm, ⟨13, _⟩ => ⟨S256x6, .i32⟩
  | .hbm, ⟨14, _⟩ => ⟨S256x6, .i32⟩
  | .hbm, ⟨15, _⟩ => ⟨S256x6x1, .i32⟩
  | .hbm, ⟨16, _⟩ => ⟨S256x6x1024, .f32⟩
  | .hbm, ⟨17, _⟩ => ⟨S256x6, .f32⟩
  | .hbm, ⟨18, _⟩ => ⟨S256x6x1, .f32⟩
  | .hbm, ⟨19, _⟩ => ⟨S256x6x1024, .f32⟩
  | .hbm, ⟨20, _⟩ => ⟨S256x6x1024, .f32⟩
  | .hbm, ⟨21, _⟩ => ⟨S_, .f32⟩
  | .hbm, ⟨22, _⟩ => ⟨S256x1024, .f32⟩
  | .hbm, ⟨23, _⟩ => ⟨S256x4096, .bf16⟩
  | .hbm, ⟨24, _⟩ => ⟨S256x1024, .f32⟩
  | .hbm, ⟨25, _⟩ => ⟨S256x1024, .fp8e4m3⟩
  | .hbm, ⟨26, _⟩ => ⟨S256x1, .f32⟩
  | .local _ .vmem, ⟨0, _⟩ => ⟨S256x1024, .f32⟩
  | .local _ .vmem, ⟨1, _⟩ => ⟨S1024x4096, .fp8e4m3⟩
  | .local _ .vmem, ⟨2, _⟩ => ⟨S1x4096, .f32⟩
  | .local _ .vmem, ⟨3, _⟩ => ⟨S256x4096, .bf16⟩
  | .local _ .vmem, ⟨4, _⟩ => ⟨S256x4096, .f32⟩
  | .local _ .vmem, ⟨5, _⟩ => ⟨S256x4096, .bf16⟩
  | .local _ .vmem, ⟨6, _⟩ => ⟨S256x1024, .f32⟩
  | .local _ .vmem, ⟨7, _⟩ => ⟨S256x1024, .fp8e4m3⟩
  | .local _ .vmem, ⟨8, _⟩ => ⟨S256x1, .f32⟩
  | _, _ => ⟨S1536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Experts.lean ====
abbrev S32 : Shape := ⟨1, ![32]⟩
abbrev S1664x1024 : Shape := ⟨2, ![1664, 1024]⟩
abbrev S32x1024x1344 : Shape := ⟨3, ![32, 1024, 1344]⟩
abbrev S32x64x2688 : Shape := ⟨3, ![32, 64, 2688]⟩
abbrev S32x2688x512 : Shape := ⟨3, ![32, 2688, 512]⟩
abbrev S32x168x1024 : Shape := ⟨3, ![32, 168, 1024]⟩
abbrev S1664x2688 : Shape := ⟨2, ![1664, 2688]⟩
abbrev S1x1024x1344 : Shape := ⟨3, ![1, 1024, 1344]⟩
abbrev S1x64x2688 : Shape := ⟨3, ![1, 64, 2688]⟩
abbrev S1x2688x512 : Shape := ⟨3, ![1, 2688, 512]⟩
abbrev S1x168x1024 : Shape := ⟨3, ![1, 168, 1024]⟩
abbrev S128x2688 : Shape := ⟨2, ![128, 2688]⟩
abbrev S128x1344 : Shape := ⟨2, ![128, 1344]⟩
abbrev S64x2688 : Shape := ⟨2, ![64, 2688]⟩
abbrev S64x1280 : Shape := ⟨2, ![64, 1280]⟩
abbrev S64x128 : Shape := ⟨2, ![64, 128]⟩
abbrev S168x1024 : Shape := ⟨2, ![168, 1024]⟩
abbrev S1 : Shape := ⟨1, ![1]⟩
abbrev S128x1024 : Shape := ⟨2, ![128, 1024]⟩
abbrev S1x32x128 : Shape := ⟨3, ![1, 32, 128]⟩
abbrev S32x128 : Shape := ⟨2, ![32, 128]⟩
abbrev S8x128 : Shape := ⟨2, ![8, 128]⟩
abbrev S1x128 : Shape := ⟨2, ![1, 128]⟩
abbrev S16x128 : Shape := ⟨2, ![16, 128]⟩
abbrev S1024x128 : Shape := ⟨2, ![1024, 128]⟩
abbrev S1024x256 : Shape := ⟨2, ![1024, 256]⟩
abbrev S128x256 : Shape := ⟨2, ![128, 256]⟩
abbrev S128x128 : Shape := ⟨2, ![128, 128]⟩
abbrev S1x32x64 : Shape := ⟨3, ![1, 32, 64]⟩
abbrev S32x64 : Shape := ⟨2, ![32, 64]⟩
abbrev S8x64 : Shape := ⟨2, ![8, 64]⟩
abbrev S128x64 : Shape := ⟨2, ![128, 64]⟩
abbrev S16x1 : Shape := ⟨2, ![16, 1]⟩
abbrev S16x2688 : Shape := ⟨2, ![16, 2688]⟩
abbrev S112x2688 : Shape := ⟨2, ![112, 2688]⟩
abbrev S2688x128 : Shape := ⟨2, ![2688, 128]⟩
abbrev S2688x256 : Shape := ⟨2, ![2688, 256]⟩
abbrev S112x128 : Shape := ⟨2, ![112, 128]⟩
abbrev S1536x2688 : Shape := ⟨2, ![1536, 2688]⟩
abbrev S1536x1024 : Shape := ⟨2, ![1536, 1024]⟩

abbrev nBuf : Space → Nat
  | .hbm => 11
  | .vmem => 17
  | .smem => 4
  | _ => 0

abbrev bufTy : (tb : Table) → Fin (tcTables nBuf tb) → BufTy
  | .hbm, ⟨0, _⟩ => ⟨S1664x1024, .bf16⟩
  | .hbm, ⟨1, _⟩ => ⟨S32, .f32⟩
  | .hbm, ⟨2, _⟩ => ⟨S32, .f32⟩
  | .hbm, ⟨3, _⟩ => ⟨S32x1024x1344, .i8⟩
  | .hbm, ⟨4, _⟩ => ⟨S32x64x2688, .fp8e4m3⟩
  | .hbm, ⟨5, _⟩ => ⟨S32x2688x512, .i8⟩
  | .hbm, ⟨6, _⟩ => ⟨S32x168x1024, .fp8e4m3⟩
  | .hbm, ⟨7, _⟩ => ⟨S1664x2688, .bf16⟩
  | .hbm, ⟨8, _⟩ => ⟨S1664x1024, .f32⟩
  | .hbm, ⟨9, _⟩ => ⟨S1536x2688, .bf16⟩
  | .hbm, ⟨10, _⟩ => ⟨S1536x1024, .f32⟩
  | .local _ .vmem, ⟨0, _⟩ => ⟨S1664x1024, .bf16⟩
  | .local _ .vmem, ⟨1, _⟩ => ⟨S1x1024x1344, .i8⟩
  | .local _ .vmem, ⟨2, _⟩ => ⟨S1x1024x1344, .i8⟩
  | .local _ .vmem, ⟨3, _⟩ => ⟨S1x64x2688, .fp8e4m3⟩
  | .local _ .vmem, ⟨4, _⟩ => ⟨S1x64x2688, .fp8e4m3⟩
  | .local _ .vmem, ⟨5, _⟩ => ⟨S1x2688x512, .i8⟩
  | .local _ .vmem, ⟨6, _⟩ => ⟨S1x2688x512, .i8⟩
  | .local _ .vmem, ⟨7, _⟩ => ⟨S1x168x1024, .fp8e4m3⟩
  | .local _ .vmem, ⟨8, _⟩ => ⟨S1x168x1024, .fp8e4m3⟩
  | .local _ .vmem, ⟨9, _⟩ => ⟨S1664x2688, .bf16⟩
  | .local _ .vmem, ⟨10, _⟩ => ⟨S1664x1024, .f32⟩
  | .local _ .vmem, ⟨11, _⟩ => ⟨S128x2688, .bf16⟩
  | .local _ .vmem, ⟨12, _⟩ => ⟨S128x1344, .bf16⟩
  | .local _ .vmem, ⟨13, _⟩ => ⟨S64x2688, .f32⟩
  | .local _ .vmem, ⟨14, _⟩ => ⟨S64x1280, .f32⟩
  | .local _ .vmem, ⟨15, _⟩ => ⟨S64x128, .f32⟩
  | .local _ .vmem, ⟨16, _⟩ => ⟨S168x1024, .f32⟩
  | .local _ .smem, ⟨0, _⟩ => ⟨S32, .i32⟩
  | .local _ .smem, ⟨1, _⟩ => ⟨S32, .f32⟩
  | .local _ .smem, ⟨2, _⟩ => ⟨S32, .f32⟩
  | .local _ .smem, ⟨3, _⟩ => ⟨S1, .i32⟩
  | _, _ => ⟨S1664x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_arg0 : Ref sig .tc := ⟨.smem, 0, rfl⟩
abbrev cc0_stg0_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_stg1_0 : Ref sig .tc := ⟨.smem, 1, rfl⟩
abbrev cc0_stg2_0 : Ref sig .tc := ⟨.smem, 2, rfl⟩
abbrev cc0_scratch6 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v4 : Index := Scalar.indexCast arg0
  ![v4.toNat]
@[reducible] def k0_t1_loop (v3 : BitVec 32) (v5 : BitVec 32) : Scf.Loop 32 :=
  let c0_i32_33 : BitVec 32 := 0#32
  let v6 : BitVec 32 := Scalar.addi v3 v5
  let c0_i32_2 : BitVec 32 := 0#32
  let v9 : BitVec 1 := Scalar.cmpi .sgt v3 c0_i32_2
  let v10 : BitVec 32 := Scalar.extui v9
  let c0_i32_3 : BitVec 32 := 0#32
  let v11 : BitVec 1 := Scalar.cmpi .slt v3 c0_i32_3
  let v12 : BitVec 32 := Scalar.extui v11
  let v13 : BitVec 32 := Scalar.subi v10 v12
  let c16_i32 : BitVec 32 := 16#32
  let c0_i32_4 : BitVec 32 := 0#32
  let v14 : BitVec 1 := Scalar.cmpi .sgt c16_i32 c0_i32_4
  let v15 : BitVec 32 := Scalar.extui v14
  let c0_i32_5 : BitVec 32 := 0#32
  let v16 : BitVec 1 := Scalar.cmpi .slt c16_i32 c0_i32_5
  let v17 : BitVec 32 := Scalar.extui v16
  let v18 : BitVec 32 := Scalar.subi v15 v17
  let v19 : BitVec 1 := Scalar.cmpi .ne v13 v18
  let v20 : BitVec 32 := Scalar.remsi v3 c16_i32
  let c0_i32_6 : BitVec 32 := 0#32
  let v21 : BitVec 1 := Scalar.cmpi .ne v20 c0_i32_6
  let v22 : BitVec 1 := Scalar.andi v19 v21
  let v8 : BitVec 32 := Scalar.divsi v3 c16_i32
  let c1_i32 : BitVec 32 := 1#32
  let v23 : BitVec 32 := Scalar.subi v8 c1_i32
  let v24 : BitVec 32 := Scalar.select v22 v23 v8
  let c16_i32_7 : BitVec 32 := 16#32
  let v25 : BitVec 32 := Scalar.muli v24 c16_i32_7
  let v58 : BitVec 32 := Scalar.subi v6 v25
  let c128_i32 : BitVec 32 := 128#32
  let v59 : BitVec 32 := Scalar.addi v58 c128_i32
  let c1_i32_25 : BitVec 32 := 1#32
  let v60 : BitVec 32 := Scalar.subi v59 c1_i32_25
  let c0_i32_27 : BitVec 32 := 0#32
  let v62 : BitVec 1 := Scalar.cmpi .sgt v60 c0_i32_27
  let v63 : BitVec 32 := Scalar.extui v62
  let c0_i32_28 : BitVec 32 := 0#32
  let v64 : BitVec 1 := Scalar.cmpi .slt v60 c0_i32_28
  let v65 : BitVec 32 := Scalar.extui v64
  let v66 : BitVec 32 := Scalar.subi v63 v65
  let c128_i32_26 : BitVec 32 := 128#32
  let c0_i32_29 : BitVec 32 := 0#32
  let v67 : BitVec 1 := Scalar.cmpi .sgt c128_i32_26 c0_i32_29
  let v68 : BitVec 32 := Scalar.extui v67
  let c0_i32_30 : BitVec 32 := 0#32
  let v69 : BitVec 1 := Scalar.cmpi .slt c128_i32_26 c0_i32_30
  let v70 : BitVec 32 := Scalar.extui v69
  let v71 : BitVec 32 := Scalar.subi v68 v70
  let v72 : BitVec 1 := Scalar.cmpi .ne v66 v71
  let v73 : BitVec 32 := Scalar.remsi v60 c128_i32_26
  let c0_i32_31 : BitVec 32 := 0#32
  let v74 : BitVec 1 := Scalar.cmpi .ne v73 c0_i32_31
  let v75 : BitVec 1 := Scalar.andi v72 v74
  let v61 : BitVec 32 := Scalar.divsi v60 c128_i32_26
  let c1_i32_32 : BitVec 32 := 1#32
  let v76 : BitVec 32 := Scalar.subi v61 c1_i32_32
  let v77 : BitVec 32 := Scalar.select v75 v76 v61
  let v78 : BitVec 32 := Scalar.subi v77 c0_i32_33
  let c1_i32_35 : BitVec 32 := 1#32
  let v80 : BitVec 32 := Scalar.divsi v78 c1_i32_35
  let v81 : BitVec 32 := Scalar.muli v80 c1_i32_35
  let v82 : BitVec 32 := Scalar.addi c0_i32_33 v81
  let c1_i32_36 : BitVec 32 := 1#32
  ⟨c0_i32_33, v82, c1_i32_36⟩
def k0_cond2 (v5 : BitVec 32) : BitVec 1 :=
  let c0_i32_8 : BitVec 32 := 0#32
  let v26 : BitVec 1 := Scalar.cmpi .sgt v5 c0_i32_8
  let v27 : BitVec 32 := Scalar.extui v26
  let c0_i32_9 : BitVec 32 := 0#32
  let v28 : BitVec 1 := Scalar.cmpi .ne v27 c0_i32_9
  v28

def k0_mult1 (v3 : BitVec 32) (v5 : BitVec 32) (k0_t1 : Fin (k0_t1_loop v3 v5).trips) : BitVec 32 :=
  let c0_i32_2 : BitVec 32 := 0#32
  let v9 : BitVec 1 := Scalar.cmpi .sgt v3 c0_i32_2
  let v10 : BitVec 32 := Scalar.extui v9
  let c0_i32_3 : BitVec 32 := 0#32
  let v11 : BitVec 1 := Scalar.cmpi .slt v3 c0_i32_3
  let v12 : BitVec 32 := Scalar.extui v11
  let v13 : BitVec 32 := Scalar.subi v10 v12
  let c16_i32 : BitVec 32 := 16#32
  let c0_i32_4 : BitVec 32 := 0#32
  let v14 : BitVec 1 := Scalar.cmpi .sgt c16_i32 c0_i32_4
  let v15 : BitVec 32 := Scalar.extui v14
  let c0_i32_5 : BitVec 32 := 0#32
  let v16 : BitVec 1 := Scalar.cmpi .slt c16_i32 c0_i32_5
  let v17 : BitVec 32 := Scalar.extui v16
  let v18 : BitVec 32 := Scalar.subi v15 v17
  let v19 : BitVec 1 := Scalar.cmpi .ne v13 v18
  let v20 : BitVec 32 := Scalar.remsi v3 c16_i32
  let c0_i32_6 : BitVec 32 := 0#32
  let v21 : BitVec 1 := Scalar.cmpi .ne v20 c0_i32_6
  let v22 : BitVec 1 := Scalar.andi v19 v21
  let v8 : BitVec 32 := Scalar.divsi v3 c16_i32
  let c1_i32 : BitVec 32 := 1#32
  let v23 : BitVec 32 := Scalar.subi v8 c1_i32
  let v24 : BitVec 32 := Scalar.select v22 v23 v8
  let c16_i32_7 : BitVec 32 := 16#32
  let v25 : BitVec 32 := Scalar.muli v24 c16_i32_7
  let c0_i32_33 : BitVec 32 := 0#32
  let c1_i32_36 : BitVec 32 := 1#32
  let arg18 : BitVec 32 := Scf.iv c0_i32_33 c1_i32_36 k0_t1
  let c128_i32_38 : BitVec 32 := 128#32
  let v85 : BitVec 32 := Scalar.muli arg18 c128_i32_38
  let v86 : BitVec 32 := Scalar.addi v25 v85
  v86
def k0_off2 (v3 : BitVec 32) (v5 : BitVec 32) (k0_t1 : Fin (k0_t1_loop v3 v5).trips) : Fin 2 → Nat :=
  let c0_i32_2 : BitVec 32 := 0#32
  let v9 : BitVec 1 := Scalar.cmpi .sgt v3 c0_i32_2
  let v10 : BitVec 32 := Scalar.extui v9
  let c0_i32_3 : BitVec 32 := 0#32
  let v11 : BitVec 1 := Scalar.cmpi .slt v3 c0_i32_3
  let v12 : BitVec 32 := Scalar.extui v11
  let v13 : BitVec 32 := Scalar.subi v10 v12
  let c16_i32 : BitVec 32 := 16#32
  let c0_i32_4 : BitVec 32 := 0#32
  let v14 : BitVec 1 := Scalar.cmpi .sgt c16_i32 c0_i32_4
  let v15 : BitVec 32 := Scalar.extui v14
  let c0_i32_5 : BitVec 32 := 0#32
  let v16 : BitVec 1 := Scalar.cmpi .slt c16_i32 c0_i32_5
  let v17 : BitVec 32 := Scalar.extui v16
  let v18 : BitVec 32 := Scalar.subi v15 v17
  let v19 : BitVec 1 := Scalar.cmpi .ne v13 v18
  let v20 : BitVec 32 := Scalar.remsi v3 c16_i32
  let c0_i32_6 : BitVec 32 := 0#32
  let v21 : BitVec 1 := Scalar.cmpi .ne v20 c0_i32_6
  let v22 : BitVec 1 := Scalar.andi v19 v21
  let v8 : BitVec 32 := Scalar.divsi v3 c16_i32
  let c1_i32 : BitVec 32 := 1#32
  let v23 : BitVec 32 := Scalar.subi v8 c1_i32
  let v24 : BitVec 32 := Scalar.select v22 v23 v8
  let c16_i32_7 : BitVec 32 := 16#32
  let v25 : BitVec 32 := Scalar.muli v24 c16_i32_7
  let c0_i32_33 : BitVec 32 := 0#32
  let c1_i32_36 : BitVec 32 := 1#32
  let arg18 : BitVec 32 := Scf.iv c0_i32_33 c1_i32_36 k0_t1
  let c128_i32_38 : BitVec 32 := 128#32
  let v85 : BitVec 32 := Scalar.muli arg18 c128_i32_38
  let v86 : BitVec 32 := Scalar.addi v25 v85
  let v87 : BitVec 32 := v86
  let v88 : Index := Scalar.indexCast v87
  let c0_39 : Index := 0#32
  ![v88.toNat, 0]
def k0_off3 (i : grid0.Coords) : Fin 1 → Nat :=
  let arg0 : BitVec 32 := BitVec.ofNat 32 (i 0).val
  let v90 : Index := Scalar.indexCast arg0
  ![v90.toNat]
@[reducible] def k0_t2_loop : Scf.Loop 32 :=
  let c0_i32_41 : BitVec 32 := 0#32
  let c10_i32 : BitVec 32 := 10#32
  let v94 : BitVec 32 := Scalar.addi c0_i32_41 c10_i32
  let c1_i32_42 : BitVec 32 := 1#32
  ⟨c0_i32_41, v94, c1_i32_42⟩
def k0_mult2 (k0_t2 : Fin k0_t2_loop.trips) : BitVec 32 :=
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  v1001
def k0_off4 (k0_t2 : Fin k0_t2_loop.trips) : Fin 3 → Nat :=
  let c0_354 : Index := 0#32
  let c0_355 : Index := 0#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1003 : Index := Scalar.indexCast v1002
  ![0, 0, v1003.toNat]
def k0_off5 (k0_t2 : Fin k0_t2_loop.trips) : Fin 2 → Nat :=
  let c0_356 : Index := 0#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1007 : Index := Scalar.indexCast v1002
  ![0, v1007.toNat]
def k0_off6 (k0_t2 : Fin k0_t2_loop.trips) : Fin 2 → Nat :=
  let c1_357 : Index := 1#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1012 : Index := Scalar.indexCast v1002
  ![1, v1012.toNat]
def k0_off7 (k0_t2 : Fin k0_t2_loop.trips) : Fin 2 → Nat :=
  let c0_358 : Index := 0#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1018 : Index := Scalar.indexCast v1002
  ![0, v1018.toNat]
def k0_off8 (k0_t2 : Fin k0_t2_loop.trips) : Fin 2 → Nat :=
  let c1_359 : Index := 1#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1023 : Index := Scalar.indexCast v1002
  ![1, v1023.toNat]
def k0_off9 (k0_t2 : Fin k0_t2_loop.trips) : Fin 3 → Nat :=
  let c0_367 : Index := 0#32
  let c32_368 : Index := 32#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1051 : Index := Scalar.indexCast v1002
  ![0, 32, v1051.toNat]
def k0_off10 (k0_t2 : Fin k0_t2_loop.trips) : Fin 2 → Nat :=
  let c2_369 : Index := 2#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1055 : Index := Scalar.indexCast v1002
  ![2, v1055.toNat]
def k0_off11 (k0_t2 : Fin k0_t2_loop.trips) : Fin 2 → Nat :=
  let c3_370 : Index := 3#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1060 : Index := Scalar.indexCast v1002
  ![3, v1060.toNat]
def k0_off12 (k0_t2 : Fin k0_t2_loop.trips) : Fin 2 → Nat :=
  let c2_371 : Index := 2#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1066 : Index := Scalar.indexCast v1002
  ![2, v1066.toNat]
def k0_off13 (k0_t2 : Fin k0_t2_loop.trips) : Fin 2 → Nat :=
  let c3_372 : Index := 3#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1071 : Index := Scalar.indexCast v1002
  ![3, v1071.toNat]
def k0_off14 (k0_t2 : Fin k0_t2_loop.trips) : Fin 3 → Nat :=
  let c0_380 : Index := 0#32
  let c64_381 : Index := 64#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1099 : Index := Scalar.indexCast v1002
  ![0, 64, v1099.toNat]
def k0_off15 (k0_t2 : Fin k0_t2_loop.trips) : Fin 2 → Nat :=
  let c4_382 : Index := 4#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1103 : Index := Scalar.indexCast v1002
  ![4, v1103.toNat]
def k0_off16 (k0_t2 : Fin k0_t2_loop.trips) : Fin 2 → Nat :=
  let c5_383 : Index := 5#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1108 : Index := Scalar.indexCast v1002
  ![5, v1108.toNat]
def k0_off17 (k0_t2 : Fin k0_t2_loop.trips) : Fin 2 → Nat :=
  let c4_384 : Index := 4#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1114 : Index := Scalar.indexCast v1002
  ![4, v1114.toNat]
def k0_off18 (k0_t2 : Fin k0_t2_loop.trips) : Fin 2 → Nat :=
  let c5_385 : Index := 5#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1119 : Index := Scalar.indexCast v1002
  ![5, v1119.toNat]
def k0_off19 (k0_t2 : Fin k0_t2_loop.trips) : Fin 3 → Nat :=
  let c0_393 : Index := 0#32
  let c96_394 : Index := 96#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1147 : Index := Scalar.indexCast v1002
  ![0, 96, v1147.toNat]
def k0_off20 (k0_t2 : Fin k0_t2_loop.trips) : Fin 2 → Nat :=
  let c6_395 : Index := 6#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1151 : Index := Scalar.indexCast v1002
  ![6, v1151.toNat]
def k0_off21 (k0_t2 : Fin k0_t2_loop.trips) : Fin 2 → Nat :=
  let c7_396 : Index := 7#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1156 : Index := Scalar.indexCast v1002
  ![7, v1156.toNat]
def k0_off22 (k0_t2 : Fin k0_t2_loop.trips) : Fin 2 → Nat :=
  let c6_397 : Index := 6#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1162 : Index := Scalar.indexCast v1002
  ![6, v1162.toNat]
def k0_off23 (k0_t2 : Fin k0_t2_loop.trips) : Fin 2 → Nat :=
  let c7_398 : Index := 7#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1167 : Index := Scalar.indexCast v1002
  ![7, v1167.toNat]
def k0_off24 (k0_t2 : Fin k0_t2_loop.trips) : Fin 3 → Nat :=
  let c0_406 : Index := 0#32
  let c128_407 : Index := 128#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1195 : Index := Scalar.indexCast v1002
  ![0, 128, v1195.toNat]
def k0_off25 (k0_t2 : Fin k0_t2_loop.trips) : Fin 2 → Nat :=
  let c8_408 : Index := 8#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1199 : Index := Scalar.indexCast v1002
  ![8, v1199.toNat]
def k0_off26 (k0_t2 : Fin k0_t2_loop.trips) : Fin 2 → Nat :=
  let c9_409 : Index := 9#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1204 : Index := Scalar.indexCast v1002
  ![9, v1204.toNat]
def k0_off27 (k0_t2 : Fin k0_t2_loop.trips) : Fin 2 → Nat :=
  let c8_410 : Index := 8#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1210 : Index := Scalar.indexCast v1002
  ![8, v1210.toNat]
def k0_off28 (k0_t2 : Fin k0_t2_loop.trips) : Fin 2 → Nat :=
  let c9_411 : Index := 9#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1215 : Index := Scalar.indexCast v1002
  ![9, v1215.toNat]
def k0_off29 (k0_t2 : Fin k0_t2_loop.trips) : Fin 3 → Nat :=
  let c0_419 : Index := 0#32
  let c160_420 : Index := 160#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1243 : Index := Scalar.indexCast v1002
  ![0, 160, v1243.toNat]
def k0_off30 (k0_t2 : Fin k0_t2_loop.trips) : Fin 2 → Nat :=
  let c10_421 : Index := 10#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1247 : Index := Scalar.indexCast v1002
  ![10, v1247.toNat]
def k0_off31 (k0_t2 : Fin k0_t2_loop.trips) : Fin 2 → Nat :=
  let c11_422 : Index := 11#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1252 : Index := Scalar.indexCast v1002
  ![11, v1252.toNat]
def k0_off32 (k0_t2 : Fin k0_t2_loop.trips) : Fin 2 → Nat :=
  let c10_423 : Index := 10#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1258 : Index := Scalar.indexCast v1002
  ![10, v1258.toNat]
def k0_off33 (k0_t2 : Fin k0_t2_loop.trips) : Fin 2 → Nat :=
  let c11_424 : Index := 11#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1263 : Index := Scalar.indexCast v1002
  ![11, v1263.toNat]
def k0_off34 (k0_t2 : Fin k0_t2_loop.trips) : Fin 3 → Nat :=
  let c0_432 : Index := 0#32
  let c192_433 : Index := 192#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1291 : Index := Scalar.indexCast v1002
  ![0, 192, v1291.toNat]
def k0_off35 (k0_t2 : Fin k0_t2_loop.trips) : Fin 2 → Nat :=
  let c12_434 : Index := 12#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1295 : Index := Scalar.indexCast v1002
  ![12, v1295.toNat]
def k0_off36 (k0_t2 : Fin k0_t2_loop.trips) : Fin 2 → Nat :=
  let c13_435 : Index := 13#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1300 : Index := Scalar.indexCast v1002
  ![13, v1300.toNat]
def k0_off37 (k0_t2 : Fin k0_t2_loop.trips) : Fin 2 → Nat :=
  let c12_436 : Index := 12#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1306 : Index := Scalar.indexCast v1002
  ![12, v1306.toNat]
def k0_off38 (k0_t2 : Fin k0_t2_loop.trips) : Fin 2 → Nat :=
  let c13_437 : Index := 13#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1311 : Index := Scalar.indexCast v1002
  ![13, v1311.toNat]
def k0_off39 (k0_t2 : Fin k0_t2_loop.trips) : Fin 3 → Nat :=
  let c0_445 : Index := 0#32
  let c224_446 : Index := 224#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1339 : Index := Scalar.indexCast v1002
  ![0, 224, v1339.toNat]
def k0_off40 (k0_t2 : Fin k0_t2_loop.trips) : Fin 2 → Nat :=
  let c14_447 : Index := 14#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1343 : Index := Scalar.indexCast v1002
  ![14, v1343.toNat]
def k0_off41 (k0_t2 : Fin k0_t2_loop.trips) : Fin 2 → Nat :=
  let c15_448 : Index := 15#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1348 : Index := Scalar.indexCast v1002
  ![15, v1348.toNat]
def k0_off42 (k0_t2 : Fin k0_t2_loop.trips) : Fin 2 → Nat :=
  let c14_449 : Index := 14#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1354 : Index := Scalar.indexCast v1002
  ![14, v1354.toNat]
def k0_off43 (k0_t2 : Fin k0_t2_loop.trips) : Fin 2 → Nat :=
  let c15_450 : Index := 15#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1359 : Index := Scalar.indexCast v1002
  ![15, v1359.toNat]
def k0_off44 (k0_t2 : Fin k0_t2_loop.trips) : Fin 3 → Nat :=
  let c0_458 : Index := 0#32
  let c256_459 : Index := 256#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1387 : Index := Scalar.indexCast v1002
  ![0, 256, v1387.toNat]
def k0_off45 (k0_t2 : Fin k0_t2_loop.trips) : Fin 2 → Nat :=
  let c16_460 : Index := 16#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1391 : Index := Scalar.indexCast v1002
  ![16, v1391.toNat]
def k0_off46 (k0_t2 : Fin k0_t2_loop.trips) : Fin 2 → Nat :=
  let c17_461 : Index := 17#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1396 : Index := Scalar.indexCast v1002
  ![17, v1396.toNat]
def k0_off47 (k0_t2 : Fin k0_t2_loop.trips) : Fin 2 → Nat :=
  let c16_462 : Index := 16#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1402 : Index := Scalar.indexCast v1002
  ![16, v1402.toNat]
def k0_off48 (k0_t2 : Fin k0_t2_loop.trips) : Fin 2 → Nat :=
  let c17_463 : Index := 17#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1407 : Index := Scalar.indexCast v1002
  ![17, v1407.toNat]
def k0_off49 (k0_t2 : Fin k0_t2_loop.trips) : Fin 3 → Nat :=
  let c0_471 : Index := 0#32
  let c288_472 : Index := 288#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1435 : Index := Scalar.indexCast v1002
  ![0, 288, v1435.toNat]
def k0_off50 (k0_t2 : Fin k0_t2_loop.trips) : Fin 2 → Nat :=
  let c18_473 : Index := 18#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1439 : Index := Scalar.indexCast v1002
  ![18, v1439.toNat]
def k0_off51 (k0_t2 : Fin k0_t2_loop.trips) : Fin 2 → Nat :=
  let c19_474 : Index := 19#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1444 : Index := Scalar.indexCast v1002
  ![19, v1444.toNat]
def k0_off52 (k0_t2 : Fin k0_t2_loop.trips) : Fin 2 → Nat :=
  let c18_475 : Index := 18#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1450 : Index := Scalar.indexCast v1002
  ![18, v1450.toNat]
def k0_off53 (k0_t2 : Fin k0_t2_loop.trips) : Fin 2 → Nat :=
  let c19_476 : Index := 19#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1455 : Index := Scalar.indexCast v1002
  ![19, v1455.toNat]
def k0_off54 (k0_t2 : Fin k0_t2_loop.trips) : Fin 3 → Nat :=
  let c0_484 : Index := 0#32
  let c320_485 : Index := 320#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1483 : Index := Scalar.indexCast v1002
  ![0, 320, v1483.toNat]
def k0_off55 (k0_t2 : Fin k0_t2_loop.trips) : Fin 2 → Nat :=
  let c20_486 : Index := 20#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1487 : Index := Scalar.indexCast v1002
  ![20, v1487.toNat]
def k0_off56 (k0_t2 : Fin k0_t2_loop.trips) : Fin 2 → Nat :=
  let c21_487 : Index := 21#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1492 : Index := Scalar.indexCast v1002
  ![21, v1492.toNat]
def k0_off57 (k0_t2 : Fin k0_t2_loop.trips) : Fin 2 → Nat :=
  let c20_488 : Index := 20#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1498 : Index := Scalar.indexCast v1002
  ![20, v1498.toNat]
def k0_off58 (k0_t2 : Fin k0_t2_loop.trips) : Fin 2 → Nat :=
  let c21_489 : Index := 21#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1503 : Index := Scalar.indexCast v1002
  ![21, v1503.toNat]
def k0_off59 (k0_t2 : Fin k0_t2_loop.trips) : Fin 3 → Nat :=
  let c0_497 : Index := 0#32
  let c352_498 : Index := 352#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1531 : Index := Scalar.indexCast v1002
  ![0, 352, v1531.toNat]
def k0_off60 (k0_t2 : Fin k0_t2_loop.trips) : Fin 2 → Nat :=
  let c22_499 : Index := 22#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1535 : Index := Scalar.indexCast v1002
  ![22, v1535.toNat]
def k0_off61 (k0_t2 : Fin k0_t2_loop.trips) : Fin 2 → Nat :=
  let c23_500 : Index := 23#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1540 : Index := Scalar.indexCast v1002
  ![23, v1540.toNat]
def k0_off62 (k0_t2 : Fin k0_t2_loop.trips) : Fin 2 → Nat :=
  let c22_501 : Index := 22#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1546 : Index := Scalar.indexCast v1002
  ![22, v1546.toNat]
def k0_off63 (k0_t2 : Fin k0_t2_loop.trips) : Fin 2 → Nat :=
  let c23_502 : Index := 23#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1551 : Index := Scalar.indexCast v1002
  ![23, v1551.toNat]
def k0_off64 (k0_t2 : Fin k0_t2_loop.trips) : Fin 3 → Nat :=
  let c0_510 : Index := 0#32
  let c384_511 : Index := 384#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1579 : Index := Scalar.indexCast v1002
  ![0, 384, v1579.toNat]
def k0_off65 (k0_t2 : Fin k0_t2_loop.trips) : Fin 2 → Nat :=
  let c24_512 : Index := 24#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1583 : Index := Scalar.indexCast v1002
  ![24, v1583.toNat]
def k0_off66 (k0_t2 : Fin k0_t2_loop.trips) : Fin 2 → Nat :=
  let c25_513 : Index := 25#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1588 : Index := Scalar.indexCast v1002
  ![25, v1588.toNat]
def k0_off67 (k0_t2 : Fin k0_t2_loop.trips) : Fin 2 → Nat :=
  let c24_514 : Index := 24#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1594 : Index := Scalar.indexCast v1002
  ![24, v1594.toNat]
def k0_off68 (k0_t2 : Fin k0_t2_loop.trips) : Fin 2 → Nat :=
  let c25_515 : Index := 25#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1599 : Index := Scalar.indexCast v1002
  ![25, v1599.toNat]
def k0_off69 (k0_t2 : Fin k0_t2_loop.trips) : Fin 3 → Nat :=
  let c0_523 : Index := 0#32
  let c416_524 : Index := 416#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1627 : Index := Scalar.indexCast v1002
  ![0, 416, v1627.toNat]
def k0_off70 (k0_t2 : Fin k0_t2_loop.trips) : Fin 2 → Nat :=
  let c26_525 : Index := 26#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1631 : Index := Scalar.indexCast v1002
  ![26, v1631.toNat]
def k0_off71 (k0_t2 : Fin k0_t2_loop.trips) : Fin 2 → Nat :=
  let c27_526 : Index := 27#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1636 : Index := Scalar.indexCast v1002
  ![27, v1636.toNat]
def k0_off72 (k0_t2 : Fin k0_t2_loop.trips) : Fin 2 → Nat :=
  let c26_527 : Index := 26#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1642 : Index := Scalar.indexCast v1002
  ![26, v1642.toNat]
def k0_off73 (k0_t2 : Fin k0_t2_loop.trips) : Fin 2 → Nat :=
  let c27_528 : Index := 27#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1647 : Index := Scalar.indexCast v1002
  ![27, v1647.toNat]
def k0_off74 (k0_t2 : Fin k0_t2_loop.trips) : Fin 3 → Nat :=
  let c0_536 : Index := 0#32
  let c448_537 : Index := 448#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1675 : Index := Scalar.indexCast v1002
  ![0, 448, v1675.toNat]
def k0_off75 (k0_t2 : Fin k0_t2_loop.trips) : Fin 2 → Nat :=
  let c28_538 : Index := 28#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1679 : Index := Scalar.indexCast v1002
  ![28, v1679.toNat]
def k0_off76 (k0_t2 : Fin k0_t2_loop.trips) : Fin 2 → Nat :=
  let c29_539 : Index := 29#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1684 : Index := Scalar.indexCast v1002
  ![29, v1684.toNat]
def k0_off77 (k0_t2 : Fin k0_t2_loop.trips) : Fin 2 → Nat :=
  let c28_540 : Index := 28#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1690 : Index := Scalar.indexCast v1002
  ![28, v1690.toNat]
def k0_off78 (k0_t2 : Fin k0_t2_loop.trips) : Fin 2 → Nat :=
  let c29_541 : Index := 29#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1695 : Index := Scalar.indexCast v1002
  ![29, v1695.toNat]
def k0_off79 (k0_t2 : Fin k0_t2_loop.trips) : Fin 3 → Nat :=
  let c0_549 : Index := 0#32
  let c480_550 : Index := 480#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1723 : Index := Scalar.indexCast v1002
  ![0, 480, v1723.toNat]
def k0_off80 (k0_t2 : Fin k0_t2_loop.trips) : Fin 2 → Nat :=
  let c30_551 : Index := 30#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1727 : Index := Scalar.indexCast v1002
  ![30, v1727.toNat]
def k0_off81 (k0_t2 : Fin k0_t2_loop.trips) : Fin 2 → Nat :=
  let c31_552 : Index := 31#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1732 : Index := Scalar.indexCast v1002
  ![31, v1732.toNat]
def k0_off82 (k0_t2 : Fin k0_t2_loop.trips) : Fin 2 → Nat :=
  let c30_553 : Index := 30#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1738 : Index := Scalar.indexCast v1002
  ![30, v1738.toNat]
def k0_off83 (k0_t2 : Fin k0_t2_loop.trips) : Fin 2 → Nat :=
  let c31_554 : Index := 31#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1743 : Index := Scalar.indexCast v1002
  ![31, v1743.toNat]
def k0_off84 (k0_t2 : Fin k0_t2_loop.trips) : Fin 3 → Nat :=
  let c0_562 : Index := 0#32
  let c512_563 : Index := 512#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1771 : Index := Scalar.indexCast v1002
  ![0, 512, v1771.toNat]
def k0_off85 (k0_t2 : Fin k0_t2_loop.trips) : Fin 2 → Nat :=
  let c32_564 : Index := 32#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1775 : Index := Scalar.indexCast v1002
  ![32, v1775.toNat]
def k0_off86 (k0_t2 : Fin k0_t2_loop.trips) : Fin 2 → Nat :=
  let c33_565 : Index := 33#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1780 : Index := Scalar.indexCast v1002
  ![33, v1780.toNat]
def k0_off87 (k0_t2 : Fin k0_t2_loop.trips) : Fin 2 → Nat :=
  let c32_566 : Index := 32#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1786 : Index := Scalar.indexCast v1002
  ![32, v1786.toNat]
def k0_off88 (k0_t2 : Fin k0_t2_loop.trips) : Fin 2 → Nat :=
  let c33_567 : Index := 33#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1791 : Index := Scalar.indexCast v1002
  ![33, v1791.toNat]
def k0_off89 (k0_t2 : Fin k0_t2_loop.trips) : Fin 3 → Nat :=
  let c0_575 : Index := 0#32
  let c544_576 : Index := 544#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1819 : Index := Scalar.indexCast v1002
  ![0, 544, v1819.toNat]
def k0_off90 (k0_t2 : Fin k0_t2_loop.trips) : Fin 2 → Nat :=
  let c34_577 : Index := 34#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1823 : Index := Scalar.indexCast v1002
  ![34, v1823.toNat]
def k0_off91 (k0_t2 : Fin k0_t2_loop.trips) : Fin 2 → Nat :=
  let c35_578 : Index := 35#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1828 : Index := Scalar.indexCast v1002
  ![35, v1828.toNat]
def k0_off92 (k0_t2 : Fin k0_t2_loop.trips) : Fin 2 → Nat :=
  let c34_579 : Index := 34#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1834 : Index := Scalar.indexCast v1002
  ![34, v1834.toNat]
def k0_off93 (k0_t2 : Fin k0_t2_loop.trips) : Fin 2 → Nat :=
  let c35_580 : Index := 35#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1839 : Index := Scalar.indexCast v1002
  ![35, v1839.toNat]
def k0_off94 (k0_t2 : Fin k0_t2_loop.trips) : Fin 3 → Nat :=
  let c0_588 : Index := 0#32
  let c576_589 : Index := 576#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1867 : Index := Scalar.indexCast v1002
  ![0, 576, v1867.toNat]
def k0_off95 (k0_t2 : Fin k0_t2_loop.trips) : Fin 2 → Nat :=
  let c36_590 : Index := 36#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1871 : Index := Scalar.indexCast v1002
  ![36, v1871.toNat]
def k0_off96 (k0_t2 : Fin k0_t2_loop.trips) : Fin 2 → Nat :=
  let c37_591 : Index := 37#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1876 : Index := Scalar.indexCast v1002
  ![37, v1876.toNat]
def k0_off97 (k0_t2 : Fin k0_t2_loop.trips) : Fin 2 → Nat :=
  let c36_592 : Index := 36#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1882 : Index := Scalar.indexCast v1002
  ![36, v1882.toNat]
def k0_off98 (k0_t2 : Fin k0_t2_loop.trips) : Fin 2 → Nat :=
  let c37_593 : Index := 37#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1887 : Index := Scalar.indexCast v1002
  ![37, v1887.toNat]
def k0_off99 (k0_t2 : Fin k0_t2_loop.trips) : Fin 3 → Nat :=
  let c0_601 : Index := 0#32
  let c608_602 : Index := 608#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1915 : Index := Scalar.indexCast v1002
  ![0, 608, v1915.toNat]
def k0_off100 (k0_t2 : Fin k0_t2_loop.trips) : Fin 2 → Nat :=
  let c38_603 : Index := 38#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1919 : Index := Scalar.indexCast v1002
  ![38, v1919.toNat]
def k0_off101 (k0_t2 : Fin k0_t2_loop.trips) : Fin 2 → Nat :=
  let c39_604 : Index := 39#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1924 : Index := Scalar.indexCast v1002
  ![39, v1924.toNat]
def k0_off102 (k0_t2 : Fin k0_t2_loop.trips) : Fin 2 → Nat :=
  let c38_605 : Index := 38#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1930 : Index := Scalar.indexCast v1002
  ![38, v1930.toNat]
def k0_off103 (k0_t2 : Fin k0_t2_loop.trips) : Fin 2 → Nat :=
  let c39_606 : Index := 39#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1935 : Index := Scalar.indexCast v1002
  ![39, v1935.toNat]
def k0_off104 (k0_t2 : Fin k0_t2_loop.trips) : Fin 3 → Nat :=
  let c0_614 : Index := 0#32
  let c640_615 : Index := 640#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1963 : Index := Scalar.indexCast v1002
  ![0, 640, v1963.toNat]
def k0_off105 (k0_t2 : Fin k0_t2_loop.trips) : Fin 2 → Nat :=
  let c40_616 : Index := 40#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1967 : Index := Scalar.indexCast v1002
  ![40, v1967.toNat]
def k0_off106 (k0_t2 : Fin k0_t2_loop.trips) : Fin 2 → Nat :=
  let c41_617 : Index := 41#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1972 : Index := Scalar.indexCast v1002
  ![41, v1972.toNat]
def k0_off107 (k0_t2 : Fin k0_t2_loop.trips) : Fin 2 → Nat :=
  let c40_618 : Index := 40#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1978 : Index := Scalar.indexCast v1002
  ![40, v1978.toNat]
def k0_off108 (k0_t2 : Fin k0_t2_loop.trips) : Fin 2 → Nat :=
  let c41_619 : Index := 41#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v1983 : Index := Scalar.indexCast v1002
  ![41, v1983.toNat]
def k0_off109 (k0_t2 : Fin k0_t2_loop.trips) : Fin 3 → Nat :=
  let c0_627 : Index := 0#32
  let c672_628 : Index := 672#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2011 : Index := Scalar.indexCast v1002
  ![0, 672, v2011.toNat]
def k0_off110 (k0_t2 : Fin k0_t2_loop.trips) : Fin 2 → Nat :=
  let c42_629 : Index := 42#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2015 : Index := Scalar.indexCast v1002
  ![42, v2015.toNat]
def k0_off111 (k0_t2 : Fin k0_t2_loop.trips) : Fin 2 → Nat :=
  let c43_630 : Index := 43#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2020 : Index := Scalar.indexCast v1002
  ![43, v2020.toNat]
def k0_off112 (k0_t2 : Fin k0_t2_loop.trips) : Fin 2 → Nat :=
  let c42_631 : Index := 42#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2026 : Index := Scalar.indexCast v1002
  ![42, v2026.toNat]
def k0_off113 (k0_t2 : Fin k0_t2_loop.trips) : Fin 2 → Nat :=
  let c43_632 : Index := 43#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2031 : Index := Scalar.indexCast v1002
  ![43, v2031.toNat]
def k0_off114 (k0_t2 : Fin k0_t2_loop.trips) : Fin 3 → Nat :=
  let c0_640 : Index := 0#32
  let c704_641 : Index := 704#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2059 : Index := Scalar.indexCast v1002
  ![0, 704, v2059.toNat]
def k0_off115 (k0_t2 : Fin k0_t2_loop.trips) : Fin 2 → Nat :=
  let c44_642 : Index := 44#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2063 : Index := Scalar.indexCast v1002
  ![44, v2063.toNat]
def k0_off116 (k0_t2 : Fin k0_t2_loop.trips) : Fin 2 → Nat :=
  let c45_643 : Index := 45#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2068 : Index := Scalar.indexCast v1002
  ![45, v2068.toNat]
def k0_off117 (k0_t2 : Fin k0_t2_loop.trips) : Fin 2 → Nat :=
  let c44_644 : Index := 44#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2074 : Index := Scalar.indexCast v1002
  ![44, v2074.toNat]
def k0_off118 (k0_t2 : Fin k0_t2_loop.trips) : Fin 2 → Nat :=
  let c45_645 : Index := 45#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2079 : Index := Scalar.indexCast v1002
  ![45, v2079.toNat]
def k0_off119 (k0_t2 : Fin k0_t2_loop.trips) : Fin 3 → Nat :=
  let c0_653 : Index := 0#32
  let c736_654 : Index := 736#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2107 : Index := Scalar.indexCast v1002
  ![0, 736, v2107.toNat]
def k0_off120 (k0_t2 : Fin k0_t2_loop.trips) : Fin 2 → Nat :=
  let c46_655 : Index := 46#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2111 : Index := Scalar.indexCast v1002
  ![46, v2111.toNat]
def k0_off121 (k0_t2 : Fin k0_t2_loop.trips) : Fin 2 → Nat :=
  let c47_656 : Index := 47#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2116 : Index := Scalar.indexCast v1002
  ![47, v2116.toNat]
def k0_off122 (k0_t2 : Fin k0_t2_loop.trips) : Fin 2 → Nat :=
  let c46_657 : Index := 46#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2122 : Index := Scalar.indexCast v1002
  ![46, v2122.toNat]
def k0_off123 (k0_t2 : Fin k0_t2_loop.trips) : Fin 2 → Nat :=
  let c47_658 : Index := 47#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2127 : Index := Scalar.indexCast v1002
  ![47, v2127.toNat]
def k0_off124 (k0_t2 : Fin k0_t2_loop.trips) : Fin 3 → Nat :=
  let c0_666 : Index := 0#32
  let c768_667 : Index := 768#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2155 : Index := Scalar.indexCast v1002
  ![0, 768, v2155.toNat]
def k0_off125 (k0_t2 : Fin k0_t2_loop.trips) : Fin 2 → Nat :=
  let c48_668 : Index := 48#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2159 : Index := Scalar.indexCast v1002
  ![48, v2159.toNat]
def k0_off126 (k0_t2 : Fin k0_t2_loop.trips) : Fin 2 → Nat :=
  let c49_669 : Index := 49#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2164 : Index := Scalar.indexCast v1002
  ![49, v2164.toNat]
def k0_off127 (k0_t2 : Fin k0_t2_loop.trips) : Fin 2 → Nat :=
  let c48_670 : Index := 48#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2170 : Index := Scalar.indexCast v1002
  ![48, v2170.toNat]
def k0_off128 (k0_t2 : Fin k0_t2_loop.trips) : Fin 2 → Nat :=
  let c49_671 : Index := 49#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2175 : Index := Scalar.indexCast v1002
  ![49, v2175.toNat]
def k0_off129 (k0_t2 : Fin k0_t2_loop.trips) : Fin 3 → Nat :=
  let c0_679 : Index := 0#32
  let c800_680 : Index := 800#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2203 : Index := Scalar.indexCast v1002
  ![0, 800, v2203.toNat]
def k0_off130 (k0_t2 : Fin k0_t2_loop.trips) : Fin 2 → Nat :=
  let c50_681 : Index := 50#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2207 : Index := Scalar.indexCast v1002
  ![50, v2207.toNat]
def k0_off131 (k0_t2 : Fin k0_t2_loop.trips) : Fin 2 → Nat :=
  let c51_682 : Index := 51#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2212 : Index := Scalar.indexCast v1002
  ![51, v2212.toNat]
def k0_off132 (k0_t2 : Fin k0_t2_loop.trips) : Fin 2 → Nat :=
  let c50_683 : Index := 50#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2218 : Index := Scalar.indexCast v1002
  ![50, v2218.toNat]
def k0_off133 (k0_t2 : Fin k0_t2_loop.trips) : Fin 2 → Nat :=
  let c51_684 : Index := 51#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2223 : Index := Scalar.indexCast v1002
  ![51, v2223.toNat]
def k0_off134 (k0_t2 : Fin k0_t2_loop.trips) : Fin 3 → Nat :=
  let c0_692 : Index := 0#32
  let c832_693 : Index := 832#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2251 : Index := Scalar.indexCast v1002
  ![0, 832, v2251.toNat]
def k0_off135 (k0_t2 : Fin k0_t2_loop.trips) : Fin 2 → Nat :=
  let c52_694 : Index := 52#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2255 : Index := Scalar.indexCast v1002
  ![52, v2255.toNat]
def k0_off136 (k0_t2 : Fin k0_t2_loop.trips) : Fin 2 → Nat :=
  let c53_695 : Index := 53#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2260 : Index := Scalar.indexCast v1002
  ![53, v2260.toNat]
def k0_off137 (k0_t2 : Fin k0_t2_loop.trips) : Fin 2 → Nat :=
  let c52_696 : Index := 52#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2266 : Index := Scalar.indexCast v1002
  ![52, v2266.toNat]
def k0_off138 (k0_t2 : Fin k0_t2_loop.trips) : Fin 2 → Nat :=
  let c53_697 : Index := 53#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2271 : Index := Scalar.indexCast v1002
  ![53, v2271.toNat]
def k0_off139 (k0_t2 : Fin k0_t2_loop.trips) : Fin 3 → Nat :=
  let c0_705 : Index := 0#32
  let c864_706 : Index := 864#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2299 : Index := Scalar.indexCast v1002
  ![0, 864, v2299.toNat]
def k0_off140 (k0_t2 : Fin k0_t2_loop.trips) : Fin 2 → Nat :=
  let c54_707 : Index := 54#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2303 : Index := Scalar.indexCast v1002
  ![54, v2303.toNat]
def k0_off141 (k0_t2 : Fin k0_t2_loop.trips) : Fin 2 → Nat :=
  let c55_708 : Index := 55#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2308 : Index := Scalar.indexCast v1002
  ![55, v2308.toNat]
def k0_off142 (k0_t2 : Fin k0_t2_loop.trips) : Fin 2 → Nat :=
  let c54_709 : Index := 54#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2314 : Index := Scalar.indexCast v1002
  ![54, v2314.toNat]
def k0_off143 (k0_t2 : Fin k0_t2_loop.trips) : Fin 2 → Nat :=
  let c55_710 : Index := 55#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2319 : Index := Scalar.indexCast v1002
  ![55, v2319.toNat]
def k0_off144 (k0_t2 : Fin k0_t2_loop.trips) : Fin 3 → Nat :=
  let c0_718 : Index := 0#32
  let c896_719 : Index := 896#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2347 : Index := Scalar.indexCast v1002
  ![0, 896, v2347.toNat]
def k0_off145 (k0_t2 : Fin k0_t2_loop.trips) : Fin 2 → Nat :=
  let c56_720 : Index := 56#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2351 : Index := Scalar.indexCast v1002
  ![56, v2351.toNat]
def k0_off146 (k0_t2 : Fin k0_t2_loop.trips) : Fin 2 → Nat :=
  let c57_721 : Index := 57#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2356 : Index := Scalar.indexCast v1002
  ![57, v2356.toNat]
def k0_off147 (k0_t2 : Fin k0_t2_loop.trips) : Fin 2 → Nat :=
  let c56_722 : Index := 56#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2362 : Index := Scalar.indexCast v1002
  ![56, v2362.toNat]
def k0_off148 (k0_t2 : Fin k0_t2_loop.trips) : Fin 2 → Nat :=
  let c57_723 : Index := 57#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2367 : Index := Scalar.indexCast v1002
  ![57, v2367.toNat]
def k0_off149 (k0_t2 : Fin k0_t2_loop.trips) : Fin 3 → Nat :=
  let c0_731 : Index := 0#32
  let c928_732 : Index := 928#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2395 : Index := Scalar.indexCast v1002
  ![0, 928, v2395.toNat]
def k0_off150 (k0_t2 : Fin k0_t2_loop.trips) : Fin 2 → Nat :=
  let c58_733 : Index := 58#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2399 : Index := Scalar.indexCast v1002
  ![58, v2399.toNat]
def k0_off151 (k0_t2 : Fin k0_t2_loop.trips) : Fin 2 → Nat :=
  let c59_734 : Index := 59#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2404 : Index := Scalar.indexCast v1002
  ![59, v2404.toNat]
def k0_off152 (k0_t2 : Fin k0_t2_loop.trips) : Fin 2 → Nat :=
  let c58_735 : Index := 58#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2410 : Index := Scalar.indexCast v1002
  ![58, v2410.toNat]
def k0_off153 (k0_t2 : Fin k0_t2_loop.trips) : Fin 2 → Nat :=
  let c59_736 : Index := 59#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2415 : Index := Scalar.indexCast v1002
  ![59, v2415.toNat]
def k0_off154 (k0_t2 : Fin k0_t2_loop.trips) : Fin 3 → Nat :=
  let c0_744 : Index := 0#32
  let c960_745 : Index := 960#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2443 : Index := Scalar.indexCast v1002
  ![0, 960, v2443.toNat]
def k0_off155 (k0_t2 : Fin k0_t2_loop.trips) : Fin 2 → Nat :=
  let c60_746 : Index := 60#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2447 : Index := Scalar.indexCast v1002
  ![60, v2447.toNat]
def k0_off156 (k0_t2 : Fin k0_t2_loop.trips) : Fin 2 → Nat :=
  let c61_747 : Index := 61#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2452 : Index := Scalar.indexCast v1002
  ![61, v2452.toNat]
def k0_off157 (k0_t2 : Fin k0_t2_loop.trips) : Fin 2 → Nat :=
  let c60_748 : Index := 60#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2458 : Index := Scalar.indexCast v1002
  ![60, v2458.toNat]
def k0_off158 (k0_t2 : Fin k0_t2_loop.trips) : Fin 2 → Nat :=
  let c61_749 : Index := 61#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2463 : Index := Scalar.indexCast v1002
  ![61, v2463.toNat]
def k0_off159 (k0_t2 : Fin k0_t2_loop.trips) : Fin 3 → Nat :=
  let c0_757 : Index := 0#32
  let c992_758 : Index := 992#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2491 : Index := Scalar.indexCast v1002
  ![0, 992, v2491.toNat]
def k0_off160 (k0_t2 : Fin k0_t2_loop.trips) : Fin 2 → Nat :=
  let c62_759 : Index := 62#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2495 : Index := Scalar.indexCast v1002
  ![62, v2495.toNat]
def k0_off161 (k0_t2 : Fin k0_t2_loop.trips) : Fin 2 → Nat :=
  let c63_760 : Index := 63#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2500 : Index := Scalar.indexCast v1002
  ![63, v2500.toNat]
def k0_off162 (k0_t2 : Fin k0_t2_loop.trips) : Fin 2 → Nat :=
  let c62_761 : Index := 62#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2506 : Index := Scalar.indexCast v1002
  ![62, v2506.toNat]
def k0_off163 (k0_t2 : Fin k0_t2_loop.trips) : Fin 2 → Nat :=
  let c63_762 : Index := 63#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2511 : Index := Scalar.indexCast v1002
  ![63, v2511.toNat]
def k0_off164 (k0_t2 : Fin k0_t2_loop.trips) : Fin 2 → Nat :=
  let c0_772 : Index := 0#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2550 : Index := Scalar.indexCast v1002
  ![0, v2550.toNat]
def k0_off165 (k0_t2 : Fin k0_t2_loop.trips) : Fin 2 → Nat :=
  let c0_773 : Index := 0#32
  let c0_i32_41 : BitVec 32 := 0#32
  let c1_i32_42 : BitVec 32 := 1#32
  let arg20 : BitVec 32 := Scf.iv c0_i32_41 c1_i32_42 k0_t2
  let c128_i32_353 : BitVec 32 := 128#32
  let v1001 : BitVec 32 := Scalar.muli arg20 c128_i32_353
  let v1002 : BitVec 32 := v1001
  let v2555 : Index := Scalar.indexCast v1002
  ![0, v2555.toNat]
def k0_off166 (v3 : BitVec 32) (v5 : BitVec 32) (k0_t1 : Fin (k0_t1_loop v3 v5).trips) : Fin 2 → Nat :=
  let c0_i32_2 : BitVec 32 := 0#32
  let v9 : BitVec 1 := Scalar.cmpi .sgt v3 c0_i32_2
  let v10 : BitVec 32 := Scalar.extui v9
  let c0_i32_3 : BitVec 32 := 0#32
  let v11 : BitVec 1 := Scalar.cmpi .slt v3 c0_i32_3
  let v12 : BitVec 32 := Scalar.extui v11
  let v13 : BitVec 32 := Scalar.subi v10 v12
  let c16_i32 : BitVec 32 := 16#32
  let c0_i32_4 : BitVec 32 := 0#32
  let v14 : BitVec 1 := Scalar.cmpi .sgt c16_i32 c0_i32_4
  let v15 : BitVec 32 := Scalar.extui v14
  let c0_i32_5 : BitVec 32 := 0#32
  let v16 : BitVec 1 := Scalar.cmpi .slt c16_i32 c0_i32_5
  let v17 : BitVec 32 := Scalar.extui v16
  let v18 : BitVec 32 := Scalar.subi v15 v17
  let v19 : BitVec 1 := Scalar.cmpi .ne v13 v18
  let v20 : BitVec 32 := Scalar.remsi v3 c16_i32
  let c0_i32_6 : BitVec 32 := 0#32
  let v21 : BitVec 1 := Scalar.cmpi .ne v20 c0_i32_6
  let v22 : BitVec 1 := Scalar.andi v19 v21
  let v8 : BitVec 32 := Scalar.divsi v3 c16_i32
  let c1_i32 : BitVec 32 := 1#32
  let v23 : BitVec 32 := Scalar.subi v8 c1_i32
  let v24 : BitVec 32 := Scalar.select v22 v23 v8
  let c16_i32_7 : BitVec 32 := 16#32
  let v25 : BitVec 32 := Scalar.muli v24 c16_i32_7
  let c0_i32_33 : BitVec 32 := 0#32
  let c1_i32_36 : BitVec 32 := 1#32
  let arg18 : BitVec 32 := Scf.iv c0_i32_33 c1_i32_36 k0_t1
  let c128_i32_38 : BitVec 32 := 128#32
  let v85 : BitVec 32 := Scalar.muli arg18 c128_i32_38
  let v86 : BitVec 32 := Scalar.addi v25 v85
  let v87 : BitVec 32 := v86
  let v985 : Index := Scalar.indexCast v87
  let c0_339 : Index := 0#32
  ![v985.toNat, 0]
def k0_mult3 (v3 : BitVec 32) (v5 : BitVec 32) (k0_t1 : Fin (k0_t1_loop v3 v5).trips) : BitVec 32 :=
  let c0_i32_2 : BitVec 32 := 0#32
  let v9 : BitVec 1 := Scalar.cmpi .sgt v3 c0_i32_2
  let v10 : BitVec 32 := Scalar.extui v9
  let c0_i32_3 : BitVec 32 := 0#32
  let v11 : BitVec 1 := Scalar.cmpi .slt v3 c0_i32_3
  let v12 : BitVec 32 := Scalar.extui v11
  let v13 : BitVec 32 := Scalar.subi v10 v12
  let c16_i32 : BitVec 32 := 16#32
  let c0_i32_4 : BitVec 32 := 0#32
  let v14 : BitVec 1 := Scalar.cmpi .sgt c16_i32 c0_i32_4
  let v15 : BitVec 32 := Scalar.extui v14
  let c0_i32_5 : BitVec 32 := 0#32
  let v16 : BitVec 1 := Scalar.cmpi .slt c16_i32 c0_i32_5
  let v17 : BitVec 32 := Scalar.extui v16
  let v18 : BitVec 32 := Scalar.subi v15 v17
  let v19 : BitVec 1 := Scalar.cmpi .ne v13 v18
  let v20 : BitVec 32 := Scalar.remsi v3 c16_i32
  let c0_i32_6 : BitVec 32 := 0#32
  let v21 : BitVec 1 := Scalar.cmpi .ne v20 c0_i32_6
  let v22 : BitVec 1 := Scalar.andi v19 v21
  let v8 : BitVec 32 := Scalar.divsi v3 c16_i32
  let c1_i32 : BitVec 32 := 1#32
  let v23 : BitVec 32 := Scalar.subi v8 c1_i32
  let v24 : BitVec 32 := Scalar.select v22 v23 v8
  let c16_i32_7 : BitVec 32 := 16#32
  let v25 : BitVec 32 := Scalar.muli v24 c16_i32_7
  let c0_i32_33 : BitVec 32 := 0#32
  let c1_i32_36 : BitVec 32 := 1#32
  let arg18 : BitVec 32 := Scf.iv c0_i32_33 c1_i32_36 k0_t1
  let c128_i32_38 : BitVec 32 := 128#32
  let v85 : BitVec 32 := Scalar.muli arg18 c128_i32_38
  let v86 : BitVec 32 := Scalar.addi v25 v85
  let v87 : BitVec 32 := v86
  let c16_i32_345 : BitVec 32 := 16#32
  let v995 : BitVec 32 := Scalar.addi v87 c16_i32_345
  v995
def k0_off167 (v3 : BitVec 32) (v5 : BitVec 32) (k0_t1 : Fin (k0_t1_loop v3 v5).trips) : Fin 2 → Nat :=
  let c0_i32_2 : BitVec 32 := 0#32
  let v9 : BitVec 1 := Scalar.cmpi .sgt v3 c0_i32_2
  let v10 : BitVec 32 := Scalar.extui v9
  let c0_i32_3 : BitVec 32 := 0#32
  let v11 : BitVec 1 := Scalar.cmpi .slt v3 c0_i32_3
  let v12 : BitVec 32 := Scalar.extui v11
  let v13 : BitVec 32 := Scalar.subi v10 v12
  let c16_i32 : BitVec 32 := 16#32
  let c0_i32_4 : BitVec 32 := 0#32
  let v14 : BitVec 1 := Scalar.cmpi .sgt c16_i32 c0_i32_4
  let v15 : BitVec 32 := Scalar.extui v14
  let c0_i32_5 : BitVec 32 := 0#32
  let v16 : BitVec 1 := Scalar.cmpi .slt c16_i32 c0_i32_5
  let v17 : BitVec 32 := Scalar.extui v16
  let v18 : BitVec 32 := Scalar.subi v15 v17
  let v19 : BitVec 1 := Scalar.cmpi .ne v13 v18
  let v20 : BitVec 32 := Scalar.remsi v3 c16_i32
  let c0_i32_6 : BitVec 32 := 0#32
  let v21 : BitVec 1 := Scalar.cmpi .ne v20 c0_i32_6
  let v22 : BitVec 1 := Scalar.andi v19 v21
  let v8 : BitVec 32 := Scalar.divsi v3 c16_i32
  let c1_i32 : BitVec 32 := 1#32
  let v23 : BitVec 32 := Scalar.subi v8 c1_i32
  let v24 : BitVec 32 := Scalar.select v22 v23 v8
  let c16_i32_7 : BitVec 32 := 16#32
  let v25 : BitVec 32 := Scalar.muli v24 c16_i32_7
  let c0_i32_33 : BitVec 32 := 0#32
  let c1_i32_36 : BitVec 32 := 1#32
  let arg18 : BitVec 32 := Scf.iv c0_i32_33 c1_i32_36 k0_t1
  let c128_i32_38 : BitVec 32 := 128#32
  let v85 : BitVec 32 := Scalar.muli arg18 c128_i32_38
  let v86 : BitVec 32 := Scalar.addi v25 v85
  let v87 : BitVec 32 := v86
  let c16_i32_345 : BitVec 32 := 16#32
  let v995 : BitVec 32 := Scalar.addi v87 c16_i32_345
  let v996 : BitVec 32 := v995
  let v997 : Index := Scalar.indexCast v996
  let c0_346 : Index := 0#32
  ![v997.toNat, 0]
@[reducible] def k0_t3_loop : Scf.Loop 32 :=
  let c0_i32_348 : BitVec 32 := 0#32
  let c4_i32_349 : BitVec 32 := 4#32
  let v999 : BitVec 32 := Scalar.addi c0_i32_348 c4_i32_349
  let c1_i32_350 : BitVec 32 := 1#32
  ⟨c0_i32_348, v999, c1_i32_350⟩
def k0_mult4 (k0_t3 : Fin k0_t3_loop.trips) : BitVec 32 :=
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  v1001
def k0_mult5 (k0_t3 : Fin k0_t3_loop.trips) : BitVec 32 :=
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  v1004
def k0_off168 (k0_t3 : Fin k0_t3_loop.trips) : Fin 3 → Nat :=
  let c0_355 : Index := 0#32
  let c0_356 : Index := 0#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1006 : Index := Scalar.indexCast v1002
  ![0, 0, v1006.toNat]
def k0_off169 (k0_t3 : Fin k0_t3_loop.trips) : Fin 2 → Nat :=
  let c0_357 : Index := 0#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1010 : Index := Scalar.indexCast v1002
  ![0, v1010.toNat]
def k0_off170 (k0_t3 : Fin k0_t3_loop.trips) : Fin 2 → Nat :=
  let c1_358 : Index := 1#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1015 : Index := Scalar.indexCast v1002
  ![1, v1015.toNat]
def k0_off171 (k0_t3 : Fin k0_t3_loop.trips) : Fin 2 → Nat :=
  let c0_359 : Index := 0#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1021 : Index := Scalar.indexCast v1005
  ![0, v1021.toNat]
def k0_off172 (k0_t3 : Fin k0_t3_loop.trips) : Fin 2 → Nat :=
  let c1_360 : Index := 1#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1026 : Index := Scalar.indexCast v1005
  ![1, v1026.toNat]
def k0_off173 (k0_t3 : Fin k0_t3_loop.trips) : Fin 3 → Nat :=
  let c0_368 : Index := 0#32
  let c32_369 : Index := 32#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1054 : Index := Scalar.indexCast v1002
  ![0, 32, v1054.toNat]
def k0_off174 (k0_t3 : Fin k0_t3_loop.trips) : Fin 2 → Nat :=
  let c2_370 : Index := 2#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1058 : Index := Scalar.indexCast v1002
  ![2, v1058.toNat]
def k0_off175 (k0_t3 : Fin k0_t3_loop.trips) : Fin 2 → Nat :=
  let c3_371 : Index := 3#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1063 : Index := Scalar.indexCast v1002
  ![3, v1063.toNat]
def k0_off176 (k0_t3 : Fin k0_t3_loop.trips) : Fin 2 → Nat :=
  let c2_372 : Index := 2#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1069 : Index := Scalar.indexCast v1005
  ![2, v1069.toNat]
def k0_off177 (k0_t3 : Fin k0_t3_loop.trips) : Fin 2 → Nat :=
  let c3_373 : Index := 3#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1074 : Index := Scalar.indexCast v1005
  ![3, v1074.toNat]
def k0_off178 (k0_t3 : Fin k0_t3_loop.trips) : Fin 3 → Nat :=
  let c0_381 : Index := 0#32
  let c64_382 : Index := 64#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1102 : Index := Scalar.indexCast v1002
  ![0, 64, v1102.toNat]
def k0_off179 (k0_t3 : Fin k0_t3_loop.trips) : Fin 2 → Nat :=
  let c4_383 : Index := 4#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1106 : Index := Scalar.indexCast v1002
  ![4, v1106.toNat]
def k0_off180 (k0_t3 : Fin k0_t3_loop.trips) : Fin 2 → Nat :=
  let c5_384 : Index := 5#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1111 : Index := Scalar.indexCast v1002
  ![5, v1111.toNat]
def k0_off181 (k0_t3 : Fin k0_t3_loop.trips) : Fin 2 → Nat :=
  let c4_385 : Index := 4#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1117 : Index := Scalar.indexCast v1005
  ![4, v1117.toNat]
def k0_off182 (k0_t3 : Fin k0_t3_loop.trips) : Fin 2 → Nat :=
  let c5_386 : Index := 5#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1122 : Index := Scalar.indexCast v1005
  ![5, v1122.toNat]
def k0_off183 (k0_t3 : Fin k0_t3_loop.trips) : Fin 3 → Nat :=
  let c0_394 : Index := 0#32
  let c96_395 : Index := 96#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1150 : Index := Scalar.indexCast v1002
  ![0, 96, v1150.toNat]
def k0_off184 (k0_t3 : Fin k0_t3_loop.trips) : Fin 2 → Nat :=
  let c6_396 : Index := 6#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1154 : Index := Scalar.indexCast v1002
  ![6, v1154.toNat]
def k0_off185 (k0_t3 : Fin k0_t3_loop.trips) : Fin 2 → Nat :=
  let c7_397 : Index := 7#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1159 : Index := Scalar.indexCast v1002
  ![7, v1159.toNat]
def k0_off186 (k0_t3 : Fin k0_t3_loop.trips) : Fin 2 → Nat :=
  let c6_398 : Index := 6#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1165 : Index := Scalar.indexCast v1005
  ![6, v1165.toNat]
def k0_off187 (k0_t3 : Fin k0_t3_loop.trips) : Fin 2 → Nat :=
  let c7_399 : Index := 7#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1170 : Index := Scalar.indexCast v1005
  ![7, v1170.toNat]
def k0_off188 (k0_t3 : Fin k0_t3_loop.trips) : Fin 3 → Nat :=
  let c0_407 : Index := 0#32
  let c128_408 : Index := 128#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1198 : Index := Scalar.indexCast v1002
  ![0, 128, v1198.toNat]
def k0_off189 (k0_t3 : Fin k0_t3_loop.trips) : Fin 2 → Nat :=
  let c8_409 : Index := 8#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1202 : Index := Scalar.indexCast v1002
  ![8, v1202.toNat]
def k0_off190 (k0_t3 : Fin k0_t3_loop.trips) : Fin 2 → Nat :=
  let c9_410 : Index := 9#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1207 : Index := Scalar.indexCast v1002
  ![9, v1207.toNat]
def k0_off191 (k0_t3 : Fin k0_t3_loop.trips) : Fin 2 → Nat :=
  let c8_411 : Index := 8#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1213 : Index := Scalar.indexCast v1005
  ![8, v1213.toNat]
def k0_off192 (k0_t3 : Fin k0_t3_loop.trips) : Fin 2 → Nat :=
  let c9_412 : Index := 9#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1218 : Index := Scalar.indexCast v1005
  ![9, v1218.toNat]
def k0_off193 (k0_t3 : Fin k0_t3_loop.trips) : Fin 3 → Nat :=
  let c0_420 : Index := 0#32
  let c160_421 : Index := 160#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1246 : Index := Scalar.indexCast v1002
  ![0, 160, v1246.toNat]
def k0_off194 (k0_t3 : Fin k0_t3_loop.trips) : Fin 2 → Nat :=
  let c10_422 : Index := 10#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1250 : Index := Scalar.indexCast v1002
  ![10, v1250.toNat]
def k0_off195 (k0_t3 : Fin k0_t3_loop.trips) : Fin 2 → Nat :=
  let c11_423 : Index := 11#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1255 : Index := Scalar.indexCast v1002
  ![11, v1255.toNat]
def k0_off196 (k0_t3 : Fin k0_t3_loop.trips) : Fin 2 → Nat :=
  let c10_424 : Index := 10#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1261 : Index := Scalar.indexCast v1005
  ![10, v1261.toNat]
def k0_off197 (k0_t3 : Fin k0_t3_loop.trips) : Fin 2 → Nat :=
  let c11_425 : Index := 11#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1266 : Index := Scalar.indexCast v1005
  ![11, v1266.toNat]
def k0_off198 (k0_t3 : Fin k0_t3_loop.trips) : Fin 3 → Nat :=
  let c0_433 : Index := 0#32
  let c192_434 : Index := 192#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1294 : Index := Scalar.indexCast v1002
  ![0, 192, v1294.toNat]
def k0_off199 (k0_t3 : Fin k0_t3_loop.trips) : Fin 2 → Nat :=
  let c12_435 : Index := 12#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1298 : Index := Scalar.indexCast v1002
  ![12, v1298.toNat]
def k0_off200 (k0_t3 : Fin k0_t3_loop.trips) : Fin 2 → Nat :=
  let c13_436 : Index := 13#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1303 : Index := Scalar.indexCast v1002
  ![13, v1303.toNat]
def k0_off201 (k0_t3 : Fin k0_t3_loop.trips) : Fin 2 → Nat :=
  let c12_437 : Index := 12#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1309 : Index := Scalar.indexCast v1005
  ![12, v1309.toNat]
def k0_off202 (k0_t3 : Fin k0_t3_loop.trips) : Fin 2 → Nat :=
  let c13_438 : Index := 13#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1314 : Index := Scalar.indexCast v1005
  ![13, v1314.toNat]
def k0_off203 (k0_t3 : Fin k0_t3_loop.trips) : Fin 3 → Nat :=
  let c0_446 : Index := 0#32
  let c224_447 : Index := 224#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1342 : Index := Scalar.indexCast v1002
  ![0, 224, v1342.toNat]
def k0_off204 (k0_t3 : Fin k0_t3_loop.trips) : Fin 2 → Nat :=
  let c14_448 : Index := 14#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1346 : Index := Scalar.indexCast v1002
  ![14, v1346.toNat]
def k0_off205 (k0_t3 : Fin k0_t3_loop.trips) : Fin 2 → Nat :=
  let c15_449 : Index := 15#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1351 : Index := Scalar.indexCast v1002
  ![15, v1351.toNat]
def k0_off206 (k0_t3 : Fin k0_t3_loop.trips) : Fin 2 → Nat :=
  let c14_450 : Index := 14#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1357 : Index := Scalar.indexCast v1005
  ![14, v1357.toNat]
def k0_off207 (k0_t3 : Fin k0_t3_loop.trips) : Fin 2 → Nat :=
  let c15_451 : Index := 15#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1362 : Index := Scalar.indexCast v1005
  ![15, v1362.toNat]
def k0_off208 (k0_t3 : Fin k0_t3_loop.trips) : Fin 3 → Nat :=
  let c0_459 : Index := 0#32
  let c256_460 : Index := 256#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1390 : Index := Scalar.indexCast v1002
  ![0, 256, v1390.toNat]
def k0_off209 (k0_t3 : Fin k0_t3_loop.trips) : Fin 2 → Nat :=
  let c16_461 : Index := 16#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1394 : Index := Scalar.indexCast v1002
  ![16, v1394.toNat]
def k0_off210 (k0_t3 : Fin k0_t3_loop.trips) : Fin 2 → Nat :=
  let c17_462 : Index := 17#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1399 : Index := Scalar.indexCast v1002
  ![17, v1399.toNat]
def k0_off211 (k0_t3 : Fin k0_t3_loop.trips) : Fin 2 → Nat :=
  let c16_463 : Index := 16#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1405 : Index := Scalar.indexCast v1005
  ![16, v1405.toNat]
def k0_off212 (k0_t3 : Fin k0_t3_loop.trips) : Fin 2 → Nat :=
  let c17_464 : Index := 17#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1410 : Index := Scalar.indexCast v1005
  ![17, v1410.toNat]
def k0_off213 (k0_t3 : Fin k0_t3_loop.trips) : Fin 3 → Nat :=
  let c0_472 : Index := 0#32
  let c288_473 : Index := 288#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1438 : Index := Scalar.indexCast v1002
  ![0, 288, v1438.toNat]
def k0_off214 (k0_t3 : Fin k0_t3_loop.trips) : Fin 2 → Nat :=
  let c18_474 : Index := 18#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1442 : Index := Scalar.indexCast v1002
  ![18, v1442.toNat]
def k0_off215 (k0_t3 : Fin k0_t3_loop.trips) : Fin 2 → Nat :=
  let c19_475 : Index := 19#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1447 : Index := Scalar.indexCast v1002
  ![19, v1447.toNat]
def k0_off216 (k0_t3 : Fin k0_t3_loop.trips) : Fin 2 → Nat :=
  let c18_476 : Index := 18#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1453 : Index := Scalar.indexCast v1005
  ![18, v1453.toNat]
def k0_off217 (k0_t3 : Fin k0_t3_loop.trips) : Fin 2 → Nat :=
  let c19_477 : Index := 19#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1458 : Index := Scalar.indexCast v1005
  ![19, v1458.toNat]
def k0_off218 (k0_t3 : Fin k0_t3_loop.trips) : Fin 3 → Nat :=
  let c0_485 : Index := 0#32
  let c320_486 : Index := 320#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1486 : Index := Scalar.indexCast v1002
  ![0, 320, v1486.toNat]
def k0_off219 (k0_t3 : Fin k0_t3_loop.trips) : Fin 2 → Nat :=
  let c20_487 : Index := 20#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1490 : Index := Scalar.indexCast v1002
  ![20, v1490.toNat]
def k0_off220 (k0_t3 : Fin k0_t3_loop.trips) : Fin 2 → Nat :=
  let c21_488 : Index := 21#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1495 : Index := Scalar.indexCast v1002
  ![21, v1495.toNat]
def k0_off221 (k0_t3 : Fin k0_t3_loop.trips) : Fin 2 → Nat :=
  let c20_489 : Index := 20#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1501 : Index := Scalar.indexCast v1005
  ![20, v1501.toNat]
def k0_off222 (k0_t3 : Fin k0_t3_loop.trips) : Fin 2 → Nat :=
  let c21_490 : Index := 21#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1506 : Index := Scalar.indexCast v1005
  ![21, v1506.toNat]
def k0_off223 (k0_t3 : Fin k0_t3_loop.trips) : Fin 3 → Nat :=
  let c0_498 : Index := 0#32
  let c352_499 : Index := 352#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1534 : Index := Scalar.indexCast v1002
  ![0, 352, v1534.toNat]
def k0_off224 (k0_t3 : Fin k0_t3_loop.trips) : Fin 2 → Nat :=
  let c22_500 : Index := 22#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1538 : Index := Scalar.indexCast v1002
  ![22, v1538.toNat]
def k0_off225 (k0_t3 : Fin k0_t3_loop.trips) : Fin 2 → Nat :=
  let c23_501 : Index := 23#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1543 : Index := Scalar.indexCast v1002
  ![23, v1543.toNat]
def k0_off226 (k0_t3 : Fin k0_t3_loop.trips) : Fin 2 → Nat :=
  let c22_502 : Index := 22#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1549 : Index := Scalar.indexCast v1005
  ![22, v1549.toNat]
def k0_off227 (k0_t3 : Fin k0_t3_loop.trips) : Fin 2 → Nat :=
  let c23_503 : Index := 23#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1554 : Index := Scalar.indexCast v1005
  ![23, v1554.toNat]
def k0_off228 (k0_t3 : Fin k0_t3_loop.trips) : Fin 3 → Nat :=
  let c0_511 : Index := 0#32
  let c384_512 : Index := 384#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1582 : Index := Scalar.indexCast v1002
  ![0, 384, v1582.toNat]
def k0_off229 (k0_t3 : Fin k0_t3_loop.trips) : Fin 2 → Nat :=
  let c24_513 : Index := 24#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1586 : Index := Scalar.indexCast v1002
  ![24, v1586.toNat]
def k0_off230 (k0_t3 : Fin k0_t3_loop.trips) : Fin 2 → Nat :=
  let c25_514 : Index := 25#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1591 : Index := Scalar.indexCast v1002
  ![25, v1591.toNat]
def k0_off231 (k0_t3 : Fin k0_t3_loop.trips) : Fin 2 → Nat :=
  let c24_515 : Index := 24#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1597 : Index := Scalar.indexCast v1005
  ![24, v1597.toNat]
def k0_off232 (k0_t3 : Fin k0_t3_loop.trips) : Fin 2 → Nat :=
  let c25_516 : Index := 25#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1602 : Index := Scalar.indexCast v1005
  ![25, v1602.toNat]
def k0_off233 (k0_t3 : Fin k0_t3_loop.trips) : Fin 3 → Nat :=
  let c0_524 : Index := 0#32
  let c416_525 : Index := 416#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1630 : Index := Scalar.indexCast v1002
  ![0, 416, v1630.toNat]
def k0_off234 (k0_t3 : Fin k0_t3_loop.trips) : Fin 2 → Nat :=
  let c26_526 : Index := 26#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1634 : Index := Scalar.indexCast v1002
  ![26, v1634.toNat]
def k0_off235 (k0_t3 : Fin k0_t3_loop.trips) : Fin 2 → Nat :=
  let c27_527 : Index := 27#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1639 : Index := Scalar.indexCast v1002
  ![27, v1639.toNat]
def k0_off236 (k0_t3 : Fin k0_t3_loop.trips) : Fin 2 → Nat :=
  let c26_528 : Index := 26#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1645 : Index := Scalar.indexCast v1005
  ![26, v1645.toNat]
def k0_off237 (k0_t3 : Fin k0_t3_loop.trips) : Fin 2 → Nat :=
  let c27_529 : Index := 27#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1650 : Index := Scalar.indexCast v1005
  ![27, v1650.toNat]
def k0_off238 (k0_t3 : Fin k0_t3_loop.trips) : Fin 3 → Nat :=
  let c0_537 : Index := 0#32
  let c448_538 : Index := 448#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1678 : Index := Scalar.indexCast v1002
  ![0, 448, v1678.toNat]
def k0_off239 (k0_t3 : Fin k0_t3_loop.trips) : Fin 2 → Nat :=
  let c28_539 : Index := 28#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1682 : Index := Scalar.indexCast v1002
  ![28, v1682.toNat]
def k0_off240 (k0_t3 : Fin k0_t3_loop.trips) : Fin 2 → Nat :=
  let c29_540 : Index := 29#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1687 : Index := Scalar.indexCast v1002
  ![29, v1687.toNat]
def k0_off241 (k0_t3 : Fin k0_t3_loop.trips) : Fin 2 → Nat :=
  let c28_541 : Index := 28#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1693 : Index := Scalar.indexCast v1005
  ![28, v1693.toNat]
def k0_off242 (k0_t3 : Fin k0_t3_loop.trips) : Fin 2 → Nat :=
  let c29_542 : Index := 29#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1698 : Index := Scalar.indexCast v1005
  ![29, v1698.toNat]
def k0_off243 (k0_t3 : Fin k0_t3_loop.trips) : Fin 3 → Nat :=
  let c0_550 : Index := 0#32
  let c480_551 : Index := 480#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1726 : Index := Scalar.indexCast v1002
  ![0, 480, v1726.toNat]
def k0_off244 (k0_t3 : Fin k0_t3_loop.trips) : Fin 2 → Nat :=
  let c30_552 : Index := 30#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1730 : Index := Scalar.indexCast v1002
  ![30, v1730.toNat]
def k0_off245 (k0_t3 : Fin k0_t3_loop.trips) : Fin 2 → Nat :=
  let c31_553 : Index := 31#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1735 : Index := Scalar.indexCast v1002
  ![31, v1735.toNat]
def k0_off246 (k0_t3 : Fin k0_t3_loop.trips) : Fin 2 → Nat :=
  let c30_554 : Index := 30#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1741 : Index := Scalar.indexCast v1005
  ![30, v1741.toNat]
def k0_off247 (k0_t3 : Fin k0_t3_loop.trips) : Fin 2 → Nat :=
  let c31_555 : Index := 31#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1746 : Index := Scalar.indexCast v1005
  ![31, v1746.toNat]
def k0_off248 (k0_t3 : Fin k0_t3_loop.trips) : Fin 3 → Nat :=
  let c0_563 : Index := 0#32
  let c512_564 : Index := 512#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1774 : Index := Scalar.indexCast v1002
  ![0, 512, v1774.toNat]
def k0_off249 (k0_t3 : Fin k0_t3_loop.trips) : Fin 2 → Nat :=
  let c32_565 : Index := 32#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1778 : Index := Scalar.indexCast v1002
  ![32, v1778.toNat]
def k0_off250 (k0_t3 : Fin k0_t3_loop.trips) : Fin 2 → Nat :=
  let c33_566 : Index := 33#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1783 : Index := Scalar.indexCast v1002
  ![33, v1783.toNat]
def k0_off251 (k0_t3 : Fin k0_t3_loop.trips) : Fin 2 → Nat :=
  let c32_567 : Index := 32#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1789 : Index := Scalar.indexCast v1005
  ![32, v1789.toNat]
def k0_off252 (k0_t3 : Fin k0_t3_loop.trips) : Fin 2 → Nat :=
  let c33_568 : Index := 33#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1794 : Index := Scalar.indexCast v1005
  ![33, v1794.toNat]
def k0_off253 (k0_t3 : Fin k0_t3_loop.trips) : Fin 3 → Nat :=
  let c0_576 : Index := 0#32
  let c544_577 : Index := 544#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1822 : Index := Scalar.indexCast v1002
  ![0, 544, v1822.toNat]
def k0_off254 (k0_t3 : Fin k0_t3_loop.trips) : Fin 2 → Nat :=
  let c34_578 : Index := 34#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1826 : Index := Scalar.indexCast v1002
  ![34, v1826.toNat]
def k0_off255 (k0_t3 : Fin k0_t3_loop.trips) : Fin 2 → Nat :=
  let c35_579 : Index := 35#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1831 : Index := Scalar.indexCast v1002
  ![35, v1831.toNat]
def k0_off256 (k0_t3 : Fin k0_t3_loop.trips) : Fin 2 → Nat :=
  let c34_580 : Index := 34#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1837 : Index := Scalar.indexCast v1005
  ![34, v1837.toNat]
def k0_off257 (k0_t3 : Fin k0_t3_loop.trips) : Fin 2 → Nat :=
  let c35_581 : Index := 35#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1842 : Index := Scalar.indexCast v1005
  ![35, v1842.toNat]
def k0_off258 (k0_t3 : Fin k0_t3_loop.trips) : Fin 3 → Nat :=
  let c0_589 : Index := 0#32
  let c576_590 : Index := 576#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1870 : Index := Scalar.indexCast v1002
  ![0, 576, v1870.toNat]
def k0_off259 (k0_t3 : Fin k0_t3_loop.trips) : Fin 2 → Nat :=
  let c36_591 : Index := 36#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1874 : Index := Scalar.indexCast v1002
  ![36, v1874.toNat]
def k0_off260 (k0_t3 : Fin k0_t3_loop.trips) : Fin 2 → Nat :=
  let c37_592 : Index := 37#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1879 : Index := Scalar.indexCast v1002
  ![37, v1879.toNat]
def k0_off261 (k0_t3 : Fin k0_t3_loop.trips) : Fin 2 → Nat :=
  let c36_593 : Index := 36#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1885 : Index := Scalar.indexCast v1005
  ![36, v1885.toNat]
def k0_off262 (k0_t3 : Fin k0_t3_loop.trips) : Fin 2 → Nat :=
  let c37_594 : Index := 37#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1890 : Index := Scalar.indexCast v1005
  ![37, v1890.toNat]
def k0_off263 (k0_t3 : Fin k0_t3_loop.trips) : Fin 3 → Nat :=
  let c0_602 : Index := 0#32
  let c608_603 : Index := 608#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1918 : Index := Scalar.indexCast v1002
  ![0, 608, v1918.toNat]
def k0_off264 (k0_t3 : Fin k0_t3_loop.trips) : Fin 2 → Nat :=
  let c38_604 : Index := 38#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1922 : Index := Scalar.indexCast v1002
  ![38, v1922.toNat]
def k0_off265 (k0_t3 : Fin k0_t3_loop.trips) : Fin 2 → Nat :=
  let c39_605 : Index := 39#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1927 : Index := Scalar.indexCast v1002
  ![39, v1927.toNat]
def k0_off266 (k0_t3 : Fin k0_t3_loop.trips) : Fin 2 → Nat :=
  let c38_606 : Index := 38#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1933 : Index := Scalar.indexCast v1005
  ![38, v1933.toNat]
def k0_off267 (k0_t3 : Fin k0_t3_loop.trips) : Fin 2 → Nat :=
  let c39_607 : Index := 39#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1938 : Index := Scalar.indexCast v1005
  ![39, v1938.toNat]
def k0_off268 (k0_t3 : Fin k0_t3_loop.trips) : Fin 3 → Nat :=
  let c0_615 : Index := 0#32
  let c640_616 : Index := 640#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1966 : Index := Scalar.indexCast v1002
  ![0, 640, v1966.toNat]
def k0_off269 (k0_t3 : Fin k0_t3_loop.trips) : Fin 2 → Nat :=
  let c40_617 : Index := 40#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1970 : Index := Scalar.indexCast v1002
  ![40, v1970.toNat]
def k0_off270 (k0_t3 : Fin k0_t3_loop.trips) : Fin 2 → Nat :=
  let c41_618 : Index := 41#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v1975 : Index := Scalar.indexCast v1002
  ![41, v1975.toNat]
def k0_off271 (k0_t3 : Fin k0_t3_loop.trips) : Fin 2 → Nat :=
  let c40_619 : Index := 40#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1981 : Index := Scalar.indexCast v1005
  ![40, v1981.toNat]
def k0_off272 (k0_t3 : Fin k0_t3_loop.trips) : Fin 2 → Nat :=
  let c41_620 : Index := 41#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1986 : Index := Scalar.indexCast v1005
  ![41, v1986.toNat]
def k0_off273 (k0_t3 : Fin k0_t3_loop.trips) : Fin 3 → Nat :=
  let c0_628 : Index := 0#32
  let c672_629 : Index := 672#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2014 : Index := Scalar.indexCast v1002
  ![0, 672, v2014.toNat]
def k0_off274 (k0_t3 : Fin k0_t3_loop.trips) : Fin 2 → Nat :=
  let c42_630 : Index := 42#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2018 : Index := Scalar.indexCast v1002
  ![42, v2018.toNat]
def k0_off275 (k0_t3 : Fin k0_t3_loop.trips) : Fin 2 → Nat :=
  let c43_631 : Index := 43#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2023 : Index := Scalar.indexCast v1002
  ![43, v2023.toNat]
def k0_off276 (k0_t3 : Fin k0_t3_loop.trips) : Fin 2 → Nat :=
  let c42_632 : Index := 42#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2029 : Index := Scalar.indexCast v1005
  ![42, v2029.toNat]
def k0_off277 (k0_t3 : Fin k0_t3_loop.trips) : Fin 2 → Nat :=
  let c43_633 : Index := 43#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2034 : Index := Scalar.indexCast v1005
  ![43, v2034.toNat]
def k0_off278 (k0_t3 : Fin k0_t3_loop.trips) : Fin 3 → Nat :=
  let c0_641 : Index := 0#32
  let c704_642 : Index := 704#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2062 : Index := Scalar.indexCast v1002
  ![0, 704, v2062.toNat]
def k0_off279 (k0_t3 : Fin k0_t3_loop.trips) : Fin 2 → Nat :=
  let c44_643 : Index := 44#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2066 : Index := Scalar.indexCast v1002
  ![44, v2066.toNat]
def k0_off280 (k0_t3 : Fin k0_t3_loop.trips) : Fin 2 → Nat :=
  let c45_644 : Index := 45#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2071 : Index := Scalar.indexCast v1002
  ![45, v2071.toNat]
def k0_off281 (k0_t3 : Fin k0_t3_loop.trips) : Fin 2 → Nat :=
  let c44_645 : Index := 44#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2077 : Index := Scalar.indexCast v1005
  ![44, v2077.toNat]
def k0_off282 (k0_t3 : Fin k0_t3_loop.trips) : Fin 2 → Nat :=
  let c45_646 : Index := 45#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2082 : Index := Scalar.indexCast v1005
  ![45, v2082.toNat]
def k0_off283 (k0_t3 : Fin k0_t3_loop.trips) : Fin 3 → Nat :=
  let c0_654 : Index := 0#32
  let c736_655 : Index := 736#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2110 : Index := Scalar.indexCast v1002
  ![0, 736, v2110.toNat]
def k0_off284 (k0_t3 : Fin k0_t3_loop.trips) : Fin 2 → Nat :=
  let c46_656 : Index := 46#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2114 : Index := Scalar.indexCast v1002
  ![46, v2114.toNat]
def k0_off285 (k0_t3 : Fin k0_t3_loop.trips) : Fin 2 → Nat :=
  let c47_657 : Index := 47#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2119 : Index := Scalar.indexCast v1002
  ![47, v2119.toNat]
def k0_off286 (k0_t3 : Fin k0_t3_loop.trips) : Fin 2 → Nat :=
  let c46_658 : Index := 46#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2125 : Index := Scalar.indexCast v1005
  ![46, v2125.toNat]
def k0_off287 (k0_t3 : Fin k0_t3_loop.trips) : Fin 2 → Nat :=
  let c47_659 : Index := 47#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2130 : Index := Scalar.indexCast v1005
  ![47, v2130.toNat]
def k0_off288 (k0_t3 : Fin k0_t3_loop.trips) : Fin 3 → Nat :=
  let c0_667 : Index := 0#32
  let c768_668 : Index := 768#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2158 : Index := Scalar.indexCast v1002
  ![0, 768, v2158.toNat]
def k0_off289 (k0_t3 : Fin k0_t3_loop.trips) : Fin 2 → Nat :=
  let c48_669 : Index := 48#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2162 : Index := Scalar.indexCast v1002
  ![48, v2162.toNat]
def k0_off290 (k0_t3 : Fin k0_t3_loop.trips) : Fin 2 → Nat :=
  let c49_670 : Index := 49#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2167 : Index := Scalar.indexCast v1002
  ![49, v2167.toNat]
def k0_off291 (k0_t3 : Fin k0_t3_loop.trips) : Fin 2 → Nat :=
  let c48_671 : Index := 48#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2173 : Index := Scalar.indexCast v1005
  ![48, v2173.toNat]
def k0_off292 (k0_t3 : Fin k0_t3_loop.trips) : Fin 2 → Nat :=
  let c49_672 : Index := 49#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2178 : Index := Scalar.indexCast v1005
  ![49, v2178.toNat]
def k0_off293 (k0_t3 : Fin k0_t3_loop.trips) : Fin 3 → Nat :=
  let c0_680 : Index := 0#32
  let c800_681 : Index := 800#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2206 : Index := Scalar.indexCast v1002
  ![0, 800, v2206.toNat]
def k0_off294 (k0_t3 : Fin k0_t3_loop.trips) : Fin 2 → Nat :=
  let c50_682 : Index := 50#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2210 : Index := Scalar.indexCast v1002
  ![50, v2210.toNat]
def k0_off295 (k0_t3 : Fin k0_t3_loop.trips) : Fin 2 → Nat :=
  let c51_683 : Index := 51#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2215 : Index := Scalar.indexCast v1002
  ![51, v2215.toNat]
def k0_off296 (k0_t3 : Fin k0_t3_loop.trips) : Fin 2 → Nat :=
  let c50_684 : Index := 50#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2221 : Index := Scalar.indexCast v1005
  ![50, v2221.toNat]
def k0_off297 (k0_t3 : Fin k0_t3_loop.trips) : Fin 2 → Nat :=
  let c51_685 : Index := 51#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2226 : Index := Scalar.indexCast v1005
  ![51, v2226.toNat]
def k0_off298 (k0_t3 : Fin k0_t3_loop.trips) : Fin 3 → Nat :=
  let c0_693 : Index := 0#32
  let c832_694 : Index := 832#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2254 : Index := Scalar.indexCast v1002
  ![0, 832, v2254.toNat]
def k0_off299 (k0_t3 : Fin k0_t3_loop.trips) : Fin 2 → Nat :=
  let c52_695 : Index := 52#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2258 : Index := Scalar.indexCast v1002
  ![52, v2258.toNat]
def k0_off300 (k0_t3 : Fin k0_t3_loop.trips) : Fin 2 → Nat :=
  let c53_696 : Index := 53#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2263 : Index := Scalar.indexCast v1002
  ![53, v2263.toNat]
def k0_off301 (k0_t3 : Fin k0_t3_loop.trips) : Fin 2 → Nat :=
  let c52_697 : Index := 52#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2269 : Index := Scalar.indexCast v1005
  ![52, v2269.toNat]
def k0_off302 (k0_t3 : Fin k0_t3_loop.trips) : Fin 2 → Nat :=
  let c53_698 : Index := 53#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2274 : Index := Scalar.indexCast v1005
  ![53, v2274.toNat]
def k0_off303 (k0_t3 : Fin k0_t3_loop.trips) : Fin 3 → Nat :=
  let c0_706 : Index := 0#32
  let c864_707 : Index := 864#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2302 : Index := Scalar.indexCast v1002
  ![0, 864, v2302.toNat]
def k0_off304 (k0_t3 : Fin k0_t3_loop.trips) : Fin 2 → Nat :=
  let c54_708 : Index := 54#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2306 : Index := Scalar.indexCast v1002
  ![54, v2306.toNat]
def k0_off305 (k0_t3 : Fin k0_t3_loop.trips) : Fin 2 → Nat :=
  let c55_709 : Index := 55#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2311 : Index := Scalar.indexCast v1002
  ![55, v2311.toNat]
def k0_off306 (k0_t3 : Fin k0_t3_loop.trips) : Fin 2 → Nat :=
  let c54_710 : Index := 54#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2317 : Index := Scalar.indexCast v1005
  ![54, v2317.toNat]
def k0_off307 (k0_t3 : Fin k0_t3_loop.trips) : Fin 2 → Nat :=
  let c55_711 : Index := 55#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2322 : Index := Scalar.indexCast v1005
  ![55, v2322.toNat]
def k0_off308 (k0_t3 : Fin k0_t3_loop.trips) : Fin 3 → Nat :=
  let c0_719 : Index := 0#32
  let c896_720 : Index := 896#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2350 : Index := Scalar.indexCast v1002
  ![0, 896, v2350.toNat]
def k0_off309 (k0_t3 : Fin k0_t3_loop.trips) : Fin 2 → Nat :=
  let c56_721 : Index := 56#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2354 : Index := Scalar.indexCast v1002
  ![56, v2354.toNat]
def k0_off310 (k0_t3 : Fin k0_t3_loop.trips) : Fin 2 → Nat :=
  let c57_722 : Index := 57#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2359 : Index := Scalar.indexCast v1002
  ![57, v2359.toNat]
def k0_off311 (k0_t3 : Fin k0_t3_loop.trips) : Fin 2 → Nat :=
  let c56_723 : Index := 56#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2365 : Index := Scalar.indexCast v1005
  ![56, v2365.toNat]
def k0_off312 (k0_t3 : Fin k0_t3_loop.trips) : Fin 2 → Nat :=
  let c57_724 : Index := 57#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2370 : Index := Scalar.indexCast v1005
  ![57, v2370.toNat]
def k0_off313 (k0_t3 : Fin k0_t3_loop.trips) : Fin 3 → Nat :=
  let c0_732 : Index := 0#32
  let c928_733 : Index := 928#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2398 : Index := Scalar.indexCast v1002
  ![0, 928, v2398.toNat]
def k0_off314 (k0_t3 : Fin k0_t3_loop.trips) : Fin 2 → Nat :=
  let c58_734 : Index := 58#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2402 : Index := Scalar.indexCast v1002
  ![58, v2402.toNat]
def k0_off315 (k0_t3 : Fin k0_t3_loop.trips) : Fin 2 → Nat :=
  let c59_735 : Index := 59#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2407 : Index := Scalar.indexCast v1002
  ![59, v2407.toNat]
def k0_off316 (k0_t3 : Fin k0_t3_loop.trips) : Fin 2 → Nat :=
  let c58_736 : Index := 58#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2413 : Index := Scalar.indexCast v1005
  ![58, v2413.toNat]
def k0_off317 (k0_t3 : Fin k0_t3_loop.trips) : Fin 2 → Nat :=
  let c59_737 : Index := 59#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2418 : Index := Scalar.indexCast v1005
  ![59, v2418.toNat]
def k0_off318 (k0_t3 : Fin k0_t3_loop.trips) : Fin 3 → Nat :=
  let c0_745 : Index := 0#32
  let c960_746 : Index := 960#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2446 : Index := Scalar.indexCast v1002
  ![0, 960, v2446.toNat]
def k0_off319 (k0_t3 : Fin k0_t3_loop.trips) : Fin 2 → Nat :=
  let c60_747 : Index := 60#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2450 : Index := Scalar.indexCast v1002
  ![60, v2450.toNat]
def k0_off320 (k0_t3 : Fin k0_t3_loop.trips) : Fin 2 → Nat :=
  let c61_748 : Index := 61#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2455 : Index := Scalar.indexCast v1002
  ![61, v2455.toNat]
def k0_off321 (k0_t3 : Fin k0_t3_loop.trips) : Fin 2 → Nat :=
  let c60_749 : Index := 60#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2461 : Index := Scalar.indexCast v1005
  ![60, v2461.toNat]
def k0_off322 (k0_t3 : Fin k0_t3_loop.trips) : Fin 2 → Nat :=
  let c61_750 : Index := 61#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2466 : Index := Scalar.indexCast v1005
  ![61, v2466.toNat]
def k0_off323 (k0_t3 : Fin k0_t3_loop.trips) : Fin 3 → Nat :=
  let c0_758 : Index := 0#32
  let c992_759 : Index := 992#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2494 : Index := Scalar.indexCast v1002
  ![0, 992, v2494.toNat]
def k0_off324 (k0_t3 : Fin k0_t3_loop.trips) : Fin 2 → Nat :=
  let c62_760 : Index := 62#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2498 : Index := Scalar.indexCast v1002
  ![62, v2498.toNat]
def k0_off325 (k0_t3 : Fin k0_t3_loop.trips) : Fin 2 → Nat :=
  let c63_761 : Index := 63#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2503 : Index := Scalar.indexCast v1002
  ![63, v2503.toNat]
def k0_off326 (k0_t3 : Fin k0_t3_loop.trips) : Fin 2 → Nat :=
  let c62_762 : Index := 62#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2509 : Index := Scalar.indexCast v1005
  ![62, v2509.toNat]
def k0_off327 (k0_t3 : Fin k0_t3_loop.trips) : Fin 2 → Nat :=
  let c63_763 : Index := 63#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2514 : Index := Scalar.indexCast v1005
  ![63, v2514.toNat]
def k0_off328 (k0_t3 : Fin k0_t3_loop.trips) : Fin 3 → Nat :=
  let c0_771 : Index := 0#32
  let c1024 : Index := 1024#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2542 : Index := Scalar.indexCast v1002
  ![0, 1024, v2542.toNat]
def k0_off329 (k0_t3 : Fin k0_t3_loop.trips) : Fin 2 → Nat :=
  let c64_772 : Index := 64#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2546 : Index := Scalar.indexCast v1002
  ![64, v2546.toNat]
def k0_off330 (k0_t3 : Fin k0_t3_loop.trips) : Fin 2 → Nat :=
  let c65 : Index := 65#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2551 : Index := Scalar.indexCast v1002
  ![65, v2551.toNat]
def k0_off331 (k0_t3 : Fin k0_t3_loop.trips) : Fin 2 → Nat :=
  let c64_773 : Index := 64#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2557 : Index := Scalar.indexCast v1005
  ![64, v2557.toNat]
def k0_off332 (k0_t3 : Fin k0_t3_loop.trips) : Fin 2 → Nat :=
  let c65_774 : Index := 65#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2562 : Index := Scalar.indexCast v1005
  ![65, v2562.toNat]
def k0_off333 (k0_t3 : Fin k0_t3_loop.trips) : Fin 3 → Nat :=
  let c0_782 : Index := 0#32
  let c1056 : Index := 1056#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2590 : Index := Scalar.indexCast v1002
  ![0, 1056, v2590.toNat]
def k0_off334 (k0_t3 : Fin k0_t3_loop.trips) : Fin 2 → Nat :=
  let c66 : Index := 66#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2594 : Index := Scalar.indexCast v1002
  ![66, v2594.toNat]
def k0_off335 (k0_t3 : Fin k0_t3_loop.trips) : Fin 2 → Nat :=
  let c67 : Index := 67#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2599 : Index := Scalar.indexCast v1002
  ![67, v2599.toNat]
def k0_off336 (k0_t3 : Fin k0_t3_loop.trips) : Fin 2 → Nat :=
  let c66_783 : Index := 66#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2605 : Index := Scalar.indexCast v1005
  ![66, v2605.toNat]
def k0_off337 (k0_t3 : Fin k0_t3_loop.trips) : Fin 2 → Nat :=
  let c67_784 : Index := 67#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2610 : Index := Scalar.indexCast v1005
  ![67, v2610.toNat]
def k0_off338 (k0_t3 : Fin k0_t3_loop.trips) : Fin 3 → Nat :=
  let c0_792 : Index := 0#32
  let c1088 : Index := 1088#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2638 : Index := Scalar.indexCast v1002
  ![0, 1088, v2638.toNat]
def k0_off339 (k0_t3 : Fin k0_t3_loop.trips) : Fin 2 → Nat :=
  let c68 : Index := 68#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2642 : Index := Scalar.indexCast v1002
  ![68, v2642.toNat]
def k0_off340 (k0_t3 : Fin k0_t3_loop.trips) : Fin 2 → Nat :=
  let c69 : Index := 69#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2647 : Index := Scalar.indexCast v1002
  ![69, v2647.toNat]
def k0_off341 (k0_t3 : Fin k0_t3_loop.trips) : Fin 2 → Nat :=
  let c68_793 : Index := 68#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2653 : Index := Scalar.indexCast v1005
  ![68, v2653.toNat]
def k0_off342 (k0_t3 : Fin k0_t3_loop.trips) : Fin 2 → Nat :=
  let c69_794 : Index := 69#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2658 : Index := Scalar.indexCast v1005
  ![69, v2658.toNat]
def k0_off343 (k0_t3 : Fin k0_t3_loop.trips) : Fin 3 → Nat :=
  let c0_802 : Index := 0#32
  let c1120 : Index := 1120#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2686 : Index := Scalar.indexCast v1002
  ![0, 1120, v2686.toNat]
def k0_off344 (k0_t3 : Fin k0_t3_loop.trips) : Fin 2 → Nat :=
  let c70 : Index := 70#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2690 : Index := Scalar.indexCast v1002
  ![70, v2690.toNat]
def k0_off345 (k0_t3 : Fin k0_t3_loop.trips) : Fin 2 → Nat :=
  let c71 : Index := 71#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2695 : Index := Scalar.indexCast v1002
  ![71, v2695.toNat]
def k0_off346 (k0_t3 : Fin k0_t3_loop.trips) : Fin 2 → Nat :=
  let c70_803 : Index := 70#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2701 : Index := Scalar.indexCast v1005
  ![70, v2701.toNat]
def k0_off347 (k0_t3 : Fin k0_t3_loop.trips) : Fin 2 → Nat :=
  let c71_804 : Index := 71#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2706 : Index := Scalar.indexCast v1005
  ![71, v2706.toNat]
def k0_off348 (k0_t3 : Fin k0_t3_loop.trips) : Fin 3 → Nat :=
  let c0_812 : Index := 0#32
  let c1152 : Index := 1152#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2734 : Index := Scalar.indexCast v1002
  ![0, 1152, v2734.toNat]
def k0_off349 (k0_t3 : Fin k0_t3_loop.trips) : Fin 2 → Nat :=
  let c72 : Index := 72#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2738 : Index := Scalar.indexCast v1002
  ![72, v2738.toNat]
def k0_off350 (k0_t3 : Fin k0_t3_loop.trips) : Fin 2 → Nat :=
  let c73 : Index := 73#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2743 : Index := Scalar.indexCast v1002
  ![73, v2743.toNat]
def k0_off351 (k0_t3 : Fin k0_t3_loop.trips) : Fin 2 → Nat :=
  let c72_813 : Index := 72#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2749 : Index := Scalar.indexCast v1005
  ![72, v2749.toNat]
def k0_off352 (k0_t3 : Fin k0_t3_loop.trips) : Fin 2 → Nat :=
  let c73_814 : Index := 73#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2754 : Index := Scalar.indexCast v1005
  ![73, v2754.toNat]
def k0_off353 (k0_t3 : Fin k0_t3_loop.trips) : Fin 3 → Nat :=
  let c0_822 : Index := 0#32
  let c1184 : Index := 1184#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2782 : Index := Scalar.indexCast v1002
  ![0, 1184, v2782.toNat]
def k0_off354 (k0_t3 : Fin k0_t3_loop.trips) : Fin 2 → Nat :=
  let c74 : Index := 74#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2786 : Index := Scalar.indexCast v1002
  ![74, v2786.toNat]
def k0_off355 (k0_t3 : Fin k0_t3_loop.trips) : Fin 2 → Nat :=
  let c75 : Index := 75#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2791 : Index := Scalar.indexCast v1002
  ![75, v2791.toNat]
def k0_off356 (k0_t3 : Fin k0_t3_loop.trips) : Fin 2 → Nat :=
  let c74_823 : Index := 74#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2797 : Index := Scalar.indexCast v1005
  ![74, v2797.toNat]
def k0_off357 (k0_t3 : Fin k0_t3_loop.trips) : Fin 2 → Nat :=
  let c75_824 : Index := 75#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2802 : Index := Scalar.indexCast v1005
  ![75, v2802.toNat]
def k0_off358 (k0_t3 : Fin k0_t3_loop.trips) : Fin 3 → Nat :=
  let c0_832 : Index := 0#32
  let c1216 : Index := 1216#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2830 : Index := Scalar.indexCast v1002
  ![0, 1216, v2830.toNat]
def k0_off359 (k0_t3 : Fin k0_t3_loop.trips) : Fin 2 → Nat :=
  let c76 : Index := 76#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2834 : Index := Scalar.indexCast v1002
  ![76, v2834.toNat]
def k0_off360 (k0_t3 : Fin k0_t3_loop.trips) : Fin 2 → Nat :=
  let c77 : Index := 77#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2839 : Index := Scalar.indexCast v1002
  ![77, v2839.toNat]
def k0_off361 (k0_t3 : Fin k0_t3_loop.trips) : Fin 2 → Nat :=
  let c76_833 : Index := 76#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2845 : Index := Scalar.indexCast v1005
  ![76, v2845.toNat]
def k0_off362 (k0_t3 : Fin k0_t3_loop.trips) : Fin 2 → Nat :=
  let c77_834 : Index := 77#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2850 : Index := Scalar.indexCast v1005
  ![77, v2850.toNat]
def k0_off363 (k0_t3 : Fin k0_t3_loop.trips) : Fin 3 → Nat :=
  let c0_842 : Index := 0#32
  let c1248 : Index := 1248#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2878 : Index := Scalar.indexCast v1002
  ![0, 1248, v2878.toNat]
def k0_off364 (k0_t3 : Fin k0_t3_loop.trips) : Fin 2 → Nat :=
  let c78 : Index := 78#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2882 : Index := Scalar.indexCast v1002
  ![78, v2882.toNat]
def k0_off365 (k0_t3 : Fin k0_t3_loop.trips) : Fin 2 → Nat :=
  let c79 : Index := 79#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2887 : Index := Scalar.indexCast v1002
  ![79, v2887.toNat]
def k0_off366 (k0_t3 : Fin k0_t3_loop.trips) : Fin 2 → Nat :=
  let c78_843 : Index := 78#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2893 : Index := Scalar.indexCast v1005
  ![78, v2893.toNat]
def k0_off367 (k0_t3 : Fin k0_t3_loop.trips) : Fin 2 → Nat :=
  let c79_844 : Index := 79#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2898 : Index := Scalar.indexCast v1005
  ![79, v2898.toNat]
def k0_off368 (k0_t3 : Fin k0_t3_loop.trips) : Fin 3 → Nat :=
  let c0_852 : Index := 0#32
  let c1280_853 : Index := 1280#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2926 : Index := Scalar.indexCast v1002
  ![0, 1280, v2926.toNat]
def k0_off369 (k0_t3 : Fin k0_t3_loop.trips) : Fin 2 → Nat :=
  let c80 : Index := 80#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2930 : Index := Scalar.indexCast v1002
  ![80, v2930.toNat]
def k0_off370 (k0_t3 : Fin k0_t3_loop.trips) : Fin 2 → Nat :=
  let c81 : Index := 81#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2935 : Index := Scalar.indexCast v1002
  ![81, v2935.toNat]
def k0_off371 (k0_t3 : Fin k0_t3_loop.trips) : Fin 2 → Nat :=
  let c80_854 : Index := 80#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2941 : Index := Scalar.indexCast v1005
  ![80, v2941.toNat]
def k0_off372 (k0_t3 : Fin k0_t3_loop.trips) : Fin 2 → Nat :=
  let c81_855 : Index := 81#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2946 : Index := Scalar.indexCast v1005
  ![81, v2946.toNat]
def k0_off373 (k0_t3 : Fin k0_t3_loop.trips) : Fin 3 → Nat :=
  let c0_863 : Index := 0#32
  let c1312 : Index := 1312#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2974 : Index := Scalar.indexCast v1002
  ![0, 1312, v2974.toNat]
def k0_off374 (k0_t3 : Fin k0_t3_loop.trips) : Fin 2 → Nat :=
  let c82 : Index := 82#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2978 : Index := Scalar.indexCast v1002
  ![82, v2978.toNat]
def k0_off375 (k0_t3 : Fin k0_t3_loop.trips) : Fin 2 → Nat :=
  let c83 : Index := 83#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v2983 : Index := Scalar.indexCast v1002
  ![83, v2983.toNat]
def k0_off376 (k0_t3 : Fin k0_t3_loop.trips) : Fin 2 → Nat :=
  let c82_864 : Index := 82#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2989 : Index := Scalar.indexCast v1005
  ![82, v2989.toNat]
def k0_off377 (k0_t3 : Fin k0_t3_loop.trips) : Fin 2 → Nat :=
  let c83_865 : Index := 83#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2994 : Index := Scalar.indexCast v1005
  ![83, v2994.toNat]
def k0_off378 (k0_t3 : Fin k0_t3_loop.trips) : Fin 3 → Nat :=
  let c0_873 : Index := 0#32
  let c1344_874 : Index := 1344#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3022 : Index := Scalar.indexCast v1002
  ![0, 1344, v3022.toNat]
def k0_off379 (k0_t3 : Fin k0_t3_loop.trips) : Fin 2 → Nat :=
  let c84 : Index := 84#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3026 : Index := Scalar.indexCast v1002
  ![84, v3026.toNat]
def k0_off380 (k0_t3 : Fin k0_t3_loop.trips) : Fin 2 → Nat :=
  let c85 : Index := 85#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3031 : Index := Scalar.indexCast v1002
  ![85, v3031.toNat]
def k0_off381 (k0_t3 : Fin k0_t3_loop.trips) : Fin 2 → Nat :=
  let c84_875 : Index := 84#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3037 : Index := Scalar.indexCast v1005
  ![84, v3037.toNat]
def k0_off382 (k0_t3 : Fin k0_t3_loop.trips) : Fin 2 → Nat :=
  let c85_876 : Index := 85#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3042 : Index := Scalar.indexCast v1005
  ![85, v3042.toNat]
def k0_off383 (k0_t3 : Fin k0_t3_loop.trips) : Fin 3 → Nat :=
  let c0_884 : Index := 0#32
  let c1376 : Index := 1376#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3070 : Index := Scalar.indexCast v1002
  ![0, 1376, v3070.toNat]
def k0_off384 (k0_t3 : Fin k0_t3_loop.trips) : Fin 2 → Nat :=
  let c86 : Index := 86#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3074 : Index := Scalar.indexCast v1002
  ![86, v3074.toNat]
def k0_off385 (k0_t3 : Fin k0_t3_loop.trips) : Fin 2 → Nat :=
  let c87 : Index := 87#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3079 : Index := Scalar.indexCast v1002
  ![87, v3079.toNat]
def k0_off386 (k0_t3 : Fin k0_t3_loop.trips) : Fin 2 → Nat :=
  let c86_885 : Index := 86#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3085 : Index := Scalar.indexCast v1005
  ![86, v3085.toNat]
def k0_off387 (k0_t3 : Fin k0_t3_loop.trips) : Fin 2 → Nat :=
  let c87_886 : Index := 87#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3090 : Index := Scalar.indexCast v1005
  ![87, v3090.toNat]
def k0_off388 (k0_t3 : Fin k0_t3_loop.trips) : Fin 3 → Nat :=
  let c0_894 : Index := 0#32
  let c1408 : Index := 1408#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3118 : Index := Scalar.indexCast v1002
  ![0, 1408, v3118.toNat]
def k0_off389 (k0_t3 : Fin k0_t3_loop.trips) : Fin 2 → Nat :=
  let c88 : Index := 88#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3122 : Index := Scalar.indexCast v1002
  ![88, v3122.toNat]
def k0_off390 (k0_t3 : Fin k0_t3_loop.trips) : Fin 2 → Nat :=
  let c89 : Index := 89#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3127 : Index := Scalar.indexCast v1002
  ![89, v3127.toNat]
def k0_off391 (k0_t3 : Fin k0_t3_loop.trips) : Fin 2 → Nat :=
  let c88_895 : Index := 88#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3133 : Index := Scalar.indexCast v1005
  ![88, v3133.toNat]
def k0_off392 (k0_t3 : Fin k0_t3_loop.trips) : Fin 2 → Nat :=
  let c89_896 : Index := 89#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3138 : Index := Scalar.indexCast v1005
  ![89, v3138.toNat]
def k0_off393 (k0_t3 : Fin k0_t3_loop.trips) : Fin 3 → Nat :=
  let c0_904 : Index := 0#32
  let c1440 : Index := 1440#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3166 : Index := Scalar.indexCast v1002
  ![0, 1440, v3166.toNat]
def k0_off394 (k0_t3 : Fin k0_t3_loop.trips) : Fin 2 → Nat :=
  let c90 : Index := 90#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3170 : Index := Scalar.indexCast v1002
  ![90, v3170.toNat]
def k0_off395 (k0_t3 : Fin k0_t3_loop.trips) : Fin 2 → Nat :=
  let c91 : Index := 91#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3175 : Index := Scalar.indexCast v1002
  ![91, v3175.toNat]
def k0_off396 (k0_t3 : Fin k0_t3_loop.trips) : Fin 2 → Nat :=
  let c90_905 : Index := 90#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3181 : Index := Scalar.indexCast v1005
  ![90, v3181.toNat]
def k0_off397 (k0_t3 : Fin k0_t3_loop.trips) : Fin 2 → Nat :=
  let c91_906 : Index := 91#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3186 : Index := Scalar.indexCast v1005
  ![91, v3186.toNat]
def k0_off398 (k0_t3 : Fin k0_t3_loop.trips) : Fin 3 → Nat :=
  let c0_914 : Index := 0#32
  let c1472 : Index := 1472#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3214 : Index := Scalar.indexCast v1002
  ![0, 1472, v3214.toNat]
def k0_off399 (k0_t3 : Fin k0_t3_loop.trips) : Fin 2 → Nat :=
  let c92 : Index := 92#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3218 : Index := Scalar.indexCast v1002
  ![92, v3218.toNat]
def k0_off400 (k0_t3 : Fin k0_t3_loop.trips) : Fin 2 → Nat :=
  let c93 : Index := 93#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3223 : Index := Scalar.indexCast v1002
  ![93, v3223.toNat]
def k0_off401 (k0_t3 : Fin k0_t3_loop.trips) : Fin 2 → Nat :=
  let c92_915 : Index := 92#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3229 : Index := Scalar.indexCast v1005
  ![92, v3229.toNat]
def k0_off402 (k0_t3 : Fin k0_t3_loop.trips) : Fin 2 → Nat :=
  let c93_916 : Index := 93#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3234 : Index := Scalar.indexCast v1005
  ![93, v3234.toNat]
def k0_off403 (k0_t3 : Fin k0_t3_loop.trips) : Fin 3 → Nat :=
  let c0_924 : Index := 0#32
  let c1504 : Index := 1504#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3262 : Index := Scalar.indexCast v1002
  ![0, 1504, v3262.toNat]
def k0_off404 (k0_t3 : Fin k0_t3_loop.trips) : Fin 2 → Nat :=
  let c94 : Index := 94#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3266 : Index := Scalar.indexCast v1002
  ![94, v3266.toNat]
def k0_off405 (k0_t3 : Fin k0_t3_loop.trips) : Fin 2 → Nat :=
  let c95 : Index := 95#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3271 : Index := Scalar.indexCast v1002
  ![95, v3271.toNat]
def k0_off406 (k0_t3 : Fin k0_t3_loop.trips) : Fin 2 → Nat :=
  let c94_925 : Index := 94#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3277 : Index := Scalar.indexCast v1005
  ![94, v3277.toNat]
def k0_off407 (k0_t3 : Fin k0_t3_loop.trips) : Fin 2 → Nat :=
  let c95_926 : Index := 95#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3282 : Index := Scalar.indexCast v1005
  ![95, v3282.toNat]
def k0_off408 (k0_t3 : Fin k0_t3_loop.trips) : Fin 3 → Nat :=
  let c0_934 : Index := 0#32
  let c1536 : Index := 1536#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3310 : Index := Scalar.indexCast v1002
  ![0, 1536, v3310.toNat]
def k0_off409 (k0_t3 : Fin k0_t3_loop.trips) : Fin 2 → Nat :=
  let c96_935 : Index := 96#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3314 : Index := Scalar.indexCast v1002
  ![96, v3314.toNat]
def k0_off410 (k0_t3 : Fin k0_t3_loop.trips) : Fin 2 → Nat :=
  let c97 : Index := 97#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3319 : Index := Scalar.indexCast v1002
  ![97, v3319.toNat]
def k0_off411 (k0_t3 : Fin k0_t3_loop.trips) : Fin 2 → Nat :=
  let c96_936 : Index := 96#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3325 : Index := Scalar.indexCast v1005
  ![96, v3325.toNat]
def k0_off412 (k0_t3 : Fin k0_t3_loop.trips) : Fin 2 → Nat :=
  let c97_937 : Index := 97#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3330 : Index := Scalar.indexCast v1005
  ![97, v3330.toNat]
def k0_off413 (k0_t3 : Fin k0_t3_loop.trips) : Fin 3 → Nat :=
  let c0_945 : Index := 0#32
  let c1568 : Index := 1568#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3358 : Index := Scalar.indexCast v1002
  ![0, 1568, v3358.toNat]
def k0_off414 (k0_t3 : Fin k0_t3_loop.trips) : Fin 2 → Nat :=
  let c98 : Index := 98#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3362 : Index := Scalar.indexCast v1002
  ![98, v3362.toNat]
def k0_off415 (k0_t3 : Fin k0_t3_loop.trips) : Fin 2 → Nat :=
  let c99 : Index := 99#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3367 : Index := Scalar.indexCast v1002
  ![99, v3367.toNat]
def k0_off416 (k0_t3 : Fin k0_t3_loop.trips) : Fin 2 → Nat :=
  let c98_946 : Index := 98#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3373 : Index := Scalar.indexCast v1005
  ![98, v3373.toNat]
def k0_off417 (k0_t3 : Fin k0_t3_loop.trips) : Fin 2 → Nat :=
  let c99_947 : Index := 99#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3378 : Index := Scalar.indexCast v1005
  ![99, v3378.toNat]
def k0_off418 (k0_t3 : Fin k0_t3_loop.trips) : Fin 3 → Nat :=
  let c0_955 : Index := 0#32
  let c1600 : Index := 1600#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3406 : Index := Scalar.indexCast v1002
  ![0, 1600, v3406.toNat]
def k0_off419 (k0_t3 : Fin k0_t3_loop.trips) : Fin 2 → Nat :=
  let c100 : Index := 100#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3410 : Index := Scalar.indexCast v1002
  ![100, v3410.toNat]
def k0_off420 (k0_t3 : Fin k0_t3_loop.trips) : Fin 2 → Nat :=
  let c101 : Index := 101#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3415 : Index := Scalar.indexCast v1002
  ![101, v3415.toNat]
def k0_off421 (k0_t3 : Fin k0_t3_loop.trips) : Fin 2 → Nat :=
  let c100_956 : Index := 100#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3421 : Index := Scalar.indexCast v1005
  ![100, v3421.toNat]
def k0_off422 (k0_t3 : Fin k0_t3_loop.trips) : Fin 2 → Nat :=
  let c101_957 : Index := 101#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3426 : Index := Scalar.indexCast v1005
  ![101, v3426.toNat]
def k0_off423 (k0_t3 : Fin k0_t3_loop.trips) : Fin 3 → Nat :=
  let c0_965 : Index := 0#32
  let c1632 : Index := 1632#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3454 : Index := Scalar.indexCast v1002
  ![0, 1632, v3454.toNat]
def k0_off424 (k0_t3 : Fin k0_t3_loop.trips) : Fin 2 → Nat :=
  let c102 : Index := 102#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3458 : Index := Scalar.indexCast v1002
  ![102, v3458.toNat]
def k0_off425 (k0_t3 : Fin k0_t3_loop.trips) : Fin 2 → Nat :=
  let c103 : Index := 103#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3463 : Index := Scalar.indexCast v1002
  ![103, v3463.toNat]
def k0_off426 (k0_t3 : Fin k0_t3_loop.trips) : Fin 2 → Nat :=
  let c102_966 : Index := 102#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3469 : Index := Scalar.indexCast v1005
  ![102, v3469.toNat]
def k0_off427 (k0_t3 : Fin k0_t3_loop.trips) : Fin 2 → Nat :=
  let c103_967 : Index := 103#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3474 : Index := Scalar.indexCast v1005
  ![103, v3474.toNat]
def k0_off428 (k0_t3 : Fin k0_t3_loop.trips) : Fin 3 → Nat :=
  let c0_975 : Index := 0#32
  let c1664 : Index := 1664#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3502 : Index := Scalar.indexCast v1002
  ![0, 1664, v3502.toNat]
def k0_off429 (k0_t3 : Fin k0_t3_loop.trips) : Fin 2 → Nat :=
  let c104 : Index := 104#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3506 : Index := Scalar.indexCast v1002
  ![104, v3506.toNat]
def k0_off430 (k0_t3 : Fin k0_t3_loop.trips) : Fin 2 → Nat :=
  let c105 : Index := 105#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3511 : Index := Scalar.indexCast v1002
  ![105, v3511.toNat]
def k0_off431 (k0_t3 : Fin k0_t3_loop.trips) : Fin 2 → Nat :=
  let c104_976 : Index := 104#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3517 : Index := Scalar.indexCast v1005
  ![104, v3517.toNat]
def k0_off432 (k0_t3 : Fin k0_t3_loop.trips) : Fin 2 → Nat :=
  let c105_977 : Index := 105#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3522 : Index := Scalar.indexCast v1005
  ![105, v3522.toNat]
def k0_off433 (k0_t3 : Fin k0_t3_loop.trips) : Fin 3 → Nat :=
  let c0_985 : Index := 0#32
  let c1696 : Index := 1696#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3550 : Index := Scalar.indexCast v1002
  ![0, 1696, v3550.toNat]
def k0_off434 (k0_t3 : Fin k0_t3_loop.trips) : Fin 2 → Nat :=
  let c106 : Index := 106#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3554 : Index := Scalar.indexCast v1002
  ![106, v3554.toNat]
def k0_off435 (k0_t3 : Fin k0_t3_loop.trips) : Fin 2 → Nat :=
  let c107 : Index := 107#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3559 : Index := Scalar.indexCast v1002
  ![107, v3559.toNat]
def k0_off436 (k0_t3 : Fin k0_t3_loop.trips) : Fin 2 → Nat :=
  let c106_986 : Index := 106#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3565 : Index := Scalar.indexCast v1005
  ![106, v3565.toNat]
def k0_off437 (k0_t3 : Fin k0_t3_loop.trips) : Fin 2 → Nat :=
  let c107_987 : Index := 107#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3570 : Index := Scalar.indexCast v1005
  ![107, v3570.toNat]
def k0_off438 (k0_t3 : Fin k0_t3_loop.trips) : Fin 3 → Nat :=
  let c0_995 : Index := 0#32
  let c1728 : Index := 1728#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3598 : Index := Scalar.indexCast v1002
  ![0, 1728, v3598.toNat]
def k0_off439 (k0_t3 : Fin k0_t3_loop.trips) : Fin 2 → Nat :=
  let c108 : Index := 108#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3602 : Index := Scalar.indexCast v1002
  ![108, v3602.toNat]
def k0_off440 (k0_t3 : Fin k0_t3_loop.trips) : Fin 2 → Nat :=
  let c109 : Index := 109#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3607 : Index := Scalar.indexCast v1002
  ![109, v3607.toNat]
def k0_off441 (k0_t3 : Fin k0_t3_loop.trips) : Fin 2 → Nat :=
  let c108_996 : Index := 108#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3613 : Index := Scalar.indexCast v1005
  ![108, v3613.toNat]
def k0_off442 (k0_t3 : Fin k0_t3_loop.trips) : Fin 2 → Nat :=
  let c109_997 : Index := 109#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3618 : Index := Scalar.indexCast v1005
  ![109, v3618.toNat]
def k0_off443 (k0_t3 : Fin k0_t3_loop.trips) : Fin 3 → Nat :=
  let c0_1005 : Index := 0#32
  let c1760 : Index := 1760#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3646 : Index := Scalar.indexCast v1002
  ![0, 1760, v3646.toNat]
def k0_off444 (k0_t3 : Fin k0_t3_loop.trips) : Fin 2 → Nat :=
  let c110 : Index := 110#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3650 : Index := Scalar.indexCast v1002
  ![110, v3650.toNat]
def k0_off445 (k0_t3 : Fin k0_t3_loop.trips) : Fin 2 → Nat :=
  let c111 : Index := 111#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3655 : Index := Scalar.indexCast v1002
  ![111, v3655.toNat]
def k0_off446 (k0_t3 : Fin k0_t3_loop.trips) : Fin 2 → Nat :=
  let c110_1006 : Index := 110#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3661 : Index := Scalar.indexCast v1005
  ![110, v3661.toNat]
def k0_off447 (k0_t3 : Fin k0_t3_loop.trips) : Fin 2 → Nat :=
  let c111_1007 : Index := 111#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3666 : Index := Scalar.indexCast v1005
  ![111, v3666.toNat]
def k0_off448 (k0_t3 : Fin k0_t3_loop.trips) : Fin 3 → Nat :=
  let c0_1015 : Index := 0#32
  let c1792 : Index := 1792#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3694 : Index := Scalar.indexCast v1002
  ![0, 1792, v3694.toNat]
def k0_off449 (k0_t3 : Fin k0_t3_loop.trips) : Fin 2 → Nat :=
  let c112 : Index := 112#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3698 : Index := Scalar.indexCast v1002
  ![112, v3698.toNat]
def k0_off450 (k0_t3 : Fin k0_t3_loop.trips) : Fin 2 → Nat :=
  let c113 : Index := 113#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3703 : Index := Scalar.indexCast v1002
  ![113, v3703.toNat]
def k0_off451 (k0_t3 : Fin k0_t3_loop.trips) : Fin 2 → Nat :=
  let c112_1016 : Index := 112#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3709 : Index := Scalar.indexCast v1005
  ![112, v3709.toNat]
def k0_off452 (k0_t3 : Fin k0_t3_loop.trips) : Fin 2 → Nat :=
  let c113_1017 : Index := 113#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3714 : Index := Scalar.indexCast v1005
  ![113, v3714.toNat]
def k0_off453 (k0_t3 : Fin k0_t3_loop.trips) : Fin 3 → Nat :=
  let c0_1025 : Index := 0#32
  let c1824 : Index := 1824#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3742 : Index := Scalar.indexCast v1002
  ![0, 1824, v3742.toNat]
def k0_off454 (k0_t3 : Fin k0_t3_loop.trips) : Fin 2 → Nat :=
  let c114 : Index := 114#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3746 : Index := Scalar.indexCast v1002
  ![114, v3746.toNat]
def k0_off455 (k0_t3 : Fin k0_t3_loop.trips) : Fin 2 → Nat :=
  let c115 : Index := 115#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3751 : Index := Scalar.indexCast v1002
  ![115, v3751.toNat]
def k0_off456 (k0_t3 : Fin k0_t3_loop.trips) : Fin 2 → Nat :=
  let c114_1026 : Index := 114#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3757 : Index := Scalar.indexCast v1005
  ![114, v3757.toNat]
def k0_off457 (k0_t3 : Fin k0_t3_loop.trips) : Fin 2 → Nat :=
  let c115_1027 : Index := 115#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3762 : Index := Scalar.indexCast v1005
  ![115, v3762.toNat]
def k0_off458 (k0_t3 : Fin k0_t3_loop.trips) : Fin 3 → Nat :=
  let c0_1035 : Index := 0#32
  let c1856 : Index := 1856#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3790 : Index := Scalar.indexCast v1002
  ![0, 1856, v3790.toNat]
def k0_off459 (k0_t3 : Fin k0_t3_loop.trips) : Fin 2 → Nat :=
  let c116 : Index := 116#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3794 : Index := Scalar.indexCast v1002
  ![116, v3794.toNat]
def k0_off460 (k0_t3 : Fin k0_t3_loop.trips) : Fin 2 → Nat :=
  let c117 : Index := 117#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3799 : Index := Scalar.indexCast v1002
  ![117, v3799.toNat]
def k0_off461 (k0_t3 : Fin k0_t3_loop.trips) : Fin 2 → Nat :=
  let c116_1036 : Index := 116#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3805 : Index := Scalar.indexCast v1005
  ![116, v3805.toNat]
def k0_off462 (k0_t3 : Fin k0_t3_loop.trips) : Fin 2 → Nat :=
  let c117_1037 : Index := 117#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3810 : Index := Scalar.indexCast v1005
  ![117, v3810.toNat]
def k0_off463 (k0_t3 : Fin k0_t3_loop.trips) : Fin 3 → Nat :=
  let c0_1045 : Index := 0#32
  let c1888 : Index := 1888#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3838 : Index := Scalar.indexCast v1002
  ![0, 1888, v3838.toNat]
def k0_off464 (k0_t3 : Fin k0_t3_loop.trips) : Fin 2 → Nat :=
  let c118 : Index := 118#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3842 : Index := Scalar.indexCast v1002
  ![118, v3842.toNat]
def k0_off465 (k0_t3 : Fin k0_t3_loop.trips) : Fin 2 → Nat :=
  let c119 : Index := 119#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3847 : Index := Scalar.indexCast v1002
  ![119, v3847.toNat]
def k0_off466 (k0_t3 : Fin k0_t3_loop.trips) : Fin 2 → Nat :=
  let c118_1046 : Index := 118#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3853 : Index := Scalar.indexCast v1005
  ![118, v3853.toNat]
def k0_off467 (k0_t3 : Fin k0_t3_loop.trips) : Fin 2 → Nat :=
  let c119_1047 : Index := 119#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3858 : Index := Scalar.indexCast v1005
  ![119, v3858.toNat]
def k0_off468 (k0_t3 : Fin k0_t3_loop.trips) : Fin 3 → Nat :=
  let c0_1055 : Index := 0#32
  let c1920 : Index := 1920#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3886 : Index := Scalar.indexCast v1002
  ![0, 1920, v3886.toNat]
def k0_off469 (k0_t3 : Fin k0_t3_loop.trips) : Fin 2 → Nat :=
  let c120 : Index := 120#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3890 : Index := Scalar.indexCast v1002
  ![120, v3890.toNat]
def k0_off470 (k0_t3 : Fin k0_t3_loop.trips) : Fin 2 → Nat :=
  let c121 : Index := 121#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3895 : Index := Scalar.indexCast v1002
  ![121, v3895.toNat]
def k0_off471 (k0_t3 : Fin k0_t3_loop.trips) : Fin 2 → Nat :=
  let c120_1056 : Index := 120#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3901 : Index := Scalar.indexCast v1005
  ![120, v3901.toNat]
def k0_off472 (k0_t3 : Fin k0_t3_loop.trips) : Fin 2 → Nat :=
  let c121_1057 : Index := 121#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3906 : Index := Scalar.indexCast v1005
  ![121, v3906.toNat]
def k0_off473 (k0_t3 : Fin k0_t3_loop.trips) : Fin 3 → Nat :=
  let c0_1065 : Index := 0#32
  let c1952 : Index := 1952#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3934 : Index := Scalar.indexCast v1002
  ![0, 1952, v3934.toNat]
def k0_off474 (k0_t3 : Fin k0_t3_loop.trips) : Fin 2 → Nat :=
  let c122 : Index := 122#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3938 : Index := Scalar.indexCast v1002
  ![122, v3938.toNat]
def k0_off475 (k0_t3 : Fin k0_t3_loop.trips) : Fin 2 → Nat :=
  let c123 : Index := 123#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3943 : Index := Scalar.indexCast v1002
  ![123, v3943.toNat]
def k0_off476 (k0_t3 : Fin k0_t3_loop.trips) : Fin 2 → Nat :=
  let c122_1066 : Index := 122#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3949 : Index := Scalar.indexCast v1005
  ![122, v3949.toNat]
def k0_off477 (k0_t3 : Fin k0_t3_loop.trips) : Fin 2 → Nat :=
  let c123_1067 : Index := 123#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3954 : Index := Scalar.indexCast v1005
  ![123, v3954.toNat]
def k0_off478 (k0_t3 : Fin k0_t3_loop.trips) : Fin 3 → Nat :=
  let c0_1075 : Index := 0#32
  let c1984 : Index := 1984#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3982 : Index := Scalar.indexCast v1002
  ![0, 1984, v3982.toNat]
def k0_off479 (k0_t3 : Fin k0_t3_loop.trips) : Fin 2 → Nat :=
  let c124 : Index := 124#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3986 : Index := Scalar.indexCast v1002
  ![124, v3986.toNat]
def k0_off480 (k0_t3 : Fin k0_t3_loop.trips) : Fin 2 → Nat :=
  let c125 : Index := 125#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v3991 : Index := Scalar.indexCast v1002
  ![125, v3991.toNat]
def k0_off481 (k0_t3 : Fin k0_t3_loop.trips) : Fin 2 → Nat :=
  let c124_1076 : Index := 124#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3997 : Index := Scalar.indexCast v1005
  ![124, v3997.toNat]
def k0_off482 (k0_t3 : Fin k0_t3_loop.trips) : Fin 2 → Nat :=
  let c125_1077 : Index := 125#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4002 : Index := Scalar.indexCast v1005
  ![125, v4002.toNat]
def k0_off483 (k0_t3 : Fin k0_t3_loop.trips) : Fin 3 → Nat :=
  let c0_1085 : Index := 0#32
  let c2016 : Index := 2016#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4030 : Index := Scalar.indexCast v1002
  ![0, 2016, v4030.toNat]
def k0_off484 (k0_t3 : Fin k0_t3_loop.trips) : Fin 2 → Nat :=
  let c126 : Index := 126#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4034 : Index := Scalar.indexCast v1002
  ![126, v4034.toNat]
def k0_off485 (k0_t3 : Fin k0_t3_loop.trips) : Fin 2 → Nat :=
  let c127 : Index := 127#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4039 : Index := Scalar.indexCast v1002
  ![127, v4039.toNat]
def k0_off486 (k0_t3 : Fin k0_t3_loop.trips) : Fin 2 → Nat :=
  let c126_1086 : Index := 126#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4045 : Index := Scalar.indexCast v1005
  ![126, v4045.toNat]
def k0_off487 (k0_t3 : Fin k0_t3_loop.trips) : Fin 2 → Nat :=
  let c127_1087 : Index := 127#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4050 : Index := Scalar.indexCast v1005
  ![127, v4050.toNat]
def k0_off488 (k0_t3 : Fin k0_t3_loop.trips) : Fin 3 → Nat :=
  let c0_1095 : Index := 0#32
  let c2048 : Index := 2048#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4078 : Index := Scalar.indexCast v1002
  ![0, 2048, v4078.toNat]
def k0_off489 (k0_t3 : Fin k0_t3_loop.trips) : Fin 2 → Nat :=
  let c128_1096 : Index := 128#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4082 : Index := Scalar.indexCast v1002
  ![128, v4082.toNat]
def k0_off490 (k0_t3 : Fin k0_t3_loop.trips) : Fin 2 → Nat :=
  let c129 : Index := 129#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4087 : Index := Scalar.indexCast v1002
  ![129, v4087.toNat]
def k0_off491 (k0_t3 : Fin k0_t3_loop.trips) : Fin 2 → Nat :=
  let c128_1097 : Index := 128#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4093 : Index := Scalar.indexCast v1005
  ![128, v4093.toNat]
def k0_off492 (k0_t3 : Fin k0_t3_loop.trips) : Fin 2 → Nat :=
  let c129_1098 : Index := 129#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4098 : Index := Scalar.indexCast v1005
  ![129, v4098.toNat]
def k0_off493 (k0_t3 : Fin k0_t3_loop.trips) : Fin 3 → Nat :=
  let c0_1106 : Index := 0#32
  let c2080 : Index := 2080#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4126 : Index := Scalar.indexCast v1002
  ![0, 2080, v4126.toNat]
def k0_off494 (k0_t3 : Fin k0_t3_loop.trips) : Fin 2 → Nat :=
  let c130 : Index := 130#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4130 : Index := Scalar.indexCast v1002
  ![130, v4130.toNat]
def k0_off495 (k0_t3 : Fin k0_t3_loop.trips) : Fin 2 → Nat :=
  let c131 : Index := 131#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4135 : Index := Scalar.indexCast v1002
  ![131, v4135.toNat]
def k0_off496 (k0_t3 : Fin k0_t3_loop.trips) : Fin 2 → Nat :=
  let c130_1107 : Index := 130#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4141 : Index := Scalar.indexCast v1005
  ![130, v4141.toNat]
def k0_off497 (k0_t3 : Fin k0_t3_loop.trips) : Fin 2 → Nat :=
  let c131_1108 : Index := 131#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4146 : Index := Scalar.indexCast v1005
  ![131, v4146.toNat]
def k0_off498 (k0_t3 : Fin k0_t3_loop.trips) : Fin 3 → Nat :=
  let c0_1116 : Index := 0#32
  let c2112 : Index := 2112#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4174 : Index := Scalar.indexCast v1002
  ![0, 2112, v4174.toNat]
def k0_off499 (k0_t3 : Fin k0_t3_loop.trips) : Fin 2 → Nat :=
  let c132 : Index := 132#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4178 : Index := Scalar.indexCast v1002
  ![132, v4178.toNat]
def k0_off500 (k0_t3 : Fin k0_t3_loop.trips) : Fin 2 → Nat :=
  let c133 : Index := 133#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4183 : Index := Scalar.indexCast v1002
  ![133, v4183.toNat]
def k0_off501 (k0_t3 : Fin k0_t3_loop.trips) : Fin 2 → Nat :=
  let c132_1117 : Index := 132#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4189 : Index := Scalar.indexCast v1005
  ![132, v4189.toNat]
def k0_off502 (k0_t3 : Fin k0_t3_loop.trips) : Fin 2 → Nat :=
  let c133_1118 : Index := 133#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4194 : Index := Scalar.indexCast v1005
  ![133, v4194.toNat]
def k0_off503 (k0_t3 : Fin k0_t3_loop.trips) : Fin 3 → Nat :=
  let c0_1126 : Index := 0#32
  let c2144 : Index := 2144#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4222 : Index := Scalar.indexCast v1002
  ![0, 2144, v4222.toNat]
def k0_off504 (k0_t3 : Fin k0_t3_loop.trips) : Fin 2 → Nat :=
  let c134 : Index := 134#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4226 : Index := Scalar.indexCast v1002
  ![134, v4226.toNat]
def k0_off505 (k0_t3 : Fin k0_t3_loop.trips) : Fin 2 → Nat :=
  let c135 : Index := 135#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4231 : Index := Scalar.indexCast v1002
  ![135, v4231.toNat]
def k0_off506 (k0_t3 : Fin k0_t3_loop.trips) : Fin 2 → Nat :=
  let c134_1127 : Index := 134#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4237 : Index := Scalar.indexCast v1005
  ![134, v4237.toNat]
def k0_off507 (k0_t3 : Fin k0_t3_loop.trips) : Fin 2 → Nat :=
  let c135_1128 : Index := 135#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4242 : Index := Scalar.indexCast v1005
  ![135, v4242.toNat]
def k0_off508 (k0_t3 : Fin k0_t3_loop.trips) : Fin 3 → Nat :=
  let c0_1136 : Index := 0#32
  let c2176 : Index := 2176#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4270 : Index := Scalar.indexCast v1002
  ![0, 2176, v4270.toNat]
def k0_off509 (k0_t3 : Fin k0_t3_loop.trips) : Fin 2 → Nat :=
  let c136 : Index := 136#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4274 : Index := Scalar.indexCast v1002
  ![136, v4274.toNat]
def k0_off510 (k0_t3 : Fin k0_t3_loop.trips) : Fin 2 → Nat :=
  let c137 : Index := 137#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4279 : Index := Scalar.indexCast v1002
  ![137, v4279.toNat]
def k0_off511 (k0_t3 : Fin k0_t3_loop.trips) : Fin 2 → Nat :=
  let c136_1137 : Index := 136#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4285 : Index := Scalar.indexCast v1005
  ![136, v4285.toNat]
def k0_off512 (k0_t3 : Fin k0_t3_loop.trips) : Fin 2 → Nat :=
  let c137_1138 : Index := 137#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4290 : Index := Scalar.indexCast v1005
  ![137, v4290.toNat]
def k0_off513 (k0_t3 : Fin k0_t3_loop.trips) : Fin 3 → Nat :=
  let c0_1146 : Index := 0#32
  let c2208 : Index := 2208#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4318 : Index := Scalar.indexCast v1002
  ![0, 2208, v4318.toNat]
def k0_off514 (k0_t3 : Fin k0_t3_loop.trips) : Fin 2 → Nat :=
  let c138 : Index := 138#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4322 : Index := Scalar.indexCast v1002
  ![138, v4322.toNat]
def k0_off515 (k0_t3 : Fin k0_t3_loop.trips) : Fin 2 → Nat :=
  let c139 : Index := 139#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4327 : Index := Scalar.indexCast v1002
  ![139, v4327.toNat]
def k0_off516 (k0_t3 : Fin k0_t3_loop.trips) : Fin 2 → Nat :=
  let c138_1147 : Index := 138#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4333 : Index := Scalar.indexCast v1005
  ![138, v4333.toNat]
def k0_off517 (k0_t3 : Fin k0_t3_loop.trips) : Fin 2 → Nat :=
  let c139_1148 : Index := 139#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4338 : Index := Scalar.indexCast v1005
  ![139, v4338.toNat]
def k0_off518 (k0_t3 : Fin k0_t3_loop.trips) : Fin 3 → Nat :=
  let c0_1156 : Index := 0#32
  let c2240 : Index := 2240#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4366 : Index := Scalar.indexCast v1002
  ![0, 2240, v4366.toNat]
def k0_off519 (k0_t3 : Fin k0_t3_loop.trips) : Fin 2 → Nat :=
  let c140 : Index := 140#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4370 : Index := Scalar.indexCast v1002
  ![140, v4370.toNat]
def k0_off520 (k0_t3 : Fin k0_t3_loop.trips) : Fin 2 → Nat :=
  let c141 : Index := 141#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4375 : Index := Scalar.indexCast v1002
  ![141, v4375.toNat]
def k0_off521 (k0_t3 : Fin k0_t3_loop.trips) : Fin 2 → Nat :=
  let c140_1157 : Index := 140#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4381 : Index := Scalar.indexCast v1005
  ![140, v4381.toNat]
def k0_off522 (k0_t3 : Fin k0_t3_loop.trips) : Fin 2 → Nat :=
  let c141_1158 : Index := 141#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4386 : Index := Scalar.indexCast v1005
  ![141, v4386.toNat]
def k0_off523 (k0_t3 : Fin k0_t3_loop.trips) : Fin 3 → Nat :=
  let c0_1166 : Index := 0#32
  let c2272 : Index := 2272#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4414 : Index := Scalar.indexCast v1002
  ![0, 2272, v4414.toNat]
def k0_off524 (k0_t3 : Fin k0_t3_loop.trips) : Fin 2 → Nat :=
  let c142 : Index := 142#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4418 : Index := Scalar.indexCast v1002
  ![142, v4418.toNat]
def k0_off525 (k0_t3 : Fin k0_t3_loop.trips) : Fin 2 → Nat :=
  let c143 : Index := 143#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4423 : Index := Scalar.indexCast v1002
  ![143, v4423.toNat]
def k0_off526 (k0_t3 : Fin k0_t3_loop.trips) : Fin 2 → Nat :=
  let c142_1167 : Index := 142#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4429 : Index := Scalar.indexCast v1005
  ![142, v4429.toNat]
def k0_off527 (k0_t3 : Fin k0_t3_loop.trips) : Fin 2 → Nat :=
  let c143_1168 : Index := 143#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4434 : Index := Scalar.indexCast v1005
  ![143, v4434.toNat]
def k0_off528 (k0_t3 : Fin k0_t3_loop.trips) : Fin 3 → Nat :=
  let c0_1176 : Index := 0#32
  let c2304 : Index := 2304#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4462 : Index := Scalar.indexCast v1002
  ![0, 2304, v4462.toNat]
def k0_off529 (k0_t3 : Fin k0_t3_loop.trips) : Fin 2 → Nat :=
  let c144 : Index := 144#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4466 : Index := Scalar.indexCast v1002
  ![144, v4466.toNat]
def k0_off530 (k0_t3 : Fin k0_t3_loop.trips) : Fin 2 → Nat :=
  let c145 : Index := 145#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4471 : Index := Scalar.indexCast v1002
  ![145, v4471.toNat]
def k0_off531 (k0_t3 : Fin k0_t3_loop.trips) : Fin 2 → Nat :=
  let c144_1177 : Index := 144#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4477 : Index := Scalar.indexCast v1005
  ![144, v4477.toNat]
def k0_off532 (k0_t3 : Fin k0_t3_loop.trips) : Fin 2 → Nat :=
  let c145_1178 : Index := 145#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4482 : Index := Scalar.indexCast v1005
  ![145, v4482.toNat]
def k0_off533 (k0_t3 : Fin k0_t3_loop.trips) : Fin 3 → Nat :=
  let c0_1186 : Index := 0#32
  let c2336 : Index := 2336#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4510 : Index := Scalar.indexCast v1002
  ![0, 2336, v4510.toNat]
def k0_off534 (k0_t3 : Fin k0_t3_loop.trips) : Fin 2 → Nat :=
  let c146 : Index := 146#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4514 : Index := Scalar.indexCast v1002
  ![146, v4514.toNat]
def k0_off535 (k0_t3 : Fin k0_t3_loop.trips) : Fin 2 → Nat :=
  let c147 : Index := 147#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4519 : Index := Scalar.indexCast v1002
  ![147, v4519.toNat]
def k0_off536 (k0_t3 : Fin k0_t3_loop.trips) : Fin 2 → Nat :=
  let c146_1187 : Index := 146#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4525 : Index := Scalar.indexCast v1005
  ![146, v4525.toNat]
def k0_off537 (k0_t3 : Fin k0_t3_loop.trips) : Fin 2 → Nat :=
  let c147_1188 : Index := 147#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4530 : Index := Scalar.indexCast v1005
  ![147, v4530.toNat]
def k0_off538 (k0_t3 : Fin k0_t3_loop.trips) : Fin 3 → Nat :=
  let c0_1196 : Index := 0#32
  let c2368 : Index := 2368#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4558 : Index := Scalar.indexCast v1002
  ![0, 2368, v4558.toNat]
def k0_off539 (k0_t3 : Fin k0_t3_loop.trips) : Fin 2 → Nat :=
  let c148 : Index := 148#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4562 : Index := Scalar.indexCast v1002
  ![148, v4562.toNat]
def k0_off540 (k0_t3 : Fin k0_t3_loop.trips) : Fin 2 → Nat :=
  let c149 : Index := 149#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4567 : Index := Scalar.indexCast v1002
  ![149, v4567.toNat]
def k0_off541 (k0_t3 : Fin k0_t3_loop.trips) : Fin 2 → Nat :=
  let c148_1197 : Index := 148#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4573 : Index := Scalar.indexCast v1005
  ![148, v4573.toNat]
def k0_off542 (k0_t3 : Fin k0_t3_loop.trips) : Fin 2 → Nat :=
  let c149_1198 : Index := 149#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4578 : Index := Scalar.indexCast v1005
  ![149, v4578.toNat]
def k0_off543 (k0_t3 : Fin k0_t3_loop.trips) : Fin 3 → Nat :=
  let c0_1206 : Index := 0#32
  let c2400 : Index := 2400#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4606 : Index := Scalar.indexCast v1002
  ![0, 2400, v4606.toNat]
def k0_off544 (k0_t3 : Fin k0_t3_loop.trips) : Fin 2 → Nat :=
  let c150 : Index := 150#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4610 : Index := Scalar.indexCast v1002
  ![150, v4610.toNat]
def k0_off545 (k0_t3 : Fin k0_t3_loop.trips) : Fin 2 → Nat :=
  let c151 : Index := 151#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4615 : Index := Scalar.indexCast v1002
  ![151, v4615.toNat]
def k0_off546 (k0_t3 : Fin k0_t3_loop.trips) : Fin 2 → Nat :=
  let c150_1207 : Index := 150#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4621 : Index := Scalar.indexCast v1005
  ![150, v4621.toNat]
def k0_off547 (k0_t3 : Fin k0_t3_loop.trips) : Fin 2 → Nat :=
  let c151_1208 : Index := 151#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4626 : Index := Scalar.indexCast v1005
  ![151, v4626.toNat]
def k0_off548 (k0_t3 : Fin k0_t3_loop.trips) : Fin 3 → Nat :=
  let c0_1216 : Index := 0#32
  let c2432 : Index := 2432#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4654 : Index := Scalar.indexCast v1002
  ![0, 2432, v4654.toNat]
def k0_off549 (k0_t3 : Fin k0_t3_loop.trips) : Fin 2 → Nat :=
  let c152 : Index := 152#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4658 : Index := Scalar.indexCast v1002
  ![152, v4658.toNat]
def k0_off550 (k0_t3 : Fin k0_t3_loop.trips) : Fin 2 → Nat :=
  let c153 : Index := 153#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4663 : Index := Scalar.indexCast v1002
  ![153, v4663.toNat]
def k0_off551 (k0_t3 : Fin k0_t3_loop.trips) : Fin 2 → Nat :=
  let c152_1217 : Index := 152#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4669 : Index := Scalar.indexCast v1005
  ![152, v4669.toNat]
def k0_off552 (k0_t3 : Fin k0_t3_loop.trips) : Fin 2 → Nat :=
  let c153_1218 : Index := 153#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4674 : Index := Scalar.indexCast v1005
  ![153, v4674.toNat]
def k0_off553 (k0_t3 : Fin k0_t3_loop.trips) : Fin 3 → Nat :=
  let c0_1226 : Index := 0#32
  let c2464 : Index := 2464#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4702 : Index := Scalar.indexCast v1002
  ![0, 2464, v4702.toNat]
def k0_off554 (k0_t3 : Fin k0_t3_loop.trips) : Fin 2 → Nat :=
  let c154 : Index := 154#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4706 : Index := Scalar.indexCast v1002
  ![154, v4706.toNat]
def k0_off555 (k0_t3 : Fin k0_t3_loop.trips) : Fin 2 → Nat :=
  let c155 : Index := 155#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4711 : Index := Scalar.indexCast v1002
  ![155, v4711.toNat]
def k0_off556 (k0_t3 : Fin k0_t3_loop.trips) : Fin 2 → Nat :=
  let c154_1227 : Index := 154#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4717 : Index := Scalar.indexCast v1005
  ![154, v4717.toNat]
def k0_off557 (k0_t3 : Fin k0_t3_loop.trips) : Fin 2 → Nat :=
  let c155_1228 : Index := 155#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4722 : Index := Scalar.indexCast v1005
  ![155, v4722.toNat]
def k0_off558 (k0_t3 : Fin k0_t3_loop.trips) : Fin 3 → Nat :=
  let c0_1236 : Index := 0#32
  let c2496 : Index := 2496#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4750 : Index := Scalar.indexCast v1002
  ![0, 2496, v4750.toNat]
def k0_off559 (k0_t3 : Fin k0_t3_loop.trips) : Fin 2 → Nat :=
  let c156 : Index := 156#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4754 : Index := Scalar.indexCast v1002
  ![156, v4754.toNat]
def k0_off560 (k0_t3 : Fin k0_t3_loop.trips) : Fin 2 → Nat :=
  let c157 : Index := 157#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4759 : Index := Scalar.indexCast v1002
  ![157, v4759.toNat]
def k0_off561 (k0_t3 : Fin k0_t3_loop.trips) : Fin 2 → Nat :=
  let c156_1237 : Index := 156#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4765 : Index := Scalar.indexCast v1005
  ![156, v4765.toNat]
def k0_off562 (k0_t3 : Fin k0_t3_loop.trips) : Fin 2 → Nat :=
  let c157_1238 : Index := 157#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4770 : Index := Scalar.indexCast v1005
  ![157, v4770.toNat]
def k0_off563 (k0_t3 : Fin k0_t3_loop.trips) : Fin 3 → Nat :=
  let c0_1246 : Index := 0#32
  let c2528 : Index := 2528#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4798 : Index := Scalar.indexCast v1002
  ![0, 2528, v4798.toNat]
def k0_off564 (k0_t3 : Fin k0_t3_loop.trips) : Fin 2 → Nat :=
  let c158 : Index := 158#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4802 : Index := Scalar.indexCast v1002
  ![158, v4802.toNat]
def k0_off565 (k0_t3 : Fin k0_t3_loop.trips) : Fin 2 → Nat :=
  let c159 : Index := 159#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4807 : Index := Scalar.indexCast v1002
  ![159, v4807.toNat]
def k0_off566 (k0_t3 : Fin k0_t3_loop.trips) : Fin 2 → Nat :=
  let c158_1247 : Index := 158#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4813 : Index := Scalar.indexCast v1005
  ![158, v4813.toNat]
def k0_off567 (k0_t3 : Fin k0_t3_loop.trips) : Fin 2 → Nat :=
  let c159_1248 : Index := 159#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4818 : Index := Scalar.indexCast v1005
  ![159, v4818.toNat]
def k0_off568 (k0_t3 : Fin k0_t3_loop.trips) : Fin 3 → Nat :=
  let c0_1256 : Index := 0#32
  let c2560 : Index := 2560#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4846 : Index := Scalar.indexCast v1002
  ![0, 2560, v4846.toNat]
def k0_off569 (k0_t3 : Fin k0_t3_loop.trips) : Fin 2 → Nat :=
  let c160_1257 : Index := 160#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4850 : Index := Scalar.indexCast v1002
  ![160, v4850.toNat]
def k0_off570 (k0_t3 : Fin k0_t3_loop.trips) : Fin 2 → Nat :=
  let c161 : Index := 161#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4855 : Index := Scalar.indexCast v1002
  ![161, v4855.toNat]
def k0_off571 (k0_t3 : Fin k0_t3_loop.trips) : Fin 2 → Nat :=
  let c160_1258 : Index := 160#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4861 : Index := Scalar.indexCast v1005
  ![160, v4861.toNat]
def k0_off572 (k0_t3 : Fin k0_t3_loop.trips) : Fin 2 → Nat :=
  let c161_1259 : Index := 161#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4866 : Index := Scalar.indexCast v1005
  ![161, v4866.toNat]
def k0_off573 (k0_t3 : Fin k0_t3_loop.trips) : Fin 3 → Nat :=
  let c0_1267 : Index := 0#32
  let c2592 : Index := 2592#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4894 : Index := Scalar.indexCast v1002
  ![0, 2592, v4894.toNat]
def k0_off574 (k0_t3 : Fin k0_t3_loop.trips) : Fin 2 → Nat :=
  let c162 : Index := 162#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4898 : Index := Scalar.indexCast v1002
  ![162, v4898.toNat]
def k0_off575 (k0_t3 : Fin k0_t3_loop.trips) : Fin 2 → Nat :=
  let c163 : Index := 163#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4903 : Index := Scalar.indexCast v1002
  ![163, v4903.toNat]
def k0_off576 (k0_t3 : Fin k0_t3_loop.trips) : Fin 2 → Nat :=
  let c162_1268 : Index := 162#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4909 : Index := Scalar.indexCast v1005
  ![162, v4909.toNat]
def k0_off577 (k0_t3 : Fin k0_t3_loop.trips) : Fin 2 → Nat :=
  let c163_1269 : Index := 163#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4914 : Index := Scalar.indexCast v1005
  ![163, v4914.toNat]
def k0_off578 (k0_t3 : Fin k0_t3_loop.trips) : Fin 3 → Nat :=
  let c0_1277 : Index := 0#32
  let c2624 : Index := 2624#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4942 : Index := Scalar.indexCast v1002
  ![0, 2624, v4942.toNat]
def k0_off579 (k0_t3 : Fin k0_t3_loop.trips) : Fin 2 → Nat :=
  let c164 : Index := 164#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4946 : Index := Scalar.indexCast v1002
  ![164, v4946.toNat]
def k0_off580 (k0_t3 : Fin k0_t3_loop.trips) : Fin 2 → Nat :=
  let c165 : Index := 165#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4951 : Index := Scalar.indexCast v1002
  ![165, v4951.toNat]
def k0_off581 (k0_t3 : Fin k0_t3_loop.trips) : Fin 2 → Nat :=
  let c164_1278 : Index := 164#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4957 : Index := Scalar.indexCast v1005
  ![164, v4957.toNat]
def k0_off582 (k0_t3 : Fin k0_t3_loop.trips) : Fin 2 → Nat :=
  let c165_1279 : Index := 165#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4962 : Index := Scalar.indexCast v1005
  ![165, v4962.toNat]
def k0_off583 (k0_t3 : Fin k0_t3_loop.trips) : Fin 3 → Nat :=
  let c0_1287 : Index := 0#32
  let c2656 : Index := 2656#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4990 : Index := Scalar.indexCast v1002
  ![0, 2656, v4990.toNat]
def k0_off584 (k0_t3 : Fin k0_t3_loop.trips) : Fin 2 → Nat :=
  let c166 : Index := 166#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4994 : Index := Scalar.indexCast v1002
  ![166, v4994.toNat]
def k0_off585 (k0_t3 : Fin k0_t3_loop.trips) : Fin 2 → Nat :=
  let c167 : Index := 167#32
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v4999 : Index := Scalar.indexCast v1002
  ![167, v4999.toNat]
def k0_off586 (k0_t3 : Fin k0_t3_loop.trips) : Fin 2 → Nat :=
  let c166_1288 : Index := 166#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v5005 : Index := Scalar.indexCast v1005
  ![166, v5005.toNat]
def k0_off587 (k0_t3 : Fin k0_t3_loop.trips) : Fin 2 → Nat :=
  let c167_1289 : Index := 167#32
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v5010 : Index := Scalar.indexCast v1005
  ![167, v5010.toNat]
def k0_off588 (v3 : BitVec 32) (v5 : BitVec 32) (k0_t1 : Fin (k0_t1_loop v3 v5).trips) (k0_t3 : Fin k0_t3_loop.trips) : Fin 2 → Nat :=
  let c0_i32_2 : BitVec 32 := 0#32
  let v9 : BitVec 1 := Scalar.cmpi .sgt v3 c0_i32_2
  let v10 : BitVec 32 := Scalar.extui v9
  let c0_i32_3 : BitVec 32 := 0#32
  let v11 : BitVec 1 := Scalar.cmpi .slt v3 c0_i32_3
  let v12 : BitVec 32 := Scalar.extui v11
  let v13 : BitVec 32 := Scalar.subi v10 v12
  let c16_i32 : BitVec 32 := 16#32
  let c0_i32_4 : BitVec 32 := 0#32
  let v14 : BitVec 1 := Scalar.cmpi .sgt c16_i32 c0_i32_4
  let v15 : BitVec 32 := Scalar.extui v14
  let c0_i32_5 : BitVec 32 := 0#32
  let v16 : BitVec 1 := Scalar.cmpi .slt c16_i32 c0_i32_5
  let v17 : BitVec 32 := Scalar.extui v16
  let v18 : BitVec 32 := Scalar.subi v15 v17
  let v19 : BitVec 1 := Scalar.cmpi .ne v13 v18
  let v20 : BitVec 32 := Scalar.remsi v3 c16_i32
  let c0_i32_6 : BitVec 32 := 0#32
  let v21 : BitVec 1 := Scalar.cmpi .ne v20 c0_i32_6
  let v22 : BitVec 1 := Scalar.andi v19 v21
  let v8 : BitVec 32 := Scalar.divsi v3 c16_i32
  let c1_i32 : BitVec 32 := 1#32
  let v23 : BitVec 32 := Scalar.subi v8 c1_i32
  let v24 : BitVec 32 := Scalar.select v22 v23 v8
  let c16_i32_7 : BitVec 32 := 16#32
  let v25 : BitVec 32 := Scalar.muli v24 c16_i32_7
  let c0_i32_33 : BitVec 32 := 0#32
  let c1_i32_36 : BitVec 32 := 1#32
  let arg18 : BitVec 32 := Scf.iv c0_i32_33 c1_i32_36 k0_t1
  let c128_i32_38 : BitVec 32 := 128#32
  let v85 : BitVec 32 := Scalar.muli arg18 c128_i32_38
  let v86 : BitVec 32 := Scalar.addi v25 v85
  let v87 : BitVec 32 := v86
  let v5047 : Index := Scalar.indexCast v87
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v5048 : Index := Scalar.indexCast v1002
  ![v5047.toNat, v5048.toNat]
def k0_mult6 (v3 : BitVec 32) (v5 : BitVec 32) (k0_t1 : Fin (k0_t1_loop v3 v5).trips) : BitVec 32 :=
  let c0_i32_2 : BitVec 32 := 0#32
  let v9 : BitVec 1 := Scalar.cmpi .sgt v3 c0_i32_2
  let v10 : BitVec 32 := Scalar.extui v9
  let c0_i32_3 : BitVec 32 := 0#32
  let v11 : BitVec 1 := Scalar.cmpi .slt v3 c0_i32_3
  let v12 : BitVec 32 := Scalar.extui v11
  let v13 : BitVec 32 := Scalar.subi v10 v12
  let c16_i32 : BitVec 32 := 16#32
  let c0_i32_4 : BitVec 32 := 0#32
  let v14 : BitVec 1 := Scalar.cmpi .sgt c16_i32 c0_i32_4
  let v15 : BitVec 32 := Scalar.extui v14
  let c0_i32_5 : BitVec 32 := 0#32
  let v16 : BitVec 1 := Scalar.cmpi .slt c16_i32 c0_i32_5
  let v17 : BitVec 32 := Scalar.extui v16
  let v18 : BitVec 32 := Scalar.subi v15 v17
  let v19 : BitVec 1 := Scalar.cmpi .ne v13 v18
  let v20 : BitVec 32 := Scalar.remsi v3 c16_i32
  let c0_i32_6 : BitVec 32 := 0#32
  let v21 : BitVec 1 := Scalar.cmpi .ne v20 c0_i32_6
  let v22 : BitVec 1 := Scalar.andi v19 v21
  let v8 : BitVec 32 := Scalar.divsi v3 c16_i32
  let c1_i32 : BitVec 32 := 1#32
  let v23 : BitVec 32 := Scalar.subi v8 c1_i32
  let v24 : BitVec 32 := Scalar.select v22 v23 v8
  let c16_i32_7 : BitVec 32 := 16#32
  let v25 : BitVec 32 := Scalar.muli v24 c16_i32_7
  let c0_i32_33 : BitVec 32 := 0#32
  let c1_i32_36 : BitVec 32 := 1#32
  let arg18 : BitVec 32 := Scf.iv c0_i32_33 c1_i32_36 k0_t1
  let c128_i32_38 : BitVec 32 := 128#32
  let v85 : BitVec 32 := Scalar.muli arg18 c128_i32_38
  let v86 : BitVec 32 := Scalar.addi v25 v85
  let v87 : BitVec 32 := v86
  let c16_i32_1300 : BitVec 32 := 16#32
  let v5059 : BitVec 32 := Scalar.addi v87 c16_i32_1300
  v5059
def k0_off589 (v3 : BitVec 32) (v5 : BitVec 32) (k0_t1 : Fin (k0_t1_loop v3 v5).trips) (k0_t3 : Fin k0_t3_loop.trips) : Fin 2 → Nat :=
  let c0_i32_2 : BitVec 32 := 0#32
  let v9 : BitVec 1 := Scalar.cmpi .sgt v3 c0_i32_2
  let v10 : BitVec 32 := Scalar.extui v9
  let c0_i32_3 : BitVec 32 := 0#32
  let v11 : BitVec 1 := Scalar.cmpi .slt v3 c0_i32_3
  let v12 : BitVec 32 := Scalar.extui v11
  let v13 : BitVec 32 := Scalar.subi v10 v12
  let c16_i32 : BitVec 32 := 16#32
  let c0_i32_4 : BitVec 32 := 0#32
  let v14 : BitVec 1 := Scalar.cmpi .sgt c16_i32 c0_i32_4
  let v15 : BitVec 32 := Scalar.extui v14
  let c0_i32_5 : BitVec 32 := 0#32
  let v16 : BitVec 1 := Scalar.cmpi .slt c16_i32 c0_i32_5
  let v17 : BitVec 32 := Scalar.extui v16
  let v18 : BitVec 32 := Scalar.subi v15 v17
  let v19 : BitVec 1 := Scalar.cmpi .ne v13 v18
  let v20 : BitVec 32 := Scalar.remsi v3 c16_i32
  let c0_i32_6 : BitVec 32 := 0#32
  let v21 : BitVec 1 := Scalar.cmpi .ne v20 c0_i32_6
  let v22 : BitVec 1 := Scalar.andi v19 v21
  let v8 : BitVec 32 := Scalar.divsi v3 c16_i32
  let c1_i32 : BitVec 32 := 1#32
  let v23 : BitVec 32 := Scalar.subi v8 c1_i32
  let v24 : BitVec 32 := Scalar.select v22 v23 v8
  let c16_i32_7 : BitVec 32 := 16#32
  let v25 : BitVec 32 := Scalar.muli v24 c16_i32_7
  let c0_i32_33 : BitVec 32 := 0#32
  let c1_i32_36 : BitVec 32 := 1#32
  let arg18 : BitVec 32 := Scf.iv c0_i32_33 c1_i32_36 k0_t1
  let c128_i32_38 : BitVec 32 := 128#32
  let v85 : BitVec 32 := Scalar.muli arg18 c128_i32_38
  let v86 : BitVec 32 := Scalar.addi v25 v85
  let v87 : BitVec 32 := v86
  let c16_i32_1300 : BitVec 32 := 16#32
  let v5059 : BitVec 32 := Scalar.addi v87 c16_i32_1300
  let v5060 : BitVec 32 := v5059
  let v5061 : Index := Scalar.indexCast v5060
  let c0_i32_348 : BitVec 32 := 0#32
  let c1_i32_350 : BitVec 32 := 1#32
  let arg20 : BitVec 32 := Scf.iv c0_i32_348 c1_i32_350 k0_t3
  let c128_i32_353 : BitVec 32 := 128#32
  let v1001 : BitVec 32 := Scalar.muli arg20 c128_i32_353
  let v1002 : BitVec 32 := v1001
  let v5062 : Index := Scalar.indexCast v1002
  ![v5061.toNat, v5062.toNat]
def k0_off590 (v3 : BitVec 32) (v5 : BitVec 32) (k0_t1 : Fin (k0_t1_loop v3 v5).trips) (k0_t3 : Fin k0_t3_loop.trips) : Fin 2 → Nat :=
  let c0_i32_2 : BitVec 32 := 0#32
  let v9 : BitVec 1 := Scalar.cmpi .sgt v3 c0_i32_2
  let v10 : BitVec 32 := Scalar.extui v9
  let c0_i32_3 : BitVec 32 := 0#32
  let v11 : BitVec 1 := Scalar.cmpi .slt v3 c0_i32_3
  let v12 : BitVec 32 := Scalar.extui v11
  let v13 : BitVec 32 := Scalar.subi v10 v12
  let c16_i32 : BitVec 32 := 16#32
  let c0_i32_4 : BitVec 32 := 0#32
  let v14 : BitVec 1 := Scalar.cmpi .sgt c16_i32 c0_i32_4
  let v15 : BitVec 32 := Scalar.extui v14
  let c0_i32_5 : BitVec 32 := 0#32
  let v16 : BitVec 1 := Scalar.cmpi .slt c16_i32 c0_i32_5
  let v17 : BitVec 32 := Scalar.extui v16
  let v18 : BitVec 32 := Scalar.subi v15 v17
  let v19 : BitVec 1 := Scalar.cmpi .ne v13 v18
  let v20 : BitVec 32 := Scalar.remsi v3 c16_i32
  let c0_i32_6 : BitVec 32 := 0#32
  let v21 : BitVec 1 := Scalar.cmpi .ne v20 c0_i32_6
  let v22 : BitVec 1 := Scalar.andi v19 v21
  let v8 : BitVec 32 := Scalar.divsi v3 c16_i32
  let c1_i32 : BitVec 32 := 1#32
  let v23 : BitVec 32 := Scalar.subi v8 c1_i32
  let v24 : BitVec 32 := Scalar.select v22 v23 v8
  let c16_i32_7 : BitVec 32 := 16#32
  let v25 : BitVec 32 := Scalar.muli v24 c16_i32_7
  let c0_i32_33 : BitVec 32 := 0#32
  let c1_i32_36 : BitVec 32 := 1#32
  let arg18 : BitVec 32 := Scf.iv c0_i32_33 c1_i32_36 k0_t1
  let c128_i32_38 : BitVec 32 := 128#32
  let v85 : BitVec 32 := Scalar.muli arg18 c128_i32_38
  let v86 : BitVec 32 := Scalar.addi v25 v85
  let v87 : BitVec 32 := v86
  let v5064 : Index := Scalar.indexCast v87
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v5065 : Index := Scalar.indexCast v1005
  ![v5064.toNat, v5065.toNat]
def k0_mult7 (v3 : BitVec 32) (v5 : BitVec 32) (k0_t1 : Fin (k0_t1_loop v3 v5).trips) : BitVec 32 :=
  let c0_i32_2 : BitVec 32 := 0#32
  let v9 : BitVec 1 := Scalar.cmpi .sgt v3 c0_i32_2
  let v10 : BitVec 32 := Scalar.extui v9
  let c0_i32_3 : BitVec 32 := 0#32
  let v11 : BitVec 1 := Scalar.cmpi .slt v3 c0_i32_3
  let v12 : BitVec 32 := Scalar.extui v11
  let v13 : BitVec 32 := Scalar.subi v10 v12
  let c16_i32 : BitVec 32 := 16#32
  let c0_i32_4 : BitVec 32 := 0#32
  let v14 : BitVec 1 := Scalar.cmpi .sgt c16_i32 c0_i32_4
  let v15 : BitVec 32 := Scalar.extui v14
  let c0_i32_5 : BitVec 32 := 0#32
  let v16 : BitVec 1 := Scalar.cmpi .slt c16_i32 c0_i32_5
  let v17 : BitVec 32 := Scalar.extui v16
  let v18 : BitVec 32 := Scalar.subi v15 v17
  let v19 : BitVec 1 := Scalar.cmpi .ne v13 v18
  let v20 : BitVec 32 := Scalar.remsi v3 c16_i32
  let c0_i32_6 : BitVec 32 := 0#32
  let v21 : BitVec 1 := Scalar.cmpi .ne v20 c0_i32_6
  let v22 : BitVec 1 := Scalar.andi v19 v21
  let v8 : BitVec 32 := Scalar.divsi v3 c16_i32
  let c1_i32 : BitVec 32 := 1#32
  let v23 : BitVec 32 := Scalar.subi v8 c1_i32
  let v24 : BitVec 32 := Scalar.select v22 v23 v8
  let c16_i32_7 : BitVec 32 := 16#32
  let v25 : BitVec 32 := Scalar.muli v24 c16_i32_7
  let c0_i32_33 : BitVec 32 := 0#32
  let c1_i32_36 : BitVec 32 := 1#32
  let arg18 : BitVec 32 := Scf.iv c0_i32_33 c1_i32_36 k0_t1
  let c128_i32_38 : BitVec 32 := 128#32
  let v85 : BitVec 32 := Scalar.muli arg18 c128_i32_38
  let v86 : BitVec 32 := Scalar.addi v25 v85
  let v87 : BitVec 32 := v86
  let c16_i32_1301 : BitVec 32 := 16#32
  let v5076 : BitVec 32 := Scalar.addi v87 c16_i32_1301
  v5076
def k0_off591 (v3 : BitVec 32) (v5 : BitVec 32) (k0_t1 : Fin (k0_t1_loop v3 v5).trips) (k0_t3 : Fin k0_t3_loop.trips) : Fin 2 → Nat :=
  let c0_i32_2 : BitVec 32 := 0#32
  let v9 : BitVec 1 := Scalar.cmpi .sgt v3 c0_i32_2
  let v10 : BitVec 32 := Scalar.extui v9
  let c0_i32_3 : BitVec 32 := 0#32
  let v11 : BitVec 1 := Scalar.cmpi .slt v3 c0_i32_3
  let v12 : BitVec 32 := Scalar.extui v11
  let v13 : BitVec 32 := Scalar.subi v10 v12
  let c16_i32 : BitVec 32 := 16#32
  let c0_i32_4 : BitVec 32 := 0#32
  let v14 : BitVec 1 := Scalar.cmpi .sgt c16_i32 c0_i32_4
  let v15 : BitVec 32 := Scalar.extui v14
  let c0_i32_5 : BitVec 32 := 0#32
  let v16 : BitVec 1 := Scalar.cmpi .slt c16_i32 c0_i32_5
  let v17 : BitVec 32 := Scalar.extui v16
  let v18 : BitVec 32 := Scalar.subi v15 v17
  let v19 : BitVec 1 := Scalar.cmpi .ne v13 v18
  let v20 : BitVec 32 := Scalar.remsi v3 c16_i32
  let c0_i32_6 : BitVec 32 := 0#32
  let v21 : BitVec 1 := Scalar.cmpi .ne v20 c0_i32_6
  let v22 : BitVec 1 := Scalar.andi v19 v21
  let v8 : BitVec 32 := Scalar.divsi v3 c16_i32
  let c1_i32 : BitVec 32 := 1#32
  let v23 : BitVec 32 := Scalar.subi v8 c1_i32
  let v24 : BitVec 32 := Scalar.select v22 v23 v8
  let c16_i32_7 : BitVec 32 := 16#32
  let v25 : BitVec 32 := Scalar.muli v24 c16_i32_7
  let c0_i32_33 : BitVec 32 := 0#32
  let c1_i32_36 : BitVec 32 := 1#32
  let arg18 : BitVec 32 := Scf.iv c0_i32_33 c1_i32_36 k0_t1
  let c128_i32_38 : BitVec 32 := 128#32
  let v85 : BitVec 32 := Scalar.muli arg18 c128_i32_38
  let v86 : BitVec 32 := Scalar.addi v25 v85
  let v87 : BitVec 32 := v86
  let c16_i32_1301 : BitVec 32 := 16#32
  let v5076 : BitVec 32 := Scalar.addi v87 c16_i32_1301
  let v5077 : BitVec 32 := v5076
  let v5078 : Index := Scalar.indexCast v5077
  let c0_i32_348 : BitVec 32 := 0#32
  let c1_i32_350 : BitVec 32 := 1#32
  let arg20 : BitVec 32 := Scf.iv c0_i32_348 c1_i32_350 k0_t3
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v5079 : Index := Scalar.indexCast v1005
  ![v5078.toNat, v5079.toNat]
@[reducible] def k0_t4_loop (v3 : BitVec 32) (v5 : BitVec 32) : Scf.Loop 32 :=
  let c0_i32_33 : BitVec 32 := 0#32
  let v6 : BitVec 32 := Scalar.addi v3 v5
  let c0_i32_2 : BitVec 32 := 0#32
  let v9 : BitVec 1 := Scalar.cmpi .sgt v3 c0_i32_2
  let v10 : BitVec 32 := Scalar.extui v9
  let c0_i32_3 : BitVec 32 := 0#32
  let v11 : BitVec 1 := Scalar.cmpi .slt v3 c0_i32_3
  let v12 : BitVec 32 := Scalar.extui v11
  let v13 : BitVec 32 := Scalar.subi v10 v12
  let c16_i32 : BitVec 32 := 16#32
  let c0_i32_4 : BitVec 32 := 0#32
  let v14 : BitVec 1 := Scalar.cmpi .sgt c16_i32 c0_i32_4
  let v15 : BitVec 32 := Scalar.extui v14
  let c0_i32_5 : BitVec 32 := 0#32
  let v16 : BitVec 1 := Scalar.cmpi .slt c16_i32 c0_i32_5
  let v17 : BitVec 32 := Scalar.extui v16
  let v18 : BitVec 32 := Scalar.subi v15 v17
  let v19 : BitVec 1 := Scalar.cmpi .ne v13 v18
  let v20 : BitVec 32 := Scalar.remsi v3 c16_i32
  let c0_i32_6 : BitVec 32 := 0#32
  let v21 : BitVec 1 := Scalar.cmpi .ne v20 c0_i32_6
  let v22 : BitVec 1 := Scalar.andi v19 v21
  let v8 : BitVec 32 := Scalar.divsi v3 c16_i32
  let c1_i32 : BitVec 32 := 1#32
  let v23 : BitVec 32 := Scalar.subi v8 c1_i32
  let v24 : BitVec 32 := Scalar.select v22 v23 v8
  let c16_i32_7 : BitVec 32 := 16#32
  let v25 : BitVec 32 := Scalar.muli v24 c16_i32_7
  let v58 : BitVec 32 := Scalar.subi v6 v25
  let c128_i32 : BitVec 32 := 128#32
  let v59 : BitVec 32 := Scalar.addi v58 c128_i32
  let c1_i32_25 : BitVec 32 := 1#32
  let v60 : BitVec 32 := Scalar.subi v59 c1_i32_25
  let c0_i32_27 : BitVec 32 := 0#32
  let v62 : BitVec 1 := Scalar.cmpi .sgt v60 c0_i32_27
  let v63 : BitVec 32 := Scalar.extui v62
  let c0_i32_28 : BitVec 32 := 0#32
  let v64 : BitVec 1 := Scalar.cmpi .slt v60 c0_i32_28
  let v65 : BitVec 32 := Scalar.extui v64
  let v66 : BitVec 32 := Scalar.subi v63 v65
  let c128_i32_26 : BitVec 32 := 128#32
  let c0_i32_29 : BitVec 32 := 0#32
  let v67 : BitVec 1 := Scalar.cmpi .sgt c128_i32_26 c0_i32_29
  let v68 : BitVec 32 := Scalar.extui v67
  let c0_i32_30 : BitVec 32 := 0#32
  let v69 : BitVec 1 := Scalar.cmpi .slt c128_i32_26 c0_i32_30
  let v70 : BitVec 32 := Scalar.extui v69
  let v71 : BitVec 32 := Scalar.subi v68 v70
  let v72 : BitVec 1 := Scalar.cmpi .ne v66 v71
  let v73 : BitVec 32 := Scalar.remsi v60 c128_i32_26
  let c0_i32_31 : BitVec 32 := 0#32
  let v74 : BitVec 1 := Scalar.cmpi .ne v73 c0_i32_31
  let v75 : BitVec 1 := Scalar.andi v72 v74
  let v61 : BitVec 32 := Scalar.divsi v60 c128_i32_26
  let c1_i32_32 : BitVec 32 := 1#32
  let v76 : BitVec 32 := Scalar.subi v61 c1_i32_32
  let v77 : BitVec 32 := Scalar.select v75 v76 v61
  let v78 : BitVec 32 := Scalar.subi v77 c0_i32_33
  let c1_i32_35 : BitVec 32 := 1#32
  let v80 : BitVec 32 := Scalar.divsi v78 c1_i32_35
  let v81 : BitVec 32 := Scalar.muli v80 c1_i32_35
  let v82 : BitVec 32 := Scalar.addi c0_i32_33 v81
  let v79 : BitVec 32 := Scalar.addi c0_i32_33 v78
  let c1_i32_37 : BitVec 32 := 1#32
  ⟨v82, v79, c1_i32_37⟩
def k0_mult8 (v3 : BitVec 32) (v5 : BitVec 32) (k0_t4 : Fin (k0_t4_loop v3 v5).trips) : BitVec 32 :=
  let c0_i32_2 : BitVec 32 := 0#32
  let v9 : BitVec 1 := Scalar.cmpi .sgt v3 c0_i32_2
  let v10 : BitVec 32 := Scalar.extui v9
  let c0_i32_3 : BitVec 32 := 0#32
  let v11 : BitVec 1 := Scalar.cmpi .slt v3 c0_i32_3
  let v12 : BitVec 32 := Scalar.extui v11
  let v13 : BitVec 32 := Scalar.subi v10 v12
  let c16_i32 : BitVec 32 := 16#32
  let c0_i32_4 : BitVec 32 := 0#32
  let v14 : BitVec 1 := Scalar.cmpi .sgt c16_i32 c0_i32_4
  let v15 : BitVec 32 := Scalar.extui v14
  let c0_i32_5 : BitVec 32 := 0#32
  let v16 : BitVec 1 := Scalar.cmpi .slt c16_i32 c0_i32_5
  let v17 : BitVec 32 := Scalar.extui v16
  let v18 : BitVec 32 := Scalar.subi v15 v17
  let v19 : BitVec 1 := Scalar.cmpi .ne v13 v18
  let v20 : BitVec 32 := Scalar.remsi v3 c16_i32
  let c0_i32_6 : BitVec 32 := 0#32
  let v21 : BitVec 1 := Scalar.cmpi .ne v20 c0_i32_6
  let v22 : BitVec 1 := Scalar.andi v19 v21
  let v8 : BitVec 32 := Scalar.divsi v3 c16_i32
  let c1_i32 : BitVec 32 := 1#32
  let v23 : BitVec 32 := Scalar.subi v8 c1_i32
  let v24 : BitVec 32 := Scalar.select v22 v23 v8
  let c16_i32_7 : BitVec 32 := 16#32
  let v25 : BitVec 32 := Scalar.muli v24 c16_i32_7
  let c0_i32_33 : BitVec 32 := 0#32
  let v6 : BitVec 32 := Scalar.addi v3 v5
  let v58 : BitVec 32 := Scalar.subi v6 v25
  let c128_i32 : BitVec 32 := 128#32
  let v59 : BitVec 32 := Scalar.addi v58 c128_i32
  let c1_i32_25 : BitVec 32 := 1#32
  let v60 : BitVec 32 := Scalar.subi v59 c1_i32_25
  let c0_i32_27 : BitVec 32 := 0#32
  let v62 : BitVec 1 := Scalar.cmpi .sgt v60 c0_i32_27
  let v63 : BitVec 32 := Scalar.extui v62
  let c0_i32_28 : BitVec 32 := 0#32
  let v64 : BitVec 1 := Scalar.cmpi .slt v60 c0_i32_28
  let v65 : BitVec 32 := Scalar.extui v64
  let v66 : BitVec 32 := Scalar.subi v63 v65
  let c128_i32_26 : BitVec 32 := 128#32
  let c0_i32_29 : BitVec 32 := 0#32
  let v67 : BitVec 1 := Scalar.cmpi .sgt c128_i32_26 c0_i32_29
  let v68 : BitVec 32 := Scalar.extui v67
  let c0_i32_30 : BitVec 32 := 0#32
  let v69 : BitVec 1 := Scalar.cmpi .slt c128_i32_26 c0_i32_30
  let v70 : BitVec 32 := Scalar.extui v69
  let v71 : BitVec 32 := Scalar.subi v68 v70
  let v72 : BitVec 1 := Scalar.cmpi .ne v66 v71
  let v73 : BitVec 32 := Scalar.remsi v60 c128_i32_26
  let c0_i32_31 : BitVec 32 := 0#32
  let v74 : BitVec 1 := Scalar.cmpi .ne v73 c0_i32_31
  let v75 : BitVec 1 := Scalar.andi v72 v74
  let v61 : BitVec 32 := Scalar.divsi v60 c128_i32_26
  let c1_i32_32 : BitVec 32 := 1#32
  let v76 : BitVec 32 := Scalar.subi v61 c1_i32_32
  let v77 : BitVec 32 := Scalar.select v75 v76 v61
  let v78 : BitVec 32 := Scalar.subi v77 c0_i32_33
  let c1_i32_35 : BitVec 32 := 1#32
  let v80 : BitVec 32 := Scalar.divsi v78 c1_i32_35
  let v81 : BitVec 32 := Scalar.muli v80 c1_i32_35
  let v82 : BitVec 32 := Scalar.addi c0_i32_33 v81
  let c1_i32_37 : BitVec 32 := 1#32
  let arg18 : BitVec 32 := Scf.iv v82 c1_i32_37 k0_t4
  let c128_i32_38 : BitVec 32 := 128#32
  let v85 : BitVec 32 := Scalar.muli arg18 c128_i32_38
  let v86 : BitVec 32 := Scalar.addi v25 v85
  v86
def k0_off592 (v3 : BitVec 32) (v5 : BitVec 32) (k0_t4 : Fin (k0_t4_loop v3 v5).trips) : Fin 2 → Nat :=
  let c0_i32_2 : BitVec 32 := 0#32
  let v9 : BitVec 1 := Scalar.cmpi .sgt v3 c0_i32_2
  let v10 : BitVec 32 := Scalar.extui v9
  let c0_i32_3 : BitVec 32 := 0#32
  let v11 : BitVec 1 := Scalar.cmpi .slt v3 c0_i32_3
  let v12 : BitVec 32 := Scalar.extui v11
  let v13 : BitVec 32 := Scalar.subi v10 v12
  let c16_i32 : BitVec 32 := 16#32
  let c0_i32_4 : BitVec 32 := 0#32
  let v14 : BitVec 1 := Scalar.cmpi .sgt c16_i32 c0_i32_4
  let v15 : BitVec 32 := Scalar.extui v14
  let c0_i32_5 : BitVec 32 := 0#32
  let v16 : BitVec 1 := Scalar.cmpi .slt c16_i32 c0_i32_5
  let v17 : BitVec 32 := Scalar.extui v16
  let v18 : BitVec 32 := Scalar.subi v15 v17
  let v19 : BitVec 1 := Scalar.cmpi .ne v13 v18
  let v20 : BitVec 32 := Scalar.remsi v3 c16_i32
  let c0_i32_6 : BitVec 32 := 0#32
  let v21 : BitVec 1 := Scalar.cmpi .ne v20 c0_i32_6
  let v22 : BitVec 1 := Scalar.andi v19 v21
  let v8 : BitVec 32 := Scalar.divsi v3 c16_i32
  let c1_i32 : BitVec 32 := 1#32
  let v23 : BitVec 32 := Scalar.subi v8 c1_i32
  let v24 : BitVec 32 := Scalar.select v22 v23 v8
  let c16_i32_7 : BitVec 32 := 16#32
  let v25 : BitVec 32 := Scalar.muli v24 c16_i32_7
  let c0_i32_33 : BitVec 32 := 0#32
  let v6 : BitVec 32 := Scalar.addi v3 v5
  let v58 : BitVec 32 := Scalar.subi v6 v25
  let c128_i32 : BitVec 32 := 128#32
  let v59 : BitVec 32 := Scalar.addi v58 c128_i32
  let c1_i32_25 : BitVec 32 := 1#32
  let v60 : BitVec 32 := Scalar.subi v59 c1_i32_25
  let c0_i32_27 : BitVec 32 := 0#32
  let v62 : BitVec 1 := Scalar.cmpi .sgt v60 c0_i32_27
  let v63 : BitVec 32 := Scalar.extui v62
  let c0_i32_28 : BitVec 32 := 0#32
  let v64 : BitVec 1 := Scalar.cmpi .slt v60 c0_i32_28
  let v65 : BitVec 32 := Scalar.extui v64
  let v66 : BitVec 32 := Scalar.subi v63 v65
  let c128_i32_26 : BitVec 32 := 128#32
  let c0_i32_29 : BitVec 32 := 0#32
  let v67 : BitVec 1 := Scalar.cmpi .sgt c128_i32_26 c0_i32_29
  let v68 : BitVec 32 := Scalar.extui v67
  let c0_i32_30 : BitVec 32 := 0#32
  let v69 : BitVec 1 := Scalar.cmpi .slt c128_i32_26 c0_i32_30
  let v70 : BitVec 32 := Scalar.extui v69
  let v71 : BitVec 32 := Scalar.subi v68 v70
  let v72 : BitVec 1 := Scalar.cmpi .ne v66 v71
  let v73 : BitVec 32 := Scalar.remsi v60 c128_i32_26
  let c0_i32_31 : BitVec 32 := 0#32
  let v74 : BitVec 1 := Scalar.cmpi .ne v73 c0_i32_31
  let v75 : BitVec 1 := Scalar.andi v72 v74
  let v61 : BitVec 32 := Scalar.divsi v60 c128_i32_26
  let c1_i32_32 : BitVec 32 := 1#32
  let v76 : BitVec 32 := Scalar.subi v61 c1_i32_32
  let v77 : BitVec 32 := Scalar.select v75 v76 v61
  let v78 : BitVec 32 := Scalar.subi v77 c0_i32_33
  let c1_i32_35 : BitVec 32 := 1#32
  let v80 : BitVec 32 := Scalar.divsi v78 c1_i32_35
  let v81 : BitVec 32 := Scalar.muli v80 c1_i32_35
  let v82 : BitVec 32 := Scalar.addi c0_i32_33 v81
  let c1_i32_37 : BitVec 32 := 1#32
  let arg18 : BitVec 32 := Scf.iv v82 c1_i32_37 k0_t4
  let c128_i32_38 : BitVec 32 := 128#32
  let v85 : BitVec 32 := Scalar.muli arg18 c128_i32_38
  let v86 : BitVec 32 := Scalar.addi v25 v85
  let v87 : BitVec 32 := v86
  let v88 : Index := Scalar.indexCast v87
  let c0_39 : Index := 0#32
  ![v88.toNat, 0]
def k0_off593 (i : grid0.Coords) : Fin 1 → Nat :=
  let arg0 : BitVec 32 := BitVec.ofNat 32 (i 0).val
  let v90 : Index := Scalar.indexCast arg0
  ![v90.toNat]
@[reducible] def k0_t5_loop : Scf.Loop 32 :=
  let c0_i32_41 : BitVec 32 := 0#32
  let c10_i32 : BitVec 32 := 10#32
  let v94 : BitVec 32 := Scalar.addi c0_i32_41 c10_i32
  let c1_i32_42 : BitVec 32 := 1#32
  ⟨c0_i32_41, v94, c1_i32_42⟩
def k0_mult9 (k0_t5 : Fin k0_t5_loop.trips) : BitVec 32 :=
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  v1001
def k0_off594 (k0_t5 : Fin k0_t5_loop.trips) : Fin 3 → Nat :=
  let c0_354 : Index := 0#32
  let c0_355 : Index := 0#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1003 : Index := Scalar.indexCast v1002
  ![0, 0, v1003.toNat]
def k0_off595 (k0_t5 : Fin k0_t5_loop.trips) : Fin 2 → Nat :=
  let c0_356 : Index := 0#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1007 : Index := Scalar.indexCast v1002
  ![0, v1007.toNat]
def k0_off596 (k0_t5 : Fin k0_t5_loop.trips) : Fin 2 → Nat :=
  let c1_357 : Index := 1#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1012 : Index := Scalar.indexCast v1002
  ![1, v1012.toNat]
def k0_off597 (k0_t5 : Fin k0_t5_loop.trips) : Fin 2 → Nat :=
  let c0_358 : Index := 0#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1018 : Index := Scalar.indexCast v1002
  ![0, v1018.toNat]
def k0_off598 (k0_t5 : Fin k0_t5_loop.trips) : Fin 2 → Nat :=
  let c1_359 : Index := 1#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1023 : Index := Scalar.indexCast v1002
  ![1, v1023.toNat]
def k0_off599 (k0_t5 : Fin k0_t5_loop.trips) : Fin 3 → Nat :=
  let c0_367 : Index := 0#32
  let c32_368 : Index := 32#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1051 : Index := Scalar.indexCast v1002
  ![0, 32, v1051.toNat]
def k0_off600 (k0_t5 : Fin k0_t5_loop.trips) : Fin 2 → Nat :=
  let c2_369 : Index := 2#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1055 : Index := Scalar.indexCast v1002
  ![2, v1055.toNat]
def k0_off601 (k0_t5 : Fin k0_t5_loop.trips) : Fin 2 → Nat :=
  let c3_370 : Index := 3#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1060 : Index := Scalar.indexCast v1002
  ![3, v1060.toNat]
def k0_off602 (k0_t5 : Fin k0_t5_loop.trips) : Fin 2 → Nat :=
  let c2_371 : Index := 2#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1066 : Index := Scalar.indexCast v1002
  ![2, v1066.toNat]
def k0_off603 (k0_t5 : Fin k0_t5_loop.trips) : Fin 2 → Nat :=
  let c3_372 : Index := 3#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1071 : Index := Scalar.indexCast v1002
  ![3, v1071.toNat]
def k0_off604 (k0_t5 : Fin k0_t5_loop.trips) : Fin 3 → Nat :=
  let c0_380 : Index := 0#32
  let c64_381 : Index := 64#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1099 : Index := Scalar.indexCast v1002
  ![0, 64, v1099.toNat]
def k0_off605 (k0_t5 : Fin k0_t5_loop.trips) : Fin 2 → Nat :=
  let c4_382 : Index := 4#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1103 : Index := Scalar.indexCast v1002
  ![4, v1103.toNat]
def k0_off606 (k0_t5 : Fin k0_t5_loop.trips) : Fin 2 → Nat :=
  let c5_383 : Index := 5#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1108 : Index := Scalar.indexCast v1002
  ![5, v1108.toNat]
def k0_off607 (k0_t5 : Fin k0_t5_loop.trips) : Fin 2 → Nat :=
  let c4_384 : Index := 4#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1114 : Index := Scalar.indexCast v1002
  ![4, v1114.toNat]
def k0_off608 (k0_t5 : Fin k0_t5_loop.trips) : Fin 2 → Nat :=
  let c5_385 : Index := 5#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1119 : Index := Scalar.indexCast v1002
  ![5, v1119.toNat]
def k0_off609 (k0_t5 : Fin k0_t5_loop.trips) : Fin 3 → Nat :=
  let c0_393 : Index := 0#32
  let c96_394 : Index := 96#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1147 : Index := Scalar.indexCast v1002
  ![0, 96, v1147.toNat]
def k0_off610 (k0_t5 : Fin k0_t5_loop.trips) : Fin 2 → Nat :=
  let c6_395 : Index := 6#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1151 : Index := Scalar.indexCast v1002
  ![6, v1151.toNat]
def k0_off611 (k0_t5 : Fin k0_t5_loop.trips) : Fin 2 → Nat :=
  let c7_396 : Index := 7#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1156 : Index := Scalar.indexCast v1002
  ![7, v1156.toNat]
def k0_off612 (k0_t5 : Fin k0_t5_loop.trips) : Fin 2 → Nat :=
  let c6_397 : Index := 6#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1162 : Index := Scalar.indexCast v1002
  ![6, v1162.toNat]
def k0_off613 (k0_t5 : Fin k0_t5_loop.trips) : Fin 2 → Nat :=
  let c7_398 : Index := 7#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1167 : Index := Scalar.indexCast v1002
  ![7, v1167.toNat]
def k0_off614 (k0_t5 : Fin k0_t5_loop.trips) : Fin 3 → Nat :=
  let c0_406 : Index := 0#32
  let c128_407 : Index := 128#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1195 : Index := Scalar.indexCast v1002
  ![0, 128, v1195.toNat]
def k0_off615 (k0_t5 : Fin k0_t5_loop.trips) : Fin 2 → Nat :=
  let c8_408 : Index := 8#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1199 : Index := Scalar.indexCast v1002
  ![8, v1199.toNat]
def k0_off616 (k0_t5 : Fin k0_t5_loop.trips) : Fin 2 → Nat :=
  let c9_409 : Index := 9#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1204 : Index := Scalar.indexCast v1002
  ![9, v1204.toNat]
def k0_off617 (k0_t5 : Fin k0_t5_loop.trips) : Fin 2 → Nat :=
  let c8_410 : Index := 8#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1210 : Index := Scalar.indexCast v1002
  ![8, v1210.toNat]
def k0_off618 (k0_t5 : Fin k0_t5_loop.trips) : Fin 2 → Nat :=
  let c9_411 : Index := 9#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1215 : Index := Scalar.indexCast v1002
  ![9, v1215.toNat]
def k0_off619 (k0_t5 : Fin k0_t5_loop.trips) : Fin 3 → Nat :=
  let c0_419 : Index := 0#32
  let c160_420 : Index := 160#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1243 : Index := Scalar.indexCast v1002
  ![0, 160, v1243.toNat]
def k0_off620 (k0_t5 : Fin k0_t5_loop.trips) : Fin 2 → Nat :=
  let c10_421 : Index := 10#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1247 : Index := Scalar.indexCast v1002
  ![10, v1247.toNat]
def k0_off621 (k0_t5 : Fin k0_t5_loop.trips) : Fin 2 → Nat :=
  let c11_422 : Index := 11#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1252 : Index := Scalar.indexCast v1002
  ![11, v1252.toNat]
def k0_off622 (k0_t5 : Fin k0_t5_loop.trips) : Fin 2 → Nat :=
  let c10_423 : Index := 10#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1258 : Index := Scalar.indexCast v1002
  ![10, v1258.toNat]
def k0_off623 (k0_t5 : Fin k0_t5_loop.trips) : Fin 2 → Nat :=
  let c11_424 : Index := 11#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1263 : Index := Scalar.indexCast v1002
  ![11, v1263.toNat]
def k0_off624 (k0_t5 : Fin k0_t5_loop.trips) : Fin 3 → Nat :=
  let c0_432 : Index := 0#32
  let c192_433 : Index := 192#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1291 : Index := Scalar.indexCast v1002
  ![0, 192, v1291.toNat]
def k0_off625 (k0_t5 : Fin k0_t5_loop.trips) : Fin 2 → Nat :=
  let c12_434 : Index := 12#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1295 : Index := Scalar.indexCast v1002
  ![12, v1295.toNat]
def k0_off626 (k0_t5 : Fin k0_t5_loop.trips) : Fin 2 → Nat :=
  let c13_435 : Index := 13#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1300 : Index := Scalar.indexCast v1002
  ![13, v1300.toNat]
def k0_off627 (k0_t5 : Fin k0_t5_loop.trips) : Fin 2 → Nat :=
  let c12_436 : Index := 12#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1306 : Index := Scalar.indexCast v1002
  ![12, v1306.toNat]
def k0_off628 (k0_t5 : Fin k0_t5_loop.trips) : Fin 2 → Nat :=
  let c13_437 : Index := 13#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1311 : Index := Scalar.indexCast v1002
  ![13, v1311.toNat]
def k0_off629 (k0_t5 : Fin k0_t5_loop.trips) : Fin 3 → Nat :=
  let c0_445 : Index := 0#32
  let c224_446 : Index := 224#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1339 : Index := Scalar.indexCast v1002
  ![0, 224, v1339.toNat]
def k0_off630 (k0_t5 : Fin k0_t5_loop.trips) : Fin 2 → Nat :=
  let c14_447 : Index := 14#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1343 : Index := Scalar.indexCast v1002
  ![14, v1343.toNat]
def k0_off631 (k0_t5 : Fin k0_t5_loop.trips) : Fin 2 → Nat :=
  let c15_448 : Index := 15#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1348 : Index := Scalar.indexCast v1002
  ![15, v1348.toNat]
def k0_off632 (k0_t5 : Fin k0_t5_loop.trips) : Fin 2 → Nat :=
  let c14_449 : Index := 14#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1354 : Index := Scalar.indexCast v1002
  ![14, v1354.toNat]
def k0_off633 (k0_t5 : Fin k0_t5_loop.trips) : Fin 2 → Nat :=
  let c15_450 : Index := 15#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1359 : Index := Scalar.indexCast v1002
  ![15, v1359.toNat]
def k0_off634 (k0_t5 : Fin k0_t5_loop.trips) : Fin 3 → Nat :=
  let c0_458 : Index := 0#32
  let c256_459 : Index := 256#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1387 : Index := Scalar.indexCast v1002
  ![0, 256, v1387.toNat]
def k0_off635 (k0_t5 : Fin k0_t5_loop.trips) : Fin 2 → Nat :=
  let c16_460 : Index := 16#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1391 : Index := Scalar.indexCast v1002
  ![16, v1391.toNat]
def k0_off636 (k0_t5 : Fin k0_t5_loop.trips) : Fin 2 → Nat :=
  let c17_461 : Index := 17#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1396 : Index := Scalar.indexCast v1002
  ![17, v1396.toNat]
def k0_off637 (k0_t5 : Fin k0_t5_loop.trips) : Fin 2 → Nat :=
  let c16_462 : Index := 16#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1402 : Index := Scalar.indexCast v1002
  ![16, v1402.toNat]
def k0_off638 (k0_t5 : Fin k0_t5_loop.trips) : Fin 2 → Nat :=
  let c17_463 : Index := 17#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1407 : Index := Scalar.indexCast v1002
  ![17, v1407.toNat]
def k0_off639 (k0_t5 : Fin k0_t5_loop.trips) : Fin 3 → Nat :=
  let c0_471 : Index := 0#32
  let c288_472 : Index := 288#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1435 : Index := Scalar.indexCast v1002
  ![0, 288, v1435.toNat]
def k0_off640 (k0_t5 : Fin k0_t5_loop.trips) : Fin 2 → Nat :=
  let c18_473 : Index := 18#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1439 : Index := Scalar.indexCast v1002
  ![18, v1439.toNat]
def k0_off641 (k0_t5 : Fin k0_t5_loop.trips) : Fin 2 → Nat :=
  let c19_474 : Index := 19#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1444 : Index := Scalar.indexCast v1002
  ![19, v1444.toNat]
def k0_off642 (k0_t5 : Fin k0_t5_loop.trips) : Fin 2 → Nat :=
  let c18_475 : Index := 18#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1450 : Index := Scalar.indexCast v1002
  ![18, v1450.toNat]
def k0_off643 (k0_t5 : Fin k0_t5_loop.trips) : Fin 2 → Nat :=
  let c19_476 : Index := 19#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1455 : Index := Scalar.indexCast v1002
  ![19, v1455.toNat]
def k0_off644 (k0_t5 : Fin k0_t5_loop.trips) : Fin 3 → Nat :=
  let c0_484 : Index := 0#32
  let c320_485 : Index := 320#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1483 : Index := Scalar.indexCast v1002
  ![0, 320, v1483.toNat]
def k0_off645 (k0_t5 : Fin k0_t5_loop.trips) : Fin 2 → Nat :=
  let c20_486 : Index := 20#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1487 : Index := Scalar.indexCast v1002
  ![20, v1487.toNat]
def k0_off646 (k0_t5 : Fin k0_t5_loop.trips) : Fin 2 → Nat :=
  let c21_487 : Index := 21#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1492 : Index := Scalar.indexCast v1002
  ![21, v1492.toNat]
def k0_off647 (k0_t5 : Fin k0_t5_loop.trips) : Fin 2 → Nat :=
  let c20_488 : Index := 20#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1498 : Index := Scalar.indexCast v1002
  ![20, v1498.toNat]
def k0_off648 (k0_t5 : Fin k0_t5_loop.trips) : Fin 2 → Nat :=
  let c21_489 : Index := 21#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1503 : Index := Scalar.indexCast v1002
  ![21, v1503.toNat]
def k0_off649 (k0_t5 : Fin k0_t5_loop.trips) : Fin 3 → Nat :=
  let c0_497 : Index := 0#32
  let c352_498 : Index := 352#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1531 : Index := Scalar.indexCast v1002
  ![0, 352, v1531.toNat]
def k0_off650 (k0_t5 : Fin k0_t5_loop.trips) : Fin 2 → Nat :=
  let c22_499 : Index := 22#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1535 : Index := Scalar.indexCast v1002
  ![22, v1535.toNat]
def k0_off651 (k0_t5 : Fin k0_t5_loop.trips) : Fin 2 → Nat :=
  let c23_500 : Index := 23#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1540 : Index := Scalar.indexCast v1002
  ![23, v1540.toNat]
def k0_off652 (k0_t5 : Fin k0_t5_loop.trips) : Fin 2 → Nat :=
  let c22_501 : Index := 22#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1546 : Index := Scalar.indexCast v1002
  ![22, v1546.toNat]
def k0_off653 (k0_t5 : Fin k0_t5_loop.trips) : Fin 2 → Nat :=
  let c23_502 : Index := 23#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1551 : Index := Scalar.indexCast v1002
  ![23, v1551.toNat]
def k0_off654 (k0_t5 : Fin k0_t5_loop.trips) : Fin 3 → Nat :=
  let c0_510 : Index := 0#32
  let c384_511 : Index := 384#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1579 : Index := Scalar.indexCast v1002
  ![0, 384, v1579.toNat]
def k0_off655 (k0_t5 : Fin k0_t5_loop.trips) : Fin 2 → Nat :=
  let c24_512 : Index := 24#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1583 : Index := Scalar.indexCast v1002
  ![24, v1583.toNat]
def k0_off656 (k0_t5 : Fin k0_t5_loop.trips) : Fin 2 → Nat :=
  let c25_513 : Index := 25#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1588 : Index := Scalar.indexCast v1002
  ![25, v1588.toNat]
def k0_off657 (k0_t5 : Fin k0_t5_loop.trips) : Fin 2 → Nat :=
  let c24_514 : Index := 24#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1594 : Index := Scalar.indexCast v1002
  ![24, v1594.toNat]
def k0_off658 (k0_t5 : Fin k0_t5_loop.trips) : Fin 2 → Nat :=
  let c25_515 : Index := 25#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1599 : Index := Scalar.indexCast v1002
  ![25, v1599.toNat]
def k0_off659 (k0_t5 : Fin k0_t5_loop.trips) : Fin 3 → Nat :=
  let c0_523 : Index := 0#32
  let c416_524 : Index := 416#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1627 : Index := Scalar.indexCast v1002
  ![0, 416, v1627.toNat]
def k0_off660 (k0_t5 : Fin k0_t5_loop.trips) : Fin 2 → Nat :=
  let c26_525 : Index := 26#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1631 : Index := Scalar.indexCast v1002
  ![26, v1631.toNat]
def k0_off661 (k0_t5 : Fin k0_t5_loop.trips) : Fin 2 → Nat :=
  let c27_526 : Index := 27#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1636 : Index := Scalar.indexCast v1002
  ![27, v1636.toNat]
def k0_off662 (k0_t5 : Fin k0_t5_loop.trips) : Fin 2 → Nat :=
  let c26_527 : Index := 26#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1642 : Index := Scalar.indexCast v1002
  ![26, v1642.toNat]
def k0_off663 (k0_t5 : Fin k0_t5_loop.trips) : Fin 2 → Nat :=
  let c27_528 : Index := 27#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1647 : Index := Scalar.indexCast v1002
  ![27, v1647.toNat]
def k0_off664 (k0_t5 : Fin k0_t5_loop.trips) : Fin 3 → Nat :=
  let c0_536 : Index := 0#32
  let c448_537 : Index := 448#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1675 : Index := Scalar.indexCast v1002
  ![0, 448, v1675.toNat]
def k0_off665 (k0_t5 : Fin k0_t5_loop.trips) : Fin 2 → Nat :=
  let c28_538 : Index := 28#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1679 : Index := Scalar.indexCast v1002
  ![28, v1679.toNat]
def k0_off666 (k0_t5 : Fin k0_t5_loop.trips) : Fin 2 → Nat :=
  let c29_539 : Index := 29#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1684 : Index := Scalar.indexCast v1002
  ![29, v1684.toNat]
def k0_off667 (k0_t5 : Fin k0_t5_loop.trips) : Fin 2 → Nat :=
  let c28_540 : Index := 28#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1690 : Index := Scalar.indexCast v1002
  ![28, v1690.toNat]
def k0_off668 (k0_t5 : Fin k0_t5_loop.trips) : Fin 2 → Nat :=
  let c29_541 : Index := 29#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1695 : Index := Scalar.indexCast v1002
  ![29, v1695.toNat]
def k0_off669 (k0_t5 : Fin k0_t5_loop.trips) : Fin 3 → Nat :=
  let c0_549 : Index := 0#32
  let c480_550 : Index := 480#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1723 : Index := Scalar.indexCast v1002
  ![0, 480, v1723.toNat]
def k0_off670 (k0_t5 : Fin k0_t5_loop.trips) : Fin 2 → Nat :=
  let c30_551 : Index := 30#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1727 : Index := Scalar.indexCast v1002
  ![30, v1727.toNat]
def k0_off671 (k0_t5 : Fin k0_t5_loop.trips) : Fin 2 → Nat :=
  let c31_552 : Index := 31#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1732 : Index := Scalar.indexCast v1002
  ![31, v1732.toNat]
def k0_off672 (k0_t5 : Fin k0_t5_loop.trips) : Fin 2 → Nat :=
  let c30_553 : Index := 30#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1738 : Index := Scalar.indexCast v1002
  ![30, v1738.toNat]
def k0_off673 (k0_t5 : Fin k0_t5_loop.trips) : Fin 2 → Nat :=
  let c31_554 : Index := 31#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1743 : Index := Scalar.indexCast v1002
  ![31, v1743.toNat]
def k0_off674 (k0_t5 : Fin k0_t5_loop.trips) : Fin 3 → Nat :=
  let c0_562 : Index := 0#32
  let c512_563 : Index := 512#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1771 : Index := Scalar.indexCast v1002
  ![0, 512, v1771.toNat]
def k0_off675 (k0_t5 : Fin k0_t5_loop.trips) : Fin 2 → Nat :=
  let c32_564 : Index := 32#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1775 : Index := Scalar.indexCast v1002
  ![32, v1775.toNat]
def k0_off676 (k0_t5 : Fin k0_t5_loop.trips) : Fin 2 → Nat :=
  let c33_565 : Index := 33#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1780 : Index := Scalar.indexCast v1002
  ![33, v1780.toNat]
def k0_off677 (k0_t5 : Fin k0_t5_loop.trips) : Fin 2 → Nat :=
  let c32_566 : Index := 32#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1786 : Index := Scalar.indexCast v1002
  ![32, v1786.toNat]
def k0_off678 (k0_t5 : Fin k0_t5_loop.trips) : Fin 2 → Nat :=
  let c33_567 : Index := 33#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1791 : Index := Scalar.indexCast v1002
  ![33, v1791.toNat]
def k0_off679 (k0_t5 : Fin k0_t5_loop.trips) : Fin 3 → Nat :=
  let c0_575 : Index := 0#32
  let c544_576 : Index := 544#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1819 : Index := Scalar.indexCast v1002
  ![0, 544, v1819.toNat]
def k0_off680 (k0_t5 : Fin k0_t5_loop.trips) : Fin 2 → Nat :=
  let c34_577 : Index := 34#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1823 : Index := Scalar.indexCast v1002
  ![34, v1823.toNat]
def k0_off681 (k0_t5 : Fin k0_t5_loop.trips) : Fin 2 → Nat :=
  let c35_578 : Index := 35#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1828 : Index := Scalar.indexCast v1002
  ![35, v1828.toNat]
def k0_off682 (k0_t5 : Fin k0_t5_loop.trips) : Fin 2 → Nat :=
  let c34_579 : Index := 34#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1834 : Index := Scalar.indexCast v1002
  ![34, v1834.toNat]
def k0_off683 (k0_t5 : Fin k0_t5_loop.trips) : Fin 2 → Nat :=
  let c35_580 : Index := 35#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1839 : Index := Scalar.indexCast v1002
  ![35, v1839.toNat]
def k0_off684 (k0_t5 : Fin k0_t5_loop.trips) : Fin 3 → Nat :=
  let c0_588 : Index := 0#32
  let c576_589 : Index := 576#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1867 : Index := Scalar.indexCast v1002
  ![0, 576, v1867.toNat]
def k0_off685 (k0_t5 : Fin k0_t5_loop.trips) : Fin 2 → Nat :=
  let c36_590 : Index := 36#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1871 : Index := Scalar.indexCast v1002
  ![36, v1871.toNat]
def k0_off686 (k0_t5 : Fin k0_t5_loop.trips) : Fin 2 → Nat :=
  let c37_591 : Index := 37#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1876 : Index := Scalar.indexCast v1002
  ![37, v1876.toNat]
def k0_off687 (k0_t5 : Fin k0_t5_loop.trips) : Fin 2 → Nat :=
  let c36_592 : Index := 36#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1882 : Index := Scalar.indexCast v1002
  ![36, v1882.toNat]
def k0_off688 (k0_t5 : Fin k0_t5_loop.trips) : Fin 2 → Nat :=
  let c37_593 : Index := 37#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1887 : Index := Scalar.indexCast v1002
  ![37, v1887.toNat]
def k0_off689 (k0_t5 : Fin k0_t5_loop.trips) : Fin 3 → Nat :=
  let c0_601 : Index := 0#32
  let c608_602 : Index := 608#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1915 : Index := Scalar.indexCast v1002
  ![0, 608, v1915.toNat]
def k0_off690 (k0_t5 : Fin k0_t5_loop.trips) : Fin 2 → Nat :=
  let c38_603 : Index := 38#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1919 : Index := Scalar.indexCast v1002
  ![38, v1919.toNat]
def k0_off691 (k0_t5 : Fin k0_t5_loop.trips) : Fin 2 → Nat :=
  let c39_604 : Index := 39#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1924 : Index := Scalar.indexCast v1002
  ![39, v1924.toNat]
def k0_off692 (k0_t5 : Fin k0_t5_loop.trips) : Fin 2 → Nat :=
  let c38_605 : Index := 38#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1930 : Index := Scalar.indexCast v1002
  ![38, v1930.toNat]
def k0_off693 (k0_t5 : Fin k0_t5_loop.trips) : Fin 2 → Nat :=
  let c39_606 : Index := 39#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1935 : Index := Scalar.indexCast v1002
  ![39, v1935.toNat]
def k0_off694 (k0_t5 : Fin k0_t5_loop.trips) : Fin 3 → Nat :=
  let c0_614 : Index := 0#32
  let c640_615 : Index := 640#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1963 : Index := Scalar.indexCast v1002
  ![0, 640, v1963.toNat]
def k0_off695 (k0_t5 : Fin k0_t5_loop.trips) : Fin 2 → Nat :=
  let c40_616 : Index := 40#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1967 : Index := Scalar.indexCast v1002
  ![40, v1967.toNat]
def k0_off696 (k0_t5 : Fin k0_t5_loop.trips) : Fin 2 → Nat :=
  let c41_617 : Index := 41#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1972 : Index := Scalar.indexCast v1002
  ![41, v1972.toNat]
def k0_off697 (k0_t5 : Fin k0_t5_loop.trips) : Fin 2 → Nat :=
  let c40_618 : Index := 40#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1978 : Index := Scalar.indexCast v1002
  ![40, v1978.toNat]
def k0_off698 (k0_t5 : Fin k0_t5_loop.trips) : Fin 2 → Nat :=
  let c41_619 : Index := 41#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v1983 : Index := Scalar.indexCast v1002
  ![41, v1983.toNat]
def k0_off699 (k0_t5 : Fin k0_t5_loop.trips) : Fin 3 → Nat :=
  let c0_627 : Index := 0#32
  let c672_628 : Index := 672#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2011 : Index := Scalar.indexCast v1002
  ![0, 672, v2011.toNat]
def k0_off700 (k0_t5 : Fin k0_t5_loop.trips) : Fin 2 → Nat :=
  let c42_629 : Index := 42#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2015 : Index := Scalar.indexCast v1002
  ![42, v2015.toNat]
def k0_off701 (k0_t5 : Fin k0_t5_loop.trips) : Fin 2 → Nat :=
  let c43_630 : Index := 43#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2020 : Index := Scalar.indexCast v1002
  ![43, v2020.toNat]
def k0_off702 (k0_t5 : Fin k0_t5_loop.trips) : Fin 2 → Nat :=
  let c42_631 : Index := 42#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2026 : Index := Scalar.indexCast v1002
  ![42, v2026.toNat]
def k0_off703 (k0_t5 : Fin k0_t5_loop.trips) : Fin 2 → Nat :=
  let c43_632 : Index := 43#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2031 : Index := Scalar.indexCast v1002
  ![43, v2031.toNat]
def k0_off704 (k0_t5 : Fin k0_t5_loop.trips) : Fin 3 → Nat :=
  let c0_640 : Index := 0#32
  let c704_641 : Index := 704#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2059 : Index := Scalar.indexCast v1002
  ![0, 704, v2059.toNat]
def k0_off705 (k0_t5 : Fin k0_t5_loop.trips) : Fin 2 → Nat :=
  let c44_642 : Index := 44#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2063 : Index := Scalar.indexCast v1002
  ![44, v2063.toNat]
def k0_off706 (k0_t5 : Fin k0_t5_loop.trips) : Fin 2 → Nat :=
  let c45_643 : Index := 45#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2068 : Index := Scalar.indexCast v1002
  ![45, v2068.toNat]
def k0_off707 (k0_t5 : Fin k0_t5_loop.trips) : Fin 2 → Nat :=
  let c44_644 : Index := 44#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2074 : Index := Scalar.indexCast v1002
  ![44, v2074.toNat]
def k0_off708 (k0_t5 : Fin k0_t5_loop.trips) : Fin 2 → Nat :=
  let c45_645 : Index := 45#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2079 : Index := Scalar.indexCast v1002
  ![45, v2079.toNat]
def k0_off709 (k0_t5 : Fin k0_t5_loop.trips) : Fin 3 → Nat :=
  let c0_653 : Index := 0#32
  let c736_654 : Index := 736#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2107 : Index := Scalar.indexCast v1002
  ![0, 736, v2107.toNat]
def k0_off710 (k0_t5 : Fin k0_t5_loop.trips) : Fin 2 → Nat :=
  let c46_655 : Index := 46#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2111 : Index := Scalar.indexCast v1002
  ![46, v2111.toNat]
def k0_off711 (k0_t5 : Fin k0_t5_loop.trips) : Fin 2 → Nat :=
  let c47_656 : Index := 47#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2116 : Index := Scalar.indexCast v1002
  ![47, v2116.toNat]
def k0_off712 (k0_t5 : Fin k0_t5_loop.trips) : Fin 2 → Nat :=
  let c46_657 : Index := 46#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2122 : Index := Scalar.indexCast v1002
  ![46, v2122.toNat]
def k0_off713 (k0_t5 : Fin k0_t5_loop.trips) : Fin 2 → Nat :=
  let c47_658 : Index := 47#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2127 : Index := Scalar.indexCast v1002
  ![47, v2127.toNat]
def k0_off714 (k0_t5 : Fin k0_t5_loop.trips) : Fin 3 → Nat :=
  let c0_666 : Index := 0#32
  let c768_667 : Index := 768#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2155 : Index := Scalar.indexCast v1002
  ![0, 768, v2155.toNat]
def k0_off715 (k0_t5 : Fin k0_t5_loop.trips) : Fin 2 → Nat :=
  let c48_668 : Index := 48#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2159 : Index := Scalar.indexCast v1002
  ![48, v2159.toNat]
def k0_off716 (k0_t5 : Fin k0_t5_loop.trips) : Fin 2 → Nat :=
  let c49_669 : Index := 49#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2164 : Index := Scalar.indexCast v1002
  ![49, v2164.toNat]
def k0_off717 (k0_t5 : Fin k0_t5_loop.trips) : Fin 2 → Nat :=
  let c48_670 : Index := 48#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2170 : Index := Scalar.indexCast v1002
  ![48, v2170.toNat]
def k0_off718 (k0_t5 : Fin k0_t5_loop.trips) : Fin 2 → Nat :=
  let c49_671 : Index := 49#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2175 : Index := Scalar.indexCast v1002
  ![49, v2175.toNat]
def k0_off719 (k0_t5 : Fin k0_t5_loop.trips) : Fin 3 → Nat :=
  let c0_679 : Index := 0#32
  let c800_680 : Index := 800#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2203 : Index := Scalar.indexCast v1002
  ![0, 800, v2203.toNat]
def k0_off720 (k0_t5 : Fin k0_t5_loop.trips) : Fin 2 → Nat :=
  let c50_681 : Index := 50#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2207 : Index := Scalar.indexCast v1002
  ![50, v2207.toNat]
def k0_off721 (k0_t5 : Fin k0_t5_loop.trips) : Fin 2 → Nat :=
  let c51_682 : Index := 51#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2212 : Index := Scalar.indexCast v1002
  ![51, v2212.toNat]
def k0_off722 (k0_t5 : Fin k0_t5_loop.trips) : Fin 2 → Nat :=
  let c50_683 : Index := 50#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2218 : Index := Scalar.indexCast v1002
  ![50, v2218.toNat]
def k0_off723 (k0_t5 : Fin k0_t5_loop.trips) : Fin 2 → Nat :=
  let c51_684 : Index := 51#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2223 : Index := Scalar.indexCast v1002
  ![51, v2223.toNat]
def k0_off724 (k0_t5 : Fin k0_t5_loop.trips) : Fin 3 → Nat :=
  let c0_692 : Index := 0#32
  let c832_693 : Index := 832#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2251 : Index := Scalar.indexCast v1002
  ![0, 832, v2251.toNat]
def k0_off725 (k0_t5 : Fin k0_t5_loop.trips) : Fin 2 → Nat :=
  let c52_694 : Index := 52#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2255 : Index := Scalar.indexCast v1002
  ![52, v2255.toNat]
def k0_off726 (k0_t5 : Fin k0_t5_loop.trips) : Fin 2 → Nat :=
  let c53_695 : Index := 53#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2260 : Index := Scalar.indexCast v1002
  ![53, v2260.toNat]
def k0_off727 (k0_t5 : Fin k0_t5_loop.trips) : Fin 2 → Nat :=
  let c52_696 : Index := 52#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2266 : Index := Scalar.indexCast v1002
  ![52, v2266.toNat]
def k0_off728 (k0_t5 : Fin k0_t5_loop.trips) : Fin 2 → Nat :=
  let c53_697 : Index := 53#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2271 : Index := Scalar.indexCast v1002
  ![53, v2271.toNat]
def k0_off729 (k0_t5 : Fin k0_t5_loop.trips) : Fin 3 → Nat :=
  let c0_705 : Index := 0#32
  let c864_706 : Index := 864#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2299 : Index := Scalar.indexCast v1002
  ![0, 864, v2299.toNat]
def k0_off730 (k0_t5 : Fin k0_t5_loop.trips) : Fin 2 → Nat :=
  let c54_707 : Index := 54#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2303 : Index := Scalar.indexCast v1002
  ![54, v2303.toNat]
def k0_off731 (k0_t5 : Fin k0_t5_loop.trips) : Fin 2 → Nat :=
  let c55_708 : Index := 55#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2308 : Index := Scalar.indexCast v1002
  ![55, v2308.toNat]
def k0_off732 (k0_t5 : Fin k0_t5_loop.trips) : Fin 2 → Nat :=
  let c54_709 : Index := 54#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2314 : Index := Scalar.indexCast v1002
  ![54, v2314.toNat]
def k0_off733 (k0_t5 : Fin k0_t5_loop.trips) : Fin 2 → Nat :=
  let c55_710 : Index := 55#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2319 : Index := Scalar.indexCast v1002
  ![55, v2319.toNat]
def k0_off734 (k0_t5 : Fin k0_t5_loop.trips) : Fin 3 → Nat :=
  let c0_718 : Index := 0#32
  let c896_719 : Index := 896#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2347 : Index := Scalar.indexCast v1002
  ![0, 896, v2347.toNat]
def k0_off735 (k0_t5 : Fin k0_t5_loop.trips) : Fin 2 → Nat :=
  let c56_720 : Index := 56#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2351 : Index := Scalar.indexCast v1002
  ![56, v2351.toNat]
def k0_off736 (k0_t5 : Fin k0_t5_loop.trips) : Fin 2 → Nat :=
  let c57_721 : Index := 57#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2356 : Index := Scalar.indexCast v1002
  ![57, v2356.toNat]
def k0_off737 (k0_t5 : Fin k0_t5_loop.trips) : Fin 2 → Nat :=
  let c56_722 : Index := 56#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2362 : Index := Scalar.indexCast v1002
  ![56, v2362.toNat]
def k0_off738 (k0_t5 : Fin k0_t5_loop.trips) : Fin 2 → Nat :=
  let c57_723 : Index := 57#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2367 : Index := Scalar.indexCast v1002
  ![57, v2367.toNat]
def k0_off739 (k0_t5 : Fin k0_t5_loop.trips) : Fin 3 → Nat :=
  let c0_731 : Index := 0#32
  let c928_732 : Index := 928#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2395 : Index := Scalar.indexCast v1002
  ![0, 928, v2395.toNat]
def k0_off740 (k0_t5 : Fin k0_t5_loop.trips) : Fin 2 → Nat :=
  let c58_733 : Index := 58#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2399 : Index := Scalar.indexCast v1002
  ![58, v2399.toNat]
def k0_off741 (k0_t5 : Fin k0_t5_loop.trips) : Fin 2 → Nat :=
  let c59_734 : Index := 59#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2404 : Index := Scalar.indexCast v1002
  ![59, v2404.toNat]
def k0_off742 (k0_t5 : Fin k0_t5_loop.trips) : Fin 2 → Nat :=
  let c58_735 : Index := 58#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2410 : Index := Scalar.indexCast v1002
  ![58, v2410.toNat]
def k0_off743 (k0_t5 : Fin k0_t5_loop.trips) : Fin 2 → Nat :=
  let c59_736 : Index := 59#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2415 : Index := Scalar.indexCast v1002
  ![59, v2415.toNat]
def k0_off744 (k0_t5 : Fin k0_t5_loop.trips) : Fin 3 → Nat :=
  let c0_744 : Index := 0#32
  let c960_745 : Index := 960#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2443 : Index := Scalar.indexCast v1002
  ![0, 960, v2443.toNat]
def k0_off745 (k0_t5 : Fin k0_t5_loop.trips) : Fin 2 → Nat :=
  let c60_746 : Index := 60#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2447 : Index := Scalar.indexCast v1002
  ![60, v2447.toNat]
def k0_off746 (k0_t5 : Fin k0_t5_loop.trips) : Fin 2 → Nat :=
  let c61_747 : Index := 61#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2452 : Index := Scalar.indexCast v1002
  ![61, v2452.toNat]
def k0_off747 (k0_t5 : Fin k0_t5_loop.trips) : Fin 2 → Nat :=
  let c60_748 : Index := 60#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2458 : Index := Scalar.indexCast v1002
  ![60, v2458.toNat]
def k0_off748 (k0_t5 : Fin k0_t5_loop.trips) : Fin 2 → Nat :=
  let c61_749 : Index := 61#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2463 : Index := Scalar.indexCast v1002
  ![61, v2463.toNat]
def k0_off749 (k0_t5 : Fin k0_t5_loop.trips) : Fin 3 → Nat :=
  let c0_757 : Index := 0#32
  let c992_758 : Index := 992#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2491 : Index := Scalar.indexCast v1002
  ![0, 992, v2491.toNat]
def k0_off750 (k0_t5 : Fin k0_t5_loop.trips) : Fin 2 → Nat :=
  let c62_759 : Index := 62#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2495 : Index := Scalar.indexCast v1002
  ![62, v2495.toNat]
def k0_off751 (k0_t5 : Fin k0_t5_loop.trips) : Fin 2 → Nat :=
  let c63_760 : Index := 63#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2500 : Index := Scalar.indexCast v1002
  ![63, v2500.toNat]
def k0_off752 (k0_t5 : Fin k0_t5_loop.trips) : Fin 2 → Nat :=
  let c62_761 : Index := 62#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2506 : Index := Scalar.indexCast v1002
  ![62, v2506.toNat]
def k0_off753 (k0_t5 : Fin k0_t5_loop.trips) : Fin 2 → Nat :=
  let c63_762 : Index := 63#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2511 : Index := Scalar.indexCast v1002
  ![63, v2511.toNat]
def k0_off754 (k0_t5 : Fin k0_t5_loop.trips) : Fin 2 → Nat :=
  let c0_772 : Index := 0#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2550 : Index := Scalar.indexCast v1002
  ![0, v2550.toNat]
def k0_off755 (k0_t5 : Fin k0_t5_loop.trips) : Fin 2 → Nat :=
  let c0_773 : Index := 0#32
  let c0_i32_41 : BitVec 32 := 0#32
  let c1_i32_42 : BitVec 32 := 1#32
  let arg20 : BitVec 32 := Scf.iv c0_i32_41 c1_i32_42 k0_t5
  let c128_i32_353 : BitVec 32 := 128#32
  let v1001 : BitVec 32 := Scalar.muli arg20 c128_i32_353
  let v1002 : BitVec 32 := v1001
  let v2555 : Index := Scalar.indexCast v1002
  ![0, v2555.toNat]
def k0_off756 (v3 : BitVec 32) (v5 : BitVec 32) (k0_t4 : Fin (k0_t4_loop v3 v5).trips) : Fin 2 → Nat :=
  let c0_i32_2 : BitVec 32 := 0#32
  let v9 : BitVec 1 := Scalar.cmpi .sgt v3 c0_i32_2
  let v10 : BitVec 32 := Scalar.extui v9
  let c0_i32_3 : BitVec 32 := 0#32
  let v11 : BitVec 1 := Scalar.cmpi .slt v3 c0_i32_3
  let v12 : BitVec 32 := Scalar.extui v11
  let v13 : BitVec 32 := Scalar.subi v10 v12
  let c16_i32 : BitVec 32 := 16#32
  let c0_i32_4 : BitVec 32 := 0#32
  let v14 : BitVec 1 := Scalar.cmpi .sgt c16_i32 c0_i32_4
  let v15 : BitVec 32 := Scalar.extui v14
  let c0_i32_5 : BitVec 32 := 0#32
  let v16 : BitVec 1 := Scalar.cmpi .slt c16_i32 c0_i32_5
  let v17 : BitVec 32 := Scalar.extui v16
  let v18 : BitVec 32 := Scalar.subi v15 v17
  let v19 : BitVec 1 := Scalar.cmpi .ne v13 v18
  let v20 : BitVec 32 := Scalar.remsi v3 c16_i32
  let c0_i32_6 : BitVec 32 := 0#32
  let v21 : BitVec 1 := Scalar.cmpi .ne v20 c0_i32_6
  let v22 : BitVec 1 := Scalar.andi v19 v21
  let v8 : BitVec 32 := Scalar.divsi v3 c16_i32
  let c1_i32 : BitVec 32 := 1#32
  let v23 : BitVec 32 := Scalar.subi v8 c1_i32
  let v24 : BitVec 32 := Scalar.select v22 v23 v8
  let c16_i32_7 : BitVec 32 := 16#32
  let v25 : BitVec 32 := Scalar.muli v24 c16_i32_7
  let c0_i32_33 : BitVec 32 := 0#32
  let v6 : BitVec 32 := Scalar.addi v3 v5
  let v58 : BitVec 32 := Scalar.subi v6 v25
  let c128_i32 : BitVec 32 := 128#32
  let v59 : BitVec 32 := Scalar.addi v58 c128_i32
  let c1_i32_25 : BitVec 32 := 1#32
  let v60 : BitVec 32 := Scalar.subi v59 c1_i32_25
  let c0_i32_27 : BitVec 32 := 0#32
  let v62 : BitVec 1 := Scalar.cmpi .sgt v60 c0_i32_27
  let v63 : BitVec 32 := Scalar.extui v62
  let c0_i32_28 : BitVec 32 := 0#32
  let v64 : BitVec 1 := Scalar.cmpi .slt v60 c0_i32_28
  let v65 : BitVec 32 := Scalar.extui v64
  let v66 : BitVec 32 := Scalar.subi v63 v65
  let c128_i32_26 : BitVec 32 := 128#32
  let c0_i32_29 : BitVec 32 := 0#32
  let v67 : BitVec 1 := Scalar.cmpi .sgt c128_i32_26 c0_i32_29
  let v68 : BitVec 32 := Scalar.extui v67
  let c0_i32_30 : BitVec 32 := 0#32
  let v69 : BitVec 1 := Scalar.cmpi .slt c128_i32_26 c0_i32_30
  let v70 : BitVec 32 := Scalar.extui v69
  let v71 : BitVec 32 := Scalar.subi v68 v70
  let v72 : BitVec 1 := Scalar.cmpi .ne v66 v71
  let v73 : BitVec 32 := Scalar.remsi v60 c128_i32_26
  let c0_i32_31 : BitVec 32 := 0#32
  let v74 : BitVec 1 := Scalar.cmpi .ne v73 c0_i32_31
  let v75 : BitVec 1 := Scalar.andi v72 v74
  let v61 : BitVec 32 := Scalar.divsi v60 c128_i32_26
  let c1_i32_32 : BitVec 32 := 1#32
  let v76 : BitVec 32 := Scalar.subi v61 c1_i32_32
  let v77 : BitVec 32 := Scalar.select v75 v76 v61
  let v78 : BitVec 32 := Scalar.subi v77 c0_i32_33
  let c1_i32_35 : BitVec 32 := 1#32
  let v80 : BitVec 32 := Scalar.divsi v78 c1_i32_35
  let v81 : BitVec 32 := Scalar.muli v80 c1_i32_35
  let v82 : BitVec 32 := Scalar.addi c0_i32_33 v81
  let c1_i32_37 : BitVec 32 := 1#32
  let arg18 : BitVec 32 := Scf.iv v82 c1_i32_37 k0_t4
  let c128_i32_38 : BitVec 32 := 128#32
  let v85 : BitVec 32 := Scalar.muli arg18 c128_i32_38
  let v86 : BitVec 32 := Scalar.addi v25 v85
  let v87 : BitVec 32 := v86
  let v985 : Index := Scalar.indexCast v87
  let c0_339 : Index := 0#32
  ![v985.toNat, 0]
def k0_mult10 (v3 : BitVec 32) (v5 : BitVec 32) (k0_t4 : Fin (k0_t4_loop v3 v5).trips) : BitVec 32 :=
  let c0_i32_2 : BitVec 32 := 0#32
  let v9 : BitVec 1 := Scalar.cmpi .sgt v3 c0_i32_2
  let v10 : BitVec 32 := Scalar.extui v9
  let c0_i32_3 : BitVec 32 := 0#32
  let v11 : BitVec 1 := Scalar.cmpi .slt v3 c0_i32_3
  let v12 : BitVec 32 := Scalar.extui v11
  let v13 : BitVec 32 := Scalar.subi v10 v12
  let c16_i32 : BitVec 32 := 16#32
  let c0_i32_4 : BitVec 32 := 0#32
  let v14 : BitVec 1 := Scalar.cmpi .sgt c16_i32 c0_i32_4
  let v15 : BitVec 32 := Scalar.extui v14
  let c0_i32_5 : BitVec 32 := 0#32
  let v16 : BitVec 1 := Scalar.cmpi .slt c16_i32 c0_i32_5
  let v17 : BitVec 32 := Scalar.extui v16
  let v18 : BitVec 32 := Scalar.subi v15 v17
  let v19 : BitVec 1 := Scalar.cmpi .ne v13 v18
  let v20 : BitVec 32 := Scalar.remsi v3 c16_i32
  let c0_i32_6 : BitVec 32 := 0#32
  let v21 : BitVec 1 := Scalar.cmpi .ne v20 c0_i32_6
  let v22 : BitVec 1 := Scalar.andi v19 v21
  let v8 : BitVec 32 := Scalar.divsi v3 c16_i32
  let c1_i32 : BitVec 32 := 1#32
  let v23 : BitVec 32 := Scalar.subi v8 c1_i32
  let v24 : BitVec 32 := Scalar.select v22 v23 v8
  let c16_i32_7 : BitVec 32 := 16#32
  let v25 : BitVec 32 := Scalar.muli v24 c16_i32_7
  let c0_i32_33 : BitVec 32 := 0#32
  let v6 : BitVec 32 := Scalar.addi v3 v5
  let v58 : BitVec 32 := Scalar.subi v6 v25
  let c128_i32 : BitVec 32 := 128#32
  let v59 : BitVec 32 := Scalar.addi v58 c128_i32
  let c1_i32_25 : BitVec 32 := 1#32
  let v60 : BitVec 32 := Scalar.subi v59 c1_i32_25
  let c0_i32_27 : BitVec 32 := 0#32
  let v62 : BitVec 1 := Scalar.cmpi .sgt v60 c0_i32_27
  let v63 : BitVec 32 := Scalar.extui v62
  let c0_i32_28 : BitVec 32 := 0#32
  let v64 : BitVec 1 := Scalar.cmpi .slt v60 c0_i32_28
  let v65 : BitVec 32 := Scalar.extui v64
  let v66 : BitVec 32 := Scalar.subi v63 v65
  let c128_i32_26 : BitVec 32 := 128#32
  let c0_i32_29 : BitVec 32 := 0#32
  let v67 : BitVec 1 := Scalar.cmpi .sgt c128_i32_26 c0_i32_29
  let v68 : BitVec 32 := Scalar.extui v67
  let c0_i32_30 : BitVec 32 := 0#32
  let v69 : BitVec 1 := Scalar.cmpi .slt c128_i32_26 c0_i32_30
  let v70 : BitVec 32 := Scalar.extui v69
  let v71 : BitVec 32 := Scalar.subi v68 v70
  let v72 : BitVec 1 := Scalar.cmpi .ne v66 v71
  let v73 : BitVec 32 := Scalar.remsi v60 c128_i32_26
  let c0_i32_31 : BitVec 32 := 0#32
  let v74 : BitVec 1 := Scalar.cmpi .ne v73 c0_i32_31
  let v75 : BitVec 1 := Scalar.andi v72 v74
  let v61 : BitVec 32 := Scalar.divsi v60 c128_i32_26
  let c1_i32_32 : BitVec 32 := 1#32
  let v76 : BitVec 32 := Scalar.subi v61 c1_i32_32
  let v77 : BitVec 32 := Scalar.select v75 v76 v61
  let v78 : BitVec 32 := Scalar.subi v77 c0_i32_33
  let c1_i32_35 : BitVec 32 := 1#32
  let v80 : BitVec 32 := Scalar.divsi v78 c1_i32_35
  let v81 : BitVec 32 := Scalar.muli v80 c1_i32_35
  let v82 : BitVec 32 := Scalar.addi c0_i32_33 v81
  let c1_i32_37 : BitVec 32 := 1#32
  let arg18 : BitVec 32 := Scf.iv v82 c1_i32_37 k0_t4
  let c128_i32_38 : BitVec 32 := 128#32
  let v85 : BitVec 32 := Scalar.muli arg18 c128_i32_38
  let v86 : BitVec 32 := Scalar.addi v25 v85
  let v87 : BitVec 32 := v86
  let c16_i32_345 : BitVec 32 := 16#32
  let v995 : BitVec 32 := Scalar.addi v87 c16_i32_345
  v995
def k0_off757 (v3 : BitVec 32) (v5 : BitVec 32) (k0_t4 : Fin (k0_t4_loop v3 v5).trips) : Fin 2 → Nat :=
  let c0_i32_2 : BitVec 32 := 0#32
  let v9 : BitVec 1 := Scalar.cmpi .sgt v3 c0_i32_2
  let v10 : BitVec 32 := Scalar.extui v9
  let c0_i32_3 : BitVec 32 := 0#32
  let v11 : BitVec 1 := Scalar.cmpi .slt v3 c0_i32_3
  let v12 : BitVec 32 := Scalar.extui v11
  let v13 : BitVec 32 := Scalar.subi v10 v12
  let c16_i32 : BitVec 32 := 16#32
  let c0_i32_4 : BitVec 32 := 0#32
  let v14 : BitVec 1 := Scalar.cmpi .sgt c16_i32 c0_i32_4
  let v15 : BitVec 32 := Scalar.extui v14
  let c0_i32_5 : BitVec 32 := 0#32
  let v16 : BitVec 1 := Scalar.cmpi .slt c16_i32 c0_i32_5
  let v17 : BitVec 32 := Scalar.extui v16
  let v18 : BitVec 32 := Scalar.subi v15 v17
  let v19 : BitVec 1 := Scalar.cmpi .ne v13 v18
  let v20 : BitVec 32 := Scalar.remsi v3 c16_i32
  let c0_i32_6 : BitVec 32 := 0#32
  let v21 : BitVec 1 := Scalar.cmpi .ne v20 c0_i32_6
  let v22 : BitVec 1 := Scalar.andi v19 v21
  let v8 : BitVec 32 := Scalar.divsi v3 c16_i32
  let c1_i32 : BitVec 32 := 1#32
  let v23 : BitVec 32 := Scalar.subi v8 c1_i32
  let v24 : BitVec 32 := Scalar.select v22 v23 v8
  let c16_i32_7 : BitVec 32 := 16#32
  let v25 : BitVec 32 := Scalar.muli v24 c16_i32_7
  let c0_i32_33 : BitVec 32 := 0#32
  let v6 : BitVec 32 := Scalar.addi v3 v5
  let v58 : BitVec 32 := Scalar.subi v6 v25
  let c128_i32 : BitVec 32 := 128#32
  let v59 : BitVec 32 := Scalar.addi v58 c128_i32
  let c1_i32_25 : BitVec 32 := 1#32
  let v60 : BitVec 32 := Scalar.subi v59 c1_i32_25
  let c0_i32_27 : BitVec 32 := 0#32
  let v62 : BitVec 1 := Scalar.cmpi .sgt v60 c0_i32_27
  let v63 : BitVec 32 := Scalar.extui v62
  let c0_i32_28 : BitVec 32 := 0#32
  let v64 : BitVec 1 := Scalar.cmpi .slt v60 c0_i32_28
  let v65 : BitVec 32 := Scalar.extui v64
  let v66 : BitVec 32 := Scalar.subi v63 v65
  let c128_i32_26 : BitVec 32 := 128#32
  let c0_i32_29 : BitVec 32 := 0#32
  let v67 : BitVec 1 := Scalar.cmpi .sgt c128_i32_26 c0_i32_29
  let v68 : BitVec 32 := Scalar.extui v67
  let c0_i32_30 : BitVec 32 := 0#32
  let v69 : BitVec 1 := Scalar.cmpi .slt c128_i32_26 c0_i32_30
  let v70 : BitVec 32 := Scalar.extui v69
  let v71 : BitVec 32 := Scalar.subi v68 v70
  let v72 : BitVec 1 := Scalar.cmpi .ne v66 v71
  let v73 : BitVec 32 := Scalar.remsi v60 c128_i32_26
  let c0_i32_31 : BitVec 32 := 0#32
  let v74 : BitVec 1 := Scalar.cmpi .ne v73 c0_i32_31
  let v75 : BitVec 1 := Scalar.andi v72 v74
  let v61 : BitVec 32 := Scalar.divsi v60 c128_i32_26
  let c1_i32_32 : BitVec 32 := 1#32
  let v76 : BitVec 32 := Scalar.subi v61 c1_i32_32
  let v77 : BitVec 32 := Scalar.select v75 v76 v61
  let v78 : BitVec 32 := Scalar.subi v77 c0_i32_33
  let c1_i32_35 : BitVec 32 := 1#32
  let v80 : BitVec 32 := Scalar.divsi v78 c1_i32_35
  let v81 : BitVec 32 := Scalar.muli v80 c1_i32_35
  let v82 : BitVec 32 := Scalar.addi c0_i32_33 v81
  let c1_i32_37 : BitVec 32 := 1#32
  let arg18 : BitVec 32 := Scf.iv v82 c1_i32_37 k0_t4
  let c128_i32_38 : BitVec 32 := 128#32
  let v85 : BitVec 32 := Scalar.muli arg18 c128_i32_38
  let v86 : BitVec 32 := Scalar.addi v25 v85
  let v87 : BitVec 32 := v86
  let c16_i32_345 : BitVec 32 := 16#32
  let v995 : BitVec 32 := Scalar.addi v87 c16_i32_345
  let v996 : BitVec 32 := v995
  let v997 : Index := Scalar.indexCast v996
  let c0_346 : Index := 0#32
  ![v997.toNat, 0]
@[reducible] def k0_t6_loop : Scf.Loop 32 :=
  let c0_i32_348 : BitVec 32 := 0#32
  let c4_i32_349 : BitVec 32 := 4#32
  let v999 : BitVec 32 := Scalar.addi c0_i32_348 c4_i32_349
  let c1_i32_350 : BitVec 32 := 1#32
  ⟨c0_i32_348, v999, c1_i32_350⟩
def k0_mult11 (k0_t6 : Fin k0_t6_loop.trips) : BitVec 32 :=
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  v1001
def k0_mult12 (k0_t6 : Fin k0_t6_loop.trips) : BitVec 32 :=
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  v1004
def k0_off758 (k0_t6 : Fin k0_t6_loop.trips) : Fin 3 → Nat :=
  let c0_355 : Index := 0#32
  let c0_356 : Index := 0#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1006 : Index := Scalar.indexCast v1002
  ![0, 0, v1006.toNat]
def k0_off759 (k0_t6 : Fin k0_t6_loop.trips) : Fin 2 → Nat :=
  let c0_357 : Index := 0#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1010 : Index := Scalar.indexCast v1002
  ![0, v1010.toNat]
def k0_off760 (k0_t6 : Fin k0_t6_loop.trips) : Fin 2 → Nat :=
  let c1_358 : Index := 1#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1015 : Index := Scalar.indexCast v1002
  ![1, v1015.toNat]
def k0_off761 (k0_t6 : Fin k0_t6_loop.trips) : Fin 2 → Nat :=
  let c0_359 : Index := 0#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1021 : Index := Scalar.indexCast v1005
  ![0, v1021.toNat]
def k0_off762 (k0_t6 : Fin k0_t6_loop.trips) : Fin 2 → Nat :=
  let c1_360 : Index := 1#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1026 : Index := Scalar.indexCast v1005
  ![1, v1026.toNat]
def k0_off763 (k0_t6 : Fin k0_t6_loop.trips) : Fin 3 → Nat :=
  let c0_368 : Index := 0#32
  let c32_369 : Index := 32#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1054 : Index := Scalar.indexCast v1002
  ![0, 32, v1054.toNat]
def k0_off764 (k0_t6 : Fin k0_t6_loop.trips) : Fin 2 → Nat :=
  let c2_370 : Index := 2#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1058 : Index := Scalar.indexCast v1002
  ![2, v1058.toNat]
def k0_off765 (k0_t6 : Fin k0_t6_loop.trips) : Fin 2 → Nat :=
  let c3_371 : Index := 3#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1063 : Index := Scalar.indexCast v1002
  ![3, v1063.toNat]
def k0_off766 (k0_t6 : Fin k0_t6_loop.trips) : Fin 2 → Nat :=
  let c2_372 : Index := 2#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1069 : Index := Scalar.indexCast v1005
  ![2, v1069.toNat]
def k0_off767 (k0_t6 : Fin k0_t6_loop.trips) : Fin 2 → Nat :=
  let c3_373 : Index := 3#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1074 : Index := Scalar.indexCast v1005
  ![3, v1074.toNat]
def k0_off768 (k0_t6 : Fin k0_t6_loop.trips) : Fin 3 → Nat :=
  let c0_381 : Index := 0#32
  let c64_382 : Index := 64#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1102 : Index := Scalar.indexCast v1002
  ![0, 64, v1102.toNat]
def k0_off769 (k0_t6 : Fin k0_t6_loop.trips) : Fin 2 → Nat :=
  let c4_383 : Index := 4#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1106 : Index := Scalar.indexCast v1002
  ![4, v1106.toNat]
def k0_off770 (k0_t6 : Fin k0_t6_loop.trips) : Fin 2 → Nat :=
  let c5_384 : Index := 5#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1111 : Index := Scalar.indexCast v1002
  ![5, v1111.toNat]
def k0_off771 (k0_t6 : Fin k0_t6_loop.trips) : Fin 2 → Nat :=
  let c4_385 : Index := 4#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1117 : Index := Scalar.indexCast v1005
  ![4, v1117.toNat]
def k0_off772 (k0_t6 : Fin k0_t6_loop.trips) : Fin 2 → Nat :=
  let c5_386 : Index := 5#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1122 : Index := Scalar.indexCast v1005
  ![5, v1122.toNat]
def k0_off773 (k0_t6 : Fin k0_t6_loop.trips) : Fin 3 → Nat :=
  let c0_394 : Index := 0#32
  let c96_395 : Index := 96#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1150 : Index := Scalar.indexCast v1002
  ![0, 96, v1150.toNat]
def k0_off774 (k0_t6 : Fin k0_t6_loop.trips) : Fin 2 → Nat :=
  let c6_396 : Index := 6#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1154 : Index := Scalar.indexCast v1002
  ![6, v1154.toNat]
def k0_off775 (k0_t6 : Fin k0_t6_loop.trips) : Fin 2 → Nat :=
  let c7_397 : Index := 7#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1159 : Index := Scalar.indexCast v1002
  ![7, v1159.toNat]
def k0_off776 (k0_t6 : Fin k0_t6_loop.trips) : Fin 2 → Nat :=
  let c6_398 : Index := 6#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1165 : Index := Scalar.indexCast v1005
  ![6, v1165.toNat]
def k0_off777 (k0_t6 : Fin k0_t6_loop.trips) : Fin 2 → Nat :=
  let c7_399 : Index := 7#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1170 : Index := Scalar.indexCast v1005
  ![7, v1170.toNat]
def k0_off778 (k0_t6 : Fin k0_t6_loop.trips) : Fin 3 → Nat :=
  let c0_407 : Index := 0#32
  let c128_408 : Index := 128#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1198 : Index := Scalar.indexCast v1002
  ![0, 128, v1198.toNat]
def k0_off779 (k0_t6 : Fin k0_t6_loop.trips) : Fin 2 → Nat :=
  let c8_409 : Index := 8#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1202 : Index := Scalar.indexCast v1002
  ![8, v1202.toNat]
def k0_off780 (k0_t6 : Fin k0_t6_loop.trips) : Fin 2 → Nat :=
  let c9_410 : Index := 9#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1207 : Index := Scalar.indexCast v1002
  ![9, v1207.toNat]
def k0_off781 (k0_t6 : Fin k0_t6_loop.trips) : Fin 2 → Nat :=
  let c8_411 : Index := 8#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1213 : Index := Scalar.indexCast v1005
  ![8, v1213.toNat]
def k0_off782 (k0_t6 : Fin k0_t6_loop.trips) : Fin 2 → Nat :=
  let c9_412 : Index := 9#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1218 : Index := Scalar.indexCast v1005
  ![9, v1218.toNat]
def k0_off783 (k0_t6 : Fin k0_t6_loop.trips) : Fin 3 → Nat :=
  let c0_420 : Index := 0#32
  let c160_421 : Index := 160#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1246 : Index := Scalar.indexCast v1002
  ![0, 160, v1246.toNat]
def k0_off784 (k0_t6 : Fin k0_t6_loop.trips) : Fin 2 → Nat :=
  let c10_422 : Index := 10#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1250 : Index := Scalar.indexCast v1002
  ![10, v1250.toNat]
def k0_off785 (k0_t6 : Fin k0_t6_loop.trips) : Fin 2 → Nat :=
  let c11_423 : Index := 11#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1255 : Index := Scalar.indexCast v1002
  ![11, v1255.toNat]
def k0_off786 (k0_t6 : Fin k0_t6_loop.trips) : Fin 2 → Nat :=
  let c10_424 : Index := 10#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1261 : Index := Scalar.indexCast v1005
  ![10, v1261.toNat]
def k0_off787 (k0_t6 : Fin k0_t6_loop.trips) : Fin 2 → Nat :=
  let c11_425 : Index := 11#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1266 : Index := Scalar.indexCast v1005
  ![11, v1266.toNat]
def k0_off788 (k0_t6 : Fin k0_t6_loop.trips) : Fin 3 → Nat :=
  let c0_433 : Index := 0#32
  let c192_434 : Index := 192#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1294 : Index := Scalar.indexCast v1002
  ![0, 192, v1294.toNat]
def k0_off789 (k0_t6 : Fin k0_t6_loop.trips) : Fin 2 → Nat :=
  let c12_435 : Index := 12#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1298 : Index := Scalar.indexCast v1002
  ![12, v1298.toNat]
def k0_off790 (k0_t6 : Fin k0_t6_loop.trips) : Fin 2 → Nat :=
  let c13_436 : Index := 13#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1303 : Index := Scalar.indexCast v1002
  ![13, v1303.toNat]
def k0_off791 (k0_t6 : Fin k0_t6_loop.trips) : Fin 2 → Nat :=
  let c12_437 : Index := 12#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1309 : Index := Scalar.indexCast v1005
  ![12, v1309.toNat]
def k0_off792 (k0_t6 : Fin k0_t6_loop.trips) : Fin 2 → Nat :=
  let c13_438 : Index := 13#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1314 : Index := Scalar.indexCast v1005
  ![13, v1314.toNat]
def k0_off793 (k0_t6 : Fin k0_t6_loop.trips) : Fin 3 → Nat :=
  let c0_446 : Index := 0#32
  let c224_447 : Index := 224#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1342 : Index := Scalar.indexCast v1002
  ![0, 224, v1342.toNat]
def k0_off794 (k0_t6 : Fin k0_t6_loop.trips) : Fin 2 → Nat :=
  let c14_448 : Index := 14#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1346 : Index := Scalar.indexCast v1002
  ![14, v1346.toNat]
def k0_off795 (k0_t6 : Fin k0_t6_loop.trips) : Fin 2 → Nat :=
  let c15_449 : Index := 15#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1351 : Index := Scalar.indexCast v1002
  ![15, v1351.toNat]
def k0_off796 (k0_t6 : Fin k0_t6_loop.trips) : Fin 2 → Nat :=
  let c14_450 : Index := 14#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1357 : Index := Scalar.indexCast v1005
  ![14, v1357.toNat]
def k0_off797 (k0_t6 : Fin k0_t6_loop.trips) : Fin 2 → Nat :=
  let c15_451 : Index := 15#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1362 : Index := Scalar.indexCast v1005
  ![15, v1362.toNat]
def k0_off798 (k0_t6 : Fin k0_t6_loop.trips) : Fin 3 → Nat :=
  let c0_459 : Index := 0#32
  let c256_460 : Index := 256#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1390 : Index := Scalar.indexCast v1002
  ![0, 256, v1390.toNat]
def k0_off799 (k0_t6 : Fin k0_t6_loop.trips) : Fin 2 → Nat :=
  let c16_461 : Index := 16#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1394 : Index := Scalar.indexCast v1002
  ![16, v1394.toNat]
def k0_off800 (k0_t6 : Fin k0_t6_loop.trips) : Fin 2 → Nat :=
  let c17_462 : Index := 17#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1399 : Index := Scalar.indexCast v1002
  ![17, v1399.toNat]
def k0_off801 (k0_t6 : Fin k0_t6_loop.trips) : Fin 2 → Nat :=
  let c16_463 : Index := 16#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1405 : Index := Scalar.indexCast v1005
  ![16, v1405.toNat]
def k0_off802 (k0_t6 : Fin k0_t6_loop.trips) : Fin 2 → Nat :=
  let c17_464 : Index := 17#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1410 : Index := Scalar.indexCast v1005
  ![17, v1410.toNat]
def k0_off803 (k0_t6 : Fin k0_t6_loop.trips) : Fin 3 → Nat :=
  let c0_472 : Index := 0#32
  let c288_473 : Index := 288#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1438 : Index := Scalar.indexCast v1002
  ![0, 288, v1438.toNat]
def k0_off804 (k0_t6 : Fin k0_t6_loop.trips) : Fin 2 → Nat :=
  let c18_474 : Index := 18#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1442 : Index := Scalar.indexCast v1002
  ![18, v1442.toNat]
def k0_off805 (k0_t6 : Fin k0_t6_loop.trips) : Fin 2 → Nat :=
  let c19_475 : Index := 19#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1447 : Index := Scalar.indexCast v1002
  ![19, v1447.toNat]
def k0_off806 (k0_t6 : Fin k0_t6_loop.trips) : Fin 2 → Nat :=
  let c18_476 : Index := 18#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1453 : Index := Scalar.indexCast v1005
  ![18, v1453.toNat]
def k0_off807 (k0_t6 : Fin k0_t6_loop.trips) : Fin 2 → Nat :=
  let c19_477 : Index := 19#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1458 : Index := Scalar.indexCast v1005
  ![19, v1458.toNat]
def k0_off808 (k0_t6 : Fin k0_t6_loop.trips) : Fin 3 → Nat :=
  let c0_485 : Index := 0#32
  let c320_486 : Index := 320#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1486 : Index := Scalar.indexCast v1002
  ![0, 320, v1486.toNat]
def k0_off809 (k0_t6 : Fin k0_t6_loop.trips) : Fin 2 → Nat :=
  let c20_487 : Index := 20#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1490 : Index := Scalar.indexCast v1002
  ![20, v1490.toNat]
def k0_off810 (k0_t6 : Fin k0_t6_loop.trips) : Fin 2 → Nat :=
  let c21_488 : Index := 21#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1495 : Index := Scalar.indexCast v1002
  ![21, v1495.toNat]
def k0_off811 (k0_t6 : Fin k0_t6_loop.trips) : Fin 2 → Nat :=
  let c20_489 : Index := 20#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1501 : Index := Scalar.indexCast v1005
  ![20, v1501.toNat]
def k0_off812 (k0_t6 : Fin k0_t6_loop.trips) : Fin 2 → Nat :=
  let c21_490 : Index := 21#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1506 : Index := Scalar.indexCast v1005
  ![21, v1506.toNat]
def k0_off813 (k0_t6 : Fin k0_t6_loop.trips) : Fin 3 → Nat :=
  let c0_498 : Index := 0#32
  let c352_499 : Index := 352#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1534 : Index := Scalar.indexCast v1002
  ![0, 352, v1534.toNat]
def k0_off814 (k0_t6 : Fin k0_t6_loop.trips) : Fin 2 → Nat :=
  let c22_500 : Index := 22#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1538 : Index := Scalar.indexCast v1002
  ![22, v1538.toNat]
def k0_off815 (k0_t6 : Fin k0_t6_loop.trips) : Fin 2 → Nat :=
  let c23_501 : Index := 23#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1543 : Index := Scalar.indexCast v1002
  ![23, v1543.toNat]
def k0_off816 (k0_t6 : Fin k0_t6_loop.trips) : Fin 2 → Nat :=
  let c22_502 : Index := 22#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1549 : Index := Scalar.indexCast v1005
  ![22, v1549.toNat]
def k0_off817 (k0_t6 : Fin k0_t6_loop.trips) : Fin 2 → Nat :=
  let c23_503 : Index := 23#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1554 : Index := Scalar.indexCast v1005
  ![23, v1554.toNat]
def k0_off818 (k0_t6 : Fin k0_t6_loop.trips) : Fin 3 → Nat :=
  let c0_511 : Index := 0#32
  let c384_512 : Index := 384#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1582 : Index := Scalar.indexCast v1002
  ![0, 384, v1582.toNat]
def k0_off819 (k0_t6 : Fin k0_t6_loop.trips) : Fin 2 → Nat :=
  let c24_513 : Index := 24#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1586 : Index := Scalar.indexCast v1002
  ![24, v1586.toNat]
def k0_off820 (k0_t6 : Fin k0_t6_loop.trips) : Fin 2 → Nat :=
  let c25_514 : Index := 25#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1591 : Index := Scalar.indexCast v1002
  ![25, v1591.toNat]
def k0_off821 (k0_t6 : Fin k0_t6_loop.trips) : Fin 2 → Nat :=
  let c24_515 : Index := 24#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1597 : Index := Scalar.indexCast v1005
  ![24, v1597.toNat]
def k0_off822 (k0_t6 : Fin k0_t6_loop.trips) : Fin 2 → Nat :=
  let c25_516 : Index := 25#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1602 : Index := Scalar.indexCast v1005
  ![25, v1602.toNat]
def k0_off823 (k0_t6 : Fin k0_t6_loop.trips) : Fin 3 → Nat :=
  let c0_524 : Index := 0#32
  let c416_525 : Index := 416#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1630 : Index := Scalar.indexCast v1002
  ![0, 416, v1630.toNat]
def k0_off824 (k0_t6 : Fin k0_t6_loop.trips) : Fin 2 → Nat :=
  let c26_526 : Index := 26#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1634 : Index := Scalar.indexCast v1002
  ![26, v1634.toNat]
def k0_off825 (k0_t6 : Fin k0_t6_loop.trips) : Fin 2 → Nat :=
  let c27_527 : Index := 27#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1639 : Index := Scalar.indexCast v1002
  ![27, v1639.toNat]
def k0_off826 (k0_t6 : Fin k0_t6_loop.trips) : Fin 2 → Nat :=
  let c26_528 : Index := 26#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1645 : Index := Scalar.indexCast v1005
  ![26, v1645.toNat]
def k0_off827 (k0_t6 : Fin k0_t6_loop.trips) : Fin 2 → Nat :=
  let c27_529 : Index := 27#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1650 : Index := Scalar.indexCast v1005
  ![27, v1650.toNat]
def k0_off828 (k0_t6 : Fin k0_t6_loop.trips) : Fin 3 → Nat :=
  let c0_537 : Index := 0#32
  let c448_538 : Index := 448#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1678 : Index := Scalar.indexCast v1002
  ![0, 448, v1678.toNat]
def k0_off829 (k0_t6 : Fin k0_t6_loop.trips) : Fin 2 → Nat :=
  let c28_539 : Index := 28#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1682 : Index := Scalar.indexCast v1002
  ![28, v1682.toNat]
def k0_off830 (k0_t6 : Fin k0_t6_loop.trips) : Fin 2 → Nat :=
  let c29_540 : Index := 29#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1687 : Index := Scalar.indexCast v1002
  ![29, v1687.toNat]
def k0_off831 (k0_t6 : Fin k0_t6_loop.trips) : Fin 2 → Nat :=
  let c28_541 : Index := 28#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1693 : Index := Scalar.indexCast v1005
  ![28, v1693.toNat]
def k0_off832 (k0_t6 : Fin k0_t6_loop.trips) : Fin 2 → Nat :=
  let c29_542 : Index := 29#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1698 : Index := Scalar.indexCast v1005
  ![29, v1698.toNat]
def k0_off833 (k0_t6 : Fin k0_t6_loop.trips) : Fin 3 → Nat :=
  let c0_550 : Index := 0#32
  let c480_551 : Index := 480#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1726 : Index := Scalar.indexCast v1002
  ![0, 480, v1726.toNat]
def k0_off834 (k0_t6 : Fin k0_t6_loop.trips) : Fin 2 → Nat :=
  let c30_552 : Index := 30#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1730 : Index := Scalar.indexCast v1002
  ![30, v1730.toNat]
def k0_off835 (k0_t6 : Fin k0_t6_loop.trips) : Fin 2 → Nat :=
  let c31_553 : Index := 31#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1735 : Index := Scalar.indexCast v1002
  ![31, v1735.toNat]
def k0_off836 (k0_t6 : Fin k0_t6_loop.trips) : Fin 2 → Nat :=
  let c30_554 : Index := 30#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1741 : Index := Scalar.indexCast v1005
  ![30, v1741.toNat]
def k0_off837 (k0_t6 : Fin k0_t6_loop.trips) : Fin 2 → Nat :=
  let c31_555 : Index := 31#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1746 : Index := Scalar.indexCast v1005
  ![31, v1746.toNat]
def k0_off838 (k0_t6 : Fin k0_t6_loop.trips) : Fin 3 → Nat :=
  let c0_563 : Index := 0#32
  let c512_564 : Index := 512#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1774 : Index := Scalar.indexCast v1002
  ![0, 512, v1774.toNat]
def k0_off839 (k0_t6 : Fin k0_t6_loop.trips) : Fin 2 → Nat :=
  let c32_565 : Index := 32#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1778 : Index := Scalar.indexCast v1002
  ![32, v1778.toNat]
def k0_off840 (k0_t6 : Fin k0_t6_loop.trips) : Fin 2 → Nat :=
  let c33_566 : Index := 33#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1783 : Index := Scalar.indexCast v1002
  ![33, v1783.toNat]
def k0_off841 (k0_t6 : Fin k0_t6_loop.trips) : Fin 2 → Nat :=
  let c32_567 : Index := 32#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1789 : Index := Scalar.indexCast v1005
  ![32, v1789.toNat]
def k0_off842 (k0_t6 : Fin k0_t6_loop.trips) : Fin 2 → Nat :=
  let c33_568 : Index := 33#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1794 : Index := Scalar.indexCast v1005
  ![33, v1794.toNat]
def k0_off843 (k0_t6 : Fin k0_t6_loop.trips) : Fin 3 → Nat :=
  let c0_576 : Index := 0#32
  let c544_577 : Index := 544#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1822 : Index := Scalar.indexCast v1002
  ![0, 544, v1822.toNat]
def k0_off844 (k0_t6 : Fin k0_t6_loop.trips) : Fin 2 → Nat :=
  let c34_578 : Index := 34#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1826 : Index := Scalar.indexCast v1002
  ![34, v1826.toNat]
def k0_off845 (k0_t6 : Fin k0_t6_loop.trips) : Fin 2 → Nat :=
  let c35_579 : Index := 35#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1831 : Index := Scalar.indexCast v1002
  ![35, v1831.toNat]
def k0_off846 (k0_t6 : Fin k0_t6_loop.trips) : Fin 2 → Nat :=
  let c34_580 : Index := 34#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1837 : Index := Scalar.indexCast v1005
  ![34, v1837.toNat]
def k0_off847 (k0_t6 : Fin k0_t6_loop.trips) : Fin 2 → Nat :=
  let c35_581 : Index := 35#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1842 : Index := Scalar.indexCast v1005
  ![35, v1842.toNat]
def k0_off848 (k0_t6 : Fin k0_t6_loop.trips) : Fin 3 → Nat :=
  let c0_589 : Index := 0#32
  let c576_590 : Index := 576#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1870 : Index := Scalar.indexCast v1002
  ![0, 576, v1870.toNat]
def k0_off849 (k0_t6 : Fin k0_t6_loop.trips) : Fin 2 → Nat :=
  let c36_591 : Index := 36#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1874 : Index := Scalar.indexCast v1002
  ![36, v1874.toNat]
def k0_off850 (k0_t6 : Fin k0_t6_loop.trips) : Fin 2 → Nat :=
  let c37_592 : Index := 37#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1879 : Index := Scalar.indexCast v1002
  ![37, v1879.toNat]
def k0_off851 (k0_t6 : Fin k0_t6_loop.trips) : Fin 2 → Nat :=
  let c36_593 : Index := 36#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1885 : Index := Scalar.indexCast v1005
  ![36, v1885.toNat]
def k0_off852 (k0_t6 : Fin k0_t6_loop.trips) : Fin 2 → Nat :=
  let c37_594 : Index := 37#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1890 : Index := Scalar.indexCast v1005
  ![37, v1890.toNat]
def k0_off853 (k0_t6 : Fin k0_t6_loop.trips) : Fin 3 → Nat :=
  let c0_602 : Index := 0#32
  let c608_603 : Index := 608#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1918 : Index := Scalar.indexCast v1002
  ![0, 608, v1918.toNat]
def k0_off854 (k0_t6 : Fin k0_t6_loop.trips) : Fin 2 → Nat :=
  let c38_604 : Index := 38#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1922 : Index := Scalar.indexCast v1002
  ![38, v1922.toNat]
def k0_off855 (k0_t6 : Fin k0_t6_loop.trips) : Fin 2 → Nat :=
  let c39_605 : Index := 39#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1927 : Index := Scalar.indexCast v1002
  ![39, v1927.toNat]
def k0_off856 (k0_t6 : Fin k0_t6_loop.trips) : Fin 2 → Nat :=
  let c38_606 : Index := 38#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1933 : Index := Scalar.indexCast v1005
  ![38, v1933.toNat]
def k0_off857 (k0_t6 : Fin k0_t6_loop.trips) : Fin 2 → Nat :=
  let c39_607 : Index := 39#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1938 : Index := Scalar.indexCast v1005
  ![39, v1938.toNat]
def k0_off858 (k0_t6 : Fin k0_t6_loop.trips) : Fin 3 → Nat :=
  let c0_615 : Index := 0#32
  let c640_616 : Index := 640#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1966 : Index := Scalar.indexCast v1002
  ![0, 640, v1966.toNat]
def k0_off859 (k0_t6 : Fin k0_t6_loop.trips) : Fin 2 → Nat :=
  let c40_617 : Index := 40#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1970 : Index := Scalar.indexCast v1002
  ![40, v1970.toNat]
def k0_off860 (k0_t6 : Fin k0_t6_loop.trips) : Fin 2 → Nat :=
  let c41_618 : Index := 41#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v1975 : Index := Scalar.indexCast v1002
  ![41, v1975.toNat]
def k0_off861 (k0_t6 : Fin k0_t6_loop.trips) : Fin 2 → Nat :=
  let c40_619 : Index := 40#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1981 : Index := Scalar.indexCast v1005
  ![40, v1981.toNat]
def k0_off862 (k0_t6 : Fin k0_t6_loop.trips) : Fin 2 → Nat :=
  let c41_620 : Index := 41#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v1986 : Index := Scalar.indexCast v1005
  ![41, v1986.toNat]
def k0_off863 (k0_t6 : Fin k0_t6_loop.trips) : Fin 3 → Nat :=
  let c0_628 : Index := 0#32
  let c672_629 : Index := 672#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2014 : Index := Scalar.indexCast v1002
  ![0, 672, v2014.toNat]
def k0_off864 (k0_t6 : Fin k0_t6_loop.trips) : Fin 2 → Nat :=
  let c42_630 : Index := 42#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2018 : Index := Scalar.indexCast v1002
  ![42, v2018.toNat]
def k0_off865 (k0_t6 : Fin k0_t6_loop.trips) : Fin 2 → Nat :=
  let c43_631 : Index := 43#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2023 : Index := Scalar.indexCast v1002
  ![43, v2023.toNat]
def k0_off866 (k0_t6 : Fin k0_t6_loop.trips) : Fin 2 → Nat :=
  let c42_632 : Index := 42#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2029 : Index := Scalar.indexCast v1005
  ![42, v2029.toNat]
def k0_off867 (k0_t6 : Fin k0_t6_loop.trips) : Fin 2 → Nat :=
  let c43_633 : Index := 43#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2034 : Index := Scalar.indexCast v1005
  ![43, v2034.toNat]
def k0_off868 (k0_t6 : Fin k0_t6_loop.trips) : Fin 3 → Nat :=
  let c0_641 : Index := 0#32
  let c704_642 : Index := 704#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2062 : Index := Scalar.indexCast v1002
  ![0, 704, v2062.toNat]
def k0_off869 (k0_t6 : Fin k0_t6_loop.trips) : Fin 2 → Nat :=
  let c44_643 : Index := 44#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2066 : Index := Scalar.indexCast v1002
  ![44, v2066.toNat]
def k0_off870 (k0_t6 : Fin k0_t6_loop.trips) : Fin 2 → Nat :=
  let c45_644 : Index := 45#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2071 : Index := Scalar.indexCast v1002
  ![45, v2071.toNat]
def k0_off871 (k0_t6 : Fin k0_t6_loop.trips) : Fin 2 → Nat :=
  let c44_645 : Index := 44#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2077 : Index := Scalar.indexCast v1005
  ![44, v2077.toNat]
def k0_off872 (k0_t6 : Fin k0_t6_loop.trips) : Fin 2 → Nat :=
  let c45_646 : Index := 45#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2082 : Index := Scalar.indexCast v1005
  ![45, v2082.toNat]
def k0_off873 (k0_t6 : Fin k0_t6_loop.trips) : Fin 3 → Nat :=
  let c0_654 : Index := 0#32
  let c736_655 : Index := 736#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2110 : Index := Scalar.indexCast v1002
  ![0, 736, v2110.toNat]
def k0_off874 (k0_t6 : Fin k0_t6_loop.trips) : Fin 2 → Nat :=
  let c46_656 : Index := 46#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2114 : Index := Scalar.indexCast v1002
  ![46, v2114.toNat]
def k0_off875 (k0_t6 : Fin k0_t6_loop.trips) : Fin 2 → Nat :=
  let c47_657 : Index := 47#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2119 : Index := Scalar.indexCast v1002
  ![47, v2119.toNat]
def k0_off876 (k0_t6 : Fin k0_t6_loop.trips) : Fin 2 → Nat :=
  let c46_658 : Index := 46#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2125 : Index := Scalar.indexCast v1005
  ![46, v2125.toNat]
def k0_off877 (k0_t6 : Fin k0_t6_loop.trips) : Fin 2 → Nat :=
  let c47_659 : Index := 47#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2130 : Index := Scalar.indexCast v1005
  ![47, v2130.toNat]
def k0_off878 (k0_t6 : Fin k0_t6_loop.trips) : Fin 3 → Nat :=
  let c0_667 : Index := 0#32
  let c768_668 : Index := 768#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2158 : Index := Scalar.indexCast v1002
  ![0, 768, v2158.toNat]
def k0_off879 (k0_t6 : Fin k0_t6_loop.trips) : Fin 2 → Nat :=
  let c48_669 : Index := 48#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2162 : Index := Scalar.indexCast v1002
  ![48, v2162.toNat]
def k0_off880 (k0_t6 : Fin k0_t6_loop.trips) : Fin 2 → Nat :=
  let c49_670 : Index := 49#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2167 : Index := Scalar.indexCast v1002
  ![49, v2167.toNat]
def k0_off881 (k0_t6 : Fin k0_t6_loop.trips) : Fin 2 → Nat :=
  let c48_671 : Index := 48#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2173 : Index := Scalar.indexCast v1005
  ![48, v2173.toNat]
def k0_off882 (k0_t6 : Fin k0_t6_loop.trips) : Fin 2 → Nat :=
  let c49_672 : Index := 49#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2178 : Index := Scalar.indexCast v1005
  ![49, v2178.toNat]
def k0_off883 (k0_t6 : Fin k0_t6_loop.trips) : Fin 3 → Nat :=
  let c0_680 : Index := 0#32
  let c800_681 : Index := 800#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2206 : Index := Scalar.indexCast v1002
  ![0, 800, v2206.toNat]
def k0_off884 (k0_t6 : Fin k0_t6_loop.trips) : Fin 2 → Nat :=
  let c50_682 : Index := 50#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2210 : Index := Scalar.indexCast v1002
  ![50, v2210.toNat]
def k0_off885 (k0_t6 : Fin k0_t6_loop.trips) : Fin 2 → Nat :=
  let c51_683 : Index := 51#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2215 : Index := Scalar.indexCast v1002
  ![51, v2215.toNat]
def k0_off886 (k0_t6 : Fin k0_t6_loop.trips) : Fin 2 → Nat :=
  let c50_684 : Index := 50#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2221 : Index := Scalar.indexCast v1005
  ![50, v2221.toNat]
def k0_off887 (k0_t6 : Fin k0_t6_loop.trips) : Fin 2 → Nat :=
  let c51_685 : Index := 51#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2226 : Index := Scalar.indexCast v1005
  ![51, v2226.toNat]
def k0_off888 (k0_t6 : Fin k0_t6_loop.trips) : Fin 3 → Nat :=
  let c0_693 : Index := 0#32
  let c832_694 : Index := 832#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2254 : Index := Scalar.indexCast v1002
  ![0, 832, v2254.toNat]
def k0_off889 (k0_t6 : Fin k0_t6_loop.trips) : Fin 2 → Nat :=
  let c52_695 : Index := 52#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2258 : Index := Scalar.indexCast v1002
  ![52, v2258.toNat]
def k0_off890 (k0_t6 : Fin k0_t6_loop.trips) : Fin 2 → Nat :=
  let c53_696 : Index := 53#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2263 : Index := Scalar.indexCast v1002
  ![53, v2263.toNat]
def k0_off891 (k0_t6 : Fin k0_t6_loop.trips) : Fin 2 → Nat :=
  let c52_697 : Index := 52#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2269 : Index := Scalar.indexCast v1005
  ![52, v2269.toNat]
def k0_off892 (k0_t6 : Fin k0_t6_loop.trips) : Fin 2 → Nat :=
  let c53_698 : Index := 53#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2274 : Index := Scalar.indexCast v1005
  ![53, v2274.toNat]
def k0_off893 (k0_t6 : Fin k0_t6_loop.trips) : Fin 3 → Nat :=
  let c0_706 : Index := 0#32
  let c864_707 : Index := 864#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2302 : Index := Scalar.indexCast v1002
  ![0, 864, v2302.toNat]
def k0_off894 (k0_t6 : Fin k0_t6_loop.trips) : Fin 2 → Nat :=
  let c54_708 : Index := 54#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2306 : Index := Scalar.indexCast v1002
  ![54, v2306.toNat]
def k0_off895 (k0_t6 : Fin k0_t6_loop.trips) : Fin 2 → Nat :=
  let c55_709 : Index := 55#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2311 : Index := Scalar.indexCast v1002
  ![55, v2311.toNat]
def k0_off896 (k0_t6 : Fin k0_t6_loop.trips) : Fin 2 → Nat :=
  let c54_710 : Index := 54#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2317 : Index := Scalar.indexCast v1005
  ![54, v2317.toNat]
def k0_off897 (k0_t6 : Fin k0_t6_loop.trips) : Fin 2 → Nat :=
  let c55_711 : Index := 55#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2322 : Index := Scalar.indexCast v1005
  ![55, v2322.toNat]
def k0_off898 (k0_t6 : Fin k0_t6_loop.trips) : Fin 3 → Nat :=
  let c0_719 : Index := 0#32
  let c896_720 : Index := 896#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2350 : Index := Scalar.indexCast v1002
  ![0, 896, v2350.toNat]
def k0_off899 (k0_t6 : Fin k0_t6_loop.trips) : Fin 2 → Nat :=
  let c56_721 : Index := 56#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2354 : Index := Scalar.indexCast v1002
  ![56, v2354.toNat]
def k0_off900 (k0_t6 : Fin k0_t6_loop.trips) : Fin 2 → Nat :=
  let c57_722 : Index := 57#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2359 : Index := Scalar.indexCast v1002
  ![57, v2359.toNat]
def k0_off901 (k0_t6 : Fin k0_t6_loop.trips) : Fin 2 → Nat :=
  let c56_723 : Index := 56#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2365 : Index := Scalar.indexCast v1005
  ![56, v2365.toNat]
def k0_off902 (k0_t6 : Fin k0_t6_loop.trips) : Fin 2 → Nat :=
  let c57_724 : Index := 57#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2370 : Index := Scalar.indexCast v1005
  ![57, v2370.toNat]
def k0_off903 (k0_t6 : Fin k0_t6_loop.trips) : Fin 3 → Nat :=
  let c0_732 : Index := 0#32
  let c928_733 : Index := 928#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2398 : Index := Scalar.indexCast v1002
  ![0, 928, v2398.toNat]
def k0_off904 (k0_t6 : Fin k0_t6_loop.trips) : Fin 2 → Nat :=
  let c58_734 : Index := 58#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2402 : Index := Scalar.indexCast v1002
  ![58, v2402.toNat]
def k0_off905 (k0_t6 : Fin k0_t6_loop.trips) : Fin 2 → Nat :=
  let c59_735 : Index := 59#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2407 : Index := Scalar.indexCast v1002
  ![59, v2407.toNat]
def k0_off906 (k0_t6 : Fin k0_t6_loop.trips) : Fin 2 → Nat :=
  let c58_736 : Index := 58#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2413 : Index := Scalar.indexCast v1005
  ![58, v2413.toNat]
def k0_off907 (k0_t6 : Fin k0_t6_loop.trips) : Fin 2 → Nat :=
  let c59_737 : Index := 59#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2418 : Index := Scalar.indexCast v1005
  ![59, v2418.toNat]
def k0_off908 (k0_t6 : Fin k0_t6_loop.trips) : Fin 3 → Nat :=
  let c0_745 : Index := 0#32
  let c960_746 : Index := 960#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2446 : Index := Scalar.indexCast v1002
  ![0, 960, v2446.toNat]
def k0_off909 (k0_t6 : Fin k0_t6_loop.trips) : Fin 2 → Nat :=
  let c60_747 : Index := 60#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2450 : Index := Scalar.indexCast v1002
  ![60, v2450.toNat]
def k0_off910 (k0_t6 : Fin k0_t6_loop.trips) : Fin 2 → Nat :=
  let c61_748 : Index := 61#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2455 : Index := Scalar.indexCast v1002
  ![61, v2455.toNat]
def k0_off911 (k0_t6 : Fin k0_t6_loop.trips) : Fin 2 → Nat :=
  let c60_749 : Index := 60#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2461 : Index := Scalar.indexCast v1005
  ![60, v2461.toNat]
def k0_off912 (k0_t6 : Fin k0_t6_loop.trips) : Fin 2 → Nat :=
  let c61_750 : Index := 61#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2466 : Index := Scalar.indexCast v1005
  ![61, v2466.toNat]
def k0_off913 (k0_t6 : Fin k0_t6_loop.trips) : Fin 3 → Nat :=
  let c0_758 : Index := 0#32
  let c992_759 : Index := 992#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2494 : Index := Scalar.indexCast v1002
  ![0, 992, v2494.toNat]
def k0_off914 (k0_t6 : Fin k0_t6_loop.trips) : Fin 2 → Nat :=
  let c62_760 : Index := 62#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2498 : Index := Scalar.indexCast v1002
  ![62, v2498.toNat]
def k0_off915 (k0_t6 : Fin k0_t6_loop.trips) : Fin 2 → Nat :=
  let c63_761 : Index := 63#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2503 : Index := Scalar.indexCast v1002
  ![63, v2503.toNat]
def k0_off916 (k0_t6 : Fin k0_t6_loop.trips) : Fin 2 → Nat :=
  let c62_762 : Index := 62#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2509 : Index := Scalar.indexCast v1005
  ![62, v2509.toNat]
def k0_off917 (k0_t6 : Fin k0_t6_loop.trips) : Fin 2 → Nat :=
  let c63_763 : Index := 63#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2514 : Index := Scalar.indexCast v1005
  ![63, v2514.toNat]
def k0_off918 (k0_t6 : Fin k0_t6_loop.trips) : Fin 3 → Nat :=
  let c0_771 : Index := 0#32
  let c1024 : Index := 1024#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2542 : Index := Scalar.indexCast v1002
  ![0, 1024, v2542.toNat]
def k0_off919 (k0_t6 : Fin k0_t6_loop.trips) : Fin 2 → Nat :=
  let c64_772 : Index := 64#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2546 : Index := Scalar.indexCast v1002
  ![64, v2546.toNat]
def k0_off920 (k0_t6 : Fin k0_t6_loop.trips) : Fin 2 → Nat :=
  let c65 : Index := 65#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2551 : Index := Scalar.indexCast v1002
  ![65, v2551.toNat]
def k0_off921 (k0_t6 : Fin k0_t6_loop.trips) : Fin 2 → Nat :=
  let c64_773 : Index := 64#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2557 : Index := Scalar.indexCast v1005
  ![64, v2557.toNat]
def k0_off922 (k0_t6 : Fin k0_t6_loop.trips) : Fin 2 → Nat :=
  let c65_774 : Index := 65#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2562 : Index := Scalar.indexCast v1005
  ![65, v2562.toNat]
def k0_off923 (k0_t6 : Fin k0_t6_loop.trips) : Fin 3 → Nat :=
  let c0_782 : Index := 0#32
  let c1056 : Index := 1056#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2590 : Index := Scalar.indexCast v1002
  ![0, 1056, v2590.toNat]
def k0_off924 (k0_t6 : Fin k0_t6_loop.trips) : Fin 2 → Nat :=
  let c66 : Index := 66#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2594 : Index := Scalar.indexCast v1002
  ![66, v2594.toNat]
def k0_off925 (k0_t6 : Fin k0_t6_loop.trips) : Fin 2 → Nat :=
  let c67 : Index := 67#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2599 : Index := Scalar.indexCast v1002
  ![67, v2599.toNat]
def k0_off926 (k0_t6 : Fin k0_t6_loop.trips) : Fin 2 → Nat :=
  let c66_783 : Index := 66#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2605 : Index := Scalar.indexCast v1005
  ![66, v2605.toNat]
def k0_off927 (k0_t6 : Fin k0_t6_loop.trips) : Fin 2 → Nat :=
  let c67_784 : Index := 67#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2610 : Index := Scalar.indexCast v1005
  ![67, v2610.toNat]
def k0_off928 (k0_t6 : Fin k0_t6_loop.trips) : Fin 3 → Nat :=
  let c0_792 : Index := 0#32
  let c1088 : Index := 1088#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2638 : Index := Scalar.indexCast v1002
  ![0, 1088, v2638.toNat]
def k0_off929 (k0_t6 : Fin k0_t6_loop.trips) : Fin 2 → Nat :=
  let c68 : Index := 68#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2642 : Index := Scalar.indexCast v1002
  ![68, v2642.toNat]
def k0_off930 (k0_t6 : Fin k0_t6_loop.trips) : Fin 2 → Nat :=
  let c69 : Index := 69#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2647 : Index := Scalar.indexCast v1002
  ![69, v2647.toNat]
def k0_off931 (k0_t6 : Fin k0_t6_loop.trips) : Fin 2 → Nat :=
  let c68_793 : Index := 68#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2653 : Index := Scalar.indexCast v1005
  ![68, v2653.toNat]
def k0_off932 (k0_t6 : Fin k0_t6_loop.trips) : Fin 2 → Nat :=
  let c69_794 : Index := 69#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2658 : Index := Scalar.indexCast v1005
  ![69, v2658.toNat]
def k0_off933 (k0_t6 : Fin k0_t6_loop.trips) : Fin 3 → Nat :=
  let c0_802 : Index := 0#32
  let c1120 : Index := 1120#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2686 : Index := Scalar.indexCast v1002
  ![0, 1120, v2686.toNat]
def k0_off934 (k0_t6 : Fin k0_t6_loop.trips) : Fin 2 → Nat :=
  let c70 : Index := 70#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2690 : Index := Scalar.indexCast v1002
  ![70, v2690.toNat]
def k0_off935 (k0_t6 : Fin k0_t6_loop.trips) : Fin 2 → Nat :=
  let c71 : Index := 71#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2695 : Index := Scalar.indexCast v1002
  ![71, v2695.toNat]
def k0_off936 (k0_t6 : Fin k0_t6_loop.trips) : Fin 2 → Nat :=
  let c70_803 : Index := 70#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2701 : Index := Scalar.indexCast v1005
  ![70, v2701.toNat]
def k0_off937 (k0_t6 : Fin k0_t6_loop.trips) : Fin 2 → Nat :=
  let c71_804 : Index := 71#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2706 : Index := Scalar.indexCast v1005
  ![71, v2706.toNat]
def k0_off938 (k0_t6 : Fin k0_t6_loop.trips) : Fin 3 → Nat :=
  let c0_812 : Index := 0#32
  let c1152 : Index := 1152#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2734 : Index := Scalar.indexCast v1002
  ![0, 1152, v2734.toNat]
def k0_off939 (k0_t6 : Fin k0_t6_loop.trips) : Fin 2 → Nat :=
  let c72 : Index := 72#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2738 : Index := Scalar.indexCast v1002
  ![72, v2738.toNat]
def k0_off940 (k0_t6 : Fin k0_t6_loop.trips) : Fin 2 → Nat :=
  let c73 : Index := 73#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2743 : Index := Scalar.indexCast v1002
  ![73, v2743.toNat]
def k0_off941 (k0_t6 : Fin k0_t6_loop.trips) : Fin 2 → Nat :=
  let c72_813 : Index := 72#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2749 : Index := Scalar.indexCast v1005
  ![72, v2749.toNat]
def k0_off942 (k0_t6 : Fin k0_t6_loop.trips) : Fin 2 → Nat :=
  let c73_814 : Index := 73#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2754 : Index := Scalar.indexCast v1005
  ![73, v2754.toNat]
def k0_off943 (k0_t6 : Fin k0_t6_loop.trips) : Fin 3 → Nat :=
  let c0_822 : Index := 0#32
  let c1184 : Index := 1184#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2782 : Index := Scalar.indexCast v1002
  ![0, 1184, v2782.toNat]
def k0_off944 (k0_t6 : Fin k0_t6_loop.trips) : Fin 2 → Nat :=
  let c74 : Index := 74#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2786 : Index := Scalar.indexCast v1002
  ![74, v2786.toNat]
def k0_off945 (k0_t6 : Fin k0_t6_loop.trips) : Fin 2 → Nat :=
  let c75 : Index := 75#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2791 : Index := Scalar.indexCast v1002
  ![75, v2791.toNat]
def k0_off946 (k0_t6 : Fin k0_t6_loop.trips) : Fin 2 → Nat :=
  let c74_823 : Index := 74#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2797 : Index := Scalar.indexCast v1005
  ![74, v2797.toNat]
def k0_off947 (k0_t6 : Fin k0_t6_loop.trips) : Fin 2 → Nat :=
  let c75_824 : Index := 75#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2802 : Index := Scalar.indexCast v1005
  ![75, v2802.toNat]
def k0_off948 (k0_t6 : Fin k0_t6_loop.trips) : Fin 3 → Nat :=
  let c0_832 : Index := 0#32
  let c1216 : Index := 1216#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2830 : Index := Scalar.indexCast v1002
  ![0, 1216, v2830.toNat]
def k0_off949 (k0_t6 : Fin k0_t6_loop.trips) : Fin 2 → Nat :=
  let c76 : Index := 76#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2834 : Index := Scalar.indexCast v1002
  ![76, v2834.toNat]
def k0_off950 (k0_t6 : Fin k0_t6_loop.trips) : Fin 2 → Nat :=
  let c77 : Index := 77#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2839 : Index := Scalar.indexCast v1002
  ![77, v2839.toNat]
def k0_off951 (k0_t6 : Fin k0_t6_loop.trips) : Fin 2 → Nat :=
  let c76_833 : Index := 76#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2845 : Index := Scalar.indexCast v1005
  ![76, v2845.toNat]
def k0_off952 (k0_t6 : Fin k0_t6_loop.trips) : Fin 2 → Nat :=
  let c77_834 : Index := 77#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2850 : Index := Scalar.indexCast v1005
  ![77, v2850.toNat]
def k0_off953 (k0_t6 : Fin k0_t6_loop.trips) : Fin 3 → Nat :=
  let c0_842 : Index := 0#32
  let c1248 : Index := 1248#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2878 : Index := Scalar.indexCast v1002
  ![0, 1248, v2878.toNat]
def k0_off954 (k0_t6 : Fin k0_t6_loop.trips) : Fin 2 → Nat :=
  let c78 : Index := 78#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2882 : Index := Scalar.indexCast v1002
  ![78, v2882.toNat]
def k0_off955 (k0_t6 : Fin k0_t6_loop.trips) : Fin 2 → Nat :=
  let c79 : Index := 79#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2887 : Index := Scalar.indexCast v1002
  ![79, v2887.toNat]
def k0_off956 (k0_t6 : Fin k0_t6_loop.trips) : Fin 2 → Nat :=
  let c78_843 : Index := 78#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2893 : Index := Scalar.indexCast v1005
  ![78, v2893.toNat]
def k0_off957 (k0_t6 : Fin k0_t6_loop.trips) : Fin 2 → Nat :=
  let c79_844 : Index := 79#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2898 : Index := Scalar.indexCast v1005
  ![79, v2898.toNat]
def k0_off958 (k0_t6 : Fin k0_t6_loop.trips) : Fin 3 → Nat :=
  let c0_852 : Index := 0#32
  let c1280_853 : Index := 1280#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2926 : Index := Scalar.indexCast v1002
  ![0, 1280, v2926.toNat]
def k0_off959 (k0_t6 : Fin k0_t6_loop.trips) : Fin 2 → Nat :=
  let c80 : Index := 80#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2930 : Index := Scalar.indexCast v1002
  ![80, v2930.toNat]
def k0_off960 (k0_t6 : Fin k0_t6_loop.trips) : Fin 2 → Nat :=
  let c81 : Index := 81#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2935 : Index := Scalar.indexCast v1002
  ![81, v2935.toNat]
def k0_off961 (k0_t6 : Fin k0_t6_loop.trips) : Fin 2 → Nat :=
  let c80_854 : Index := 80#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2941 : Index := Scalar.indexCast v1005
  ![80, v2941.toNat]
def k0_off962 (k0_t6 : Fin k0_t6_loop.trips) : Fin 2 → Nat :=
  let c81_855 : Index := 81#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2946 : Index := Scalar.indexCast v1005
  ![81, v2946.toNat]
def k0_off963 (k0_t6 : Fin k0_t6_loop.trips) : Fin 3 → Nat :=
  let c0_863 : Index := 0#32
  let c1312 : Index := 1312#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2974 : Index := Scalar.indexCast v1002
  ![0, 1312, v2974.toNat]
def k0_off964 (k0_t6 : Fin k0_t6_loop.trips) : Fin 2 → Nat :=
  let c82 : Index := 82#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2978 : Index := Scalar.indexCast v1002
  ![82, v2978.toNat]
def k0_off965 (k0_t6 : Fin k0_t6_loop.trips) : Fin 2 → Nat :=
  let c83 : Index := 83#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v2983 : Index := Scalar.indexCast v1002
  ![83, v2983.toNat]
def k0_off966 (k0_t6 : Fin k0_t6_loop.trips) : Fin 2 → Nat :=
  let c82_864 : Index := 82#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2989 : Index := Scalar.indexCast v1005
  ![82, v2989.toNat]
def k0_off967 (k0_t6 : Fin k0_t6_loop.trips) : Fin 2 → Nat :=
  let c83_865 : Index := 83#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v2994 : Index := Scalar.indexCast v1005
  ![83, v2994.toNat]
def k0_off968 (k0_t6 : Fin k0_t6_loop.trips) : Fin 3 → Nat :=
  let c0_873 : Index := 0#32
  let c1344_874 : Index := 1344#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3022 : Index := Scalar.indexCast v1002
  ![0, 1344, v3022.toNat]
def k0_off969 (k0_t6 : Fin k0_t6_loop.trips) : Fin 2 → Nat :=
  let c84 : Index := 84#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3026 : Index := Scalar.indexCast v1002
  ![84, v3026.toNat]
def k0_off970 (k0_t6 : Fin k0_t6_loop.trips) : Fin 2 → Nat :=
  let c85 : Index := 85#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3031 : Index := Scalar.indexCast v1002
  ![85, v3031.toNat]
def k0_off971 (k0_t6 : Fin k0_t6_loop.trips) : Fin 2 → Nat :=
  let c84_875 : Index := 84#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3037 : Index := Scalar.indexCast v1005
  ![84, v3037.toNat]
def k0_off972 (k0_t6 : Fin k0_t6_loop.trips) : Fin 2 → Nat :=
  let c85_876 : Index := 85#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3042 : Index := Scalar.indexCast v1005
  ![85, v3042.toNat]
def k0_off973 (k0_t6 : Fin k0_t6_loop.trips) : Fin 3 → Nat :=
  let c0_884 : Index := 0#32
  let c1376 : Index := 1376#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3070 : Index := Scalar.indexCast v1002
  ![0, 1376, v3070.toNat]
def k0_off974 (k0_t6 : Fin k0_t6_loop.trips) : Fin 2 → Nat :=
  let c86 : Index := 86#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3074 : Index := Scalar.indexCast v1002
  ![86, v3074.toNat]
def k0_off975 (k0_t6 : Fin k0_t6_loop.trips) : Fin 2 → Nat :=
  let c87 : Index := 87#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3079 : Index := Scalar.indexCast v1002
  ![87, v3079.toNat]
def k0_off976 (k0_t6 : Fin k0_t6_loop.trips) : Fin 2 → Nat :=
  let c86_885 : Index := 86#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3085 : Index := Scalar.indexCast v1005
  ![86, v3085.toNat]
def k0_off977 (k0_t6 : Fin k0_t6_loop.trips) : Fin 2 → Nat :=
  let c87_886 : Index := 87#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3090 : Index := Scalar.indexCast v1005
  ![87, v3090.toNat]
def k0_off978 (k0_t6 : Fin k0_t6_loop.trips) : Fin 3 → Nat :=
  let c0_894 : Index := 0#32
  let c1408 : Index := 1408#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3118 : Index := Scalar.indexCast v1002
  ![0, 1408, v3118.toNat]
def k0_off979 (k0_t6 : Fin k0_t6_loop.trips) : Fin 2 → Nat :=
  let c88 : Index := 88#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3122 : Index := Scalar.indexCast v1002
  ![88, v3122.toNat]
def k0_off980 (k0_t6 : Fin k0_t6_loop.trips) : Fin 2 → Nat :=
  let c89 : Index := 89#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3127 : Index := Scalar.indexCast v1002
  ![89, v3127.toNat]
def k0_off981 (k0_t6 : Fin k0_t6_loop.trips) : Fin 2 → Nat :=
  let c88_895 : Index := 88#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3133 : Index := Scalar.indexCast v1005
  ![88, v3133.toNat]
def k0_off982 (k0_t6 : Fin k0_t6_loop.trips) : Fin 2 → Nat :=
  let c89_896 : Index := 89#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3138 : Index := Scalar.indexCast v1005
  ![89, v3138.toNat]
def k0_off983 (k0_t6 : Fin k0_t6_loop.trips) : Fin 3 → Nat :=
  let c0_904 : Index := 0#32
  let c1440 : Index := 1440#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3166 : Index := Scalar.indexCast v1002
  ![0, 1440, v3166.toNat]
def k0_off984 (k0_t6 : Fin k0_t6_loop.trips) : Fin 2 → Nat :=
  let c90 : Index := 90#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3170 : Index := Scalar.indexCast v1002
  ![90, v3170.toNat]
def k0_off985 (k0_t6 : Fin k0_t6_loop.trips) : Fin 2 → Nat :=
  let c91 : Index := 91#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3175 : Index := Scalar.indexCast v1002
  ![91, v3175.toNat]
def k0_off986 (k0_t6 : Fin k0_t6_loop.trips) : Fin 2 → Nat :=
  let c90_905 : Index := 90#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3181 : Index := Scalar.indexCast v1005
  ![90, v3181.toNat]
def k0_off987 (k0_t6 : Fin k0_t6_loop.trips) : Fin 2 → Nat :=
  let c91_906 : Index := 91#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3186 : Index := Scalar.indexCast v1005
  ![91, v3186.toNat]
def k0_off988 (k0_t6 : Fin k0_t6_loop.trips) : Fin 3 → Nat :=
  let c0_914 : Index := 0#32
  let c1472 : Index := 1472#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3214 : Index := Scalar.indexCast v1002
  ![0, 1472, v3214.toNat]
def k0_off989 (k0_t6 : Fin k0_t6_loop.trips) : Fin 2 → Nat :=
  let c92 : Index := 92#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3218 : Index := Scalar.indexCast v1002
  ![92, v3218.toNat]
def k0_off990 (k0_t6 : Fin k0_t6_loop.trips) : Fin 2 → Nat :=
  let c93 : Index := 93#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3223 : Index := Scalar.indexCast v1002
  ![93, v3223.toNat]
def k0_off991 (k0_t6 : Fin k0_t6_loop.trips) : Fin 2 → Nat :=
  let c92_915 : Index := 92#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3229 : Index := Scalar.indexCast v1005
  ![92, v3229.toNat]
def k0_off992 (k0_t6 : Fin k0_t6_loop.trips) : Fin 2 → Nat :=
  let c93_916 : Index := 93#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3234 : Index := Scalar.indexCast v1005
  ![93, v3234.toNat]
def k0_off993 (k0_t6 : Fin k0_t6_loop.trips) : Fin 3 → Nat :=
  let c0_924 : Index := 0#32
  let c1504 : Index := 1504#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3262 : Index := Scalar.indexCast v1002
  ![0, 1504, v3262.toNat]
def k0_off994 (k0_t6 : Fin k0_t6_loop.trips) : Fin 2 → Nat :=
  let c94 : Index := 94#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3266 : Index := Scalar.indexCast v1002
  ![94, v3266.toNat]
def k0_off995 (k0_t6 : Fin k0_t6_loop.trips) : Fin 2 → Nat :=
  let c95 : Index := 95#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3271 : Index := Scalar.indexCast v1002
  ![95, v3271.toNat]
def k0_off996 (k0_t6 : Fin k0_t6_loop.trips) : Fin 2 → Nat :=
  let c94_925 : Index := 94#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3277 : Index := Scalar.indexCast v1005
  ![94, v3277.toNat]
def k0_off997 (k0_t6 : Fin k0_t6_loop.trips) : Fin 2 → Nat :=
  let c95_926 : Index := 95#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3282 : Index := Scalar.indexCast v1005
  ![95, v3282.toNat]
def k0_off998 (k0_t6 : Fin k0_t6_loop.trips) : Fin 3 → Nat :=
  let c0_934 : Index := 0#32
  let c1536 : Index := 1536#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3310 : Index := Scalar.indexCast v1002
  ![0, 1536, v3310.toNat]
def k0_off999 (k0_t6 : Fin k0_t6_loop.trips) : Fin 2 → Nat :=
  let c96_935 : Index := 96#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3314 : Index := Scalar.indexCast v1002
  ![96, v3314.toNat]
def k0_off1000 (k0_t6 : Fin k0_t6_loop.trips) : Fin 2 → Nat :=
  let c97 : Index := 97#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3319 : Index := Scalar.indexCast v1002
  ![97, v3319.toNat]
def k0_off1001 (k0_t6 : Fin k0_t6_loop.trips) : Fin 2 → Nat :=
  let c96_936 : Index := 96#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3325 : Index := Scalar.indexCast v1005
  ![96, v3325.toNat]
def k0_off1002 (k0_t6 : Fin k0_t6_loop.trips) : Fin 2 → Nat :=
  let c97_937 : Index := 97#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3330 : Index := Scalar.indexCast v1005
  ![97, v3330.toNat]
def k0_off1003 (k0_t6 : Fin k0_t6_loop.trips) : Fin 3 → Nat :=
  let c0_945 : Index := 0#32
  let c1568 : Index := 1568#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3358 : Index := Scalar.indexCast v1002
  ![0, 1568, v3358.toNat]
def k0_off1004 (k0_t6 : Fin k0_t6_loop.trips) : Fin 2 → Nat :=
  let c98 : Index := 98#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3362 : Index := Scalar.indexCast v1002
  ![98, v3362.toNat]
def k0_off1005 (k0_t6 : Fin k0_t6_loop.trips) : Fin 2 → Nat :=
  let c99 : Index := 99#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3367 : Index := Scalar.indexCast v1002
  ![99, v3367.toNat]
def k0_off1006 (k0_t6 : Fin k0_t6_loop.trips) : Fin 2 → Nat :=
  let c98_946 : Index := 98#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3373 : Index := Scalar.indexCast v1005
  ![98, v3373.toNat]
def k0_off1007 (k0_t6 : Fin k0_t6_loop.trips) : Fin 2 → Nat :=
  let c99_947 : Index := 99#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3378 : Index := Scalar.indexCast v1005
  ![99, v3378.toNat]
def k0_off1008 (k0_t6 : Fin k0_t6_loop.trips) : Fin 3 → Nat :=
  let c0_955 : Index := 0#32
  let c1600 : Index := 1600#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3406 : Index := Scalar.indexCast v1002
  ![0, 1600, v3406.toNat]
def k0_off1009 (k0_t6 : Fin k0_t6_loop.trips) : Fin 2 → Nat :=
  let c100 : Index := 100#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3410 : Index := Scalar.indexCast v1002
  ![100, v3410.toNat]
def k0_off1010 (k0_t6 : Fin k0_t6_loop.trips) : Fin 2 → Nat :=
  let c101 : Index := 101#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3415 : Index := Scalar.indexCast v1002
  ![101, v3415.toNat]
def k0_off1011 (k0_t6 : Fin k0_t6_loop.trips) : Fin 2 → Nat :=
  let c100_956 : Index := 100#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3421 : Index := Scalar.indexCast v1005
  ![100, v3421.toNat]
def k0_off1012 (k0_t6 : Fin k0_t6_loop.trips) : Fin 2 → Nat :=
  let c101_957 : Index := 101#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3426 : Index := Scalar.indexCast v1005
  ![101, v3426.toNat]
def k0_off1013 (k0_t6 : Fin k0_t6_loop.trips) : Fin 3 → Nat :=
  let c0_965 : Index := 0#32
  let c1632 : Index := 1632#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3454 : Index := Scalar.indexCast v1002
  ![0, 1632, v3454.toNat]
def k0_off1014 (k0_t6 : Fin k0_t6_loop.trips) : Fin 2 → Nat :=
  let c102 : Index := 102#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3458 : Index := Scalar.indexCast v1002
  ![102, v3458.toNat]
def k0_off1015 (k0_t6 : Fin k0_t6_loop.trips) : Fin 2 → Nat :=
  let c103 : Index := 103#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3463 : Index := Scalar.indexCast v1002
  ![103, v3463.toNat]
def k0_off1016 (k0_t6 : Fin k0_t6_loop.trips) : Fin 2 → Nat :=
  let c102_966 : Index := 102#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3469 : Index := Scalar.indexCast v1005
  ![102, v3469.toNat]
def k0_off1017 (k0_t6 : Fin k0_t6_loop.trips) : Fin 2 → Nat :=
  let c103_967 : Index := 103#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3474 : Index := Scalar.indexCast v1005
  ![103, v3474.toNat]
def k0_off1018 (k0_t6 : Fin k0_t6_loop.trips) : Fin 3 → Nat :=
  let c0_975 : Index := 0#32
  let c1664 : Index := 1664#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3502 : Index := Scalar.indexCast v1002
  ![0, 1664, v3502.toNat]
def k0_off1019 (k0_t6 : Fin k0_t6_loop.trips) : Fin 2 → Nat :=
  let c104 : Index := 104#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3506 : Index := Scalar.indexCast v1002
  ![104, v3506.toNat]
def k0_off1020 (k0_t6 : Fin k0_t6_loop.trips) : Fin 2 → Nat :=
  let c105 : Index := 105#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3511 : Index := Scalar.indexCast v1002
  ![105, v3511.toNat]
def k0_off1021 (k0_t6 : Fin k0_t6_loop.trips) : Fin 2 → Nat :=
  let c104_976 : Index := 104#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3517 : Index := Scalar.indexCast v1005
  ![104, v3517.toNat]
def k0_off1022 (k0_t6 : Fin k0_t6_loop.trips) : Fin 2 → Nat :=
  let c105_977 : Index := 105#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3522 : Index := Scalar.indexCast v1005
  ![105, v3522.toNat]
def k0_off1023 (k0_t6 : Fin k0_t6_loop.trips) : Fin 3 → Nat :=
  let c0_985 : Index := 0#32
  let c1696 : Index := 1696#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3550 : Index := Scalar.indexCast v1002
  ![0, 1696, v3550.toNat]
def k0_off1024 (k0_t6 : Fin k0_t6_loop.trips) : Fin 2 → Nat :=
  let c106 : Index := 106#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3554 : Index := Scalar.indexCast v1002
  ![106, v3554.toNat]
def k0_off1025 (k0_t6 : Fin k0_t6_loop.trips) : Fin 2 → Nat :=
  let c107 : Index := 107#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3559 : Index := Scalar.indexCast v1002
  ![107, v3559.toNat]
def k0_off1026 (k0_t6 : Fin k0_t6_loop.trips) : Fin 2 → Nat :=
  let c106_986 : Index := 106#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3565 : Index := Scalar.indexCast v1005
  ![106, v3565.toNat]
def k0_off1027 (k0_t6 : Fin k0_t6_loop.trips) : Fin 2 → Nat :=
  let c107_987 : Index := 107#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3570 : Index := Scalar.indexCast v1005
  ![107, v3570.toNat]
def k0_off1028 (k0_t6 : Fin k0_t6_loop.trips) : Fin 3 → Nat :=
  let c0_995 : Index := 0#32
  let c1728 : Index := 1728#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3598 : Index := Scalar.indexCast v1002
  ![0, 1728, v3598.toNat]
def k0_off1029 (k0_t6 : Fin k0_t6_loop.trips) : Fin 2 → Nat :=
  let c108 : Index := 108#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3602 : Index := Scalar.indexCast v1002
  ![108, v3602.toNat]
def k0_off1030 (k0_t6 : Fin k0_t6_loop.trips) : Fin 2 → Nat :=
  let c109 : Index := 109#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3607 : Index := Scalar.indexCast v1002
  ![109, v3607.toNat]
def k0_off1031 (k0_t6 : Fin k0_t6_loop.trips) : Fin 2 → Nat :=
  let c108_996 : Index := 108#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3613 : Index := Scalar.indexCast v1005
  ![108, v3613.toNat]
def k0_off1032 (k0_t6 : Fin k0_t6_loop.trips) : Fin 2 → Nat :=
  let c109_997 : Index := 109#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3618 : Index := Scalar.indexCast v1005
  ![109, v3618.toNat]
def k0_off1033 (k0_t6 : Fin k0_t6_loop.trips) : Fin 3 → Nat :=
  let c0_1005 : Index := 0#32
  let c1760 : Index := 1760#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3646 : Index := Scalar.indexCast v1002
  ![0, 1760, v3646.toNat]
def k0_off1034 (k0_t6 : Fin k0_t6_loop.trips) : Fin 2 → Nat :=
  let c110 : Index := 110#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3650 : Index := Scalar.indexCast v1002
  ![110, v3650.toNat]
def k0_off1035 (k0_t6 : Fin k0_t6_loop.trips) : Fin 2 → Nat :=
  let c111 : Index := 111#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3655 : Index := Scalar.indexCast v1002
  ![111, v3655.toNat]
def k0_off1036 (k0_t6 : Fin k0_t6_loop.trips) : Fin 2 → Nat :=
  let c110_1006 : Index := 110#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3661 : Index := Scalar.indexCast v1005
  ![110, v3661.toNat]
def k0_off1037 (k0_t6 : Fin k0_t6_loop.trips) : Fin 2 → Nat :=
  let c111_1007 : Index := 111#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3666 : Index := Scalar.indexCast v1005
  ![111, v3666.toNat]
def k0_off1038 (k0_t6 : Fin k0_t6_loop.trips) : Fin 3 → Nat :=
  let c0_1015 : Index := 0#32
  let c1792 : Index := 1792#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3694 : Index := Scalar.indexCast v1002
  ![0, 1792, v3694.toNat]
def k0_off1039 (k0_t6 : Fin k0_t6_loop.trips) : Fin 2 → Nat :=
  let c112 : Index := 112#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3698 : Index := Scalar.indexCast v1002
  ![112, v3698.toNat]
def k0_off1040 (k0_t6 : Fin k0_t6_loop.trips) : Fin 2 → Nat :=
  let c113 : Index := 113#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3703 : Index := Scalar.indexCast v1002
  ![113, v3703.toNat]
def k0_off1041 (k0_t6 : Fin k0_t6_loop.trips) : Fin 2 → Nat :=
  let c112_1016 : Index := 112#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3709 : Index := Scalar.indexCast v1005
  ![112, v3709.toNat]
def k0_off1042 (k0_t6 : Fin k0_t6_loop.trips) : Fin 2 → Nat :=
  let c113_1017 : Index := 113#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3714 : Index := Scalar.indexCast v1005
  ![113, v3714.toNat]
def k0_off1043 (k0_t6 : Fin k0_t6_loop.trips) : Fin 3 → Nat :=
  let c0_1025 : Index := 0#32
  let c1824 : Index := 1824#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3742 : Index := Scalar.indexCast v1002
  ![0, 1824, v3742.toNat]
def k0_off1044 (k0_t6 : Fin k0_t6_loop.trips) : Fin 2 → Nat :=
  let c114 : Index := 114#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3746 : Index := Scalar.indexCast v1002
  ![114, v3746.toNat]
def k0_off1045 (k0_t6 : Fin k0_t6_loop.trips) : Fin 2 → Nat :=
  let c115 : Index := 115#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3751 : Index := Scalar.indexCast v1002
  ![115, v3751.toNat]
def k0_off1046 (k0_t6 : Fin k0_t6_loop.trips) : Fin 2 → Nat :=
  let c114_1026 : Index := 114#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3757 : Index := Scalar.indexCast v1005
  ![114, v3757.toNat]
def k0_off1047 (k0_t6 : Fin k0_t6_loop.trips) : Fin 2 → Nat :=
  let c115_1027 : Index := 115#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3762 : Index := Scalar.indexCast v1005
  ![115, v3762.toNat]
def k0_off1048 (k0_t6 : Fin k0_t6_loop.trips) : Fin 3 → Nat :=
  let c0_1035 : Index := 0#32
  let c1856 : Index := 1856#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3790 : Index := Scalar.indexCast v1002
  ![0, 1856, v3790.toNat]
def k0_off1049 (k0_t6 : Fin k0_t6_loop.trips) : Fin 2 → Nat :=
  let c116 : Index := 116#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3794 : Index := Scalar.indexCast v1002
  ![116, v3794.toNat]
def k0_off1050 (k0_t6 : Fin k0_t6_loop.trips) : Fin 2 → Nat :=
  let c117 : Index := 117#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3799 : Index := Scalar.indexCast v1002
  ![117, v3799.toNat]
def k0_off1051 (k0_t6 : Fin k0_t6_loop.trips) : Fin 2 → Nat :=
  let c116_1036 : Index := 116#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3805 : Index := Scalar.indexCast v1005
  ![116, v3805.toNat]
def k0_off1052 (k0_t6 : Fin k0_t6_loop.trips) : Fin 2 → Nat :=
  let c117_1037 : Index := 117#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3810 : Index := Scalar.indexCast v1005
  ![117, v3810.toNat]
def k0_off1053 (k0_t6 : Fin k0_t6_loop.trips) : Fin 3 → Nat :=
  let c0_1045 : Index := 0#32
  let c1888 : Index := 1888#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3838 : Index := Scalar.indexCast v1002
  ![0, 1888, v3838.toNat]
def k0_off1054 (k0_t6 : Fin k0_t6_loop.trips) : Fin 2 → Nat :=
  let c118 : Index := 118#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3842 : Index := Scalar.indexCast v1002
  ![118, v3842.toNat]
def k0_off1055 (k0_t6 : Fin k0_t6_loop.trips) : Fin 2 → Nat :=
  let c119 : Index := 119#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3847 : Index := Scalar.indexCast v1002
  ![119, v3847.toNat]
def k0_off1056 (k0_t6 : Fin k0_t6_loop.trips) : Fin 2 → Nat :=
  let c118_1046 : Index := 118#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3853 : Index := Scalar.indexCast v1005
  ![118, v3853.toNat]
def k0_off1057 (k0_t6 : Fin k0_t6_loop.trips) : Fin 2 → Nat :=
  let c119_1047 : Index := 119#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3858 : Index := Scalar.indexCast v1005
  ![119, v3858.toNat]
def k0_off1058 (k0_t6 : Fin k0_t6_loop.trips) : Fin 3 → Nat :=
  let c0_1055 : Index := 0#32
  let c1920 : Index := 1920#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3886 : Index := Scalar.indexCast v1002
  ![0, 1920, v3886.toNat]
def k0_off1059 (k0_t6 : Fin k0_t6_loop.trips) : Fin 2 → Nat :=
  let c120 : Index := 120#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3890 : Index := Scalar.indexCast v1002
  ![120, v3890.toNat]
def k0_off1060 (k0_t6 : Fin k0_t6_loop.trips) : Fin 2 → Nat :=
  let c121 : Index := 121#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3895 : Index := Scalar.indexCast v1002
  ![121, v3895.toNat]
def k0_off1061 (k0_t6 : Fin k0_t6_loop.trips) : Fin 2 → Nat :=
  let c120_1056 : Index := 120#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3901 : Index := Scalar.indexCast v1005
  ![120, v3901.toNat]
def k0_off1062 (k0_t6 : Fin k0_t6_loop.trips) : Fin 2 → Nat :=
  let c121_1057 : Index := 121#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3906 : Index := Scalar.indexCast v1005
  ![121, v3906.toNat]
def k0_off1063 (k0_t6 : Fin k0_t6_loop.trips) : Fin 3 → Nat :=
  let c0_1065 : Index := 0#32
  let c1952 : Index := 1952#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3934 : Index := Scalar.indexCast v1002
  ![0, 1952, v3934.toNat]
def k0_off1064 (k0_t6 : Fin k0_t6_loop.trips) : Fin 2 → Nat :=
  let c122 : Index := 122#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3938 : Index := Scalar.indexCast v1002
  ![122, v3938.toNat]
def k0_off1065 (k0_t6 : Fin k0_t6_loop.trips) : Fin 2 → Nat :=
  let c123 : Index := 123#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3943 : Index := Scalar.indexCast v1002
  ![123, v3943.toNat]
def k0_off1066 (k0_t6 : Fin k0_t6_loop.trips) : Fin 2 → Nat :=
  let c122_1066 : Index := 122#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3949 : Index := Scalar.indexCast v1005
  ![122, v3949.toNat]
def k0_off1067 (k0_t6 : Fin k0_t6_loop.trips) : Fin 2 → Nat :=
  let c123_1067 : Index := 123#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3954 : Index := Scalar.indexCast v1005
  ![123, v3954.toNat]
def k0_off1068 (k0_t6 : Fin k0_t6_loop.trips) : Fin 3 → Nat :=
  let c0_1075 : Index := 0#32
  let c1984 : Index := 1984#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3982 : Index := Scalar.indexCast v1002
  ![0, 1984, v3982.toNat]
def k0_off1069 (k0_t6 : Fin k0_t6_loop.trips) : Fin 2 → Nat :=
  let c124 : Index := 124#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3986 : Index := Scalar.indexCast v1002
  ![124, v3986.toNat]
def k0_off1070 (k0_t6 : Fin k0_t6_loop.trips) : Fin 2 → Nat :=
  let c125 : Index := 125#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v3991 : Index := Scalar.indexCast v1002
  ![125, v3991.toNat]
def k0_off1071 (k0_t6 : Fin k0_t6_loop.trips) : Fin 2 → Nat :=
  let c124_1076 : Index := 124#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v3997 : Index := Scalar.indexCast v1005
  ![124, v3997.toNat]
def k0_off1072 (k0_t6 : Fin k0_t6_loop.trips) : Fin 2 → Nat :=
  let c125_1077 : Index := 125#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4002 : Index := Scalar.indexCast v1005
  ![125, v4002.toNat]
def k0_off1073 (k0_t6 : Fin k0_t6_loop.trips) : Fin 3 → Nat :=
  let c0_1085 : Index := 0#32
  let c2016 : Index := 2016#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4030 : Index := Scalar.indexCast v1002
  ![0, 2016, v4030.toNat]
def k0_off1074 (k0_t6 : Fin k0_t6_loop.trips) : Fin 2 → Nat :=
  let c126 : Index := 126#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4034 : Index := Scalar.indexCast v1002
  ![126, v4034.toNat]
def k0_off1075 (k0_t6 : Fin k0_t6_loop.trips) : Fin 2 → Nat :=
  let c127 : Index := 127#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4039 : Index := Scalar.indexCast v1002
  ![127, v4039.toNat]
def k0_off1076 (k0_t6 : Fin k0_t6_loop.trips) : Fin 2 → Nat :=
  let c126_1086 : Index := 126#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4045 : Index := Scalar.indexCast v1005
  ![126, v4045.toNat]
def k0_off1077 (k0_t6 : Fin k0_t6_loop.trips) : Fin 2 → Nat :=
  let c127_1087 : Index := 127#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4050 : Index := Scalar.indexCast v1005
  ![127, v4050.toNat]
def k0_off1078 (k0_t6 : Fin k0_t6_loop.trips) : Fin 3 → Nat :=
  let c0_1095 : Index := 0#32
  let c2048 : Index := 2048#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4078 : Index := Scalar.indexCast v1002
  ![0, 2048, v4078.toNat]
def k0_off1079 (k0_t6 : Fin k0_t6_loop.trips) : Fin 2 → Nat :=
  let c128_1096 : Index := 128#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4082 : Index := Scalar.indexCast v1002
  ![128, v4082.toNat]
def k0_off1080 (k0_t6 : Fin k0_t6_loop.trips) : Fin 2 → Nat :=
  let c129 : Index := 129#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4087 : Index := Scalar.indexCast v1002
  ![129, v4087.toNat]
def k0_off1081 (k0_t6 : Fin k0_t6_loop.trips) : Fin 2 → Nat :=
  let c128_1097 : Index := 128#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4093 : Index := Scalar.indexCast v1005
  ![128, v4093.toNat]
def k0_off1082 (k0_t6 : Fin k0_t6_loop.trips) : Fin 2 → Nat :=
  let c129_1098 : Index := 129#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4098 : Index := Scalar.indexCast v1005
  ![129, v4098.toNat]
def k0_off1083 (k0_t6 : Fin k0_t6_loop.trips) : Fin 3 → Nat :=
  let c0_1106 : Index := 0#32
  let c2080 : Index := 2080#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4126 : Index := Scalar.indexCast v1002
  ![0, 2080, v4126.toNat]
def k0_off1084 (k0_t6 : Fin k0_t6_loop.trips) : Fin 2 → Nat :=
  let c130 : Index := 130#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4130 : Index := Scalar.indexCast v1002
  ![130, v4130.toNat]
def k0_off1085 (k0_t6 : Fin k0_t6_loop.trips) : Fin 2 → Nat :=
  let c131 : Index := 131#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4135 : Index := Scalar.indexCast v1002
  ![131, v4135.toNat]
def k0_off1086 (k0_t6 : Fin k0_t6_loop.trips) : Fin 2 → Nat :=
  let c130_1107 : Index := 130#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4141 : Index := Scalar.indexCast v1005
  ![130, v4141.toNat]
def k0_off1087 (k0_t6 : Fin k0_t6_loop.trips) : Fin 2 → Nat :=
  let c131_1108 : Index := 131#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4146 : Index := Scalar.indexCast v1005
  ![131, v4146.toNat]
def k0_off1088 (k0_t6 : Fin k0_t6_loop.trips) : Fin 3 → Nat :=
  let c0_1116 : Index := 0#32
  let c2112 : Index := 2112#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4174 : Index := Scalar.indexCast v1002
  ![0, 2112, v4174.toNat]
def k0_off1089 (k0_t6 : Fin k0_t6_loop.trips) : Fin 2 → Nat :=
  let c132 : Index := 132#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4178 : Index := Scalar.indexCast v1002
  ![132, v4178.toNat]
def k0_off1090 (k0_t6 : Fin k0_t6_loop.trips) : Fin 2 → Nat :=
  let c133 : Index := 133#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4183 : Index := Scalar.indexCast v1002
  ![133, v4183.toNat]
def k0_off1091 (k0_t6 : Fin k0_t6_loop.trips) : Fin 2 → Nat :=
  let c132_1117 : Index := 132#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4189 : Index := Scalar.indexCast v1005
  ![132, v4189.toNat]
def k0_off1092 (k0_t6 : Fin k0_t6_loop.trips) : Fin 2 → Nat :=
  let c133_1118 : Index := 133#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4194 : Index := Scalar.indexCast v1005
  ![133, v4194.toNat]
def k0_off1093 (k0_t6 : Fin k0_t6_loop.trips) : Fin 3 → Nat :=
  let c0_1126 : Index := 0#32
  let c2144 : Index := 2144#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4222 : Index := Scalar.indexCast v1002
  ![0, 2144, v4222.toNat]
def k0_off1094 (k0_t6 : Fin k0_t6_loop.trips) : Fin 2 → Nat :=
  let c134 : Index := 134#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4226 : Index := Scalar.indexCast v1002
  ![134, v4226.toNat]
def k0_off1095 (k0_t6 : Fin k0_t6_loop.trips) : Fin 2 → Nat :=
  let c135 : Index := 135#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4231 : Index := Scalar.indexCast v1002
  ![135, v4231.toNat]
def k0_off1096 (k0_t6 : Fin k0_t6_loop.trips) : Fin 2 → Nat :=
  let c134_1127 : Index := 134#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4237 : Index := Scalar.indexCast v1005
  ![134, v4237.toNat]
def k0_off1097 (k0_t6 : Fin k0_t6_loop.trips) : Fin 2 → Nat :=
  let c135_1128 : Index := 135#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4242 : Index := Scalar.indexCast v1005
  ![135, v4242.toNat]
def k0_off1098 (k0_t6 : Fin k0_t6_loop.trips) : Fin 3 → Nat :=
  let c0_1136 : Index := 0#32
  let c2176 : Index := 2176#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4270 : Index := Scalar.indexCast v1002
  ![0, 2176, v4270.toNat]
def k0_off1099 (k0_t6 : Fin k0_t6_loop.trips) : Fin 2 → Nat :=
  let c136 : Index := 136#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4274 : Index := Scalar.indexCast v1002
  ![136, v4274.toNat]
def k0_off1100 (k0_t6 : Fin k0_t6_loop.trips) : Fin 2 → Nat :=
  let c137 : Index := 137#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4279 : Index := Scalar.indexCast v1002
  ![137, v4279.toNat]
def k0_off1101 (k0_t6 : Fin k0_t6_loop.trips) : Fin 2 → Nat :=
  let c136_1137 : Index := 136#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4285 : Index := Scalar.indexCast v1005
  ![136, v4285.toNat]
def k0_off1102 (k0_t6 : Fin k0_t6_loop.trips) : Fin 2 → Nat :=
  let c137_1138 : Index := 137#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4290 : Index := Scalar.indexCast v1005
  ![137, v4290.toNat]
def k0_off1103 (k0_t6 : Fin k0_t6_loop.trips) : Fin 3 → Nat :=
  let c0_1146 : Index := 0#32
  let c2208 : Index := 2208#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4318 : Index := Scalar.indexCast v1002
  ![0, 2208, v4318.toNat]
def k0_off1104 (k0_t6 : Fin k0_t6_loop.trips) : Fin 2 → Nat :=
  let c138 : Index := 138#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4322 : Index := Scalar.indexCast v1002
  ![138, v4322.toNat]
def k0_off1105 (k0_t6 : Fin k0_t6_loop.trips) : Fin 2 → Nat :=
  let c139 : Index := 139#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4327 : Index := Scalar.indexCast v1002
  ![139, v4327.toNat]
def k0_off1106 (k0_t6 : Fin k0_t6_loop.trips) : Fin 2 → Nat :=
  let c138_1147 : Index := 138#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4333 : Index := Scalar.indexCast v1005
  ![138, v4333.toNat]
def k0_off1107 (k0_t6 : Fin k0_t6_loop.trips) : Fin 2 → Nat :=
  let c139_1148 : Index := 139#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4338 : Index := Scalar.indexCast v1005
  ![139, v4338.toNat]
def k0_off1108 (k0_t6 : Fin k0_t6_loop.trips) : Fin 3 → Nat :=
  let c0_1156 : Index := 0#32
  let c2240 : Index := 2240#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4366 : Index := Scalar.indexCast v1002
  ![0, 2240, v4366.toNat]
def k0_off1109 (k0_t6 : Fin k0_t6_loop.trips) : Fin 2 → Nat :=
  let c140 : Index := 140#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4370 : Index := Scalar.indexCast v1002
  ![140, v4370.toNat]
def k0_off1110 (k0_t6 : Fin k0_t6_loop.trips) : Fin 2 → Nat :=
  let c141 : Index := 141#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4375 : Index := Scalar.indexCast v1002
  ![141, v4375.toNat]
def k0_off1111 (k0_t6 : Fin k0_t6_loop.trips) : Fin 2 → Nat :=
  let c140_1157 : Index := 140#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4381 : Index := Scalar.indexCast v1005
  ![140, v4381.toNat]
def k0_off1112 (k0_t6 : Fin k0_t6_loop.trips) : Fin 2 → Nat :=
  let c141_1158 : Index := 141#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4386 : Index := Scalar.indexCast v1005
  ![141, v4386.toNat]
def k0_off1113 (k0_t6 : Fin k0_t6_loop.trips) : Fin 3 → Nat :=
  let c0_1166 : Index := 0#32
  let c2272 : Index := 2272#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4414 : Index := Scalar.indexCast v1002
  ![0, 2272, v4414.toNat]
def k0_off1114 (k0_t6 : Fin k0_t6_loop.trips) : Fin 2 → Nat :=
  let c142 : Index := 142#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4418 : Index := Scalar.indexCast v1002
  ![142, v4418.toNat]
def k0_off1115 (k0_t6 : Fin k0_t6_loop.trips) : Fin 2 → Nat :=
  let c143 : Index := 143#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4423 : Index := Scalar.indexCast v1002
  ![143, v4423.toNat]
def k0_off1116 (k0_t6 : Fin k0_t6_loop.trips) : Fin 2 → Nat :=
  let c142_1167 : Index := 142#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4429 : Index := Scalar.indexCast v1005
  ![142, v4429.toNat]
def k0_off1117 (k0_t6 : Fin k0_t6_loop.trips) : Fin 2 → Nat :=
  let c143_1168 : Index := 143#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4434 : Index := Scalar.indexCast v1005
  ![143, v4434.toNat]
def k0_off1118 (k0_t6 : Fin k0_t6_loop.trips) : Fin 3 → Nat :=
  let c0_1176 : Index := 0#32
  let c2304 : Index := 2304#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4462 : Index := Scalar.indexCast v1002
  ![0, 2304, v4462.toNat]
def k0_off1119 (k0_t6 : Fin k0_t6_loop.trips) : Fin 2 → Nat :=
  let c144 : Index := 144#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4466 : Index := Scalar.indexCast v1002
  ![144, v4466.toNat]
def k0_off1120 (k0_t6 : Fin k0_t6_loop.trips) : Fin 2 → Nat :=
  let c145 : Index := 145#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4471 : Index := Scalar.indexCast v1002
  ![145, v4471.toNat]
def k0_off1121 (k0_t6 : Fin k0_t6_loop.trips) : Fin 2 → Nat :=
  let c144_1177 : Index := 144#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4477 : Index := Scalar.indexCast v1005
  ![144, v4477.toNat]
def k0_off1122 (k0_t6 : Fin k0_t6_loop.trips) : Fin 2 → Nat :=
  let c145_1178 : Index := 145#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4482 : Index := Scalar.indexCast v1005
  ![145, v4482.toNat]
def k0_off1123 (k0_t6 : Fin k0_t6_loop.trips) : Fin 3 → Nat :=
  let c0_1186 : Index := 0#32
  let c2336 : Index := 2336#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4510 : Index := Scalar.indexCast v1002
  ![0, 2336, v4510.toNat]
def k0_off1124 (k0_t6 : Fin k0_t6_loop.trips) : Fin 2 → Nat :=
  let c146 : Index := 146#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4514 : Index := Scalar.indexCast v1002
  ![146, v4514.toNat]
def k0_off1125 (k0_t6 : Fin k0_t6_loop.trips) : Fin 2 → Nat :=
  let c147 : Index := 147#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4519 : Index := Scalar.indexCast v1002
  ![147, v4519.toNat]
def k0_off1126 (k0_t6 : Fin k0_t6_loop.trips) : Fin 2 → Nat :=
  let c146_1187 : Index := 146#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4525 : Index := Scalar.indexCast v1005
  ![146, v4525.toNat]
def k0_off1127 (k0_t6 : Fin k0_t6_loop.trips) : Fin 2 → Nat :=
  let c147_1188 : Index := 147#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4530 : Index := Scalar.indexCast v1005
  ![147, v4530.toNat]
def k0_off1128 (k0_t6 : Fin k0_t6_loop.trips) : Fin 3 → Nat :=
  let c0_1196 : Index := 0#32
  let c2368 : Index := 2368#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4558 : Index := Scalar.indexCast v1002
  ![0, 2368, v4558.toNat]
def k0_off1129 (k0_t6 : Fin k0_t6_loop.trips) : Fin 2 → Nat :=
  let c148 : Index := 148#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4562 : Index := Scalar.indexCast v1002
  ![148, v4562.toNat]
def k0_off1130 (k0_t6 : Fin k0_t6_loop.trips) : Fin 2 → Nat :=
  let c149 : Index := 149#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4567 : Index := Scalar.indexCast v1002
  ![149, v4567.toNat]
def k0_off1131 (k0_t6 : Fin k0_t6_loop.trips) : Fin 2 → Nat :=
  let c148_1197 : Index := 148#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4573 : Index := Scalar.indexCast v1005
  ![148, v4573.toNat]
def k0_off1132 (k0_t6 : Fin k0_t6_loop.trips) : Fin 2 → Nat :=
  let c149_1198 : Index := 149#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4578 : Index := Scalar.indexCast v1005
  ![149, v4578.toNat]
def k0_off1133 (k0_t6 : Fin k0_t6_loop.trips) : Fin 3 → Nat :=
  let c0_1206 : Index := 0#32
  let c2400 : Index := 2400#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4606 : Index := Scalar.indexCast v1002
  ![0, 2400, v4606.toNat]
def k0_off1134 (k0_t6 : Fin k0_t6_loop.trips) : Fin 2 → Nat :=
  let c150 : Index := 150#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4610 : Index := Scalar.indexCast v1002
  ![150, v4610.toNat]
def k0_off1135 (k0_t6 : Fin k0_t6_loop.trips) : Fin 2 → Nat :=
  let c151 : Index := 151#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4615 : Index := Scalar.indexCast v1002
  ![151, v4615.toNat]
def k0_off1136 (k0_t6 : Fin k0_t6_loop.trips) : Fin 2 → Nat :=
  let c150_1207 : Index := 150#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4621 : Index := Scalar.indexCast v1005
  ![150, v4621.toNat]
def k0_off1137 (k0_t6 : Fin k0_t6_loop.trips) : Fin 2 → Nat :=
  let c151_1208 : Index := 151#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4626 : Index := Scalar.indexCast v1005
  ![151, v4626.toNat]
def k0_off1138 (k0_t6 : Fin k0_t6_loop.trips) : Fin 3 → Nat :=
  let c0_1216 : Index := 0#32
  let c2432 : Index := 2432#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4654 : Index := Scalar.indexCast v1002
  ![0, 2432, v4654.toNat]
def k0_off1139 (k0_t6 : Fin k0_t6_loop.trips) : Fin 2 → Nat :=
  let c152 : Index := 152#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4658 : Index := Scalar.indexCast v1002
  ![152, v4658.toNat]
def k0_off1140 (k0_t6 : Fin k0_t6_loop.trips) : Fin 2 → Nat :=
  let c153 : Index := 153#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4663 : Index := Scalar.indexCast v1002
  ![153, v4663.toNat]
def k0_off1141 (k0_t6 : Fin k0_t6_loop.trips) : Fin 2 → Nat :=
  let c152_1217 : Index := 152#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4669 : Index := Scalar.indexCast v1005
  ![152, v4669.toNat]
def k0_off1142 (k0_t6 : Fin k0_t6_loop.trips) : Fin 2 → Nat :=
  let c153_1218 : Index := 153#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4674 : Index := Scalar.indexCast v1005
  ![153, v4674.toNat]
def k0_off1143 (k0_t6 : Fin k0_t6_loop.trips) : Fin 3 → Nat :=
  let c0_1226 : Index := 0#32
  let c2464 : Index := 2464#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4702 : Index := Scalar.indexCast v1002
  ![0, 2464, v4702.toNat]
def k0_off1144 (k0_t6 : Fin k0_t6_loop.trips) : Fin 2 → Nat :=
  let c154 : Index := 154#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4706 : Index := Scalar.indexCast v1002
  ![154, v4706.toNat]
def k0_off1145 (k0_t6 : Fin k0_t6_loop.trips) : Fin 2 → Nat :=
  let c155 : Index := 155#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4711 : Index := Scalar.indexCast v1002
  ![155, v4711.toNat]
def k0_off1146 (k0_t6 : Fin k0_t6_loop.trips) : Fin 2 → Nat :=
  let c154_1227 : Index := 154#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4717 : Index := Scalar.indexCast v1005
  ![154, v4717.toNat]
def k0_off1147 (k0_t6 : Fin k0_t6_loop.trips) : Fin 2 → Nat :=
  let c155_1228 : Index := 155#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4722 : Index := Scalar.indexCast v1005
  ![155, v4722.toNat]
def k0_off1148 (k0_t6 : Fin k0_t6_loop.trips) : Fin 3 → Nat :=
  let c0_1236 : Index := 0#32
  let c2496 : Index := 2496#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4750 : Index := Scalar.indexCast v1002
  ![0, 2496, v4750.toNat]
def k0_off1149 (k0_t6 : Fin k0_t6_loop.trips) : Fin 2 → Nat :=
  let c156 : Index := 156#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4754 : Index := Scalar.indexCast v1002
  ![156, v4754.toNat]
def k0_off1150 (k0_t6 : Fin k0_t6_loop.trips) : Fin 2 → Nat :=
  let c157 : Index := 157#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4759 : Index := Scalar.indexCast v1002
  ![157, v4759.toNat]
def k0_off1151 (k0_t6 : Fin k0_t6_loop.trips) : Fin 2 → Nat :=
  let c156_1237 : Index := 156#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4765 : Index := Scalar.indexCast v1005
  ![156, v4765.toNat]
def k0_off1152 (k0_t6 : Fin k0_t6_loop.trips) : Fin 2 → Nat :=
  let c157_1238 : Index := 157#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4770 : Index := Scalar.indexCast v1005
  ![157, v4770.toNat]
def k0_off1153 (k0_t6 : Fin k0_t6_loop.trips) : Fin 3 → Nat :=
  let c0_1246 : Index := 0#32
  let c2528 : Index := 2528#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4798 : Index := Scalar.indexCast v1002
  ![0, 2528, v4798.toNat]
def k0_off1154 (k0_t6 : Fin k0_t6_loop.trips) : Fin 2 → Nat :=
  let c158 : Index := 158#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4802 : Index := Scalar.indexCast v1002
  ![158, v4802.toNat]
def k0_off1155 (k0_t6 : Fin k0_t6_loop.trips) : Fin 2 → Nat :=
  let c159 : Index := 159#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4807 : Index := Scalar.indexCast v1002
  ![159, v4807.toNat]
def k0_off1156 (k0_t6 : Fin k0_t6_loop.trips) : Fin 2 → Nat :=
  let c158_1247 : Index := 158#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4813 : Index := Scalar.indexCast v1005
  ![158, v4813.toNat]
def k0_off1157 (k0_t6 : Fin k0_t6_loop.trips) : Fin 2 → Nat :=
  let c159_1248 : Index := 159#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4818 : Index := Scalar.indexCast v1005
  ![159, v4818.toNat]
def k0_off1158 (k0_t6 : Fin k0_t6_loop.trips) : Fin 3 → Nat :=
  let c0_1256 : Index := 0#32
  let c2560 : Index := 2560#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4846 : Index := Scalar.indexCast v1002
  ![0, 2560, v4846.toNat]
def k0_off1159 (k0_t6 : Fin k0_t6_loop.trips) : Fin 2 → Nat :=
  let c160_1257 : Index := 160#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4850 : Index := Scalar.indexCast v1002
  ![160, v4850.toNat]
def k0_off1160 (k0_t6 : Fin k0_t6_loop.trips) : Fin 2 → Nat :=
  let c161 : Index := 161#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4855 : Index := Scalar.indexCast v1002
  ![161, v4855.toNat]
def k0_off1161 (k0_t6 : Fin k0_t6_loop.trips) : Fin 2 → Nat :=
  let c160_1258 : Index := 160#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4861 : Index := Scalar.indexCast v1005
  ![160, v4861.toNat]
def k0_off1162 (k0_t6 : Fin k0_t6_loop.trips) : Fin 2 → Nat :=
  let c161_1259 : Index := 161#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4866 : Index := Scalar.indexCast v1005
  ![161, v4866.toNat]
def k0_off1163 (k0_t6 : Fin k0_t6_loop.trips) : Fin 3 → Nat :=
  let c0_1267 : Index := 0#32
  let c2592 : Index := 2592#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4894 : Index := Scalar.indexCast v1002
  ![0, 2592, v4894.toNat]
def k0_off1164 (k0_t6 : Fin k0_t6_loop.trips) : Fin 2 → Nat :=
  let c162 : Index := 162#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4898 : Index := Scalar.indexCast v1002
  ![162, v4898.toNat]
def k0_off1165 (k0_t6 : Fin k0_t6_loop.trips) : Fin 2 → Nat :=
  let c163 : Index := 163#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4903 : Index := Scalar.indexCast v1002
  ![163, v4903.toNat]
def k0_off1166 (k0_t6 : Fin k0_t6_loop.trips) : Fin 2 → Nat :=
  let c162_1268 : Index := 162#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4909 : Index := Scalar.indexCast v1005
  ![162, v4909.toNat]
def k0_off1167 (k0_t6 : Fin k0_t6_loop.trips) : Fin 2 → Nat :=
  let c163_1269 : Index := 163#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4914 : Index := Scalar.indexCast v1005
  ![163, v4914.toNat]
def k0_off1168 (k0_t6 : Fin k0_t6_loop.trips) : Fin 3 → Nat :=
  let c0_1277 : Index := 0#32
  let c2624 : Index := 2624#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4942 : Index := Scalar.indexCast v1002
  ![0, 2624, v4942.toNat]
def k0_off1169 (k0_t6 : Fin k0_t6_loop.trips) : Fin 2 → Nat :=
  let c164 : Index := 164#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4946 : Index := Scalar.indexCast v1002
  ![164, v4946.toNat]
def k0_off1170 (k0_t6 : Fin k0_t6_loop.trips) : Fin 2 → Nat :=
  let c165 : Index := 165#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4951 : Index := Scalar.indexCast v1002
  ![165, v4951.toNat]
def k0_off1171 (k0_t6 : Fin k0_t6_loop.trips) : Fin 2 → Nat :=
  let c164_1278 : Index := 164#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4957 : Index := Scalar.indexCast v1005
  ![164, v4957.toNat]
def k0_off1172 (k0_t6 : Fin k0_t6_loop.trips) : Fin 2 → Nat :=
  let c165_1279 : Index := 165#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v4962 : Index := Scalar.indexCast v1005
  ![165, v4962.toNat]
def k0_off1173 (k0_t6 : Fin k0_t6_loop.trips) : Fin 3 → Nat :=
  let c0_1287 : Index := 0#32
  let c2656 : Index := 2656#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4990 : Index := Scalar.indexCast v1002
  ![0, 2656, v4990.toNat]
def k0_off1174 (k0_t6 : Fin k0_t6_loop.trips) : Fin 2 → Nat :=
  let c166 : Index := 166#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4994 : Index := Scalar.indexCast v1002
  ![166, v4994.toNat]
def k0_off1175 (k0_t6 : Fin k0_t6_loop.trips) : Fin 2 → Nat :=
  let c167 : Index := 167#32
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v4999 : Index := Scalar.indexCast v1002
  ![167, v4999.toNat]
def k0_off1176 (k0_t6 : Fin k0_t6_loop.trips) : Fin 2 → Nat :=
  let c166_1288 : Index := 166#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v5005 : Index := Scalar.indexCast v1005
  ![166, v5005.toNat]
def k0_off1177 (k0_t6 : Fin k0_t6_loop.trips) : Fin 2 → Nat :=
  let c167_1289 : Index := 167#32
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v5010 : Index := Scalar.indexCast v1005
  ![167, v5010.toNat]
def k0_off1178 (v3 : BitVec 32) (v5 : BitVec 32) (k0_t4 : Fin (k0_t4_loop v3 v5).trips) (k0_t6 : Fin k0_t6_loop.trips) : Fin 2 → Nat :=
  let c0_i32_2 : BitVec 32 := 0#32
  let v9 : BitVec 1 := Scalar.cmpi .sgt v3 c0_i32_2
  let v10 : BitVec 32 := Scalar.extui v9
  let c0_i32_3 : BitVec 32 := 0#32
  let v11 : BitVec 1 := Scalar.cmpi .slt v3 c0_i32_3
  let v12 : BitVec 32 := Scalar.extui v11
  let v13 : BitVec 32 := Scalar.subi v10 v12
  let c16_i32 : BitVec 32 := 16#32
  let c0_i32_4 : BitVec 32 := 0#32
  let v14 : BitVec 1 := Scalar.cmpi .sgt c16_i32 c0_i32_4
  let v15 : BitVec 32 := Scalar.extui v14
  let c0_i32_5 : BitVec 32 := 0#32
  let v16 : BitVec 1 := Scalar.cmpi .slt c16_i32 c0_i32_5
  let v17 : BitVec 32 := Scalar.extui v16
  let v18 : BitVec 32 := Scalar.subi v15 v17
  let v19 : BitVec 1 := Scalar.cmpi .ne v13 v18
  let v20 : BitVec 32 := Scalar.remsi v3 c16_i32
  let c0_i32_6 : BitVec 32 := 0#32
  let v21 : BitVec 1 := Scalar.cmpi .ne v20 c0_i32_6
  let v22 : BitVec 1 := Scalar.andi v19 v21
  let v8 : BitVec 32 := Scalar.divsi v3 c16_i32
  let c1_i32 : BitVec 32 := 1#32
  let v23 : BitVec 32 := Scalar.subi v8 c1_i32
  let v24 : BitVec 32 := Scalar.select v22 v23 v8
  let c16_i32_7 : BitVec 32 := 16#32
  let v25 : BitVec 32 := Scalar.muli v24 c16_i32_7
  let c0_i32_33 : BitVec 32 := 0#32
  let v6 : BitVec 32 := Scalar.addi v3 v5
  let v58 : BitVec 32 := Scalar.subi v6 v25
  let c128_i32 : BitVec 32 := 128#32
  let v59 : BitVec 32 := Scalar.addi v58 c128_i32
  let c1_i32_25 : BitVec 32 := 1#32
  let v60 : BitVec 32 := Scalar.subi v59 c1_i32_25
  let c0_i32_27 : BitVec 32 := 0#32
  let v62 : BitVec 1 := Scalar.cmpi .sgt v60 c0_i32_27
  let v63 : BitVec 32 := Scalar.extui v62
  let c0_i32_28 : BitVec 32 := 0#32
  let v64 : BitVec 1 := Scalar.cmpi .slt v60 c0_i32_28
  let v65 : BitVec 32 := Scalar.extui v64
  let v66 : BitVec 32 := Scalar.subi v63 v65
  let c128_i32_26 : BitVec 32 := 128#32
  let c0_i32_29 : BitVec 32 := 0#32
  let v67 : BitVec 1 := Scalar.cmpi .sgt c128_i32_26 c0_i32_29
  let v68 : BitVec 32 := Scalar.extui v67
  let c0_i32_30 : BitVec 32 := 0#32
  let v69 : BitVec 1 := Scalar.cmpi .slt c128_i32_26 c0_i32_30
  let v70 : BitVec 32 := Scalar.extui v69
  let v71 : BitVec 32 := Scalar.subi v68 v70
  let v72 : BitVec 1 := Scalar.cmpi .ne v66 v71
  let v73 : BitVec 32 := Scalar.remsi v60 c128_i32_26
  let c0_i32_31 : BitVec 32 := 0#32
  let v74 : BitVec 1 := Scalar.cmpi .ne v73 c0_i32_31
  let v75 : BitVec 1 := Scalar.andi v72 v74
  let v61 : BitVec 32 := Scalar.divsi v60 c128_i32_26
  let c1_i32_32 : BitVec 32 := 1#32
  let v76 : BitVec 32 := Scalar.subi v61 c1_i32_32
  let v77 : BitVec 32 := Scalar.select v75 v76 v61
  let v78 : BitVec 32 := Scalar.subi v77 c0_i32_33
  let c1_i32_35 : BitVec 32 := 1#32
  let v80 : BitVec 32 := Scalar.divsi v78 c1_i32_35
  let v81 : BitVec 32 := Scalar.muli v80 c1_i32_35
  let v82 : BitVec 32 := Scalar.addi c0_i32_33 v81
  let c1_i32_37 : BitVec 32 := 1#32
  let arg18 : BitVec 32 := Scf.iv v82 c1_i32_37 k0_t4
  let c128_i32_38 : BitVec 32 := 128#32
  let v85 : BitVec 32 := Scalar.muli arg18 c128_i32_38
  let v86 : BitVec 32 := Scalar.addi v25 v85
  let v87 : BitVec 32 := v86
  let v5047 : Index := Scalar.indexCast v87
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v5048 : Index := Scalar.indexCast v1002
  ![v5047.toNat, v5048.toNat]
def k0_mult13 (v3 : BitVec 32) (v5 : BitVec 32) (k0_t4 : Fin (k0_t4_loop v3 v5).trips) : BitVec 32 :=
  let c0_i32_2 : BitVec 32 := 0#32
  let v9 : BitVec 1 := Scalar.cmpi .sgt v3 c0_i32_2
  let v10 : BitVec 32 := Scalar.extui v9
  let c0_i32_3 : BitVec 32 := 0#32
  let v11 : BitVec 1 := Scalar.cmpi .slt v3 c0_i32_3
  let v12 : BitVec 32 := Scalar.extui v11
  let v13 : BitVec 32 := Scalar.subi v10 v12
  let c16_i32 : BitVec 32 := 16#32
  let c0_i32_4 : BitVec 32 := 0#32
  let v14 : BitVec 1 := Scalar.cmpi .sgt c16_i32 c0_i32_4
  let v15 : BitVec 32 := Scalar.extui v14
  let c0_i32_5 : BitVec 32 := 0#32
  let v16 : BitVec 1 := Scalar.cmpi .slt c16_i32 c0_i32_5
  let v17 : BitVec 32 := Scalar.extui v16
  let v18 : BitVec 32 := Scalar.subi v15 v17
  let v19 : BitVec 1 := Scalar.cmpi .ne v13 v18
  let v20 : BitVec 32 := Scalar.remsi v3 c16_i32
  let c0_i32_6 : BitVec 32 := 0#32
  let v21 : BitVec 1 := Scalar.cmpi .ne v20 c0_i32_6
  let v22 : BitVec 1 := Scalar.andi v19 v21
  let v8 : BitVec 32 := Scalar.divsi v3 c16_i32
  let c1_i32 : BitVec 32 := 1#32
  let v23 : BitVec 32 := Scalar.subi v8 c1_i32
  let v24 : BitVec 32 := Scalar.select v22 v23 v8
  let c16_i32_7 : BitVec 32 := 16#32
  let v25 : BitVec 32 := Scalar.muli v24 c16_i32_7
  let c0_i32_33 : BitVec 32 := 0#32
  let v6 : BitVec 32 := Scalar.addi v3 v5
  let v58 : BitVec 32 := Scalar.subi v6 v25
  let c128_i32 : BitVec 32 := 128#32
  let v59 : BitVec 32 := Scalar.addi v58 c128_i32
  let c1_i32_25 : BitVec 32 := 1#32
  let v60 : BitVec 32 := Scalar.subi v59 c1_i32_25
  let c0_i32_27 : BitVec 32 := 0#32
  let v62 : BitVec 1 := Scalar.cmpi .sgt v60 c0_i32_27
  let v63 : BitVec 32 := Scalar.extui v62
  let c0_i32_28 : BitVec 32 := 0#32
  let v64 : BitVec 1 := Scalar.cmpi .slt v60 c0_i32_28
  let v65 : BitVec 32 := Scalar.extui v64
  let v66 : BitVec 32 := Scalar.subi v63 v65
  let c128_i32_26 : BitVec 32 := 128#32
  let c0_i32_29 : BitVec 32 := 0#32
  let v67 : BitVec 1 := Scalar.cmpi .sgt c128_i32_26 c0_i32_29
  let v68 : BitVec 32 := Scalar.extui v67
  let c0_i32_30 : BitVec 32 := 0#32
  let v69 : BitVec 1 := Scalar.cmpi .slt c128_i32_26 c0_i32_30
  let v70 : BitVec 32 := Scalar.extui v69
  let v71 : BitVec 32 := Scalar.subi v68 v70
  let v72 : BitVec 1 := Scalar.cmpi .ne v66 v71
  let v73 : BitVec 32 := Scalar.remsi v60 c128_i32_26
  let c0_i32_31 : BitVec 32 := 0#32
  let v74 : BitVec 1 := Scalar.cmpi .ne v73 c0_i32_31
  let v75 : BitVec 1 := Scalar.andi v72 v74
  let v61 : BitVec 32 := Scalar.divsi v60 c128_i32_26
  let c1_i32_32 : BitVec 32 := 1#32
  let v76 : BitVec 32 := Scalar.subi v61 c1_i32_32
  let v77 : BitVec 32 := Scalar.select v75 v76 v61
  let v78 : BitVec 32 := Scalar.subi v77 c0_i32_33
  let c1_i32_35 : BitVec 32 := 1#32
  let v80 : BitVec 32 := Scalar.divsi v78 c1_i32_35
  let v81 : BitVec 32 := Scalar.muli v80 c1_i32_35
  let v82 : BitVec 32 := Scalar.addi c0_i32_33 v81
  let c1_i32_37 : BitVec 32 := 1#32
  let arg18 : BitVec 32 := Scf.iv v82 c1_i32_37 k0_t4
  let c128_i32_38 : BitVec 32 := 128#32
  let v85 : BitVec 32 := Scalar.muli arg18 c128_i32_38
  let v86 : BitVec 32 := Scalar.addi v25 v85
  let v87 : BitVec 32 := v86
  let c16_i32_1300 : BitVec 32 := 16#32
  let v5059 : BitVec 32 := Scalar.addi v87 c16_i32_1300
  v5059
def k0_off1179 (v3 : BitVec 32) (v5 : BitVec 32) (k0_t4 : Fin (k0_t4_loop v3 v5).trips) (k0_t6 : Fin k0_t6_loop.trips) : Fin 2 → Nat :=
  let c0_i32_2 : BitVec 32 := 0#32
  let v9 : BitVec 1 := Scalar.cmpi .sgt v3 c0_i32_2
  let v10 : BitVec 32 := Scalar.extui v9
  let c0_i32_3 : BitVec 32 := 0#32
  let v11 : BitVec 1 := Scalar.cmpi .slt v3 c0_i32_3
  let v12 : BitVec 32 := Scalar.extui v11
  let v13 : BitVec 32 := Scalar.subi v10 v12
  let c16_i32 : BitVec 32 := 16#32
  let c0_i32_4 : BitVec 32 := 0#32
  let v14 : BitVec 1 := Scalar.cmpi .sgt c16_i32 c0_i32_4
  let v15 : BitVec 32 := Scalar.extui v14
  let c0_i32_5 : BitVec 32 := 0#32
  let v16 : BitVec 1 := Scalar.cmpi .slt c16_i32 c0_i32_5
  let v17 : BitVec 32 := Scalar.extui v16
  let v18 : BitVec 32 := Scalar.subi v15 v17
  let v19 : BitVec 1 := Scalar.cmpi .ne v13 v18
  let v20 : BitVec 32 := Scalar.remsi v3 c16_i32
  let c0_i32_6 : BitVec 32 := 0#32
  let v21 : BitVec 1 := Scalar.cmpi .ne v20 c0_i32_6
  let v22 : BitVec 1 := Scalar.andi v19 v21
  let v8 : BitVec 32 := Scalar.divsi v3 c16_i32
  let c1_i32 : BitVec 32 := 1#32
  let v23 : BitVec 32 := Scalar.subi v8 c1_i32
  let v24 : BitVec 32 := Scalar.select v22 v23 v8
  let c16_i32_7 : BitVec 32 := 16#32
  let v25 : BitVec 32 := Scalar.muli v24 c16_i32_7
  let c0_i32_33 : BitVec 32 := 0#32
  let v6 : BitVec 32 := Scalar.addi v3 v5
  let v58 : BitVec 32 := Scalar.subi v6 v25
  let c128_i32 : BitVec 32 := 128#32
  let v59 : BitVec 32 := Scalar.addi v58 c128_i32
  let c1_i32_25 : BitVec 32 := 1#32
  let v60 : BitVec 32 := Scalar.subi v59 c1_i32_25
  let c0_i32_27 : BitVec 32 := 0#32
  let v62 : BitVec 1 := Scalar.cmpi .sgt v60 c0_i32_27
  let v63 : BitVec 32 := Scalar.extui v62
  let c0_i32_28 : BitVec 32 := 0#32
  let v64 : BitVec 1 := Scalar.cmpi .slt v60 c0_i32_28
  let v65 : BitVec 32 := Scalar.extui v64
  let v66 : BitVec 32 := Scalar.subi v63 v65
  let c128_i32_26 : BitVec 32 := 128#32
  let c0_i32_29 : BitVec 32 := 0#32
  let v67 : BitVec 1 := Scalar.cmpi .sgt c128_i32_26 c0_i32_29
  let v68 : BitVec 32 := Scalar.extui v67
  let c0_i32_30 : BitVec 32 := 0#32
  let v69 : BitVec 1 := Scalar.cmpi .slt c128_i32_26 c0_i32_30
  let v70 : BitVec 32 := Scalar.extui v69
  let v71 : BitVec 32 := Scalar.subi v68 v70
  let v72 : BitVec 1 := Scalar.cmpi .ne v66 v71
  let v73 : BitVec 32 := Scalar.remsi v60 c128_i32_26
  let c0_i32_31 : BitVec 32 := 0#32
  let v74 : BitVec 1 := Scalar.cmpi .ne v73 c0_i32_31
  let v75 : BitVec 1 := Scalar.andi v72 v74
  let v61 : BitVec 32 := Scalar.divsi v60 c128_i32_26
  let c1_i32_32 : BitVec 32 := 1#32
  let v76 : BitVec 32 := Scalar.subi v61 c1_i32_32
  let v77 : BitVec 32 := Scalar.select v75 v76 v61
  let v78 : BitVec 32 := Scalar.subi v77 c0_i32_33
  let c1_i32_35 : BitVec 32 := 1#32
  let v80 : BitVec 32 := Scalar.divsi v78 c1_i32_35
  let v81 : BitVec 32 := Scalar.muli v80 c1_i32_35
  let v82 : BitVec 32 := Scalar.addi c0_i32_33 v81
  let c1_i32_37 : BitVec 32 := 1#32
  let arg18 : BitVec 32 := Scf.iv v82 c1_i32_37 k0_t4
  let c128_i32_38 : BitVec 32 := 128#32
  let v85 : BitVec 32 := Scalar.muli arg18 c128_i32_38
  let v86 : BitVec 32 := Scalar.addi v25 v85
  let v87 : BitVec 32 := v86
  let c16_i32_1300 : BitVec 32 := 16#32
  let v5059 : BitVec 32 := Scalar.addi v87 c16_i32_1300
  let v5060 : BitVec 32 := v5059
  let v5061 : Index := Scalar.indexCast v5060
  let c0_i32_348 : BitVec 32 := 0#32
  let c1_i32_350 : BitVec 32 := 1#32
  let arg20 : BitVec 32 := Scf.iv c0_i32_348 c1_i32_350 k0_t6
  let c128_i32_353 : BitVec 32 := 128#32
  let v1001 : BitVec 32 := Scalar.muli arg20 c128_i32_353
  let v1002 : BitVec 32 := v1001
  let v5062 : Index := Scalar.indexCast v1002
  ![v5061.toNat, v5062.toNat]
def k0_off1180 (v3 : BitVec 32) (v5 : BitVec 32) (k0_t4 : Fin (k0_t4_loop v3 v5).trips) (k0_t6 : Fin k0_t6_loop.trips) : Fin 2 → Nat :=
  let c0_i32_2 : BitVec 32 := 0#32
  let v9 : BitVec 1 := Scalar.cmpi .sgt v3 c0_i32_2
  let v10 : BitVec 32 := Scalar.extui v9
  let c0_i32_3 : BitVec 32 := 0#32
  let v11 : BitVec 1 := Scalar.cmpi .slt v3 c0_i32_3
  let v12 : BitVec 32 := Scalar.extui v11
  let v13 : BitVec 32 := Scalar.subi v10 v12
  let c16_i32 : BitVec 32 := 16#32
  let c0_i32_4 : BitVec 32 := 0#32
  let v14 : BitVec 1 := Scalar.cmpi .sgt c16_i32 c0_i32_4
  let v15 : BitVec 32 := Scalar.extui v14
  let c0_i32_5 : BitVec 32 := 0#32
  let v16 : BitVec 1 := Scalar.cmpi .slt c16_i32 c0_i32_5
  let v17 : BitVec 32 := Scalar.extui v16
  let v18 : BitVec 32 := Scalar.subi v15 v17
  let v19 : BitVec 1 := Scalar.cmpi .ne v13 v18
  let v20 : BitVec 32 := Scalar.remsi v3 c16_i32
  let c0_i32_6 : BitVec 32 := 0#32
  let v21 : BitVec 1 := Scalar.cmpi .ne v20 c0_i32_6
  let v22 : BitVec 1 := Scalar.andi v19 v21
  let v8 : BitVec 32 := Scalar.divsi v3 c16_i32
  let c1_i32 : BitVec 32 := 1#32
  let v23 : BitVec 32 := Scalar.subi v8 c1_i32
  let v24 : BitVec 32 := Scalar.select v22 v23 v8
  let c16_i32_7 : BitVec 32 := 16#32
  let v25 : BitVec 32 := Scalar.muli v24 c16_i32_7
  let c0_i32_33 : BitVec 32 := 0#32
  let v6 : BitVec 32 := Scalar.addi v3 v5
  let v58 : BitVec 32 := Scalar.subi v6 v25
  let c128_i32 : BitVec 32 := 128#32
  let v59 : BitVec 32 := Scalar.addi v58 c128_i32
  let c1_i32_25 : BitVec 32 := 1#32
  let v60 : BitVec 32 := Scalar.subi v59 c1_i32_25
  let c0_i32_27 : BitVec 32 := 0#32
  let v62 : BitVec 1 := Scalar.cmpi .sgt v60 c0_i32_27
  let v63 : BitVec 32 := Scalar.extui v62
  let c0_i32_28 : BitVec 32 := 0#32
  let v64 : BitVec 1 := Scalar.cmpi .slt v60 c0_i32_28
  let v65 : BitVec 32 := Scalar.extui v64
  let v66 : BitVec 32 := Scalar.subi v63 v65
  let c128_i32_26 : BitVec 32 := 128#32
  let c0_i32_29 : BitVec 32 := 0#32
  let v67 : BitVec 1 := Scalar.cmpi .sgt c128_i32_26 c0_i32_29
  let v68 : BitVec 32 := Scalar.extui v67
  let c0_i32_30 : BitVec 32 := 0#32
  let v69 : BitVec 1 := Scalar.cmpi .slt c128_i32_26 c0_i32_30
  let v70 : BitVec 32 := Scalar.extui v69
  let v71 : BitVec 32 := Scalar.subi v68 v70
  let v72 : BitVec 1 := Scalar.cmpi .ne v66 v71
  let v73 : BitVec 32 := Scalar.remsi v60 c128_i32_26
  let c0_i32_31 : BitVec 32 := 0#32
  let v74 : BitVec 1 := Scalar.cmpi .ne v73 c0_i32_31
  let v75 : BitVec 1 := Scalar.andi v72 v74
  let v61 : BitVec 32 := Scalar.divsi v60 c128_i32_26
  let c1_i32_32 : BitVec 32 := 1#32
  let v76 : BitVec 32 := Scalar.subi v61 c1_i32_32
  let v77 : BitVec 32 := Scalar.select v75 v76 v61
  let v78 : BitVec 32 := Scalar.subi v77 c0_i32_33
  let c1_i32_35 : BitVec 32 := 1#32
  let v80 : BitVec 32 := Scalar.divsi v78 c1_i32_35
  let v81 : BitVec 32 := Scalar.muli v80 c1_i32_35
  let v82 : BitVec 32 := Scalar.addi c0_i32_33 v81
  let c1_i32_37 : BitVec 32 := 1#32
  let arg18 : BitVec 32 := Scf.iv v82 c1_i32_37 k0_t4
  let c128_i32_38 : BitVec 32 := 128#32
  let v85 : BitVec 32 := Scalar.muli arg18 c128_i32_38
  let v86 : BitVec 32 := Scalar.addi v25 v85
  let v87 : BitVec 32 := v86
  let v5064 : Index := Scalar.indexCast v87
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v5065 : Index := Scalar.indexCast v1005
  ![v5064.toNat, v5065.toNat]
def k0_mult14 (v3 : BitVec 32) (v5 : BitVec 32) (k0_t4 : Fin (k0_t4_loop v3 v5).trips) : BitVec 32 :=
  let c0_i32_2 : BitVec 32 := 0#32
  let v9 : BitVec 1 := Scalar.cmpi .sgt v3 c0_i32_2
  let v10 : BitVec 32 := Scalar.extui v9
  let c0_i32_3 : BitVec 32 := 0#32
  let v11 : BitVec 1 := Scalar.cmpi .slt v3 c0_i32_3
  let v12 : BitVec 32 := Scalar.extui v11
  let v13 : BitVec 32 := Scalar.subi v10 v12
  let c16_i32 : BitVec 32 := 16#32
  let c0_i32_4 : BitVec 32 := 0#32
  let v14 : BitVec 1 := Scalar.cmpi .sgt c16_i32 c0_i32_4
  let v15 : BitVec 32 := Scalar.extui v14
  let c0_i32_5 : BitVec 32 := 0#32
  let v16 : BitVec 1 := Scalar.cmpi .slt c16_i32 c0_i32_5
  let v17 : BitVec 32 := Scalar.extui v16
  let v18 : BitVec 32 := Scalar.subi v15 v17
  let v19 : BitVec 1 := Scalar.cmpi .ne v13 v18
  let v20 : BitVec 32 := Scalar.remsi v3 c16_i32
  let c0_i32_6 : BitVec 32 := 0#32
  let v21 : BitVec 1 := Scalar.cmpi .ne v20 c0_i32_6
  let v22 : BitVec 1 := Scalar.andi v19 v21
  let v8 : BitVec 32 := Scalar.divsi v3 c16_i32
  let c1_i32 : BitVec 32 := 1#32
  let v23 : BitVec 32 := Scalar.subi v8 c1_i32
  let v24 : BitVec 32 := Scalar.select v22 v23 v8
  let c16_i32_7 : BitVec 32 := 16#32
  let v25 : BitVec 32 := Scalar.muli v24 c16_i32_7
  let c0_i32_33 : BitVec 32 := 0#32
  let v6 : BitVec 32 := Scalar.addi v3 v5
  let v58 : BitVec 32 := Scalar.subi v6 v25
  let c128_i32 : BitVec 32 := 128#32
  let v59 : BitVec 32 := Scalar.addi v58 c128_i32
  let c1_i32_25 : BitVec 32 := 1#32
  let v60 : BitVec 32 := Scalar.subi v59 c1_i32_25
  let c0_i32_27 : BitVec 32 := 0#32
  let v62 : BitVec 1 := Scalar.cmpi .sgt v60 c0_i32_27
  let v63 : BitVec 32 := Scalar.extui v62
  let c0_i32_28 : BitVec 32 := 0#32
  let v64 : BitVec 1 := Scalar.cmpi .slt v60 c0_i32_28
  let v65 : BitVec 32 := Scalar.extui v64
  let v66 : BitVec 32 := Scalar.subi v63 v65
  let c128_i32_26 : BitVec 32 := 128#32
  let c0_i32_29 : BitVec 32 := 0#32
  let v67 : BitVec 1 := Scalar.cmpi .sgt c128_i32_26 c0_i32_29
  let v68 : BitVec 32 := Scalar.extui v67
  let c0_i32_30 : BitVec 32 := 0#32
  let v69 : BitVec 1 := Scalar.cmpi .slt c128_i32_26 c0_i32_30
  let v70 : BitVec 32 := Scalar.extui v69
  let v71 : BitVec 32 := Scalar.subi v68 v70
  let v72 : BitVec 1 := Scalar.cmpi .ne v66 v71
  let v73 : BitVec 32 := Scalar.remsi v60 c128_i32_26
  let c0_i32_31 : BitVec 32 := 0#32
  let v74 : BitVec 1 := Scalar.cmpi .ne v73 c0_i32_31
  let v75 : BitVec 1 := Scalar.andi v72 v74
  let v61 : BitVec 32 := Scalar.divsi v60 c128_i32_26
  let c1_i32_32 : BitVec 32 := 1#32
  let v76 : BitVec 32 := Scalar.subi v61 c1_i32_32
  let v77 : BitVec 32 := Scalar.select v75 v76 v61
  let v78 : BitVec 32 := Scalar.subi v77 c0_i32_33
  let c1_i32_35 : BitVec 32 := 1#32
  let v80 : BitVec 32 := Scalar.divsi v78 c1_i32_35
  let v81 : BitVec 32 := Scalar.muli v80 c1_i32_35
  let v82 : BitVec 32 := Scalar.addi c0_i32_33 v81
  let c1_i32_37 : BitVec 32 := 1#32
  let arg18 : BitVec 32 := Scf.iv v82 c1_i32_37 k0_t4
  let c128_i32_38 : BitVec 32 := 128#32
  let v85 : BitVec 32 := Scalar.muli arg18 c128_i32_38
  let v86 : BitVec 32 := Scalar.addi v25 v85
  let v87 : BitVec 32 := v86
  let c16_i32_1301 : BitVec 32 := 16#32
  let v5076 : BitVec 32 := Scalar.addi v87 c16_i32_1301
  v5076
def k0_off1181 (v3 : BitVec 32) (v5 : BitVec 32) (k0_t4 : Fin (k0_t4_loop v3 v5).trips) (k0_t6 : Fin k0_t6_loop.trips) : Fin 2 → Nat :=
  let c0_i32_2 : BitVec 32 := 0#32
  let v9 : BitVec 1 := Scalar.cmpi .sgt v3 c0_i32_2
  let v10 : BitVec 32 := Scalar.extui v9
  let c0_i32_3 : BitVec 32 := 0#32
  let v11 : BitVec 1 := Scalar.cmpi .slt v3 c0_i32_3
  let v12 : BitVec 32 := Scalar.extui v11
  let v13 : BitVec 32 := Scalar.subi v10 v12
  let c16_i32 : BitVec 32 := 16#32
  let c0_i32_4 : BitVec 32 := 0#32
  let v14 : BitVec 1 := Scalar.cmpi .sgt c16_i32 c0_i32_4
  let v15 : BitVec 32 := Scalar.extui v14
  let c0_i32_5 : BitVec 32 := 0#32
  let v16 : BitVec 1 := Scalar.cmpi .slt c16_i32 c0_i32_5
  let v17 : BitVec 32 := Scalar.extui v16
  let v18 : BitVec 32 := Scalar.subi v15 v17
  let v19 : BitVec 1 := Scalar.cmpi .ne v13 v18
  let v20 : BitVec 32 := Scalar.remsi v3 c16_i32
  let c0_i32_6 : BitVec 32 := 0#32
  let v21 : BitVec 1 := Scalar.cmpi .ne v20 c0_i32_6
  let v22 : BitVec 1 := Scalar.andi v19 v21
  let v8 : BitVec 32 := Scalar.divsi v3 c16_i32
  let c1_i32 : BitVec 32 := 1#32
  let v23 : BitVec 32 := Scalar.subi v8 c1_i32
  let v24 : BitVec 32 := Scalar.select v22 v23 v8
  let c16_i32_7 : BitVec 32 := 16#32
  let v25 : BitVec 32 := Scalar.muli v24 c16_i32_7
  let c0_i32_33 : BitVec 32 := 0#32
  let v6 : BitVec 32 := Scalar.addi v3 v5
  let v58 : BitVec 32 := Scalar.subi v6 v25
  let c128_i32 : BitVec 32 := 128#32
  let v59 : BitVec 32 := Scalar.addi v58 c128_i32
  let c1_i32_25 : BitVec 32 := 1#32
  let v60 : BitVec 32 := Scalar.subi v59 c1_i32_25
  let c0_i32_27 : BitVec 32 := 0#32
  let v62 : BitVec 1 := Scalar.cmpi .sgt v60 c0_i32_27
  let v63 : BitVec 32 := Scalar.extui v62
  let c0_i32_28 : BitVec 32 := 0#32
  let v64 : BitVec 1 := Scalar.cmpi .slt v60 c0_i32_28
  let v65 : BitVec 32 := Scalar.extui v64
  let v66 : BitVec 32 := Scalar.subi v63 v65
  let c128_i32_26 : BitVec 32 := 128#32
  let c0_i32_29 : BitVec 32 := 0#32
  let v67 : BitVec 1 := Scalar.cmpi .sgt c128_i32_26 c0_i32_29
  let v68 : BitVec 32 := Scalar.extui v67
  let c0_i32_30 : BitVec 32 := 0#32
  let v69 : BitVec 1 := Scalar.cmpi .slt c128_i32_26 c0_i32_30
  let v70 : BitVec 32 := Scalar.extui v69
  let v71 : BitVec 32 := Scalar.subi v68 v70
  let v72 : BitVec 1 := Scalar.cmpi .ne v66 v71
  let v73 : BitVec 32 := Scalar.remsi v60 c128_i32_26
  let c0_i32_31 : BitVec 32 := 0#32
  let v74 : BitVec 1 := Scalar.cmpi .ne v73 c0_i32_31
  let v75 : BitVec 1 := Scalar.andi v72 v74
  let v61 : BitVec 32 := Scalar.divsi v60 c128_i32_26
  let c1_i32_32 : BitVec 32 := 1#32
  let v76 : BitVec 32 := Scalar.subi v61 c1_i32_32
  let v77 : BitVec 32 := Scalar.select v75 v76 v61
  let v78 : BitVec 32 := Scalar.subi v77 c0_i32_33
  let c1_i32_35 : BitVec 32 := 1#32
  let v80 : BitVec 32 := Scalar.divsi v78 c1_i32_35
  let v81 : BitVec 32 := Scalar.muli v80 c1_i32_35
  let v82 : BitVec 32 := Scalar.addi c0_i32_33 v81
  let c1_i32_37 : BitVec 32 := 1#32
  let arg18 : BitVec 32 := Scf.iv v82 c1_i32_37 k0_t4
  let c128_i32_38 : BitVec 32 := 128#32
  let v85 : BitVec 32 := Scalar.muli arg18 c128_i32_38
  let v86 : BitVec 32 := Scalar.addi v25 v85
  let v87 : BitVec 32 := v86
  let c16_i32_1301 : BitVec 32 := 16#32
  let v5076 : BitVec 32 := Scalar.addi v87 c16_i32_1301
  let v5077 : BitVec 32 := v5076
  let v5078 : Index := Scalar.indexCast v5077
  let c0_i32_348 : BitVec 32 := 0#32
  let c1_i32_350 : BitVec 32 := 1#32
  let arg20 : BitVec 32 := Scf.iv c0_i32_348 c1_i32_350 k0_t6
  let c128_i32_354 : BitVec 32 := 128#32
  let v1003 : BitVec 32 := Scalar.muli arg20 c128_i32_354
  let c512_i32 : BitVec 32 := 512#32
  let v1004 : BitVec 32 := Scalar.addi v1003 c512_i32
  let v1005 : BitVec 32 := v1004
  let v5079 : Index := Scalar.indexCast v1005
  ![v5078.toNat, v5079.toNat]

def k0_chk1 (v3 : BitVec 32) (v5 : BitVec 32) : Prop :=
  (∀ (k0_h2 : k0_cond2 v5 = 1#1), (k0_t1_loop v3 v5).OK) ∧
  (∀ k0_t1 : Fin (k0_t1_loop v3 v5).trips, ∀ (k0_h2 : k0_cond2 v5 = 1#1), 16 ∣ (k0_mult1 v3 v5 k0_t1).toNat) ∧
  (∀ k0_t1 : Fin (k0_t1_loop v3 v5).trips, ∀ (k0_h2 : k0_cond2 v5 = 1#1), ∀ a, (k0_off2 v3 v5 k0_t1) a + S128x1024.size a ≤ S1664x1024.size a) ∧
  (∀ k0_t1 : Fin (k0_t1_loop v3 v5).trips, ∀ (k0_h2 : k0_cond2 v5 = 1#1), ∀ a, (k0_off166 v3 v5 k0_t1) a + S16x2688.size a ≤ S1664x2688.size a) ∧
  (∀ k0_t1 : Fin (k0_t1_loop v3 v5).trips, ∀ (k0_h2 : k0_cond2 v5 = 1#1), ∀ (hinb : ∀ a, (k0_off166 v3 v5 k0_t1) a + S16x2688.size a ≤ S1664x2688.size a), (Rect.unit (s := S1664x2688) (k0_off166 v3 v5 k0_t1) S16x2688.size hinb).PackedRows (EltTy.packing .bf16)) ∧
  (∀ k0_t1 : Fin (k0_t1_loop v3 v5).trips, ∀ (k0_h2 : k0_cond2 v5 = 1#1), 16 ∣ (k0_mult3 v3 v5 k0_t1).toNat) ∧
  (∀ k0_t1 : Fin (k0_t1_loop v3 v5).trips, ∀ (k0_h2 : k0_cond2 v5 = 1#1), ∀ a, (k0_off167 v3 v5 k0_t1) a + S112x2688.size a ≤ S1664x2688.size a) ∧
  (∀ k0_t1 : Fin (k0_t1_loop v3 v5).trips, ∀ (k0_h2 : k0_cond2 v5 = 1#1), ∀ (hinb : ∀ a, (k0_off167 v3 v5 k0_t1) a + S112x2688.size a ≤ S1664x2688.size a), (Rect.unit (s := S1664x2688) (k0_off167 v3 v5 k0_t1) S112x2688.size hinb).PackedRows (EltTy.packing .bf16)) ∧
  (∀ (k0_t1 : Fin (k0_t1_loop v3 v5).trips) (k0_t3 : Fin k0_t3_loop.trips), ∀ (k0_h2 : k0_cond2 v5 = 1#1), ∀ a, (k0_off588 v3 v5 k0_t1 k0_t3) a + S16x128.size a ≤ S1664x1024.size a) ∧
  (∀ k0_t1 : Fin (k0_t1_loop v3 v5).trips, ∀ (k0_h2 : k0_cond2 v5 = 1#1), 16 ∣ (k0_mult6 v3 v5 k0_t1).toNat) ∧
  (∀ (k0_t1 : Fin (k0_t1_loop v3 v5).trips) (k0_t3 : Fin k0_t3_loop.trips), ∀ (k0_h2 : k0_cond2 v5 = 1#1), ∀ a, (k0_off589 v3 v5 k0_t1 k0_t3) a + S112x128.size a ≤ S1664x1024.size a) ∧
  (∀ (k0_t1 : Fin (k0_t1_loop v3 v5).trips) (k0_t3 : Fin k0_t3_loop.trips), ∀ (k0_h2 : k0_cond2 v5 = 1#1), ∀ a, (k0_off590 v3 v5 k0_t1 k0_t3) a + S16x128.size a ≤ S1664x1024.size a) ∧
  (∀ k0_t1 : Fin (k0_t1_loop v3 v5).trips, ∀ (k0_h2 : k0_cond2 v5 = 1#1), 16 ∣ (k0_mult7 v3 v5 k0_t1).toNat) ∧
  (∀ (k0_t1 : Fin (k0_t1_loop v3 v5).trips) (k0_t3 : Fin k0_t3_loop.trips), ∀ (k0_h2 : k0_cond2 v5 = 1#1), ∀ a, (k0_off591 v3 v5 k0_t1 k0_t3) a + S112x128.size a ≤ S1664x1024.size a) ∧
  (∀ (k0_h2 : k0_cond2 v5 = 1#1), (k0_t4_loop v3 v5).OK) ∧
  (∀ k0_t4 : Fin (k0_t4_loop v3 v5).trips, ∀ (k0_h2 : k0_cond2 v5 = 1#1), 16 ∣ (k0_mult8 v3 v5 k0_t4).toNat) ∧
  (∀ k0_t4 : Fin (k0_t4_loop v3 v5).trips, ∀ (k0_h2 : k0_cond2 v5 = 1#1), ∀ a, (k0_off592 v3 v5 k0_t4) a + S128x1024.size a ≤ S1664x1024.size a) ∧
  (∀ k0_t4 : Fin (k0_t4_loop v3 v5).trips, ∀ (k0_h2 : k0_cond2 v5 = 1#1), ∀ a, (k0_off756 v3 v5 k0_t4) a + S16x2688.size a ≤ S1664x2688.size a) ∧
  (∀ k0_t4 : Fin (k0_t4_loop v3 v5).trips, ∀ (k0_h2 : k0_cond2 v5 = 1#1), ∀ (hinb : ∀ a, (k0_off756 v3 v5 k0_t4) a + S16x2688.size a ≤ S1664x2688.size a), (Rect.unit (s := S1664x2688) (k0_off756 v3 v5 k0_t4) S16x2688.size hinb).PackedRows (EltTy.packing .bf16)) ∧
  (∀ k0_t4 : Fin (k0_t4_loop v3 v5).trips, ∀ (k0_h2 : k0_cond2 v5 = 1#1), 16 ∣ (k0_mult10 v3 v5 k0_t4).toNat) ∧
  (∀ k0_t4 : Fin (k0_t4_loop v3 v5).trips, ∀ (k0_h2 : k0_cond2 v5 = 1#1), ∀ a, (k0_off757 v3 v5 k0_t4) a + S112x2688.size a ≤ S1664x2688.size a) ∧
  (∀ k0_t4 : Fin (k0_t4_loop v3 v5).trips, ∀ (k0_h2 : k0_cond2 v5 = 1#1), ∀ (hinb : ∀ a, (k0_off757 v3 v5 k0_t4) a + S112x2688.size a ≤ S1664x2688.size a), (Rect.unit (s := S1664x2688) (k0_off757 v3 v5 k0_t4) S112x2688.size hinb).PackedRows (EltTy.packing .bf16)) ∧
  (∀ (k0_t4 : Fin (k0_t4_loop v3 v5).trips) (k0_t6 : Fin k0_t6_loop.trips), ∀ (k0_h2 : k0_cond2 v5 = 1#1), ∀ a, (k0_off1178 v3 v5 k0_t4 k0_t6) a + S16x128.size a ≤ S1664x1024.size a) ∧
  (∀ k0_t4 : Fin (k0_t4_loop v3 v5).trips, ∀ (k0_h2 : k0_cond2 v5 = 1#1), 16 ∣ (k0_mult13 v3 v5 k0_t4).toNat) ∧
  (∀ (k0_t4 : Fin (k0_t4_loop v3 v5).trips) (k0_t6 : Fin k0_t6_loop.trips), ∀ (k0_h2 : k0_cond2 v5 = 1#1), ∀ a, (k0_off1179 v3 v5 k0_t4 k0_t6) a + S112x128.size a ≤ S1664x1024.size a) ∧
  (∀ (k0_t4 : Fin (k0_t4_loop v3 v5).trips) (k0_t6 : Fin k0_t6_loop.trips), ∀ (k0_h2 : k0_cond2 v5 = 1#1), ∀ a, (k0_off1180 v3 v5 k0_t4 k0_t6) a + S16x128.size a ≤ S1664x1024.size a) ∧
  (∀ k0_t4 : Fin (k0_t4_loop v3 v5).trips, ∀ (k0_h2 : k0_cond2 v5 = 1#1), 16 ∣ (k0_mult14 v3 v5 k0_t4).toNat) ∧
  (∀ (k0_t4 : Fin (k0_t4_loop v3 v5).trips) (k0_t6 : Fin k0_t6_loop.trips), ∀ (k0_h2 : k0_cond2 v5 = 1#1), ∀ a, (k0_off1181 v3 v5 k0_t4 k0_t6) a + S112x128.size a ≤ S1664x1024.size a)
theorem k0_t1_ok : ∀ (v3 : BitVec 32) (v5 : BitVec 32) (k0_hw1 : k0_chk1 v3 v5), ∀ (k0_h2 : k0_cond2 v5 = 1#1), (k0_t1_loop v3 v5).OK := fun v3 v5 k0_hw1 k0_h2 => k0_hw1.1 k0_h2
theorem k0_mult1_dvd : ∀ (v3 : BitVec 32) (v5 : BitVec 32) (k0_hw1 : k0_chk1 v3 v5) (k0_t1 : Fin (k0_t1_loop v3 v5).trips), ∀ (k0_h2 : k0_cond2 v5 = 1#1), 16 ∣ (k0_mult1 v3 v5 k0_t1).toNat := fun v3 v5 k0_hw1 k0_t1 k0_h2 => k0_hw1.2.1 k0_t1 k0_h2
theorem k0_off2_inb : ∀ (v3 : BitVec 32) (v5 : BitVec 32) (k0_hw1 : k0_chk1 v3 v5) (k0_t1 : Fin (k0_t1_loop v3 v5).trips), ∀ (k0_h2 : k0_cond2 v5 = 1#1), ∀ a, (k0_off2 v3 v5 k0_t1) a + S128x1024.size a ≤ S1664x1024.size a := fun v3 v5 k0_hw1 k0_t1 k0_h2 => k0_hw1.2.2.1 k0_t1 k0_h2
theorem k0_off166_inb : ∀ (v3 : BitVec 32) (v5 : BitVec 32) (k0_hw1 : k0_chk1 v3 v5) (k0_t1 : Fin (k0_t1_loop v3 v5).trips), ∀ (k0_h2 : k0_cond2 v5 = 1#1), ∀ a, (k0_off166 v3 v5 k0_t1) a + S16x2688.size a ≤ S1664x2688.size a := fun v3 v5 k0_hw1 k0_t1 k0_h2 => k0_hw1.2.2.2.1 k0_t1 k0_h2
theorem k0_off166_packedbf16 : ∀ (v3 : BitVec 32) (v5 : BitVec 32) (k0_hw1 : k0_chk1 v3 v5) (k0_t1 : Fin (k0_t1_loop v3 v5).trips), ∀ (k0_h2 : k0_cond2 v5 = 1#1), (Rect.unit (s := S1664x2688) (k0_off166 v3 v5 k0_t1) S16x2688.size (k0_off166_inb v3 v5 k0_hw1 k0_t1 k0_h2)).PackedRows (EltTy.packing .bf16) := fun v3 v5 k0_hw1 k0_t1 k0_h2 => k0_hw1.2.2.2.2.1 k0_t1 k0_h2 (k0_off166_inb v3 v5 k0_hw1 k0_t1 k0_h2)
theorem k0_mult3_dvd : ∀ (v3 : BitVec 32) (v5 : BitVec 32) (k0_hw1 : k0_chk1 v3 v5) (k0_t1 : Fin (k0_t1_loop v3 v5).trips), ∀ (k0_h2 : k0_cond2 v5 = 1#1), 16 ∣ (k0_mult3 v3 v5 k0_t1).toNat := fun v3 v5 k0_hw1 k0_t1 k0_h2 => k0_hw1.2.2.2.2.2.1 k0_t1 k0_h2
theorem k0_off167_inb : ∀ (v3 : BitVec 32) (v5 : BitVec 32) (k0_hw1 : k0_chk1 v3 v5) (k0_t1 : Fin (k0_t1_loop v3 v5).trips), ∀ (k0_h2 : k0_cond2 v5 = 1#1), ∀ a, (k0_off167 v3 v5 k0_t1) a + S112x2688.size a ≤ S1664x2688.size a := fun v3 v5 k0_hw1 k0_t1 k0_h2 => k0_hw1.2.2.2.2.2.2.1 k0_t1 k0_h2
theorem k0_off167_packedbf16 : ∀ (v3 : BitVec 32) (v5 : BitVec 32) (k0_hw1 : k0_chk1 v3 v5) (k0_t1 : Fin (k0_t1_loop v3 v5).trips), ∀ (k0_h2 : k0_cond2 v5 = 1#1), (Rect.unit (s := S1664x2688) (k0_off167 v3 v5 k0_t1) S112x2688.size (k0_off167_inb v3 v5 k0_hw1 k0_t1 k0_h2)).PackedRows (EltTy.packing .bf16) := fun v3 v5 k0_hw1 k0_t1 k0_h2 => k0_hw1.2.2.2.2.2.2.2.1 k0_t1 k0_h2 (k0_off167_inb v3 v5 k0_hw1 k0_t1 k0_h2)
theorem k0_off588_inb : ∀ (v3 : BitVec 32) (v5 : BitVec 32) (k0_hw1 : k0_chk1 v3 v5) (k0_t1 : Fin (k0_t1_loop v3 v5).trips) (k0_t3 : Fin k0_t3_loop.trips), ∀ (k0_h2 : k0_cond2 v5 = 1#1), ∀ a, (k0_off588 v3 v5 k0_t1 k0_t3) a + S16x128.size a ≤ S1664x1024.size a := fun v3 v5 k0_hw1 k0_t1 k0_t3 k0_h2 => k0_hw1.2.2.2.2.2.2.2.2.1 k0_t1 k0_t3 k0_h2
theorem k0_mult6_dvd : ∀ (v3 : BitVec 32) (v5 : BitVec 32) (k0_hw1 : k0_chk1 v3 v5) (k0_t1 : Fin (k0_t1_loop v3 v5).trips), ∀ (k0_h2 : k0_cond2 v5 = 1#1), 16 ∣ (k0_mult6 v3 v5 k0_t1).toNat := fun v3 v5 k0_hw1 k0_t1 k0_h2 => k0_hw1.2.2.2.2.2.2.2.2.2.1 k0_t1 k0_h2
theorem k0_off589_inb : ∀ (v3 : BitVec 32) (v5 : BitVec 32) (k0_hw1 : k0_chk1 v3 v5) (k0_t1 : Fin (k0_t1_loop v3 v5).trips) (k0_t3 : Fin k0_t3_loop.trips), ∀ (k0_h2 : k0_cond2 v5 = 1#1), ∀ a, (k0_off589 v3 v5 k0_t1 k0_t3) a + S112x128.size a ≤ S1664x1024.size a := fun v3 v5 k0_hw1 k0_t1 k0_t3 k0_h2 => k0_hw1.2.2.2.2.2.2.2.2.2.2.1 k0_t1 k0_t3 k0_h2
theorem k0_off590_inb : ∀ (v3 : BitVec 32) (v5 : BitVec 32) (k0_hw1 : k0_chk1 v3 v5) (k0_t1 : Fin (k0_t1_loop v3 v5).trips) (k0_t3 : Fin k0_t3_loop.trips), ∀ (k0_h2 : k0_cond2 v5 = 1#1), ∀ a, (k0_off590 v3 v5 k0_t1 k0_t3) a + S16x128.size a ≤ S1664x1024.size a := fun v3 v5 k0_hw1 k0_t1 k0_t3 k0_h2 => k0_hw1.2.2.2.2.2.2.2.2.2.2.2.1 k0_t1 k0_t3 k0_h2
theorem k0_mult7_dvd : ∀ (v3 : BitVec 32) (v5 : BitVec 32) (k0_hw1 : k0_chk1 v3 v5) (k0_t1 : Fin (k0_t1_loop v3 v5).trips), ∀ (k0_h2 : k0_cond2 v5 = 1#1), 16 ∣ (k0_mult7 v3 v5 k0_t1).toNat := fun v3 v5 k0_hw1 k0_t1 k0_h2 => k0_hw1.2.2.2.2.2.2.2.2.2.2.2.2.1 k0_t1 k0_h2
theorem k0_off591_inb : ∀ (v3 : BitVec 32) (v5 : BitVec 32) (k0_hw1 : k0_chk1 v3 v5) (k0_t1 : Fin (k0_t1_loop v3 v5).trips) (k0_t3 : Fin k0_t3_loop.trips), ∀ (k0_h2 : k0_cond2 v5 = 1#1), ∀ a, (k0_off591 v3 v5 k0_t1 k0_t3) a + S112x128.size a ≤ S1664x1024.size a := fun v3 v5 k0_hw1 k0_t1 k0_t3 k0_h2 => k0_hw1.2.2.2.2.2.2.2.2.2.2.2.2.2.1 k0_t1 k0_t3 k0_h2
theorem k0_t4_ok : ∀ (v3 : BitVec 32) (v5 : BitVec 32) (k0_hw1 : k0_chk1 v3 v5), ∀ (k0_h2 : k0_cond2 v5 = 1#1), (k0_t4_loop v3 v5).OK := fun v3 v5 k0_hw1 k0_h2 => k0_hw1.2.2.2.2.2.2.2.2.2.2.2.2.2.2.1 k0_h2
theorem k0_mult8_dvd : ∀ (v3 : BitVec 32) (v5 : BitVec 32) (k0_hw1 : k0_chk1 v3 v5) (k0_t4 : Fin (k0_t4_loop v3 v5).trips), ∀ (k0_h2 : k0_cond2 v5 = 1#1), 16 ∣ (k0_mult8 v3 v5 k0_t4).toNat := fun v3 v5 k0_hw1 k0_t4 k0_h2 => k0_hw1.2.2.2.2.2.2.2.2.2.2.2.2.2.2.2.1 k0_t4 k0_h2
theorem k0_off592_inb : ∀ (v3 : BitVec 32) (v5 : BitVec 32) (k0_hw1 : k0_chk1 v3 v5) (k0_t4 : Fin (k0_t4_loop v3 v5).trips), ∀ (k0_h2 : k0_cond2 v5 = 1#1), ∀ a, (k0_off592 v3 v5 k0_t4) a + S128x1024.size a ≤ S1664x1024.size a := fun v3 v5 k0_hw1 k0_t4 k0_h2 => k0_hw1.2.2.2.2.2.2.2.2.2.2.2.2.2.2.2.2.1 k0_t4 k0_h2
theorem k0_off756_inb : ∀ (v3 : BitVec 32) (v5 : BitVec 32) (k0_hw1 : k0_chk1 v3 v5) (k0_t4 : Fin (k0_t4_loop v3 v5).trips), ∀ (k0_h2 : k0_cond2 v5 = 1#1), ∀ a, (k0_off756 v3 v5 k0_t4) a + S16x2688.size a ≤ S1664x2688.size a := fun v3 v5 k0_hw1 k0_t4 k0_h2 => k0_hw1.2.2.2.2.2.2.2.2.2.2.2.2.2.2.2.2.2.1 k0_t4 k0_h2
theorem k0_off756_packedbf16 : ∀ (v3 : BitVec 32) (v5 : BitVec 32) (k0_hw1 : k0_chk1 v3 v5) (k0_t4 : Fin (k0_t4_loop v3 v5).trips), ∀ (k0_h2 : k0_cond2 v5 = 1#1), (Rect.unit (s := S1664x2688) (k0_off756 v3 v5 k0_t4) S16x2688.size (k0_off756_inb v3 v5 k0_hw1 k0_t4 k0_h2)).PackedRows (EltTy.packing .bf16) := fun v3 v5 k0_hw1 k0_t4 k0_h2 => k0_hw1.2.2.2.2.2.2.2.2.2.2.2.2.2.2.2.2.2.2.1 k0_t4 k0_h2 (k0_off756_inb v3 v5 k0_hw1 k0_t4 k0_h2)
theorem k0_mult10_dvd : ∀ (v3 : BitVec 32) (v5 : BitVec 32) (k0_hw1 : k0_chk1 v3 v5) (k0_t4 : Fin (k0_t4_loop v3 v5).trips), ∀ (k0_h2 : k0_cond2 v5 = 1#1), 16 ∣ (k0_mult10 v3 v5 k0_t4).toNat := fun v3 v5 k0_hw1 k0_t4 k0_h2 => k0_hw1.2.2.2.2.2.2.2.2.2.2.2.2.2.2.2.2.2.2.2.1 k0_t4 k0_h2
theorem k0_off757_inb : ∀ (v3 : BitVec 32) (v5 : BitVec 32) (k0_hw1 : k0_chk1 v3 v5) (k0_t4 : Fin (k0_t4_loop v3 v5).trips), ∀ (k0_h2 : k0_cond2 v5 = 1#1), ∀ a, (k0_off757 v3 v5 k0_t4) a + S112x2688.size a ≤ S1664x2688.size a := fun v3 v5 k0_hw1 k0_t4 k0_h2 => k0_hw1.2.2.2.2.2.2.2.2.2.2.2.2.2.2.2.2.2.2.2.2.1 k0_t4 k0_h2
theorem k0_off757_packedbf16 : ∀ (v3 : BitVec 32) (v5 : BitVec 32) (k0_hw1 : k0_chk1 v3 v5) (k0_t4 : Fin (k0_t4_loop v3 v5).trips), ∀ (k0_h2 : k0_cond2 v5 = 1#1), (Rect.unit (s := S1664x2688) (k0_off757 v3 v5 k0_t4) S112x2688.size (k0_off757_inb v3 v5 k0_hw1 k0_t4 k0_h2)).PackedRows (EltTy.packing .bf16) := fun v3 v5 k0_hw1 k0_t4 k0_h2 => k0_hw1.2.2.2.2.2.2.2.2.2.2.2.2.2.2.2.2.2.2.2.2.2.1 k0_t4 k0_h2 (k0_off757_inb v3 v5 k0_hw1 k0_t4 k0_h2)
theorem k0_off1178_inb : ∀ (v3 : BitVec 32) (v5 : BitVec 32) (k0_hw1 : k0_chk1 v3 v5) (k0_t4 : Fin (k0_t4_loop v3 v5).trips) (k0_t6 : Fin k0_t6_loop.trips), ∀ (k0_h2 : k0_cond2 v5 = 1#1), ∀ a, (k0_off1178 v3 v5 k0_t4 k0_t6) a + S16x128.size a ≤ S1664x1024.size a := fun v3 v5 k0_hw1 k0_t4 k0_t6 k0_h2 => k0_hw1.2.2.2.2.2.2.2.2.2.2.2.2.2.2.2.2.2.2.2.2.2.2.1 k0_t4 k0_t6 k0_h2
theorem k0_mult13_dvd : ∀ (v3 : BitVec 32) (v5 : BitVec 32) (k0_hw1 : k0_chk1 v3 v5) (k0_t4 : Fin (k0_t4_loop v3 v5).trips), ∀ (k0_h2 : k0_cond2 v5 = 1#1), 16 ∣ (k0_mult13 v3 v5 k0_t4).toNat := fun v3 v5 k0_hw1 k0_t4 k0_h2 => k0_hw1.2.2.2.2.2.2.2.2.2.2.2.2.2.2.2.2.2.2.2.2.2.2.2.1 k0_t4 k0_h2
theorem k0_off1179_inb : ∀ (v3 : BitVec 32) (v5 : BitVec 32) (k0_hw1 : k0_chk1 v3 v5) (k0_t4 : Fin (k0_t4_loop v3 v5).trips) (k0_t6 : Fin k0_t6_loop.trips), ∀ (k0_h2 : k0_cond2 v5 = 1#1), ∀ a, (k0_off1179 v3 v5 k0_t4 k0_t6) a + S112x128.size a ≤ S1664x1024.size a := fun v3 v5 k0_hw1 k0_t4 k0_t6 k0_h2 => k0_hw1.2.2.2.2.2.2.2.2.2.2.2.2.2.2.2.2.2.2.2.2.2.2.2.2.1 k0_t4 k0_t6 k0_h2
theorem k0_off1180_inb : ∀ (v3 : BitVec 32) (v5 : BitVec 32) (k0_hw1 : k0_chk1 v3 v5) (k0_t4 : Fin (k0_t4_loop v3 v5).trips) (k0_t6 : Fin k0_t6_loop.trips), ∀ (k0_h2 : k0_cond2 v5 = 1#1), ∀ a, (k0_off1180 v3 v5 k0_t4 k0_t6) a + S16x128.size a ≤ S1664x1024.size a := fun v3 v5 k0_hw1 k0_t4 k0_t6 k0_h2 => k0_hw1.2.2.2.2.2.2.2.2.2.2.2.2.2.2.2.2.2.2.2.2.2.2.2.2.2.1 k0_t4 k0_t6 k0_h2
theorem k0_mult14_dvd : ∀ (v3 : BitVec 32) (v5 : BitVec 32) (k0_hw1 : k0_chk1 v3 v5) (k0_t4 : Fin (k0_t4_loop v3 v5).trips), ∀ (k0_h2 : k0_cond2 v5 = 1#1), 16 ∣ (k0_mult14 v3 v5 k0_t4).toNat := fun v3 v5 k0_hw1 k0_t4 k0_h2 => k0_hw1.2.2.2.2.2.2.2.2.2.2.2.2.2.2.2.2.2.2.2.2.2.2.2.2.2.2.1 k0_t4 k0_h2
theorem k0_off1181_inb : ∀ (v3 : BitVec 32) (v5 : BitVec 32) (k0_hw1 : k0_chk1 v3 v5) (k0_t4 : Fin (k0_t4_loop v3 v5).trips) (k0_t6 : Fin k0_t6_loop.trips), ∀ (k0_h2 : k0_cond2 v5 = 1#1), ∀ a, (k0_off1181 v3 v5 k0_t4 k0_t6) a + S112x128.size a ≤ S1664x1024.size a := fun v3 v5 k0_hw1 k0_t4 k0_t6 k0_h2 => k0_hw1.2.2.2.2.2.2.2.2.2.2.2.2.2.2.2.2.2.2.2.2.2.2.2.2.2.2.2 k0_t4 k0_t6 k0_h2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1664x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x1344 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2688 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2688x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x168x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1664x2688 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1664x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Proof.SharedBody.lean ====
/-
  What the body of the `shared_mlp` kernel leaves in its two output blocks, at each of the three kinds of grid point.
-/
module

public import proofs.«01_k».proof.Proof.Gen.SharedIdeal.Value
public import Idealize.ShloMosaic.Lib.Pipeline.Value
public import Idealize.ShloMosaic.Lib.MatmulPlain
public import Idealize.ShloMosaic.Lib.ValueIdx
public import Idealize.ShloMosaic.Lib.Tactic

@[expose] public section

noncomputable section

namespace Cert.SharedIdeal.Value

open Cert.SharedIdeal Cert.SharedIdeal.Gen Idealize.ShloMosaic Idealize.ShloMosaic.TcCoe Idealize.SL.Sem
open Idealize.ShloMosaic.ValueIdx
open Idealize.ShloMosaic.Pipeline (Dat)

variable {F : FTy → Type} [FloatOps F]

theorem hz : (![0, 0] : Fin 2 → Nat) = fun _ => 0 := funext fun a => by fin_cases a <;> rfl

/-- A one-word load of the four scalars reads the word at its offset. -/
theorem ld_word (x : Vec F S4 .f32) (k : ℕ) (hk : k < 4) (h : ∀ a : Fin 1, (![k] : Fin 1 → ℕ) a + S1.size a ≤ S4.size a)
    (y : (Rect.unit (s := S4) ![k] S1.size h).shape.Idx) : View.ld x (Rect.unit (s := S4) ![k] S1.size h) y = x (ix1 ⟨k, hk⟩) := by
  have hy : (y 0).val < 1 := (y 0).isLt
  show x _ = x _
  congr 1
  funext a
  apply Fin.ext
  match a with
  | ⟨0, _⟩ => show k + 1 * (y 0).val = k; omega

section Cases
variable (c : Dev nD) (i : grid0.Coords) (arg1 : Memref sig .tc .smem S4 .f32) (harg1 : arg1.IsWhole) (arg2 : Memref sig .tc .vmem S256x4096 .fp8e4m3) (harg2 : arg2.IsWhole) (arg3 : Memref sig .tc .vmem S4096x768 .fp8e4m3) (harg3 : arg3.IsWhole) (arg4 : Memref sig .tc .vmem S768x4096 .fp8e4m3) (harg4 : arg4.IsWhole) (arg5 : Memref sig .tc .vmem S256x768 .fp8e4m3) (harg5 : arg5.IsWhole) (arg6 : Memref sig .tc .vmem S256x4096 .f32) (harg6 : arg6.IsWhole)
  (x0 : Vec F S4 .f32) (x1 : Vec F S256x4096 .fp8e4m3) (x2 : Vec F S4096x768 .fp8e4m3) (x3 : Vec F S768x4096 .fp8e4m3) (xo5 : Vec F S256x4096 .f32)

/-- At the first point the codes block is the tile's quantised activations. -/
theorem out_A4 (hc0 : cond0_0 i) (hc1 : ¬cond0_1 i) (hc2 : ¬cond0_2 i) :
    out0_A_4 c i arg1 harg1 arg2 harg2 arg3 harg3 arg4 harg4 arg5 harg5 arg6 harg6 hc0 hc1 hc2 x0 x1 x2 x3
      = k0_pay2 (x0 (ix1 0)) (x0 (ix1 1)) (x0 (ix1 2)) x1 x2 := by
  unfold out0_A_4
  rw [View.read_writes_eq_canon _ _ _ (cover0_A_4 c i arg1 harg1 arg2 harg2 arg3 harg3 arg4 harg4 arg5 harg5 arg6 harg6 hc0 hc1 hc2 x0 x1 x2 x3)]
  unfold kernelRun0_A
  dsimp only
  sl_unfold_words
  rw [View.canon_unit_zero hz]
  simp only [View.readAt_eq_ld, harg1.read_unread, harg2.read_unread, harg3.read_unread, harg4.read_unread, harg6.read_unread, View.ld_unit_zero (S := S256x4096) hz, View.ld_unit_zero (S := S4096x768) hz, View.ld_unit_zero (S := S768x4096) hz]
  rw [ld_word x0 0 (by decide), ld_word x0 1 (by decide), ld_word x0 2 (by decide)]
  rfl

/-- At the first point the output block is the tile's partial product. -/
theorem out_A5 (hc0 : cond0_0 i) (hc1 : ¬cond0_1 i) (hc2 : ¬cond0_2 i) :
    out0_A_5 c i arg1 harg1 arg2 harg2 arg3 harg3 arg4 harg4 arg5 harg5 arg6 harg6 hc0 hc1 hc2 x0 x1 x2 x3
      = k0_pay3 (k0_pay2 (x0 (ix1 0)) (x0 (ix1 1)) (x0 (ix1 2)) x1 x2) x3 := by
  unfold out0_A_5
  rw [View.read_writes_eq_canon _ _ _ (cover0_A_5 c i arg1 harg1 arg2 harg2 arg3 harg3 arg4 harg4 arg5 harg5 arg6 harg6 hc0 hc1 hc2 x0 x1 x2 x3)]
  unfold kernelRun0_A
  dsimp only
  sl_unfold_words
  rw [View.canon_unit_zero hz, View.readCov_unit_zero _ hz]
  simp only [View.readAt_eq_ld, harg1.read_unread, harg2.read_unread, harg3.read_unread, harg4.read_unread, harg6.read_unread, View.ld_unit_zero (S := S256x4096) hz, View.ld_unit_zero (S := S4096x768) hz, View.ld_unit_zero (S := S768x4096) hz]
  rw [ld_word x0 0 (by decide), ld_word x0 1 (by decide), ld_word x0 2 (by decide)]
  rfl

/-- At the middle point the codes block is the tile's quantised activations. -/
theorem out_B4 (hc0 : ¬cond0_0 i) (hc1 : cond0_1 i) (hc2 : ¬cond0_2 i) :
    out0_B_4 c i arg1 harg1 arg2 harg2 arg3 harg3 arg4 harg4 arg5 harg5 arg6 harg6 hc0 hc1 hc2 x0 x1 x2 x3 xo5
      = k0_pay2 (x0 (ix1 0)) (x0 (ix1 1)) (x0 (ix1 2)) x1 x2 := by
  unfold out0_B_4
  rw [View.read_writes_eq_canon _ _ _ (cover0_B_4 c i arg1 harg1 arg2 harg2 arg3 harg3 arg4 harg4 arg5 harg5 arg6 harg6 hc0 hc1 hc2 x0 x1 x2 x3 xo5)]
  unfold kernelRun0_B
  dsimp only
  sl_unfold_words
  rw [View.canon_unit_zero hz]
  simp only [View.readAt_eq_ld, harg1.read_unread, harg2.read_unread, harg3.read_unread, harg4.read_unread, harg6.read_unread, View.ld_unit_zero (S := S256x4096) hz, View.ld_unit_zero (S := S4096x768) hz, View.ld_unit_zero (S := S768x4096) hz]
  rw [ld_word x0 0 (by decide), ld_word x0 1 (by decide), ld_word x0 2 (by decide)]
  rfl

/-- At the middle point the output block is the running sum plus the tile's partial product. -/
theorem out_B5 (hc0 : ¬cond0_0 i) (hc1 : cond0_1 i) (hc2 : ¬cond0_2 i) :
    out0_B_5 c i arg1 harg1 arg2 harg2 arg3 harg3 arg4 harg4 arg5 harg5 arg6 harg6 hc0 hc1 hc2 x0 x1 x2 x3 xo5
      = k0_pay4 (k0_pay2 (x0 (ix1 0)) (x0 (ix1 1)) (x0 (ix1 2)) x1 x2) x3 xo5 := by
  unfold out0_B_5
  rw [View.read_writes_eq_canon _ _ _ (cover0_B_5 c i arg1 harg1 arg2 harg2 arg3 harg3 arg4 harg4 arg5 harg5 arg6 harg6 hc0 hc1 hc2 x0 x1 x2 x3 xo5)]
  unfold kernelRun0_B
  dsimp only
  sl_unfold_words
  rw [View.canon_unit_zero hz, View.readCov_unit_zero _ hz]
  simp only [View.readAt_eq_ld, harg1.read_unread, harg2.read_unread, harg3.read_unread, harg4.read_unread, harg6.read_unread, View.ld_unit_zero (S := S256x4096) hz, View.ld_unit_zero (S := S4096x768) hz, View.ld_unit_zero (S := S768x4096) hz]
  rw [ld_word x0 0 (by decide), ld_word x0 1 (by decide), ld_word x0 2 (by decide)]
  rfl

/-- At the last point the codes block is the tile's quantised activations. -/
theorem out_C4 (hc0 : ¬cond0_0 i) (hc1 : cond0_1 i) (hc2 : cond0_2 i) :
    out0_C_4 c i arg1 harg1 arg2 harg2 arg3 harg3 arg4 harg4 arg5 harg5 arg6 harg6 hc0 hc1 hc2 x0 x1 x2 x3 xo5
      = k0_pay2 (x0 (ix1 0)) (x0 (ix1 1)) (x0 (ix1 2)) x1 x2 := by
  unfold out0_C_4
  rw [View.read_writes_eq_canon _ _ _ (cover0_C_4 c i arg1 harg1 arg2 harg2 arg3 harg3 arg4 harg4 arg5 harg5 arg6 harg6 hc0 hc1 hc2 x0 x1 x2 x3 xo5)]
  unfold kernelRun0_C
  dsimp only
  sl_unfold_words
  rw [View.canon_unit_zero hz]
  simp only [View.readAt_eq_ld, harg1.read_unread, harg2.read_unread, harg3.read_unread, harg4.read_unread, harg6.read_unread, View.ld_unit_zero (S := S256x4096) hz, View.ld_unit_zero (S := S4096x768) hz, View.ld_unit_zero (S := S768x4096) hz]
  rw [ld_word x0 0 (by decide), ld_word x0 1 (by decide), ld_word x0 2 (by decide)]
  rfl

/-- At the last point the output block is the finished sum times the product of the two scales. -/
theorem out_C5 (hc0 : ¬cond0_0 i) (hc1 : cond0_1 i) (hc2 : cond0_2 i) :
    out0_C_5 c i arg1 harg1 arg2 harg2 arg3 harg3 arg4 harg4 arg5 harg5 arg6 harg6 hc0 hc1 hc2 x0 x1 x2 x3 xo5
      = k0_pay1 (x0 (ix1 2)) (x0 (ix1 3)) (k0_pay4 (k0_pay2 (x0 (ix1 0)) (x0 (ix1 1)) (x0 (ix1 2)) x1 x2) x3 xo5) := by
  unfold out0_C_5
  rw [View.read_writes_eq_canon _ _ _ (cover0_C_5 c i arg1 harg1 arg2 harg2 arg3 harg3 arg4 harg4 arg5 harg5 arg6 harg6 hc0 hc1 hc2 x0 x1 x2 x3 xo5)]
  unfold kernelRun0_C
  dsimp only
  sl_unfold_words
  rw [View.canon_cons_unit_zero hz, View.readCov_unit_zero _ hz, View.readCov_unit_zero _ hz]
  simp only [View.readAt_eq_ld, harg1.read_unread, harg2.read_unread, harg3.read_unread, harg4.read_unread, harg6.read_unread, View.ld_unit_zero (S := S256x4096) hz, View.ld_unit_zero (S := S4096x768) hz, View.ld_unit_zero (S := S768x4096) hz]
  rw [ld_word x0 0 (by decide), ld_word x0 1 (by decide), ld_word x0 2 (by decide), ld_word x0 3 (by decide)]
  rfl

end Cases

end Cert.SharedIdeal.Value

end
-- ==== Proof.SharedMath.lean ====
/-
  The mathematics of the shared expert over the extended reals, element by element: the product of the activations'
  codes with the first weight, its rectified square, that quantised, and the product of the codes with the second
  weight times the two scales. Both the kernel and the reference are read as these functions.
-/
module

public import Idealize.ShloMosaic.Lib.ValueIdx
public import Idealize.ShloMosaic.Lib.MatmulPlain
public import Idealize.ShloMosaic.Lib.Tactic

@[expose] public section

noncomputable section

namespace Cert.SharedMath

open Idealize.ShloMosaic Idealize.ShloMosaic.ValueIdx
open scoped BigOperators

/-- One quantised activation: the product `p` scaled by `a · b`, rectified, squared, divided by `s` and clipped to ±448. -/
def act (a b s p : EReal) : EReal :=
  min (Ideal.ofBits .f32 0x43E00000#32) (max (Ideal.ofBits .f32 0xC3E00000#32)
    (Ideal.div (max (p * (a * b)) 0 * max (p * (a * b)) 0) s))

/-- The product of row `r` of the codes `X` with column `j` of the first weight. -/
def pre (X : FVec Ideal ⟨2, ![256, 4096]⟩ .fp8e4m3) (W1 : FVec Ideal ⟨2, ![4096, 5376]⟩ .fp8e4m3) (r : Fin 256) (j : Fin 5376) : EReal :=
  ∑ k : Fin 4096, X (ix2 r k) * W1 (ix2 k j)

/-- The quantised activations. -/
def codes (S : FVec Ideal ⟨1, ![4]⟩ .f32) (X : FVec Ideal ⟨2, ![256, 4096]⟩ .fp8e4m3) (W1 : FVec Ideal ⟨2, ![4096, 5376]⟩ .fp8e4m3)
    (r : Fin 256) (j : Fin 5376) : EReal :=
  act (S (ix1 0)) (S (ix1 1)) (S (ix1 2)) (pre X W1 r j)

/-- The term `k` of the second product, as a function of a natural number (zero past the end). -/
def term (S : FVec Ideal ⟨1, ![4]⟩ .f32) (X : FVec Ideal ⟨2, ![256, 4096]⟩ .fp8e4m3) (W1 : FVec Ideal ⟨2, ![4096, 5376]⟩ .fp8e4m3)
    (W2 : FVec Ideal ⟨2, ![5376, 4096]⟩ .fp8e4m3) (r : Fin 256) (j : Fin 4096) (k : ℕ) : EReal :=
  if h : k < 5376 then codes S X W1 r ⟨k, h⟩ * W2 (ix2 ⟨k, h⟩ j) else 0

/-- The shared expert's output. -/
def out (S : FVec Ideal ⟨1, ![4]⟩ .f32) (X : FVec Ideal ⟨2, ![256, 4096]⟩ .fp8e4m3) (W1 : FVec Ideal ⟨2, ![4096, 5376]⟩ .fp8e4m3)
    (W2 : FVec Ideal ⟨2, ![5376, 4096]⟩ .fp8e4m3) (r : Fin 256) (j : Fin 4096) : EReal :=
  (∑ k : Fin 5376, codes S X W1 r k * W2 (ix2 k j)) * (S (ix1 2) * S (ix1 3))

/-- The whole second product is the sum of its terms over the first 5376 natural numbers. -/
theorem sum_term (S : FVec Ideal ⟨1, ![4]⟩ .f32) (X : FVec Ideal ⟨2, ![256, 4096]⟩ .fp8e4m3) (W1 : FVec Ideal ⟨2, ![4096, 5376]⟩ .fp8e4m3)
    (W2 : FVec Ideal ⟨2, ![5376, 4096]⟩ .fp8e4m3) (r : Fin 256) (j : Fin 4096) :
    ∑ k ∈ Finset.range 5376, term S X W1 W2 r j k = ∑ k : Fin 5376, codes S X W1 r k * W2 (ix2 k j) := by
  rw [Finset.sum_range]
  exact Finset.sum_congr rfl fun k _ => dif_pos k.isLt

end Cert.SharedMath

end
-- ==== Proof.SharedValue.lean ====
/-
  The two result arrays of the `shared_mlp` kernel over the extended reals: the codes array is the quantised
  activations column tile by column tile, and the output array is the running sum over the seven tiles, scaled at the
  last one — which is the whole product.
-/
module

public import proofs.«01_k».proof.Proof.SharedBody
public import proofs.«01_k».proof.Proof.SharedMath

@[expose] public section

noncomputable section

namespace Cert.SharedIdeal.Value

open Cert.SharedIdeal Cert.SharedIdeal.Gen Cert.SharedMath Idealize.ShloMosaic Idealize.ShloMosaic.TcCoe Idealize.SL.Sem
open Idealize.ShloMosaic.ValueIdx
open Idealize.ShloMosaic.Pipeline (Dat)
open scoped BigOperators

/-! ## The payloads at an index -/

/-- A tile's codes, element by element. -/
theorem pay2_apply (v0 v1 v2 : Elt Ideal .f32) (v4 : Vec Ideal S256x4096 .fp8e4m3) (v5 : Vec Ideal S4096x768 .fp8e4m3) (r : Fin 256) (j : Fin 768) :
    k0_pay2 (F := Ideal) v0 v1 v2 v4 v5 (ix2 r j) = act v0 v1 v2 (∑ k : Fin 4096, v4 (ix2 r k) * v5 (ix2 k j)) := by
  have h := Ideal.matmul_plain_apply (φ₁ := .fp8e4m3) (φ₂ := .fp8e4m3) none v4 v5 (constant S256x768 .f32 0x00000000#32) r j
  rw [constant_apply, Ideal.ofBits_zero_f32, zero_add] at h
  unfold act
  rw [← h, ← Ideal.ofBits_zero_f32]
  rfl

/-- A tile's partial product, element by element. -/
theorem pay3_apply (v21 : Vec Ideal S256x768 .fp8e4m3) (v23 : Vec Ideal S768x4096 .fp8e4m3) (r : Fin 256) (j : Fin 4096) :
    k0_pay3 (F := Ideal) v21 v23 (ix2 r j) = ∑ k : Fin 768, v21 (ix2 r k) * v23 (ix2 k j) := by
  have h := Ideal.matmul_plain_apply (φ₁ := .fp8e4m3) (φ₂ := .fp8e4m3) none v21 v23 (constant S256x4096 .f32 0x00000000#32) r j
  rw [constant_apply, Ideal.ofBits_zero_f32, zero_add] at h
  rw [← h]
  unfold k0_pay3
  rw [shapeCast_self]
  rfl

/-- The running sum with a tile's partial product added. -/
theorem pay4_apply (v21 : Vec Ideal S256x768 .fp8e4m3) (v23 : Vec Ideal S768x4096 .fp8e4m3) (v34 : Vec Ideal S256x4096 .f32) (r : Fin 256) (j : Fin 4096) :
    k0_pay4 (F := Ideal) v21 v23 v34 (ix2 r j) = v34 (ix2 r j) + ∑ k : Fin 768, v21 (ix2 r k) * v23 (ix2 k j) := by
  rw [← pay3_apply]
  unfold k0_pay4
  rw [shapeCast_self]
  rfl

/-- The scaling at the last point. -/
theorem pay1_apply (v2 v3 : Elt Ideal .f32) (v34 : Vec Ideal S256x4096 .f32) (r : Fin 256) (j : Fin 4096) :
    k0_pay1 (F := Ideal) v2 v3 v34 (ix2 r j) = v34 (ix2 r j) * (v2 * v3) := by
  unfold k0_pay1
  rw [shapeCast_self]
  rfl

/-! ## The blocks the points read -/

variable (m : (ℓ : Loc nD τ sig) → Buf (Elt Ideal) ℓ) (ρ : Dev nD → PrngReg)

/-- The four scalars. -/
abbrev aS (c : Dev nD) : FVec Ideal S4 .f32 := m ((c : Thread nD τ).loc main_arg0)
/-- The activations' codes. -/
abbrev aX (c : Dev nD) : FVec Ideal S256x4096 .fp8e4m3 := m ((c : Thread nD τ).loc main_arg1)
/-- The first weight's codes. -/
abbrev aW1 (c : Dev nD) : FVec Ideal S4096x5376 .fp8e4m3 := m ((c : Thread nD τ).loc main_arg2)
/-- The second weight's codes. -/
abbrev aW2 (c : Dev nD) : FVec Ideal S5376x4096 .fp8e4m3 := m ((c : Thread nD τ).loc main_arg3)

/-- Where each window's block sits at point `t`. -/
theorem idx_facts : ∀ t : Fin grid0.N, win0_0.index t 0 = 0 ∧ win0_1.index t 0 = 0 ∧ win0_1.index t 1 = 0
    ∧ win0_2.index t 0 = 0 ∧ win0_2.index t 1 = t.val ∧ win0_3.index t 0 = t.val ∧ win0_3.index t 1 = 0
    ∧ win0_4.index t 0 = 0 ∧ win0_4.index t 1 = t.val ∧ win0_5.index t 0 = 0 ∧ win0_5.index t 1 = 0 := by decide +kernel

theorem lt7 (t : Fin cfg0.N) : t.val < 7 := lt_of_lt_of_eq t.isLt (show cfg0.N = 7 from N_0)

theorem iblk0_apply (c : Dev nD) (t : Fin cfg0.N) (k : Fin 4) : (iblk m c 0 t : FVec Ideal S4 .f32) (ix1 k) = aS m c (ix1 k) := by
  have hi := idx_facts t
  unfold iblk
  rw [View.read_apply]
  show V m c main_arg0 _ = _
  unfold V
  congr 1
  funext a
  apply Fin.ext
  match a with
  | ⟨0, _⟩ => show win0_0.index t 0 * 4 + 1 * k.val = k.val; rw [hi.1]; omega

theorem iblk1_apply (c : Dev nD) (t : Fin cfg0.N) (r : Fin 256) (k : Fin 4096) :
    (iblk m c 1 t : FVec Ideal S256x4096 .fp8e4m3) (ix2 r k) = aX m c (ix2 r k) := by
  have hi := idx_facts t
  unfold iblk
  rw [View.read_apply]
  show V m c main_arg1 _ = _
  unfold V
  congr 1
  funext a
  apply Fin.ext
  match a with
  | ⟨0, _⟩ => show win0_1.index t 0 * 256 + 1 * r.val = r.val; rw [hi.2.1]; omega
  | ⟨1, _⟩ => show win0_1.index t 1 * 4096 + 1 * k.val = k.val; rw [hi.2.2.1]; omega

/-- Tile `t` of the first weight holds its columns from `768 t`. -/
theorem iblk2_apply (c : Dev nD) (t : Fin cfg0.N) (k : Fin 4096) (j : Fin 768) :
    (iblk m c 2 t : FVec Ideal S4096x768 .fp8e4m3) (ix2 k j) = aW1 m c (ix2 k ⟨768 * t.val + j.val, by have := lt7 t; have := j.isLt; omega⟩) := by
  have hi := idx_facts t
  unfold iblk
  rw [View.read_apply]
  show V m c main_arg2 _ = _
  unfold V
  congr 1
  funext a
  apply Fin.ext
  match a with
  | ⟨0, _⟩ => show win0_2.index t 0 * 4096 + 1 * k.val = k.val; rw [hi.2.2.2.1]; omega
  | ⟨1, _⟩ => show win0_2.index t 1 * 768 + 1 * j.val = 768 * t.val + j.val; rw [hi.2.2.2.2.1]; omega

/-- Tile `t` of the second weight holds its rows from `768 t`. -/
theorem iblk3_apply (c : Dev nD) (t : Fin cfg0.N) (k : Fin 768) (j : Fin 4096) :
    (iblk m c 3 t : FVec Ideal S768x4096 .fp8e4m3) (ix2 k j) = aW2 m c (ix2 ⟨768 * t.val + k.val, by have := lt7 t; have := k.isLt; omega⟩ j) := by
  have hi := idx_facts t
  unfold iblk
  rw [View.read_apply]
  show V m c main_arg3 _ = _
  unfold V
  congr 1
  funext a
  apply Fin.ext
  match a with
  | ⟨0, _⟩ => show win0_3.index t 0 * 768 + 1 * k.val = 768 * t.val + k.val; rw [hi.2.2.2.2.2.1]; omega
  | ⟨1, _⟩ => show win0_3.index t 1 * 4096 + 1 * j.val = j.val; rw [hi.2.2.2.2.2.2.1]; omega

/-- The codes tile of point `t`. -/
abbrev tile (c : Dev nD) (t : Fin cfg0.N) : FVec Ideal S256x768 .fp8e4m3 :=
  k0_pay2 (F := Ideal) ((iblk m c 0 t : FVec Ideal S4 .f32) (ix1 0)) ((iblk m c 0 t : FVec Ideal S4 .f32) (ix1 1)) ((iblk m c 0 t : FVec Ideal S4 .f32) (ix1 2)) (iblk m c 1 t) (iblk m c 2 t)

theorem tile_apply (c : Dev nD) (t : Fin cfg0.N) (r : Fin 256) (j : Fin 768) :
    tile m c t (ix2 r j) = codes (aS m c) (aX m c) (aW1 m c) r ⟨768 * t.val + j.val, by have := lt7 t; have := j.isLt; omega⟩ := by
  unfold tile
  rw [pay2_apply, iblk0_apply, iblk0_apply, iblk0_apply]
  unfold codes pre
  congr 1
  exact Finset.sum_congr rfl fun k _ => by rw [iblk1_apply, iblk2_apply]

/-- A tile's partial product is the next 768 terms of the whole product. -/
theorem part_apply (c : Dev nD) (t : Fin cfg0.N) (r : Fin 256) (j : Fin 4096) :
    ∑ k : Fin 768, tile m c t (ix2 r k) * (iblk m c 3 t : FVec Ideal S768x4096 .fp8e4m3) (ix2 k j)
      = ∑ k ∈ Finset.range 768, term (aS m c) (aX m c) (aW1 m c) (aW2 m c) r j (768 * t.val + k) := by
  rw [Finset.sum_range]
  refine Finset.sum_congr rfl fun k _ => ?_
  have h : 768 * t.val + k.val < 5376 := by have := lt7 t; have := k.isLt; omega
  rw [tile_apply, iblk3_apply, term, dif_pos h]

/-! ## What the body leaves after each point -/

theorem after_codes (c : Dev nD) (t : Fin cfg0.N) : (outsAt0 m c t.val t.isLt).1 = tile m c t := by
  have h7 := lt7 t
  by_cases h0 : t.val % 7 = 0
  · have h1 : ¬1 ≤ t.val := by omega
    have h2 : ¬t.val % 7 = 6 := by omega
    rw [outsAt0_A m c t h0 h1 h2]
    dsimp only
    rw [out_A4]
  · have h1 : 1 ≤ t.val := by omega
    by_cases h2 : t.val % 7 = 6
    · rw [outsAt0_C m c t h0 h1 h2]
      dsimp only
      rw [out_C4]
    · rw [outsAt0_B m c t h0 h1 h2]
      dsimp only
      rw [out_B4]

/-- Before the last point the output block holds the sum of the terms of the tiles so far. -/
theorem after_sum (c : Dev nD) (r : Fin 256) (j : Fin 4096) : ∀ (n : ℕ) (h : n < cfg0.N), n < 6 →
    (outsAt0 m c n h).2 (ix2 r j) = ∑ k ∈ Finset.range (768 * (n + 1)), term (aS m c) (aX m c) (aW1 m c) (aW2 m c) r j k
  | 0, h, _ => by
    have e := outsAt0_A m c ⟨0, h⟩ rfl (Nat.not_succ_le_zero 0) (show ¬0 % 7 = 6 by decide)
    rw [show outsAt0 m c 0 h = _ from e]
    dsimp only
    rw [out_A5, pay3_apply, part_apply]
    simp
  | n + 1, h, h6 => by
    have h0 : ¬(⟨n + 1, h⟩ : Fin cfg0.N).val % 7 = 0 := by dsimp only; omega
    have h1 : 1 ≤ (⟨n + 1, h⟩ : Fin cfg0.N).val := by dsimp only; omega
    have h2 : ¬(⟨n + 1, h⟩ : Fin cfg0.N).val % 7 = 6 := by dsimp only; omega
    have e := outsAt0_B m c ⟨n + 1, h⟩ h0 h1 h2
    rw [show outsAt0 m c (n + 1) h = _ from e]
    dsimp only
    rw [out_B5, pay4_apply, part_apply, show 768 * (n + 1 + 1) = 768 * (n + 1) + 768 by ring, Finset.sum_range_add]
    congr 1
    exact after_sum c r j n _ (by omega)

/-- At the last point it holds the finished output. -/
theorem after_last (c : Dev nD) (t : Fin cfg0.N) (ht : t.val % 7 = 6) (r : Fin 256) (j : Fin 4096) :
    (outsAt0 m c t.val t.isLt).2 (ix2 r j) = out (aS m c) (aX m c) (aW1 m c) (aW2 m c) r j := by
  have h7 := lt7 t
  have h6 : t.val = 6 := by omega
  have h0 : ¬t.val % 7 = 0 := by omega
  have h1 : 1 ≤ t.val := by omega
  rw [outsAt0_C m c t h0 h1 ht]
  dsimp only
  rw [out_C5, pay1_apply, pay4_apply, part_apply, iblk0_apply, iblk0_apply, after_sum m c r j (t.val - 1) _ (by omega)]
  unfold out
  rw [← sum_term, h6]
  exact congrArg (· * _) (Finset.sum_range_add (term (aS m c) (aX m c) (aW1 m c) (aW2 m c) r j) (768 * (6 - 1 + 1)) 768).symm

theorem tile_apply' (c : Dev nD) (t : Fin cfg0.N) (y : S256x768.Idx) :
    tile m c t y = codes (aS m c) (aX m c) (aW1 m c) (y 0) ⟨768 * t.val + (y 1).val, by have := lt7 t; have : (y 1).val < 768 := (y 1).isLt; omega⟩ := by
  conv_lhs => rw [eq_ix2 y]
  exact tile_apply m c t (y 0) (y 1)

theorem after_last' (c : Dev nD) (t : Fin cfg0.N) (ht : t.val % 7 = 6) (y : S256x4096.Idx) :
    (outsAt0 m c t.val t.isLt).2 y = out (aS m c) (aX m c) (aW1 m c) (aW2 m c) (y 0) (y 1) := by
  conv_lhs => rw [eq_ix2 y]
  exact after_last m c t ht (y 0) (y 1)

/-! ## The result arrays -/

/-- The codes array. -/
abbrev resCodes (c : Dev nD) : FVec Ideal S256x5376 .fp8e4m3 := fun i => codes (aS m c) (aX m c) (aW1 m c) (i 0) (i 1)
/-- The output array. -/
abbrev resOut (c : Dev nD) : FVec Ideal S256x4096 .f32 := fun i => out (aS m c) (aX m c) (aW1 m c) (aW2 m c) (i 0) (i 1)

theorem final_codes (c : Dev nD) : (dats m 0 c).arrAt 4 cfg0.N = resCodes m c := by
  refine (dats m 0 c).arrAt_eq_of_cover 4 (resCodes m c) (fun t _ => ?_) fun i => ?_
  · have hi := idx_facts t
    rw [flushed4, after_codes]
    funext y
    rw [View.read_apply]
    refine (tile_apply' m c t y).trans ?_
    show codes _ _ _ _ _ = codes _ _ _ _ _
    congr 1
    · apply Fin.ext
      show (y 0).val = win0_4.index t 0 * 256 + 1 * (y 0).val
      rw [hi.2.2.2.2.2.2.2.1]; omega
    · apply Fin.ext
      show 768 * t.val + (y 1).val = win0_4.index t 1 * 768 + 1 * (y 1).val
      rw [hi.2.2.2.2.2.2.2.2.1]; omega
  · have h0 : (i 0 : ℕ) < 256 := (i 0).isLt
    have h1 : (i 1 : ℕ) < 5376 := (i 1).isLt
    let t : Fin cfg0.N := ⟨(i 1 : ℕ) / 768, by rw [show cfg0.N = 7 from N_0]; omega⟩
    have hi := idx_facts t
    refine ⟨t, flush0_4 t, ?_⟩
    show i ∈ ((View.whole main_v0_0).slice (win0_4.rect t)).set
    rw [View.set_slice_whole, Rect.mem_set_unit]
    intro a
    match a with
    | ⟨0, _⟩ =>
      show win0_4.index t 0 * 256 ≤ (i 0 : ℕ) ∧ (i 0 : ℕ) < win0_4.index t 0 * 256 + 256
      rw [hi.2.2.2.2.2.2.2.1]; omega
    | ⟨1, _⟩ =>
      show win0_4.index t 1 * 768 ≤ (i 1 : ℕ) ∧ (i 1 : ℕ) < win0_4.index t 1 * 768 + 768
      rw [hi.2.2.2.2.2.2.2.2.1]; dsimp only [t]; omega

theorem final_out (c : Dev nD) : (dats m 0 c).arrAt 5 cfg0.N = resOut m c := by
  refine (dats m 0 c).arrAt_eq_of_cover 5 (resOut m c) (fun t hf => ?_) fun i => ?_
  · have hi := idx_facts t
    rw [flushed5]
    funext y
    rw [View.read_apply]
    refine (after_last' m c t ((flush0_5 t).mp hf) y).trans ?_
    show out _ _ _ _ _ _ = out _ _ _ _ _ _
    congr 1
    · apply Fin.ext
      show (y 0).val = win0_5.index t 0 * 256 + 1 * (y 0).val
      rw [hi.2.2.2.2.2.2.2.2.2.1]; omega
    · apply Fin.ext
      show (y 1).val = win0_5.index t 1 * 4096 + 1 * (y 1).val
      rw [hi.2.2.2.2.2.2.2.2.2.2]; omega
  · have h0 : (i 0 : ℕ) < 256 := (i 0).isLt
    have h1 : (i 1 : ℕ) < 4096 := (i 1).isLt
    let t : Fin cfg0.N := ⟨6, by rw [show cfg0.N = 7 from N_0]; omega⟩
    have hi := idx_facts t
    refine ⟨t, (flush0_5 t).mpr rfl, ?_⟩
    show i ∈ ((View.whole main_v0_1).slice (win0_5.rect t)).set
    rw [View.set_slice_whole, Rect.mem_set_unit]
    intro a
    match a with
    | ⟨0, _⟩ =>
      show win0_5.index t 0 * 256 ≤ (i 0 : ℕ) ∧ (i 0 : ℕ) < win0_5.index t 0 * 256 + 256
      rw [hi.2.2.2.2.2.2.2.2.2.1]; omega
    | ⟨1, _⟩ =>
      show win0_5.index t 1 * 4096 ≤ (i 1 : ℕ) ∧ (i 1 : ℕ) < win0_5.index t 1 * 4096 + 4096
      rw [hi.2.2.2.2.2.2.2.2.2.2]; omega

end Cert.SharedIdeal.Value

end
-- ==== Proof.SharedRefValue.lean ====
/-
  The shared expert's reference over the extended reals: its two result arrays are the functions of `SharedMath`.
-/
module

public import proofs.«01_k».proof.Proof.Gen.SharedRefIdeal.Value
public import proofs.«01_k».proof.Proof.SharedMath
public import Idealize.ShloMosaic.Lib.Pipeline.Value

@[expose] public section

noncomputable section

namespace Cert.SharedRefIdeal.Value

open Cert.SharedRefIdeal Cert.SharedRefIdeal.Gen Cert.SharedMath Idealize.ShloMosaic Idealize.ShloMosaic.TcCoe Idealize.SL.Sem
open Idealize.ShloMosaic.ValueIdx
open Idealize.ShloMosaic.Pipeline (Dat)
open scoped BigOperators

theorem hz : (![0, 0] : Fin 2 → Nat) = fun _ => 0 := funext fun a => by fin_cases a <;> rfl

/-- A one-word load of the four scalars reads the word at its offset. -/
theorem ld_word (x : Vec Ideal S4 .f32) (k : ℕ) (hk : k < 4) (h : ∀ a : Fin 1, (![k] : Fin 1 → ℕ) a + S1.size a ≤ S4.size a)
    (y : (Rect.unit (s := S4) ![k] S1.size h).shape.Idx) : View.ld x (Rect.unit (s := S4) ![k] S1.size h) y = x (ix1 ⟨k, hk⟩) := by
  have hy : (y 0).val < 1 := (y 0).isLt
  show x _ = x _
  congr 1
  funext a
  apply Fin.ext
  match a with
  | ⟨0, _⟩ => show k + 1 * (y 0).val = k; omega

section Body
variable (c : Dev nD) (arg0 : Memref sig .tc .smem S4 .f32) (harg0 : arg0.IsWhole) (arg1 : Memref sig .tc .vmem S256x4096 .fp8e4m3) (harg1 : arg1.IsWhole) (arg2 : Memref sig .tc .vmem S4096x5376 .fp8e4m3) (harg2 : arg2.IsWhole) (arg3 : Memref sig .tc .vmem S5376x4096 .fp8e4m3) (harg3 : arg3.IsWhole) (arg4 : Memref sig .tc .vmem S256x5376 .fp8e4m3) (harg4 : arg4.IsWhole) (arg5 : Memref sig .tc .vmem S256x4096 .f32) (harg5 : arg5.IsWhole)
  (x0 : Vec Ideal S4 .f32) (x1 : Vec Ideal S256x4096 .fp8e4m3) (x2 : Vec Ideal S4096x5376 .fp8e4m3) (x3 : Vec Ideal S5376x4096 .fp8e4m3)

theorem out_A4 : out0_A_4 c arg0 harg0 arg1 harg1 arg2 harg2 arg3 harg3 arg4 harg4 arg5 harg5 x0 x1 x2 x3
      = k0_pay1 (x0 (ix1 0)) (x0 (ix1 1)) (x0 (ix1 2)) x1 x2 := by
  unfold out0_A_4
  rw [View.read_writes_eq_canon _ _ _ (cover0_A_4 c arg0 harg0 arg1 harg1 arg2 harg2 arg3 harg3 arg4 harg4 arg5 harg5 x0 x1 x2 x3)]
  unfold kernelRun0_A
  dsimp only
  sl_unfold_words
  rw [View.canon_unit_zero hz]
  simp only [View.readAt_eq_ld, harg0.read_unread, harg1.read_unread, harg2.read_unread, harg3.read_unread, View.ld_unit_zero (S := S256x4096) hz, View.ld_unit_zero (S := S4096x5376) hz, View.ld_unit_zero (S := S5376x4096) hz]
  rw [ld_word x0 0 (by decide), ld_word x0 1 (by decide), ld_word x0 2 (by decide)]
  rfl

theorem out_A5 : out0_A_5 c arg0 harg0 arg1 harg1 arg2 harg2 arg3 harg3 arg4 harg4 arg5 harg5 x0 x1 x2 x3
      = k0_pay2 (x0 (ix1 0)) (x0 (ix1 1)) (x0 (ix1 2)) (x0 (ix1 3)) x1 x2 x3 := by
  unfold out0_A_5
  rw [View.read_writes_eq_canon _ _ _ (cover0_A_5 c arg0 harg0 arg1 harg1 arg2 harg2 arg3 harg3 arg4 harg4 arg5 harg5 x0 x1 x2 x3)]
  unfold kernelRun0_A
  dsimp only
  sl_unfold_words
  rw [View.canon_unit_zero hz]
  simp only [View.readAt_eq_ld, harg0.read_unread, harg1.read_unread, harg2.read_unread, harg3.read_unread, View.ld_unit_zero (S := S256x4096) hz, View.ld_unit_zero (S := S4096x5376) hz, View.ld_unit_zero (S := S5376x4096) hz]
  rw [ld_word x0 0 (by decide), ld_word x0 1 (by decide), ld_word x0 2 (by decide), ld_word x0 3 (by decide)]
  rfl

end Body

/-- The reference's codes, element by element. -/
theorem pay1_apply (v0 v1 v2 : Elt Ideal .f32) (v4 : Vec Ideal S256x4096 .fp8e4m3) (v5 : Vec Ideal S4096x5376 .fp8e4m3) (r : Fin 256) (j : Fin 5376) :
    k0_pay1 (F := Ideal) v0 v1 v2 v4 v5 (ix2 r j) = act v0 v1 v2 (pre v4 v5 r j) := by
  have h := Ideal.matmul_plain_apply (φ₁ := .fp8e4m3) (φ₂ := .fp8e4m3) none v4 v5 (constant S256x5376 .f32 0x00000000#32) r j
  rw [constant_apply, Ideal.ofBits_zero_f32, zero_add] at h
  unfold act pre
  rw [← h, ← Ideal.ofBits_zero_f32]
  rfl

/-- The reference's output, element by element. -/
theorem pay2_apply (v0 v1 v2 v3 : Elt Ideal .f32) (v4 : Vec Ideal S256x4096 .fp8e4m3) (v5 : Vec Ideal S4096x5376 .fp8e4m3) (v21 : Vec Ideal S5376x4096 .fp8e4m3)
    (r : Fin 256) (j : Fin 4096) :
    k0_pay2 (F := Ideal) v0 v1 v2 v3 v4 v5 v21 (ix2 r j) = (∑ k : Fin 5376, act v0 v1 v2 (pre v4 v5 r k) * v21 (ix2 k j)) * (v2 * v3) := by
  have h := Ideal.matmul_plain_apply (φ₁ := .fp8e4m3) (φ₂ := .fp8e4m3) none (k0_pay1 (F := Ideal) v0 v1 v2 v4 v5) v21 (constant S256x4096 .f32 0x00000000#32) r j
  rw [constant_apply, Ideal.ofBits_zero_f32, zero_add] at h
  simp only [pay1_apply] at h
  rw [← h]
  rfl

variable (m : (ℓ : Loc nD τ sig) → Buf (Elt Ideal) ℓ) (ρ : Dev nD → PrngReg)

/-- The four scalars. -/
abbrev aS (c : Dev nD) : FVec Ideal S4 .f32 := m ((c : Thread nD τ).loc main_arg0)
/-- The activations' codes. -/
abbrev aX (c : Dev nD) : FVec Ideal S256x4096 .fp8e4m3 := m ((c : Thread nD τ).loc main_arg1)
/-- The first weight's codes. -/
abbrev aW1 (c : Dev nD) : FVec Ideal S4096x5376 .fp8e4m3 := m ((c : Thread nD τ).loc main_arg2)
/-- The second weight's codes. -/
abbrev aW2 (c : Dev nD) : FVec Ideal S5376x4096 .fp8e4m3 := m ((c : Thread nD τ).loc main_arg3)

/-- Every window's one block is its whole array. -/
theorem iblk0 (c : Dev nD) (t : Fin cfg0.N) : (iblk m c 0 t : FVec Ideal S4 .f32) = aS m c :=
  Memref.read_access_unit_zero (Elt Ideal) main_arg0 (funext fun a => Nat.zero_mul _) _ _
theorem iblk1 (c : Dev nD) (t : Fin cfg0.N) : (iblk m c 1 t : FVec Ideal S256x4096 .fp8e4m3) = aX m c :=
  Memref.read_access_unit_zero (Elt Ideal) main_arg1 (funext fun a => Nat.zero_mul _) _ _
theorem iblk2 (c : Dev nD) (t : Fin cfg0.N) : (iblk m c 2 t : FVec Ideal S4096x5376 .fp8e4m3) = aW1 m c :=
  Memref.read_access_unit_zero (Elt Ideal) main_arg2 (funext fun a => Nat.zero_mul _) _ _
theorem iblk3 (c : Dev nD) (t : Fin cfg0.N) : (iblk m c 3 t : FVec Ideal S5376x4096 .fp8e4m3) = aW2 m c :=
  Memref.read_access_unit_zero (Elt Ideal) main_arg3 (funext fun a => Nat.zero_mul _) _ _

/-- The codes array. -/
abbrev resCodes (c : Dev nD) : FVec Ideal S256x5376 .fp8e4m3 := fun i => codes (aS m c) (aX m c) (aW1 m c) (i 0) (i 1)
/-- The output array. -/
abbrev resOut (c : Dev nD) : FVec Ideal S256x4096 .f32 := fun i => out (aS m c) (aX m c) (aW1 m c) (aW2 m c) (i 0) (i 1)

theorem final_codes (c : Dev nD) : (dats m 0 c).arrAt 4 cfg0.N = resCodes m c := by
  have hr := blocks4 m c t0_0 (flush0_4 t0_0)
  rw [flushed4_A, out_A4, iblk0, iblk1, iblk2] at hr
  have hw := Memref.read_access_unit_zero (Elt Ideal) main_v0_0 (off := fun a => 0 * main_v0_0.ty.shape.size a) (funext fun a => Nat.zero_mul _) (fun a => by simp) ((dats m 0 c).arrAt 4 cfg0.N)
  refine (hw.symm.trans hr).trans ?_
  funext y
  exact (congrArg _ (eq_ix2 y)).trans (pay1_apply _ _ _ _ _ (y 0) (y 1))

theorem final_out (c : Dev nD) : (dats m 0 c).arrAt 5 cfg0.N = resOut m c := by
  have hr := blocks5 m c t0_0 (flush0_5 t0_0)
  rw [flushed5_A, out_A5, iblk0, iblk1, iblk2, iblk3] at hr
  have hw := Memref.read_access_unit_zero (Elt Ideal) main_v0_1 (off := fun a => 0 * main_v0_1.ty.shape.size a) (funext fun a => Nat.zero_mul _) (fun a => by simp) ((dats m 0 c).arrAt 5 cfg0.N)
  refine (hw.symm.trans hr).trans ?_
  funext y
  exact (congrArg _ (eq_ix2 y)).trans (pay2_apply _ _ _ _ _ _ _ (y 0) (y 1))

end Cert.SharedRefIdeal.Value

end
-- ==== Proof.SharedClaim.lean ====
/-
  The shared expert: the kernel and its reference end with the same two arrays at every input.
-/
module

public import proofs.«01_k».proof.Defs
public import proofs.«01_k».proof.Proof.SharedValue
public import proofs.«01_k».proof.Proof.SharedRefValue
public import proofs.«01_k».proof.Proof.Gen.Shared.Frame
public import proofs.«01_k».proof.Proof.Gen.SharedIdeal.Frame
public import proofs.«01_k».proof.Proof.Gen.SharedRefIdeal.Frame

@[expose] public section

noncomputable section

namespace Cert.SharedClaim

open Idealize.ShloMosaic Idealize.SL.Sem

instance : Cert.SharedIdeal.Facts := Cert.SharedIdeal.Gen.facts
instance : Cert.SharedRefIdeal.Facts := Cert.SharedRefIdeal.Gen.facts

/-- From memories agreeing on the arguments, both programs end with `resCodes` and `resOut` of these arguments. -/
theorem algebraic : Cert.algebraic_SharedIdeal_SharedRefIdeal := by
  intro m g m' g' _ hagree
  refine ⟨fun c => Cert.SharedIdeal.Value.resCodes m c, fun c => Cert.SharedIdeal.Value.resOut m c, ?_, ?_⟩
  · refine (θ_run _ _ _).mono (fun r h c => ?_) (Cert.SharedIdeal.Value.run_blocks m g)
    obtain ⟨h0, h1, h2⟩ := h c
    exact ⟨h0.trans (Cert.SharedIdeal.Value.final_codes m c), h1.trans (Cert.SharedIdeal.Value.final_out m c), h2⟩
  · refine (θ_run _ _ _).mono (fun r h c => ?_) (Cert.SharedRefIdeal.Value.run_blocks m' g')
    obtain ⟨h0, h1, h2⟩ := h c
    obtain ⟨e0, e1, e2, e3⟩ := hagree c
    have hc : Cert.SharedRefIdeal.Value.resCodes m' c = Cert.SharedIdeal.Value.resCodes m c := by
      unfold Cert.SharedRefIdeal.Value.resCodes Cert.SharedIdeal.Value.resCodes
      unfold Cert.SharedRefIdeal.Value.aS Cert.SharedRefIdeal.Value.aX Cert.SharedRefIdeal.Value.aW1
      rw [e0, e1, e2]
    have ho : Cert.SharedRefIdeal.Value.resOut m' c = Cert.SharedIdeal.Value.resOut m c := by
      unfold Cert.SharedRefIdeal.Value.resOut Cert.SharedIdeal.Value.resOut
      unfold Cert.SharedRefIdeal.Value.aS Cert.SharedRefIdeal.Value.aX Cert.SharedRefIdeal.Value.aW1 Cert.SharedRefIdeal.Value.aW2
      rw [e0, e1, e2, e3]
    exact ⟨(h0.trans (Cert.SharedRefIdeal.Value.final_codes m' c)).trans hc, (h1.trans (Cert.SharedRefIdeal.Value.final_out m' c)).trans ho, h2⟩

end Cert.SharedClaim

end
-- ==== Proof.FrontBody.lean ====
/-
  What the front kernel's body leaves in its three results: the codes, the latent rows, and the gathered rows
  above 128 rows of zeros.
-/
module

public import proofs.«01_k».proof.Proof.Gen.FrontIdeal.Value
public import Idealize.ShloMosaic.PureOps.Ideal
public import Idealize.ShloMosaic.Lib.ValueIdx
public import Idealize.ShloMosaic.Lib.MatmulPlain
public import Idealize.ShloMosaic.Lib.Pipeline.Value

@[expose] public section

noncomputable section

namespace Cert.FrontIdeal.Value

open Cert.FrontIdeal Cert.FrontIdeal.Gen Idealize.ShloMosaic Idealize.ShloMosaic.TcCoe Idealize.SL.Sem
open Idealize.ShloMosaic.ValueIdx

theorem hz : (![0, 0] : Fin 2 → Nat) = fun _ => 0 := funext fun a => by fin_cases a <;> rfl

/-- The one-word load of the scalar reads it. -/
theorem ld_word (x : Vec Ideal S1 .f32) (h : ∀ a : Fin 1, (![0] : Fin 1 → ℕ) a + S1.size a ≤ S1.size a)
    (y : (Rect.unit (s := S1) ![0] S1.size h).shape.Idx) : View.ld x (Rect.unit (s := S1) ![0] S1.size h) y = x (ix1 0) := by
  have hy : (y 0).val < 1 := (y 0).isLt
  show x _ = x _
  congr 1
  funext a
  apply Fin.ext
  match a with
  | ⟨0, _⟩ => show 0 + 1 * (y 0).val = 0; omega

section Body
variable (c : Dev nD) (arg0 : Memref sig .tc .smem S1 .f32) (harg0 : arg0.IsWhole) (arg1 : Memref sig .tc .vmem S256x4096 .bf16) (harg1 : arg1.IsWhole) (arg2 : Memref sig .tc .vmem S1x4096 .f32) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S1x1536 .i32) (harg5 : arg5.IsWhole) (arg6 : Memref sig .tc .vmem S256x4096 .fp8e4m3) (harg6 : arg6.IsWhole) (arg7 : Memref sig .tc .vmem S256x1024 .bf16) (harg7 : arg7.IsWhole) (arg8 : Memref sig .tc .vmem S1664x1024 .bf16) (harg8 : arg8.IsWhole)
  (x0 : Vec Ideal S1 .f32) (x1 : Vec Ideal S256x4096 .bf16) (x2 : Vec Ideal S1x4096 .f32) (x3 : Vec Ideal S4096x1024 .fp8e4m3) (x4 : Vec Ideal S1x1024 .f32) (x5 : Vec Ideal S1x1536 .i32)

/-- The codes. -/
theorem out_A6 : out0_A_6 c arg0 harg0 arg1 harg1 arg2 harg2 arg3 harg3 arg4 harg4 arg5 harg5 arg6 harg6 arg7 harg7 arg8 harg8 x0 x1 x2 x3 x4 x5 = k0_pay3 x1 x2 (x0 (ix1 0)) := by
  unfold out0_A_6
  rw [View.read_writes_eq_canon _ _ _ (cover0_A_6 c arg0 harg0 arg1 harg1 arg2 harg2 arg3 harg3 arg4 harg4 arg5 harg5 arg6 harg6 arg7 harg7 arg8 harg8 x0 x1 x2 x3 x4 x5)]
  unfold kernelRun0_A
  dsimp only
  sl_unfold_words
  rw [View.canon_unit_zero hz]
  simp only [View.readAt_eq_ld, harg0.read_unread, harg1.read_unread, harg2.read_unread, harg3.read_unread, harg4.read_unread, harg5.read_unread, View.ld_unit_zero (S := S256x4096) hz, View.ld_unit_zero (S := S1x4096) hz]
  rw [ld_word x0]

/-- The latent rows. -/
theorem out_A7 : out0_A_7 c arg0 harg0 arg1 harg1 arg2 harg2 arg3 harg3 arg4 harg4 arg5 harg5 arg6 harg6 arg7 harg7 arg8 harg8 x0 x1 x2 x3 x4 x5 = k0_pay4 (x0 (ix1 0)) (k0_pay3 x1 x2 (x0 (ix1 0))) x3 x4 := by
  unfold out0_A_7
  rw [View.read_writes_eq_canon _ _ _ (cover0_A_7 c arg0 harg0 arg1 harg1 arg2 harg2 arg3 harg3 arg4 harg4 arg5 harg5 arg6 harg6 arg7 harg7 arg8 harg8 x0 x1 x2 x3 x4 x5)]
  unfold kernelRun0_A
  dsimp only
  sl_unfold_words
  rw [View.canon_unit_zero hz, View.readCov_unit_zero _ hz]
  simp only [View.readAt_eq_ld, harg0.read_unread, harg1.read_unread, harg2.read_unread, harg3.read_unread, harg4.read_unread, harg5.read_unread, View.ld_unit_zero (S := S256x4096) hz, View.ld_unit_zero (S := S1x4096) hz, View.ld_unit_zero (S := S4096x1024) hz, View.ld_unit_zero (S := S1x1024) hz]
  rw [ld_word x0]

/-- The gathered rows as one product with the one-hot matrix, and the zero rows below them. -/
theorem out_A8 : out0_A_8 c arg0 harg0 arg1 harg1 arg2 harg2 arg3 harg3 arg4 harg4 arg5 harg5 arg6 harg6 arg7 harg7 arg8 harg8 x0 x1 x2 x3 x4 x5
      = View.canon [⟨Rect.unit (s := S1664x1024) ![1536, 0] S128x1024.size inb_S1664x1024_S128x1024_1536_0, k0_pay2 (F := Ideal)⟩,
          ⟨Rect.unit (s := S1664x1024) ![0, 0] S1536x1024.size inb_S1664x1024_S1536x1024_0_0,
            k0_pay1 (k0_pay4 (x0 (ix1 0)) (k0_pay3 x1 x2 (x0 (ix1 0))) x3 x4) (iota .tc S256x1536 32 [0] iota_S256x1536_d0_w32) x5⟩] := by
  unfold out0_A_8
  rw [View.read_writes_eq_canon _ _ _ (cover0_A_8 c arg0 harg0 arg1 harg1 arg2 harg2 arg3 harg3 arg4 harg4 arg5 harg5 arg6 harg6 arg7 harg7 arg8 harg8 x0 x1 x2 x3 x4 x5)]
  unfold kernelRun0_A
  dsimp only
  sl_unfold_words
  rw [View.readCov_unit_zero _ hz]
  simp only [View.readAt_eq_ld, harg0.read_unread, harg1.read_unread, harg2.read_unread, harg3.read_unread, harg4.read_unread, harg5.read_unread, View.ld_unit_zero (S := S256x4096) hz, View.ld_unit_zero (S := S1x4096) hz, View.ld_unit_zero (S := S4096x1024) hz, View.ld_unit_zero (S := S1x1024) hz, View.ld_unit_zero (S := S1x1536) hz]
  rw [ld_word x0]
  trace_state

end Body

end Cert.FrontIdeal.Value

end
-- ==== Proof.FrontMath.lean ====
/-
  The dispatch buffer of the front kernel, element by element: the latent row that each of the 1536 sorted slots names,
  then 128 zero rows. Both the kernel's product with a one-hot matrix and the reference's gather are read as this
  function.
-/
module

public import Idealize.ShloMosaic.Lib.ValueIdx
public import Idealize.ShloMosaic.Lib.MatmulPlain
public import Idealize.ShloMosaic.Lib.Tactic

@[expose] public section

noncomputable section

namespace Cert.FrontMath

open Idealize.ShloMosaic Idealize.ShloMosaic.ValueIdx
open scoped BigOperators

/-- Row `r < 1536` is the row of `z` that slot `r` names; the rows below are zero. -/
def zs (z : FVec Ideal ⟨2, ![256, 1024]⟩ .bf16) (idx : IVec ⟨2, ![1, 1536]⟩ 32) : FVec Ideal ⟨2, ![1664, 1024]⟩ .bf16 := fun i =>
  if h : (i 0).val < 1536 then z (ix2 ⟨(idx (ix2 0 ⟨(i 0).val, h⟩)).toNat % 256, Nat.mod_lt _ (by decide)⟩ ⟨(i 1).val, (i 1).isLt⟩)
  else Ideal.ofBits .bf16 0x0000#16

/-- A sum against a one-hot row is the entry at the hot place. -/
theorem sum_oneHot (n : ℕ) (b : Fin n) (f g : Fin n → EReal) (hf : ∀ k, f k = if k = b then 1 else 0) :
    ∑ k, f k * g k = g b := by
  rw [Finset.sum_eq_single b]
  · rw [hf, if_pos rfl, one_mul]
  · intro k _ hk
    rw [hf, if_neg hk, zero_mul]
  · intro h; exact absurd (Finset.mem_univ b) h

end Cert.FrontMath

end
-- ==== Proof.FrontValue.lean ====
/-
  The front kernel over the extended reals: its three result arrays as functions of its arguments.
-/
module

public import proofs.«01_k».proof.Proof.FrontBody
public import proofs.«01_k».proof.Proof.FrontMath
public import Idealize.ShloMosaic.Lib.KernelVsHost

@[expose] public section

noncomputable section

namespace Cert.FrontIdeal.Value

open Cert.FrontIdeal Cert.FrontIdeal.Gen Cert.FrontMath Idealize.ShloMosaic Idealize.ShloMosaic.TcCoe Idealize.SL.Sem
open Idealize.ShloMosaic.ValueIdx
open Idealize.ShloMosaic.Pipeline (Dat)
open scoped BigOperators

/-- The one-hot matrix: row `r` has its one in the column that slot `r` names. -/
def oneHot (x5 : Vec Ideal S1x1536 .i32) : FVec Ideal S1536x256 .bf16 :=
  truncf .bf16 (transpose S1536x256 [1, 0] (sitofp (F := Ideal) .f32 (extui 32 (cmpi .eq (iota .tc S256x1536 32 [0] iota_S256x1536_d0_w32)
    (broadcastTo S256x1536 x5 broadcasts_S1x1536_S256x1536)) natLt_1_32)) transposes_S256x1536_p1_0_S1536x256) bitsLt_bf16_f32

theorem oneHot_apply (x5 : Vec Ideal S1x1536 .i32) (r : Fin 1536) (k : Fin 256) :
    oneHot x5 (ix2 r k) = if BitVec.ofNat 32 k.val = x5 (ix2 0 r) then 1 else 0 := by
  have ht := transpose_apply [1, 0] (sitofp (F := Ideal) .f32 (extui 32 (cmpi .eq (iota .tc S256x1536 32 [0] iota_S256x1536_d0_w32)
    (broadcastTo S256x1536 x5 broadcasts_S1x1536_S256x1536)) natLt_1_32)) transposes_S256x1536_p1_0_S1536x256 (ix2 r k) (ix2 k r)
    (fun b => match b with | ⟨0, _⟩ => rfl | ⟨1, _⟩ => rfl)
  have hb : broadcastTo S256x1536 x5 broadcasts_S1x1536_S256x1536 (ix2 k r) = x5 (ix2 0 r) :=
    broadcastTo_apply x5 broadcasts_S1x1536_S256x1536 (ix2 k r) (ix2 0 r) (fun a => match a with | ⟨0, _⟩ => rfl | ⟨1, _⟩ => rfl)
  refine Eq.trans (show _ = _ from ht) ?_
  rw [sitofp_extui_eq_uitofp]
  show (((IntOp.cmpi .eq (BitVec.ofNat 32 (0 * 256 + k.val)) (broadcastTo S256x1536 x5 broadcasts_S1x1536_S256x1536 (ix2 k r))).toNat : ℝ) : EReal) = _
  rw [hb, Nat.zero_mul, Nat.zero_add]
  by_cases h : BitVec.ofNat 32 k.val = x5 (ix2 0 r)
  · rw [if_pos h, h]; simp [IntOp.cmpi]
  · rw [if_neg h]; simp [IntOp.cmpi, h]

/-- The product with the one-hot matrix reads the named row. -/
theorem pay1_apply (z : Vec Ideal S256x1024 .bf16) (x5 : Vec Ideal S1x1536 .i32) (r : Fin 1536) (j : Fin 1024) (hb : (x5 (ix2 0 r)).toNat < 256) :
    k0_pay1 (F := Ideal) z (iota .tc S256x1536 32 [0] iota_S256x1536_d0_w32) x5 (ix2 r j) = z (ix2 ⟨(x5 (ix2 0 r)).toNat, hb⟩ j) := by
  have h := Ideal.matmul_plain_apply (φ₁ := .bf16) (φ₂ := .bf16) none (oneHot x5) z (constant S1536x1024 .f32 0x00000000#32) r j
  rw [constant_apply, Ideal.ofBits_zero_f32, zero_add] at h
  rw [sum_oneHot 256 ⟨(x5 (ix2 0 r)).toNat, hb⟩ (fun k => oneHot x5 (ix2 r k)) (fun k => z (ix2 k j))] at h
  · rw [← h]; rfl
  · intro k
    rw [oneHot_apply]
    refine if_congr ⟨fun e => ?_, fun e => ?_⟩ rfl rfl
    · apply Fin.ext
      show k.val = (x5 (ix2 0 r)).toNat
      have := k.isLt
      rw [← e, BitVec.toNat_ofNat, Nat.mod_eq_of_lt (by omega)]
    · rw [e]; exact BitVec.eq_of_toNat_eq (by rw [BitVec.toNat_ofNat, Nat.mod_eq_of_lt (by show (x5 (ix2 0 r)).toNat < _; omega)])

/-- Two stores that fill a block from row 1536 down and above it, read back: the second payload above, the first below. -/
theorem canon_two (w₁ : S128x1024.Idx → Elt Ideal .bf16) (w₂ : S1536x1024.Idx → Elt Ideal .bf16) (y : S1664x1024.Idx) :
    View.canon (Val := Elt Ideal) (e := .bf16) [⟨Rect.unit (s := S1664x1024) ![1536, 0] S128x1024.size inb_S1664x1024_S128x1024_1536_0, w₁⟩,
          ⟨Rect.unit (s := S1664x1024) ![0, 0] S1536x1024.size inb_S1664x1024_S1536x1024_0_0, w₂⟩] y
      = if h : (y 0).val < 1536 then w₂ (ix2 ⟨(y 0).val, h⟩ ⟨(y 1).val, (y 1).isLt⟩)
        else w₁ (ix2 ⟨(y 0).val - 1536, by have : (y 0).val < 1664 := (y 0).isLt; omega⟩ ⟨(y 1).val, (y 1).isLt⟩) := by
  by_cases h : (y 0).val < 1536
  · rw [dif_pos h]
    have hn : y ∉ (Rect.unit (s := S1664x1024) ![1536, 0] S128x1024.size inb_S1664x1024_S128x1024_1536_0).set := fun hm => by
      have h0 := (Rect.mem_set_unit.1 hm) 0
      have : 1536 ≤ (y 0).val := h0.1
      omega
    refine (View.canon_cons_of_not_mem (Val := Elt Ideal) (e := .bf16)
      ⟨Rect.unit (s := S1664x1024) ![1536, 0] S128x1024.size inb_S1664x1024_S128x1024_1536_0, w₁⟩
      [⟨Rect.unit (s := S1664x1024) ![0, 0] S1536x1024.size inb_S1664x1024_S1536x1024_0_0, w₂⟩] hn).trans ?_
    have hy : (Rect.unit (s := S1664x1024) ![0, 0] S1536x1024.size inb_S1664x1024_S1536x1024_0_0).emb (ix2 (⟨(y 0).val, h⟩ : Fin 1536) (⟨(y 1).val, (y 1).isLt⟩ : Fin 1024)) = y := by
      funext a
      apply Fin.ext
      match a with
      | ⟨0, _⟩ => show 0 + 1 * (y 0).val = (y 0).val; omega
      | ⟨1, _⟩ => show 0 + 1 * (y 1).val = (y 1).val; omega
    have e := View.canon_cons_emb (Val := Elt Ideal) (e := .bf16) (Rect.unit (s := S1664x1024) ![0, 0] S1536x1024.size inb_S1664x1024_S1536x1024_0_0) w₂ []
      (ix2 (⟨(y 0).val, h⟩ : Fin 1536) (⟨(y 1).val, (y 1).isLt⟩ : Fin 1024))
    rw [hy] at e
    exact e
  · rw [dif_neg h]
    have hlt : (y 0).val < 1664 := (y 0).isLt
    have hy : (Rect.unit (s := S1664x1024) ![1536, 0] S128x1024.size inb_S1664x1024_S128x1024_1536_0).emb (ix2 (⟨(y 0).val - 1536, by omega⟩ : Fin 128) (⟨(y 1).val, (y 1).isLt⟩ : Fin 1024)) = y := by
      funext a
      apply Fin.ext
      match a with
      | ⟨0, _⟩ => show 1536 + 1 * ((y 0).val - 1536) = (y 0).val; omega
      | ⟨1, _⟩ => show 0 + 1 * (y 1).val = (y 1).val; omega
    have e := View.canon_cons_emb (Val := Elt Ideal) (e := .bf16) (Rect.unit (s := S1664x1024) ![1536, 0] S128x1024.size inb_S1664x1024_S128x1024_1536_0) w₁
      [⟨Rect.unit (s := S1664x1024) ![0, 0] S1536x1024.size inb_S1664x1024_S1536x1024_0_0, w₂⟩]
      (ix2 (⟨(y 0).val - 1536, by omega⟩ : Fin 128) (⟨(y 1).val, (y 1).isLt⟩ : Fin 1024))
    rw [hy] at e
    exact e

/-- The two stores of the dispatch buffer leave the gathered rows and the zero rows. -/
theorem canon_zs (z : Vec Ideal S256x1024 .bf16) (x5 : Vec Ideal S1x1536 .i32) (hb : ∀ r, (x5 (ix2 0 r)).toNat < 256) :
    View.canon (Val := Elt Ideal) (e := .bf16) [⟨Rect.unit (s := S1664x1024) ![1536, 0] S128x1024.size inb_S1664x1024_S128x1024_1536_0, k0_pay2 (F := Ideal)⟩,
          ⟨Rect.unit (s := S1664x1024) ![0, 0] S1536x1024.size inb_S1664x1024_S1536x1024_0_0,
            k0_pay1 (F := Ideal) z (iota .tc S256x1536 32 [0] iota_S256x1536_d0_w32) x5⟩] = zs z x5 := by
  funext y
  refine (canon_two _ _ y).trans ?_
  unfold zs
  by_cases h : (y 0).val < 1536
  · rw [dif_pos h, dif_pos h, pay1_apply z x5 _ _ (hb _)]
    refine congrArg z (congrArg (fun q => ix2 q _) (Fin.ext ?_))
    exact (Nat.mod_eq_of_lt (hb _)).symm
  · rw [dif_neg h, dif_neg h]
    rfl

variable (m : (ℓ : Loc nD τ sig) → Buf (Elt Ideal) ℓ) (ρ : Dev nD → PrngReg)

/-- The activation scale. -/
abbrev aS (c : Dev nD) : FVec Ideal S1 .f32 := m ((c : Thread nD τ).loc main_arg0)
/-- The hidden states. -/
abbrev aH (c : Dev nD) : FVec Ideal S256x4096 .bf16 := m ((c : Thread nD τ).loc main_arg1)
/-- The weight of the norm. -/
abbrev aG (c : Dev nD) : FVec Ideal S1x4096 .f32 := m ((c : Thread nD τ).loc main_arg2)
/-- The codes of the down projection. -/
abbrev aW (c : Dev nD) : FVec Ideal S4096x1024 .fp8e4m3 := m ((c : Thread nD τ).loc main_arg3)
/-- Its column scales. -/
abbrev aV (c : Dev nD) : FVec Ideal S1x1024 .f32 := m ((c : Thread nD τ).loc main_arg4)
/-- The token of every sorted slot. -/
abbrev aI (c : Dev nD) : IVec S1x1536 32 := m ((c : Thread nD τ).loc main_arg5)

theorem iblk0 (c : Dev nD) (t : Fin cfg0.N) : (iblk m c 0 t : FVec Ideal S1 .f32) = aS m c :=
  Memref.read_access_unit_zero (Elt Ideal) main_arg0 (funext fun a => Nat.zero_mul _) _ _
theorem iblk1 (c : Dev nD) (t : Fin cfg0.N) : (iblk m c 1 t : FVec Ideal S256x4096 .bf16) = aH m c :=
  Memref.read_access_unit_zero (Elt Ideal) main_arg1 (funext fun a => Nat.zero_mul _) _ _
theorem iblk2 (c : Dev nD) (t : Fin cfg0.N) : (iblk m c 2 t : FVec Ideal S1x4096 .f32) = aG m c :=
  Memref.read_access_unit_zero (Elt Ideal) main_arg2 (funext fun a => Nat.zero_mul _) _ _
theorem iblk3 (c : Dev nD) (t : Fin cfg0.N) : (iblk m c 3 t : FVec Ideal S4096x1024 .fp8e4m3) = aW m c :=
  Memref.read_access_unit_zero (Elt Ideal) main_arg3 (funext fun a => Nat.zero_mul _) _ _
theorem iblk4 (c : Dev nD) (t : Fin cfg0.N) : (iblk m c 4 t : FVec Ideal S1x1024 .f32) = aV m c :=
  Memref.read_access_unit_zero (Elt Ideal) main_arg4 (funext fun a => Nat.zero_mul _) _ _
theorem iblk5 (c : Dev nD) (t : Fin cfg0.N) : (iblk m c 5 t : IVec S1x1536 32) = aI m c :=
  Memref.read_access_unit_zero (Elt Ideal) main_arg5 (funext fun a => Nat.zero_mul _) _ _

/-- The codes array. -/
abbrev resCodes (c : Dev nD) : FVec Ideal S256x4096 .fp8e4m3 := k0_pay3 (aH m c) (aG m c) (aS m c (ix1 0))
/-- The latent rows. -/
abbrev resZ (c : Dev nD) : FVec Ideal S256x1024 .bf16 := k0_pay4 (aS m c (ix1 0)) (resCodes m c) (aW m c) (aV m c)
/-- The dispatch buffer. -/
abbrev resZs (c : Dev nD) : FVec Ideal S1664x1024 .bf16 := zs (resZ m c) (aI m c)

theorem final_codes (c : Dev nD) : (dats m 0 c).arrAt 6 cfg0.N = resCodes m c := by
  have hr := blocks6 m c t0_0 (flush0_6 t0_0)
  rw [flushed6_A, out_A6, iblk0, iblk1, iblk2] at hr
  have hw := Memref.read_access_unit_zero (Elt Ideal) main_v0_0 (off := fun a => 0 * main_v0_0.ty.shape.size a) (funext fun a => Nat.zero_mul _) (fun a => by simp) ((dats m 0 c).arrAt 6 cfg0.N)
  exact hw.symm.trans hr

theorem final_z (c : Dev nD) : (dats m 0 c).arrAt 7 cfg0.N = resZ m c := by
  have hr := blocks7 m c t0_0 (flush0_7 t0_0)
  rw [flushed7_A, out_A7, iblk0, iblk1, iblk2, iblk3, iblk4] at hr
  have hw := Memref.read_access_unit_zero (Elt Ideal) main_v0_1 (off := fun a => 0 * main_v0_1.ty.shape.size a) (funext fun a => Nat.zero_mul _) (fun a => by simp) ((dats m 0 c).arrAt 7 cfg0.N)
  exact hw.symm.trans hr

theorem final_zs (c : Dev nD) (hb : ∀ r : Fin 1536, (aI m c (ix2 0 r)).toNat < 256) : (dats m 0 c).arrAt 8 cfg0.N = resZs m c := by
  have hr := blocks8 m c t0_0 (flush0_8 t0_0)
  rw [flushed8_A, out_A8, iblk0, iblk1, iblk2, iblk3, iblk4, iblk5, canon_zs _ _ hb] at hr
  have hw := Memref.read_access_unit_zero (Elt Ideal) main_v0_2 (off := fun a => 0 * main_v0_2.ty.shape.size a) (funext fun a => Nat.zero_mul _) (fun a => by simp) ((dats m 0 c).arrAt 8 cfg0.N)
  exact hw.symm.trans hr

end Cert.FrontIdeal.Value

end
-- ==== Proof.FrontRefValue.lean ====
/-
  The front reference over the extended reals: its three result arrays as functions of its arguments.
-/
module

public import proofs.«01_k».proof.Proof.Gen.FrontRefIdeal.Run
public import proofs.«01_k».proof.Proof.Gen.FrontRefIdeal.Read
public import proofs.«01_k».proof.Proof.FrontMath
public import Idealize.ShloMosaic.Lib.Pipeline.Value
public import Idealize.ShloMosaic.Lib.Routing.Ops

@[expose] public section

noncomputable section

namespace Cert.FrontRefIdeal.Value

open Cert.FrontRefIdeal Cert.FrontRefIdeal.Gen Cert.FrontMath Idealize.ShloMosaic Idealize.ShloMosaic.TcCoe Idealize.SL.Sem
open Idealize.ShloMosaic.ValueIdx
open Idealize.ShloMosaic.Pipeline (Dat)
open scoped BigOperators

theorem hz : (![0, 0] : Fin 2 → Nat) = fun _ => 0 := funext fun a => by fin_cases a <;> rfl

/-- The one-word load of the scalar reads it. -/
theorem ld_word (x : Vec Ideal S1 .f32) (h : ∀ a : Fin 1, (![0] : Fin 1 → ℕ) a + S1.size a ≤ S1.size a)
    (y : (Rect.unit (s := S1) ![0] S1.size h).shape.Idx) : View.ld x (Rect.unit (s := S1) ![0] S1.size h) y = x (ix1 0) := by
  have hy : (y 0).val < 1 := (y 0).isLt
  show x _ = x _
  congr 1
  funext a
  apply Fin.ext
  match a with
  | ⟨0, _⟩ => show 0 + 1 * (y 0).val = 0; omega

section Body
variable (c : Dev nD) (arg0 : Memref sig .tc .smem S1 .f32) (harg0 : arg0.IsWhole) (arg1 : Memref sig .tc .vmem S256x4096 .bf16) (harg1 : arg1.IsWhole) (arg2 : Memref sig .tc .vmem S1x4096 .f32) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S256x4096 .fp8e4m3) (harg5 : arg5.IsWhole) (arg6 : Memref sig .tc .vmem S256x1024 .bf16) (harg6 : arg6.IsWhole)
  (x0 : Vec Ideal S1 .f32) (x1 : Vec Ideal S256x4096 .bf16) (x2 : Vec Ideal S1x4096 .f32) (x3 : Vec Ideal S4096x1024 .fp8e4m3) (x4 : Vec Ideal S1x1024 .f32)

/-- The codes. -/
theorem out_A5 : out0_A_5 c arg0 harg0 arg1 harg1 arg2 harg2 arg3 harg3 arg4 harg4 arg5 harg5 arg6 harg6 x0 x1 x2 x3 x4 = k0_pay1 x1 x2 (x0 (ix1 0)) := by
  unfold out0_A_5
  rw [View.read_writes_eq_canon _ _ _ (cover0_A_5 c arg0 harg0 arg1 harg1 arg2 harg2 arg3 harg3 arg4 harg4 arg5 harg5 arg6 harg6 x0 x1 x2 x3 x4)]
  unfold kernelRun0_A
  dsimp only
  sl_unfold_words
  rw [View.canon_unit_zero hz]
  simp only [View.readAt_eq_ld, harg0.read_unread, harg1.read_unread, harg2.read_unread, harg3.read_unread, harg4.read_unread, View.ld_unit_zero (S := S256x4096) hz, View.ld_unit_zero (S := S1x4096) hz]
  rw [ld_word x0]

/-- The latent rows. -/
theorem out_A6 : out0_A_6 c arg0 harg0 arg1 harg1 arg2 harg2 arg3 harg3 arg4 harg4 arg5 harg5 arg6 harg6 x0 x1 x2 x3 x4 = k0_pay2 x1 x2 (x0 (ix1 0)) x3 (x0 (ix1 0)) x4 := by
  unfold out0_A_6
  rw [View.read_writes_eq_canon _ _ _ (cover0_A_6 c arg0 harg0 arg1 harg1 arg2 harg2 arg3 harg3 arg4 harg4 arg5 harg5 arg6 harg6 x0 x1 x2 x3 x4)]
  unfold kernelRun0_A
  dsimp only
  sl_unfold_words
  rw [View.canon_unit_zero hz]
  simp only [View.readAt_eq_ld, harg0.read_unread, harg1.read_unread, harg2.read_unread, harg3.read_unread, harg4.read_unread, View.ld_unit_zero (S := S256x4096) hz, View.ld_unit_zero (S := S1x4096) hz, View.ld_unit_zero (S := S4096x1024) hz, View.ld_unit_zero (S := S1x1024) hz]
  rw [ld_word x0]

end Body

variable (m : (ℓ : Loc nD τ sig) → Buf (Elt Ideal) ℓ) (ρ : Dev nD → PrngReg)

/-- The activation scale. -/
abbrev aS (c : Dev nD) : FVec Ideal S1 .f32 := m ((c : Thread nD τ).loc main_arg0)
/-- The hidden states. -/
abbrev aH (c : Dev nD) : FVec Ideal S256x4096 .bf16 := m ((c : Thread nD τ).loc main_arg1)
/-- The weight of the norm. -/
abbrev aG (c : Dev nD) : FVec Ideal S1x4096 .f32 := m ((c : Thread nD τ).loc main_arg2)
/-- The codes of the down projection. -/
abbrev aW (c : Dev nD) : FVec Ideal S4096x1024 .fp8e4m3 := m ((c : Thread nD τ).loc main_arg3)
/-- Its column scales. -/
abbrev aV (c : Dev nD) : FVec Ideal S1x1024 .f32 := m ((c : Thread nD τ).loc main_arg4)
/-- The token of every sorted slot. -/
abbrev aI (c : Dev nD) : IVec S1x1536 32 := m ((c : Thread nD τ).loc main_arg5)

theorem iblk0 (c : Dev nD) (t : Fin cfg0.N) : (iblk m c 0 t : FVec Ideal S1 .f32) = aS m c :=
  Memref.read_access_unit_zero (Elt Ideal) main_arg0 (funext fun a => Nat.zero_mul _) _ _
theorem iblk1 (c : Dev nD) (t : Fin cfg0.N) : (iblk m c 1 t : FVec Ideal S256x4096 .bf16) = aH m c :=
  Memref.read_access_unit_zero (Elt Ideal) main_arg1 (funext fun a => Nat.zero_mul _) _ _
theorem iblk2 (c : Dev nD) (t : Fin cfg0.N) : (iblk m c 2 t : FVec Ideal S1x4096 .f32) = aG m c :=
  Memref.read_access_unit_zero (Elt Ideal) main_arg2 (funext fun a => Nat.zero_mul _) _ _
theorem iblk3 (c : Dev nD) (t : Fin cfg0.N) : (iblk m c 3 t : FVec Ideal S4096x1024 .fp8e4m3) = aW m c :=
  Memref.read_access_unit_zero (Elt Ideal) main_arg3 (funext fun a => Nat.zero_mul _) _ _
theorem iblk4 (c : Dev nD) (t : Fin cfg0.N) : (iblk m c 4 t : FVec Ideal S1x1024 .f32) = aV m c :=
  Memref.read_access_unit_zero (Elt Ideal) main_arg4 (funext fun a => Nat.zero_mul _) _ _

/-- The region has one point: no two of its blocks meet. -/
theorem one_point (t t' : Fin cfg0.N) : t = t' := Fin.ext (by have h : t.val < 1 := t.isLt; have h' : t'.val < 1 := t'.isLt; omega)

/-- The codes array. -/
abbrev resCodes (c : Dev nD) : FVec Ideal S256x4096 .fp8e4m3 := k0_pay1 (aH m c) (aG m c) (aS m c (ix1 0))
/-- The latent rows. -/
abbrev resZ (c : Dev nD) : FVec Ideal S256x1024 .bf16 := k0_pay2 (aH m c) (aG m c) (aS m c (ix1 0)) (aW m c) (aS m c (ix1 0)) (aV m c)
/-- The dispatch buffer. -/
abbrev resZs (c : Dev nD) : FVec Ideal S1664x1024 .bf16 := zs (resZ m c) (aI m c)

theorem final_codes (c : Dev nD) : reg_main_v0_0 m c = resCodes m c := by
  have hr := (dats m 0 c).read_blk_arrAt_eq_flushed 5 (fun t t' _ _ hne => absurd (one_point t t') hne) cfg0.N t0_0 t0_0.isLt (flush0_5 t0_0)
  have hf : (dats m 0 c).flushed 5 t0_0 = (cfg0.win 5).cut (grid0.coords t0_0) ((outsAt0 m c t0_0).1) := by
    show (cfg0.win 5).cut (grid0.coords t0_0) ((dats m 0 c).after 5 t0_0) = _
    rw [after0_5]
  rw [hf] at hr
  unfold outsAt0 at hr
  dsimp only at hr
  rw [out_A5, iblk0, iblk1, iblk2] at hr
  have hw := Memref.read_access_unit_zero (Elt Ideal) main_v0_0 (off := fun a => 0 * main_v0_0.ty.shape.size a) (funext fun a => Nat.zero_mul _) (fun a => by simp) ((dats m 0 c).arrAt 5 cfg0.N)
  exact hw.symm.trans hr

theorem final_z (c : Dev nD) : reg_main_v0_1 m c = resZ m c := by
  have hr := (dats m 0 c).read_blk_arrAt_eq_flushed 6 (fun t t' _ _ hne => absurd (one_point t t') hne) cfg0.N t0_0 t0_0.isLt (flush0_6 t0_0)
  have hf : (dats m 0 c).flushed 6 t0_0 = (cfg0.win 6).cut (grid0.coords t0_0) ((outsAt0 m c t0_0).2) := by
    show (cfg0.win 6).cut (grid0.coords t0_0) ((dats m 0 c).after 6 t0_0) = _
    rw [after0_6]
  rw [hf] at hr
  unfold outsAt0 at hr
  dsimp only at hr
  rw [out_A6, iblk0, iblk1, iblk2, iblk3, iblk4] at hr
  have hw := Memref.read_access_unit_zero (Elt Ideal) main_v0_1 (off := fun a => 0 * main_v0_1.ty.shape.size a) (funext fun a => Nat.zero_mul _) (fun a => by simp) ((dats m 0 c).arrAt 6 cfg0.N)
  exact hw.symm.trans hr

/-- The gather's start index at slot `r`: the token, the wrap of a negative one never taken. -/
theorem start_apply (x5 : IVec S1x1536 32) (r : Fin 1536) (hb : (x5 (ix2 0 r)).toNat < 256) :
    Read.val_main_v7 (F := Ideal) x5 (ix2 r 0) = x5 (ix2 0 r) := by
  have hi : (Read.idx_main_v1 (Read.idx_main_v7 (ix2 r (0 : Fin 1)))) = (ix2 (0 : Fin 1) r : S1x1536.Idx) := by
    funext a
    apply Fin.ext
    match a with
    | ⟨0, _⟩ => rfl
    | ⟨1, _⟩ => exact Nat.mod_eq_of_lt r.isLt
  rw [Read.val_main_v7_apply, Read.val_main_v6_apply, Read.val_main_v3_apply, Read.val_main_v1_apply, hi, Read.val_main_v2_apply, Read.val_main_c_apply]
  have hs : IntOp.cmpi .slt (x5 (ix2 0 r)) 0#32 = 0#1 := by
    have : (x5 (ix2 0 r)).slt 0#32 = false := by
      simp only [BitVec.slt, decide_eq_false_iff_not, BitVec.toInt, BitVec.toNat_ofNat]; omega
    simp [IntOp.cmpi, this]
  rw [hs]
  rfl

theorem final_zs (x5 : IVec S1x1536 32) (z : FVec Ideal S256x1024 .bf16) (hb : ∀ r : Fin 1536, (x5 (ix2 0 r)).toNat < 256) :
    Read.val_main_v10 (F := Ideal) x5 z = zs z x5 := by
  funext y
  unfold Read.val_main_v10
  by_cases h : (y 0).val < 1536
  · refine (concatenate_pair_apply_left (s₁ := S1536x1024) (s₂ := S128x1024) (0 : Fin S1664x1024.rank) _ _ _ y rfl ((ix2 (⟨(y 0).val, h⟩ : Fin 1536) (⟨(y 1).val, (y 1).isLt⟩ : Fin 1024) : S1536x1024.Idx))
      (fun b => match b with | ⟨0, _⟩ => rfl | ⟨1, _⟩ => rfl)).trans ?_
    unfold Read.val_main_v8 zs
    rw [dif_pos h]
    refine Routing.gather_row _ rfl rfl rfl rfl rfl z _ ⟨(y 0).val, h⟩ ⟨(y 1).val, (y 1).isLt⟩ ⟨(x5 (ix2 0 ⟨(y 0).val, h⟩)).toNat % 256, Nat.mod_lt _ (by decide)⟩ ?_ (by decide)
    refine (start_apply x5 ⟨(y 0).val, h⟩ (hb _)).trans ?_
    show _ = BitVec.ofNat 32 ((x5 (ix2 0 ⟨(y 0).val, h⟩)).toNat % 256)
    rw [Nat.mod_eq_of_lt (hb _)]
    simp
  · have hlt : (y 0).val < 1664 := (y 0).isLt
    refine (concatenate_pair_apply_right (s₁ := S1536x1024) (s₂ := S128x1024) (0 : Fin S1664x1024.rank) _ _ _ y rfl rfl (ix2 (⟨(y 0).val - 1536, by omega⟩ : Fin 128) (⟨(y 1).val, (y 1).isLt⟩ : Fin 1024))
      (fun b hb => match b with | ⟨0, _⟩ => absurd rfl hb | ⟨1, _⟩ => rfl) (by show (y 0).val - 1536 + 1536 = (y 0).val; omega)).trans ?_
    unfold zs
    rw [dif_neg h, Read.val_main_v9_apply]
    rfl

end Cert.FrontRefIdeal.Value

end
-- ==== Proof.FrontClaim.lean ====
/-
  The front: the kernel and its reference end with the same three arrays at every input whose sorted tokens lie in range.
-/
module

public import proofs.«01_k».proof.Defs
public import proofs.«01_k».proof.Proof.FrontValue
public import proofs.«01_k».proof.Proof.FrontRefValue
public import proofs.«01_k».proof.Proof.Gen.FrontIdeal.Frame
public import proofs.«01_k».proof.Proof.Gen.FrontRefIdeal.Frame
public import proofs.«01_k».proof.Proof.Gen.Pre_tokens_in_range

@[expose] public section

noncomputable section

namespace Cert.FrontClaim

open Idealize.ShloMosaic Idealize.ShloMosaic.TcCoe Idealize.SL.Sem
open Idealize.ShloMosaic.ValueIdx

instance : Cert.FrontIdeal.Facts := Cert.FrontIdeal.Gen.facts
instance : Cert.FrontRefIdeal.Facts := Cert.FrontRefIdeal.Gen.facts
instance : Cert.Pre_tokens_in_range.Facts := Cert.Pre_tokens_in_range.Gen.facts

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

/-- The precondition bounds every token. -/
theorem tokens_lt (m : (ℓ : Loc Cert.FrontIdeal.nD Cert.FrontIdeal.τ Cert.FrontIdeal.sig) → Buf (Elt Ideal) ℓ)
    (h : Cert.Pre_FrontIdeal_tokens_in_range m) (c : Dev Cert.FrontIdeal.nD) (r : Fin 1536) :
    (Cert.FrontIdeal.Value.aI m c (ix2 0 r)).toNat < 256 := by
  have e := congrFun (h c) (ix2 0 r)
  simp only [Cert.Pre_tokens_in_range.fn, andi, cmpi, broadcastInDim, constantI, IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  show BitVec.toNat (m ((c : Thread Cert.FrontIdeal.nD Cert.FrontIdeal.τ).loc Cert.FrontIdeal.main_arg5) (ix2 0 r)) < 256
  omega

/-- From memories agreeing on the arguments, both programs end with `resCodes`, `resZ` and `resZs` of these arguments. -/
theorem algebraic : Cert.algebraic_FrontIdeal_FrontRefIdeal_pre_tokens_in_range := by
  intro m g m' g' hpre hagree
  have hb := tokens_lt m hpre
  refine ⟨fun c => Cert.FrontIdeal.Value.resCodes m c, fun c => Cert.FrontIdeal.Value.resZ m c, fun c => Cert.FrontIdeal.Value.resZs m c, ?_, ?_⟩
  · refine (θ_run _ _ _).mono (fun r h c => ?_) (Cert.FrontIdeal.Value.run_blocks m g)
    obtain ⟨h0, h1, h2, h3⟩ := h c
    exact ⟨h0.trans (Cert.FrontIdeal.Value.final_codes m c), h1.trans (Cert.FrontIdeal.Value.final_z m c),
      h2.trans (Cert.FrontIdeal.Value.final_zs m c (hb c)), h3⟩
  · refine (θ_run _ _ _).mono (fun r h c => ?_) (Cert.FrontRefIdeal.Value.run m' g')
    obtain ⟨h0, h1, h2, h3⟩ := h c
    obtain ⟨e0, e1, e2, e3, e4, e5⟩ := hagree c
    have hc : Cert.FrontRefIdeal.Value.resCodes m' c = Cert.FrontIdeal.Value.resCodes m c := by
      unfold Cert.FrontRefIdeal.Value.resCodes Cert.FrontRefIdeal.Value.aS Cert.FrontRefIdeal.Value.aH Cert.FrontRefIdeal.Value.aG
      rw [e0, e1, e2]
      rfl
    have hz : Cert.FrontRefIdeal.Value.resZ m' c = Cert.FrontIdeal.Value.resZ m c := by
      unfold Cert.FrontRefIdeal.Value.resZ Cert.FrontRefIdeal.Value.aS Cert.FrontRefIdeal.Value.aH Cert.FrontRefIdeal.Value.aG
        Cert.FrontRefIdeal.Value.aW Cert.FrontRefIdeal.Value.aV
      rw [e0, e1, e2, e3, e4]
      unfold Cert.FrontIdeal.Value.resZ Cert.FrontIdeal.Gen.k0_pay4
      dsimp only
      rw [shapeCast_self]
      rfl
    have hi : Cert.FrontRefIdeal.Value.aI m' c = Cert.FrontIdeal.Value.aI m c := e5
    refine ⟨(h0.trans (Cert.FrontRefIdeal.Value.final_codes m' c)).trans hc, (h1.trans (Cert.FrontRefIdeal.Value.final_z m' c)).trans hz, ?_, h3⟩
    refine (h2.trans (show _ = Cert.FrontRefIdeal.Read.val_main_v10 (F := Ideal) (Cert.FrontRefIdeal.Value.aI m' c) (Cert.FrontRefIdeal.Value.reg_main_v0_1 m' c) from rfl)).trans ?_
    rw [hi, Cert.FrontRefIdeal.Value.final_z, hz]
    exact Cert.FrontRefIdeal.Value.final_zs _ _ (hb c)

end Cert.FrontClaim

end
-- ==== Proof.CombineIndex.lean ====
/-
  The final call reads rows of a table whose numbers are an argument. Here: under the precondition that every row number lies
  in [0, 1536) each row the body asks for exists — which is what the body assumes of the words it reads.
-/
module

public import proofs.«01_k».proof.Defs
public import proofs.«01_k».proof.Proof.Gen.Combine.Frame
public import proofs.«01_k».proof.Proof.Gen.CombineIdeal.Frame
public import proofs.«01_k».proof.Proof.Gen.Pre_rows_in_range
public import Idealize.ShloMosaic.Lib.Pipeline.Value
public import Idealize.ShloMosaic.Lib.Tactic

@[expose] public section

noncomputable section

open Idealize.ShloMosaic Idealize.ShloMosaic.TcCoe Idealize.SL.Sem

namespace Cert.CombineIndex

instance : Cert.Pre_rows_in_range.Facts := Cert.Pre_rows_in_range.Gen.facts

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

end Cert.CombineIndex

/-! ## The kernel as printed, on bits -/

namespace Cert.Combine.Index

open Cert.Combine Cert.Combine.Gen

/-- Every row number lies below 1536. -/
theorem rows_lt (m : (ℓ : Loc nD τ sig) → Buf (Elt Bits) ℓ) (h : Cert.Pre_Combine m) (c : Dev nD) (y : S1536.Idx) :
    (m ((c : Thread nD τ).loc main_arg0) y).toNat < 1536 := by
  have e := congrFun (h c) y
  simp only [Cert.Pre_rows_in_range.fn, andi, cmpi, broadcastInDim, constantI, IntOp.cmpi, Cert.CombineIndex.andi_ofBool, Cert.CombineIndex.ofBool_eq_one, Bool.and_eq_true] at e
  obtain ⟨hge, hlt⟩ := e
  simp only [BitVec.sle, BitVec.slt, decide_eq_true_eq, BitVec.toInt, BitVec.toNat_ofNat] at hge hlt
  omega

/-- A row number below 1536 names a row of the table: what the body assumes of each of the six words a token reads. -/
theorem chk1_of_lt (w : BitVec 32) (h : w.toNat < 1536) : k0_chk1 w := fun a => by
  match a with
  | ⟨0, _⟩ => show w.toNat + 1 ≤ 1536; omega
  | ⟨1, _⟩ => show 0 + 1024 ≤ 1024; omega

theorem chk2_of_lt (w : BitVec 32) (h : w.toNat < 1536) : k0_chk2 w := fun a => by
  match a with
  | ⟨0, _⟩ => show w.toNat + 1 ≤ 1536; omega
  | ⟨1, _⟩ => show 0 + 1024 ≤ 1024; omega

theorem chk3_of_lt (w : BitVec 32) (h : w.toNat < 1536) : k0_chk3 w := fun a => by
  match a with
  | ⟨0, _⟩ => show w.toNat + 1 ≤ 1536; omega
  | ⟨1, _⟩ => show 0 + 1024 ≤ 1024; omega

theorem chk4_of_lt (w : BitVec 32) (h : w.toNat < 1536) : k0_chk4 w := fun a => by
  match a with
  | ⟨0, _⟩ => show w.toNat + 1 ≤ 1536; omega
  | ⟨1, _⟩ => show 0 + 1024 ≤ 1024; omega

theorem chk5_of_lt (w : BitVec 32) (h : w.toNat < 1536) : k0_chk5 w := fun a => by
  match a with
  | ⟨0, _⟩ => show w.toNat + 1 ≤ 1536; omega
  | ⟨1, _⟩ => show 0 + 1024 ≤ 1024; omega

theorem chk6_of_lt (w : BitVec 32) (h : w.toNat < 1536) : k0_chk6 w := fun a => by
  match a with
  | ⟨0, _⟩ => show w.toNat + 1 ≤ 1536; omega
  | ⟨1, _⟩ => show 0 + 1024 ≤ 1024; omega

/-- The side conditions the body assumes of the words it reads, from the precondition. -/
theorem hyps_of_pre (m : (ℓ : Loc nD τ sig) → Buf (Elt Bits) ℓ) (h : Cert.Pre_Combine m) : Hyps m := by
  intro c t
  have rd : ∀ i, (iblk m c 0 t i).toNat < 1536 := fun i => by
    unfold iblk; rw [View.read_apply, cast_eq]; exact rows_lt m h c _
  have at' : ∀ (r : LoadRect S1536) (i : r.shape.Idx), (((ms0_0 t).view.readAt (Elt Bits) r ((hs0_0 t).unread (iblk m c 0 t)) i : BitVec 32)).toNat < 1536 := fun r i => by
    rw [View.readAt_apply, (hs0_0 t).read_unread]; exact rd _
  refine ⟨?_, ?_, ?_, ?_, ?_, ?_⟩
  · intro kq hkq; exact chk1_of_lt _ (at' _ _)
  · intro kq hkq; exact chk2_of_lt _ (at' _ _)
  · intro kq hkq; exact chk3_of_lt _ (at' _ _)
  · intro kq hkq; exact chk4_of_lt _ (at' _ _)
  · intro kq hkq; exact chk5_of_lt _ (at' _ _)
  · intro kq hkq; exact chk6_of_lt _ (at' _ _)

end Cert.Combine.Index

/-! ## The kernel over the reals -/

namespace Cert.CombineIdeal.Index

open Cert.CombineIdeal Cert.CombineIdeal.Gen

/-- Every row number lies below 1536. -/
theorem rows_lt (m : (ℓ : Loc nD τ sig) → Buf (Elt Ideal) ℓ) (h : Cert.Pre_CombineIdeal m) (c : Dev nD) (y : S1536.Idx) :
    (m ((c : Thread nD τ).loc main_arg0) y).toNat < 1536 := by
  have e := congrFun (h c) y
  simp only [Cert.Pre_rows_in_range.fn, andi, cmpi, broadcastInDim, constantI, IntOp.cmpi, Cert.CombineIndex.andi_ofBool, Cert.CombineIndex.ofBool_eq_one, Bool.and_eq_true] at e
  obtain ⟨hge, hlt⟩ := e
  simp only [BitVec.sle, BitVec.slt, decide_eq_true_eq, BitVec.toInt, BitVec.toNat_ofNat] at hge hlt
  omega

/-- A row number below 1536 names a row of the table: what the body assumes of each of the six words a token reads. -/
theorem chk1_of_lt (w : BitVec 32) (h : w.toNat < 1536) : k0_chk1 w := fun a => by
  match a with
  | ⟨0, _⟩ => show w.toNat + 1 ≤ 1536; omega
  | ⟨1, _⟩ => show 0 + 1024 ≤ 1024; omega

theorem chk2_of_lt (w : BitVec 32) (h : w.toNat < 1536) : k0_chk2 w := fun a => by
  match a with
  | ⟨0, _⟩ => show w.toNat + 1 ≤ 1536; omega
  | ⟨1, _⟩ => show 0 + 1024 ≤ 1024; omega

theorem chk3_of_lt (w : BitVec 32) (h : w.toNat < 1536) : k0_chk3 w := fun a => by
  match a with
  | ⟨0, _⟩ => show w.toNat + 1 ≤ 1536; omega
  | ⟨1, _⟩ => show 0 + 1024 ≤ 1024; omega

theorem chk4_of_lt (w : BitVec 32) (h : w.toNat < 1536) : k0_chk4 w := fun a => by
  match a with
  | ⟨0, _⟩ => show w.toNat + 1 ≤ 1536; omega
  | ⟨1, _⟩ => show 0 + 1024 ≤ 1024; omega

theorem chk5_of_lt (w : BitVec 32) (h : w.toNat < 1536) : k0_chk5 w := fun a => by
  match a with
  | ⟨0, _⟩ => show w.toNat + 1 ≤ 1536; omega
  | ⟨1, _⟩ => show 0 + 1024 ≤ 1024; omega

theorem chk6_of_lt (w : BitVec 32) (h : w.toNat < 1536) : k0_chk6 w := fun a => by
  match a with
  | ⟨0, _⟩ => show w.toNat + 1 ≤ 1536; omega
  | ⟨1, _⟩ => show 0 + 1024 ≤ 1024; omega

/-- The side conditions the body assumes of the words it reads, from the precondition. -/
theorem hyps_of_pre (m : (ℓ : Loc nD τ sig) → Buf (Elt Ideal) ℓ) (h : Cert.Pre_CombineIdeal m) : Hyps m := by
  intro c t
  have rd : ∀ i, (iblk m c 0 t i).toNat < 1536 := fun i => by
    unfold iblk; rw [View.read_apply, cast_eq]; exact rows_lt m h c _
  have at' : ∀ (r : LoadRect S1536) (i : r.shape.Idx), (((ms0_0 t).view.readAt (Elt Ideal) r ((hs0_0 t).unread (iblk m c 0 t)) i : BitVec 32)).toNat < 1536 := fun r i => by
    rw [View.readAt_apply, (hs0_0 t).read_unread]; exact rd _
  refine ⟨?_, ?_, ?_, ?_, ?_, ?_⟩
  · intro kq hkq; exact chk1_of_lt _ (at' _ _)
  · intro kq hkq; exact chk2_of_lt _ (at' _ _)
  · intro kq hkq; exact chk3_of_lt _ (at' _ _)
  · intro kq hkq; exact chk4_of_lt _ (at' _ _)
  · intro kq hkq; exact chk5_of_lt _ (at' _ _)
  · intro kq hkq; exact chk6_of_lt _ (at' _ _)

/-! Where trip `k` of the loop over the tokens reads and writes: words `6 k … 6 k + 5`, row `k` of the result. -/

theorem trips_eq : k0_t1_loop.trips = 256 := by decide +kernel
theorem off1 : ∀ k : Fin k0_t1_loop.trips, k0_off1 k 0 = 6 * k.val := by decide +kernel
theorem off3 : ∀ k : Fin k0_t1_loop.trips, k0_off3 k 0 = 6 * k.val + 1 := by decide +kernel
theorem off5 : ∀ k : Fin k0_t1_loop.trips, k0_off5 k 0 = 6 * k.val + 2 := by decide +kernel
theorem off7 : ∀ k : Fin k0_t1_loop.trips, k0_off7 k 0 = 6 * k.val + 3 := by decide +kernel
theorem off9 : ∀ k : Fin k0_t1_loop.trips, k0_off9 k 0 = 6 * k.val + 4 := by decide +kernel
theorem off11 : ∀ k : Fin k0_t1_loop.trips, k0_off11 k 0 = 6 * k.val + 5 := by decide +kernel
theorem off13_row : ∀ k : Fin k0_t1_loop.trips, k0_off13 k 0 = k.val := by decide +kernel
theorem off13_col : ∀ k : Fin k0_t1_loop.trips, k0_off13 k 1 = 0 := by decide +kernel

end Cert.CombineIdeal.Index

end
-- ==== Proof.CombineLoop.lean ====
/-
  The final call's loop over the tokens: trip `k` writes row `k` of the combined rows, the sum over the token's six experts of
  weight times row. So the pieces of all 256 trips together are the combined rows.
-/
module

public import proofs.«01_k».proof.Proof.CombineIndex
public import Idealize.ShloMosaic.Lib.ValueIdx
public import Idealize.ShloMosaic.PureOps.Ideal

@[expose] public section

noncomputable section

open Idealize.ShloMosaic Idealize.ShloMosaic.TcCoe Idealize.SL.Sem
open Idealize.ShloMosaic.ValueIdx

namespace Cert.CombineMath

/-- Word `6 t + i` of 1536: the place of token `t`'s `i`-th expert. -/
abbrev slot (t : Fin 256) (i : Fin 6) : Fin 1536 := ⟨6 * t.val + i.val, by omega⟩

/-- Token `t`'s `i`-th term at column `j`: the expert's weight times the row that `pos` names. -/
def term (pos : IVec Cert.CombineIdeal.S1536 32) (w : FVec Ideal Cert.CombineIdeal.S1536 .f32) (eo : FVec Ideal Cert.CombineIdeal.S1536x1024 .f32)
    (t : Fin 256) (i : Fin 6) (j : Fin 1024) : EReal :=
  w (ix1 (slot t i)) * eo (ix2 ⟨(pos (ix1 (slot t i))).toNat % 1536, Nat.mod_lt _ (by decide)⟩ j)

/-- The combined rows: row `t` is the sum of token `t`'s six terms. -/
def combine (pos : IVec Cert.CombineIdeal.S1536 32) (w : FVec Ideal Cert.CombineIdeal.S1536 .f32) (eo : FVec Ideal Cert.CombineIdeal.S1536x1024 .f32) :
    FVec Ideal Cert.CombineIdeal.S256x1024 .f32 := fun y => ∑ i : Fin 6, term pos w eo (y 0) i (y 1)

end Cert.CombineMath

namespace Cert.CombineIdeal.Value

open Cert.CombineIdeal Cert.CombineIdeal.Gen Cert.CombineIdeal.Index Cert.CombineMath

/-- What one trip writes, in the words and rows it reads: one store of the sum at row `k`. -/
theorem trip_list (𝒱 : Variants) (c : Dev nD) (bd : Option 𝒱.V) (arg0 : Memref sig .tc .smem S1536 .i32) (harg0 : arg0.IsWhole) (arg1 : Memref sig .tc .smem S1536 .f32) (harg1 : arg1.IsWhole) (arg2 : Memref sig .tc .vmem S1536x1024 .f32) (harg2 : arg2.IsWhole) (arg3 : Memref sig .tc .vmem S1024x4096 .fp8e4m3) (harg3 : arg3.IsWhole) (arg4 : Memref sig .tc .vmem S1x4096 .f32) (harg4 : arg4.IsWhole) (arg5 : Memref sig .tc .vmem S256x4096 .bf16) (harg5 : arg5.IsWhole) (arg6 : Memref sig .tc .vmem S256x4096 .f32) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S256x1024 .fp8e4m3) (harg9 : arg9.IsWhole) (arg10 : Memref sig .tc .vmem S256x1 .f32) (harg10 : arg10.IsWhole)
    (x0 : Vec Ideal S1536 .i32) (x1 : Vec Ideal S1536 .f32) (x2 : Vec Ideal S1536x1024 .f32) (k : Fin k0_t1_loop.trips) (k0_hw1 : k0_chk1 (arg0.view.readAt (Elt Ideal) (Rect.unit (s := S1536) (k0_off1 k) S1.size (k0_off1_inb k)).toLoadRect (harg0.unread x0) (Shape.Idx.first (numel1_S1.symm ▸ Nat.one_pos)))) (k0_hw2 : k0_chk2 (arg0.view.readAt (Elt Ideal) (Rect.unit (s := S1536) (k0_off3 k) S1.size (k0_off3_inb k)).toLoadRect (harg0.unread x0) (Shape.Idx.first (numel1_S1.symm ▸ Nat.one_pos)))) (k0_hw3 : k0_chk3 (arg0.view.readAt (Elt Ideal) (Rect.unit (s := S1536) (k0_off5 k) S1.size (k0_off5_inb k)).toLoadRect (harg0.unread x0) (Shape.Idx.first (numel1_S1.symm ▸ Nat.one_pos)))) (k0_hw4 : k0_chk4 (arg0.view.readAt (Elt Ideal) (Rect.unit (s := S1536) (k0_off7 k) S1.size (k0_off7_inb k)).toLoadRect (harg0.unread x0) (Shape.Idx.first (numel1_S1.symm ▸ Nat.one_pos)))) (k0_hw5 : k0_chk5 (arg0.view.readAt (Elt Ideal) (Rect.unit (s := S1536) (k0_off9 k) S1.size (k0_off9_inb k)).toLoadRect (harg0.unread x0) (Shape.Idx.first (numel1_S1.symm ▸ Nat.one_pos)))) (k0_hw6 : k0_chk6 (arg0.view.readAt (Elt Ideal) (Rect.unit (s := S1536) (k0_off11 k) S1.size (k0_off11_inb k)).toLoadRect (harg0.unread x0) (Shape.Idx.first (numel1_S1.symm ▸ Nat.one_pos)))) :
    tripL_k0_t1 (F := Ideal) 𝒱 c bd arg0 harg0 arg1 harg1 arg2 harg2 arg3 harg3 arg4 harg4 arg5 harg5 arg6 harg6 arg7 harg7 arg8 harg8 arg9 harg9 arg10 harg10 (harg0.unread x0) (harg1.unread x1) (harg2.unread x2) k k0_hw1 k0_hw2 k0_hw3 k0_hw4 k0_hw5 k0_hw6
      = [(⟨Rect.unit (s := S256x1024) (k0_off13 k) S1x1024.size (k0_off13_inb k),
          (k0_pay3 (k0_pay2 (arg1.view.readAt (Elt Ideal) (Rect.unit (s := S1536) (k0_off1 k) S1.size (k0_off1_inb k)).toLoadRect (harg1.unread x1) (Shape.Idx.first (numel1_S1.symm ▸ Nat.one_pos))) (arg2.view.readAt (Elt Ideal) (Rect.unit (s := S1536x1024) (k0_off2 (arg0.view.readAt (Elt Ideal) (Rect.unit (s := S1536) (k0_off1 k) S1.size (k0_off1_inb k)).toLoadRect (harg0.unread x0) (Shape.Idx.first (numel1_S1.symm ▸ Nat.one_pos)))) S1x1024.size (k0_off2_inb _ k0_hw1)).toLoadRect (harg2.unread x2)) (arg1.view.readAt (Elt Ideal) (Rect.unit (s := S1536) (k0_off3 k) S1.size (k0_off3_inb k)).toLoadRect (harg1.unread x1) (Shape.Idx.first (numel1_S1.symm ▸ Nat.one_pos))) (arg2.view.readAt (Elt Ideal) (Rect.unit (s := S1536x1024) (k0_off4 (arg0.view.readAt (Elt Ideal) (Rect.unit (s := S1536) (k0_off3 k) S1.size (k0_off3_inb k)).toLoadRect (harg0.unread x0) (Shape.Idx.first (numel1_S1.symm ▸ Nat.one_pos)))) S1x1024.size (k0_off4_inb _ k0_hw2)).toLoadRect (harg2.unread x2)) (arg1.view.readAt (Elt Ideal) (Rect.unit (s := S1536) (k0_off5 k) S1.size (k0_off5_inb k)).toLoadRect (harg1.unread x1) (Shape.Idx.first (numel1_S1.symm ▸ Nat.one_pos))) (arg2.view.readAt (Elt Ideal) (Rect.unit (s := S1536x1024) (k0_off6 (arg0.view.readAt (Elt Ideal) (Rect.unit (s := S1536) (k0_off5 k) S1.size (k0_off5_inb k)).toLoadRect (harg0.unread x0) (Shape.Idx.first (numel1_S1.symm ▸ Nat.one_pos)))) S1x1024.size (k0_off6_inb _ k0_hw3)).toLoadRect (harg2.unread x2))) (arg1.view.readAt (Elt Ideal) (Rect.unit (s := S1536) (k0_off7 k) S1.size (k0_off7_inb k)).toLoadRect (harg1.unread x1) (Shape.Idx.first (numel1_S1.symm ▸ Nat.one_pos))) (arg2.view.readAt (Elt Ideal) (Rect.unit (s := S1536x1024) (k0_off8 (arg0.view.readAt (Elt Ideal) (Rect.unit (s := S1536) (k0_off7 k) S1.size (k0_off7_inb k)).toLoadRect (harg0.unread x0) (Shape.Idx.first (numel1_S1.symm ▸ Nat.one_pos)))) S1x1024.size (k0_off8_inb _ k0_hw4)).toLoadRect (harg2.unread x2)) (arg1.view.readAt (Elt Ideal) (Rect.unit (s := S1536) (k0_off9 k) S1.size (k0_off9_inb k)).toLoadRect (harg1.unread x1) (Shape.Idx.first (numel1_S1.symm ▸ Nat.one_pos))) (arg2.view.readAt (Elt Ideal) (Rect.unit (s := S1536x1024) (k0_off10 (arg0.view.readAt (Elt Ideal) (Rect.unit (s := S1536) (k0_off9 k) S1.size (k0_off9_inb k)).toLoadRect (harg0.unread x0) (Shape.Idx.first (numel1_S1.symm ▸ Nat.one_pos)))) S1x1024.size (k0_off10_inb _ k0_hw5)).toLoadRect (harg2.unread x2)) (arg1.view.readAt (Elt Ideal) (Rect.unit (s := S1536) (k0_off11 k) S1.size (k0_off11_inb k)).toLoadRect (harg1.unread x1) (Shape.Idx.first (numel1_S1.symm ▸ Nat.one_pos))) (arg2.view.readAt (Elt Ideal) (Rect.unit (s := S1536x1024) (k0_off12 (arg0.view.readAt (Elt Ideal) (Rect.unit (s := S1536) (k0_off11 k) S1.size (k0_off11_inb k)).toLoadRect (harg0.unread x0) (Shape.Idx.first (numel1_S1.symm ▸ Nat.one_pos)))) S1x1024.size (k0_off12_inb _ k0_hw6)).toLoadRect (harg2.unread x2)))⟩ : View.Piece (Elt Ideal) S256x1024 .f32)] := by
  unfold tripL_k0_t1 trip_k0_t1
  rfl

/-! ## One trip's words and rows -/

/-- One word of a list of 1536, read where `off` says. -/
theorem word_at {e : EltTy} (a : Memref sig .tc .smem S1536 e) (ha : a.IsWhole) (x : Vec Ideal S1536 e) (off : Fin 1 → Nat)
    (inb : ∀ d, off d + S1.size d ≤ S1536.size d) (n : Fin 1536) (ho : off 0 = n.val) (i : (Rect.unit (s := S1536) off S1.size inb).toLoadRect.shape.Idx) :
    a.view.readAt (Elt Ideal) (Rect.unit (s := S1536) off S1.size inb).toLoadRect (ha.unread x) i = x (ix1 n) := by
  rw [View.readAt_apply, ha.read_unread]
  refine congrArg x (funext fun d => Fin.ext ?_)
  have h0 : d = 0 := Subsingleton.elim _ _
  subst h0
  have hi : (i 0 : Nat) = 0 := Nat.lt_one_iff.1 (i 0).isLt
  show off 0 + 1 * (i 0 : Nat) = n.val
  rw [hi, ho]; omega

/-- One row of the table, read where `off` says. -/
theorem row_at (a : Memref sig .tc .vmem S1536x1024 .f32) (ha : a.IsWhole) (x : Vec Ideal S1536x1024 .f32) (off : Fin 2 → Nat)
    (inb : ∀ d, off d + S1x1024.size d ≤ S1536x1024.size d) (n : Fin 1536) (h0 : off 0 = n.val) (h1 : off 1 = 0) (y : S1x1024.Idx) :
    a.view.readAt (Elt Ideal) (Rect.unit (s := S1536x1024) off S1x1024.size inb).toLoadRect (ha.unread x) y = x (ix2 n (y 1)) := by
  rw [View.readAt_apply, ha.read_unread]
  refine congrArg x (funext fun d => Fin.ext ?_)
  match d with
  | ⟨0, _⟩ =>
    have hi : (y 0 : Nat) = 0 := Nat.lt_one_iff.1 (y 0).isLt
    show off 0 + 1 * (y 0 : Nat) = n.val
    rw [hi, h0]; omega
  | ⟨1, _⟩ =>
    show off 1 + 1 * (y 1 : Nat) = (y 1 : Nat)
    rw [h1]; omega

/-- The row a word names is the row its remainder names, when the body may read it. -/
theorem row_of_word (a : Memref sig .tc .vmem S1536x1024 .f32) (ha : a.IsWhole) (x : Vec Ideal S1536x1024 .f32) (pos : BitVec 32) (w : BitVec 32) (hw : w = pos)
    (inb : ∀ d, (![w.toNat, 0] : Fin 2 → Nat) d + S1x1024.size d ≤ S1536x1024.size d) (y : S1x1024.Idx) :
    a.view.readAt (Elt Ideal) (Rect.unit (s := S1536x1024) ![w.toNat, 0] S1x1024.size inb).toLoadRect (ha.unread x) y
      = x (ix2 ⟨pos.toNat % 1536, Nat.mod_lt _ (by decide)⟩ (y 1)) := by
  subst hw
  have h := inb 0
  have h' : w.toNat + 1 ≤ 1536 := h
  have e : w.toNat = w.toNat % 1536 := (Nat.mod_eq_of_lt h').symm
  exact row_at a ha x _ inb ⟨w.toNat % 1536, Nat.mod_lt _ (by decide)⟩ e rfl y

/-- What a trip stores, at column `y 1`: the sum of the six products, the first first. -/
theorem pay_apply (a b c d e f : Elt Ideal .f32) (u v w x y z : Vec Ideal S1x1024 .f32) (i : S1x1024.Idx) :
    k0_pay3 (F := Ideal) (k0_pay2 a u b v c w) d x e y f z i
      = ((((((a : EReal) * u i + b * v i) + c * w i) + d * x i) + e * y i) + f * z i : EReal) := rfl

/-- Where a trip stores: row `k`. -/
theorem emb_row (k : Fin k0_t1_loop.trips) (y : S1x1024.Idx) :
    (Rect.unit (s := S256x1024) (k0_off13 k) S1x1024.size (k0_off13_inb k)).emb y
      = ix2 ⟨k.val, trips_eq ▸ k.isLt⟩ (y 1) := by
  refine funext fun d => Fin.ext ?_
  match d with
  | ⟨0, _⟩ =>
    have hi : (y 0 : Nat) = 0 := Nat.lt_one_iff.1 (y 0).isLt
    show k0_off13 k 0 + 1 * (y 0 : Nat) = k.val
    rw [hi, off13_row]; omega
  | ⟨1, _⟩ =>
    show k0_off13 k 1 + 1 * (y 1 : Nat) = (y 1 : Nat)
    rw [off13_col]; omega

/-- Every piece of trip `k` agrees with the combined rows. -/
theorem trip_agrees (𝒱 : Variants) (c : Dev nD) (bd : Option 𝒱.V) (arg0 : Memref sig .tc .smem S1536 .i32) (harg0 : arg0.IsWhole) (arg1 : Memref sig .tc .smem S1536 .f32) (harg1 : arg1.IsWhole) (arg2 : Memref sig .tc .vmem S1536x1024 .f32) (harg2 : arg2.IsWhole) (arg3 : Memref sig .tc .vmem S1024x4096 .fp8e4m3) (harg3 : arg3.IsWhole) (arg4 : Memref sig .tc .vmem S1x4096 .f32) (harg4 : arg4.IsWhole) (arg5 : Memref sig .tc .vmem S256x4096 .bf16) (harg5 : arg5.IsWhole) (arg6 : Memref sig .tc .vmem S256x4096 .f32) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S256x1024 .fp8e4m3) (harg9 : arg9.IsWhole) (arg10 : Memref sig .tc .vmem S256x1 .f32) (harg10 : arg10.IsWhole)
    (x0 : Vec Ideal S1536 .i32) (x1 : Vec Ideal S1536 .f32) (x2 : Vec Ideal S1536x1024 .f32) (k : Fin k0_t1_loop.trips) (k0_hw1 : k0_chk1 (arg0.view.readAt (Elt Ideal) (Rect.unit (s := S1536) (k0_off1 k) S1.size (k0_off1_inb k)).toLoadRect (harg0.unread x0) (Shape.Idx.first (numel1_S1.symm ▸ Nat.one_pos)))) (k0_hw2 : k0_chk2 (arg0.view.readAt (Elt Ideal) (Rect.unit (s := S1536) (k0_off3 k) S1.size (k0_off3_inb k)).toLoadRect (harg0.unread x0) (Shape.Idx.first (numel1_S1.symm ▸ Nat.one_pos)))) (k0_hw3 : k0_chk3 (arg0.view.readAt (Elt Ideal) (Rect.unit (s := S1536) (k0_off5 k) S1.size (k0_off5_inb k)).toLoadRect (harg0.unread x0) (Shape.Idx.first (numel1_S1.symm ▸ Nat.one_pos)))) (k0_hw4 : k0_chk4 (arg0.view.readAt (Elt Ideal) (Rect.unit (s := S1536) (k0_off7 k) S1.size (k0_off7_inb k)).toLoadRect (harg0.unread x0) (Shape.Idx.first (numel1_S1.symm ▸ Nat.one_pos)))) (k0_hw5 : k0_chk5 (arg0.view.readAt (Elt Ideal) (Rect.unit (s := S1536) (k0_off9 k) S1.size (k0_off9_inb k)).toLoadRect (harg0.unread x0) (Shape.Idx.first (numel1_S1.symm ▸ Nat.one_pos)))) (k0_hw6 : k0_chk6 (arg0.view.readAt (Elt Ideal) (Rect.unit (s := S1536) (k0_off11 k) S1.size (k0_off11_inb k)).toLoadRect (harg0.unread x0) (Shape.Idx.first (numel1_S1.symm ▸ Nat.one_pos)))) :
    ∀ p ∈ tripL_k0_t1 (F := Ideal) 𝒱 c bd arg0 harg0 arg1 harg1 arg2 harg2 arg3 harg3 arg4 harg4 arg5 harg5 arg6 harg6 arg7 harg7 arg8 harg8 arg9 harg9 arg10 harg10 (harg0.unread x0) (harg1.unread x1) (harg2.unread x2) k k0_hw1 k0_hw2 k0_hw3 k0_hw4 k0_hw5 k0_hw6,
      ∀ y : p.1.shape.Idx, p.2 y = combine x0 x1 x2 (p.1.emb y) := by
  rw [trip_list]
  intro p hp
  rw [List.mem_singleton] at hp
  subst hp
  intro y
  have hk : k.val < 256 := trips_eq ▸ k.isLt
  refine (pay_apply _ _ _ _ _ _ _ _ _ _ _ _ y).trans ?_
  have hy := emb_row k y
  refine Eq.trans ?_ (congrArg (combine x0 x1 x2) hy).symm
  have wt : ∀ (i : Fin 6) (off : Fin 1 → Nat) (inb) (ho : off 0 = 6 * k.val + i.val) (j),
      arg1.view.readAt (Elt Ideal) (Rect.unit (s := S1536) off S1.size inb).toLoadRect (harg1.unread x1) j = x1 (ix1 (slot ⟨k.val, hk⟩ i)) :=
    fun i off inb ho j => word_at arg1 harg1 x1 off inb (slot ⟨k.val, hk⟩ i) ho j
  have wd : ∀ (i : Fin 6) (off : Fin 1 → Nat) (inb) (ho : off 0 = 6 * k.val + i.val) (j),
      arg0.view.readAt (Elt Ideal) (Rect.unit (s := S1536) off S1.size inb).toLoadRect (harg0.unread x0) j = x0 (ix1 (slot ⟨k.val, hk⟩ i)) :=
    fun i off inb ho j => word_at arg0 harg0 x0 off inb (slot ⟨k.val, hk⟩ i) ho j
  have hs : combine x0 x1 x2 (ix2 ⟨k.val, hk⟩ (y 1)) = ∑ i : Fin 6, term x0 x1 x2 ⟨k.val, hk⟩ i (y 1) := rfl
  refine Eq.trans ?_ hs.symm
  rw [Fin.sum_univ_six]
  unfold term
  rw [wt 0 _ _ (off1 k), wt 1 _ _ (off3 k), wt 2 _ _ (off5 k), wt 3 _ _ (off7 k), wt 4 _ _ (off9 k), wt 5 _ _ (off11 k)]
  have r1 := row_of_word arg2 harg2 x2 (x0 (ix1 (slot ⟨k.val, hk⟩ 0))) (arg0.view.readAt (Elt Ideal) (Rect.unit (s := S1536) (k0_off1 k) S1.size (k0_off1_inb k)).toLoadRect (harg0.unread x0) (Shape.Idx.first (numel1_S1.symm ▸ Nat.one_pos))) (wd 0 _ _ (off1 k) _) (k0_off2_inb _ k0_hw1) y
  have r2 := row_of_word arg2 harg2 x2 (x0 (ix1 (slot ⟨k.val, hk⟩ 1))) (arg0.view.readAt (Elt Ideal) (Rect.unit (s := S1536) (k0_off3 k) S1.size (k0_off3_inb k)).toLoadRect (harg0.unread x0) (Shape.Idx.first (numel1_S1.symm ▸ Nat.one_pos))) (wd 1 _ _ (off3 k) _) (k0_off4_inb _ k0_hw2) y
  have r3 := row_of_word arg2 harg2 x2 (x0 (ix1 (slot ⟨k.val, hk⟩ 2))) (arg0.view.readAt (Elt Ideal) (Rect.unit (s := S1536) (k0_off5 k) S1.size (k0_off5_inb k)).toLoadRect (harg0.unread x0) (Shape.Idx.first (numel1_S1.symm ▸ Nat.one_pos))) (wd 2 _ _ (off5 k) _) (k0_off6_inb _ k0_hw3) y
  have r4 := row_of_word arg2 harg2 x2 (x0 (ix1 (slot ⟨k.val, hk⟩ 3))) (arg0.view.readAt (Elt Ideal) (Rect.unit (s := S1536) (k0_off7 k) S1.size (k0_off7_inb k)).toLoadRect (harg0.unread x0) (Shape.Idx.first (numel1_S1.symm ▸ Nat.one_pos))) (wd 3 _ _ (off7 k) _) (k0_off8_inb _ k0_hw4) y
  have r5 := row_of_word arg2 harg2 x2 (x0 (ix1 (slot ⟨k.val, hk⟩ 4))) (arg0.view.readAt (Elt Ideal) (Rect.unit (s := S1536) (k0_off9 k) S1.size (k0_off9_inb k)).toLoadRect (harg0.unread x0) (Shape.Idx.first (numel1_S1.symm ▸ Nat.one_pos))) (wd 4 _ _ (off9 k) _) (k0_off10_inb _ k0_hw5) y
  have r6 := row_of_word arg2 harg2 x2 (x0 (ix1 (slot ⟨k.val, hk⟩ 5))) (arg0.view.readAt (Elt Ideal) (Rect.unit (s := S1536) (k0_off11 k) S1.size (k0_off11_inb k)).toLoadRect (harg0.unread x0) (Shape.Idx.first (numel1_S1.symm ▸ Nat.one_pos))) (wd 5 _ _ (off11 k) _) (k0_off12_inb _ k0_hw6) y
  exact congrArg₂ (· + ·) (congrArg₂ (· + ·) (congrArg₂ (· + ·) (congrArg₂ (· + ·) (congrArg₂ (· + ·)
    (congrArg (x1 (ix1 (slot ⟨k.val, hk⟩ 0)) * ·) r1) (congrArg (x1 (ix1 (slot ⟨k.val, hk⟩ 1)) * ·) r2)) (congrArg (x1 (ix1 (slot ⟨k.val, hk⟩ 2)) * ·) r3))
    (congrArg (x1 (ix1 (slot ⟨k.val, hk⟩ 3)) * ·) r4)) (congrArg (x1 (ix1 (slot ⟨k.val, hk⟩ 4)) * ·) r5)) (congrArg (x1 (ix1 (slot ⟨k.val, hk⟩ 5)) * ·) r6)

/-- Every piece of the trips before `n` agrees with the combined rows. -/
theorem pieces_agree (𝒱 : Variants) (c : Dev nD) (bd : Option 𝒱.V) (arg0 : Memref sig .tc .smem S1536 .i32) (harg0 : arg0.IsWhole) (arg1 : Memref sig .tc .smem S1536 .f32) (harg1 : arg1.IsWhole) (arg2 : Memref sig .tc .vmem S1536x1024 .f32) (harg2 : arg2.IsWhole) (arg3 : Memref sig .tc .vmem S1024x4096 .fp8e4m3) (harg3 : arg3.IsWhole) (arg4 : Memref sig .tc .vmem S1x4096 .f32) (harg4 : arg4.IsWhole) (arg5 : Memref sig .tc .vmem S256x4096 .bf16) (harg5 : arg5.IsWhole) (arg6 : Memref sig .tc .vmem S256x4096 .f32) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S256x1024 .fp8e4m3) (harg9 : arg9.IsWhole) (arg10 : Memref sig .tc .vmem S256x1 .f32) (harg10 : arg10.IsWhole)
    (x0 : Vec Ideal S1536 .i32) (x1 : Vec Ideal S1536 .f32) (x2 : Vec Ideal S1536x1024 .f32) (k0_hw1L : ∀ (kq : ℕ) (hkq : kq < k0_t1_loop.trips), k0_chk1 (arg0.view.readAt (Elt Ideal) (Rect.unit (s := S1536) (k0_off1 ⟨kq, hkq⟩) S1.size (k0_off1_inb ⟨kq, hkq⟩)).toLoadRect (harg0.unread x0) (Shape.Idx.first (numel1_S1.symm ▸ Nat.one_pos)))) (k0_hw2L : ∀ (kq : ℕ) (hkq : kq < k0_t1_loop.trips), k0_chk2 (arg0.view.readAt (Elt Ideal) (Rect.unit (s := S1536) (k0_off3 ⟨kq, hkq⟩) S1.size (k0_off3_inb ⟨kq, hkq⟩)).toLoadRect (harg0.unread x0) (Shape.Idx.first (numel1_S1.symm ▸ Nat.one_pos)))) (k0_hw3L : ∀ (kq : ℕ) (hkq : kq < k0_t1_loop.trips), k0_chk3 (arg0.view.readAt (Elt Ideal) (Rect.unit (s := S1536) (k0_off5 ⟨kq, hkq⟩) S1.size (k0_off5_inb ⟨kq, hkq⟩)).toLoadRect (harg0.unread x0) (Shape.Idx.first (numel1_S1.symm ▸ Nat.one_pos)))) (k0_hw4L : ∀ (kq : ℕ) (hkq : kq < k0_t1_loop.trips), k0_chk4 (arg0.view.readAt (Elt Ideal) (Rect.unit (s := S1536) (k0_off7 ⟨kq, hkq⟩) S1.size (k0_off7_inb ⟨kq, hkq⟩)).toLoadRect (harg0.unread x0) (Shape.Idx.first (numel1_S1.symm ▸ Nat.one_pos)))) (k0_hw5L : ∀ (kq : ℕ) (hkq : kq < k0_t1_loop.trips), k0_chk5 (arg0.view.readAt (Elt Ideal) (Rect.unit (s := S1536) (k0_off9 ⟨kq, hkq⟩) S1.size (k0_off9_inb ⟨kq, hkq⟩)).toLoadRect (harg0.unread x0) (Shape.Idx.first (numel1_S1.symm ▸ Nat.one_pos)))) (k0_hw6L : ∀ (kq : ℕ) (hkq : kq < k0_t1_loop.trips), k0_chk6 (arg0.view.readAt (Elt Ideal) (Rect.unit (s := S1536) (k0_off11 ⟨kq, hkq⟩) S1.size (k0_off11_inb ⟨kq, hkq⟩)).toLoadRect (harg0.unread x0) (Shape.Idx.first (numel1_S1.symm ▸ Nat.one_pos)))) :
    ∀ n : ℕ, n ≤ k0_t1_loop.trips → ∀ p ∈ pb_k0_t1 (F := Ideal) 𝒱 c bd arg0 harg0 arg1 harg1 arg2 harg2 arg3 harg3 arg4 harg4 arg5 harg5 arg6 harg6 arg7 harg7 arg8 harg8 arg9 harg9 arg10 harg10 (harg0.unread x0) (harg1.unread x1) (harg2.unread x2) k0_hw1L k0_hw2L k0_hw3L k0_hw4L k0_hw5L k0_hw6L n, ∀ y : p.1.shape.Idx, p.2 y = combine x0 x1 x2 (p.1.emb y)
  | 0, _ => fun p hp => absurd hp List.not_mem_nil
  | n + 1, h => by
    have e := pb_k0_t1_succ (F := Ideal) 𝒱 c bd arg0 harg0 arg1 harg1 arg2 harg2 arg3 harg3 arg4 harg4 arg5 harg5 arg6 harg6 arg7 harg7 arg8 harg8 arg9 harg9 arg10 harg10 (harg0.unread x0) (harg1.unread x1) (harg2.unread x2) k0_hw1L k0_hw2L k0_hw3L k0_hw4L k0_hw5L k0_hw6L ⟨n, h⟩
    intro p hp
    rw [show pb_k0_t1 (F := Ideal) 𝒱 c bd arg0 harg0 arg1 harg1 arg2 harg2 arg3 harg3 arg4 harg4 arg5 harg5 arg6 harg6 arg7 harg7 arg8 harg8 arg9 harg9 arg10 harg10 (harg0.unread x0) (harg1.unread x1) (harg2.unread x2) k0_hw1L k0_hw2L k0_hw3L k0_hw4L k0_hw5L k0_hw6L (n + 1) = _ from e] at hp
    rcases List.mem_append.1 hp with hp | hp
    · exact trip_agrees 𝒱 c bd arg0 harg0 arg1 harg1 arg2 harg2 arg3 harg3 arg4 harg4 arg5 harg5 arg6 harg6 arg7 harg7 arg8 harg8 arg9 harg9 arg10 harg10 x0 x1 x2 ⟨n, h⟩ _ _ _ _ _ _ p hp
    · exact pieces_agree 𝒱 c bd arg0 harg0 arg1 harg1 arg2 harg2 arg3 harg3 arg4 harg4 arg5 harg5 arg6 harg6 arg7 harg7 arg8 harg8 arg9 harg9 arg10 harg10 x0 x1 x2 k0_hw1L k0_hw2L k0_hw3L k0_hw4L k0_hw5L k0_hw6L n (Nat.le_of_succ_le h) p hp

/-- The trips before `n` write every row below `n`. -/
theorem pieces_cover (𝒱 : Variants) (c : Dev nD) (bd : Option 𝒱.V) (arg0 : Memref sig .tc .smem S1536 .i32) (harg0 : arg0.IsWhole) (arg1 : Memref sig .tc .smem S1536 .f32) (harg1 : arg1.IsWhole) (arg2 : Memref sig .tc .vmem S1536x1024 .f32) (harg2 : arg2.IsWhole) (arg3 : Memref sig .tc .vmem S1024x4096 .fp8e4m3) (harg3 : arg3.IsWhole) (arg4 : Memref sig .tc .vmem S1x4096 .f32) (harg4 : arg4.IsWhole) (arg5 : Memref sig .tc .vmem S256x4096 .bf16) (harg5 : arg5.IsWhole) (arg6 : Memref sig .tc .vmem S256x4096 .f32) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S256x1024 .fp8e4m3) (harg9 : arg9.IsWhole) (arg10 : Memref sig .tc .vmem S256x1 .f32) (harg10 : arg10.IsWhole)
    (x0 : Vec Ideal S1536 .i32) (x1 : Vec Ideal S1536 .f32) (x2 : Vec Ideal S1536x1024 .f32) (k0_hw1L : ∀ (kq : ℕ) (hkq : kq < k0_t1_loop.trips), k0_chk1 (arg0.view.readAt (Elt Ideal) (Rect.unit (s := S1536) (k0_off1 ⟨kq, hkq⟩) S1.size (k0_off1_inb ⟨kq, hkq⟩)).toLoadRect (harg0.unread x0) (Shape.Idx.first (numel1_S1.symm ▸ Nat.one_pos)))) (k0_hw2L : ∀ (kq : ℕ) (hkq : kq < k0_t1_loop.trips), k0_chk2 (arg0.view.readAt (Elt Ideal) (Rect.unit (s := S1536) (k0_off3 ⟨kq, hkq⟩) S1.size (k0_off3_inb ⟨kq, hkq⟩)).toLoadRect (harg0.unread x0) (Shape.Idx.first (numel1_S1.symm ▸ Nat.one_pos)))) (k0_hw3L : ∀ (kq : ℕ) (hkq : kq < k0_t1_loop.trips), k0_chk3 (arg0.view.readAt (Elt Ideal) (Rect.unit (s := S1536) (k0_off5 ⟨kq, hkq⟩) S1.size (k0_off5_inb ⟨kq, hkq⟩)).toLoadRect (harg0.unread x0) (Shape.Idx.first (numel1_S1.symm ▸ Nat.one_pos)))) (k0_hw4L : ∀ (kq : ℕ) (hkq : kq < k0_t1_loop.trips), k0_chk4 (arg0.view.readAt (Elt Ideal) (Rect.unit (s := S1536) (k0_off7 ⟨kq, hkq⟩) S1.size (k0_off7_inb ⟨kq, hkq⟩)).toLoadRect (harg0.unread x0) (Shape.Idx.first (numel1_S1.symm ▸ Nat.one_pos)))) (k0_hw5L : ∀ (kq : ℕ) (hkq : kq < k0_t1_loop.trips), k0_chk5 (arg0.view.readAt (Elt Ideal) (Rect.unit (s := S1536) (k0_off9 ⟨kq, hkq⟩) S1.size (k0_off9_inb ⟨kq, hkq⟩)).toLoadRect (harg0.unread x0) (Shape.Idx.first (numel1_S1.symm ▸ Nat.one_pos)))) (k0_hw6L : ∀ (kq : ℕ) (hkq : kq < k0_t1_loop.trips), k0_chk6 (arg0.view.readAt (Elt Ideal) (Rect.unit (s := S1536) (k0_off11 ⟨kq, hkq⟩) S1.size (k0_off11_inb ⟨kq, hkq⟩)).toLoadRect (harg0.unread x0) (Shape.Idx.first (numel1_S1.symm ▸ Nat.one_pos)))) :
    ∀ n : ℕ, n ≤ k0_t1_loop.trips → ∀ y : S256x1024.Idx, (y 0).val < n → ∃ p ∈ pb_k0_t1 (F := Ideal) 𝒱 c bd arg0 harg0 arg1 harg1 arg2 harg2 arg3 harg3 arg4 harg4 arg5 harg5 arg6 harg6 arg7 harg7 arg8 harg8 arg9 harg9 arg10 harg10 (harg0.unread x0) (harg1.unread x1) (harg2.unread x2) k0_hw1L k0_hw2L k0_hw3L k0_hw4L k0_hw5L k0_hw6L n, y ∈ p.1.set
  | 0, _ => fun y hy => absurd hy (Nat.not_lt_zero _)
  | n + 1, h => by
    have e := pb_k0_t1_succ (F := Ideal) 𝒱 c bd arg0 harg0 arg1 harg1 arg2 harg2 arg3 harg3 arg4 harg4 arg5 harg5 arg6 harg6 arg7 harg7 arg8 harg8 arg9 harg9 arg10 harg10 (harg0.unread x0) (harg1.unread x1) (harg2.unread x2) k0_hw1L k0_hw2L k0_hw3L k0_hw4L k0_hw5L k0_hw6L ⟨n, h⟩
    intro y hy
    rw [show pb_k0_t1 (F := Ideal) 𝒱 c bd arg0 harg0 arg1 harg1 arg2 harg2 arg3 harg3 arg4 harg4 arg5 harg5 arg6 harg6 arg7 harg7 arg8 harg8 arg9 harg9 arg10 harg10 (harg0.unread x0) (harg1.unread x1) (harg2.unread x2) k0_hw1L k0_hw2L k0_hw3L k0_hw4L k0_hw5L k0_hw6L (n + 1) = _ from e]
    by_cases hn : (y 0).val < n
    · obtain ⟨p, hp, hm⟩ := pieces_cover 𝒱 c bd arg0 harg0 arg1 harg1 arg2 harg2 arg3 harg3 arg4 harg4 arg5 harg5 arg6 harg6 arg7 harg7 arg8 harg8 arg9 harg9 arg10 harg10 x0 x1 x2 k0_hw1L k0_hw2L k0_hw3L k0_hw4L k0_hw5L k0_hw6L n (Nat.le_of_succ_le h) y hn
      exact ⟨p, List.mem_append_right _ hp, hm⟩
    · have hyn : (y 0).val = n := by omega
      rw [trip_list]
      refine ⟨_, List.mem_append_left _ (List.mem_singleton_self _), ?_⟩
      rw [Rect.mem_set_unit]
      intro a
      match a with
      | ⟨0, _⟩ =>
        show k0_off13 ⟨n, h⟩ 0 ≤ (y 0 : Nat) ∧ (y 0 : Nat) < k0_off13 ⟨n, h⟩ 0 + 1
        rw [off13_row]; constructor <;> (dsimp only; omega)
      | ⟨1, _⟩ =>
        have := (y 1).isLt
        have h' : (y 1 : Nat) < 1024 := this
        show k0_off13 ⟨n, h⟩ 1 ≤ (y 1 : Nat) ∧ (y 1 : Nat) < k0_off13 ⟨n, h⟩ 1 + 1024
        rw [off13_col]; omega

/-- What the loop leaves: the combined rows. -/
theorem pieces_canon (𝒱 : Variants) (c : Dev nD) (bd : Option 𝒱.V) (arg0 : Memref sig .tc .smem S1536 .i32) (harg0 : arg0.IsWhole) (arg1 : Memref sig .tc .smem S1536 .f32) (harg1 : arg1.IsWhole) (arg2 : Memref sig .tc .vmem S1536x1024 .f32) (harg2 : arg2.IsWhole) (arg3 : Memref sig .tc .vmem S1024x4096 .fp8e4m3) (harg3 : arg3.IsWhole) (arg4 : Memref sig .tc .vmem S1x4096 .f32) (harg4 : arg4.IsWhole) (arg5 : Memref sig .tc .vmem S256x4096 .bf16) (harg5 : arg5.IsWhole) (arg6 : Memref sig .tc .vmem S256x4096 .f32) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S256x1024 .fp8e4m3) (harg9 : arg9.IsWhole) (arg10 : Memref sig .tc .vmem S256x1 .f32) (harg10 : arg10.IsWhole)
    (x0 : Vec Ideal S1536 .i32) (x1 : Vec Ideal S1536 .f32) (x2 : Vec Ideal S1536x1024 .f32) (k0_hw1L : ∀ (kq : ℕ) (hkq : kq < k0_t1_loop.trips), k0_chk1 (arg0.view.readAt (Elt Ideal) (Rect.unit (s := S1536) (k0_off1 ⟨kq, hkq⟩) S1.size (k0_off1_inb ⟨kq, hkq⟩)).toLoadRect (harg0.unread x0) (Shape.Idx.first (numel1_S1.symm ▸ Nat.one_pos)))) (k0_hw2L : ∀ (kq : ℕ) (hkq : kq < k0_t1_loop.trips), k0_chk2 (arg0.view.readAt (Elt Ideal) (Rect.unit (s := S1536) (k0_off3 ⟨kq, hkq⟩) S1.size (k0_off3_inb ⟨kq, hkq⟩)).toLoadRect (harg0.unread x0) (Shape.Idx.first (numel1_S1.symm ▸ Nat.one_pos)))) (k0_hw3L : ∀ (kq : ℕ) (hkq : kq < k0_t1_loop.trips), k0_chk3 (arg0.view.readAt (Elt Ideal) (Rect.unit (s := S1536) (k0_off5 ⟨kq, hkq⟩) S1.size (k0_off5_inb ⟨kq, hkq⟩)).toLoadRect (harg0.unread x0) (Shape.Idx.first (numel1_S1.symm ▸ Nat.one_pos)))) (k0_hw4L : ∀ (kq : ℕ) (hkq : kq < k0_t1_loop.trips), k0_chk4 (arg0.view.readAt (Elt Ideal) (Rect.unit (s := S1536) (k0_off7 ⟨kq, hkq⟩) S1.size (k0_off7_inb ⟨kq, hkq⟩)).toLoadRect (harg0.unread x0) (Shape.Idx.first (numel1_S1.symm ▸ Nat.one_pos)))) (k0_hw5L : ∀ (kq : ℕ) (hkq : kq < k0_t1_loop.trips), k0_chk5 (arg0.view.readAt (Elt Ideal) (Rect.unit (s := S1536) (k0_off9 ⟨kq, hkq⟩) S1.size (k0_off9_inb ⟨kq, hkq⟩)).toLoadRect (harg0.unread x0) (Shape.Idx.first (numel1_S1.symm ▸ Nat.one_pos)))) (k0_hw6L : ∀ (kq : ℕ) (hkq : kq < k0_t1_loop.trips), k0_chk6 (arg0.view.readAt (Elt Ideal) (Rect.unit (s := S1536) (k0_off11 ⟨kq, hkq⟩) S1.size (k0_off11_inb ⟨kq, hkq⟩)).toLoadRect (harg0.unread x0) (Shape.Idx.first (numel1_S1.symm ▸ Nat.one_pos)))) :
    View.canon (Val := Elt Ideal) (e := .f32) (pb_k0_t1 (F := Ideal) 𝒱 c bd arg0 harg0 arg1 harg1 arg2 harg2 arg3 harg3 arg4 harg4 arg5 harg5 arg6 harg6 arg7 harg7 arg8 harg8 arg9 harg9 arg10 harg10 (harg0.unread x0) (harg1.unread x1) (harg2.unread x2) k0_hw1L k0_hw2L k0_hw3L k0_hw4L k0_hw5L k0_hw6L k0_t1_loop.trips) = combine x0 x1 x2 :=
  funext fun y => View.canon_apply_of_pieces (Val := Elt Ideal) (e := .f32) (combine x0 x1 x2) _
    (pieces_agree 𝒱 c bd arg0 harg0 arg1 harg1 arg2 harg2 arg3 harg3 arg4 harg4 arg5 harg5 arg6 harg6 arg7 harg7 arg8 harg8 arg9 harg9 arg10 harg10 x0 x1 x2 k0_hw1L k0_hw2L k0_hw3L k0_hw4L k0_hw5L k0_hw6L _ le_rfl) y
    (pieces_cover 𝒱 c bd arg0 harg0 arg1 harg1 arg2 harg2 arg3 harg3 arg4 harg4 arg5 harg5 arg6 harg6 arg7 harg7 arg8 harg8 arg9 harg9 arg10 harg10 x0 x1 x2 k0_hw1L k0_hw2L k0_hw3L k0_hw4L k0_hw5L k0_hw6L _ le_rfl y (by rw [trips_eq]; exact (y 0).isLt))

end Cert.CombineIdeal.Value

end
-- ==== Proof.CombineBody.lean ====
/-
  What the final call's body leaves in its four results: the combined rows, their codes and scales, and the output rows.
-/
module

public import proofs.«01_k».proof.Proof.CombineLoop
public import proofs.«01_k».proof.Proof.Gen.CombineIdeal.Value

@[expose] public section

noncomputable section

namespace Cert.CombineIdeal.Value

open Cert.CombineIdeal Cert.CombineIdeal.Gen Cert.CombineIdeal.Index Cert.CombineMath
open Idealize.ShloMosaic Idealize.ShloMosaic.TcCoe Idealize.SL.Sem
open Idealize.ShloMosaic.ValueIdx

theorem hz : (![0, 0] : Fin 2 → Nat) = fun _ => 0 := funext fun a => by fin_cases a <;> rfl

section Body
variable (c : Dev nD) (arg0 : Memref sig .tc .smem S1536 .i32) (harg0 : arg0.IsWhole) (arg1 : Memref sig .tc .smem S1536 .f32) (harg1 : arg1.IsWhole) (arg2 : Memref sig .tc .vmem S1536x1024 .f32) (harg2 : arg2.IsWhole) (arg3 : Memref sig .tc .vmem S1024x4096 .fp8e4m3) (harg3 : arg3.IsWhole) (arg4 : Memref sig .tc .vmem S1x4096 .f32) (harg4 : arg4.IsWhole) (arg5 : Memref sig .tc .vmem S256x4096 .bf16) (harg5 : arg5.IsWhole) (arg6 : Memref sig .tc .vmem S256x4096 .f32) (harg6 : arg6.IsWhole) (arg7 : Memref sig .tc .vmem S256x4096 .bf16) (harg7 : arg7.IsWhole) (arg8 : Memref sig .tc .vmem S256x1024 .f32) (harg8 : arg8.IsWhole) (arg9 : Memref sig .tc .vmem S256x1024 .fp8e4m3) (harg9 : arg9.IsWhole) (arg10 : Memref sig .tc .vmem S256x1 .f32) (harg10 : arg10.IsWhole)
  (x0 : Vec Ideal S1536 .i32) (x1 : Vec Ideal S1536 .f32) (x2 : Vec Ideal S1536x1024 .f32) (x3 : Vec Ideal S1024x4096 .fp8e4m3) (x4 : Vec Ideal S1x4096 .f32) (x5 : Vec Ideal S256x4096 .bf16) (x6 : Vec Ideal S256x4096 .f32) (k0_hw1L : (∀ (kq : ℕ) (hkq : kq < k0_t1_loop.trips), k0_chk1 (arg0.view.readAt (Elt Ideal) (Rect.unit (s := S1536) (k0_off1 ⟨kq, hkq⟩) S1.size (k0_off1_inb ⟨kq, hkq⟩)).toLoadRect (harg0.unread x0) (Shape.Idx.first (numel1_S1.symm ▸ Nat.one_pos))))) (k0_hw2L : (∀ (kq : ℕ) (hkq : kq < k0_t1_loop.trips), k0_chk2 (arg0.view.readAt (Elt Ideal) (Rect.unit (s := S1536) (k0_off3 ⟨kq, hkq⟩) S1.size (k0_off3_inb ⟨kq, hkq⟩)).toLoadRect (harg0.unread x0) (Shape.Idx.first (numel1_S1.symm ▸ Nat.one_pos))))) (k0_hw3L : (∀ (kq : ℕ) (hkq : kq < k0_t1_loop.trips), k0_chk3 (arg0.view.readAt (Elt Ideal) (Rect.unit (s := S1536) (k0_off5 ⟨kq, hkq⟩) S1.size (k0_off5_inb ⟨kq, hkq⟩)).toLoadRect (harg0.unread x0) (Shape.Idx.first (numel1_S1.symm ▸ Nat.one_pos))))) (k0_hw4L : (∀ (kq : ℕ) (hkq : kq < k0_t1_loop.trips), k0_chk4 (arg0.view.readAt (Elt Ideal) (Rect.unit (s := S1536) (k0_off7 ⟨kq, hkq⟩) S1.size (k0_off7_inb ⟨kq, hkq⟩)).toLoadRect (harg0.unread x0) (Shape.Idx.first (numel1_S1.symm ▸ Nat.one_pos))))) (k0_hw5L : (∀ (kq : ℕ) (hkq : kq < k0_t1_loop.trips), k0_chk5 (arg0.view.readAt (Elt Ideal) (Rect.unit (s := S1536) (k0_off9 ⟨kq, hkq⟩) S1.size (k0_off9_inb ⟨kq, hkq⟩)).toLoadRect (harg0.unread x0) (Shape.Idx.first (numel1_S1.symm ▸ Nat.one_pos))))) (k0_hw6L : (∀ (kq : ℕ) (hkq : kq < k0_t1_loop.trips), k0_chk6 (arg0.view.readAt (Elt Ideal) (Rect.unit (s := S1536) (k0_off11 ⟨kq, hkq⟩) S1.size (k0_off11_inb ⟨kq, hkq⟩)).toLoadRect (harg0.unread x0) (Shape.Idx.first (numel1_S1.symm ▸ Nat.one_pos)))))

/-- The loop's rows read back: the combined rows. -/
theorem readBack (𝒱 : Variants) (bd : Option 𝒱.V) (inb : ∀ a, (![0, 0] : Fin 2 → Nat) a + S256x1024.size a ≤ S256x1024.size a) :
    arg8.view.readCov (pb_k0_t1 (F := Ideal) 𝒱 c bd arg0 harg0 arg1 harg1 arg2 harg2 arg3 harg3 arg4 harg4 arg5 harg5 arg6 harg6 arg7 harg7 arg8 harg8 arg9 harg9 arg10 harg10 (harg0.unread x0) (harg1.unread x1) (harg2.unread x2) k0_hw1L k0_hw2L k0_hw3L k0_hw4L k0_hw5L k0_hw6L k0_t1_loop.trips)
      (Rect.unit (s := S256x1024) ![0, 0] S256x1024.size inb).toLoadRect = (combine x0 x1 x2) := by
  rw [View.readCov_eq_canon_ld _ _ _ (fun y => pieces_cover 𝒱 c bd arg0 harg0 arg1 harg1 arg2 harg2 arg3 harg3 arg4 harg4 arg5 harg5 arg6 harg6 arg7 harg7 arg8 harg8 arg9 harg9 arg10 harg10 x0 x1 x2 k0_hw1L k0_hw2L k0_hw3L k0_hw4L k0_hw5L k0_hw6L _ le_rfl y (by rw [trips_eq]; exact (y 0).isLt)),
    pieces_canon, View.ld_unit_zero (S := S256x1024) hz]

/-- The combined rows. -/
theorem out_A8 : out0_A_8 c arg0 harg0 arg1 harg1 arg2 harg2 arg3 harg3 arg4 harg4 arg5 harg5 arg6 harg6 arg7 harg7 arg8 harg8 arg9 harg9 arg10 harg10 x0 x1 x2 x3 x4 x5 x6 k0_hw1L k0_hw2L k0_hw3L k0_hw4L k0_hw5L k0_hw6L = (combine x0 x1 x2) := by
  unfold out0_A_8
  rw [View.read_writes_eq_canon _ _ _ (cover0_A_8 c arg0 harg0 arg1 harg1 arg2 harg2 arg3 harg3 arg4 harg4 arg5 harg5 arg6 harg6 arg7 harg7 arg8 harg8 arg9 harg9 arg10 harg10 x0 x1 x2 x3 x4 x5 x6 k0_hw1L k0_hw2L k0_hw3L k0_hw4L k0_hw5L k0_hw6L)]
  unfold kernelRun0_A
  dsimp only
  exact pieces_canon _ c _ arg0 harg0 arg1 harg1 arg2 harg2 arg3 harg3 arg4 harg4 arg5 harg5 arg6 harg6 arg7 harg7 arg8 harg8 arg9 harg9 arg10 harg10 x0 x1 x2 k0_hw1L k0_hw2L k0_hw3L k0_hw4L k0_hw5L k0_hw6L

/-- The scale of each row. -/
theorem out_A10 : out0_A_10 c arg0 harg0 arg1 harg1 arg2 harg2 arg3 harg3 arg4 harg4 arg5 harg5 arg6 harg6 arg7 harg7 arg8 harg8 arg9 harg9 arg10 harg10 x0 x1 x2 x3 x4 x5 x6 k0_hw1L k0_hw2L k0_hw3L k0_hw4L k0_hw5L k0_hw6L = k0_pay5 (F := Ideal) (combine x0 x1 x2) := by
  unfold out0_A_10
  rw [View.read_writes_eq_canon _ _ _ (cover0_A_10 c arg0 harg0 arg1 harg1 arg2 harg2 arg3 harg3 arg4 harg4 arg5 harg5 arg6 harg6 arg7 harg7 arg8 harg8 arg9 harg9 arg10 harg10 x0 x1 x2 x3 x4 x5 x6 k0_hw1L k0_hw2L k0_hw3L k0_hw4L k0_hw5L k0_hw6L)]
  unfold kernelRun0_A
  dsimp only
  sl_unfold_words
  rw [View.canon_unit_zero hz]
  exact congrArg (k0_pay5 (F := Ideal)) (readBack ..)

/-- The codes. -/
theorem out_A9 : out0_A_9 c arg0 harg0 arg1 harg1 arg2 harg2 arg3 harg3 arg4 harg4 arg5 harg5 arg6 harg6 arg7 harg7 arg8 harg8 arg9 harg9 arg10 harg10 x0 x1 x2 x3 x4 x5 x6 k0_hw1L k0_hw2L k0_hw3L k0_hw4L k0_hw5L k0_hw6L = k0_pay6 (F := Ideal) (combine x0 x1 x2) := by
  unfold out0_A_9
  rw [View.read_writes_eq_canon _ _ _ (cover0_A_9 c arg0 harg0 arg1 harg1 arg2 harg2 arg3 harg3 arg4 harg4 arg5 harg5 arg6 harg6 arg7 harg7 arg8 harg8 arg9 harg9 arg10 harg10 x0 x1 x2 x3 x4 x5 x6 k0_hw1L k0_hw2L k0_hw3L k0_hw4L k0_hw5L k0_hw6L)]
  unfold kernelRun0_A
  dsimp only
  sl_unfold_words
  rw [View.canon_unit_zero hz]
  exact congrArg (k0_pay6 (F := Ideal)) (readBack ..)

/-- The output rows. -/
theorem out_A7 : out0_A_7 c arg0 harg0 arg1 harg1 arg2 harg2 arg3 harg3 arg4 harg4 arg5 harg5 arg6 harg6 arg7 harg7 arg8 harg8 arg9 harg9 arg10 harg10 x0 x1 x2 x3 x4 x5 x6 k0_hw1L k0_hw2L k0_hw3L k0_hw4L k0_hw5L k0_hw6L = k0_pay1 (k0_pay7 (combine x0 x1 x2) (k0_pay6 (combine x0 x1 x2)) x3 x4) (k0_pay8 x5) x6 := by
  unfold out0_A_7
  rw [View.read_writes_eq_canon _ _ _ (cover0_A_7 c arg0 harg0 arg1 harg1 arg2 harg2 arg3 harg3 arg4 harg4 arg5 harg5 arg6 harg6 arg7 harg7 arg8 harg8 arg9 harg9 arg10 harg10 x0 x1 x2 x3 x4 x5 x6 k0_hw1L k0_hw2L k0_hw3L k0_hw4L k0_hw5L k0_hw6L)]
  unfold kernelRun0_A
  dsimp only
  sl_unfold_words
  rw [View.canon_unit_zero hz]
  simp only [View.readAt_eq_ld, harg0.read_unread, harg1.read_unread, harg2.read_unread, harg3.read_unread, harg4.read_unread, harg5.read_unread, harg6.read_unread, View.ld_unit_zero (S := S256x4096) hz, View.ld_unit_zero (S := S1x4096) hz, View.ld_unit_zero (S := S1024x4096) hz]
  rw [View.readCov_unit_zero _ hz, readBack]

end Body

end Cert.CombineIdeal.Value

end
-- ==== Proof.CombineValue.lean ====
/-
  The final call over the extended reals: its four result arrays as functions of its arguments.
-/
module

public import proofs.«01_k».proof.Proof.CombineBody

@[expose] public section

noncomputable section

namespace Cert.CombineIdeal.Value

open Cert.CombineIdeal Cert.CombineIdeal.Gen Cert.CombineMath Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-- The place of every pair in the sorted list. -/
abbrev aPos (c : Dev nD) : IVec S1536 32 := m ((c : Thread nD τ).loc main_arg0)
/-- The routing weights. -/
abbrev aWt (c : Dev nD) : FVec Ideal S1536 .f32 := m ((c : Thread nD τ).loc main_arg1)
/-- The experts' rows, in sorted order. -/
abbrev aEo (c : Dev nD) : FVec Ideal S1536x1024 .f32 := m ((c : Thread nD τ).loc main_arg2)
/-- The codes of the up projection. -/
abbrev aWu (c : Dev nD) : FVec Ideal S1024x4096 .fp8e4m3 := m ((c : Thread nD τ).loc main_arg3)
/-- Its column scales. -/
abbrev aWs (c : Dev nD) : FVec Ideal S1x4096 .f32 := m ((c : Thread nD τ).loc main_arg4)
/-- The residual rows. -/
abbrev aX2 (c : Dev nD) : FVec Ideal S256x4096 .bf16 := m ((c : Thread nD τ).loc main_arg5)
/-- The shared expert's rows. -/
abbrev aSh (c : Dev nD) : FVec Ideal S256x4096 .f32 := m ((c : Thread nD τ).loc main_arg6)

theorem iblk0 (c : Dev nD) (t : Fin cfg0.N) : (iblk m c 0 t : IVec S1536 32) = aPos m c :=
  Memref.read_access_unit_zero (Elt Ideal) main_arg0 (funext fun a => Nat.zero_mul _) _ _
theorem iblk1 (c : Dev nD) (t : Fin cfg0.N) : (iblk m c 1 t : FVec Ideal S1536 .f32) = aWt m c :=
  Memref.read_access_unit_zero (Elt Ideal) main_arg1 (funext fun a => Nat.zero_mul _) _ _
theorem iblk2 (c : Dev nD) (t : Fin cfg0.N) : (iblk m c 2 t : FVec Ideal S1536x1024 .f32) = aEo m c :=
  Memref.read_access_unit_zero (Elt Ideal) main_arg2 (funext fun a => Nat.zero_mul _) _ _
theorem iblk3 (c : Dev nD) (t : Fin cfg0.N) : (iblk m c 3 t : FVec Ideal S1024x4096 .fp8e4m3) = aWu m c :=
  Memref.read_access_unit_zero (Elt Ideal) main_arg3 (funext fun a => Nat.zero_mul _) _ _
theorem iblk4 (c : Dev nD) (t : Fin cfg0.N) : (iblk m c 4 t : FVec Ideal S1x4096 .f32) = aWs m c :=
  Memref.read_access_unit_zero (Elt Ideal) main_arg4 (funext fun a => Nat.zero_mul _) _ _
theorem iblk5 (c : Dev nD) (t : Fin cfg0.N) : (iblk m c 5 t : FVec Ideal S256x4096 .bf16) = aX2 m c :=
  Memref.read_access_unit_zero (Elt Ideal) main_arg5 (funext fun a => Nat.zero_mul _) _ _
theorem iblk6 (c : Dev nD) (t : Fin cfg0.N) : (iblk m c 6 t : FVec Ideal S256x4096 .f32) = aSh m c :=
  Memref.read_access_unit_zero (Elt Ideal) main_arg6 (funext fun a => Nat.zero_mul _) _ _

/-- The combined rows. -/
abbrev resC (c : Dev nD) : FVec Ideal S256x1024 .f32 := combine (aPos m c) (aWt m c) (aEo m c)
/-- Their codes. -/
abbrev resCodes (c : Dev nD) : FVec Ideal S256x1024 .fp8e4m3 := k0_pay6 (F := Ideal) (resC m c)
/-- Their scales. -/
abbrev resScale (c : Dev nD) : FVec Ideal S256x1 .f32 := k0_pay5 (F := Ideal) (resC m c)
/-- The output rows. -/
abbrev resY (c : Dev nD) : FVec Ideal S256x4096 .bf16 :=
  k0_pay1 (F := Ideal) (k0_pay7 (resC m c) (resCodes m c) (aWu m c) (aWs m c)) (k0_pay8 (aX2 m c)) (aSh m c)

theorem final_7 (hH : Hyps m) (c : Dev nD) : (dats m hH 0 c).arrAt 7 cfg0.N = resY m c := by
  have hr := blocks7 m hH c t0_0 (flush0_7 t0_0)
  rw [flushed7_A, out_A7, iblk0, iblk1, iblk2, iblk3, iblk4, iblk5, iblk6] at hr
  have hw := Memref.read_access_unit_zero (Elt Ideal) main_v0_0 (off := fun a => 0 * main_v0_0.ty.shape.size a) (funext fun a => Nat.zero_mul _) (fun a => by simp) ((dats m hH 0 c).arrAt 7 cfg0.N)
  exact hw.symm.trans hr

theorem final_8 (hH : Hyps m) (c : Dev nD) : (dats m hH 0 c).arrAt 8 cfg0.N = resC m c := by
  have hr := blocks8 m hH c t0_0 (flush0_8 t0_0)
  rw [flushed8_A, out_A8, iblk0, iblk1, iblk2] at hr
  have hw := Memref.read_access_unit_zero (Elt Ideal) main_v0_1 (off := fun a => 0 * main_v0_1.ty.shape.size a) (funext fun a => Nat.zero_mul _) (fun a => by simp) ((dats m hH 0 c).arrAt 8 cfg0.N)
  exact hw.symm.trans hr

theorem final_9 (hH : Hyps m) (c : Dev nD) : (dats m hH 0 c).arrAt 9 cfg0.N = resCodes m c := by
  have hr := blocks9 m hH c t0_0 (flush0_9 t0_0)
  rw [flushed9_A, out_A9, iblk0, iblk1, iblk2] at hr
  have hw := Memref.read_access_unit_zero (Elt Ideal) main_v0_2 (off := fun a => 0 * main_v0_2.ty.shape.size a) (funext fun a => Nat.zero_mul _) (fun a => by simp) ((dats m hH 0 c).arrAt 9 cfg0.N)
  exact hw.symm.trans hr

theorem final_10 (hH : Hyps m) (c : Dev nD) : (dats m hH 0 c).arrAt 10 cfg0.N = resScale m c := by
  have hr := blocks10 m hH c t0_0 (flush0_10 t0_0)
  rw [flushed10_A, out_A10, iblk0, iblk1, iblk2] at hr
  have hw := Memref.read_access_unit_zero (Elt Ideal) main_v0_3 (off := fun a => 0 * main_v0_3.ty.shape.size a) (funext fun a => Nat.zero_mul _) (fun a => by simp) ((dats m hH 0 c).arrAt 10 cfg0.N)
  exact hw.symm.trans hr

end Cert.CombineIdeal.Value

end
-- ==== Proof.CombineRefHost.lean ====
/-
  The host's operations of the reference of the final call, over the extended reals: the rows gathered by the sorted places,
  weighted and added over each token's six pairs, are `combine`.
-/
module

public import proofs.«01_k».proof.Proof.Gen.CombineRefIdeal.Frame
public import proofs.«01_k».proof.Proof.CombineLoop
public import Idealize.ShloMosaic.Lib.Pipeline.Value
public import Idealize.ShloMosaic.Lib.Pointwise.Reduce
public import Idealize.ShloMosaic.Lib.Routing.Ops

@[expose] public section

noncomputable section

namespace Cert.CombineRefIdeal.Value

open Cert.CombineRefIdeal Cert.CombineRefIdeal.Gen Cert.CombineMath Idealize.ShloMosaic.TcCoe Idealize.SL.Sem
open Idealize.ShloMosaic hiding ix1 ix2 ix3
open Idealize.ShloMosaic.ValueIdx
open Idealize.ShloMosaic.Pipeline (Dat)
open scoped BigOperators

/-- Word `6 t + i` of a list, read through its reshape to 256 rows of six. -/
theorem word_at {α : Type} (x : S1536.Idx → α) (t : Fin 256) (i : Fin 6) :
    shapeCast S256x6 x shapeCasts_S1536_S256x6 (ix2 t i) = x (ix1 (slot t i)) := by
  refine shapeCast_apply x _ _ _ ?_
  refine (Shape.rowMajor_val_one _).trans (Eq.trans ?_ (Shape.rowMajor_val_two _).symm)
  show 6 * t.val + i.val = t.val * 6 + i.val
  omega

/-- The gather's start indices. -/
def starts (pos : IVec S1536 32) : IVec S256x6x1 32 :=
  broadcastInDim S256x6x1 ![0, 1] bcast_S256x6_S256x6x1_0_1
    (select (cmpi .slt (shapeCast S256x6 pos shapeCasts_S1536_S256x6) (broadcastInDim S256x6 ![] bcast_S_S256x6 (constantI S_ 32 0#32)))
      (addi (shapeCast S256x6 pos shapeCasts_S1536_S256x6) (broadcastInDim S256x6 ![] bcast_S_S256x6 (constantI S_ 32 1536#32)))
      (shapeCast S256x6 pos shapeCasts_S1536_S256x6))

/-- The start index of pair `(t, i)` is its place, the wrap of a negative one never taken. -/
theorem starts_apply (pos : IVec S1536 32) (t : Fin 256) (i : Fin 6) (hb : (pos (ix1 (slot t i))).toNat < 1536) :
    starts pos (ix3 t i 0) = pos (ix1 (slot t i)) := by
  unfold starts
  refine (broadcastInDim_apply ![0, 1] bcast_S256x6_S256x6x1_0_1 _ (ix3 t i 0) (ix2 t i) (fun a => match a with | ⟨0, _⟩ => rfl | ⟨1, _⟩ => rfl)).trans ?_
  have hs : IntOp.cmpi .slt (pos (ix1 (slot t i))) 0#32 = 0#1 := by
    have : (pos (ix1 (slot t i))).slt 0#32 = false := by
      simp only [BitVec.slt, decide_eq_false_iff_not, BitVec.toInt, BitVec.toNat_ofNat]; omega
    simp [IntOp.cmpi, this]
  show Scalar.select (IntOp.cmpi .slt (shapeCast S256x6 pos shapeCasts_S1536_S256x6 (ix2 t i)) 0#32) _ (shapeCast S256x6 pos shapeCasts_S1536_S256x6 (ix2 t i)) = _
  rw [word_at, hs]
  rfl

/-- The gathered row of pair `(t, i)`. -/
theorem gather_row3 {α : Type} (x : S1536x1024.Idx → α) (idx : IVec S256x6x1 32) (t : Fin 256) (i : Fin 6) (y : Fin 1024) (b : Fin 1536)
    (hb : idx (ix3 t i 0) = BitVec.ofNat 32 b.val) :
    Host.gather gather_S1536x1024_S256x6x1_S256x6x1024_2_0_n_n_0_2_11024 x idx (ix3 t i y) = x (ix2 b y) := by
  unfold Host.gather
  refine congrArg x (funext fun a => Fin.ext ?_)
  set d := gather_S1536x1024_S256x6x1_S256x6x1024_2_0_n_n_0_2_11024 with hd
  have hbN : ∀ a', a' ∉ d.operandBatchingDims := fun a' => List.not_mem_nil
  match a with
  | ⟨0, _⟩ =>
    have hk : (0 : Fin 2) ∉ d.sKept := fun h => ((d.mem_sKept 0).1 h).1 (List.mem_singleton.2 rfl)
    have hm : (0 : Fin 2) ∈ d.startIndexMap := List.mem_singleton.2 rfl
    have hsl : d.sliceSizes 0 = 1 := rfl
    show d.start (ix3 t i y) idx 0 + d.batchCoord (ix3 t i y) 0 + d.offCoord (ix3 t i y) 0 = b.val
    rw [d.batchCoord_eq_zero _ _ (hbN 0), d.offCoord_eq_zero _ _ hk]
    simp only [Nat.add_zero]
    unfold GatherDims.start
    rw [dif_pos hm]
    have hsi : d.siIdx (ix3 t i y) ⟨d.startIndexMap.idxOf 0, List.idxOf_lt_length_iff.2 hm⟩ = ix3 t i (0 : Fin 1) := by
      funext b'
      apply Fin.ext
      match b' with
      | ⟨0, _⟩ => rfl
      | ⟨1, _⟩ => rfl
      | ⟨2, _⟩ => rfl
    have hbl := b.isLt
    rw [hsi, hb, hsl, StableHlo.Predicate.toInt_ofNat_small _ (by omega)]
    show min ((b.val : Int)).toNat (1536 - 1) = b.val
    omega
  | ⟨1, _⟩ =>
    have hk : (1 : Fin 2) ∈ d.sKept := (d.mem_sKept 1).2 ⟨fun h => absurd (List.mem_singleton.1 h) (by decide), hbN 1⟩
    have hm : (1 : Fin 2) ∉ d.startIndexMap := fun h => absurd (List.mem_singleton.1 h) (by decide)
    show d.start (ix3 t i y) idx 1 + d.batchCoord (ix3 t i y) 1 + d.offCoord (ix3 t i y) 1 = y.val
    rw [d.batchCoord_eq_zero _ _ (hbN 1), Nat.add_zero]
    unfold GatherDims.start GatherDims.offCoord
    rw [dif_neg hm, dif_pos hk, Nat.zero_add]
    rfl

/-- The host's operations, composed. -/
def hostRows (pos : IVec S1536 32) (w : FVec Ideal S1536 .f32) (eo : FVec Ideal S1536x1024 .f32) : FVec Ideal S256x1024 .f32 :=
  Host.reduceAdd (F := Ideal) (φ := .f32)
    (mulf (broadcastInDim S256x6x1024 ![0, 1, 2] bcast_S256x6x1_S256x6x1024_0_1_2
        (broadcastInDim S256x6x1 ![0, 1] bcast_S256x6_S256x6x1_0_1 (shapeCast S256x6 w shapeCasts_S1536_S256x6)))
      (Host.gather gather_S1536x1024_S256x6x1_S256x6x1024_2_0_n_n_0_2_11024 eo (starts pos)))
    (constant S_ .f32 0x00000000#32) reducesTo_S256x6x1024_S256x1024_d1 h_S_

/-- They are the combined rows when every place is a row of the table. -/
theorem hostRows_eq (pos : IVec S1536 32) (w : FVec Ideal S1536 .f32) (eo : FVec Ideal S1536x1024 .f32)
    (hb : ∀ r : Fin 1536, (pos (ix1 r)).toNat < 1536) : hostRows pos w eo = combine pos w eo := by
  funext y
  unfold hostRows
  refine (Ideal.hostReduceAdd_r3_a1 reducesTo_S256x6x1024_S256x1024_d1 _ _ y).trans ?_
  rw [constant_apply, Ideal.ofBits_zero_f32, zero_add]
  unfold combine
  refine Finset.sum_congr rfl fun i _ => ?_
  unfold term
  have hw : broadcastInDim S256x6x1024 ![0, 1, 2] bcast_S256x6x1_S256x6x1024_0_1_2
        (broadcastInDim S256x6x1 ![0, 1] bcast_S256x6_S256x6x1_0_1 (shapeCast S256x6 w shapeCasts_S1536_S256x6)) (ix3 (y 0) i (y 1)) = w (ix1 (slot (y 0) i)) := by
    refine (broadcastInDim_apply ![0, 1, 2] bcast_S256x6x1_S256x6x1024_0_1_2 _ (ix3 (y 0) i (y 1)) (ix3 (y 0) i 0)
      (fun a => match a with | ⟨0, _⟩ => rfl | ⟨1, _⟩ => rfl | ⟨2, _⟩ => rfl)).trans ?_
    refine (broadcastInDim_apply ![0, 1] bcast_S256x6_S256x6x1_0_1 _ (ix3 (y 0) i 0) (ix2 (y 0) i) (fun a => match a with | ⟨0, _⟩ => rfl | ⟨1, _⟩ => rfl)).trans ?_
    exact word_at w (y 0) i
  have hg := gather_row3 eo (starts pos) (y 0) i (y 1) ⟨(pos (ix1 (slot (y 0) i))).toNat % 1536, Nat.mod_lt _ (by decide)⟩ (by
    rw [starts_apply pos (y 0) i (hb _)]
    show _ = BitVec.ofNat 32 ((pos (ix1 (slot (y 0) i))).toNat % 1536)
    rw [Nat.mod_eq_of_lt (hb _)]
    simp)
  exact congrArg₂ (fun a b : EReal => a * b) hw hg

end Cert.CombineRefIdeal.Value

end
-- ==== Proof.CombineRefValue.lean ====
/-
  The reference of the final call over the extended reals: its four result arrays as functions of its arguments.
-/
module

public import proofs.«01_k».proof.Proof.Gen.CombineRefIdeal.Value
public import proofs.«01_k».proof.Proof.CombineRefHost

@[expose] public section

noncomputable section

namespace Cert.CombineRefIdeal.Value

open Cert.CombineRefIdeal Cert.CombineRefIdeal.Gen Cert.CombineMath Idealize.ShloMosaic.TcCoe Idealize.SL.Sem
open Idealize.ShloMosaic hiding ix1 ix2 ix3
open Idealize.ShloMosaic.ValueIdx
open Idealize.ShloMosaic.Pipeline (Dat)
open scoped BigOperators

theorem hz : (![0, 0] : Fin 2 → Nat) = fun _ => 0 := funext fun a => by fin_cases a <;> rfl

section Body
variable (x0 : Vec Ideal S256x1024 .f32) (x1 : Vec Ideal S1024x4096 .fp8e4m3) (x2 : Vec Ideal S1x4096 .f32) (x3 : Vec Ideal S256x4096 .bf16) (x4 : Vec Ideal S256x4096 .f32)

/-- The output rows. -/
theorem out_5 : out0_5 x0 x1 x2 x3 x4 = k0_pay4 x0 x1 x2 x3 x4 := by
  unfold out0_5
  rw [View.canon_unit_zero hz, View.ld_unit_zero (S := S256x1024) hz, View.ld_unit_zero (S := S1024x4096) hz, View.ld_unit_zero (S := S1x4096) hz,
    View.ld_unit_zero (S := S256x4096) hz, View.ld_unit_zero (S := S256x4096) hz]

/-- The combined rows, as given. -/
theorem out_6 : out0_6 x0 x1 x2 x3 x4 = k0_pay1 x0 := by
  unfold out0_6
  rw [View.canon_unit_zero hz, View.ld_unit_zero (S := S256x1024) hz]

/-- Their codes. -/
theorem out_7 : out0_7 x0 x1 x2 x3 x4 = k0_pay3 x0 := by
  unfold out0_7
  rw [View.canon_unit_zero hz, View.ld_unit_zero (S := S256x1024) hz]

/-- Their scales. -/
theorem out_8 : out0_8 x0 x1 x2 x3 x4 = k0_pay2 x0 := by
  unfold out0_8
  rw [View.canon_unit_zero hz, View.ld_unit_zero (S := S256x1024) hz]

end Body

variable (m : (ℓ : Loc nD τ sig) → Buf (Elt Ideal) ℓ) (ρ : Dev nD → PrngReg)

/-- The place of every pair in the sorted list. -/
abbrev aPos (c : Dev nD) : IVec S1536 32 := m ((c : Thread nD τ).loc main_arg0)
/-- The routing weights. -/
abbrev aWt (c : Dev nD) : FVec Ideal S1536 .f32 := m ((c : Thread nD τ).loc main_arg1)
/-- The experts' rows, in sorted order. -/
abbrev aEo (c : Dev nD) : FVec Ideal S1536x1024 .f32 := m ((c : Thread nD τ).loc main_arg2)
/-- The codes of the up projection. -/
abbrev aWu (c : Dev nD) : FVec Ideal S1024x4096 .fp8e4m3 := m ((c : Thread nD τ).loc main_arg3)
/-- Its column scales. -/
abbrev aWs (c : Dev nD) : FVec Ideal S1x4096 .f32 := m ((c : Thread nD τ).loc main_arg4)
/-- The residual rows. -/
abbrev aX2 (c : Dev nD) : FVec Ideal S256x4096 .bf16 := m ((c : Thread nD τ).loc main_arg5)
/-- The shared expert's rows. -/
abbrev aSh (c : Dev nD) : FVec Ideal S256x4096 .f32 := m ((c : Thread nD τ).loc main_arg6)

/-- What the host's operations leave for the region: the combined rows. -/
theorem V_rows (c : Dev nD) : (V m c main_v12 : FVec Ideal S256x1024 .f32) = hostRows (aPos m c) (aWt m c) (aEo m c) := by
  entry_read
  rfl

theorem iblk0 (c : Dev nD) (t : Fin cfg0.N) : (iblk m c 0 t : FVec Ideal S256x1024 .f32) = hostRows (aPos m c) (aWt m c) (aEo m c) :=
  (Memref.read_access_unit_zero (Elt Ideal) main_v12 (funext fun a => Nat.zero_mul _) _ _).trans (V_rows m c)
theorem iblk1 (c : Dev nD) (t : Fin cfg0.N) : (iblk m c 1 t : FVec Ideal S1024x4096 .fp8e4m3) = aWu m c :=
  (Memref.read_access_unit_zero (Elt Ideal) main_arg3 (funext fun a => Nat.zero_mul _) _ _).trans (V_main_arg3 m c)
theorem iblk2 (c : Dev nD) (t : Fin cfg0.N) : (iblk m c 2 t : FVec Ideal S1x4096 .f32) = aWs m c :=
  (Memref.read_access_unit_zero (Elt Ideal) main_arg4 (funext fun a => Nat.zero_mul _) _ _).trans (V_main_arg4 m c)
theorem iblk3 (c : Dev nD) (t : Fin cfg0.N) : (iblk m c 3 t : FVec Ideal S256x4096 .bf16) = aX2 m c :=
  (Memref.read_access_unit_zero (Elt Ideal) main_arg5 (funext fun a => Nat.zero_mul _) _ _).trans (V_main_arg5 m c)
theorem iblk4 (c : Dev nD) (t : Fin cfg0.N) : (iblk m c 4 t : FVec Ideal S256x4096 .f32) = aSh m c :=
  (Memref.read_access_unit_zero (Elt Ideal) main_arg6 (funext fun a => Nat.zero_mul _) _ _).trans (V_main_arg6 m c)

/-- The combined rows. -/
abbrev resC (c : Dev nD) : FVec Ideal S256x1024 .f32 := hostRows (aPos m c) (aWt m c) (aEo m c)

theorem final_5 (c : Dev nD) : (dats m 0 c).arrAt 5 cfg0.N = k0_pay4 (F := Ideal) (resC m c) (aWu m c) (aWs m c) (aX2 m c) (aSh m c) := by
  have hr := blocks5 m c t0_0 (flush0_5 t0_0)
  rw [flushed5, out_5, iblk0, iblk1, iblk2, iblk3, iblk4] at hr
  have hw := Memref.read_access_unit_zero (Elt Ideal) main_v13_0 (off := fun a => 0 * main_v13_0.ty.shape.size a) (funext fun a => Nat.zero_mul _) (fun a => by simp) ((dats m 0 c).arrAt 5 cfg0.N)
  exact hw.symm.trans hr

theorem final_6 (c : Dev nD) : (dats m 0 c).arrAt 6 cfg0.N = k0_pay1 (F := Ideal) (resC m c) := by
  have hr := blocks6 m c t0_0 (flush0_6 t0_0)
  rw [flushed6, out_6, iblk0] at hr
  have hw := Memref.read_access_unit_zero (Elt Ideal) main_v13_1 (off := fun a => 0 * main_v13_1.ty.shape.size a) (funext fun a => Nat.zero_mul _) (fun a => by simp) ((dats m 0 c).arrAt 6 cfg0.N)
  exact hw.symm.trans hr

theorem final_7 (c : Dev nD) : (dats m 0 c).arrAt 7 cfg0.N = k0_pay3 (F := Ideal) (resC m c) := by
  have hr := blocks7 m c t0_0 (flush0_7 t0_0)
  rw [flushed7, out_7, iblk0] at hr
  have hw := Memref.read_access_unit_zero (Elt Ideal) main_v13_2 (off := fun a => 0 * main_v13_2.ty.shape.size a) (funext fun a => Nat.zero_mul _) (fun a => by simp) ((dats m 0 c).arrAt 7 cfg0.N)
  exact hw.symm.trans hr

theorem final_8 (c : Dev nD) : (dats m 0 c).arrAt 8 cfg0.N = k0_pay2 (F := Ideal) (resC m c) := by
  have hr := blocks8 m c t0_0 (flush0_8 t0_0)
  rw [flushed8, out_8, iblk0] at hr
  have hw := Memref.read_access_unit_zero (Elt Ideal) main_v13_3 (off := fun a => 0 * main_v13_3.ty.shape.size a) (funext fun a => Nat.zero_mul _) (fun a => by simp) ((dats m 0 c).arrAt 8 cfg0.N)
  exact hw.symm.trans hr

end Cert.CombineRefIdeal.Value

end
-- ==== Proof.CombineClaim.lean ====
/-
  The final call: the kernel and its reference end with the same four arrays at every input whose places are rows of the table.
-/
module

public import proofs.«01_k».proof.Defs
public import proofs.«01_k».proof.Proof.CombineValue
public import proofs.«01_k».proof.Proof.CombineRefValue
public import proofs.«01_k».proof.Proof.Gen.Pre_rows_in_range

@[expose] public section

noncomputable section

namespace Cert.CombineClaim

open Idealize.ShloMosaic Idealize.ShloMosaic.TcCoe Idealize.SL.Sem
open Idealize.ShloMosaic.ValueIdx

instance : Cert.CombineIdeal.Facts := Cert.CombineIdeal.Gen.facts
instance : Cert.CombineRefIdeal.Facts := Cert.CombineRefIdeal.Gen.facts
instance : Cert.Pre_rows_in_range.Facts := Cert.Pre_rows_in_range.Gen.facts

/-- From memories agreeing on the arguments, both programs end with `resY`, `resC`, `resCodes` and `resScale` of these arguments. -/
theorem algebraic : Cert.algebraic_CombineIdeal_CombineRefIdeal := by
  intro m g m' g' hpre hagree
  have hH := Cert.CombineIdeal.Index.hyps_of_pre m hpre
  refine ⟨fun c => Cert.CombineIdeal.Value.resY m c, fun c => Cert.CombineIdeal.Value.resC m c, fun c => Cert.CombineIdeal.Value.resCodes m c,
    fun c => Cert.CombineIdeal.Value.resScale m c, ?_, ?_⟩
  · refine (θ_run _ _ _).mono (fun r h c => ?_) (Cert.CombineIdeal.Value.run_blocks m g hH)
    obtain ⟨h0, h1, h2, h3, h4⟩ := h c
    exact ⟨h0.trans (Cert.CombineIdeal.Value.final_7 m hH c), h1.trans (Cert.CombineIdeal.Value.final_8 m hH c),
      h2.trans (Cert.CombineIdeal.Value.final_9 m hH c), h3.trans (Cert.CombineIdeal.Value.final_10 m hH c), h4⟩
  · refine (θ_run _ _ _).mono (fun r h c => ?_) (Cert.CombineRefIdeal.Value.run_blocks m' g')
    obtain ⟨h0, h1, h2, h3, h4⟩ := h c
    obtain ⟨e0, e1, e2, e3, e4, e5, e6⟩ := hagree c
    have hC : Cert.CombineRefIdeal.Value.resC m' c = Cert.CombineIdeal.Value.resC m c := by
      unfold Cert.CombineRefIdeal.Value.resC Cert.CombineRefIdeal.Value.aPos Cert.CombineRefIdeal.Value.aWt Cert.CombineRefIdeal.Value.aEo
      rw [e0, e1, e2]
      exact Cert.CombineRefIdeal.Value.hostRows_eq _ _ _ (fun r => Cert.CombineIdeal.Index.rows_lt m hpre c _)
    have hy : Cert.CombineRefIdeal.Gen.k0_pay4 (F := Ideal) (Cert.CombineRefIdeal.Value.resC m' c) (Cert.CombineRefIdeal.Value.aWu m' c)
        (Cert.CombineRefIdeal.Value.aWs m' c) (Cert.CombineRefIdeal.Value.aX2 m' c) (Cert.CombineRefIdeal.Value.aSh m' c)
        = Cert.CombineIdeal.Value.resY m c := by
      rw [hC]
      unfold Cert.CombineRefIdeal.Value.aWu Cert.CombineRefIdeal.Value.aWs Cert.CombineRefIdeal.Value.aX2 Cert.CombineRefIdeal.Value.aSh
      rw [e3, e4, e5, e6]
      unfold Cert.CombineIdeal.Value.resY Cert.CombineIdeal.Gen.k0_pay7
      dsimp only
      rw [shapeCast_self]
      rfl
    refine ⟨(h0.trans (Cert.CombineRefIdeal.Value.final_5 m' c)).trans hy,
      (h1.trans (Cert.CombineRefIdeal.Value.final_6 m' c)).trans ?_,
      (h2.trans (Cert.CombineRefIdeal.Value.final_7 m' c)).trans ?_,
      (h3.trans (Cert.CombineRefIdeal.Value.final_8 m' c)).trans ?_, h4⟩
    · rw [hC]
      unfold Cert.CombineRefIdeal.Gen.k0_pay1
      dsimp only
      rw [shapeCast_self]
    · rw [hC]; rfl
    · rw [hC]; rfl

end Cert.CombineClaim

end
-- ==== Proof.ExpertsLoop2.lean ====
/- The loop over the ten column tiles of the first product: what a trip needs and what it may change. -/
module

public import proofs.«01_k».proof.Proof.Gen.Experts.Skeleton
public import Idealize.ShloMosaic.Lib.Exec
public import Idealize.ShloMosaic.Lib.Tactic
public import Idealize.ShloMosaic.Lib.Pipeline.Kit
public import Idealize.ShloMosaic.Lib.LoopEntry

@[expose] public section

set_option maxRecDepth 65536
set_option maxHeartbeats 4000000

noncomputable section

namespace Cert.Experts.Hand

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option warn.classDefReducibility false in
/-- The loop over the column tiles of the first product: codes and scales are read, the two results are written. -/
@[sl_loop] def loop_k0_t2 (𝒱 : Variants) (c : Dev nD) (bd : Option 𝒱.V) (E : Set ℕ) (i : grid0.Coords) (arg1 : Memref sig .tc .smem S32 .i32) (harg1 : arg1.IsWhole) (arg2 : Memref sig .tc .vmem S1664x1024 .bf16) (harg2 : arg2.IsWhole) (arg3 : Memref sig .tc .smem S32 .f32) (harg3 : arg3.IsWhole) (arg4 : Memref sig .tc .smem S32 .f32) (harg4 : arg4.IsWhole) (arg5 : Memref sig .tc .vmem S1x1024x1344 .i8) (harg5 : arg5.IsWhole) (arg6 : Memref sig .tc .vmem S1x64x2688 .fp8e4m3) (harg6 : arg6.IsWhole) (arg7 : Memref sig .tc .vmem S1x2688x512 .i8) (harg7 : arg7.IsWhole) (arg8 : Memref sig .tc .vmem S1x168x1024 .fp8e4m3) (harg8 : arg8.IsWhole) (arg9 : Memref sig .tc .vmem S1664x2688 .bf16) (harg9 : arg9.IsWhole) (arg10 : Memref sig .tc .vmem S1664x1024 .f32) (harg10 : arg10.IsWhole) (arg11 : Memref sig .tc .vmem S128x2688 .bf16) (harg11 : arg11.IsWhole) (arg12 : Memref sig .tc .vmem S128x1344 .bf16) (harg12 : arg12.IsWhole) (arg13 : Memref sig .tc .vmem S64x2688 .f32) (harg13 : arg13.IsWhole) (arg14 : Memref sig .tc .vmem S64x1280 .f32) (harg14 : arg14.IsWhole) (arg15 : Memref sig .tc .vmem S64x128 .f32) (harg15 : arg15.IsWhole) (arg16 : Memref sig .tc .vmem S168x1024 .f32) (harg16 : arg16.IsWhole) (arg17 : Memref sig .tc .smem S1 .i32) (harg17 : arg17.IsWhole) (arg0 : BitVec 32) (v3 : Elt F .i32) (v5 : Elt F .i32) (k0_hw1 : k0_chk1 v3 v5) (v25 : BitVec 32) (k0_h2 : k0_cond2 v5 = 1#1) (c0_i32_33 : BitVec 32) (c1_i32_36 : BitVec 32) (k0_t1 : Fin (k0_t1_loop v3 v5).trips) (v89 : Vec F S128x1024 .bf16) (v91 : Elt F .f32) (init : BitVec 32) (X_arg5 : BufTy.Contents (Elt F) arg5.view.ty) (X_arg13 : BufTy.Contents (Elt F) arg13.view.ty) (X_arg14 : BufTy.Contents (Elt F) arg14.view.ty) :
  Idealize.ShloMosaic.LoopInv (M := (MT nD τ sig Unit (Elt F) ℕ (UR sig nD τ) ℕ)) Idealize.ShloMosaic.frame (wpE defs₀ 𝒱 (c : Thread nD τ) bd) E
    k0_t2_loop.lb k0_t2_loop.ub k0_t2_loop.st k0_t2_ok init (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v3 v5 k0_hw1 v25 k0_h2 c0_i32_33 c1_i32_36 k0_t1 v89 v91) where
  inv k acc := iprop((arg5.view.loc (c : Thread nD τ) ↦[arg5.view.set]{fullShare} X_arg5) ∗ (arg13.view.loc (c : Thread nD τ) ↦[arg13.view.set]{fullShare} X_arg13) ∗ (arg14.view.loc (c : Thread nD τ) ↦[arg14.view.set]{fullShare} X_arg14) ∗ (∃ f, (arg11.view.loc (c : Thread nD τ) ↦[arg11.view.set]{fullShare} f)) ∗ (∃ f, (arg12.view.loc (c : Thread nD τ) ↦[arg12.view.set]{fullShare} f)))
  step k acc := by
    unfold k0_t2_body
    iintro ⟨Harg5, Harg13, Harg14, ⟨%f_arg11, Harg11⟩, ⟨%f_arg12, Harg12⟩⟩
    sl_exec
    sl_step
    isplitl [Harg5]; · iexact Harg5
    isplitl [Harg13]; · iexact Harg13
    isplitl [Harg14]; · iexact Harg14
    isplitl [Harg11]; · iexists _; iexact Harg11
    iexists _; iexact Harg12

end Cert.Experts.Hand

end
-- ==== Proof.ExpertsLoop3.lean ====
/- The loop over the four column tiles of the second product: what a trip needs and what it may change. -/
module

public import proofs.«01_k».proof.Proof.Gen.Experts.Skeleton
public import Idealize.ShloMosaic.Lib.Exec
public import Idealize.ShloMosaic.Lib.Tactic
public import Idealize.ShloMosaic.Lib.Pipeline.Kit
public import Idealize.ShloMosaic.Lib.LoopEntry

@[expose] public section

set_option maxRecDepth 65536
set_option maxHeartbeats 4000000

noncomputable section

namespace Cert.Experts.Hand

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option warn.classDefReducibility false in
/-- The loop over the column tiles of the second product: codes, scales and the left operand are read, the result is added to. -/
@[sl_loop] def loop_k0_t3 (𝒱 : Variants) (c : Dev nD) (bd : Option 𝒱.V) (E : Set ℕ) (i : grid0.Coords) (arg1 : Memref sig .tc .smem S32 .i32) (harg1 : arg1.IsWhole) (arg2 : Memref sig .tc .vmem S1664x1024 .bf16) (harg2 : arg2.IsWhole) (arg3 : Memref sig .tc .smem S32 .f32) (harg3 : arg3.IsWhole) (arg4 : Memref sig .tc .smem S32 .f32) (harg4 : arg4.IsWhole) (arg5 : Memref sig .tc .vmem S1x1024x1344 .i8) (harg5 : arg5.IsWhole) (arg6 : Memref sig .tc .vmem S1x64x2688 .fp8e4m3) (harg6 : arg6.IsWhole) (arg7 : Memref sig .tc .vmem S1x2688x512 .i8) (harg7 : arg7.IsWhole) (arg8 : Memref sig .tc .vmem S1x168x1024 .fp8e4m3) (harg8 : arg8.IsWhole) (arg9 : Memref sig .tc .vmem S1664x2688 .bf16) (harg9 : arg9.IsWhole) (arg10 : Memref sig .tc .vmem S1664x1024 .f32) (harg10 : arg10.IsWhole) (arg11 : Memref sig .tc .vmem S128x2688 .bf16) (harg11 : arg11.IsWhole) (arg12 : Memref sig .tc .vmem S128x1344 .bf16) (harg12 : arg12.IsWhole) (arg13 : Memref sig .tc .vmem S64x2688 .f32) (harg13 : arg13.IsWhole) (arg14 : Memref sig .tc .vmem S64x1280 .f32) (harg14 : arg14.IsWhole) (arg15 : Memref sig .tc .vmem S64x128 .f32) (harg15 : arg15.IsWhole) (arg16 : Memref sig .tc .vmem S168x1024 .f32) (harg16 : arg16.IsWhole) (arg17 : Memref sig .tc .smem S1 .i32) (harg17 : arg17.IsWhole) (v3 : Elt F .i32) (v5 : Elt F .i32) (k0_hw1 : k0_chk1 v3 v5) (k0_h2 : k0_cond2 v5 = 1#1) (k0_t1 : Fin (k0_t1_loop v3 v5).trips) (v87 : BitVec 32) (v93 : Elt F .f32) (v984 : IVec S16x1 1) (init : BitVec 32) (X_arg7 : BufTy.Contents (Elt F) arg7.view.ty) (X_arg11 : BufTy.Contents (Elt F) arg11.view.ty) (X_arg16 : BufTy.Contents (Elt F) arg16.view.ty) :
  Idealize.ShloMosaic.LoopInv (M := (MT nD τ sig Unit (Elt F) ℕ (UR sig nD τ) ℕ)) Idealize.ShloMosaic.frame (wpE defs₀ 𝒱 (c : Thread nD τ) bd) E
    k0_t3_loop.lb k0_t3_loop.ub k0_t3_loop.st k0_t3_ok init (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v5 k0_hw1 k0_h2 k0_t1 v87 v93 v984) where
  inv k acc := iprop((arg7.view.loc (c : Thread nD τ) ↦[arg7.view.set]{fullShare} X_arg7) ∗ (arg11.view.loc (c : Thread nD τ) ↦[arg11.view.set]{fullShare} X_arg11) ∗ (arg16.view.loc (c : Thread nD τ) ↦[arg16.view.set]{fullShare} X_arg16) ∗ (∃ f, (arg10.view.loc (c : Thread nD τ) ↦[arg10.view.set]{fullShare} f)))
  step k acc := by
    unfold k0_t3_body
    iintro ⟨Harg7, Harg11, Harg16, ⟨%f_arg10, Harg10⟩⟩
    sl_exec
    sl_step
    isplitl [Harg7]; · iexact Harg7
    isplitl [Harg11]; · iexact Harg11
    isplitl [Harg16]; · iexact Harg16
    iexists _; iexact Harg10

end Cert.Experts.Hand

end
-- ==== Proof.ExpertsLoop1.lean ====
/- The loop over the windows of a group: what a trip needs and what it may change. -/
module

public import proofs.«01_k».proof.Proof.Gen.Experts.Skeleton
public import Idealize.ShloMosaic.Lib.Exec
public import Idealize.ShloMosaic.Lib.Tactic
public import Idealize.ShloMosaic.Lib.Pipeline.Kit
public import Idealize.ShloMosaic.Lib.LoopEntry
public import proofs.«01_k».proof.Proof.ExpertsLoop2
public import proofs.«01_k».proof.Proof.ExpertsLoop3

@[expose] public section

set_option maxRecDepth 65536
set_option maxHeartbeats 4000000

noncomputable section

namespace Cert.Experts.Hand

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option warn.classDefReducibility false in
/-- The loop over the windows of a group: what it reads stays, and the two results and the two row buffers are written. -/
@[sl_loop] def loop_k0_t1 (𝒱 : Variants) (c : Dev nD) (bd : Option 𝒱.V) (E : Set ℕ) (i : grid0.Coords) (arg1 : Memref sig .tc .smem S32 .i32) (harg1 : arg1.IsWhole) (arg2 : Memref sig .tc .vmem S1664x1024 .bf16) (harg2 : arg2.IsWhole) (arg3 : Memref sig .tc .smem S32 .f32) (harg3 : arg3.IsWhole) (arg4 : Memref sig .tc .smem S32 .f32) (harg4 : arg4.IsWhole) (arg5 : Memref sig .tc .vmem S1x1024x1344 .i8) (harg5 : arg5.IsWhole) (arg6 : Memref sig .tc .vmem S1x64x2688 .fp8e4m3) (harg6 : arg6.IsWhole) (arg7 : Memref sig .tc .vmem S1x2688x512 .i8) (harg7 : arg7.IsWhole) (arg8 : Memref sig .tc .vmem S1x168x1024 .fp8e4m3) (harg8 : arg8.IsWhole) (arg9 : Memref sig .tc .vmem S1664x2688 .bf16) (harg9 : arg9.IsWhole) (arg10 : Memref sig .tc .vmem S1664x1024 .f32) (harg10 : arg10.IsWhole) (arg11 : Memref sig .tc .vmem S128x2688 .bf16) (harg11 : arg11.IsWhole) (arg12 : Memref sig .tc .vmem S128x1344 .bf16) (harg12 : arg12.IsWhole) (arg13 : Memref sig .tc .vmem S64x2688 .f32) (harg13 : arg13.IsWhole) (arg14 : Memref sig .tc .vmem S64x1280 .f32) (harg14 : arg14.IsWhole) (arg15 : Memref sig .tc .vmem S64x128 .f32) (harg15 : arg15.IsWhole) (arg16 : Memref sig .tc .vmem S168x1024 .f32) (harg16 : arg16.IsWhole) (arg17 : Memref sig .tc .smem S1 .i32) (harg17 : arg17.IsWhole) (arg0 : BitVec 32) (v3 : Elt F .i32) (v5 : Elt F .i32) (k0_hw1 : k0_chk1 v3 v5) (v25 : BitVec 32) (k0_h2 : k0_cond2 v5 = 1#1) (init : BitVec 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) :
  Idealize.ShloMosaic.LoopInv (M := (MT nD τ sig Unit (Elt F) ℕ (UR sig nD τ) ℕ)) Idealize.ShloMosaic.frame (wpE defs₀ 𝒱 (c : Thread nD τ) bd) E
    (k0_t1_loop v3 v5).lb (k0_t1_loop v3 v5).ub (k0_t1_loop v3 v5).st (k0_t1_ok v3 v5 k0_hw1 k0_h2) init (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v3 v5 k0_hw1 v25 k0_h2) where
  inv k acc := iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg7.view.loc (c : Thread nD τ) ↦[arg7.view.set]{fullShare} X_arg7) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)))
  step k acc := by
    unfold k0_t1_body
    iintro ⟨Harg2, Harg3, Harg4, Harg5, Harg7, Harg13, Harg14, Harg15, Harg16, ⟨%f_arg9, Harg9⟩, ⟨%f_arg10, Harg10⟩, ⟨%f_arg11, Harg11⟩, ⟨%f_arg12, Harg12⟩⟩
    sl_exec
    sl_step
    isplitl [Harg2]; · iexact Harg2
    isplitl [Harg3]; · iexact Harg3
    isplitl [Harg4]; · iexact Harg4
    isplitl [Harg5]; · iexact Harg5
    isplitl [Harg7]; · iexact Harg7
    isplitl [Harg13]; · iexact Harg13
    isplitl [Harg14]; · iexact Harg14
    isplitl [Harg15]; · iexact Harg15
    isplitl [Harg16]; · iexact Harg16
    isplitl [Harg9]; · iexists _; iexact Harg9
    isplitl [Harg10]; · iexists _; iexact Harg10
    isplitl [Harg11]; · iexists _; iexact Harg11
    iexists _; iexact Harg12

end Cert.Experts.Hand

end
-- ==== Proof.ExpertsBody.lean ====
/- The whole body, at the first point and at a later one: the inputs are kept, the scalar scratch ends at the first row of the next group. -/
module

public import proofs.«01_k».proof.Proof.Gen.Experts.Skeleton
public import Idealize.ShloMosaic.Lib.Exec
public import Idealize.ShloMosaic.Lib.Tactic
public import Idealize.ShloMosaic.Lib.Pipeline.Kit
public import Idealize.ShloMosaic.Lib.LoopEntry
public import Idealize.ShloMosaic.Lib.LoopRemainder
public import proofs.«01_k».proof.Proof.ExpertsLoop1

@[expose] public section

set_option maxRecDepth 65536
set_option maxHeartbeats 4000000

noncomputable section

namespace Cert.Experts.Hand

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem run_rest (c : Dev nD) (q : PosShare TreeShare) (i : grid0.Coords) (arg1 : Memref sig .tc .smem S32 .i32) (harg1 : arg1.IsWhole) (arg2 : Memref sig .tc .vmem S1664x1024 .bf16) (harg2 : arg2.IsWhole) (arg3 : Memref sig .tc .smem S32 .f32) (harg3 : arg3.IsWhole) (arg4 : Memref sig .tc .smem S32 .f32) (harg4 : arg4.IsWhole) (arg5 : Memref sig .tc .vmem S1x1024x1344 .i8) (harg5 : arg5.IsWhole) (arg6 : Memref sig .tc .vmem S1x64x2688 .fp8e4m3) (harg6 : arg6.IsWhole) (arg7 : Memref sig .tc .vmem S1x2688x512 .i8) (harg7 : arg7.IsWhole) (arg8 : Memref sig .tc .vmem S1x168x1024 .fp8e4m3) (harg8 : arg8.IsWhole) (arg9 : Memref sig .tc .vmem S1664x2688 .bf16) (harg9 : arg9.IsWhole) (arg10 : Memref sig .tc .vmem S1664x1024 .f32) (harg10 : arg10.IsWhole) (arg11 : Memref sig .tc .vmem S128x2688 .bf16) (harg11 : arg11.IsWhole) (arg12 : Memref sig .tc .vmem S128x1344 .bf16) (harg12 : arg12.IsWhole) (arg13 : Memref sig .tc .vmem S64x2688 .f32) (harg13 : arg13.IsWhole) (arg14 : Memref sig .tc .vmem S64x1280 .f32) (harg14 : arg14.IsWhole) (arg15 : Memref sig .tc .vmem S64x128 .f32) (harg15 : arg15.IsWhole) (arg16 : Memref sig .tc .vmem S168x1024 .f32) (harg16 : arg16.IsWhole) (arg17 : Memref sig .tc .smem S1 .i32) (harg17 : arg17.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty)
    (h0 : ¬ (Scalar.cmpi .ne (Scalar.extui (Scalar.cmpi .eq (BitVec.ofNat 32 (i 0).val) 0#32) : BitVec 32) 0#32 = 1#1)) (hw : k0_chk1 (arg17.view.readAt (Elt F) (Rect.unit (s := S1) ![0] S1.size inb_S1_S1_0).toLoadRect f17 (Shape.Idx.first (numel1_S1.symm ▸ Nat.one_pos))) (arg1.view.readAt (Elt F) (Rect.unit (s := S32) (k0_off1 i) S1.size (k0_off1_inb i)).toLoadRect f1 (Shape.Idx.first (numel1_S1.symm ▸ Nat.one_pos)))) (K : PUnit → sProp (MT nD τ sig Unit (Elt F) ℕ (UR sig nD τ) ℕ)) :
    iprop((arg1.view.loc (c : Thread nD τ) ↦[arg1.view.set]{q} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
        ∗ (iprop((arg1.view.loc (c : Thread nD τ) ↦[arg1.view.set]{q} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, ⌜(arg17.view.readAt (Elt F) (Rect.unit (s := S1) ![0] S1.size inb_S1_S1_0).toLoadRect f (Shape.Idx.first (numel1_S1.symm ▸ Nat.one_pos)) : Elt F .i32) = Scalar.addi (arg17.view.readAt (Elt F) (Rect.unit (s := S1) ![0] S1.size inb_S1_S1_0).toLoadRect f17 (Shape.Idx.first (numel1_S1.symm ▸ Nat.one_pos))) (arg1.view.readAt (Elt F) (Rect.unit (s := S32) (k0_off1 i) S1.size (k0_off1_inb i)).toLoadRect f1 (Shape.Idx.first (numel1_S1.symm ▸ Nat.one_pos)))⌝ ∗ (arg17.view.loc (c : Thread nD τ) ↦[arg17.view.set]{fullShare} f))) -∗ K ⟨⟩))
      ⊢ wp frame (wpE (defs₀ (F := F)) Variants.none c none) Set.univ (cc0_experts (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_experts_eq_skeleton]; unfold cc0_experts_skel
  by_cases hc : k0_cond2 (arg1.view.readAt (Elt F) (Rect.unit (s := S32) (k0_off1 i) S1.size (k0_off1_inb i)).toLoadRect f1 (Shape.Idx.first (numel1_S1.symm ▸ Nat.one_pos))) = 1#1
  all_goals
    iintro ⟨H1, H2, H3, H4, H5, H6, H7, H8, H9, H10, H11, H12, H13, H14, H15, H16, H17, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; isplitr; swap; · iexact H17
    ipureintro

    exact View.read_writes_cons_emb _ _ _ _ _ _

theorem run_first (c : Dev nD) (q : PosShare TreeShare) (i : grid0.Coords) (arg1 : Memref sig .tc .smem S32 .i32) (harg1 : arg1.IsWhole) (arg2 : Memref sig .tc .vmem S1664x1024 .bf16) (harg2 : arg2.IsWhole) (arg3 : Memref sig .tc .smem S32 .f32) (harg3 : arg3.IsWhole) (arg4 : Memref sig .tc .smem S32 .f32) (harg4 : arg4.IsWhole) (arg5 : Memref sig .tc .vmem S1x1024x1344 .i8) (harg5 : arg5.IsWhole) (arg6 : Memref sig .tc .vmem S1x64x2688 .fp8e4m3) (harg6 : arg6.IsWhole) (arg7 : Memref sig .tc .vmem S1x2688x512 .i8) (harg7 : arg7.IsWhole) (arg8 : Memref sig .tc .vmem S1x168x1024 .fp8e4m3) (harg8 : arg8.IsWhole) (arg9 : Memref sig .tc .vmem S1664x2688 .bf16) (harg9 : arg9.IsWhole) (arg10 : Memref sig .tc .vmem S1664x1024 .f32) (harg10 : arg10.IsWhole) (arg11 : Memref sig .tc .vmem S128x2688 .bf16) (harg11 : arg11.IsWhole) (arg12 : Memref sig .tc .vmem S128x1344 .bf16) (harg12 : arg12.IsWhole) (arg13 : Memref sig .tc .vmem S64x2688 .f32) (harg13 : arg13.IsWhole) (arg14 : Memref sig .tc .vmem S64x1280 .f32) (harg14 : arg14.IsWhole) (arg15 : Memref sig .tc .vmem S64x128 .f32) (harg15 : arg15.IsWhole) (arg16 : Memref sig .tc .vmem S168x1024 .f32) (harg16 : arg16.IsWhole) (arg17 : Memref sig .tc .smem S1 .i32) (harg17 : arg17.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty)
    (h0 : Scalar.cmpi .ne (Scalar.extui (Scalar.cmpi .eq (BitVec.ofNat 32 (i 0).val) 0#32) : BitVec 32) 0#32 = 1#1) (hw : k0_chk1 0#32 (arg1.view.readAt (Elt F) (Rect.unit (s := S32) (k0_off1 i) S1.size (k0_off1_inb i)).toLoadRect f1 (Shape.Idx.first (numel1_S1.symm ▸ Nat.one_pos)))) (K : PUnit → sProp (MT nD τ sig Unit (Elt F) ℕ (UR sig nD τ) ℕ)) :
    iprop((arg1.view.loc (c : Thread nD τ) ↦[arg1.view.set]{q} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
        ∗ (iprop((arg1.view.loc (c : Thread nD τ) ↦[arg1.view.set]{q} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, ⌜(arg17.view.readAt (Elt F) (Rect.unit (s := S1) ![0] S1.size inb_S1_S1_0).toLoadRect f (Shape.Idx.first (numel1_S1.symm ▸ Nat.one_pos)) : Elt F .i32) = Scalar.addi 0#32 (arg1.view.readAt (Elt F) (Rect.unit (s := S32) (k0_off1 i) S1.size (k0_off1_inb i)).toLoadRect f1 (Shape.Idx.first (numel1_S1.symm ▸ Nat.one_pos)))⌝ ∗ (arg17.view.loc (c : Thread nD τ) ↦[arg17.view.set]{fullShare} f))) -∗ K ⟨⟩))
      ⊢ wp frame (wpE (defs₀ (F := F)) Variants.none c none) Set.univ (cc0_experts (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_experts_eq_skeleton]; unfold cc0_experts_skel
  by_cases hc : k0_cond2 (arg1.view.readAt (Elt F) (Rect.unit (s := S32) (k0_off1 i) S1.size (k0_off1_inb i)).toLoadRect f1 (Shape.Idx.first (numel1_S1.symm ▸ Nat.one_pos))) = 1#1
  all_goals
    iintro ⟨H1, H2, H3, H4, H5, H6, H7, H8, H9, H10, H11, H12, H13, H14, H15, H16, H17, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; isplitr; swap; · iexact H17
    ipureintro

    exact View.read_writes_cons_emb _ _ _ _ _ _

end Cert.Experts.Hand

end
-- ==== Proof.ExpertsChk.lean ====
/- The windows of a group: their number and first rows as numbers, and the side conditions they make true. -/
module

public import proofs.«01_k».proof.Experts
public import Idealize.ShloMosaic.Lib.WordCmp

@[expose] public section

set_option maxRecDepth 65536

noncomputable section

namespace Cert.Experts.Hand

open Cert.Experts
open Idealize.ShloMosaic Idealize.ShloMosaic.TcCoe

/-- The first row of the windows: the group's first row rounded down to a multiple of 16, as the kernel computes it. -/
def baseW (v3 : BitVec 32) : BitVec 32 :=
  Scalar.muli (Scalar.select (Scalar.andi (Scalar.cmpi .ne (Scalar.subi (Scalar.extui (Scalar.cmpi .sgt v3 0#32) : BitVec 32) (Scalar.extui (Scalar.cmpi .slt v3 0#32)))
      (Scalar.subi (Scalar.extui (Scalar.cmpi .sgt 16#32 0#32)) (Scalar.extui (Scalar.cmpi .slt 16#32 0#32))))
    (Scalar.cmpi .ne (Scalar.remsi v3 16#32) 0#32)) (Scalar.subi (Scalar.divsi v3 16#32) 1#32) (Scalar.divsi v3 16#32)) 16#32

/-- The quotient by 128 rounded down, as the kernel computes it. -/
def q128 (v60 : BitVec 32) : BitVec 32 :=
  Scalar.subi (Scalar.select (Scalar.andi (Scalar.cmpi .ne (Scalar.subi (Scalar.extui (Scalar.cmpi .sgt v60 0#32) : BitVec 32) (Scalar.extui (Scalar.cmpi .slt v60 0#32)))
      (Scalar.subi (Scalar.extui (Scalar.cmpi .sgt 128#32 0#32)) (Scalar.extui (Scalar.cmpi .slt 128#32 0#32))))
    (Scalar.cmpi .ne (Scalar.remsi v60 128#32) 0#32)) (Scalar.subi (Scalar.divsi v60 128#32) 1#32) (Scalar.divsi v60 128#32)) 0#32

/-- The bound of the whole trips. -/
def ubW (v60 : BitVec 32) : BitVec 32 := Scalar.addi 0#32 (Scalar.muli (Scalar.divsi (q128 v60) 1#32) 1#32)

theorem baseW_eq : ∀ n : Fin 1537, baseW (BitVec.ofNat 32 n.val) = BitVec.ofNat 32 (n.val / 16 * 16) := by decide +kernel
theorem ubW_eq : ∀ n : Fin 1700, ubW (BitVec.ofNat 32 n.val) = BitVec.ofNat 32 (n.val / 128) := by decide +kernel
theorem endW_eq : ∀ n : Fin 1700, Scalar.addi 0#32 (q128 (BitVec.ofNat 32 n.val)) = BitVec.ofNat 32 (n.val / 128) := by decide +kernel

/-- What the windows' number is computed from. -/
def spanW (v3 v5 : BitVec 32) : BitVec 32 := Scalar.subi (Scalar.addi (Scalar.subi (Scalar.addi v3 v5) (baseW v3)) 128#32) 1#32

/-- The number of windows of a group with first row `a` and `b` rows. -/
def winN (a b : ℕ) : ℕ := (a + b - a / 16 * 16 + 127) / 128

theorem spanW_eq (a b : ℕ) (h : a + b ≤ 1536) :
    spanW (BitVec.ofNat 32 a) (BitVec.ofNat 32 b) = BitVec.ofNat 32 (a + b - a / 16 * 16 + 127) := by
  have hb := baseW_eq ⟨a, by omega⟩
  unfold spanW
  rw [hb]
  apply BitVec.eq_of_toNat_eq
  simp only [Scalar.subi, Scalar.addi, IntOp.subi, IntOp.addi, BitVec.toNat_sub, BitVec.toNat_add, BitVec.toNat_ofNat]
  omega

theorem t1_loop_eq (a b : ℕ) (h : a + b ≤ 1536) :
    k0_t1_loop (BitVec.ofNat 32 a) (BitVec.ofNat 32 b) = ⟨0#32, BitVec.ofNat 32 (winN a b), 1#32⟩ := by
  have h1 : k0_t1_loop (BitVec.ofNat 32 a) (BitVec.ofNat 32 b) = ⟨0#32, ubW (spanW (BitVec.ofNat 32 a) (BitVec.ofNat 32 b)), 1#32⟩ := rfl
  rw [h1, spanW_eq a b h, ubW_eq ⟨a + b - a / 16 * 16 + 127, by omega⟩]; rfl

theorem t4_loop_eq (a b : ℕ) (h : a + b ≤ 1536) :
    k0_t4_loop (BitVec.ofNat 32 a) (BitVec.ofNat 32 b) = ⟨BitVec.ofNat 32 (winN a b), BitVec.ofNat 32 (winN a b), 1#32⟩ := by
  have h1 : k0_t4_loop (BitVec.ofNat 32 a) (BitVec.ofNat 32 b)
      = ⟨ubW (spanW (BitVec.ofNat 32 a) (BitVec.ofNat 32 b)), Scalar.addi 0#32 (q128 (spanW (BitVec.ofNat 32 a) (BitVec.ofNat 32 b))), 1#32⟩ := rfl
  rw [h1, spanW_eq a b h, ubW_eq ⟨a + b - a / 16 * 16 + 127, by omega⟩, endW_eq ⟨a + b - a / 16 * 16 + 127, by omega⟩]; rfl

theorem trips_nat : ∀ n : Fin 14, Scf.trips (0#32) (BitVec.ofNat 32 n.val) 1#32 = n.val := by decide +kernel
theorem ok_nat : ∀ n : Fin 14, Scf.OK (0#32) (BitVec.ofNat 32 n.val) 1#32 := by decide +kernel
theorem trips_nil : ∀ n : Fin 14, Scf.trips (BitVec.ofNat 32 n.val) (BitVec.ofNat 32 n.val) 1#32 = 0 := by decide +kernel
theorem ok_nil : ∀ n : Fin 14, Scf.OK (BitVec.ofNat 32 n.val) (BitVec.ofNat 32 n.val) 1#32 := by decide +kernel

theorem winN_lt (a b : ℕ) (h : a + b ≤ 1536) : winN a b < 14 := by unfold winN; omega

theorem t1_trips (a b : ℕ) (h : a + b ≤ 1536) : (k0_t1_loop (BitVec.ofNat 32 a) (BitVec.ofNat 32 b)).trips = winN a b := by
  rw [t1_loop_eq a b h]; exact trips_nat ⟨winN a b, winN_lt a b h⟩
theorem t1_OK (a b : ℕ) (h : a + b ≤ 1536) : (k0_t1_loop (BitVec.ofNat 32 a) (BitVec.ofNat 32 b)).OK := by
  rw [t1_loop_eq a b h]; exact ok_nat ⟨winN a b, winN_lt a b h⟩
theorem t4_trips (a b : ℕ) (h : a + b ≤ 1536) : (k0_t4_loop (BitVec.ofNat 32 a) (BitVec.ofNat 32 b)).trips = 0 := by
  rw [t4_loop_eq a b h]; exact trips_nil ⟨winN a b, winN_lt a b h⟩
theorem t4_OK (a b : ℕ) (h : a + b ≤ 1536) : (k0_t4_loop (BitVec.ofNat 32 a) (BitVec.ofNat 32 b)).OK := by
  rw [t4_loop_eq a b h]; exact ok_nil ⟨winN a b, winN_lt a b h⟩

/-- The first row of window `t`, as the kernel computes it. -/
def rowW (v3 : BitVec 32) (t : ℕ) : BitVec 32 := Scalar.addi (baseW v3) (Scalar.muli (Scf.iv 0#32 1#32 t) 128#32)

theorem rowW_toNat (a t : ℕ) (h : a ≤ 1536) (ht : t < 14) : (rowW (BitVec.ofNat 32 a) t).toNat = a / 16 * 16 + 128 * t := by
  unfold rowW
  rw [baseW_eq ⟨a, by omega⟩]
  simp only [Scalar.muli, Scalar.addi, IntOp.muli, IntOp.addi, Scf.iv, BitVec.toNat_mul, BitVec.toNat_add, BitVec.toNat_ofNat]
  omega
theorem rowW16_toNat (a t : ℕ) (h : a ≤ 1536) (ht : t < 14) : (Scalar.addi (rowW (BitVec.ofNat 32 a) t) 16#32).toNat = a / 16 * 16 + 128 * t + 16 := by
  have := rowW_toNat a t h ht
  simp only [Scalar.addi, IntOp.addi, BitVec.toNat_add, this, BitVec.toNat_ofNat]
  omega

theorem win_room (a b t : ℕ) (h : a + b ≤ 1536) (ht : t < winN a b) : a / 16 * 16 + 128 * t + 128 ≤ 1664 := by
  unfold winN at ht; omega

theorem cols3 : ∀ t : Fin 4, (Scalar.muli (Scf.iv 0#32 1#32 t.val) 128#32).toNat = 128 * t.val
    ∧ (Scalar.addi (Scalar.muli (Scf.iv 0#32 1#32 t.val) 128#32) 512#32).toNat = 128 * t.val + 512 := by decide +kernel
theorem t3_trips_le : k0_t3_loop.trips = 4 := by decide +kernel

/-- A rectangle of whole rows that starts and ends at even rows is made of whole 32-bit words of two rows. -/
theorem packed_rows (off : Fin 2 → ℕ) (sz : Fin 2 → ℕ) (hinb : ∀ a, off a + sz a ≤ S1664x2688.size a)
    (h0 : 2 ∣ off 0) (h1 : off 1 = 0) (hs : 2 ∣ sz 0) (hs1 : sz 1 = 2688) :
    (Rect.unit (s := S1664x2688) off sz hinb).PackedRows (EltTy.packing .bf16) :=
  Or.inr ⟨by decide, rfl, Or.inl ⟨h0, hs⟩⟩

theorem chk (a b : ℕ) (h : a + b ≤ 1536) : k0_chk1 (BitVec.ofNat 32 a) (BitVec.ofNat 32 b) := by
  have hT : ∀ t : Fin (k0_t1_loop (BitVec.ofNat 32 a) (BitVec.ofNat 32 b)).trips, t.val < winN a b := fun t => (t1_trips a b h) ▸ t.isLt
  have hw := winN_lt a b h
  have hR : ∀ t : Fin (k0_t1_loop (BitVec.ofNat 32 a) (BitVec.ofNat 32 b)).trips, (rowW (BitVec.ofNat 32 a) t.val).toNat = a / 16 * 16 + 128 * t.val :=
    fun t => rowW_toNat a t.val (by omega) (by have := hT t; omega)
  have hR16 : ∀ t : Fin (k0_t1_loop (BitVec.ofNat 32 a) (BitVec.ofNat 32 b)).trips, (Scalar.addi (rowW (BitVec.ofNat 32 a) t.val) 16#32).toNat = a / 16 * 16 + 128 * t.val + 16 :=
    fun t => rowW16_toNat a t.val (by omega) (by have := hT t; omega)
  have hM : ∀ t : Fin (k0_t1_loop (BitVec.ofNat 32 a) (BitVec.ofNat 32 b)).trips, a / 16 * 16 + 128 * t.val + 128 ≤ 1664 := fun t => win_room a b t.val h (hT t)
  have hN : ∀ t : Fin (k0_t4_loop (BitVec.ofNat 32 a) (BitVec.ofNat 32 b)).trips, False := fun t => by
    exact absurd t.isLt (by have := t4_trips a b h; omega)
  have o2 : ∀ t, k0_off2 (BitVec.ofNat 32 a) (BitVec.ofNat 32 b) t = ![(rowW (BitVec.ofNat 32 a) t.val).toNat, 0] := fun _ => rfl
  have o166 : ∀ t, k0_off166 (BitVec.ofNat 32 a) (BitVec.ofNat 32 b) t = ![(rowW (BitVec.ofNat 32 a) t.val).toNat, 0] := fun _ => rfl
  have o167 : ∀ t, k0_off167 (BitVec.ofNat 32 a) (BitVec.ofNat 32 b) t = ![(Scalar.addi (rowW (BitVec.ofNat 32 a) t.val) 16#32).toNat, 0] := fun _ => rfl
  have h3 : ∀ t : Fin k0_t3_loop.trips, t.val < 4 := fun t => t3_trips_le ▸ t.isLt
  have o588 : ∀ t s, k0_off588 (BitVec.ofNat 32 a) (BitVec.ofNat 32 b) t s = ![(rowW (BitVec.ofNat 32 a) t.val).toNat, (Scalar.muli (Scf.iv 0#32 1#32 s.val) 128#32).toNat] := fun _ _ => rfl
  have o589 : ∀ t s, k0_off589 (BitVec.ofNat 32 a) (BitVec.ofNat 32 b) t s = ![(Scalar.addi (rowW (BitVec.ofNat 32 a) t.val) 16#32).toNat, (Scalar.muli (Scf.iv 0#32 1#32 s.val) 128#32).toNat] := fun _ _ => rfl
  have o590 : ∀ t s, k0_off590 (BitVec.ofNat 32 a) (BitVec.ofNat 32 b) t s = ![(rowW (BitVec.ofNat 32 a) t.val).toNat, (Scalar.addi (Scalar.muli (Scf.iv 0#32 1#32 s.val) 128#32) 512#32).toNat] := fun _ _ => rfl
  have o591 : ∀ t s, k0_off591 (BitVec.ofNat 32 a) (BitVec.ofNat 32 b) t s = ![(Scalar.addi (rowW (BitVec.ofNat 32 a) t.val) 16#32).toNat, (Scalar.addi (Scalar.muli (Scf.iv 0#32 1#32 s.val) 128#32) 512#32).toNat] := fun _ _ => rfl
  have c0 : ∀ s : Fin k0_t3_loop.trips, (Scalar.muli (Scf.iv 0#32 1#32 s.val) 128#32).toNat = 128 * s.val := fun s => (cols3 ⟨s.val, h3 s⟩).1
  have c1 : ∀ s : Fin k0_t3_loop.trips, (Scalar.addi (Scalar.muli (Scf.iv 0#32 1#32 s.val) 128#32) 512#32).toNat = 128 * s.val + 512 := fun s => (cols3 ⟨s.val, h3 s⟩).2
  unfold k0_chk1
  refine ⟨fun _ => t1_OK a b h, ?_, ?_, ?_, ?_, ?_, ?_, ?_, ?_, ?_, ?_, ?_, ?_, ?_, fun _ => t4_OK a b h,
    fun t => (hN t).elim, fun t => (hN t).elim, fun t => (hN t).elim, fun t => (hN t).elim, fun t => (hN t).elim, fun t => (hN t).elim, fun t => (hN t).elim,
    fun t => (hN t).elim, fun t => (hN t).elim, fun t => (hN t).elim, fun t => (hN t).elim, fun t => (hN t).elim, fun t => (hN t).elim⟩
  · intro t _; show 16 ∣ (rowW (BitVec.ofNat 32 a) t.val).toNat; rw [hR]; omega
  · intro t _; rw [o2, hR]; have := hM t; intro x; fin_cases x
    · show a / 16 * 16 + 128 * t.val + 128 ≤ 1664; omega
    · show 0 + 1024 ≤ 1024; omega
  · intro t _; rw [o166, hR]; have := hM t; intro x; fin_cases x
    · show a / 16 * 16 + 128 * t.val + 16 ≤ 1664; omega
    · show 0 + 2688 ≤ 2688; omega
  · intro t _ hinb
    refine packed_rows _ _ hinb ?_ rfl (by decide) rfl
    rw [o166, hR]; show 2 ∣ a / 16 * 16 + 128 * t.val; omega
  · intro t _; show 16 ∣ (Scalar.addi (rowW (BitVec.ofNat 32 a) t.val) 16#32).toNat; rw [hR16]; omega
  · intro t _; rw [o167, hR16]; have := hM t; intro x; fin_cases x
    · show a / 16 * 16 + 128 * t.val + 16 + 112 ≤ 1664; omega
    · show 0 + 2688 ≤ 2688; omega
  · intro t _ hinb
    refine packed_rows _ _ hinb ?_ rfl (by decide) rfl
    rw [o167, hR16]; show 2 ∣ a / 16 * 16 + 128 * t.val + 16; omega
  · intro t s _; rw [o588, hR, c0]; have := hM t; have := h3 s; intro x; fin_cases x
    · show a / 16 * 16 + 128 * t.val + 16 ≤ 1664; omega
    · show 128 * s.val + 128 ≤ 1024; omega
  · intro t _; show 16 ∣ (Scalar.addi (rowW (BitVec.ofNat 32 a) t.val) 16#32).toNat; rw [hR16]; omega
  · intro t s _; rw [o589, hR16, c0]; have := hM t; have := h3 s; intro x; fin_cases x
    · show a / 16 * 16 + 128 * t.val + 16 + 112 ≤ 1664; omega
    · show 128 * s.val + 128 ≤ 1024; omega
  · intro t s _; rw [o590, hR, c1]; have := hM t; have := h3 s; intro x; fin_cases x
    · show a / 16 * 16 + 128 * t.val + 16 ≤ 1664; omega
    · show 128 * s.val + 512 + 128 ≤ 1024; omega
  · intro t _; show 16 ∣ (Scalar.addi (rowW (BitVec.ofNat 32 a) t.val) 16#32).toNat; rw [hR16]; omega
  · intro t s _; rw [o591, hR16, c1]; have := hM t; have := h3 s; intro x; fin_cases x
    · show a / 16 * 16 + 128 * t.val + 16 + 112 ≤ 1664; omega
    · show 128 * s.val + 512 + 128 ≤ 1024; omega

end Cert.Experts.Hand

end
-- ==== Proof.ExpertsLaunch.lean ====
/- The launch of the call on a memory: the table of sizes, the rows before a group, the invariant between points and the proof data. -/
module

public import proofs.«01_k».proof.Proof.Gen.Experts.Skeleton
public import Idealize.ShloMosaic.Lib.Exec
public import Idealize.ShloMosaic.Lib.Tactic
public import Idealize.ShloMosaic.Lib.Pipeline.Kit
public import Idealize.ShloMosaic.Lib.LoopEntry
public import proofs.«01_k».proof.Proof.Gen.Experts.Launch
public import proofs.«01_k».proof.Proof.ExpertsBody
public import proofs.«01_k».proof.Proof.ExpertsChk
public import Idealize.ShloMosaic.Lib.Pipeline.FrameSuffix
public import Idealize.ShloMosaic.Lib.Pipeline.FrameBody
public import Idealize.ShloMosaic.Lib.Claim

@[expose] public section

set_option maxRecDepth 65536
set_option maxHeartbeats 400000

noncomputable section

namespace Cert.Experts.Hand

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The launch of the call: its words, its invariant, its proof data, and the run -/

theorem pt_whole {sp : Space} (c : Dev nD) (b : Ref sig .tc) (q : PosShare TreeShare) (f : Buf (Elt F) ((c : Thread nD τ).loc b)) :
    ((Memref.whole b).view.loc (c : Thread nD τ) ↦[(Memref.whole b).view.set]{q} f : sProp (MT nD τ sig Unit (Elt F) ℕ (UR sig nD τ) ℕ)) = (((c : Thread nD τ).loc b) ↦{q} f) := by
  simp only [Memref.view_whole, View.set_whole]

theorem to_whole (c : Dev nD) (b : Ref sig .tc) (q : PosShare TreeShare) (f : Buf (Elt F) ((c : Thread nD τ).loc b)) :
    ((((c : Thread nD τ).loc b) ↦{q} f) : sProp (MT nD τ sig Unit (Elt F) ℕ (UR sig nD τ) ℕ)) ⊢ ((Memref.whole b).view.loc (c : Thread nD τ) ↦[(Memref.whole b).view.set]{q} f) :=
  Entails.of_eq (pt_whole (sp := .vmem) c b q f).symm

theorem of_whole (c : Dev nD) (b : Ref sig .tc) (q : PosShare TreeShare) (f : Buf (Elt F) ((c : Thread nD τ).loc b)) :
    ((Memref.whole b).view.loc (c : Thread nD τ) ↦[(Memref.whole b).view.set]{q} f : sProp (MT nD τ sig Unit (Elt F) ℕ (UR sig nD τ) ℕ)) ⊢ (((c : Thread nD τ).loc b) ↦{q} f) :=
  Entails.of_eq (pt_whole (sp := .vmem) c b q f)

variable (m : (ℓ : Loc nD τ sig) → Buf (Elt F) ℓ) (ρ : Dev nD → PrngReg)

/-- The table of group sizes as the region finds it. -/
def tbl : pre0.Contents (Elt F) := fun k => m ((((0 : Dev nD).tc : Thread nD τ)).loc (pre0.ref k))

theorem ok_all (pf : pre0.Contents (Elt F)) : ok0 pf := by unfold ok0; trivial

/-- The admissible contents the pipeline runs at. -/
abbrev adm : (p : Fin 1) → (pcfgs (F := F) p).Adm := fun _ => ⟨tbl (F := F) m, ok_all (F := F) (tbl m)⟩

/-- The size of group `t`, as the body reads it at point `t`. -/
def word (t : Fin grid0.N) : BitVec 32 := ((Memref.whole main_arg0).view.readAt (Elt F) (Rect.unit (s := S32) (k0_off1 (grid0.coords t)) S1.size (k0_off1_inb (grid0.coords t))).toLoadRect (tbl m 0) (Shape.Idx.first (numel1_S1.symm ▸ Nat.one_pos)) : Elt F .i32)

/-- The first row of group `n`. -/
def pre (n : ℕ) : ℕ := ∑ k ∈ Finset.range n, if h : k < grid0.N then (word m ⟨k, h⟩).toNat else 0

theorem pre_zero : pre m 0 = 0 := by unfold pre; rfl

theorem pre_succ (t : Fin grid0.N) : pre m (t.val + 1) = pre m t.val + (word m t).toNat := by
  unfold pre; rw [Finset.sum_range_succ, dif_pos t.isLt]

theorem pre_mono {a b : ℕ} (h : a ≤ b) : pre m a ≤ pre m b :=
  Finset.sum_le_sum_of_subset (Finset.range_mono h)

/-- The groups together hold at most 1536 rows. -/
def Hyps : Prop := pre m grid0.N ≤ 1536

theorem coords_zero : ∀ t : Fin grid0.N, ((grid0.coords t) 0).val = t.val := by decide

theorem first_iff : ∀ n : Fin 32, (Scalar.cmpi .ne (Scalar.extui (Scalar.cmpi .eq (BitVec.ofNat 32 n.val) 0#32) : BitVec 32) 0#32 = 1#1) ↔ n.val = 0 := by decide

theorem chk_at (hH : Hyps m) (t : Fin grid0.N) : k0_chk1 (BitVec.ofNat 32 (pre m t.val)) (word m t) := by
  have h := chk (pre m t.val) (word m t).toNat (by
    have := pre_mono m (show t.val + 1 ≤ grid0.N from t.isLt)
    rw [pre_succ] at this; exact this.trans hH)
  rwa [BitVec.ofNat_toNat, BitVec.setWidth_eq] at h

/-- What the body may leave in the windows beside their inputs unchanged. -/
abbrev Rel : Type := (w : Fin (cfg0 (adm m 0)).W) → Fin (cfg0 (adm m 0)).N → (((cfg0 (adm m 0)).win w).block.Idx → Elt F ((cfg0 (adm m 0)).win w).elt) → Prop

/-- The invariant before point `n`: the scratches at anything, but the scalar one at the first row of group `n` after the first
    point; the register at anything; the body's half of the table. -/
def Φat (c : Dev nD) (n : ℕ) : sProp (MT nD τ sig Unit (Elt F) ℕ (UR sig nD τ) ℕ) :=
  iprop((∃ f : Buf (Elt F) ((c : Thread nD τ).loc cc0_scratch0), ((Memref.whole cc0_scratch0).view.loc (c : Thread nD τ) ↦[(Memref.whole cc0_scratch0).view.set]{fullShare} f)) ∗ (∃ f : Buf (Elt F) ((c : Thread nD τ).loc cc0_scratch1), ((Memref.whole cc0_scratch1).view.loc (c : Thread nD τ) ↦[(Memref.whole cc0_scratch1).view.set]{fullShare} f)) ∗ (∃ f : Buf (Elt F) ((c : Thread nD τ).loc cc0_scratch2), ((Memref.whole cc0_scratch2).view.loc (c : Thread nD τ) ↦[(Memref.whole cc0_scratch2).view.set]{fullShare} f)) ∗ (∃ f : Buf (Elt F) ((c : Thread nD τ).loc cc0_scratch3), ((Memref.whole cc0_scratch3).view.loc (c : Thread nD τ) ↦[(Memref.whole cc0_scratch3).view.set]{fullShare} f)) ∗ (∃ f : Buf (Elt F) ((c : Thread nD τ).loc cc0_scratch4), ((Memref.whole cc0_scratch4).view.loc (c : Thread nD τ) ↦[(Memref.whole cc0_scratch4).view.set]{fullShare} f)) ∗ (∃ f : Buf (Elt F) ((c : Thread nD τ).loc cc0_scratch5), ((Memref.whole cc0_scratch5).view.loc (c : Thread nD τ) ↦[(Memref.whole cc0_scratch5).view.set]{fullShare} f))
    ∗ (∃ f : Buf (Elt F) ((c : Thread nD τ).loc cc0_scratch6), ⌜n ≠ 0 → ((Memref.whole cc0_scratch6).view.readAt (Elt F) (Rect.unit (s := S1) ![0] S1.size inb_S1_S1_0).toLoadRect f (Shape.Idx.first (numel1_S1.symm ▸ Nat.one_pos)) : Elt F .i32) = BitVec.ofNat 32 (pre m n)⌝ ∗ ((Memref.whole cc0_scratch6).view.loc (c : Thread nD τ) ↦[(Memref.whole cc0_scratch6).view.set]{fullShare} f))
    ∗ (∃ r, prngReg c r) ∗ ((Memref.whole main_arg0).view.loc (c : Thread nD τ) ↦[(Memref.whole main_arg0).view.set]{fullShare.right} (show Buf (Elt F) ((c : Thread nD τ).loc main_arg0) from tbl m 0)))

/-- The proof data: the inputs unchanged, the outputs as `S` says. -/
def rdat (S : Rel m) (c : Dev nD) : Pipeline.RDat τ (Elt F) Unit ℕ (UR sig nD τ) ℕ (cfg0 (adm m 0)) c where
  A w := m ((c.tc : Thread nD τ).loc (Pipeline.arrRef spec0 w))
  after w t Y X := ((spec0 w).isOut = false → X = Y) ∧ S w t X
  Φ t := Φat m c t.val
  q _ := fullShare
  owed _ := 0

theorem bodyAt_eq (t : Fin (cfg0 (adm m 0)).N) :
    defs₀ (F := F) .tc (cfg0 (adm m 0)).body ((cfg0 (adm m 0)).bodyArgs t ((cfg0 (adm m 0)).slots t))
      = cc0_experts (F := F) (grid0.coords t) (Memref.whole main_arg0) (Memref.isWhole_whole _)
      (((cfg0 (adm m 0)).win 0).stage ((cfg0 (adm m 0)).slots t 0)) (hstage0_0 (((cfg0 (adm m 0)).slots t 0).cast nbuf0_0)) (((cfg0 (adm m 0)).win 1).stage ((cfg0 (adm m 0)).slots t 1)) (hstage0_1 (((cfg0 (adm m 0)).slots t 1).cast nbuf0_1)) (((cfg0 (adm m 0)).win 2).stage ((cfg0 (adm m 0)).slots t 2)) (hstage0_2 (((cfg0 (adm m 0)).slots t 2).cast nbuf0_2)) (((cfg0 (adm m 0)).win 3).stage ((cfg0 (adm m 0)).slots t 3)) (hstage0_3 (((cfg0 (adm m 0)).slots t 3).cast nbuf0_3)) (((cfg0 (adm m 0)).win 4).stage ((cfg0 (adm m 0)).slots t 4)) (hstage0_4 (((cfg0 (adm m 0)).slots t 4).cast nbuf0_4)) (((cfg0 (adm m 0)).win 5).stage ((cfg0 (adm m 0)).slots t 5)) (hstage0_5 (((cfg0 (adm m 0)).slots t 5).cast nbuf0_5)) (((cfg0 (adm m 0)).win 6).stage ((cfg0 (adm m 0)).slots t 6)) (hstage0_6 (((cfg0 (adm m 0)).slots t 6).cast nbuf0_6)) (((cfg0 (adm m 0)).win 7).stage ((cfg0 (adm m 0)).slots t 7)) (hstage0_7 (((cfg0 (adm m 0)).slots t 7).cast nbuf0_7)) (((cfg0 (adm m 0)).win 8).stage ((cfg0 (adm m 0)).slots t 8)) (hstage0_8 (((cfg0 (adm m 0)).slots t 8).cast nbuf0_8))
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) := by
  unfold defs₀; rw [Defs.onTc_tc]; rfl

theorem prefHeld_one (c : Dev nD) (q : Fin 1 → PosShare TreeShare) (v : pre0.Contents (Elt F)) :
    (Pipeline.prefHeld pre0 c q v : sProp (MT nD τ sig Unit (Elt F) ℕ (UR sig nD τ) ℕ))
      = (((c : Thread nD τ).loc main_arg0) ↦{q 0} (show Buf (Elt F) ((c : Thread nD τ).loc main_arg0) from v 0)) := by
  unfold Pipeline.prefHeld
  rw [show (Finset.univ : Finset (Fin 1)) = {0} from by decide, bigSep_singleton]
  rfl

theorem hin0 (S : Rel m) (c : Dev nD) : iprop(Pipeline.ΦA spec0 c ∗ Pipeline.ΦT pre0 (tbl m) c) ⊢ (rdat m S c).Φ 0 := by
  show _ ⊢ Φat m c 0
  unfold Pipeline.ΦA Pipeline.ΦT Φat
  rw [scopedRest0_eq, prefHeld_one]
  iintro ⟨⟨⟨⟨%f0, S0⟩, ⟨%f1, S1⟩, ⟨%f2, S2⟩, ⟨%f3, S3⟩, ⟨%f4, S4⟩, ⟨%f5, S5⟩, ⟨%f6, S6⟩⟩, Hr⟩, Ht⟩
  isplitl [S0]
  · iexists f0; iapply (to_whole c cc0_scratch0 fullShare f0); iexact S0
  isplitl [S1]
  · iexists f1; iapply (to_whole c cc0_scratch1 fullShare f1); iexact S1
  isplitl [S2]
  · iexists f2; iapply (to_whole c cc0_scratch2 fullShare f2); iexact S2
  isplitl [S3]
  · iexists f3; iapply (to_whole c cc0_scratch3 fullShare f3); iexact S3
  isplitl [S4]
  · iexists f4; iapply (to_whole c cc0_scratch4 fullShare f4); iexact S4
  isplitl [S5]
  · iexists f5; iapply (to_whole c cc0_scratch5 fullShare f5); iexact S5
  isplitl [S6]
  · iexists f6; isplitr; · ipureintro; exact fun h => absurd rfl h
    iapply (to_whole c cc0_scratch6 fullShare f6); iexact S6
  isplitl [Hr]; · iexact Hr
  iapply (to_whole c main_arg0 fullShare.right (show Buf (Elt F) ((c : Thread nD τ).loc main_arg0) from tbl m 0)); iexact Ht

theorem hout0 (S : Rel m) (c : Dev nD) : (rdat m S c).Φ (Fin.last (cfg0 (adm m 0)).N) ⊢ Pipeline.ΦA spec0 c := by
  show Φat m c _ ⊢ _
  unfold Pipeline.ΦA Φat
  rw [scopedRest0_eq]
  iintro ⟨⟨%f0, S0⟩, ⟨%f1, S1⟩, ⟨%f2, S2⟩, ⟨%f3, S3⟩, ⟨%f4, S4⟩, ⟨%f5, S5⟩, ⟨%f6, -, S6⟩, Hr, -⟩
  isplitr [Hr]
  · isplitl [S0]
    · iexists f0; iapply (of_whole c cc0_scratch0 fullShare f0); iexact S0
    isplitl [S1]
    · iexists f1; iapply (of_whole c cc0_scratch1 fullShare f1); iexact S1
    isplitl [S2]
    · iexists f2; iapply (of_whole c cc0_scratch2 fullShare f2); iexact S2
    isplitl [S3]
    · iexists f3; iapply (of_whole c cc0_scratch3 fullShare f3); iexact S3
    isplitl [S4]
    · iexists f4; iapply (of_whole c cc0_scratch4 fullShare f4); iexact S4
    isplitl [S5]
    · iexists f5; iapply (of_whole c cc0_scratch5 fullShare f5); iexact S5
    iexists f6; iapply (of_whole c cc0_scratch6 fullShare f6); iexact S6
  iexact Hr

end Cert.Experts.Hand

end
-- ==== Proof.ExpertsPoint.lean ====
/- The body at any point, on any staging buffers, keeps the invariant of `Launch` when the groups fit. -/
module

public import proofs.«01_k».proof.Proof.Gen.Experts.Skeleton
public import Idealize.ShloMosaic.Lib.Exec
public import Idealize.ShloMosaic.Lib.Tactic
public import Idealize.ShloMosaic.Lib.Pipeline.Kit
public import Idealize.ShloMosaic.Lib.LoopEntry
public import proofs.«01_k».proof.Proof.ExpertsLaunch

@[expose] public section

set_option maxRecDepth 65536
set_option maxHeartbeats 400000

noncomputable section

namespace Cert.Experts.Hand

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-- The body at a point on any buffers: the inputs handed back as they were, the outputs at something. -/
theorem run_any (hH : Hyps m) (c : Dev nD) (t : Fin grid0.N) (arg2 : Memref sig .tc .vmem S1664x1024 .bf16) (harg2 : arg2.IsWhole) (arg3 : Memref sig .tc .smem S32 .f32) (harg3 : arg3.IsWhole) (arg4 : Memref sig .tc .smem S32 .f32) (harg4 : arg4.IsWhole) (arg5 : Memref sig .tc .vmem S1x1024x1344 .i8) (harg5 : arg5.IsWhole) (arg6 : Memref sig .tc .vmem S1x64x2688 .fp8e4m3) (harg6 : arg6.IsWhole) (arg7 : Memref sig .tc .vmem S1x2688x512 .i8) (harg7 : arg7.IsWhole) (arg8 : Memref sig .tc .vmem S1x168x1024 .fp8e4m3) (harg8 : arg8.IsWhole) (arg9 : Memref sig .tc .vmem S1664x2688 .bf16) (harg9 : arg9.IsWhole) (arg10 : Memref sig .tc .vmem S1664x1024 .f32) (harg10 : arg10.IsWhole)  (Y2 : Vec F S1664x1024 .bf16) (Y3 : Vec F S32 .f32) (Y4 : Vec F S32 .f32) (Y5 : Vec F S1x1024x1344 .i8) (Y6 : Vec F S1x64x2688 .fp8e4m3) (Y7 : Vec F S1x2688x512 .i8) (Y8 : Vec F S1x168x1024 .fp8e4m3) (Y9 : Vec F S1664x2688 .bf16) (Y10 : Vec F S1664x1024 .f32) (X : sProp (MT nD τ sig Unit (Elt F) ℕ (UR sig nD τ) ℕ)) :
    iprop(Φat m c t.val ∗ X ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10)
      ⊢ wp frame (wpE (defs₀ (F := F)) Variants.none c none) Set.univ
          (cc0_experts (F := F) (grid0.coords t) (Memref.whole main_arg0) (Memref.isWhole_whole _) arg2 harg2 arg3 harg3 arg4 harg4 arg5 harg5 arg6 harg6 arg7 harg7 arg8 harg8 arg9 harg9 arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _))
          (fun _ => iprop(Φat m c (t.val + 1) ∗ X ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ (∃ Z, owns (c : Thread nD τ) arg9 fullShare Z) ∗ (∃ Z, owns (c : Thread nD τ) arg10 fullShare Z))) := by
  conv_lhs => unfold Φat
  unfold owns
  iintro ⟨⟨⟨%s0, H11⟩, ⟨%s1, H12⟩, ⟨%s2, H13⟩, ⟨%s3, H14⟩, ⟨%s4, H15⟩, ⟨%s5, H16⟩, ⟨%s6, %es6, H17⟩, Hr, H1⟩, HO, ⟨%g0, %e0, H2⟩, ⟨%g1, %e1, H3⟩, ⟨%g2, %e2, H4⟩, ⟨%g3, %e3, H5⟩, ⟨%g4, %e4, H6⟩, ⟨%g5, %e5, H7⟩, ⟨%g6, %e6, H8⟩, ⟨%g7, %e7, H9⟩, ⟨%g8, %e8, H10⟩⟩
  by_cases ht : t.val = 0

  · have hrun := fun K => run_first (F := F) c fullShare.right (grid0.coords t) (Memref.whole main_arg0) (Memref.isWhole_whole _)
      arg2 harg2 arg3 harg3 arg4 harg4 arg5 harg5 arg6 harg6 arg7 harg7 arg8 harg8 arg9 harg9 arg10 harg10
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (tbl m 0) g0 g1 g2 g3 g4 g5 g6 g7 g8 s0 s1 s2 s3 s4 s5 s6 ((first_iff ((grid0.coords t) 0)).mpr ((coords_zero t).trans ht)) (by have := chk_at m hH t; rw [ht, pre_zero] at this; exact this) K
    iapply (hrun _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H1, H2, H3, H4, H5, H6, H7, H8, ⟨%o9, H9⟩, ⟨%o10, H10⟩, ⟨%o11, H11⟩, ⟨%o12, H12⟩, ⟨%o13, H13⟩, ⟨%o14, H14⟩, ⟨%o15, H15⟩, ⟨%o16, H16⟩, ⟨%o17, %e17, H17⟩⟩
    isplitl [H1 H11 H12 H13 H14 H15 H16 H17 Hr]
    · unfold Φat
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]
      · iexists o17; isplitr
        · ipureintro; intro _; rw [e17]; show (0#32 + word m t : BitVec 32) = _; rw [pre_succ, ht, pre_zero, Nat.zero_add, BitVec.ofNat_toNat, BitVec.setWidth_eq]; exact BitVec.zero_add _
        iexact H17
      isplitl [Hr]; · iexact Hr
      iexact H1
    isplitl [HO]; · iexact HO
    isplitl [H2]
    · iexists g0; isplitr; · ipureintro; exact e0
      iexact H2
    isplitl [H3]
    · iexists g1; isplitr; · ipureintro; exact e1
      iexact H3
    isplitl [H4]
    · iexists g2; isplitr; · ipureintro; exact e2
      iexact H4
    isplitl [H5]
    · iexists g3; isplitr; · ipureintro; exact e3
      iexact H5
    isplitl [H6]
    · iexists g4; isplitr; · ipureintro; exact e4
      iexact H6
    isplitl [H7]
    · iexists g5; isplitr; · ipureintro; exact e5
      iexact H7
    isplitl [H8]
    · iexists g6; isplitr; · ipureintro; exact e6
      iexact H8
    isplitl [H9]
    · iexists _, o9; isplitr; swap; · iexact H9
      ipureintro; rfl
    iexists _, o10; isplitr; swap; · iexact H10
    ipureintro; rfl

  · have hrun := fun K => run_rest (F := F) c fullShare.right (grid0.coords t) (Memref.whole main_arg0) (Memref.isWhole_whole _)
      arg2 harg2 arg3 harg3 arg4 harg4 arg5 harg5 arg6 harg6 arg7 harg7 arg8 harg8 arg9 harg9 arg10 harg10
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (tbl m 0) g0 g1 g2 g3 g4 g5 g6 g7 g8 s0 s1 s2 s3 s4 s5 s6 (fun h => ht ((coords_zero t).symm.trans ((first_iff ((grid0.coords t) 0)).mp h))) (by have h := chk_at m hH t; rw [← es6 ht] at h; exact h) K
    iapply (hrun _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H1, H2, H3, H4, H5, H6, H7, H8, ⟨%o9, H9⟩, ⟨%o10, H10⟩, ⟨%o11, H11⟩, ⟨%o12, H12⟩, ⟨%o13, H13⟩, ⟨%o14, H14⟩, ⟨%o15, H15⟩, ⟨%o16, H16⟩, ⟨%o17, %e17, H17⟩⟩
    isplitl [H1 H11 H12 H13 H14 H15 H16 H17 Hr]
    · unfold Φat
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]
      · iexists o17; isplitr
        · ipureintro; intro _; rw [e17, es6 ht, pre_succ, BitVec.ofNat_add, BitVec.ofNat_toNat, BitVec.setWidth_eq]; rfl
        iexact H17
      isplitl [Hr]; · iexact Hr
      iexact H1
    isplitl [HO]; · iexact HO
    isplitl [H2]
    · iexists g0; isplitr; · ipureintro; exact e0
      iexact H2
    isplitl [H3]
    · iexists g1; isplitr; · ipureintro; exact e1
      iexact H3
    isplitl [H4]
    · iexists g2; isplitr; · ipureintro; exact e2
      iexact H4
    isplitl [H5]
    · iexists g3; isplitr; · ipureintro; exact e3
      iexact H5
    isplitl [H6]
    · iexists g4; isplitr; · ipureintro; exact e4
      iexact H6
    isplitl [H7]
    · iexists g5; isplitr; · ipureintro; exact e5
      iexact H7
    isplitl [H8]
    · iexists g6; isplitr; · ipureintro; exact e6
      iexact H8
    isplitl [H9]
    · iexists _, o9; isplitr; swap; · iexact H9
      ipureintro; rfl
    iexists _, o10; isplitr; swap; · iexact H10
    ipureintro; rfl

/-- The body at a point, nothing said of the outputs. -/
theorem body_any (hH : Hyps m) (c : Dev nD) :
    (rdat m (fun _ _ _ => True) c).BodyObligation (defs₀ (F := F)) Variants.none () Set.univ := by
  intro t Y hY
  rw [bodyAt_eq, bigSep_W0, bigSep_W0]
  refine triple_restated (run_any m hH c t _ _ _ _ _ _ _ _ _ _ _ _ _ _ _ _ _ _ (Y 0) (Y 1) (Y 2) (Y 3) (Y 4) (Y 5) (Y 6) (Y 7) (Y 8) ((rdat m (fun _ _ _ => True) c).owesAt () t.castSucc)) rfl .rfl fun _ => ?_
  iintro ⟨HP, HO, H2, H3, H4, H5, H6, H7, H8, ⟨%Z9, H9⟩, ⟨%Z10, H10⟩⟩
  isplitl [HP]; · iapply (show Φat m c (t.val + 1) ⊢ (rdat m (fun _ _ _ => True) c).Φ t.succ from .rfl); iexact HP
  isplitl [HO]; · iexact HO
  isplitl [H2]
  · iexists (Y 0); isplitr; · ipureintro; exact ⟨fun _ => rfl, trivial⟩
    iexact H2
  isplitl [H3]
  · iexists (Y 1); isplitr; · ipureintro; exact ⟨fun _ => rfl, trivial⟩
    iexact H3
  isplitl [H4]
  · iexists (Y 2); isplitr; · ipureintro; exact ⟨fun _ => rfl, trivial⟩
    iexact H4
  isplitl [H5]
  · iexists (Y 3); isplitr; · ipureintro; exact ⟨fun _ => rfl, trivial⟩
    iexact H5
  isplitl [H6]
  · iexists (Y 4); isplitr; · ipureintro; exact ⟨fun _ => rfl, trivial⟩
    iexact H6
  isplitl [H7]
  · iexists (Y 5); isplitr; · ipureintro; exact ⟨fun _ => rfl, trivial⟩
    iexact H7
  isplitl [H8]
  · iexists (Y 6); isplitr; · ipureintro; exact ⟨fun _ => rfl, trivial⟩
    iexact H8
  isplitl [H9]
  · iexists Z9; isplitr; · ipureintro; exact ⟨fun h => absurd h (by decide), trivial⟩
    iexact H9
  iexists Z10; isplitr; · ipureintro; exact ⟨fun h => absurd h (by decide), trivial⟩
  iexact H10

end Cert.Experts.Hand

end
-- ==== Proof.ExpertsRun.lean ====
/- The run of the call: the pipeline, and the two slices of the host after it, which write no argument. -/
module

public import proofs.«01_k».proof.Proof.Gen.Experts.Skeleton
public import Idealize.ShloMosaic.Lib.Exec
public import Idealize.ShloMosaic.Lib.Tactic
public import Idealize.ShloMosaic.Lib.Pipeline.Kit
public import Idealize.ShloMosaic.Lib.LoopEntry
public import proofs.«01_k».proof.Proof.ExpertsLaunch

@[expose] public section

set_option maxRecDepth 65536
set_option maxHeartbeats 400000

noncomputable section

namespace Cert.Experts.Hand

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

theorem hmain0 :
    Pipeline.HMainPK (Ix := Unit) (Name := ℕ) (U := UR sig nD τ) (Lvl := ℕ) (pcfgs (F := F)) 0 defs₀ Variants.none m main
      (fun c b => (fun b => m (c, b) : Valuation τ sig (Elt F)) (Proc.devRef .tc b)) (fun _ => Pipeline.chain ([hostOps1].map StableHlo.seq)) :=
  Pipeline.hmainP_around pcfgs 0 defs₀ Variants.none m main [] [hostOps1] trivial trivial fun c => main_chain c

theorem ops_mem {P : HloOp τ sig (Elt F) → Prop} (h1 : ∀ op ∈ (hostOps1 : List (HloOp τ sig (Elt F))), P op) : ∀ ops ∈ [(hostOps1 : List (HloOp τ sig (Elt F)))], ∀ op ∈ ops, P op := by
  intro ops ho; rw [List.mem_singleton] at ho; subst ho; exact h1

theorem sub_ops : ∀ op ∈ (hostOps1 : List (HloOp τ sig (Elt F))), op.bufs ⊆ Pipeline.tailRefs sig pre0 spec0 := by
  intro op h; simp only [hostOps1, List.mem_cons, List.not_mem_nil, or_false] at h
  rcases h with rfl | rfl
  · show ({Proc.devRef .tc main_v0_0, Proc.devRef .tc main_v1} : Finset (DevRef τ sig)) ⊆ _; decide +kernel
  · show ({Proc.devRef .tc main_v0_1, Proc.devRef .tc main_v2} : Finset (DevRef τ sig)) ⊆ _; decide +kernel

theorem fresh_ops : ∀ op ∈ (hostOps1 : List (HloOp τ sig (Elt F))), op.fresh = ∅ := by
  intro op h; simp only [hostOps1, List.mem_cons, List.not_mem_nil, or_false] at h
  rcases h with rfl | rfl <;> rfl

theorem writes_eq : ∀ op ∈ (hostOps1 : List (HloOp τ sig (Elt F))), op.writes = {Proc.devRef .tc main_v1} ∨ op.writes = {Proc.devRef .tc main_v2} := by
  intro op h; simp only [hostOps1, List.mem_cons, List.not_mem_nil, or_false] at h
  rcases h with rfl | rfl
  · exact .inl rfl
  · exact .inr rfl

theorem keep_ops : ∀ op ∈ (hostOps1 : List (HloOp τ sig (Elt F))), ∀ w, Proc.devRef .tc (Pipeline.arrRef spec0 w) ∉ op.writes := by
  intro op h
  rcases writes_eq op h with e | e <;> rw [e] <;> decide +kernel

theorem writes_ops : ∀ op ∈ (hostOps1 : List (HloOp τ sig (Elt F))), ∀ b : Ref sig .tc, Proc.devRef .tc b ∈ op.writes → b ∈ ({main_v1, main_v2} : Finset (Ref sig .tc)) := by
  intro op h b hb
  rcases writes_eq op h with e | e <;> rw [e, Finset.mem_singleton] at hb <;> rw [Proc.devRef_injective _ hb] <;> decide

set_option backward.isDefEq.respectTransparency.types false in
theorem run_main (S : Rel m) (hbody : ∀ c, (rdat m S c).BodyObligation (defs₀ (F := F)) Variants.none () Set.univ) :
    θ_run defs (onTc (τ := τ) (main (F := F))) (s₀ m ρ)
      (fun r => Pipeline.RDat.FramePostR (cfg0 (adm m 0)) (rdat m S) {main_v1, main_v2} (fun c b => m ((c.tc : Thread nD τ).loc b)) r ∧ r.2.sem = fun _ => 0) :=
  Pipeline.RDat.θ_run_frameP_around_T_track (Q' := _) pcfgs (adm m) 0 launch0 defs₀ Variants.none (rdat m S) {main_v1, main_v2} m ρ main
    (hbody := hbody) (hshare := fun c => (rdat m S c).share_full fun _ => rfl) (howed := fun _ _ => rfl)
    (V₀ := fun c b => m (c, b)) (opss := [hostOps1])
    (hsub := ops_mem sub_ops) (hfresh := ops_mem fresh_ops) (hkeep := ops_mem keep_ops) (hT := ops_mem writes_ops)
    (hmain := hmain0 m) (hA := fun _ _ => rfl) (hpf := fun c k => by rw [Subsingleton.elim c 0]; rfl)
    (hin := hin0 m S) (hout := hout0 m S)

end Cert.Experts.Hand

end
-- ==== Proof.GroupSum.lean ====
/-
  The groups of the routed experts: under the precondition, that every size lies in [0, 1536] and the sum of the sizes (a sum of
  32-bit words) is at most 1536, the sum of the sizes as natural numbers is at most 1536, since 32 such words cannot wrap.
-/
module

public import proofs.«01_k».proof.Defs
public import proofs.«01_k».proof.Proof.Gen.Pre_groups_fit
public import Idealize.ShloMosaic.Lib.StableHlo.Predicate
public import Idealize.ShloMosaic.Lib.Tactic

@[expose] public section

noncomputable section

open Idealize.ShloMosaic

namespace Cert.GroupSum

open Cert.Pre_groups_fit

instance : Cert.Pre_groups_fit.Facts := Cert.Pre_groups_fit.Gen.facts

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

/-- Entry `k` of a list of 32. -/
def entry (k : Fin 32) : S32.Idx := fun | ⟨0, _⟩ => k

/-- The indices of a list of 32 are the numbers below 32. -/
def ix : Fin 32 ≃ S32.Idx where
  toFun := entry
  invFun i := i 0
  left_inv _ := rfl
  right_inv i := by funext a; match a with | ⟨0, _⟩ => rfl

/-- A word that as a signed number lies in [0, 1536] is at most 1536. -/
theorem word_le (w : BitVec 32) (h1 : (0#32).sle w = true) (h2 : w.sle 1536#32 = true) : w.toNat ≤ 1536 := by
  simp only [BitVec.sle, decide_eq_true_eq, BitVec.toInt, BitVec.toNat_ofNat] at h1 h2
  omega

/-- A word below 2^31 that as a signed number is at most 1536 is at most 1536. -/
theorem small_le (w : BitVec 32) (h1 : w.toNat ≤ 49152) (h2 : w.sle 1536#32 = true) : w.toNat ≤ 1536 := by
  simp only [BitVec.sle, decide_eq_true_eq, BitVec.toInt, BitVec.toNat_ofNat] at h2
  omega

/-- A sum of 32 words of at most 1536 does not wrap. -/
theorem fold_eq (gs : IVec S32 32) (hle : ∀ y, (gs y).toNat ≤ 1536) :
    (Finset.univ.fold IntOp.addi 0#32 gs).toNat = ∑ y : S32.Idx, (gs y).toNat ∧ ∑ y : S32.Idx, (gs y).toNat ≤ 49152 := by
  have hbound : ∑ y : S32.Idx, (gs y).toNat ≤ 49152 := by
    refine (Finset.sum_le_card_nsmul Finset.univ _ 1536 fun y _ => hle y).trans ?_
    rw [Finset.card_univ, ← Fintype.card_congr ix, Fintype.card_fin, smul_eq_mul]
  exact ⟨StableHlo.Predicate.toNat_fold_addi _ _ (lt_of_le_of_lt hbound (by norm_num)), hbound⟩

/-- The sum over the one axis is the fold over all entries. -/
theorem reduce_eq (gs : IVec S32 32) (j : S_.Idx) :
    Host.reduce IntOp.addi gs (constantI S_ 32 0#32) Facts.reducesTo_S32_S_d0 Facts.h_S_ j = Finset.univ.fold IntOp.addi 0#32 gs := by
  rw [Host.reduce_eq_fold]
  have hu : (Finset.univ.filter fun i : S32.Idx => (Facts.reducesTo_S32_S_d0).drop i = j) = Finset.univ :=
    Finset.filter_true_of_mem fun i _ => funext fun k => k.elim0
  rw [hu]; rfl

variable {F : FTy → Type} [FloatOps F]

/-- What the precondition says, entry by entry. -/
theorem said (gs : IVec S32 32) (x1 : FVec F S1664x1024 .bf16) (x2 x3 : FVec F S32 .f32) (x4 : IVec S32x1024x1344 8)
    (x5 : FVec F S32x64x2688 .fp8e4m3) (x6 : IVec S32x2688x512 8) (x7 : FVec F S32x168x1024 .fp8e4m3)
    (h : fn gs x1 x2 x3 x4 x5 x6 x7 = fun _ => 1#1) (y : S32.Idx) :
    ((0#32).sle (gs y) = true ∧ (gs y).sle 1536#32 = true) ∧ (Finset.univ.fold IntOp.addi 0#32 gs).sle 1536#32 = true := by
  have e := congrFun h y
  simp only [fn, andi, cmpi, broadcastInDim, reduce_eq, IntOp.cmpi, andi_ofBool, ofBool_eq_one, Bool.and_eq_true] at e
  exact e

theorem sum_le (gs : IVec S32 32) (x1 : FVec F S1664x1024 .bf16) (x2 x3 : FVec F S32 .f32) (x4 : IVec S32x1024x1344 8)
    (x5 : FVec F S32x64x2688 .fp8e4m3) (x6 : IVec S32x2688x512 8) (x7 : FVec F S32x168x1024 .fp8e4m3)
    (h : fn gs x1 x2 x3 x4 x5 x6 x7 = fun _ => 1#1) : ∑ k : Fin 32, (gs (entry k)).toNat ≤ 1536 := by
  have hall := said gs x1 x2 x3 x4 x5 x6 x7 h
  obtain ⟨e, hb⟩ := fold_eq gs fun y => word_le _ (hall y).1.1 (hall y).1.2
  have h4 := small_le _ (e ▸ hb) (hall (entry 0)).2
  rw [e] at h4
  exact (ix.sum_comp fun y => (gs y).toNat).trans_le h4

end Cert.GroupSum

end
-- ==== Proof.ExpertsFrame.lean ====
/- The frame: the call ends without a fault, keeps its arguments and leaves every semaphore at zero, under the precondition. -/
module

public import proofs.«01_k».proof.Proof.Gen.Experts.Skeleton
public import Idealize.ShloMosaic.Lib.Exec
public import Idealize.ShloMosaic.Lib.Tactic
public import Idealize.ShloMosaic.Lib.Pipeline.Kit
public import Idealize.ShloMosaic.Lib.LoopEntry
public import proofs.«01_k».proof.Defs
public import proofs.«01_k».proof.Proof.ExpertsPoint
public import proofs.«01_k».proof.Proof.ExpertsRun
public import proofs.«01_k».proof.Proof.GroupSum

@[expose] public section

set_option maxRecDepth 65536
set_option maxHeartbeats 400000

noncomputable section

namespace Cert.Experts.Hand

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

theorem table_rest : main_arg0 ∈ Pipeline.restRefs sig spec0 \ ({main_v1, main_v2} : Finset (Ref sig .tc)) :=
  Finset.mem_sdiff.mpr ⟨Pipeline.mem_restRefs_of main_arg0 rfl (by decide), by decide⟩

/-- The call runs to its end without a fault, leaves its arguments as they were and every semaphore at zero, whenever the
    groups fit. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine (θ_run defs _ _).mono (fun r h => ⟨fun c => ⟨(h.1 c).2 main_arg0 table_rest, ?_⟩, h.2⟩) (run_main m ρ (fun _ _ _ => True) (body_any m hH))
  exact ⟨Pipeline.RDat.FramePostR.arr_in h.1 c 0 rfl, Pipeline.RDat.FramePostR.arr_in h.1 c 1 rfl, Pipeline.RDat.FramePostR.arr_in h.1 c 2 rfl, Pipeline.RDat.FramePostR.arr_in h.1 c 3 rfl, Pipeline.RDat.FramePostR.arr_in h.1 c 4 rfl, Pipeline.RDat.FramePostR.arr_in h.1 c 5 rfl, Pipeline.RDat.FramePostR.arr_in h.1 c 6 rfl⟩

theorem off1_eq : ∀ t : Fin grid0.N, k0_off1 (grid0.coords t) 0 = t.val := by decide +kernel

/-- The word the body reads at point `t` is entry `t` of the table. -/
theorem word_eq (m : (ℓ : Loc nD τ sig) → Buf (Elt Bits) ℓ) (t : Fin grid0.N) :
    word m t = (m ((((0 : Dev nD).tc : Thread nD τ)).loc main_arg0) : S32.Idx → BitVec 32) (Cert.GroupSum.entry t) := by
  refine congrArg (m ((((0 : Dev nD).tc : Thread nD τ)).loc main_arg0) : S32.Idx → BitVec 32) (a₁ := (Rect.unit (s := S32) (k0_off1 (grid0.coords t)) S1.size (k0_off1_inb (grid0.coords t))).toLoadRect.idx (Shape.Idx.first (numel1_S1.symm ▸ Nat.one_pos))) ?_
  funext a
  match a with
  | ⟨0, _⟩ => exact Fin.ext ((off1_eq t).symm ▸ rfl)

/-- The precondition gives the bound the body assumes. -/
theorem hyps_of_pre (m : (ℓ : Loc nD τ sig) → Buf (Elt Bits) ℓ) (h : Cert.Pre_Experts m) : Hyps m := by
  have e := Cert.GroupSum.sum_le (F := Bits) _ _ _ _ _ _ _ _ (h 0)
  unfold Hyps pre
  refine le_of_eq_of_le ?_ e
  rw [Finset.sum_range]
  refine Finset.sum_congr rfl fun k _ => ?_
  rw [dif_pos k.isLt, word_eq]

end Cert.Experts.Hand

end
-- ==== Proof.ExpertsIdealLoop2.lean ====
/- The loop over the ten column tiles of the first product: what a trip needs and what it may change. -/
module

public import proofs.«01_k».proof.Proof.Gen.ExpertsIdeal.Skeleton
public import Idealize.ShloMosaic.Lib.Exec
public import Idealize.ShloMosaic.Lib.Tactic
public import Idealize.ShloMosaic.Lib.Pipeline.Kit
public import Idealize.ShloMosaic.Lib.LoopEntry

@[expose] public section

set_option maxRecDepth 65536
set_option maxHeartbeats 4000000

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option warn.classDefReducibility false in
/-- The loop over the column tiles of the first product: codes and scales are read, the two results are written. -/
@[sl_loop] def loop_k0_t2 (𝒱 : Variants) (c : Dev nD) (bd : Option 𝒱.V) (E : Set ℕ) (i : grid0.Coords) (arg1 : Memref sig .tc .smem S32 .i32) (harg1 : arg1.IsWhole) (arg2 : Memref sig .tc .vmem S1664x1024 .bf16) (harg2 : arg2.IsWhole) (arg3 : Memref sig .tc .smem S32 .f32) (harg3 : arg3.IsWhole) (arg4 : Memref sig .tc .smem S32 .f32) (harg4 : arg4.IsWhole) (arg5 : Memref sig .tc .vmem S1x1024x1344 .i8) (harg5 : arg5.IsWhole) (arg6 : Memref sig .tc .vmem S1x64x2688 .fp8e4m3) (harg6 : arg6.IsWhole) (arg7 : Memref sig .tc .vmem S1x2688x512 .i8) (harg7 : arg7.IsWhole) (arg8 : Memref sig .tc .vmem S1x168x1024 .fp8e4m3) (harg8 : arg8.IsWhole) (arg9 : Memref sig .tc .vmem S1664x2688 .bf16) (harg9 : arg9.IsWhole) (arg10 : Memref sig .tc .vmem S1664x1024 .f32) (harg10 : arg10.IsWhole) (arg11 : Memref sig .tc .vmem S128x2688 .bf16) (harg11 : arg11.IsWhole) (arg12 : Memref sig .tc .vmem S128x1344 .bf16) (harg12 : arg12.IsWhole) (arg13 : Memref sig .tc .vmem S64x2688 .f32) (harg13 : arg13.IsWhole) (arg14 : Memref sig .tc .vmem S64x1280 .f32) (harg14 : arg14.IsWhole) (arg15 : Memref sig .tc .vmem S64x128 .f32) (harg15 : arg15.IsWhole) (arg16 : Memref sig .tc .vmem S168x1024 .f32) (harg16 : arg16.IsWhole) (arg17 : Memref sig .tc .smem S1 .i32) (harg17 : arg17.IsWhole) (arg0 : BitVec 32) (v3 : Elt F .i32) (v5 : Elt F .i32) (k0_hw1 : k0_chk1 v3 v5) (v25 : BitVec 32) (k0_h2 : k0_cond2 v5 = 1#1) (c0_i32_33 : BitVec 32) (c1_i32_36 : BitVec 32) (k0_t1 : Fin (k0_t1_loop v3 v5).trips) (v89 : Vec F S128x1024 .bf16) (v91 : Elt F .f32) (init : BitVec 32) (X_arg5 : BufTy.Contents (Elt F) arg5.view.ty) (X_arg13 : BufTy.Contents (Elt F) arg13.view.ty) (X_arg14 : BufTy.Contents (Elt F) arg14.view.ty) :
  Idealize.ShloMosaic.LoopInv (M := (MT nD τ sig Unit (Elt F) ℕ (UR sig nD τ) ℕ)) Idealize.ShloMosaic.frame (wpE defs₀ 𝒱 (c : Thread nD τ) bd) E
    k0_t2_loop.lb k0_t2_loop.ub k0_t2_loop.st k0_t2_ok init (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v3 v5 k0_hw1 v25 k0_h2 c0_i32_33 c1_i32_36 k0_t1 v89 v91) where
  inv k acc := iprop((arg5.view.loc (c : Thread nD τ) ↦[arg5.view.set]{fullShare} X_arg5) ∗ (arg13.view.loc (c : Thread nD τ) ↦[arg13.view.set]{fullShare} X_arg13) ∗ (arg14.view.loc (c : Thread nD τ) ↦[arg14.view.set]{fullShare} X_arg14) ∗ (∃ f, (arg11.view.loc (c : Thread nD τ) ↦[arg11.view.set]{fullShare} f)) ∗ (∃ f, (arg12.view.loc (c : Thread nD τ) ↦[arg12.view.set]{fullShare} f)))
  step k acc := by
    unfold k0_t2_body
    iintro ⟨Harg5, Harg13, Harg14, ⟨%f_arg11, Harg11⟩, ⟨%f_arg12, Harg12⟩⟩
    sl_exec
    sl_step
    isplitl [Harg5]; · iexact Harg5
    isplitl [Harg13]; · iexact Harg13
    isplitl [Harg14]; · iexact Harg14
    isplitl [Harg11]; · iexists _; iexact Harg11
    iexists _; iexact Harg12

end Cert.ExpertsIdeal.Hand

end
-- ==== Proof.ExpertsIdealLoop3.lean ====
/- The loop over the four column tiles of the second product: what a trip needs and what it may change. -/
module

public import proofs.«01_k».proof.Proof.Gen.ExpertsIdeal.Skeleton
public import Idealize.ShloMosaic.Lib.Exec
public import Idealize.ShloMosaic.Lib.Tactic
public import Idealize.ShloMosaic.Lib.Pipeline.Kit
public import Idealize.ShloMosaic.Lib.LoopEntry

@[expose] public section

set_option maxRecDepth 65536
set_option maxHeartbeats 4000000

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option warn.classDefReducibility false in
/-- The loop over the column tiles of the second product: codes, scales and the left operand are read, the result is added to. -/
@[sl_loop] def loop_k0_t3 (𝒱 : Variants) (c : Dev nD) (bd : Option 𝒱.V) (E : Set ℕ) (i : grid0.Coords) (arg1 : Memref sig .tc .smem S32 .i32) (harg1 : arg1.IsWhole) (arg2 : Memref sig .tc .vmem S1664x1024 .bf16) (harg2 : arg2.IsWhole) (arg3 : Memref sig .tc .smem S32 .f32) (harg3 : arg3.IsWhole) (arg4 : Memref sig .tc .smem S32 .f32) (harg4 : arg4.IsWhole) (arg5 : Memref sig .tc .vmem S1x1024x1344 .i8) (harg5 : arg5.IsWhole) (arg6 : Memref sig .tc .vmem S1x64x2688 .fp8e4m3) (harg6 : arg6.IsWhole) (arg7 : Memref sig .tc .vmem S1x2688x512 .i8) (harg7 : arg7.IsWhole) (arg8 : Memref sig .tc .vmem S1x168x1024 .fp8e4m3) (harg8 : arg8.IsWhole) (arg9 : Memref sig .tc .vmem S1664x2688 .bf16) (harg9 : arg9.IsWhole) (arg10 : Memref sig .tc .vmem S1664x1024 .f32) (harg10 : arg10.IsWhole) (arg11 : Memref sig .tc .vmem S128x2688 .bf16) (harg11 : arg11.IsWhole) (arg12 : Memref sig .tc .vmem S128x1344 .bf16) (harg12 : arg12.IsWhole) (arg13 : Memref sig .tc .vmem S64x2688 .f32) (harg13 : arg13.IsWhole) (arg14 : Memref sig .tc .vmem S64x1280 .f32) (harg14 : arg14.IsWhole) (arg15 : Memref sig .tc .vmem S64x128 .f32) (harg15 : arg15.IsWhole) (arg16 : Memref sig .tc .vmem S168x1024 .f32) (harg16 : arg16.IsWhole) (arg17 : Memref sig .tc .smem S1 .i32) (harg17 : arg17.IsWhole) (v3 : Elt F .i32) (v5 : Elt F .i32) (k0_hw1 : k0_chk1 v3 v5) (k0_h2 : k0_cond2 v5 = 1#1) (k0_t1 : Fin (k0_t1_loop v3 v5).trips) (v87 : BitVec 32) (v93 : Elt F .f32) (v984 : IVec S16x1 1) (init : BitVec 32) (X_arg7 : BufTy.Contents (Elt F) arg7.view.ty) (X_arg11 : BufTy.Contents (Elt F) arg11.view.ty) (X_arg16 : BufTy.Contents (Elt F) arg16.view.ty) :
  Idealize.ShloMosaic.LoopInv (M := (MT nD τ sig Unit (Elt F) ℕ (UR sig nD τ) ℕ)) Idealize.ShloMosaic.frame (wpE defs₀ 𝒱 (c : Thread nD τ) bd) E
    k0_t3_loop.lb k0_t3_loop.ub k0_t3_loop.st k0_t3_ok init (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v5 k0_hw1 k0_h2 k0_t1 v87 v93 v984) where
  inv k acc := iprop((arg7.view.loc (c : Thread nD τ) ↦[arg7.view.set]{fullShare} X_arg7) ∗ (arg11.view.loc (c : Thread nD τ) ↦[arg11.view.set]{fullShare} X_arg11) ∗ (arg16.view.loc (c : Thread nD τ) ↦[arg16.view.set]{fullShare} X_arg16) ∗ (∃ f, (arg10.view.loc (c : Thread nD τ) ↦[arg10.view.set]{fullShare} f)))
  step k acc := by
    unfold k0_t3_body
    iintro ⟨Harg7, Harg11, Harg16, ⟨%f_arg10, Harg10⟩⟩
    sl_exec
    sl_step
    isplitl [Harg7]; · iexact Harg7
    isplitl [Harg11]; · iexact Harg11
    isplitl [Harg16]; · iexact Harg16
    iexists _; iexact Harg10

end Cert.ExpertsIdeal.Hand

end
-- ==== Proof.ExpertsIdealLoop1.lean ====
/- The loop over the windows of a group: what a trip needs and what it may change. -/
module

public import proofs.«01_k».proof.Proof.Gen.ExpertsIdeal.Skeleton
public import Idealize.ShloMosaic.Lib.Exec
public import Idealize.ShloMosaic.Lib.Tactic
public import Idealize.ShloMosaic.Lib.Pipeline.Kit
public import Idealize.ShloMosaic.Lib.LoopEntry
public import proofs.«01_k».proof.Proof.ExpertsIdealLoop2
public import proofs.«01_k».proof.Proof.ExpertsIdealLoop3

@[expose] public section

set_option maxRecDepth 65536
set_option maxHeartbeats 4000000

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option warn.classDefReducibility false in
/-- The loop over the windows of a group: what it reads stays, and the two results and the two row buffers are written. -/
@[sl_loop] def loop_k0_t1 (𝒱 : Variants) (c : Dev nD) (bd : Option 𝒱.V) (E : Set ℕ) (i : grid0.Coords) (arg1 : Memref sig .tc .smem S32 .i32) (harg1 : arg1.IsWhole) (arg2 : Memref sig .tc .vmem S1664x1024 .bf16) (harg2 : arg2.IsWhole) (arg3 : Memref sig .tc .smem S32 .f32) (harg3 : arg3.IsWhole) (arg4 : Memref sig .tc .smem S32 .f32) (harg4 : arg4.IsWhole) (arg5 : Memref sig .tc .vmem S1x1024x1344 .i8) (harg5 : arg5.IsWhole) (arg6 : Memref sig .tc .vmem S1x64x2688 .fp8e4m3) (harg6 : arg6.IsWhole) (arg7 : Memref sig .tc .vmem S1x2688x512 .i8) (harg7 : arg7.IsWhole) (arg8 : Memref sig .tc .vmem S1x168x1024 .fp8e4m3) (harg8 : arg8.IsWhole) (arg9 : Memref sig .tc .vmem S1664x2688 .bf16) (harg9 : arg9.IsWhole) (arg10 : Memref sig .tc .vmem S1664x1024 .f32) (harg10 : arg10.IsWhole) (arg11 : Memref sig .tc .vmem S128x2688 .bf16) (harg11 : arg11.IsWhole) (arg12 : Memref sig .tc .vmem S128x1344 .bf16) (harg12 : arg12.IsWhole) (arg13 : Memref sig .tc .vmem S64x2688 .f32) (harg13 : arg13.IsWhole) (arg14 : Memref sig .tc .vmem S64x1280 .f32) (harg14 : arg14.IsWhole) (arg15 : Memref sig .tc .vmem S64x128 .f32) (harg15 : arg15.IsWhole) (arg16 : Memref sig .tc .vmem S168x1024 .f32) (harg16 : arg16.IsWhole) (arg17 : Memref sig .tc .smem S1 .i32) (harg17 : arg17.IsWhole) (arg0 : BitVec 32) (v3 : Elt F .i32) (v5 : Elt F .i32) (k0_hw1 : k0_chk1 v3 v5) (v25 : BitVec 32) (k0_h2 : k0_cond2 v5 = 1#1) (init : BitVec 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) :
  Idealize.ShloMosaic.LoopInv (M := (MT nD τ sig Unit (Elt F) ℕ (UR sig nD τ) ℕ)) Idealize.ShloMosaic.frame (wpE defs₀ 𝒱 (c : Thread nD τ) bd) E
    (k0_t1_loop v3 v5).lb (k0_t1_loop v3 v5).ub (k0_t1_loop v3 v5).st (k0_t1_ok v3 v5 k0_hw1 k0_h2) init (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v3 v5 k0_hw1 v25 k0_h2) where
  inv k acc := iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg7.view.loc (c : Thread nD τ) ↦[arg7.view.set]{fullShare} X_arg7) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)))
  step k acc := by
    unfold k0_t1_body
    iintro ⟨Harg2, Harg3, Harg4, Harg5, Harg7, Harg13, Harg14, Harg15, Harg16, ⟨%f_arg9, Harg9⟩, ⟨%f_arg10, Harg10⟩, ⟨%f_arg11, Harg11⟩, ⟨%f_arg12, Harg12⟩⟩
    sl_exec
    sl_step
    isplitl [Harg2]; · iexact Harg2
    isplitl [Harg3]; · iexact Harg3
    isplitl [Harg4]; · iexact Harg4
    isplitl [Harg5]; · iexact Harg5
    isplitl [Harg7]; · iexact Harg7
    isplitl [Harg13]; · iexact Harg13
    isplitl [Harg14]; · iexact Harg14
    isplitl [Harg15]; · iexact Harg15
    isplitl [Harg16]; · iexact Harg16
    isplitl [Harg9]; · iexists _; iexact Harg9
    isplitl [Harg10]; · iexists _; iexact Harg10
    isplitl [Harg11]; · iexists _; iexact Harg11
    iexists _; iexact Harg12

end Cert.ExpertsIdeal.Hand

end
-- ==== Proof.ExpertsIdealBody.lean ====
/- The whole body, at the first point and at a later one: the inputs are kept, the scalar scratch ends at the first row of the next group. -/
module

public import proofs.«01_k».proof.Proof.Gen.ExpertsIdeal.Skeleton
public import Idealize.ShloMosaic.Lib.Exec
public import Idealize.ShloMosaic.Lib.Tactic
public import Idealize.ShloMosaic.Lib.Pipeline.Kit
public import Idealize.ShloMosaic.Lib.LoopEntry
public import Idealize.ShloMosaic.Lib.LoopRemainder
public import proofs.«01_k».proof.Proof.ExpertsIdealLoop1

@[expose] public section

set_option maxRecDepth 65536
set_option maxHeartbeats 4000000

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem run_rest (c : Dev nD) (q : PosShare TreeShare) (i : grid0.Coords) (arg1 : Memref sig .tc .smem S32 .i32) (harg1 : arg1.IsWhole) (arg2 : Memref sig .tc .vmem S1664x1024 .bf16) (harg2 : arg2.IsWhole) (arg3 : Memref sig .tc .smem S32 .f32) (harg3 : arg3.IsWhole) (arg4 : Memref sig .tc .smem S32 .f32) (harg4 : arg4.IsWhole) (arg5 : Memref sig .tc .vmem S1x1024x1344 .i8) (harg5 : arg5.IsWhole) (arg6 : Memref sig .tc .vmem S1x64x2688 .fp8e4m3) (harg6 : arg6.IsWhole) (arg7 : Memref sig .tc .vmem S1x2688x512 .i8) (harg7 : arg7.IsWhole) (arg8 : Memref sig .tc .vmem S1x168x1024 .fp8e4m3) (harg8 : arg8.IsWhole) (arg9 : Memref sig .tc .vmem S1664x2688 .bf16) (harg9 : arg9.IsWhole) (arg10 : Memref sig .tc .vmem S1664x1024 .f32) (harg10 : arg10.IsWhole) (arg11 : Memref sig .tc .vmem S128x2688 .bf16) (harg11 : arg11.IsWhole) (arg12 : Memref sig .tc .vmem S128x1344 .bf16) (harg12 : arg12.IsWhole) (arg13 : Memref sig .tc .vmem S64x2688 .f32) (harg13 : arg13.IsWhole) (arg14 : Memref sig .tc .vmem S64x1280 .f32) (harg14 : arg14.IsWhole) (arg15 : Memref sig .tc .vmem S64x128 .f32) (harg15 : arg15.IsWhole) (arg16 : Memref sig .tc .vmem S168x1024 .f32) (harg16 : arg16.IsWhole) (arg17 : Memref sig .tc .smem S1 .i32) (harg17 : arg17.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty)
    (h0 : ¬ (Scalar.cmpi .ne (Scalar.extui (Scalar.cmpi .eq (BitVec.ofNat 32 (i 0).val) 0#32) : BitVec 32) 0#32 = 1#1)) (hw : k0_chk1 (arg17.view.readAt (Elt F) (Rect.unit (s := S1) ![0] S1.size inb_S1_S1_0).toLoadRect f17 (Shape.Idx.first (numel1_S1.symm ▸ Nat.one_pos))) (arg1.view.readAt (Elt F) (Rect.unit (s := S32) (k0_off1 i) S1.size (k0_off1_inb i)).toLoadRect f1 (Shape.Idx.first (numel1_S1.symm ▸ Nat.one_pos)))) (K : PUnit → sProp (MT nD τ sig Unit (Elt F) ℕ (UR sig nD τ) ℕ)) :
    iprop((arg1.view.loc (c : Thread nD τ) ↦[arg1.view.set]{q} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
        ∗ (iprop((arg1.view.loc (c : Thread nD τ) ↦[arg1.view.set]{q} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, ⌜(arg17.view.readAt (Elt F) (Rect.unit (s := S1) ![0] S1.size inb_S1_S1_0).toLoadRect f (Shape.Idx.first (numel1_S1.symm ▸ Nat.one_pos)) : Elt F .i32) = Scalar.addi (arg17.view.readAt (Elt F) (Rect.unit (s := S1) ![0] S1.size inb_S1_S1_0).toLoadRect f17 (Shape.Idx.first (numel1_S1.symm ▸ Nat.one_pos))) (arg1.view.readAt (Elt F) (Rect.unit (s := S32) (k0_off1 i) S1.size (k0_off1_inb i)).toLoadRect f1 (Shape.Idx.first (numel1_S1.symm ▸ Nat.one_pos)))⌝ ∗ (arg17.view.loc (c : Thread nD τ) ↦[arg17.view.set]{fullShare} f))) -∗ K ⟨⟩))
      ⊢ wp frame (wpE (defs₀ (F := F)) Variants.none c none) Set.univ (cc0_experts (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_experts_eq_skeleton]; unfold cc0_experts_skel
  by_cases hc : k0_cond2 (arg1.view.readAt (Elt F) (Rect.unit (s := S32) (k0_off1 i) S1.size (k0_off1_inb i)).toLoadRect f1 (Shape.Idx.first (numel1_S1.symm ▸ Nat.one_pos))) = 1#1
  all_goals
    iintro ⟨H1, H2, H3, H4, H5, H6, H7, H8, H9, H10, H11, H12, H13, H14, H15, H16, H17, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; isplitr; swap; · iexact H17
    ipureintro

    exact View.read_writes_cons_emb _ _ _ _ _ _

theorem run_first (c : Dev nD) (q : PosShare TreeShare) (i : grid0.Coords) (arg1 : Memref sig .tc .smem S32 .i32) (harg1 : arg1.IsWhole) (arg2 : Memref sig .tc .vmem S1664x1024 .bf16) (harg2 : arg2.IsWhole) (arg3 : Memref sig .tc .smem S32 .f32) (harg3 : arg3.IsWhole) (arg4 : Memref sig .tc .smem S32 .f32) (harg4 : arg4.IsWhole) (arg5 : Memref sig .tc .vmem S1x1024x1344 .i8) (harg5 : arg5.IsWhole) (arg6 : Memref sig .tc .vmem S1x64x2688 .fp8e4m3) (harg6 : arg6.IsWhole) (arg7 : Memref sig .tc .vmem S1x2688x512 .i8) (harg7 : arg7.IsWhole) (arg8 : Memref sig .tc .vmem S1x168x1024 .fp8e4m3) (harg8 : arg8.IsWhole) (arg9 : Memref sig .tc .vmem S1664x2688 .bf16) (harg9 : arg9.IsWhole) (arg10 : Memref sig .tc .vmem S1664x1024 .f32) (harg10 : arg10.IsWhole) (arg11 : Memref sig .tc .vmem S128x2688 .bf16) (harg11 : arg11.IsWhole) (arg12 : Memref sig .tc .vmem S128x1344 .bf16) (harg12 : arg12.IsWhole) (arg13 : Memref sig .tc .vmem S64x2688 .f32) (harg13 : arg13.IsWhole) (arg14 : Memref sig .tc .vmem S64x1280 .f32) (harg14 : arg14.IsWhole) (arg15 : Memref sig .tc .vmem S64x128 .f32) (harg15 : arg15.IsWhole) (arg16 : Memref sig .tc .vmem S168x1024 .f32) (harg16 : arg16.IsWhole) (arg17 : Memref sig .tc .smem S1 .i32) (harg17 : arg17.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty)
    (h0 : Scalar.cmpi .ne (Scalar.extui (Scalar.cmpi .eq (BitVec.ofNat 32 (i 0).val) 0#32) : BitVec 32) 0#32 = 1#1) (hw : k0_chk1 0#32 (arg1.view.readAt (Elt F) (Rect.unit (s := S32) (k0_off1 i) S1.size (k0_off1_inb i)).toLoadRect f1 (Shape.Idx.first (numel1_S1.symm ▸ Nat.one_pos)))) (K : PUnit → sProp (MT nD τ sig Unit (Elt F) ℕ (UR sig nD τ) ℕ)) :
    iprop((arg1.view.loc (c : Thread nD τ) ↦[arg1.view.set]{q} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
        ∗ (iprop((arg1.view.loc (c : Thread nD τ) ↦[arg1.view.set]{q} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, ⌜(arg17.view.readAt (Elt F) (Rect.unit (s := S1) ![0] S1.size inb_S1_S1_0).toLoadRect f (Shape.Idx.first (numel1_S1.symm ▸ Nat.one_pos)) : Elt F .i32) = Scalar.addi 0#32 (arg1.view.readAt (Elt F) (Rect.unit (s := S32) (k0_off1 i) S1.size (k0_off1_inb i)).toLoadRect f1 (Shape.Idx.first (numel1_S1.symm ▸ Nat.one_pos)))⌝ ∗ (arg17.view.loc (c : Thread nD τ) ↦[arg17.view.set]{fullShare} f))) -∗ K ⟨⟩))
      ⊢ wp frame (wpE (defs₀ (F := F)) Variants.none c none) Set.univ (cc0_experts (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_experts_eq_skeleton]; unfold cc0_experts_skel
  by_cases hc : k0_cond2 (arg1.view.readAt (Elt F) (Rect.unit (s := S32) (k0_off1 i) S1.size (k0_off1_inb i)).toLoadRect f1 (Shape.Idx.first (numel1_S1.symm ▸ Nat.one_pos))) = 1#1
  all_goals
    iintro ⟨H1, H2, H3, H4, H5, H6, H7, H8, H9, H10, H11, H12, H13, H14, H15, H16, H17, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; isplitr; swap; · iexact H17
    ipureintro

    exact View.read_writes_cons_emb _ _ _ _ _ _

end Cert.ExpertsIdeal.Hand

end
-- ==== Proof.ExpertsIdealChk.lean ====
/- The windows of a group: their number and first rows as numbers, and the side conditions they make true. -/
module

public import proofs.«01_k».proof.ExpertsIdeal
public import Idealize.ShloMosaic.Lib.WordCmp

@[expose] public section

set_option maxRecDepth 65536

noncomputable section

namespace Cert.ExpertsIdeal.Hand

open Cert.ExpertsIdeal
open Idealize.ShloMosaic Idealize.ShloMosaic.TcCoe

/-- The first row of the windows: the group's first row rounded down to a multiple of 16, as the kernel computes it. -/
def baseW (v3 : BitVec 32) : BitVec 32 :=
  Scalar.muli (Scalar.select (Scalar.andi (Scalar.cmpi .ne (Scalar.subi (Scalar.extui (Scalar.cmpi .sgt v3 0#32) : BitVec 32) (Scalar.extui (Scalar.cmpi .slt v3 0#32)))
      (Scalar.subi (Scalar.extui (Scalar.cmpi .sgt 16#32 0#32)) (Scalar.extui (Scalar.cmpi .slt 16#32 0#32))))
    (Scalar.cmpi .ne (Scalar.remsi v3 16#32) 0#32)) (Scalar.subi (Scalar.divsi v3 16#32) 1#32) (Scalar.divsi v3 16#32)) 16#32

/-- The quotient by 128 rounded down, as the kernel computes it. -/
def q128 (v60 : BitVec 32) : BitVec 32 :=
  Scalar.subi (Scalar.select (Scalar.andi (Scalar.cmpi .ne (Scalar.subi (Scalar.extui (Scalar.cmpi .sgt v60 0#32) : BitVec 32) (Scalar.extui (Scalar.cmpi .slt v60 0#32)))
      (Scalar.subi (Scalar.extui (Scalar.cmpi .sgt 128#32 0#32)) (Scalar.extui (Scalar.cmpi .slt 128#32 0#32))))
    (Scalar.cmpi .ne (Scalar.remsi v60 128#32) 0#32)) (Scalar.subi (Scalar.divsi v60 128#32) 1#32) (Scalar.divsi v60 128#32)) 0#32

/-- The bound of the whole trips. -/
def ubW (v60 : BitVec 32) : BitVec 32 := Scalar.addi 0#32 (Scalar.muli (Scalar.divsi (q128 v60) 1#32) 1#32)

theorem baseW_eq : ∀ n : Fin 1537, baseW (BitVec.ofNat 32 n.val) = BitVec.ofNat 32 (n.val / 16 * 16) := by decide +kernel
theorem ubW_eq : ∀ n : Fin 1700, ubW (BitVec.ofNat 32 n.val) = BitVec.ofNat 32 (n.val / 128) := by decide +kernel
theorem endW_eq : ∀ n : Fin 1700, Scalar.addi 0#32 (q128 (BitVec.ofNat 32 n.val)) = BitVec.ofNat 32 (n.val / 128) := by decide +kernel

/-- What the windows' number is computed from. -/
def spanW (v3 v5 : BitVec 32) : BitVec 32 := Scalar.subi (Scalar.addi (Scalar.subi (Scalar.addi v3 v5) (baseW v3)) 128#32) 1#32

/-- The number of windows of a group with first row `a` and `b` rows. -/
def winN (a b : ℕ) : ℕ := (a + b - a / 16 * 16 + 127) / 128

theorem spanW_eq (a b : ℕ) (h : a + b ≤ 1536) :
    spanW (BitVec.ofNat 32 a) (BitVec.ofNat 32 b) = BitVec.ofNat 32 (a + b - a / 16 * 16 + 127) := by
  have hb := baseW_eq ⟨a, by omega⟩
  unfold spanW
  rw [hb]
  apply BitVec.eq_of_toNat_eq
  simp only [Scalar.subi, Scalar.addi, IntOp.subi, IntOp.addi, BitVec.toNat_sub, BitVec.toNat_add, BitVec.toNat_ofNat]
  omega

theorem t1_loop_eq (a b : ℕ) (h : a + b ≤ 1536) :
    k0_t1_loop (BitVec.ofNat 32 a) (BitVec.ofNat 32 b) = ⟨0#32, BitVec.ofNat 32 (winN a b), 1#32⟩ := by
  have h1 : k0_t1_loop (BitVec.ofNat 32 a) (BitVec.ofNat 32 b) = ⟨0#32, ubW (spanW (BitVec.ofNat 32 a) (BitVec.ofNat 32 b)), 1#32⟩ := rfl
  rw [h1, spanW_eq a b h, ubW_eq ⟨a + b - a / 16 * 16 + 127, by omega⟩]; rfl

theorem t4_loop_eq (a b : ℕ) (h : a + b ≤ 1536) :
    k0_t4_loop (BitVec.ofNat 32 a) (BitVec.ofNat 32 b) = ⟨BitVec.ofNat 32 (winN a b), BitVec.ofNat 32 (winN a b), 1#32⟩ := by
  have h1 : k0_t4_loop (BitVec.ofNat 32 a) (BitVec.ofNat 32 b)
      = ⟨ubW (spanW (BitVec.ofNat 32 a) (BitVec.ofNat 32 b)), Scalar.addi 0#32 (q128 (spanW (BitVec.ofNat 32 a) (BitVec.ofNat 32 b))), 1#32⟩ := rfl
  rw [h1, spanW_eq a b h, ubW_eq ⟨a + b - a / 16 * 16 + 127, by omega⟩, endW_eq ⟨a + b - a / 16 * 16 + 127, by omega⟩]; rfl

theorem trips_nat : ∀ n : Fin 14, Scf.trips (0#32) (BitVec.ofNat 32 n.val) 1#32 = n.val := by decide +kernel
theorem ok_nat : ∀ n : Fin 14, Scf.OK (0#32) (BitVec.ofNat 32 n.val) 1#32 := by decide +kernel
theorem trips_nil : ∀ n : Fin 14, Scf.trips (BitVec.ofNat 32 n.val) (BitVec.ofNat 32 n.val) 1#32 = 0 := by decide +kernel
theorem ok_nil : ∀ n : Fin 14, Scf.OK (BitVec.ofNat 32 n.val) (BitVec.ofNat 32 n.val) 1#32 := by decide +kernel

theorem winN_lt (a b : ℕ) (h : a + b ≤ 1536) : winN a b < 14 := by unfold winN; omega

theorem t1_trips (a b : ℕ) (h : a + b ≤ 1536) : (k0_t1_loop (BitVec.ofNat 32 a) (BitVec.ofNat 32 b)).trips = winN a b := by
  rw [t1_loop_eq a b h]; exact trips_nat ⟨winN a b, winN_lt a b h⟩
theorem t1_OK (a b : ℕ) (h : a + b ≤ 1536) : (k0_t1_loop (BitVec.ofNat 32 a) (BitVec.ofNat 32 b)).OK := by
  rw [t1_loop_eq a b h]; exact ok_nat ⟨winN a b, winN_lt a b h⟩
theorem t4_trips (a b : ℕ) (h : a + b ≤ 1536) : (k0_t4_loop (BitVec.ofNat 32 a) (BitVec.ofNat 32 b)).trips = 0 := by
  rw [t4_loop_eq a b h]; exact trips_nil ⟨winN a b, winN_lt a b h⟩
theorem t4_OK (a b : ℕ) (h : a + b ≤ 1536) : (k0_t4_loop (BitVec.ofNat 32 a) (BitVec.ofNat 32 b)).OK := by
  rw [t4_loop_eq a b h]; exact ok_nil ⟨winN a b, winN_lt a b h⟩

/-- The first row of window `t`, as the kernel computes it. -/
def rowW (v3 : BitVec 32) (t : ℕ) : BitVec 32 := Scalar.addi (baseW v3) (Scalar.muli (Scf.iv 0#32 1#32 t) 128#32)

theorem rowW_toNat (a t : ℕ) (h : a ≤ 1536) (ht : t < 14) : (rowW (BitVec.ofNat 32 a) t).toNat = a / 16 * 16 + 128 * t := by
  unfold rowW
  rw [baseW_eq ⟨a, by omega⟩]
  simp only [Scalar.muli, Scalar.addi, IntOp.muli, IntOp.addi, Scf.iv, BitVec.toNat_mul, BitVec.toNat_add, BitVec.toNat_ofNat]
  omega
theorem rowW16_toNat (a t : ℕ) (h : a ≤ 1536) (ht : t < 14) : (Scalar.addi (rowW (BitVec.ofNat 32 a) t) 16#32).toNat = a / 16 * 16 + 128 * t + 16 := by
  have := rowW_toNat a t h ht
  simp only [Scalar.addi, IntOp.addi, BitVec.toNat_add, this, BitVec.toNat_ofNat]
  omega

theorem win_room (a b t : ℕ) (h : a + b ≤ 1536) (ht : t < winN a b) : a / 16 * 16 + 128 * t + 128 ≤ 1664 := by
  unfold winN at ht; omega

theorem cols3 : ∀ t : Fin 4, (Scalar.muli (Scf.iv 0#32 1#32 t.val) 128#32).toNat = 128 * t.val
    ∧ (Scalar.addi (Scalar.muli (Scf.iv 0#32 1#32 t.val) 128#32) 512#32).toNat = 128 * t.val + 512 := by decide +kernel
theorem t3_trips_le : k0_t3_loop.trips = 4 := by decide +kernel

/-- A rectangle of whole rows that starts and ends at even rows is made of whole 32-bit words of two rows. -/
theorem packed_rows (off : Fin 2 → ℕ) (sz : Fin 2 → ℕ) (hinb : ∀ a, off a + sz a ≤ S1664x2688.size a)
    (h0 : 2 ∣ off 0) (h1 : off 1 = 0) (hs : 2 ∣ sz 0) (hs1 : sz 1 = 2688) :
    (Rect.unit (s := S1664x2688) off sz hinb).PackedRows (EltTy.packing .bf16) :=
  Or.inr ⟨by decide, rfl, Or.inl ⟨h0, hs⟩⟩

theorem chk (a b : ℕ) (h : a + b ≤ 1536) : k0_chk1 (BitVec.ofNat 32 a) (BitVec.ofNat 32 b) := by
  have hT : ∀ t : Fin (k0_t1_loop (BitVec.ofNat 32 a) (BitVec.ofNat 32 b)).trips, t.val < winN a b := fun t => (t1_trips a b h) ▸ t.isLt
  have hw := winN_lt a b h
  have hR : ∀ t : Fin (k0_t1_loop (BitVec.ofNat 32 a) (BitVec.ofNat 32 b)).trips, (rowW (BitVec.ofNat 32 a) t.val).toNat = a / 16 * 16 + 128 * t.val :=
    fun t => rowW_toNat a t.val (by omega) (by have := hT t; omega)
  have hR16 : ∀ t : Fin (k0_t1_loop (BitVec.ofNat 32 a) (BitVec.ofNat 32 b)).trips, (Scalar.addi (rowW (BitVec.ofNat 32 a) t.val) 16#32).toNat = a / 16 * 16 + 128 * t.val + 16 :=
    fun t => rowW16_toNat a t.val (by omega) (by have := hT t; omega)
  have hM : ∀ t : Fin (k0_t1_loop (BitVec.ofNat 32 a) (BitVec.ofNat 32 b)).trips, a / 16 * 16 + 128 * t.val + 128 ≤ 1664 := fun t => win_room a b t.val h (hT t)
  have hN : ∀ t : Fin (k0_t4_loop (BitVec.ofNat 32 a) (BitVec.ofNat 32 b)).trips, False := fun t => by
    exact absurd t.isLt (by have := t4_trips a b h; omega)
  have o2 : ∀ t, k0_off2 (BitVec.ofNat 32 a) (BitVec.ofNat 32 b) t = ![(rowW (BitVec.ofNat 32 a) t.val).toNat, 0] := fun _ => rfl
  have o166 : ∀ t, k0_off166 (BitVec.ofNat 32 a) (BitVec.ofNat 32 b) t = ![(rowW (BitVec.ofNat 32 a) t.val).toNat, 0] := fun _ => rfl
  have o167 : ∀ t, k0_off167 (BitVec.ofNat 32 a) (BitVec.ofNat 32 b) t = ![(Scalar.addi (rowW (BitVec.ofNat 32 a) t.val) 16#32).toNat, 0] := fun _ => rfl
  have h3 : ∀ t : Fin k0_t3_loop.trips, t.val < 4 := fun t => t3_trips_le ▸ t.isLt
  have o588 : ∀ t s, k0_off588 (BitVec.ofNat 32 a) (BitVec.ofNat 32 b) t s = ![(rowW (BitVec.ofNat 32 a) t.val).toNat, (Scalar.muli (Scf.iv 0#32 1#32 s.val) 128#32).toNat] := fun _ _ => rfl
  have o589 : ∀ t s, k0_off589 (BitVec.ofNat 32 a) (BitVec.ofNat 32 b) t s = ![(Scalar.addi (rowW (BitVec.ofNat 32 a) t.val) 16#32).toNat, (Scalar.muli (Scf.iv 0#32 1#32 s.val) 128#32).toNat] := fun _ _ => rfl
  have o590 : ∀ t s, k0_off590 (BitVec.ofNat 32 a) (BitVec.ofNat 32 b) t s = ![(rowW (BitVec.ofNat 32 a) t.val).toNat, (Scalar.addi (Scalar.muli (Scf.iv 0#32 1#32 s.val) 128#32) 512#32).toNat] := fun _ _ => rfl
  have o591 : ∀ t s, k0_off591 (BitVec.ofNat 32 a) (BitVec.ofNat 32 b) t s = ![(Scalar.addi (rowW (BitVec.ofNat 32 a) t.val) 16#32).toNat, (Scalar.addi (Scalar.muli (Scf.iv 0#32 1#32 s.val) 128#32) 512#32).toNat] := fun _ _ => rfl
  have c0 : ∀ s : Fin k0_t3_loop.trips, (Scalar.muli (Scf.iv 0#32 1#32 s.val) 128#32).toNat = 128 * s.val := fun s => (cols3 ⟨s.val, h3 s⟩).1
  have c1 : ∀ s : Fin k0_t3_loop.trips, (Scalar.addi (Scalar.muli (Scf.iv 0#32 1#32 s.val) 128#32) 512#32).toNat = 128 * s.val + 512 := fun s => (cols3 ⟨s.val, h3 s⟩).2
  unfold k0_chk1
  refine ⟨fun _ => t1_OK a b h, ?_, ?_, ?_, ?_, ?_, ?_, ?_, ?_, ?_, ?_, ?_, ?_, ?_, fun _ => t4_OK a b h,
    fun t => (hN t).elim, fun t => (hN t).elim, fun t => (hN t).elim, fun t => (hN t).elim, fun t => (hN t).elim, fun t => (hN t).elim, fun t => (hN t).elim,
    fun t => (hN t).elim, fun t => (hN t).elim, fun t => (hN t).elim, fun t => (hN t).elim, fun t => (hN t).elim, fun t => (hN t).elim⟩
  · intro t _; show 16 ∣ (rowW (BitVec.ofNat 32 a) t.val).toNat; rw [hR]; omega
  · intro t _; rw [o2, hR]; have := hM t; intro x; fin_cases x
    · show a / 16 * 16 + 128 * t.val + 128 ≤ 1664; omega
    · show 0 + 1024 ≤ 1024; omega
  · intro t _; rw [o166, hR]; have := hM t; intro x; fin_cases x
    · show a / 16 * 16 + 128 * t.val + 16 ≤ 1664; omega
    · show 0 + 2688 ≤ 2688; omega
  · intro t _ hinb
    refine packed_rows _ _ hinb ?_ rfl (by decide) rfl
    rw [o166, hR]; show 2 ∣ a / 16 * 16 + 128 * t.val; omega
  · intro t _; show 16 ∣ (Scalar.addi (rowW (BitVec.ofNat 32 a) t.val) 16#32).toNat; rw [hR16]; omega
  · intro t _; rw [o167, hR16]; have := hM t; intro x; fin_cases x
    · show a / 16 * 16 + 128 * t.val + 16 + 112 ≤ 1664; omega
    · show 0 + 2688 ≤ 2688; omega
  · intro t _ hinb
    refine packed_rows _ _ hinb ?_ rfl (by decide) rfl
    rw [o167, hR16]; show 2 ∣ a / 16 * 16 + 128 * t.val + 16; omega
  · intro t s _; rw [o588, hR, c0]; have := hM t; have := h3 s; intro x; fin_cases x
    · show a / 16 * 16 + 128 * t.val + 16 ≤ 1664; omega
    · show 128 * s.val + 128 ≤ 1024; omega
  · intro t _; show 16 ∣ (Scalar.addi (rowW (BitVec.ofNat 32 a) t.val) 16#32).toNat; rw [hR16]; omega
  · intro t s _; rw [o589, hR16, c0]; have := hM t; have := h3 s; intro x; fin_cases x
    · show a / 16 * 16 + 128 * t.val + 16 + 112 ≤ 1664; omega
    · show 128 * s.val + 128 ≤ 1024; omega
  · intro t s _; rw [o590, hR, c1]; have := hM t; have := h3 s; intro x; fin_cases x
    · show a / 16 * 16 + 128 * t.val + 16 ≤ 1664; omega
    · show 128 * s.val + 512 + 128 ≤ 1024; omega
  · intro t _; show 16 ∣ (Scalar.addi (rowW (BitVec.ofNat 32 a) t.val) 16#32).toNat; rw [hR16]; omega
  · intro t s _; rw [o591, hR16, c1]; have := hM t; have := h3 s; intro x; fin_cases x
    · show a / 16 * 16 + 128 * t.val + 16 + 112 ≤ 1664; omega
    · show 128 * s.val + 512 + 128 ≤ 1024; omega

end Cert.ExpertsIdeal.Hand

end
-- ==== Proof.ExpertsIdealLaunch.lean ====
/- The launch of the call on a memory: the table of sizes, the rows before a group, the invariant between points and the proof data. -/
module

public import proofs.«01_k».proof.Proof.Gen.ExpertsIdeal.Skeleton
public import Idealize.ShloMosaic.Lib.Exec
public import Idealize.ShloMosaic.Lib.Tactic
public import Idealize.ShloMosaic.Lib.Pipeline.Kit
public import Idealize.ShloMosaic.Lib.LoopEntry
public import proofs.«01_k».proof.Proof.Gen.ExpertsIdeal.Launch
public import proofs.«01_k».proof.Proof.ExpertsIdealBody
public import proofs.«01_k».proof.Proof.ExpertsIdealChk
public import Idealize.ShloMosaic.Lib.Pipeline.FrameSuffix
public import Idealize.ShloMosaic.Lib.Pipeline.FrameBody
public import Idealize.ShloMosaic.Lib.Claim

@[expose] public section

set_option maxRecDepth 65536
set_option maxHeartbeats 400000

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The launch of the call: its words, its invariant, its proof data, and the run -/

theorem pt_whole {sp : Space} (c : Dev nD) (b : Ref sig .tc) (q : PosShare TreeShare) (f : Buf (Elt F) ((c : Thread nD τ).loc b)) :
    ((Memref.whole b).view.loc (c : Thread nD τ) ↦[(Memref.whole b).view.set]{q} f : sProp (MT nD τ sig Unit (Elt F) ℕ (UR sig nD τ) ℕ)) = (((c : Thread nD τ).loc b) ↦{q} f) := by
  simp only [Memref.view_whole, View.set_whole]

theorem to_whole (c : Dev nD) (b : Ref sig .tc) (q : PosShare TreeShare) (f : Buf (Elt F) ((c : Thread nD τ).loc b)) :
    ((((c : Thread nD τ).loc b) ↦{q} f) : sProp (MT nD τ sig Unit (Elt F) ℕ (UR sig nD τ) ℕ)) ⊢ ((Memref.whole b).view.loc (c : Thread nD τ) ↦[(Memref.whole b).view.set]{q} f) :=
  Entails.of_eq (pt_whole (sp := .vmem) c b q f).symm

theorem of_whole (c : Dev nD) (b : Ref sig .tc) (q : PosShare TreeShare) (f : Buf (Elt F) ((c : Thread nD τ).loc b)) :
    ((Memref.whole b).view.loc (c : Thread nD τ) ↦[(Memref.whole b).view.set]{q} f : sProp (MT nD τ sig Unit (Elt F) ℕ (UR sig nD τ) ℕ)) ⊢ (((c : Thread nD τ).loc b) ↦{q} f) :=
  Entails.of_eq (pt_whole (sp := .vmem) c b q f)

variable (m : (ℓ : Loc nD τ sig) → Buf (Elt F) ℓ) (ρ : Dev nD → PrngReg)

/-- The table of group sizes as the region finds it. -/
def tbl : pre0.Contents (Elt F) := fun k => m ((((0 : Dev nD).tc : Thread nD τ)).loc (pre0.ref k))

theorem ok_all (pf : pre0.Contents (Elt F)) : ok0 pf := by unfold ok0; trivial

/-- The admissible contents the pipeline runs at. -/
abbrev adm : (p : Fin 1) → (pcfgs (F := F) p).Adm := fun _ => ⟨tbl (F := F) m, ok_all (F := F) (tbl m)⟩

/-- The size of group `t`, as the body reads it at point `t`. -/
def word (t : Fin grid0.N) : BitVec 32 := ((Memref.whole main_arg0).view.readAt (Elt F) (Rect.unit (s := S32) (k0_off1 (grid0.coords t)) S1.size (k0_off1_inb (grid0.coords t))).toLoadRect (tbl m 0) (Shape.Idx.first (numel1_S1.symm ▸ Nat.one_pos)) : Elt F .i32)

/-- The first row of group `n`. -/
def pre (n : ℕ) : ℕ := ∑ k ∈ Finset.range n, if h : k < grid0.N then (word m ⟨k, h⟩).toNat else 0

theorem pre_zero : pre m 0 = 0 := by unfold pre; rfl

theorem pre_succ (t : Fin grid0.N) : pre m (t.val + 1) = pre m t.val + (word m t).toNat := by
  unfold pre; rw [Finset.sum_range_succ, dif_pos t.isLt]

theorem pre_mono {a b : ℕ} (h : a ≤ b) : pre m a ≤ pre m b :=
  Finset.sum_le_sum_of_subset (Finset.range_mono h)

/-- The groups together hold at most 1536 rows. -/
def Hyps : Prop := pre m grid0.N ≤ 1536

theorem coords_zero : ∀ t : Fin grid0.N, ((grid0.coords t) 0).val = t.val := by decide

theorem first_iff : ∀ n : Fin 32, (Scalar.cmpi .ne (Scalar.extui (Scalar.cmpi .eq (BitVec.ofNat 32 n.val) 0#32) : BitVec 32) 0#32 = 1#1) ↔ n.val = 0 := by decide

theorem chk_at (hH : Hyps m) (t : Fin grid0.N) : k0_chk1 (BitVec.ofNat 32 (pre m t.val)) (word m t) := by
  have h := chk (pre m t.val) (word m t).toNat (by
    have := pre_mono m (show t.val + 1 ≤ grid0.N from t.isLt)
    rw [pre_succ] at this; exact this.trans hH)
  rwa [BitVec.ofNat_toNat, BitVec.setWidth_eq] at h

/-- What the body may leave in the windows beside their inputs unchanged. -/
abbrev Rel : Type := (w : Fin (cfg0 (adm m 0)).W) → Fin (cfg0 (adm m 0)).N → (((cfg0 (adm m 0)).win w).block.Idx → Elt F ((cfg0 (adm m 0)).win w).elt) → Prop

/-- The invariant before point `n`: the scratches at anything, but the scalar one at the first row of group `n` after the first
    point; the register at anything; the body's half of the table. -/
def Φat (c : Dev nD) (n : ℕ) : sProp (MT nD τ sig Unit (Elt F) ℕ (UR sig nD τ) ℕ) :=
  iprop((∃ f : Buf (Elt F) ((c : Thread nD τ).loc cc0_scratch0), ((Memref.whole cc0_scratch0).view.loc (c : Thread nD τ) ↦[(Memref.whole cc0_scratch0).view.set]{fullShare} f)) ∗ (∃ f : Buf (Elt F) ((c : Thread nD τ).loc cc0_scratch1), ((Memref.whole cc0_scratch1).view.loc (c : Thread nD τ) ↦[(Memref.whole cc0_scratch1).view.set]{fullShare} f)) ∗ (∃ f : Buf (Elt F) ((c : Thread nD τ).loc cc0_scratch2), ((Memref.whole cc0_scratch2).view.loc (c : Thread nD τ) ↦[(Memref.whole cc0_scratch2).view.set]{fullShare} f)) ∗ (∃ f : Buf (Elt F) ((c : Thread nD τ).loc cc0_scratch3), ((Memref.whole cc0_scratch3).view.loc (c : Thread nD τ) ↦[(Memref.whole cc0_scratch3).view.set]{fullShare} f)) ∗ (∃ f : Buf (Elt F) ((c : Thread nD τ).loc cc0_scratch4), ((Memref.whole cc0_scratch4).view.loc (c : Thread nD τ) ↦[(Memref.whole cc0_scratch4).view.set]{fullShare} f)) ∗ (∃ f : Buf (Elt F) ((c : Thread nD τ).loc cc0_scratch5), ((Memref.whole cc0_scratch5).view.loc (c : Thread nD τ) ↦[(Memref.whole cc0_scratch5).view.set]{fullShare} f))
    ∗ (∃ f : Buf (Elt F) ((c : Thread nD τ).loc cc0_scratch6), ⌜n ≠ 0 → ((Memref.whole cc0_scratch6).view.readAt (Elt F) (Rect.unit (s := S1) ![0] S1.size inb_S1_S1_0).toLoadRect f (Shape.Idx.first (numel1_S1.symm ▸ Nat.one_pos)) : Elt F .i32) = BitVec.ofNat 32 (pre m n)⌝ ∗ ((Memref.whole cc0_scratch6).view.loc (c : Thread nD τ) ↦[(Memref.whole cc0_scratch6).view.set]{fullShare} f))
    ∗ (∃ r, prngReg c r) ∗ ((Memref.whole main_arg0).view.loc (c : Thread nD τ) ↦[(Memref.whole main_arg0).view.set]{fullShare.right} (show Buf (Elt F) ((c : Thread nD τ).loc main_arg0) from tbl m 0)))

/-- The proof data: the inputs unchanged, the outputs as `S` says. -/
def rdat (S : Rel m) (c : Dev nD) : Pipeline.RDat τ (Elt F) Unit ℕ (UR sig nD τ) ℕ (cfg0 (adm m 0)) c where
  A w := m ((c.tc : Thread nD τ).loc (Pipeline.arrRef spec0 w))
  after w t Y X := ((spec0 w).isOut = false → X = Y) ∧ S w t X
  Φ t := Φat m c t.val
  q _ := fullShare
  owed _ := 0

theorem bodyAt_eq (t : Fin (cfg0 (adm m 0)).N) :
    defs₀ (F := F) .tc (cfg0 (adm m 0)).body ((cfg0 (adm m 0)).bodyArgs t ((cfg0 (adm m 0)).slots t))
      = cc0_experts (F := F) (grid0.coords t) (Memref.whole main_arg0) (Memref.isWhole_whole _)
      (((cfg0 (adm m 0)).win 0).stage ((cfg0 (adm m 0)).slots t 0)) (hstage0_0 (((cfg0 (adm m 0)).slots t 0).cast nbuf0_0)) (((cfg0 (adm m 0)).win 1).stage ((cfg0 (adm m 0)).slots t 1)) (hstage0_1 (((cfg0 (adm m 0)).slots t 1).cast nbuf0_1)) (((cfg0 (adm m 0)).win 2).stage ((cfg0 (adm m 0)).slots t 2)) (hstage0_2 (((cfg0 (adm m 0)).slots t 2).cast nbuf0_2)) (((cfg0 (adm m 0)).win 3).stage ((cfg0 (adm m 0)).slots t 3)) (hstage0_3 (((cfg0 (adm m 0)).slots t 3).cast nbuf0_3)) (((cfg0 (adm m 0)).win 4).stage ((cfg0 (adm m 0)).slots t 4)) (hstage0_4 (((cfg0 (adm m 0)).slots t 4).cast nbuf0_4)) (((cfg0 (adm m 0)).win 5).stage ((cfg0 (adm m 0)).slots t 5)) (hstage0_5 (((cfg0 (adm m 0)).slots t 5).cast nbuf0_5)) (((cfg0 (adm m 0)).win 6).stage ((cfg0 (adm m 0)).slots t 6)) (hstage0_6 (((cfg0 (adm m 0)).slots t 6).cast nbuf0_6)) (((cfg0 (adm m 0)).win 7).stage ((cfg0 (adm m 0)).slots t 7)) (hstage0_7 (((cfg0 (adm m 0)).slots t 7).cast nbuf0_7)) (((cfg0 (adm m 0)).win 8).stage ((cfg0 (adm m 0)).slots t 8)) (hstage0_8 (((cfg0 (adm m 0)).slots t 8).cast nbuf0_8))
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) := by
  unfold defs₀; rw [Defs.onTc_tc]; rfl

theorem prefHeld_one (c : Dev nD) (q : Fin 1 → PosShare TreeShare) (v : pre0.Contents (Elt F)) :
    (Pipeline.prefHeld pre0 c q v : sProp (MT nD τ sig Unit (Elt F) ℕ (UR sig nD τ) ℕ))
      = (((c : Thread nD τ).loc main_arg0) ↦{q 0} (show Buf (Elt F) ((c : Thread nD τ).loc main_arg0) from v 0)) := by
  unfold Pipeline.prefHeld
  rw [show (Finset.univ : Finset (Fin 1)) = {0} from by decide, bigSep_singleton]
  rfl

theorem hin0 (S : Rel m) (c : Dev nD) : iprop(Pipeline.ΦA spec0 c ∗ Pipeline.ΦT pre0 (tbl m) c) ⊢ (rdat m S c).Φ 0 := by
  show _ ⊢ Φat m c 0
  unfold Pipeline.ΦA Pipeline.ΦT Φat
  rw [scopedRest0_eq, prefHeld_one]
  iintro ⟨⟨⟨⟨%f0, S0⟩, ⟨%f1, S1⟩, ⟨%f2, S2⟩, ⟨%f3, S3⟩, ⟨%f4, S4⟩, ⟨%f5, S5⟩, ⟨%f6, S6⟩⟩, Hr⟩, Ht⟩
  isplitl [S0]
  · iexists f0; iapply (to_whole c cc0_scratch0 fullShare f0); iexact S0
  isplitl [S1]
  · iexists f1; iapply (to_whole c cc0_scratch1 fullShare f1); iexact S1
  isplitl [S2]
  · iexists f2; iapply (to_whole c cc0_scratch2 fullShare f2); iexact S2
  isplitl [S3]
  · iexists f3; iapply (to_whole c cc0_scratch3 fullShare f3); iexact S3
  isplitl [S4]
  · iexists f4; iapply (to_whole c cc0_scratch4 fullShare f4); iexact S4
  isplitl [S5]
  · iexists f5; iapply (to_whole c cc0_scratch5 fullShare f5); iexact S5
  isplitl [S6]
  · iexists f6; isplitr; · ipureintro; exact fun h => absurd rfl h
    iapply (to_whole c cc0_scratch6 fullShare f6); iexact S6
  isplitl [Hr]; · iexact Hr
  iapply (to_whole c main_arg0 fullShare.right (show Buf (Elt F) ((c : Thread nD τ).loc main_arg0) from tbl m 0)); iexact Ht

theorem hout0 (S : Rel m) (c : Dev nD) : (rdat m S c).Φ (Fin.last (cfg0 (adm m 0)).N) ⊢ Pipeline.ΦA spec0 c := by
  show Φat m c _ ⊢ _
  unfold Pipeline.ΦA Φat
  rw [scopedRest0_eq]
  iintro ⟨⟨%f0, S0⟩, ⟨%f1, S1⟩, ⟨%f2, S2⟩, ⟨%f3, S3⟩, ⟨%f4, S4⟩, ⟨%f5, S5⟩, ⟨%f6, -, S6⟩, Hr, -⟩
  isplitr [Hr]
  · isplitl [S0]
    · iexists f0; iapply (of_whole c cc0_scratch0 fullShare f0); iexact S0
    isplitl [S1]
    · iexists f1; iapply (of_whole c cc0_scratch1 fullShare f1); iexact S1
    isplitl [S2]
    · iexists f2; iapply (of_whole c cc0_scratch2 fullShare f2); iexact S2
    isplitl [S3]
    · iexists f3; iapply (of_whole c cc0_scratch3 fullShare f3); iexact S3
    isplitl [S4]
    · iexists f4; iapply (of_whole c cc0_scratch4 fullShare f4); iexact S4
    isplitl [S5]
    · iexists f5; iapply (of_whole c cc0_scratch5 fullShare f5); iexact S5
    iexists f6; iapply (of_whole c cc0_scratch6 fullShare f6); iexact S6
  iexact Hr

end Cert.ExpertsIdeal.Hand

end
-- ==== Proof.ExpertsIdealPoint.lean ====
/- The body at any point, on any staging buffers, keeps the invariant of `Launch` when the groups fit. -/
module

public import proofs.«01_k».proof.Proof.Gen.ExpertsIdeal.Skeleton
public import Idealize.ShloMosaic.Lib.Exec
public import Idealize.ShloMosaic.Lib.Tactic
public import Idealize.ShloMosaic.Lib.Pipeline.Kit
public import Idealize.ShloMosaic.Lib.LoopEntry
public import proofs.«01_k».proof.Proof.ExpertsIdealLaunch

@[expose] public section

set_option maxRecDepth 65536
set_option maxHeartbeats 400000

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-- The body at a point on any buffers: the inputs handed back as they were, the outputs at something. -/
theorem run_any (hH : Hyps m) (c : Dev nD) (t : Fin grid0.N) (arg2 : Memref sig .tc .vmem S1664x1024 .bf16) (harg2 : arg2.IsWhole) (arg3 : Memref sig .tc .smem S32 .f32) (harg3 : arg3.IsWhole) (arg4 : Memref sig .tc .smem S32 .f32) (harg4 : arg4.IsWhole) (arg5 : Memref sig .tc .vmem S1x1024x1344 .i8) (harg5 : arg5.IsWhole) (arg6 : Memref sig .tc .vmem S1x64x2688 .fp8e4m3) (harg6 : arg6.IsWhole) (arg7 : Memref sig .tc .vmem S1x2688x512 .i8) (harg7 : arg7.IsWhole) (arg8 : Memref sig .tc .vmem S1x168x1024 .fp8e4m3) (harg8 : arg8.IsWhole) (arg9 : Memref sig .tc .vmem S1664x2688 .bf16) (harg9 : arg9.IsWhole) (arg10 : Memref sig .tc .vmem S1664x1024 .f32) (harg10 : arg10.IsWhole)  (Y2 : Vec F S1664x1024 .bf16) (Y3 : Vec F S32 .f32) (Y4 : Vec F S32 .f32) (Y5 : Vec F S1x1024x1344 .i8) (Y6 : Vec F S1x64x2688 .fp8e4m3) (Y7 : Vec F S1x2688x512 .i8) (Y8 : Vec F S1x168x1024 .fp8e4m3) (Y9 : Vec F S1664x2688 .bf16) (Y10 : Vec F S1664x1024 .f32) (X : sProp (MT nD τ sig Unit (Elt F) ℕ (UR sig nD τ) ℕ)) :
    iprop(Φat m c t.val ∗ X ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10)
      ⊢ wp frame (wpE (defs₀ (F := F)) Variants.none c none) Set.univ
          (cc0_experts (F := F) (grid0.coords t) (Memref.whole main_arg0) (Memref.isWhole_whole _) arg2 harg2 arg3 harg3 arg4 harg4 arg5 harg5 arg6 harg6 arg7 harg7 arg8 harg8 arg9 harg9 arg10 harg10 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _))
          (fun _ => iprop(Φat m c (t.val + 1) ∗ X ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ (∃ Z, owns (c : Thread nD τ) arg9 fullShare Z) ∗ (∃ Z, owns (c : Thread nD τ) arg10 fullShare Z))) := by
  conv_lhs => unfold Φat
  unfold owns
  iintro ⟨⟨⟨%s0, H11⟩, ⟨%s1, H12⟩, ⟨%s2, H13⟩, ⟨%s3, H14⟩, ⟨%s4, H15⟩, ⟨%s5, H16⟩, ⟨%s6, %es6, H17⟩, Hr, H1⟩, HO, ⟨%g0, %e0, H2⟩, ⟨%g1, %e1, H3⟩, ⟨%g2, %e2, H4⟩, ⟨%g3, %e3, H5⟩, ⟨%g4, %e4, H6⟩, ⟨%g5, %e5, H7⟩, ⟨%g6, %e6, H8⟩, ⟨%g7, %e7, H9⟩, ⟨%g8, %e8, H10⟩⟩
  by_cases ht : t.val = 0

  · have hrun := fun K => run_first (F := F) c fullShare.right (grid0.coords t) (Memref.whole main_arg0) (Memref.isWhole_whole _)
      arg2 harg2 arg3 harg3 arg4 harg4 arg5 harg5 arg6 harg6 arg7 harg7 arg8 harg8 arg9 harg9 arg10 harg10
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (tbl m 0) g0 g1 g2 g3 g4 g5 g6 g7 g8 s0 s1 s2 s3 s4 s5 s6 ((first_iff ((grid0.coords t) 0)).mpr ((coords_zero t).trans ht)) (by have := chk_at m hH t; rw [ht, pre_zero] at this; exact this) K
    iapply (hrun _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H1, H2, H3, H4, H5, H6, H7, H8, ⟨%o9, H9⟩, ⟨%o10, H10⟩, ⟨%o11, H11⟩, ⟨%o12, H12⟩, ⟨%o13, H13⟩, ⟨%o14, H14⟩, ⟨%o15, H15⟩, ⟨%o16, H16⟩, ⟨%o17, %e17, H17⟩⟩
    isplitl [H1 H11 H12 H13 H14 H15 H16 H17 Hr]
    · unfold Φat
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]
      · iexists o17; isplitr
        · ipureintro; intro _; rw [e17]; show (0#32 + word m t : BitVec 32) = _; rw [pre_succ, ht, pre_zero, Nat.zero_add, BitVec.ofNat_toNat, BitVec.setWidth_eq]; exact BitVec.zero_add _
        iexact H17
      isplitl [Hr]; · iexact Hr
      iexact H1
    isplitl [HO]; · iexact HO
    isplitl [H2]
    · iexists g0; isplitr; · ipureintro; exact e0
      iexact H2
    isplitl [H3]
    · iexists g1; isplitr; · ipureintro; exact e1
      iexact H3
    isplitl [H4]
    · iexists g2; isplitr; · ipureintro; exact e2
      iexact H4
    isplitl [H5]
    · iexists g3; isplitr; · ipureintro; exact e3
      iexact H5
    isplitl [H6]
    · iexists g4; isplitr; · ipureintro; exact e4
      iexact H6
    isplitl [H7]
    · iexists g5; isplitr; · ipureintro; exact e5
      iexact H7
    isplitl [H8]
    · iexists g6; isplitr; · ipureintro; exact e6
      iexact H8
    isplitl [H9]
    · iexists _, o9; isplitr; swap; · iexact H9
      ipureintro; rfl
    iexists _, o10; isplitr; swap; · iexact H10
    ipureintro; rfl

  · have hrun := fun K => run_rest (F := F) c fullShare.right (grid0.coords t) (Memref.whole main_arg0) (Memref.isWhole_whole _)
      arg2 harg2 arg3 harg3 arg4 harg4 arg5 harg5 arg6 harg6 arg7 harg7 arg8 harg8 arg9 harg9 arg10 harg10
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (tbl m 0) g0 g1 g2 g3 g4 g5 g6 g7 g8 s0 s1 s2 s3 s4 s5 s6 (fun h => ht ((coords_zero t).symm.trans ((first_iff ((grid0.coords t) 0)).mp h))) (by have h := chk_at m hH t; rw [← es6 ht] at h; exact h) K
    iapply (hrun _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H1, H2, H3, H4, H5, H6, H7, H8, ⟨%o9, H9⟩, ⟨%o10, H10⟩, ⟨%o11, H11⟩, ⟨%o12, H12⟩, ⟨%o13, H13⟩, ⟨%o14, H14⟩, ⟨%o15, H15⟩, ⟨%o16, H16⟩, ⟨%o17, %e17, H17⟩⟩
    isplitl [H1 H11 H12 H13 H14 H15 H16 H17 Hr]
    · unfold Φat
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]
      · iexists o17; isplitr
        · ipureintro; intro _; rw [e17, es6 ht, pre_succ, BitVec.ofNat_add, BitVec.ofNat_toNat, BitVec.setWidth_eq]; rfl
        iexact H17
      isplitl [Hr]; · iexact Hr
      iexact H1
    isplitl [HO]; · iexact HO
    isplitl [H2]
    · iexists g0; isplitr; · ipureintro; exact e0
      iexact H2
    isplitl [H3]
    · iexists g1; isplitr; · ipureintro; exact e1
      iexact H3
    isplitl [H4]
    · iexists g2; isplitr; · ipureintro; exact e2
      iexact H4
    isplitl [H5]
    · iexists g3; isplitr; · ipureintro; exact e3
      iexact H5
    isplitl [H6]
    · iexists g4; isplitr; · ipureintro; exact e4
      iexact H6
    isplitl [H7]
    · iexists g5; isplitr; · ipureintro; exact e5
      iexact H7
    isplitl [H8]
    · iexists g6; isplitr; · ipureintro; exact e6
      iexact H8
    isplitl [H9]
    · iexists _, o9; isplitr; swap; · iexact H9
      ipureintro; rfl
    iexists _, o10; isplitr; swap; · iexact H10
    ipureintro; rfl

/-- The body at a point, nothing said of the outputs. -/
theorem body_any (hH : Hyps m) (c : Dev nD) :
    (rdat m (fun _ _ _ => True) c).BodyObligation (defs₀ (F := F)) Variants.none () Set.univ := by
  intro t Y hY
  rw [bodyAt_eq, bigSep_W0, bigSep_W0]
  refine triple_restated (run_any m hH c t _ _ _ _ _ _ _ _ _ _ _ _ _ _ _ _ _ _ (Y 0) (Y 1) (Y 2) (Y 3) (Y 4) (Y 5) (Y 6) (Y 7) (Y 8) ((rdat m (fun _ _ _ => True) c).owesAt () t.castSucc)) rfl .rfl fun _ => ?_
  iintro ⟨HP, HO, H2, H3, H4, H5, H6, H7, H8, ⟨%Z9, H9⟩, ⟨%Z10, H10⟩⟩
  isplitl [HP]; · iapply (show Φat m c (t.val + 1) ⊢ (rdat m (fun _ _ _ => True) c).Φ t.succ from .rfl); iexact HP
  isplitl [HO]; · iexact HO
  isplitl [H2]
  · iexists (Y 0); isplitr; · ipureintro; exact ⟨fun _ => rfl, trivial⟩
    iexact H2
  isplitl [H3]
  · iexists (Y 1); isplitr; · ipureintro; exact ⟨fun _ => rfl, trivial⟩
    iexact H3
  isplitl [H4]
  · iexists (Y 2); isplitr; · ipureintro; exact ⟨fun _ => rfl, trivial⟩
    iexact H4
  isplitl [H5]
  · iexists (Y 3); isplitr; · ipureintro; exact ⟨fun _ => rfl, trivial⟩
    iexact H5
  isplitl [H6]
  · iexists (Y 4); isplitr; · ipureintro; exact ⟨fun _ => rfl, trivial⟩
    iexact H6
  isplitl [H7]
  · iexists (Y 5); isplitr; · ipureintro; exact ⟨fun _ => rfl, trivial⟩
    iexact H7
  isplitl [H8]
  · iexists (Y 6); isplitr; · ipureintro; exact ⟨fun _ => rfl, trivial⟩
    iexact H8
  isplitl [H9]
  · iexists Z9; isplitr; · ipureintro; exact ⟨fun h => absurd h (by decide), trivial⟩
    iexact H9
  iexists Z10; isplitr; · ipureintro; exact ⟨fun h => absurd h (by decide), trivial⟩
  iexact H10

end Cert.ExpertsIdeal.Hand

end
-- ==== Proof.ExpertsIdealRun.lean ====
/- The run of the call: the pipeline, and the two slices of the host after it, which write no argument. -/
module

public import proofs.«01_k».proof.Proof.Gen.ExpertsIdeal.Skeleton
public import Idealize.ShloMosaic.Lib.Exec
public import Idealize.ShloMosaic.Lib.Tactic
public import Idealize.ShloMosaic.Lib.Pipeline.Kit
public import Idealize.ShloMosaic.Lib.LoopEntry
public import proofs.«01_k».proof.Proof.ExpertsIdealLaunch

@[expose] public section

set_option maxRecDepth 65536
set_option maxHeartbeats 400000

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

theorem hmain0 :
    Pipeline.HMainPK (Ix := Unit) (Name := ℕ) (U := UR sig nD τ) (Lvl := ℕ) (pcfgs (F := F)) 0 defs₀ Variants.none m main
      (fun c b => (fun b => m (c, b) : Valuation τ sig (Elt F)) (Proc.devRef .tc b)) (fun _ => Pipeline.chain ([hostOps1].map StableHlo.seq)) :=
  Pipeline.hmainP_around pcfgs 0 defs₀ Variants.none m main [] [hostOps1] trivial trivial fun c => main_chain c

theorem ops_mem {P : HloOp τ sig (Elt F) → Prop} (h1 : ∀ op ∈ (hostOps1 : List (HloOp τ sig (Elt F))), P op) : ∀ ops ∈ [(hostOps1 : List (HloOp τ sig (Elt F)))], ∀ op ∈ ops, P op := by
  intro ops ho; rw [List.mem_singleton] at ho; subst ho; exact h1

theorem sub_ops : ∀ op ∈ (hostOps1 : List (HloOp τ sig (Elt F))), op.bufs ⊆ Pipeline.tailRefs sig pre0 spec0 := by
  intro op h; simp only [hostOps1, List.mem_cons, List.not_mem_nil, or_false] at h
  rcases h with rfl | rfl
  · show ({Proc.devRef .tc main_v0_0, Proc.devRef .tc main_v1} : Finset (DevRef τ sig)) ⊆ _; decide +kernel
  · show ({Proc.devRef .tc main_v0_1, Proc.devRef .tc main_v2} : Finset (DevRef τ sig)) ⊆ _; decide +kernel

theorem fresh_ops : ∀ op ∈ (hostOps1 : List (HloOp τ sig (Elt F))), op.fresh = ∅ := by
  intro op h; simp only [hostOps1, List.mem_cons, List.not_mem_nil, or_false] at h
  rcases h with rfl | rfl <;> rfl

theorem writes_eq : ∀ op ∈ (hostOps1 : List (HloOp τ sig (Elt F))), op.writes = {Proc.devRef .tc main_v1} ∨ op.writes = {Proc.devRef .tc main_v2} := by
  intro op h; simp only [hostOps1, List.mem_cons, List.not_mem_nil, or_false] at h
  rcases h with rfl | rfl
  · exact .inl rfl
  · exact .inr rfl

theorem keep_ops : ∀ op ∈ (hostOps1 : List (HloOp τ sig (Elt F))), ∀ w, Proc.devRef .tc (Pipeline.arrRef spec0 w) ∉ op.writes := by
  intro op h
  rcases writes_eq op h with e | e <;> rw [e] <;> decide +kernel

theorem writes_ops : ∀ op ∈ (hostOps1 : List (HloOp τ sig (Elt F))), ∀ b : Ref sig .tc, Proc.devRef .tc b ∈ op.writes → b ∈ ({main_v1, main_v2} : Finset (Ref sig .tc)) := by
  intro op h b hb
  rcases writes_eq op h with e | e <;> rw [e, Finset.mem_singleton] at hb <;> rw [Proc.devRef_injective _ hb] <;> decide

set_option backward.isDefEq.respectTransparency.types false in
theorem run_main (S : Rel m) (hbody : ∀ c, (rdat m S c).BodyObligation (defs₀ (F := F)) Variants.none () Set.univ) :
    θ_run defs (onTc (τ := τ) (main (F := F))) (s₀ m ρ)
      (fun r => Pipeline.RDat.FramePostR (cfg0 (adm m 0)) (rdat m S) {main_v1, main_v2} (fun c b => m ((c.tc : Thread nD τ).loc b)) r ∧ r.2.sem = fun _ => 0) :=
  Pipeline.RDat.θ_run_frameP_around_T_track (Q' := _) pcfgs (adm m) 0 launch0 defs₀ Variants.none (rdat m S) {main_v1, main_v2} m ρ main
    (hbody := hbody) (hshare := fun c => (rdat m S c).share_full fun _ => rfl) (howed := fun _ _ => rfl)
    (V₀ := fun c b => m (c, b)) (opss := [hostOps1])
    (hsub := ops_mem sub_ops) (hfresh := ops_mem fresh_ops) (hkeep := ops_mem keep_ops) (hT := ops_mem writes_ops)
    (hmain := hmain0 m) (hA := fun _ _ => rfl) (hpf := fun c k => by rw [Subsingleton.elim c 0]; rfl)
    (hin := hin0 m S) (hout := hout0 m S)

end Cert.ExpertsIdeal.Hand

end
-- ==== Proof.ExpertsIdealFrame.lean ====
/- The frame: the call ends without a fault, keeps its arguments and leaves every semaphore at zero, under the precondition. -/
module

public import proofs.«01_k».proof.Proof.Gen.ExpertsIdeal.Skeleton
public import Idealize.ShloMosaic.Lib.Exec
public import Idealize.ShloMosaic.Lib.Tactic
public import Idealize.ShloMosaic.Lib.Pipeline.Kit
public import Idealize.ShloMosaic.Lib.LoopEntry
public import proofs.«01_k».proof.Defs
public import proofs.«01_k».proof.Proof.ExpertsIdealPoint
public import proofs.«01_k».proof.Proof.ExpertsIdealRun
public import proofs.«01_k».proof.Proof.GroupSum

@[expose] public section

set_option maxRecDepth 65536
set_option maxHeartbeats 400000

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

theorem table_rest : main_arg0 ∈ Pipeline.restRefs sig spec0 \ ({main_v1, main_v2} : Finset (Ref sig .tc)) :=
  Finset.mem_sdiff.mpr ⟨Pipeline.mem_restRefs_of main_arg0 rfl (by decide), by decide⟩

/-- The call runs to its end without a fault, leaves its arguments as they were and every semaphore at zero, whenever the
    groups fit. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine (θ_run defs _ _).mono (fun r h => ⟨fun c => ⟨(h.1 c).2 main_arg0 table_rest, ?_⟩, h.2⟩) (run_main m ρ (fun _ _ _ => True) (body_any m hH))
  exact ⟨Pipeline.RDat.FramePostR.arr_in h.1 c 0 rfl, Pipeline.RDat.FramePostR.arr_in h.1 c 1 rfl, Pipeline.RDat.FramePostR.arr_in h.1 c 2 rfl, Pipeline.RDat.FramePostR.arr_in h.1 c 3 rfl, Pipeline.RDat.FramePostR.arr_in h.1 c 4 rfl, Pipeline.RDat.FramePostR.arr_in h.1 c 5 rfl, Pipeline.RDat.FramePostR.arr_in h.1 c 6 rfl⟩

theorem off1_eq : ∀ t : Fin grid0.N, k0_off1 (grid0.coords t) 0 = t.val := by decide +kernel

/-- The word the body reads at point `t` is entry `t` of the table. -/
theorem word_eq (m : (ℓ : Loc nD τ sig) → Buf (Elt Ideal) ℓ) (t : Fin grid0.N) :
    word m t = (m ((((0 : Dev nD).tc : Thread nD τ)).loc main_arg0) : S32.Idx → BitVec 32) (Cert.GroupSum.entry t) := by
  refine congrArg (m ((((0 : Dev nD).tc : Thread nD τ)).loc main_arg0) : S32.Idx → BitVec 32) (a₁ := (Rect.unit (s := S32) (k0_off1 (grid0.coords t)) S1.size (k0_off1_inb (grid0.coords t))).toLoadRect.idx (Shape.Idx.first (numel1_S1.symm ▸ Nat.one_pos))) ?_
  funext a
  match a with
  | ⟨0, _⟩ => exact Fin.ext ((off1_eq t).symm ▸ rfl)

/-- The precondition gives the bound the body assumes. -/
theorem hyps_of_pre (m : (ℓ : Loc nD τ sig) → Buf (Elt Ideal) ℓ) (h : Cert.Pre_ExpertsIdeal m) : Hyps m := by
  have e := Cert.GroupSum.sum_le (F := Ideal) _ _ _ _ _ _ _ _ (h 0)
  unfold Hyps pre
  refine le_of_eq_of_le ?_ e
  rw [Finset.sum_range]
  refine Finset.sum_congr rfl fun k _ => ?_
  rw [dif_pos k.isLt, word_eq]

end Cert.ExpertsIdeal.Hand

end
-- ==== Proof.lean ====
module

public import proofs.«01_k».proof.Defs
public import proofs.«01_k».proof.Proof.SharedClaim
public import proofs.«01_k».proof.Proof.FrontClaim
public import proofs.«01_k».proof.Proof.CombineClaim
public import proofs.«01_k».proof.Proof.ExpertsFrame
public import proofs.«01_k».proof.Proof.ExpertsIdealFrame
public import proofs.«01_k».proof.Proof.Gen.Pre_groups_fit
public import proofs.«01_k».proof.Proof.Gen.Shared
public import proofs.«01_k».proof.Proof.Gen.Shared.Skeleton
public import proofs.«01_k».proof.Proof.Gen.Shared.Launch
public import proofs.«01_k».proof.Proof.Gen.Shared.Points
public import proofs.«01_k».proof.Proof.Gen.Shared.Frame
public import proofs.«01_k».proof.Proof.Gen.SharedIdeal
public import proofs.«01_k».proof.Proof.Gen.SharedIdeal.Skeleton
public import proofs.«01_k».proof.Proof.Gen.SharedIdeal.Launch
public import proofs.«01_k».proof.Proof.Gen.SharedIdeal.Points
public import proofs.«01_k».proof.Proof.Gen.SharedIdeal.Frame
public import proofs.«01_k».proof.Proof.Gen.SharedRefIdeal
public import proofs.«01_k».proof.Proof.Gen.SharedRefIdeal.Skeleton
public import proofs.«01_k».proof.Proof.Gen.SharedRefIdeal.Launch
public import proofs.«01_k».proof.Proof.Gen.SharedRefIdeal.Points
public import proofs.«01_k».proof.Proof.Gen.SharedRefIdeal.Frame
public import proofs.«01_k».proof.Proof.Gen.Front
public import proofs.«01_k».proof.Proof.Gen.Front.Skeleton
public import proofs.«01_k».proof.Proof.Gen.Front.Launch
public import proofs.«01_k».proof.Proof.Gen.Front.Points
public import proofs.«01_k».proof.Proof.Gen.Front.Frame
public import proofs.«01_k».proof.Proof.Gen.FrontIdeal
public import proofs.«01_k».proof.Proof.Gen.FrontIdeal.Skeleton
public import proofs.«01_k».proof.Proof.Gen.FrontIdeal.Launch
public import proofs.«01_k».proof.Proof.Gen.FrontIdeal.Points
public import proofs.«01_k».proof.Proof.Gen.FrontIdeal.Frame
public import proofs.«01_k».proof.Proof.Gen.FrontRefIdeal
public import proofs.«01_k».proof.Proof.Gen.FrontRefIdeal.Skeleton
public import proofs.«01_k».proof.Proof.Gen.FrontRefIdeal.Launch
public import proofs.«01_k».proof.Proof.Gen.FrontRefIdeal.Points
public import proofs.«01_k».proof.Proof.Gen.FrontRefIdeal.Frame
public import proofs.«01_k».proof.Proof.Gen.Combine
public import proofs.«01_k».proof.Proof.Gen.Combine.Skeleton
public import proofs.«01_k».proof.Proof.Gen.Combine.Loops
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Loops
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineRefIdeal
public import proofs.«01_k».proof.Proof.Gen.CombineRefIdeal.Skeleton
public import proofs.«01_k».proof.Proof.Gen.CombineRefIdeal.Launch
public import proofs.«01_k».proof.Proof.Gen.CombineRefIdeal.Points
public import proofs.«01_k».proof.Proof.Gen.CombineRefIdeal.Frame
public import proofs.«01_k».proof.Proof.Gen.Pre_tokens_in_range
public import proofs.«01_k».proof.Proof.Gen.Pre_rows_in_range
public import proofs.«01_k».proof.Proof.Gen.SharedIdeal.Value
public import proofs.«01_k».proof.Proof.Gen.SharedRefIdeal.Value
public import proofs.«01_k».proof.Proof.Gen.FrontIdeal.Value
public import proofs.«01_k».proof.Proof.Gen.FrontRefIdeal.Run
public import proofs.«01_k».proof.Proof.Gen.FrontRefIdeal.Read
public import proofs.«01_k».proof.Proof.Gen.CombineIdeal.Value
public import proofs.«01_k».proof.Proof.Gen.CombineRefIdeal.Value
public import Idealize.ShloMosaic.Adequacy
public import Idealize.ShloMosaic.Init

@[expose] public section

noncomputable section

namespace Cert.Proof

open Idealize.ShloMosaic Idealize.SL.Sem

theorem claim : Cert.Claim := ⟨Cert.Shared.Gen.facts, Cert.SharedIdeal.Gen.facts, Cert.SharedRefIdeal.Gen.facts, Cert.Front.Gen.facts, Cert.FrontIdeal.Gen.facts, Cert.FrontRefIdeal.Gen.facts, Cert.Combine.Gen.facts, Cert.CombineIdeal.Gen.facts, Cert.CombineRefIdeal.Gen.facts, Cert.Experts.Gen.facts, Cert.ExpertsIdeal.Gen.facts,
  Cert.Pre_tokens_in_range.Gen.facts, Cert.Pre_rows_in_range.Gen.facts, Cert.Pre_groups_fit.Gen.facts,
  fun m ρ _ => Cert.Shared.Gen.frame m ρ, fun m ρ _ => Cert.SharedIdeal.Gen.frame m ρ, fun m ρ _ => Cert.SharedRefIdeal.Gen.frame m ρ,
  fun m ρ _ => Cert.Front.Gen.frame m ρ, fun m ρ _ => Cert.FrontIdeal.Gen.frame m ρ, fun m ρ _ => Cert.FrontIdeal.Gen.frame m ρ,
  fun m ρ _ => Cert.FrontRefIdeal.Gen.frame m ρ, fun m ρ _ => Cert.FrontRefIdeal.Gen.frame m ρ,
  fun m ρ h => Cert.Combine.Gen.frame m ρ (Cert.Combine.Index.hyps_of_pre m h),
  fun m ρ h => Cert.CombineIdeal.Gen.frame m ρ (Cert.CombineIdeal.Index.hyps_of_pre m h),
  fun m ρ _ => Cert.CombineRefIdeal.Gen.frame m ρ,
  fun m ρ h => Cert.Experts.Hand.frame m ρ (Cert.Experts.Hand.hyps_of_pre m h),
  fun m ρ h => Cert.ExpertsIdeal.Hand.frame m ρ (Cert.ExpertsIdeal.Hand.hyps_of_pre m h),
  trivial, Cert.SharedClaim.algebraic, trivial, Cert.FrontClaim.algebraic, trivial, Cert.CombineClaim.algebraic, trivial⟩

end Cert.Proof

end
